-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x64x64x512 : Shape := ⟨4, ![8, 64, 64, 512]⟩
abbrev S8x128x4 : Shape := ⟨3, ![8, 128, 4]⟩
abbrev S_ : Shape := ⟨0, ![]⟩
abbrev S8x128x1 : Shape := ⟨3, ![8, 128, 1]⟩
abbrev S8x128 : Shape := ⟨2, ![8, 128]⟩

class Facts : Prop where
  bcast_S_S8x64x64x512 : S_.BroadcastsInDim S8x64x64x512 (![] : Fin 0 → Fin S8x64x64x512.rank)
  slices_S8x128x4_S8x128x1_0_0_1 : S8x128x4.Slices ![0, 0, 1] S8x128x1
  shapeCasts_S8x128x1_S8x128 : S8x128x1.ShapeCasts S8x128
  bcast_S_S8x128 : S_.BroadcastsInDim S8x128 (![] : Fin 0 → Fin S8x128.rank)
  slices_S8x128x4_S8x128x1_0_0_3 : S8x128x4.Slices ![0, 0, 3] S8x128x1

variable [Facts]

def fn {F : FTy → Type} [FloatOps F] (main_arg0 : FVec F S8x64x64x512 .f32) (main_arg1 : FVec F S8x128x4 .f32) : IVec S8x64x64x512 1 × IVec S8x128 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_v3 : FVec F S8x128x1 .f32 := (extractStridedSlice S8x128x1 ![0, 0, 1] · slices_S8x128x4_S8x128x1_0_0_1) main_arg1
  let main_v4 : FVec F S8x128 .f32 := shapeCast S8x128 main_v3 shapeCasts_S8x128x1_S8x128
  let main_cst_0 : FVec F S_ .f32 := constant S_ .f32 0x3E800000#32
  let main_v5 : FVec F S8x128 .f32 := broadcastInDim S8x128 ![] bcast_S_S8x128 main_cst_0
  let main_v6 : IVec S8x128 1 := cmpf .oge main_v4 main_v5
  let main_v7 : FVec F S8x128x1 .f32 := (extractStridedSlice S8x128x1 ![0, 0, 3] · slices_S8x128x4_S8x128x1_0_0_3) main_arg1
  let main_v8 : FVec F S8x128 .f32 := shapeCast S8x128 main_v7 shapeCasts_S8x128x1_S8x128
  let main_cst_1 : FVec F S_ .f32 := constant S_ .f32 0x3F440000#32
  let main_v9 : FVec F S8x128 .f32 := broadcastInDim S8x128 ![] bcast_S_S8x128 main_cst_1
  let main_v10 : IVec S8x128 1 := cmpf .olt main_v8 main_v9
  let main_v11 : IVec S8x128 1 := ori main_v6 main_v10
  (main_v2, main_v11)
-- ==== Kernel.lean ====
abbrev S8x64x64x512 : Shape := ⟨4, ![8, 64, 64, 512]⟩
abbrev S8x128x4 : Shape := ⟨3, ![8, 128, 4]⟩
abbrev S8x128x1 : Shape := ⟨3, ![8, 128, 1]⟩
abbrev S8x128 : Shape := ⟨2, ![8, 128]⟩
abbrev S_ : Shape := ⟨0, ![]⟩
abbrev S7 : Shape := ⟨1, ![7]⟩
abbrev S1x1x7 : Shape := ⟨3, ![1, 1, 7]⟩
abbrev S8x128x7 : Shape := ⟨3, ![8, 128, 7]⟩
abbrev S48 : Shape := ⟨1, ![48]⟩
abbrev S8x128x7x1 : Shape := ⟨4, ![8, 128, 7, 1]⟩
abbrev S1x1x1x48 : Shape := ⟨4, ![1, 1, 1, 48]⟩
abbrev S8x128x7x48 : Shape := ⟨4, ![8, 128, 7, 48]⟩
abbrev S7168 : Shape := ⟨1, ![7168]⟩
abbrev S1024 : Shape := ⟨1, ![1024]⟩
abbrev S8x7x7x128x512 : Shape := ⟨5, ![8, 7, 7, 128, 512]⟩
abbrev S8x128x7x7x512 : Shape := ⟨5, ![8, 128, 7, 7, 512]⟩
abbrev S1x64x64x512 : Shape := ⟨4, ![1, 64, 64, 512]⟩
abbrev S1x64x7x48 : Shape := ⟨4, ![1, 64, 7, 48]⟩
abbrev S1x7x7x64x512 : Shape := ⟨5, ![1, 7, 7, 64, 512]⟩
abbrev S64x64x512 : Shape := ⟨3, ![64, 64, 512]⟩
abbrev S1x8x64x512 : Shape := ⟨4, ![1, 8, 64, 512]⟩
abbrev S8x64x512 : Shape := ⟨3, ![8, 64, 512]⟩
abbrev S1x1x7x48 : Shape := ⟨4, ![1, 1, 7, 48]⟩
abbrev S7x48 : Shape := ⟨2, ![7, 48]⟩
abbrev S1 : Shape := ⟨1, ![1]⟩
abbrev S1x48x512 : Shape := ⟨3, ![1, 48, 512]⟩
abbrev S48x512 : Shape := ⟨2, ![48, 512]⟩
abbrev S7x512 : Shape := ⟨2, ![7, 512]⟩
abbrev S1x1x7x1x512 : Shape := ⟨5, ![1, 1, 7, 1, 512]⟩

abbrev nBuf : Space → Nat
  | .hbm => 249
  | .vmem => 7
  | .smem => 4
  | _ => 0

abbrev hbmTy0_0 (i : Nat) : BufTy := match i % 128 with
  | 0 => ⟨S8x64x64x512, .f32⟩
  | 1 => ⟨S8x128x4, .f32⟩
  | 2 => ⟨S8x128x1, .f32⟩
  | 3 => ⟨S8x128, .f32⟩
  | 4 => ⟨S_, .f32⟩
  | 5 => ⟨S8x128, .f32⟩
  | 6 => ⟨S8x128, .f32⟩
  | 7 => ⟨S8x128, .i32⟩
  | 8 => ⟨S_, .i32⟩
  | 9 => ⟨S_, .i32⟩
  | 10 => ⟨S_, .i32⟩
  | 11 => ⟨S8x128, .i32⟩
  | 12 => ⟨S8x128, .i32⟩
  | 13 => ⟨S_, .i32⟩
  | 14 => ⟨S8x128, .i32⟩
  | 15 => ⟨S8x128, .i32⟩
  | 16 => ⟨S8x128x1, .f32⟩
  | 17 => ⟨S8x128, .f32⟩
  | 18 => ⟨S_, .f32⟩
  | 19 => ⟨S8x128, .f32⟩
  | 20 => ⟨S8x128, .f32⟩
  | 21 => ⟨S8x128, .i32⟩
  | 22 => ⟨S_, .i32⟩
  | 23 => ⟨S_, .i32⟩
  | 24 => ⟨S_, .i32⟩
  | 25 => ⟨S8x128, .i32⟩
  | 26 => ⟨S8x128, .i32⟩
  | 27 => ⟨S_, .i32⟩
  | 28 => ⟨S8x128, .i32⟩
  | 29 => ⟨S8x128, .i32⟩
  | 30 => ⟨S8x128x1, .f32⟩
  | 31 => ⟨S8x128, .f32⟩
  | 32 => ⟨S_, .f32⟩
  | 33 => ⟨S8x128, .f32⟩
  | 34 => ⟨S8x128, .f32⟩
  | 35 => ⟨S8x128, .i32⟩
  | 36 => ⟨S_, .i32⟩
  | 37 => ⟨S_, .i32⟩
  | 38 => ⟨S_, .i32⟩
  | 39 => ⟨S8x128, .i32⟩
  | 40 => ⟨S8x128, .i32⟩
  | 41 => ⟨S_, .i32⟩
  | 42 => ⟨S8x128, .i32⟩
  | 43 => ⟨S8x128, .i32⟩
  | 44 => ⟨S8x128x1, .f32⟩
  | 45 => ⟨S8x128, .f32⟩
  | 46 => ⟨S_, .f32⟩
  | 47 => ⟨S8x128, .f32⟩
  | 48 => ⟨S8x128, .f32⟩
  | 49 => ⟨S8x128, .i32⟩
  | 50 => ⟨S_, .i32⟩
  | 51 => ⟨S_, .i32⟩
  | 52 => ⟨S_, .i32⟩
  | 53 => ⟨S8x128, .i32⟩
  | 54 => ⟨S8x128, .i32⟩
  | 55 => ⟨S_, .i32⟩
  | 56 => ⟨S8x128, .i32⟩
  | 57 => ⟨S8x128, .i32⟩
  | 58 => ⟨S8x128, .i32⟩
  | 59 => ⟨S_, .i32⟩
  | 60 => ⟨S8x128, .i32⟩
  | 61 => ⟨S8x128, .i32⟩
  | 62 => ⟨S8x128, .i32⟩
  | 63 => ⟨S_, .i32⟩
  | 64 => ⟨S8x128, .i32⟩
  | 65 => ⟨S8x128, .i32⟩
  | 66 => ⟨S7, .f32⟩
  | 67 => ⟨S_, .f32⟩
  | 68 => ⟨S7, .f32⟩
  | 69 => ⟨S7, .f32⟩
  | 70 => ⟨S1x1x7, .f32⟩
  | 71 => ⟨S8x128, .f32⟩
  | 72 => ⟨S_, .f32⟩
  | 73 => ⟨S8x128, .f32⟩
  | 74 => ⟨S8x128, .f32⟩
  | 75 => ⟨S8x128x1, .f32⟩
  | 76 => ⟨S8x128x7, .f32⟩
  | 77 => ⟨S8x128x7, .f32⟩
  | 78 => ⟨S8x128x7, .f32⟩
  | 79 => ⟨S_, .f32⟩
  | 80 => ⟨S8x128x7, .f32⟩
  | 81 => ⟨S8x128x7, .f32⟩
  | 82 => ⟨S8x128, .f32⟩
  | 83 => ⟨S_, .f32⟩
  | 84 => ⟨S8x128, .f32⟩
  | 85 => ⟨S8x128, .f32⟩
  | 86 => ⟨S8x128x1, .f32⟩
  | 87 => ⟨S_, .f32⟩
  | 88 => ⟨S_, .f32⟩
  | 89 => ⟨S8x128x7, .f32⟩
  | 90 => ⟨S8x128x7, .f32⟩
  | 91 => ⟨S8x128x7, .f32⟩
  | 92 => ⟨S8x128x7, .f32⟩
  | 93 => ⟨S8x128x7, .f32⟩
  | 94 => ⟨S8x128x7, .i32⟩
  | 95 => ⟨S8x128x7, .f32⟩
  | 96 => ⟨S8x128x7, .f32⟩
  | 97 => ⟨S_, .i32⟩
  | 98 => ⟨S8x128, .i32⟩
  | 99 => ⟨S8x128, .i32⟩
  | 100 => ⟨S8x128x1, .i32⟩
  | 101 => ⟨S8x128x1, .i32⟩
  | 102 => ⟨S_, .i32⟩
  | 103 => ⟨S_, .i32⟩
  | 104 => ⟨S8x128x7, .i32⟩
  | 105 => ⟨S8x128x7, .i32⟩
  | 106 => ⟨S8x128x7, .i32⟩
  | 107 => ⟨S8x128x7, .i32⟩
  | 108 => ⟨S8x128x7, .i32⟩
  | 109 => ⟨S8x128x7, .i32⟩
  | 110 => ⟨S_, .i32⟩
  | 111 => ⟨S_, .i32⟩
  | 112 => ⟨S_, .i32⟩
  | 113 => ⟨S8x128x7, .i32⟩
  | 114 => ⟨S8x128x7, .i32⟩
  | 115 => ⟨S_, .i32⟩
  | 116 => ⟨S8x128x7, .i32⟩
  | 117 => ⟨S8x128x7, .i32⟩
  | 118 => ⟨S8x128x1, .i32⟩
  | 119 => ⟨S_, .i32⟩
  | 120 => ⟨S8x128x7, .i32⟩
  | 121 => ⟨S8x128x7, .i32⟩
  | 122 => ⟨S_, .i32⟩
  | 123 => ⟨S_, .i32⟩
  | 124 => ⟨S8x128x7, .i32⟩
  | 125 => ⟨S8x128x7, .i32⟩
  | 126 => ⟨S8x128x7, .i32⟩
  | 127 => ⟨S8x128x7, .i32⟩
  | _ => ⟨S8x64x64x512, .f32⟩

abbrev hbmTy0_1 (i : Nat) : BufTy := match i % 128 with
  | 0 => ⟨S8x128x7, .i32⟩
  | 1 => ⟨S8x128x7, .i32⟩
  | 2 => ⟨S_, .i32⟩
  | 3 => ⟨S_, .i32⟩
  | 4 => ⟨S_, .i32⟩
  | 5 => ⟨S8x128x7, .i32⟩
  | 6 => ⟨S8x128x7, .i32⟩
  | 7 => ⟨S_, .i32⟩
  | 8 => ⟨S8x128x7, .i32⟩
  | 9 => ⟨S8x128x7, .i32⟩
  | 10 => ⟨S7, .f32⟩
  | 11 => ⟨S_, .f32⟩
  | 12 => ⟨S7, .f32⟩
  | 13 => ⟨S7, .f32⟩
  | 14 => ⟨S1x1x7, .f32⟩
  | 15 => ⟨S8x128, .f32⟩
  | 16 => ⟨S_, .f32⟩
  | 17 => ⟨S8x128, .f32⟩
  | 18 => ⟨S8x128, .f32⟩
  | 19 => ⟨S8x128x1, .f32⟩
  | 20 => ⟨S8x128x7, .f32⟩
  | 21 => ⟨S8x128x7, .f32⟩
  | 22 => ⟨S8x128x7, .f32⟩
  | 23 => ⟨S_, .f32⟩
  | 24 => ⟨S8x128x7, .f32⟩
  | 25 => ⟨S8x128x7, .f32⟩
  | 26 => ⟨S8x128, .f32⟩
  | 27 => ⟨S_, .f32⟩
  | 28 => ⟨S8x128, .f32⟩
  | 29 => ⟨S8x128, .f32⟩
  | 30 => ⟨S8x128x1, .f32⟩
  | 31 => ⟨S_, .f32⟩
  | 32 => ⟨S_, .f32⟩
  | 33 => ⟨S8x128x7, .f32⟩
  | 34 => ⟨S8x128x7, .f32⟩
  | 35 => ⟨S8x128x7, .f32⟩
  | 36 => ⟨S8x128x7, .f32⟩
  | 37 => ⟨S8x128x7, .f32⟩
  | 38 => ⟨S8x128x7, .i32⟩
  | 39 => ⟨S8x128x7, .f32⟩
  | 40 => ⟨S8x128x7, .f32⟩
  | 41 => ⟨S_, .i32⟩
  | 42 => ⟨S8x128, .i32⟩
  | 43 => ⟨S8x128, .i32⟩
  | 44 => ⟨S8x128x1, .i32⟩
  | 45 => ⟨S8x128x1, .i32⟩
  | 46 => ⟨S_, .i32⟩
  | 47 => ⟨S_, .i32⟩
  | 48 => ⟨S8x128x7, .i32⟩
  | 49 => ⟨S8x128x7, .i32⟩
  | 50 => ⟨S8x128x7, .i32⟩
  | 51 => ⟨S8x128x7, .i32⟩
  | 52 => ⟨S8x128x7, .i32⟩
  | 53 => ⟨S8x128x7, .i32⟩
  | 54 => ⟨S_, .i32⟩
  | 55 => ⟨S_, .i32⟩
  | 56 => ⟨S_, .i32⟩
  | 57 => ⟨S8x128x7, .i32⟩
  | 58 => ⟨S8x128x7, .i32⟩
  | 59 => ⟨S_, .i32⟩
  | 60 => ⟨S8x128x7, .i32⟩
  | 61 => ⟨S8x128x7, .i32⟩
  | 62 => ⟨S8x128x1, .i32⟩
  | 63 => ⟨S_, .i32⟩
  | 64 => ⟨S8x128x7, .i32⟩
  | 65 => ⟨S8x128x7, .i32⟩
  | 66 => ⟨S_, .i32⟩
  | 67 => ⟨S_, .i32⟩
  | 68 => ⟨S8x128x7, .i32⟩
  | 69 => ⟨S8x128x7, .i32⟩
  | 70 => ⟨S8x128x7, .i32⟩
  | 71 => ⟨S8x128x7, .i32⟩
  | 72 => ⟨S8x128x7, .i32⟩
  | 73 => ⟨S8x128x7, .i32⟩
  | 74 => ⟨S_, .i32⟩
  | 75 => ⟨S_, .i32⟩
  | 76 => ⟨S_, .i32⟩
  | 77 => ⟨S8x128x7, .i32⟩
  | 78 => ⟨S8x128x7, .i32⟩
  | 79 => ⟨S_, .i32⟩
  | 80 => ⟨S8x128x7, .i32⟩
  | 81 => ⟨S8x128x7, .i32⟩
  | 82 => ⟨S_, .i32⟩
  | 83 => ⟨S8x128, .i32⟩
  | 84 => ⟨S8x128, .i32⟩
  | 85 => ⟨S_, .i32⟩
  | 86 => ⟨S8x128, .i32⟩
  | 87 => ⟨S8x128, .i32⟩
  | 88 => ⟨S48, .i32⟩
  | 89 => ⟨S8x128x1, .i32⟩
  | 90 => ⟨S8x128x7, .i32⟩
  | 91 => ⟨S8x128x7, .i32⟩
  | 92 => ⟨S8x128x7x1, .i32⟩
  | 93 => ⟨S8x128x1, .i32⟩
  | 94 => ⟨S8x128x7, .i32⟩
  | 95 => ⟨S8x128x7, .i32⟩
  | 96 => ⟨S8x128x7x1, .i32⟩
  | 97 => ⟨S1x1x1x48, .i32⟩
  | 98 => ⟨S8x128x7x48, .i32⟩
  | 99 => ⟨S8x128x7x48, .i32⟩
  | 100 => ⟨S8x128x7x48, .i1⟩
  | 101 => ⟨S8x128x7x48, .f32⟩
  | 102 => ⟨S1x1x1x48, .i32⟩
  | 103 => ⟨S8x128x7x48, .i32⟩
  | 104 => ⟨S8x128x7x48, .i32⟩
  | 105 => ⟨S8x128x7x48, .i1⟩
  | 106 => ⟨S8x128x7x48, .f32⟩
  | 107 => ⟨S_, .f32⟩
  | 108 => ⟨S8x128x7, .f32⟩
  | 109 => ⟨S8x128x7, .f32⟩
  | 110 => ⟨S8x128x7x1, .f32⟩
  | 111 => ⟨S8x128x7x48, .f32⟩
  | 112 => ⟨S8x128x7x48, .f32⟩
  | 113 => ⟨S8x128x7x1, .f32⟩
  | 114 => ⟨S8x128x7x48, .f32⟩
  | 115 => ⟨S8x128x7x48, .f32⟩
  | 116 => ⟨S8x128x7x48, .f32⟩
  | 117 => ⟨S8x128x7x48, .bf16⟩
  | 118 => ⟨S7168, .f32⟩
  | 119 => ⟨S8x7x7x128x512, .f32⟩
  | 120 => ⟨S8x128x7x7x512, .f32⟩
  | _ => ⟨S8x64x64x512, .f32⟩

abbrev hbmTy (i : Nat) : BufTy := match i / 128 with
  | 0 => hbmTy0_0 i
  | 1 => hbmTy0_1 i
  | _ => ⟨S8x64x64x512, .f32⟩

abbrev bufTy : (tb : Table) → Fin (tcTables nBuf tb) → BufTy
  | .hbm, ⟨i, _⟩ => hbmTy i
  | .local _ .vmem, ⟨0, _⟩ => ⟨S1x64x64x512, .f32⟩
  | .local _ .vmem, ⟨1, _⟩ => ⟨S1x64x64x512, .f32⟩
  | .local _ .vmem, ⟨2, _⟩ => ⟨S1x64x7x48, .bf16⟩
  | .local _ .vmem, ⟨3, _⟩ => ⟨S1x64x7x48, .bf16⟩
  | .local _ .vmem, ⟨4, _⟩ => ⟨S1x7x7x64x512, .f32⟩
  | .local _ .vmem, ⟨5, _⟩ => ⟨S1x7x7x64x512, .f32⟩
  | .local _ .vmem, ⟨6, _⟩ => ⟨S64x64x512, .bf16⟩
  | .local _ .smem, ⟨0, _⟩ => ⟨S7168, .i32⟩
  | .local _ .smem, ⟨1, _⟩ => ⟨S7168, .i32⟩
  | .local _ .smem, ⟨2, _⟩ => ⟨S1024, .i32⟩
  | .local _ .smem, ⟨3, _⟩ => ⟨S7168, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_c : Ref sig .tc := ⟨.hbm, 8, rfl⟩
abbrev main_call0_c_0 : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_2 : Ref sig .tc := ⟨.hbm, 22, rfl⟩
abbrev main_call0_c_3 : Ref sig .tc := ⟨.hbm, 23, rfl⟩
abbrev main_call0_call1_v0 : Ref sig .tc := ⟨.hbm, 24, rfl⟩
abbrev main_call0_call1_v1 : Ref sig .tc := ⟨.hbm, 25, rfl⟩
abbrev main_call0_call1_v2 : Ref sig .tc := ⟨.hbm, 26, rfl⟩
abbrev main_call0_call1_v3 : Ref sig .tc := ⟨.hbm, 27, rfl⟩
abbrev main_call0_call1_v4 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_cst_4 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_c_5 : Ref sig .tc := ⟨.hbm, 36, rfl⟩
abbrev main_call0_c_6 : Ref sig .tc := ⟨.hbm, 37, rfl⟩
abbrev main_call0_call2_v0 : Ref sig .tc := ⟨.hbm, 38, rfl⟩
abbrev main_call0_call2_v1 : Ref sig .tc := ⟨.hbm, 39, rfl⟩
abbrev main_call0_call2_v2 : Ref sig .tc := ⟨.hbm, 40, rfl⟩
abbrev main_call0_call2_v3 : Ref sig .tc := ⟨.hbm, 41, rfl⟩
abbrev main_call0_call2_v4 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_cst_7 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_c_8 : Ref sig .tc := ⟨.hbm, 50, rfl⟩
abbrev main_call0_c_9 : Ref sig .tc := ⟨.hbm, 51, rfl⟩
abbrev main_call0_call3_v0 : Ref sig .tc := ⟨.hbm, 52, rfl⟩
abbrev main_call0_call3_v1 : Ref sig .tc := ⟨.hbm, 53, rfl⟩
abbrev main_call0_call3_v2 : Ref sig .tc := ⟨.hbm, 54, rfl⟩
abbrev main_call0_call3_v3 : Ref sig .tc := ⟨.hbm, 55, rfl⟩
abbrev main_call0_call3_v4 : Ref sig .tc := ⟨.hbm, 56, rfl⟩
abbrev main_call0_v23 : Ref sig .tc := ⟨.hbm, 57, rfl⟩
abbrev main_call0_v24 : Ref sig .tc := ⟨.hbm, 58, rfl⟩
abbrev main_call0_c_10 : Ref sig .tc := ⟨.hbm, 59, rfl⟩
abbrev main_call0_v25 : Ref sig .tc := ⟨.hbm, 60, rfl⟩
abbrev main_call0_v26 : Ref sig .tc := ⟨.hbm, 61, rfl⟩
abbrev main_call0_v27 : Ref sig .tc := ⟨.hbm, 62, rfl⟩
abbrev main_call0_c_11 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_cst_12 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_cst_13 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_v38 : Ref sig .tc := ⟨.hbm, 76, rfl⟩
abbrev main_call0_v39 : Ref sig .tc := ⟨.hbm, 77, rfl⟩
abbrev main_call0_v40 : Ref sig .tc := ⟨.hbm, 78, rfl⟩
abbrev main_call0_cst_14 : Ref sig .tc := ⟨.hbm, 79, rfl⟩
abbrev main_call0_v41 : Ref sig .tc := ⟨.hbm, 80, rfl⟩
abbrev main_call0_v42 : Ref sig .tc := ⟨.hbm, 81, rfl⟩
abbrev main_call0_v43 : Ref sig .tc := ⟨.hbm, 82, rfl⟩
abbrev main_call0_cst_15 : Ref sig .tc := ⟨.hbm, 83, rfl⟩
abbrev main_call0_v44 : Ref sig .tc := ⟨.hbm, 84, rfl⟩
abbrev main_call0_v45 : Ref sig .tc := ⟨.hbm, 85, rfl⟩
abbrev main_call0_v46 : Ref sig .tc := ⟨.hbm, 86, rfl⟩
abbrev main_call0_cst_16 : Ref sig .tc := ⟨.hbm, 87, rfl⟩
abbrev main_call0_call4_v0 : Ref sig .tc := ⟨.hbm, 88, rfl⟩
abbrev main_call0_call4_v1 : Ref sig .tc := ⟨.hbm, 89, rfl⟩
abbrev main_call0_call4_v2 : Ref sig .tc := ⟨.hbm, 90, rfl⟩
abbrev main_call0_call4_v3 : Ref sig .tc := ⟨.hbm, 91, rfl⟩
abbrev main_call0_v47 : Ref sig .tc := ⟨.hbm, 92, rfl⟩
abbrev main_call0_v48 : Ref sig .tc := ⟨.hbm, 93, rfl⟩
abbrev main_call0_v49 : Ref sig .tc := ⟨.hbm, 94, rfl⟩
abbrev main_call0_v50 : Ref sig .tc := ⟨.hbm, 95, rfl⟩
abbrev main_call0_v51 : Ref sig .tc := ⟨.hbm, 96, rfl⟩
abbrev main_call0_c_17 : Ref sig .tc := ⟨.hbm, 97, rfl⟩
abbrev main_call0_v52 : Ref sig .tc := ⟨.hbm, 98, rfl⟩
abbrev main_call0_v53 : Ref sig .tc := ⟨.hbm, 99, rfl⟩
abbrev main_call0_v54 : Ref sig .tc := ⟨.hbm, 100, rfl⟩
abbrev main_call0_v55 : Ref sig .tc := ⟨.hbm, 101, rfl⟩
abbrev main_call0_c_18 : Ref sig .tc := ⟨.hbm, 102, rfl⟩
abbrev main_call0_call5_v0 : Ref sig .tc := ⟨.hbm, 103, rfl⟩
abbrev main_call0_call5_v1 : Ref sig .tc := ⟨.hbm, 104, rfl⟩
abbrev main_call0_call5_v2 : Ref sig .tc := ⟨.hbm, 105, rfl⟩
abbrev main_call0_call5_v3 : Ref sig .tc := ⟨.hbm, 106, rfl⟩
abbrev main_call0_v56 : Ref sig .tc := ⟨.hbm, 107, rfl⟩
abbrev main_call0_v57 : Ref sig .tc := ⟨.hbm, 108, rfl⟩
abbrev main_call0_v58 : Ref sig .tc := ⟨.hbm, 109, rfl⟩
abbrev main_call0_c_19 : Ref sig .tc := ⟨.hbm, 110, rfl⟩
abbrev main_call0_c_20 : Ref sig .tc := ⟨.hbm, 111, rfl⟩
abbrev main_call0_call6_v0 : Ref sig .tc := ⟨.hbm, 112, rfl⟩
abbrev main_call0_call6_v1 : Ref sig .tc := ⟨.hbm, 113, rfl⟩
abbrev main_call0_call6_v2 : Ref sig .tc := ⟨.hbm, 114, rfl⟩
abbrev main_call0_call6_v3 : Ref sig .tc := ⟨.hbm, 115, rfl⟩
abbrev main_call0_call6_v4 : Ref sig .tc := ⟨.hbm, 116, rfl⟩
abbrev main_call0_v59 : Ref sig .tc := ⟨.hbm, 117, rfl⟩
abbrev main_call0_v60 : Ref sig .tc := ⟨.hbm, 118, rfl⟩
abbrev main_call0_c_21 : Ref sig .tc := ⟨.hbm, 119, rfl⟩
abbrev main_call0_v61 : Ref sig .tc := ⟨.hbm, 120, rfl⟩
abbrev main_call0_v62 : Ref sig .tc := ⟨.hbm, 121, rfl⟩
abbrev main_call0_c_22 : Ref sig .tc := ⟨.hbm, 122, rfl⟩
abbrev main_call0_call7_v0 : Ref sig .tc := ⟨.hbm, 123, rfl⟩
abbrev main_call0_call7_v1 : Ref sig .tc := ⟨.hbm, 124, rfl⟩
abbrev main_call0_call7_v2 : Ref sig .tc := ⟨.hbm, 125, rfl⟩
abbrev main_call0_call7_v3 : Ref sig .tc := ⟨.hbm, 126, rfl⟩
abbrev main_call0_v63 : Ref sig .tc := ⟨.hbm, 127, rfl⟩
abbrev main_call0_v64 : Ref sig .tc := ⟨.hbm, 128, rfl⟩
abbrev main_call0_v65 : Ref sig .tc := ⟨.hbm, 129, rfl⟩
abbrev main_call0_c_23 : Ref sig .tc := ⟨.hbm, 130, rfl⟩
abbrev main_call0_c_24 : Ref sig .tc := ⟨.hbm, 131, rfl⟩
abbrev main_call0_call8_v0 : Ref sig .tc := ⟨.hbm, 132, rfl⟩
abbrev main_call0_call8_v1 : Ref sig .tc := ⟨.hbm, 133, rfl⟩
abbrev main_call0_call8_v2 : Ref sig .tc := ⟨.hbm, 134, rfl⟩
abbrev main_call0_call8_v3 : Ref sig .tc := ⟨.hbm, 135, rfl⟩
abbrev main_call0_call8_v4 : Ref sig .tc := ⟨.hbm, 136, rfl⟩
abbrev main_call0_v66 : Ref sig .tc := ⟨.hbm, 137, rfl⟩
abbrev main_call0_v67 : Ref sig .tc := ⟨.hbm, 138, rfl⟩
abbrev main_call0_cst_25 : Ref sig .tc := ⟨.hbm, 139, rfl⟩
abbrev main_call0_v68 : Ref sig .tc := ⟨.hbm, 140, rfl⟩
abbrev main_call0_v69 : Ref sig .tc := ⟨.hbm, 141, rfl⟩
abbrev main_call0_v70 : Ref sig .tc := ⟨.hbm, 142, rfl⟩
abbrev main_call0_v71 : Ref sig .tc := ⟨.hbm, 143, rfl⟩
abbrev main_call0_cst_26 : Ref sig .tc := ⟨.hbm, 144, rfl⟩
abbrev main_call0_v72 : Ref sig .tc := ⟨.hbm, 145, rfl⟩
abbrev main_call0_v73 : Ref sig .tc := ⟨.hbm, 146, rfl⟩
abbrev main_call0_v74 : Ref sig .tc := ⟨.hbm, 147, rfl⟩
abbrev main_call0_v75 : Ref sig .tc := ⟨.hbm, 148, rfl⟩
abbrev main_call0_v76 : Ref sig .tc := ⟨.hbm, 149, rfl⟩
abbrev main_call0_v77 : Ref sig .tc := ⟨.hbm, 150, rfl⟩
abbrev main_call0_cst_27 : Ref sig .tc := ⟨.hbm, 151, rfl⟩
abbrev main_call0_v78 : Ref sig .tc := ⟨.hbm, 152, rfl⟩
abbrev main_call0_v79 : Ref sig .tc := ⟨.hbm, 153, rfl⟩
abbrev main_call0_v80 : Ref sig .tc := ⟨.hbm, 154, rfl⟩
abbrev main_call0_cst_28 : Ref sig .tc := ⟨.hbm, 155, rfl⟩
abbrev main_call0_v81 : Ref sig .tc := ⟨.hbm, 156, rfl⟩
abbrev main_call0_v82 : Ref sig .tc := ⟨.hbm, 157, rfl⟩
abbrev main_call0_v83 : Ref sig .tc := ⟨.hbm, 158, rfl⟩
abbrev main_call0_cst_29 : Ref sig .tc := ⟨.hbm, 159, rfl⟩
abbrev main_call0_call9_v0 : Ref sig .tc := ⟨.hbm, 160, rfl⟩
abbrev main_call0_call9_v1 : Ref sig .tc := ⟨.hbm, 161, rfl⟩
abbrev main_call0_call9_v2 : Ref sig .tc := ⟨.hbm, 162, rfl⟩
abbrev main_call0_call9_v3 : Ref sig .tc := ⟨.hbm, 163, rfl⟩
abbrev main_call0_v84 : Ref sig .tc := ⟨.hbm, 164, rfl⟩
abbrev main_call0_v85 : Ref sig .tc := ⟨.hbm, 165, rfl⟩
abbrev main_call0_v86 : Ref sig .tc := ⟨.hbm, 166, rfl⟩
abbrev main_call0_v87 : Ref sig .tc := ⟨.hbm, 167, rfl⟩
abbrev main_call0_v88 : Ref sig .tc := ⟨.hbm, 168, rfl⟩
abbrev main_call0_c_30 : Ref sig .tc := ⟨.hbm, 169, rfl⟩
abbrev main_call0_v89 : Ref sig .tc := ⟨.hbm, 170, rfl⟩
abbrev main_call0_v90 : Ref sig .tc := ⟨.hbm, 171, rfl⟩
abbrev main_call0_v91 : Ref sig .tc := ⟨.hbm, 172, rfl⟩
abbrev main_call0_v92 : Ref sig .tc := ⟨.hbm, 173, rfl⟩
abbrev main_call0_c_31 : Ref sig .tc := ⟨.hbm, 174, rfl⟩
abbrev main_call0_call10_v0 : Ref sig .tc := ⟨.hbm, 175, rfl⟩
abbrev main_call0_call10_v1 : Ref sig .tc := ⟨.hbm, 176, rfl⟩
abbrev main_call0_call10_v2 : Ref sig .tc := ⟨.hbm, 177, rfl⟩
abbrev main_call0_call10_v3 : Ref sig .tc := ⟨.hbm, 178, rfl⟩
abbrev main_call0_v93 : Ref sig .tc := ⟨.hbm, 179, rfl⟩
abbrev main_call0_v94 : Ref sig .tc := ⟨.hbm, 180, rfl⟩
abbrev main_call0_v95 : Ref sig .tc := ⟨.hbm, 181, rfl⟩
abbrev main_call0_c_32 : Ref sig .tc := ⟨.hbm, 182, rfl⟩
abbrev main_call0_c_33 : Ref sig .tc := ⟨.hbm, 183, rfl⟩
abbrev main_call0_call11_v0 : Ref sig .tc := ⟨.hbm, 184, rfl⟩
abbrev main_call0_call11_v1 : Ref sig .tc := ⟨.hbm, 185, rfl⟩
abbrev main_call0_call11_v2 : Ref sig .tc := ⟨.hbm, 186, rfl⟩
abbrev main_call0_call11_v3 : Ref sig .tc := ⟨.hbm, 187, rfl⟩
abbrev main_call0_call11_v4 : Ref sig .tc := ⟨.hbm, 188, rfl⟩
abbrev main_call0_v96 : Ref sig .tc := ⟨.hbm, 189, rfl⟩
abbrev main_call0_v97 : Ref sig .tc := ⟨.hbm, 190, rfl⟩
abbrev main_call0_c_34 : Ref sig .tc := ⟨.hbm, 191, rfl⟩
abbrev main_call0_v98 : Ref sig .tc := ⟨.hbm, 192, rfl⟩
abbrev main_call0_v99 : Ref sig .tc := ⟨.hbm, 193, rfl⟩
abbrev main_call0_c_35 : Ref sig .tc := ⟨.hbm, 194, rfl⟩
abbrev main_call0_call12_v0 : Ref sig .tc := ⟨.hbm, 195, rfl⟩
abbrev main_call0_call12_v1 : Ref sig .tc := ⟨.hbm, 196, rfl⟩
abbrev main_call0_call12_v2 : Ref sig .tc := ⟨.hbm, 197, rfl⟩
abbrev main_call0_call12_v3 : Ref sig .tc := ⟨.hbm, 198, rfl⟩
abbrev main_call0_v100 : Ref sig .tc := ⟨.hbm, 199, rfl⟩
abbrev main_call0_v101 : Ref sig .tc := ⟨.hbm, 200, rfl⟩
abbrev main_call0_v102 : Ref sig .tc := ⟨.hbm, 201, rfl⟩
abbrev main_call0_c_36 : Ref sig .tc := ⟨.hbm, 202, rfl⟩
abbrev main_call0_c_37 : Ref sig .tc := ⟨.hbm, 203, rfl⟩
abbrev main_call0_call13_v0 : Ref sig .tc := ⟨.hbm, 204, rfl⟩
abbrev main_call0_call13_v1 : Ref sig .tc := ⟨.hbm, 205, rfl⟩
abbrev main_call0_call13_v2 : Ref sig .tc := ⟨.hbm, 206, rfl⟩
abbrev main_call0_call13_v3 : Ref sig .tc := ⟨.hbm, 207, rfl⟩
abbrev main_call0_call13_v4 : Ref sig .tc := ⟨.hbm, 208, rfl⟩
abbrev main_call0_v103 : Ref sig .tc := ⟨.hbm, 209, rfl⟩
abbrev main_call0_c_38 : Ref sig .tc := ⟨.hbm, 210, rfl⟩
abbrev main_call0_v104 : Ref sig .tc := ⟨.hbm, 211, rfl⟩
abbrev main_call0_v105 : Ref sig .tc := ⟨.hbm, 212, rfl⟩
abbrev main_call0_c_39 : Ref sig .tc := ⟨.hbm, 213, rfl⟩
abbrev main_call0_v106 : Ref sig .tc := ⟨.hbm, 214, rfl⟩
abbrev main_call0_v107 : Ref sig .tc := ⟨.hbm, 215, rfl⟩
abbrev main_call0_v108 : Ref sig .tc := ⟨.hbm, 216, rfl⟩
abbrev main_call0_v109 : Ref sig .tc := ⟨.hbm, 217, rfl⟩
abbrev main_call0_v110 : Ref sig .tc := ⟨.hbm, 218, rfl⟩
abbrev main_call0_v111 : Ref sig .tc := ⟨.hbm, 219, rfl⟩
abbrev main_call0_v112 : Ref sig .tc := ⟨.hbm, 220, rfl⟩
abbrev main_call0_v113 : Ref sig .tc := ⟨.hbm, 221, rfl⟩
abbrev main_call0_v114 : Ref sig .tc := ⟨.hbm, 222, rfl⟩
abbrev main_call0_v115 : Ref sig .tc := ⟨.hbm, 223, rfl⟩
abbrev main_call0_v116 : Ref sig .tc := ⟨.hbm, 224, rfl⟩
abbrev main_call0_v117 : Ref sig .tc := ⟨.hbm, 225, rfl⟩
abbrev main_call0_v118 : Ref sig .tc := ⟨.hbm, 226, rfl⟩
abbrev main_call0_v119 : Ref sig .tc := ⟨.hbm, 227, rfl⟩
abbrev main_call0_v120 : Ref sig .tc := ⟨.hbm, 228, rfl⟩
abbrev main_call0_v121 : Ref sig .tc := ⟨.hbm, 229, rfl⟩
abbrev main_call0_v122 : Ref sig .tc := ⟨.hbm, 230, rfl⟩
abbrev main_call0_v123 : Ref sig .tc := ⟨.hbm, 231, rfl⟩
abbrev main_call0_v124 : Ref sig .tc := ⟨.hbm, 232, rfl⟩
abbrev main_call0_v125 : Ref sig .tc := ⟨.hbm, 233, rfl⟩
abbrev main_call0_v126 : Ref sig .tc := ⟨.hbm, 234, rfl⟩
abbrev main_call0_cst_40 : Ref sig .tc := ⟨.hbm, 235, rfl⟩
abbrev main_call0_v127 : Ref sig .tc := ⟨.hbm, 236, rfl⟩
abbrev main_call0_v128 : Ref sig .tc := ⟨.hbm, 237, rfl⟩
abbrev main_call0_v129 : Ref sig .tc := ⟨.hbm, 238, rfl⟩
abbrev main_call0_v130 : Ref sig .tc := ⟨.hbm, 239, rfl⟩
abbrev main_call0_v131 : Ref sig .tc := ⟨.hbm, 240, rfl⟩
abbrev main_call0_v132 : Ref sig .tc := ⟨.hbm, 241, rfl⟩
abbrev main_call0_v133 : Ref sig .tc := ⟨.hbm, 242, rfl⟩
abbrev main_call0_v134 : Ref sig .tc := ⟨.hbm, 243, rfl⟩
abbrev main_call0_v135 : Ref sig .tc := ⟨.hbm, 244, rfl⟩
abbrev main_call0_v136 : Ref sig .tc := ⟨.hbm, 245, rfl⟩
abbrev main_call0_v139 : Ref sig .tc := ⟨.hbm, 246, rfl⟩
abbrev main_call0_v141 : Ref sig .tc := ⟨.hbm, 247, rfl⟩
abbrev main_v0 : Ref sig .tc := ⟨.hbm, 248, rfl⟩
abbrev main_call0_v137 : Ref sig .tc := ⟨.smem, 0, rfl⟩
abbrev main_call0_v138 : Ref sig .tc := ⟨.smem, 1, rfl⟩
abbrev main_call0_v140 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

abbrev pre0 : Pipeline.Prefetch sig := ⟨3, ![main_call0_v137.idx, main_call0_v138.idx, main_call0_v140.idx], fun | 0 => main_call0_v137.names | 1 => main_call0_v138.names | 2 => main_call0_v140.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_4 : BitVec 32 := 0#32
  let v8 : BitVec 32 := Scalar.addi v5 c0_i32_4
  let v9 : Index := Scalar.indexCast v8
  ![v9.toNat]
def k0_mult1 (v10 : BitVec 32) : BitVec 32 :=
  v10

def k0_chk1 (v10 : BitVec 32) : Prop :=
  (16 ∣ (k0_mult1 v10).toNat)
theorem k0_mult1_dvd : ∀ (v10 : BitVec 32) (k0_hw1 : k0_chk1 v10), 16 ∣ (k0_mult1 v10).toNat := fun v10 k0_hw1 => k0_hw1

def k0_off2 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_5 : BitVec 32 := 0#32
  let v12 : BitVec 32 := Scalar.addi v5 c0_i32_5
  let c7_i32 : BitVec 32 := 7#32
  let v13 : BitVec 32 := Scalar.muli v12 c7_i32
  let c0_i32_6 : BitVec 32 := 0#32
  let v14 : BitVec 32 := Scalar.addi v13 c0_i32_6
  let v15 : Index := Scalar.indexCast v14
  ![v15.toNat]
def k0_off3 (v10 : BitVec 32) (v16 : BitVec 32) : Fin 3 → Nat :=
  let v22 : Index := Scalar.indexCast v16
  let v11 : BitVec 32 := v10
  let v23 : Index := Scalar.indexCast v11
  let c0_7 : Index := 0#32
  ![v22.toNat, v23.toNat, 0]

def k0_chk2 (v10 : BitVec 32) (v16 : BitVec 32) : Prop :=
  (∀ a, (k0_off3 v10 v16) a + S1x48x512.size a ≤ S64x64x512.size a)
theorem k0_off3_inb : ∀ (v10 : BitVec 32) (v16 : BitVec 32) (k0_hw2 : k0_chk2 v10 v16), ∀ a, (k0_off3 v10 v16) a + S1x48x512.size a ≤ S64x64x512.size a := fun v10 v16 k0_hw2 => k0_hw2

def k0_off4 (v10 : BitVec 32) (v18 : BitVec 32) : Fin 3 → Nat :=
  let v26 : Index := Scalar.indexCast v18
  let v11 : BitVec 32 := v10
  let v27 : Index := Scalar.indexCast v11
  let c0_8 : Index := 0#32
  ![v26.toNat, v27.toNat, 0]

def k0_chk3 (v10 : BitVec 32) (v18 : BitVec 32) : Prop :=
  (∀ a, (k0_off4 v10 v18) a + S1x48x512.size a ≤ S64x64x512.size a)
theorem k0_off4_inb : ∀ (v10 : BitVec 32) (v18 : BitVec 32) (k0_hw3 : k0_chk3 v10 v18), ∀ a, (k0_off4 v10 v18) a + S1x48x512.size a ≤ S64x64x512.size a := fun v10 v18 k0_hw3 => k0_hw3

def k0_off5 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_14 : BitVec 32 := 0#32
  let v38 : BitVec 32 := Scalar.addi v5 c0_i32_14
  let c7_i32_15 : BitVec 32 := 7#32
  let v39 : BitVec 32 := Scalar.muli v38 c7_i32_15
  let c1_i32 : BitVec 32 := 1#32
  let v40 : BitVec 32 := Scalar.addi v39 c1_i32
  let v41 : Index := Scalar.indexCast v40
  ![v41.toNat]
def k0_off6 (v10 : BitVec 32) (v42 : BitVec 32) : Fin 3 → Nat :=
  let v48 : Index := Scalar.indexCast v42
  let v11 : BitVec 32 := v10
  let v49 : Index := Scalar.indexCast v11
  let c0_16 : Index := 0#32
  ![v48.toNat, v49.toNat, 0]

def k0_chk4 (v10 : BitVec 32) (v42 : BitVec 32) : Prop :=
  (∀ a, (k0_off6 v10 v42) a + S1x48x512.size a ≤ S64x64x512.size a)
theorem k0_off6_inb : ∀ (v10 : BitVec 32) (v42 : BitVec 32) (k0_hw4 : k0_chk4 v10 v42), ∀ a, (k0_off6 v10 v42) a + S1x48x512.size a ≤ S64x64x512.size a := fun v10 v42 k0_hw4 => k0_hw4

def k0_off7 (v10 : BitVec 32) (v44 : BitVec 32) : Fin 3 → Nat :=
  let v52 : Index := Scalar.indexCast v44
  let v11 : BitVec 32 := v10
  let v53 : Index := Scalar.indexCast v11
  let c0_17 : Index := 0#32
  ![v52.toNat, v53.toNat, 0]

def k0_chk5 (v10 : BitVec 32) (v44 : BitVec 32) : Prop :=
  (∀ a, (k0_off7 v10 v44) a + S1x48x512.size a ≤ S64x64x512.size a)
theorem k0_off7_inb : ∀ (v10 : BitVec 32) (v44 : BitVec 32) (k0_hw5 : k0_chk5 v10 v44), ∀ a, (k0_off7 v10 v44) a + S1x48x512.size a ≤ S64x64x512.size a := fun v10 v44 k0_hw5 => k0_hw5

def k0_off8 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_23 : BitVec 32 := 0#32
  let v64 : BitVec 32 := Scalar.addi v5 c0_i32_23
  let c7_i32_24 : BitVec 32 := 7#32
  let v65 : BitVec 32 := Scalar.muli v64 c7_i32_24
  let c2_i32_25 : BitVec 32 := 2#32
  let v66 : BitVec 32 := Scalar.addi v65 c2_i32_25
  let v67 : Index := Scalar.indexCast v66
  ![v67.toNat]
def k0_off9 (v10 : BitVec 32) (v68 : BitVec 32) : Fin 3 → Nat :=
  let v74 : Index := Scalar.indexCast v68
  let v11 : BitVec 32 := v10
  let v75 : Index := Scalar.indexCast v11
  let c0_26 : Index := 0#32
  ![v74.toNat, v75.toNat, 0]

def k0_chk6 (v10 : BitVec 32) (v68 : BitVec 32) : Prop :=
  (∀ a, (k0_off9 v10 v68) a + S1x48x512.size a ≤ S64x64x512.size a)
theorem k0_off9_inb : ∀ (v10 : BitVec 32) (v68 : BitVec 32) (k0_hw6 : k0_chk6 v10 v68), ∀ a, (k0_off9 v10 v68) a + S1x48x512.size a ≤ S64x64x512.size a := fun v10 v68 k0_hw6 => k0_hw6

def k0_off10 (v10 : BitVec 32) (v70 : BitVec 32) : Fin 3 → Nat :=
  let v78 : Index := Scalar.indexCast v70
  let v11 : BitVec 32 := v10
  let v79 : Index := Scalar.indexCast v11
  let c0_27 : Index := 0#32
  ![v78.toNat, v79.toNat, 0]

def k0_chk7 (v10 : BitVec 32) (v70 : BitVec 32) : Prop :=
  (∀ a, (k0_off10 v10 v70) a + S1x48x512.size a ≤ S64x64x512.size a)
theorem k0_off10_inb : ∀ (v10 : BitVec 32) (v70 : BitVec 32) (k0_hw7 : k0_chk7 v10 v70), ∀ a, (k0_off10 v10 v70) a + S1x48x512.size a ≤ S64x64x512.size a := fun v10 v70 k0_hw7 => k0_hw7

def k0_off11 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_33 : BitVec 32 := 0#32
  let v90 : BitVec 32 := Scalar.addi v5 c0_i32_33
  let c7_i32_34 : BitVec 32 := 7#32
  let v91 : BitVec 32 := Scalar.muli v90 c7_i32_34
  let c3_i32 : BitVec 32 := 3#32
  let v92 : BitVec 32 := Scalar.addi v91 c3_i32
  let v93 : Index := Scalar.indexCast v92
  ![v93.toNat]
def k0_off12 (v10 : BitVec 32) (v94 : BitVec 32) : Fin 3 → Nat :=
  let v100 : Index := Scalar.indexCast v94
  let v11 : BitVec 32 := v10
  let v101 : Index := Scalar.indexCast v11
  let c0_35 : Index := 0#32
  ![v100.toNat, v101.toNat, 0]

def k0_chk8 (v10 : BitVec 32) (v94 : BitVec 32) : Prop :=
  (∀ a, (k0_off12 v10 v94) a + S1x48x512.size a ≤ S64x64x512.size a)
theorem k0_off12_inb : ∀ (v10 : BitVec 32) (v94 : BitVec 32) (k0_hw8 : k0_chk8 v10 v94), ∀ a, (k0_off12 v10 v94) a + S1x48x512.size a ≤ S64x64x512.size a := fun v10 v94 k0_hw8 => k0_hw8

def k0_off13 (v10 : BitVec 32) (v96 : BitVec 32) : Fin 3 → Nat :=
  let v104 : Index := Scalar.indexCast v96
  let v11 : BitVec 32 := v10
  let v105 : Index := Scalar.indexCast v11
  let c0_36 : Index := 0#32
  ![v104.toNat, v105.toNat, 0]

def k0_chk9 (v10 : BitVec 32) (v96 : BitVec 32) : Prop :=
  (∀ a, (k0_off13 v10 v96) a + S1x48x512.size a ≤ S64x64x512.size a)
theorem k0_off13_inb : ∀ (v10 : BitVec 32) (v96 : BitVec 32) (k0_hw9 : k0_chk9 v10 v96), ∀ a, (k0_off13 v10 v96) a + S1x48x512.size a ≤ S64x64x512.size a := fun v10 v96 k0_hw9 => k0_hw9

def k0_off14 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_42 : BitVec 32 := 0#32
  let v116 : BitVec 32 := Scalar.addi v5 c0_i32_42
  let c7_i32_43 : BitVec 32 := 7#32
  let v117 : BitVec 32 := Scalar.muli v116 c7_i32_43
  let c4_i32 : BitVec 32 := 4#32
  let v118 : BitVec 32 := Scalar.addi v117 c4_i32
  let v119 : Index := Scalar.indexCast v118
  ![v119.toNat]
def k0_off15 (v10 : BitVec 32) (v120 : BitVec 32) : Fin 3 → Nat :=
  let v126 : Index := Scalar.indexCast v120
  let v11 : BitVec 32 := v10
  let v127 : Index := Scalar.indexCast v11
  let c0_44 : Index := 0#32
  ![v126.toNat, v127.toNat, 0]

def k0_chk10 (v10 : BitVec 32) (v120 : BitVec 32) : Prop :=
  (∀ a, (k0_off15 v10 v120) a + S1x48x512.size a ≤ S64x64x512.size a)
theorem k0_off15_inb : ∀ (v10 : BitVec 32) (v120 : BitVec 32) (k0_hw10 : k0_chk10 v10 v120), ∀ a, (k0_off15 v10 v120) a + S1x48x512.size a ≤ S64x64x512.size a := fun v10 v120 k0_hw10 => k0_hw10

def k0_off16 (v10 : BitVec 32) (v122 : BitVec 32) : Fin 3 → Nat :=
  let v130 : Index := Scalar.indexCast v122
  let v11 : BitVec 32 := v10
  let v131 : Index := Scalar.indexCast v11
  let c0_45 : Index := 0#32
  ![v130.toNat, v131.toNat, 0]

def k0_chk11 (v10 : BitVec 32) (v122 : BitVec 32) : Prop :=
  (∀ a, (k0_off16 v10 v122) a + S1x48x512.size a ≤ S64x64x512.size a)
theorem k0_off16_inb : ∀ (v10 : BitVec 32) (v122 : BitVec 32) (k0_hw11 : k0_chk11 v10 v122), ∀ a, (k0_off16 v10 v122) a + S1x48x512.size a ≤ S64x64x512.size a := fun v10 v122 k0_hw11 => k0_hw11

def k0_off17 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_51 : BitVec 32 := 0#32
  let v142 : BitVec 32 := Scalar.addi v5 c0_i32_51
  let c7_i32_52 : BitVec 32 := 7#32
  let v143 : BitVec 32 := Scalar.muli v142 c7_i32_52
  let c5_i32 : BitVec 32 := 5#32
  let v144 : BitVec 32 := Scalar.addi v143 c5_i32
  let v145 : Index := Scalar.indexCast v144
  ![v145.toNat]
def k0_off18 (v10 : BitVec 32) (v146 : BitVec 32) : Fin 3 → Nat :=
  let v152 : Index := Scalar.indexCast v146
  let v11 : BitVec 32 := v10
  let v153 : Index := Scalar.indexCast v11
  let c0_53 : Index := 0#32
  ![v152.toNat, v153.toNat, 0]

def k0_chk12 (v10 : BitVec 32) (v146 : BitVec 32) : Prop :=
  (∀ a, (k0_off18 v10 v146) a + S1x48x512.size a ≤ S64x64x512.size a)
theorem k0_off18_inb : ∀ (v10 : BitVec 32) (v146 : BitVec 32) (k0_hw12 : k0_chk12 v10 v146), ∀ a, (k0_off18 v10 v146) a + S1x48x512.size a ≤ S64x64x512.size a := fun v10 v146 k0_hw12 => k0_hw12

def k0_off19 (v10 : BitVec 32) (v148 : BitVec 32) : Fin 3 → Nat :=
  let v156 : Index := Scalar.indexCast v148
  let v11 : BitVec 32 := v10
  let v157 : Index := Scalar.indexCast v11
  let c0_54 : Index := 0#32
  ![v156.toNat, v157.toNat, 0]

def k0_chk13 (v10 : BitVec 32) (v148 : BitVec 32) : Prop :=
  (∀ a, (k0_off19 v10 v148) a + S1x48x512.size a ≤ S64x64x512.size a)
theorem k0_off19_inb : ∀ (v10 : BitVec 32) (v148 : BitVec 32) (k0_hw13 : k0_chk13 v10 v148), ∀ a, (k0_off19 v10 v148) a + S1x48x512.size a ≤ S64x64x512.size a := fun v10 v148 k0_hw13 => k0_hw13

def k0_off20 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c0_i32_60 : BitVec 32 := 0#32
  let v168 : BitVec 32 := Scalar.addi v5 c0_i32_60
  let c7_i32_61 : BitVec 32 := 7#32
  let v169 : BitVec 32 := Scalar.muli v168 c7_i32_61
  let c6_i32 : BitVec 32 := 6#32
  let v170 : BitVec 32 := Scalar.addi v169 c6_i32
  let v171 : Index := Scalar.indexCast v170
  ![v171.toNat]
def k0_off21 (v10 : BitVec 32) (v172 : BitVec 32) : Fin 3 → Nat :=
  let v178 : Index := Scalar.indexCast v172
  let v11 : BitVec 32 := v10
  let v179 : Index := Scalar.indexCast v11
  let c0_62 : Index := 0#32
  ![v178.toNat, v179.toNat, 0]

def k0_chk14 (v10 : BitVec 32) (v172 : BitVec 32) : Prop :=
  (∀ a, (k0_off21 v10 v172) a + S1x48x512.size a ≤ S64x64x512.size a)
theorem k0_off21_inb : ∀ (v10 : BitVec 32) (v172 : BitVec 32) (k0_hw14 : k0_chk14 v10 v172), ∀ a, (k0_off21 v10 v172) a + S1x48x512.size a ≤ S64x64x512.size a := fun v10 v172 k0_hw14 => k0_hw14

def k0_off22 (v10 : BitVec 32) (v174 : BitVec 32) : Fin 3 → Nat :=
  let v182 : Index := Scalar.indexCast v174
  let v11 : BitVec 32 := v10
  let v183 : Index := Scalar.indexCast v11
  let c0_63 : Index := 0#32
  ![v182.toNat, v183.toNat, 0]

def k0_chk15 (v10 : BitVec 32) (v174 : BitVec 32) : Prop :=
  (∀ a, (k0_off22 v10 v174) a + S1x48x512.size a ≤ S64x64x512.size a)
theorem k0_off22_inb : ∀ (v10 : BitVec 32) (v174 : BitVec 32) (k0_hw15 : k0_chk15 v10 v174), ∀ a, (k0_off22 v10 v174) a + S1x48x512.size a ≤ S64x64x512.size a := fun v10 v174 k0_hw15 => k0_hw15

def k0_off23 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_73 : BitVec 32 := 1#32
  let v196 : BitVec 32 := Scalar.addi v5 c1_i32_73
  let v197 : Index := Scalar.indexCast v196
  ![v197.toNat]
def k0_mult2 (v198 : BitVec 32) : BitVec 32 :=
  v198

def k0_chk16 (v198 : BitVec 32) : Prop :=
  (16 ∣ (k0_mult2 v198).toNat)
theorem k0_mult2_dvd : ∀ (v198 : BitVec 32) (k0_hw16 : k0_chk16 v198), 16 ∣ (k0_mult2 v198).toNat := fun v198 k0_hw16 => k0_hw16

def k0_off24 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_74 : BitVec 32 := 1#32
  let v200 : BitVec 32 := Scalar.addi v5 c1_i32_74
  let c7_i32_75 : BitVec 32 := 7#32
  let v201 : BitVec 32 := Scalar.muli v200 c7_i32_75
  let c0_i32_76 : BitVec 32 := 0#32
  let v202 : BitVec 32 := Scalar.addi v201 c0_i32_76
  let v203 : Index := Scalar.indexCast v202
  ![v203.toNat]
def k0_off25 (v198 : BitVec 32) (v204 : BitVec 32) : Fin 3 → Nat :=
  let v210 : Index := Scalar.indexCast v204
  let v199 : BitVec 32 := v198
  let v211 : Index := Scalar.indexCast v199
  let c0_77 : Index := 0#32
  ![v210.toNat, v211.toNat, 0]

def k0_chk17 (v198 : BitVec 32) (v204 : BitVec 32) : Prop :=
  (∀ a, (k0_off25 v198 v204) a + S1x48x512.size a ≤ S64x64x512.size a)
theorem k0_off25_inb : ∀ (v198 : BitVec 32) (v204 : BitVec 32) (k0_hw17 : k0_chk17 v198 v204), ∀ a, (k0_off25 v198 v204) a + S1x48x512.size a ≤ S64x64x512.size a := fun v198 v204 k0_hw17 => k0_hw17

def k0_off26 (v198 : BitVec 32) (v206 : BitVec 32) : Fin 3 → Nat :=
  let v214 : Index := Scalar.indexCast v206
  let v199 : BitVec 32 := v198
  let v215 : Index := Scalar.indexCast v199
  let c0_78 : Index := 0#32
  ![v214.toNat, v215.toNat, 0]

def k0_chk18 (v198 : BitVec 32) (v206 : BitVec 32) : Prop :=
  (∀ a, (k0_off26 v198 v206) a + S1x48x512.size a ≤ S64x64x512.size a)
theorem k0_off26_inb : ∀ (v198 : BitVec 32) (v206 : BitVec 32) (k0_hw18 : k0_chk18 v198 v206), ∀ a, (k0_off26 v198 v206) a + S1x48x512.size a ≤ S64x64x512.size a := fun v198 v206 k0_hw18 => k0_hw18

def k0_off27 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_85 : BitVec 32 := 1#32
  let v226 : BitVec 32 := Scalar.addi v5 c1_i32_85
  let c7_i32_86 : BitVec 32 := 7#32
  let v227 : BitVec 32 := Scalar.muli v226 c7_i32_86
  let c1_i32_87 : BitVec 32 := 1#32
  let v228 : BitVec 32 := Scalar.addi v227 c1_i32_87
  let v229 : Index := Scalar.indexCast v228
  ![v229.toNat]
def k0_off28 (v198 : BitVec 32) (v230 : BitVec 32) : Fin 3 → Nat :=
  let v236 : Index := Scalar.indexCast v230
  let v199 : BitVec 32 := v198
  let v237 : Index := Scalar.indexCast v199
  let c0_88 : Index := 0#32
  ![v236.toNat, v237.toNat, 0]

def k0_chk19 (v198 : BitVec 32) (v230 : BitVec 32) : Prop :=
  (∀ a, (k0_off28 v198 v230) a + S1x48x512.size a ≤ S64x64x512.size a)
theorem k0_off28_inb : ∀ (v198 : BitVec 32) (v230 : BitVec 32) (k0_hw19 : k0_chk19 v198 v230), ∀ a, (k0_off28 v198 v230) a + S1x48x512.size a ≤ S64x64x512.size a := fun v198 v230 k0_hw19 => k0_hw19

def k0_off29 (v198 : BitVec 32) (v232 : BitVec 32) : Fin 3 → Nat :=
  let v240 : Index := Scalar.indexCast v232
  let v199 : BitVec 32 := v198
  let v241 : Index := Scalar.indexCast v199
  let c0_89 : Index := 0#32
  ![v240.toNat, v241.toNat, 0]

def k0_chk20 (v198 : BitVec 32) (v232 : BitVec 32) : Prop :=
  (∀ a, (k0_off29 v198 v232) a + S1x48x512.size a ≤ S64x64x512.size a)
theorem k0_off29_inb : ∀ (v198 : BitVec 32) (v232 : BitVec 32) (k0_hw20 : k0_chk20 v198 v232), ∀ a, (k0_off29 v198 v232) a + S1x48x512.size a ≤ S64x64x512.size a := fun v198 v232 k0_hw20 => k0_hw20

def k0_off30 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_96 : BitVec 32 := 1#32
  let v252 : BitVec 32 := Scalar.addi v5 c1_i32_96
  let c7_i32_97 : BitVec 32 := 7#32
  let v253 : BitVec 32 := Scalar.muli v252 c7_i32_97
  let c2_i32_98 : BitVec 32 := 2#32
  let v254 : BitVec 32 := Scalar.addi v253 c2_i32_98
  let v255 : Index := Scalar.indexCast v254
  ![v255.toNat]
def k0_off31 (v198 : BitVec 32) (v256 : BitVec 32) : Fin 3 → Nat :=
  let v262 : Index := Scalar.indexCast v256
  let v199 : BitVec 32 := v198
  let v263 : Index := Scalar.indexCast v199
  let c0_99 : Index := 0#32
  ![v262.toNat, v263.toNat, 0]

def k0_chk21 (v198 : BitVec 32) (v256 : BitVec 32) : Prop :=
  (∀ a, (k0_off31 v198 v256) a + S1x48x512.size a ≤ S64x64x512.size a)
theorem k0_off31_inb : ∀ (v198 : BitVec 32) (v256 : BitVec 32) (k0_hw21 : k0_chk21 v198 v256), ∀ a, (k0_off31 v198 v256) a + S1x48x512.size a ≤ S64x64x512.size a := fun v198 v256 k0_hw21 => k0_hw21

def k0_off32 (v198 : BitVec 32) (v258 : BitVec 32) : Fin 3 → Nat :=
  let v266 : Index := Scalar.indexCast v258
  let v199 : BitVec 32 := v198
  let v267 : Index := Scalar.indexCast v199
  let c0_100 : Index := 0#32
  ![v266.toNat, v267.toNat, 0]

def k0_chk22 (v198 : BitVec 32) (v258 : BitVec 32) : Prop :=
  (∀ a, (k0_off32 v198 v258) a + S1x48x512.size a ≤ S64x64x512.size a)
theorem k0_off32_inb : ∀ (v198 : BitVec 32) (v258 : BitVec 32) (k0_hw22 : k0_chk22 v198 v258), ∀ a, (k0_off32 v198 v258) a + S1x48x512.size a ≤ S64x64x512.size a := fun v198 v258 k0_hw22 => k0_hw22

def k0_off33 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_107 : BitVec 32 := 1#32
  let v278 : BitVec 32 := Scalar.addi v5 c1_i32_107
  let c7_i32_108 : BitVec 32 := 7#32
  let v279 : BitVec 32 := Scalar.muli v278 c7_i32_108
  let c3_i32_109 : BitVec 32 := 3#32
  let v280 : BitVec 32 := Scalar.addi v279 c3_i32_109
  let v281 : Index := Scalar.indexCast v280
  ![v281.toNat]
def k0_off34 (v198 : BitVec 32) (v282 : BitVec 32) : Fin 3 → Nat :=
  let v288 : Index := Scalar.indexCast v282
  let v199 : BitVec 32 := v198
  let v289 : Index := Scalar.indexCast v199
  let c0_110 : Index := 0#32
  ![v288.toNat, v289.toNat, 0]

def k0_chk23 (v198 : BitVec 32) (v282 : BitVec 32) : Prop :=
  (∀ a, (k0_off34 v198 v282) a + S1x48x512.size a ≤ S64x64x512.size a)
theorem k0_off34_inb : ∀ (v198 : BitVec 32) (v282 : BitVec 32) (k0_hw23 : k0_chk23 v198 v282), ∀ a, (k0_off34 v198 v282) a + S1x48x512.size a ≤ S64x64x512.size a := fun v198 v282 k0_hw23 => k0_hw23

def k0_off35 (v198 : BitVec 32) (v284 : BitVec 32) : Fin 3 → Nat :=
  let v292 : Index := Scalar.indexCast v284
  let v199 : BitVec 32 := v198
  let v293 : Index := Scalar.indexCast v199
  let c0_111 : Index := 0#32
  ![v292.toNat, v293.toNat, 0]

def k0_chk24 (v198 : BitVec 32) (v284 : BitVec 32) : Prop :=
  (∀ a, (k0_off35 v198 v284) a + S1x48x512.size a ≤ S64x64x512.size a)
theorem k0_off35_inb : ∀ (v198 : BitVec 32) (v284 : BitVec 32) (k0_hw24 : k0_chk24 v198 v284), ∀ a, (k0_off35 v198 v284) a + S1x48x512.size a ≤ S64x64x512.size a := fun v198 v284 k0_hw24 => k0_hw24

def k0_off36 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_118 : BitVec 32 := 1#32
  let v304 : BitVec 32 := Scalar.addi v5 c1_i32_118
  let c7_i32_119 : BitVec 32 := 7#32
  let v305 : BitVec 32 := Scalar.muli v304 c7_i32_119
  let c4_i32_120 : BitVec 32 := 4#32
  let v306 : BitVec 32 := Scalar.addi v305 c4_i32_120
  let v307 : Index := Scalar.indexCast v306
  ![v307.toNat]
def k0_off37 (v198 : BitVec 32) (v308 : BitVec 32) : Fin 3 → Nat :=
  let v314 : Index := Scalar.indexCast v308
  let v199 : BitVec 32 := v198
  let v315 : Index := Scalar.indexCast v199
  let c0_121 : Index := 0#32
  ![v314.toNat, v315.toNat, 0]

def k0_chk25 (v198 : BitVec 32) (v308 : BitVec 32) : Prop :=
  (∀ a, (k0_off37 v198 v308) a + S1x48x512.size a ≤ S64x64x512.size a)
theorem k0_off37_inb : ∀ (v198 : BitVec 32) (v308 : BitVec 32) (k0_hw25 : k0_chk25 v198 v308), ∀ a, (k0_off37 v198 v308) a + S1x48x512.size a ≤ S64x64x512.size a := fun v198 v308 k0_hw25 => k0_hw25

def k0_off38 (v198 : BitVec 32) (v310 : BitVec 32) : Fin 3 → Nat :=
  let v318 : Index := Scalar.indexCast v310
  let v199 : BitVec 32 := v198
  let v319 : Index := Scalar.indexCast v199
  let c0_122 : Index := 0#32
  ![v318.toNat, v319.toNat, 0]

def k0_chk26 (v198 : BitVec 32) (v310 : BitVec 32) : Prop :=
  (∀ a, (k0_off38 v198 v310) a + S1x48x512.size a ≤ S64x64x512.size a)
theorem k0_off38_inb : ∀ (v198 : BitVec 32) (v310 : BitVec 32) (k0_hw26 : k0_chk26 v198 v310), ∀ a, (k0_off38 v198 v310) a + S1x48x512.size a ≤ S64x64x512.size a := fun v198 v310 k0_hw26 => k0_hw26

def k0_off39 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_129 : BitVec 32 := 1#32
  let v330 : BitVec 32 := Scalar.addi v5 c1_i32_129
  let c7_i32_130 : BitVec 32 := 7#32
  let v331 : BitVec 32 := Scalar.muli v330 c7_i32_130
  let c5_i32_131 : BitVec 32 := 5#32
  let v332 : BitVec 32 := Scalar.addi v331 c5_i32_131
  let v333 : Index := Scalar.indexCast v332
  ![v333.toNat]
def k0_off40 (v198 : BitVec 32) (v334 : BitVec 32) : Fin 3 → Nat :=
  let v340 : Index := Scalar.indexCast v334
  let v199 : BitVec 32 := v198
  let v341 : Index := Scalar.indexCast v199
  let c0_132 : Index := 0#32
  ![v340.toNat, v341.toNat, 0]

def k0_chk27 (v198 : BitVec 32) (v334 : BitVec 32) : Prop :=
  (∀ a, (k0_off40 v198 v334) a + S1x48x512.size a ≤ S64x64x512.size a)
theorem k0_off40_inb : ∀ (v198 : BitVec 32) (v334 : BitVec 32) (k0_hw27 : k0_chk27 v198 v334), ∀ a, (k0_off40 v198 v334) a + S1x48x512.size a ≤ S64x64x512.size a := fun v198 v334 k0_hw27 => k0_hw27

def k0_off41 (v198 : BitVec 32) (v336 : BitVec 32) : Fin 3 → Nat :=
  let v344 : Index := Scalar.indexCast v336
  let v199 : BitVec 32 := v198
  let v345 : Index := Scalar.indexCast v199
  let c0_133 : Index := 0#32
  ![v344.toNat, v345.toNat, 0]

def k0_chk28 (v198 : BitVec 32) (v336 : BitVec 32) : Prop :=
  (∀ a, (k0_off41 v198 v336) a + S1x48x512.size a ≤ S64x64x512.size a)
theorem k0_off41_inb : ∀ (v198 : BitVec 32) (v336 : BitVec 32) (k0_hw28 : k0_chk28 v198 v336), ∀ a, (k0_off41 v198 v336) a + S1x48x512.size a ≤ S64x64x512.size a := fun v198 v336 k0_hw28 => k0_hw28

def k0_off42 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c1_i32_140 : BitVec 32 := 1#32
  let v356 : BitVec 32 := Scalar.addi v5 c1_i32_140
  let c7_i32_141 : BitVec 32 := 7#32
  let v357 : BitVec 32 := Scalar.muli v356 c7_i32_141
  let c6_i32_142 : BitVec 32 := 6#32
  let v358 : BitVec 32 := Scalar.addi v357 c6_i32_142
  let v359 : Index := Scalar.indexCast v358
  ![v359.toNat]
def k0_off43 (v198 : BitVec 32) (v360 : BitVec 32) : Fin 3 → Nat :=
  let v366 : Index := Scalar.indexCast v360
  let v199 : BitVec 32 := v198
  let v367 : Index := Scalar.indexCast v199
  let c0_143 : Index := 0#32
  ![v366.toNat, v367.toNat, 0]

def k0_chk29 (v198 : BitVec 32) (v360 : BitVec 32) : Prop :=
  (∀ a, (k0_off43 v198 v360) a + S1x48x512.size a ≤ S64x64x512.size a)
theorem k0_off43_inb : ∀ (v198 : BitVec 32) (v360 : BitVec 32) (k0_hw29 : k0_chk29 v198 v360), ∀ a, (k0_off43 v198 v360) a + S1x48x512.size a ≤ S64x64x512.size a := fun v198 v360 k0_hw29 => k0_hw29

def k0_off44 (v198 : BitVec 32) (v362 : BitVec 32) : Fin 3 → Nat :=
  let v370 : Index := Scalar.indexCast v362
  let v199 : BitVec 32 := v198
  let v371 : Index := Scalar.indexCast v199
  let c0_144 : Index := 0#32
  ![v370.toNat, v371.toNat, 0]

def k0_chk30 (v198 : BitVec 32) (v362 : BitVec 32) : Prop :=
  (∀ a, (k0_off44 v198 v362) a + S1x48x512.size a ≤ S64x64x512.size a)
theorem k0_off44_inb : ∀ (v198 : BitVec 32) (v362 : BitVec 32) (k0_hw30 : k0_chk30 v198 v362), ∀ a, (k0_off44 v198 v362) a + S1x48x512.size a ≤ S64x64x512.size a := fun v198 v362 k0_hw30 => k0_hw30

def k0_off45 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_155 : BitVec 32 := 2#32
  let v384 : BitVec 32 := Scalar.addi v5 c2_i32_155
  let v385 : Index := Scalar.indexCast v384
  ![v385.toNat]
def k0_mult3 (v386 : BitVec 32) : BitVec 32 :=
  v386

def k0_chk31 (v386 : BitVec 32) : Prop :=
  (16 ∣ (k0_mult3 v386).toNat)
theorem k0_mult3_dvd : ∀ (v386 : BitVec 32) (k0_hw31 : k0_chk31 v386), 16 ∣ (k0_mult3 v386).toNat := fun v386 k0_hw31 => k0_hw31

def k0_off46 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_156 : BitVec 32 := 2#32
  let v388 : BitVec 32 := Scalar.addi v5 c2_i32_156
  let c7_i32_157 : BitVec 32 := 7#32
  let v389 : BitVec 32 := Scalar.muli v388 c7_i32_157
  let c0_i32_158 : BitVec 32 := 0#32
  let v390 : BitVec 32 := Scalar.addi v389 c0_i32_158
  let v391 : Index := Scalar.indexCast v390
  ![v391.toNat]
def k0_off47 (v386 : BitVec 32) (v392 : BitVec 32) : Fin 3 → Nat :=
  let v398 : Index := Scalar.indexCast v392
  let v387 : BitVec 32 := v386
  let v399 : Index := Scalar.indexCast v387
  let c0_159 : Index := 0#32
  ![v398.toNat, v399.toNat, 0]

def k0_chk32 (v386 : BitVec 32) (v392 : BitVec 32) : Prop :=
  (∀ a, (k0_off47 v386 v392) a + S1x48x512.size a ≤ S64x64x512.size a)
theorem k0_off47_inb : ∀ (v386 : BitVec 32) (v392 : BitVec 32) (k0_hw32 : k0_chk32 v386 v392), ∀ a, (k0_off47 v386 v392) a + S1x48x512.size a ≤ S64x64x512.size a := fun v386 v392 k0_hw32 => k0_hw32

def k0_off48 (v386 : BitVec 32) (v394 : BitVec 32) : Fin 3 → Nat :=
  let v402 : Index := Scalar.indexCast v394
  let v387 : BitVec 32 := v386
  let v403 : Index := Scalar.indexCast v387
  let c0_160 : Index := 0#32
  ![v402.toNat, v403.toNat, 0]

def k0_chk33 (v386 : BitVec 32) (v394 : BitVec 32) : Prop :=
  (∀ a, (k0_off48 v386 v394) a + S1x48x512.size a ≤ S64x64x512.size a)
theorem k0_off48_inb : ∀ (v386 : BitVec 32) (v394 : BitVec 32) (k0_hw33 : k0_chk33 v386 v394), ∀ a, (k0_off48 v386 v394) a + S1x48x512.size a ≤ S64x64x512.size a := fun v386 v394 k0_hw33 => k0_hw33

def k0_off49 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_167 : BitVec 32 := 2#32
  let v414 : BitVec 32 := Scalar.addi v5 c2_i32_167
  let c7_i32_168 : BitVec 32 := 7#32
  let v415 : BitVec 32 := Scalar.muli v414 c7_i32_168
  let c1_i32_169 : BitVec 32 := 1#32
  let v416 : BitVec 32 := Scalar.addi v415 c1_i32_169
  let v417 : Index := Scalar.indexCast v416
  ![v417.toNat]
def k0_off50 (v386 : BitVec 32) (v418 : BitVec 32) : Fin 3 → Nat :=
  let v424 : Index := Scalar.indexCast v418
  let v387 : BitVec 32 := v386
  let v425 : Index := Scalar.indexCast v387
  let c0_170 : Index := 0#32
  ![v424.toNat, v425.toNat, 0]

def k0_chk34 (v386 : BitVec 32) (v418 : BitVec 32) : Prop :=
  (∀ a, (k0_off50 v386 v418) a + S1x48x512.size a ≤ S64x64x512.size a)
theorem k0_off50_inb : ∀ (v386 : BitVec 32) (v418 : BitVec 32) (k0_hw34 : k0_chk34 v386 v418), ∀ a, (k0_off50 v386 v418) a + S1x48x512.size a ≤ S64x64x512.size a := fun v386 v418 k0_hw34 => k0_hw34

def k0_off51 (v386 : BitVec 32) (v420 : BitVec 32) : Fin 3 → Nat :=
  let v428 : Index := Scalar.indexCast v420
  let v387 : BitVec 32 := v386
  let v429 : Index := Scalar.indexCast v387
  let c0_171 : Index := 0#32
  ![v428.toNat, v429.toNat, 0]

def k0_chk35 (v386 : BitVec 32) (v420 : BitVec 32) : Prop :=
  (∀ a, (k0_off51 v386 v420) a + S1x48x512.size a ≤ S64x64x512.size a)
theorem k0_off51_inb : ∀ (v386 : BitVec 32) (v420 : BitVec 32) (k0_hw35 : k0_chk35 v386 v420), ∀ a, (k0_off51 v386 v420) a + S1x48x512.size a ≤ S64x64x512.size a := fun v386 v420 k0_hw35 => k0_hw35

def k0_off52 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_178 : BitVec 32 := 2#32
  let v440 : BitVec 32 := Scalar.addi v5 c2_i32_178
  let c7_i32_179 : BitVec 32 := 7#32
  let v441 : BitVec 32 := Scalar.muli v440 c7_i32_179
  let c2_i32_180 : BitVec 32 := 2#32
  let v442 : BitVec 32 := Scalar.addi v441 c2_i32_180
  let v443 : Index := Scalar.indexCast v442
  ![v443.toNat]
def k0_off53 (v386 : BitVec 32) (v444 : BitVec 32) : Fin 3 → Nat :=
  let v450 : Index := Scalar.indexCast v444
  let v387 : BitVec 32 := v386
  let v451 : Index := Scalar.indexCast v387
  let c0_181 : Index := 0#32
  ![v450.toNat, v451.toNat, 0]

def k0_chk36 (v386 : BitVec 32) (v444 : BitVec 32) : Prop :=
  (∀ a, (k0_off53 v386 v444) a + S1x48x512.size a ≤ S64x64x512.size a)
theorem k0_off53_inb : ∀ (v386 : BitVec 32) (v444 : BitVec 32) (k0_hw36 : k0_chk36 v386 v444), ∀ a, (k0_off53 v386 v444) a + S1x48x512.size a ≤ S64x64x512.size a := fun v386 v444 k0_hw36 => k0_hw36

def k0_off54 (v386 : BitVec 32) (v446 : BitVec 32) : Fin 3 → Nat :=
  let v454 : Index := Scalar.indexCast v446
  let v387 : BitVec 32 := v386
  let v455 : Index := Scalar.indexCast v387
  let c0_182 : Index := 0#32
  ![v454.toNat, v455.toNat, 0]

def k0_chk37 (v386 : BitVec 32) (v446 : BitVec 32) : Prop :=
  (∀ a, (k0_off54 v386 v446) a + S1x48x512.size a ≤ S64x64x512.size a)
theorem k0_off54_inb : ∀ (v386 : BitVec 32) (v446 : BitVec 32) (k0_hw37 : k0_chk37 v386 v446), ∀ a, (k0_off54 v386 v446) a + S1x48x512.size a ≤ S64x64x512.size a := fun v386 v446 k0_hw37 => k0_hw37

def k0_off55 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_189 : BitVec 32 := 2#32
  let v466 : BitVec 32 := Scalar.addi v5 c2_i32_189
  let c7_i32_190 : BitVec 32 := 7#32
  let v467 : BitVec 32 := Scalar.muli v466 c7_i32_190
  let c3_i32_191 : BitVec 32 := 3#32
  let v468 : BitVec 32 := Scalar.addi v467 c3_i32_191
  let v469 : Index := Scalar.indexCast v468
  ![v469.toNat]
def k0_off56 (v386 : BitVec 32) (v470 : BitVec 32) : Fin 3 → Nat :=
  let v476 : Index := Scalar.indexCast v470
  let v387 : BitVec 32 := v386
  let v477 : Index := Scalar.indexCast v387
  let c0_192 : Index := 0#32
  ![v476.toNat, v477.toNat, 0]

def k0_chk38 (v386 : BitVec 32) (v470 : BitVec 32) : Prop :=
  (∀ a, (k0_off56 v386 v470) a + S1x48x512.size a ≤ S64x64x512.size a)
theorem k0_off56_inb : ∀ (v386 : BitVec 32) (v470 : BitVec 32) (k0_hw38 : k0_chk38 v386 v470), ∀ a, (k0_off56 v386 v470) a + S1x48x512.size a ≤ S64x64x512.size a := fun v386 v470 k0_hw38 => k0_hw38

def k0_off57 (v386 : BitVec 32) (v472 : BitVec 32) : Fin 3 → Nat :=
  let v480 : Index := Scalar.indexCast v472
  let v387 : BitVec 32 := v386
  let v481 : Index := Scalar.indexCast v387
  let c0_193 : Index := 0#32
  ![v480.toNat, v481.toNat, 0]

def k0_chk39 (v386 : BitVec 32) (v472 : BitVec 32) : Prop :=
  (∀ a, (k0_off57 v386 v472) a + S1x48x512.size a ≤ S64x64x512.size a)
theorem k0_off57_inb : ∀ (v386 : BitVec 32) (v472 : BitVec 32) (k0_hw39 : k0_chk39 v386 v472), ∀ a, (k0_off57 v386 v472) a + S1x48x512.size a ≤ S64x64x512.size a := fun v386 v472 k0_hw39 => k0_hw39

def k0_off58 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_200 : BitVec 32 := 2#32
  let v492 : BitVec 32 := Scalar.addi v5 c2_i32_200
  let c7_i32_201 : BitVec 32 := 7#32
  let v493 : BitVec 32 := Scalar.muli v492 c7_i32_201
  let c4_i32_202 : BitVec 32 := 4#32
  let v494 : BitVec 32 := Scalar.addi v493 c4_i32_202
  let v495 : Index := Scalar.indexCast v494
  ![v495.toNat]
def k0_off59 (v386 : BitVec 32) (v496 : BitVec 32) : Fin 3 → Nat :=
  let v502 : Index := Scalar.indexCast v496
  let v387 : BitVec 32 := v386
  let v503 : Index := Scalar.indexCast v387
  let c0_203 : Index := 0#32
  ![v502.toNat, v503.toNat, 0]

def k0_chk40 (v386 : BitVec 32) (v496 : BitVec 32) : Prop :=
  (∀ a, (k0_off59 v386 v496) a + S1x48x512.size a ≤ S64x64x512.size a)
theorem k0_off59_inb : ∀ (v386 : BitVec 32) (v496 : BitVec 32) (k0_hw40 : k0_chk40 v386 v496), ∀ a, (k0_off59 v386 v496) a + S1x48x512.size a ≤ S64x64x512.size a := fun v386 v496 k0_hw40 => k0_hw40

def k0_off60 (v386 : BitVec 32) (v498 : BitVec 32) : Fin 3 → Nat :=
  let v506 : Index := Scalar.indexCast v498
  let v387 : BitVec 32 := v386
  let v507 : Index := Scalar.indexCast v387
  let c0_204 : Index := 0#32
  ![v506.toNat, v507.toNat, 0]

def k0_chk41 (v386 : BitVec 32) (v498 : BitVec 32) : Prop :=
  (∀ a, (k0_off60 v386 v498) a + S1x48x512.size a ≤ S64x64x512.size a)
theorem k0_off60_inb : ∀ (v386 : BitVec 32) (v498 : BitVec 32) (k0_hw41 : k0_chk41 v386 v498), ∀ a, (k0_off60 v386 v498) a + S1x48x512.size a ≤ S64x64x512.size a := fun v386 v498 k0_hw41 => k0_hw41

def k0_off61 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_211 : BitVec 32 := 2#32
  let v518 : BitVec 32 := Scalar.addi v5 c2_i32_211
  let c7_i32_212 : BitVec 32 := 7#32
  let v519 : BitVec 32 := Scalar.muli v518 c7_i32_212
  let c5_i32_213 : BitVec 32 := 5#32
  let v520 : BitVec 32 := Scalar.addi v519 c5_i32_213
  let v521 : Index := Scalar.indexCast v520
  ![v521.toNat]
def k0_off62 (v386 : BitVec 32) (v522 : BitVec 32) : Fin 3 → Nat :=
  let v528 : Index := Scalar.indexCast v522
  let v387 : BitVec 32 := v386
  let v529 : Index := Scalar.indexCast v387
  let c0_214 : Index := 0#32
  ![v528.toNat, v529.toNat, 0]

def k0_chk42 (v386 : BitVec 32) (v522 : BitVec 32) : Prop :=
  (∀ a, (k0_off62 v386 v522) a + S1x48x512.size a ≤ S64x64x512.size a)
theorem k0_off62_inb : ∀ (v386 : BitVec 32) (v522 : BitVec 32) (k0_hw42 : k0_chk42 v386 v522), ∀ a, (k0_off62 v386 v522) a + S1x48x512.size a ≤ S64x64x512.size a := fun v386 v522 k0_hw42 => k0_hw42

def k0_off63 (v386 : BitVec 32) (v524 : BitVec 32) : Fin 3 → Nat :=
  let v532 : Index := Scalar.indexCast v524
  let v387 : BitVec 32 := v386
  let v533 : Index := Scalar.indexCast v387
  let c0_215 : Index := 0#32
  ![v532.toNat, v533.toNat, 0]

def k0_chk43 (v386 : BitVec 32) (v524 : BitVec 32) : Prop :=
  (∀ a, (k0_off63 v386 v524) a + S1x48x512.size a ≤ S64x64x512.size a)
theorem k0_off63_inb : ∀ (v386 : BitVec 32) (v524 : BitVec 32) (k0_hw43 : k0_chk43 v386 v524), ∀ a, (k0_off63 v386 v524) a + S1x48x512.size a ≤ S64x64x512.size a := fun v386 v524 k0_hw43 => k0_hw43

def k0_off64 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c2_i32_222 : BitVec 32 := 2#32
  let v544 : BitVec 32 := Scalar.addi v5 c2_i32_222
  let c7_i32_223 : BitVec 32 := 7#32
  let v545 : BitVec 32 := Scalar.muli v544 c7_i32_223
  let c6_i32_224 : BitVec 32 := 6#32
  let v546 : BitVec 32 := Scalar.addi v545 c6_i32_224
  let v547 : Index := Scalar.indexCast v546
  ![v547.toNat]
def k0_off65 (v386 : BitVec 32) (v548 : BitVec 32) : Fin 3 → Nat :=
  let v554 : Index := Scalar.indexCast v548
  let v387 : BitVec 32 := v386
  let v555 : Index := Scalar.indexCast v387
  let c0_225 : Index := 0#32
  ![v554.toNat, v555.toNat, 0]

def k0_chk44 (v386 : BitVec 32) (v548 : BitVec 32) : Prop :=
  (∀ a, (k0_off65 v386 v548) a + S1x48x512.size a ≤ S64x64x512.size a)
theorem k0_off65_inb : ∀ (v386 : BitVec 32) (v548 : BitVec 32) (k0_hw44 : k0_chk44 v386 v548), ∀ a, (k0_off65 v386 v548) a + S1x48x512.size a ≤ S64x64x512.size a := fun v386 v548 k0_hw44 => k0_hw44

def k0_off66 (v386 : BitVec 32) (v550 : BitVec 32) : Fin 3 → Nat :=
  let v558 : Index := Scalar.indexCast v550
  let v387 : BitVec 32 := v386
  let v559 : Index := Scalar.indexCast v387
  let c0_226 : Index := 0#32
  ![v558.toNat, v559.toNat, 0]

def k0_chk45 (v386 : BitVec 32) (v550 : BitVec 32) : Prop :=
  (∀ a, (k0_off66 v386 v550) a + S1x48x512.size a ≤ S64x64x512.size a)
theorem k0_off66_inb : ∀ (v386 : BitVec 32) (v550 : BitVec 32) (k0_hw45 : k0_chk45 v386 v550), ∀ a, (k0_off66 v386 v550) a + S1x48x512.size a ≤ S64x64x512.size a := fun v386 v550 k0_hw45 => k0_hw45

def k0_off67 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_237 : BitVec 32 := 3#32
  let v572 : BitVec 32 := Scalar.addi v5 c3_i32_237
  let v573 : Index := Scalar.indexCast v572
  ![v573.toNat]
def k0_mult4 (v574 : BitVec 32) : BitVec 32 :=
  v574

def k0_chk46 (v574 : BitVec 32) : Prop :=
  (16 ∣ (k0_mult4 v574).toNat)
theorem k0_mult4_dvd : ∀ (v574 : BitVec 32) (k0_hw46 : k0_chk46 v574), 16 ∣ (k0_mult4 v574).toNat := fun v574 k0_hw46 => k0_hw46

def k0_off68 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_238 : BitVec 32 := 3#32
  let v576 : BitVec 32 := Scalar.addi v5 c3_i32_238
  let c7_i32_239 : BitVec 32 := 7#32
  let v577 : BitVec 32 := Scalar.muli v576 c7_i32_239
  let c0_i32_240 : BitVec 32 := 0#32
  let v578 : BitVec 32 := Scalar.addi v577 c0_i32_240
  let v579 : Index := Scalar.indexCast v578
  ![v579.toNat]
def k0_off69 (v574 : BitVec 32) (v580 : BitVec 32) : Fin 3 → Nat :=
  let v586 : Index := Scalar.indexCast v580
  let v575 : BitVec 32 := v574
  let v587 : Index := Scalar.indexCast v575
  let c0_241 : Index := 0#32
  ![v586.toNat, v587.toNat, 0]

def k0_chk47 (v574 : BitVec 32) (v580 : BitVec 32) : Prop :=
  (∀ a, (k0_off69 v574 v580) a + S1x48x512.size a ≤ S64x64x512.size a)
theorem k0_off69_inb : ∀ (v574 : BitVec 32) (v580 : BitVec 32) (k0_hw47 : k0_chk47 v574 v580), ∀ a, (k0_off69 v574 v580) a + S1x48x512.size a ≤ S64x64x512.size a := fun v574 v580 k0_hw47 => k0_hw47

def k0_off70 (v574 : BitVec 32) (v582 : BitVec 32) : Fin 3 → Nat :=
  let v590 : Index := Scalar.indexCast v582
  let v575 : BitVec 32 := v574
  let v591 : Index := Scalar.indexCast v575
  let c0_242 : Index := 0#32
  ![v590.toNat, v591.toNat, 0]

def k0_chk48 (v574 : BitVec 32) (v582 : BitVec 32) : Prop :=
  (∀ a, (k0_off70 v574 v582) a + S1x48x512.size a ≤ S64x64x512.size a)
theorem k0_off70_inb : ∀ (v574 : BitVec 32) (v582 : BitVec 32) (k0_hw48 : k0_chk48 v574 v582), ∀ a, (k0_off70 v574 v582) a + S1x48x512.size a ≤ S64x64x512.size a := fun v574 v582 k0_hw48 => k0_hw48

def k0_off71 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_249 : BitVec 32 := 3#32
  let v602 : BitVec 32 := Scalar.addi v5 c3_i32_249
  let c7_i32_250 : BitVec 32 := 7#32
  let v603 : BitVec 32 := Scalar.muli v602 c7_i32_250
  let c1_i32_251 : BitVec 32 := 1#32
  let v604 : BitVec 32 := Scalar.addi v603 c1_i32_251
  let v605 : Index := Scalar.indexCast v604
  ![v605.toNat]
def k0_off72 (v574 : BitVec 32) (v606 : BitVec 32) : Fin 3 → Nat :=
  let v612 : Index := Scalar.indexCast v606
  let v575 : BitVec 32 := v574
  let v613 : Index := Scalar.indexCast v575
  let c0_252 : Index := 0#32
  ![v612.toNat, v613.toNat, 0]

def k0_chk49 (v574 : BitVec 32) (v606 : BitVec 32) : Prop :=
  (∀ a, (k0_off72 v574 v606) a + S1x48x512.size a ≤ S64x64x512.size a)
theorem k0_off72_inb : ∀ (v574 : BitVec 32) (v606 : BitVec 32) (k0_hw49 : k0_chk49 v574 v606), ∀ a, (k0_off72 v574 v606) a + S1x48x512.size a ≤ S64x64x512.size a := fun v574 v606 k0_hw49 => k0_hw49

def k0_off73 (v574 : BitVec 32) (v608 : BitVec 32) : Fin 3 → Nat :=
  let v616 : Index := Scalar.indexCast v608
  let v575 : BitVec 32 := v574
  let v617 : Index := Scalar.indexCast v575
  let c0_253 : Index := 0#32
  ![v616.toNat, v617.toNat, 0]

def k0_chk50 (v574 : BitVec 32) (v608 : BitVec 32) : Prop :=
  (∀ a, (k0_off73 v574 v608) a + S1x48x512.size a ≤ S64x64x512.size a)
theorem k0_off73_inb : ∀ (v574 : BitVec 32) (v608 : BitVec 32) (k0_hw50 : k0_chk50 v574 v608), ∀ a, (k0_off73 v574 v608) a + S1x48x512.size a ≤ S64x64x512.size a := fun v574 v608 k0_hw50 => k0_hw50

def k0_off74 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_260 : BitVec 32 := 3#32
  let v628 : BitVec 32 := Scalar.addi v5 c3_i32_260
  let c7_i32_261 : BitVec 32 := 7#32
  let v629 : BitVec 32 := Scalar.muli v628 c7_i32_261
  let c2_i32_262 : BitVec 32 := 2#32
  let v630 : BitVec 32 := Scalar.addi v629 c2_i32_262
  let v631 : Index := Scalar.indexCast v630
  ![v631.toNat]
def k0_off75 (v574 : BitVec 32) (v632 : BitVec 32) : Fin 3 → Nat :=
  let v638 : Index := Scalar.indexCast v632
  let v575 : BitVec 32 := v574
  let v639 : Index := Scalar.indexCast v575
  let c0_263 : Index := 0#32
  ![v638.toNat, v639.toNat, 0]

def k0_chk51 (v574 : BitVec 32) (v632 : BitVec 32) : Prop :=
  (∀ a, (k0_off75 v574 v632) a + S1x48x512.size a ≤ S64x64x512.size a)
theorem k0_off75_inb : ∀ (v574 : BitVec 32) (v632 : BitVec 32) (k0_hw51 : k0_chk51 v574 v632), ∀ a, (k0_off75 v574 v632) a + S1x48x512.size a ≤ S64x64x512.size a := fun v574 v632 k0_hw51 => k0_hw51

def k0_off76 (v574 : BitVec 32) (v634 : BitVec 32) : Fin 3 → Nat :=
  let v642 : Index := Scalar.indexCast v634
  let v575 : BitVec 32 := v574
  let v643 : Index := Scalar.indexCast v575
  let c0_264 : Index := 0#32
  ![v642.toNat, v643.toNat, 0]

def k0_chk52 (v574 : BitVec 32) (v634 : BitVec 32) : Prop :=
  (∀ a, (k0_off76 v574 v634) a + S1x48x512.size a ≤ S64x64x512.size a)
theorem k0_off76_inb : ∀ (v574 : BitVec 32) (v634 : BitVec 32) (k0_hw52 : k0_chk52 v574 v634), ∀ a, (k0_off76 v574 v634) a + S1x48x512.size a ≤ S64x64x512.size a := fun v574 v634 k0_hw52 => k0_hw52

def k0_off77 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_271 : BitVec 32 := 3#32
  let v654 : BitVec 32 := Scalar.addi v5 c3_i32_271
  let c7_i32_272 : BitVec 32 := 7#32
  let v655 : BitVec 32 := Scalar.muli v654 c7_i32_272
  let c3_i32_273 : BitVec 32 := 3#32
  let v656 : BitVec 32 := Scalar.addi v655 c3_i32_273
  let v657 : Index := Scalar.indexCast v656
  ![v657.toNat]
def k0_off78 (v574 : BitVec 32) (v658 : BitVec 32) : Fin 3 → Nat :=
  let v664 : Index := Scalar.indexCast v658
  let v575 : BitVec 32 := v574
  let v665 : Index := Scalar.indexCast v575
  let c0_274 : Index := 0#32
  ![v664.toNat, v665.toNat, 0]

def k0_chk53 (v574 : BitVec 32) (v658 : BitVec 32) : Prop :=
  (∀ a, (k0_off78 v574 v658) a + S1x48x512.size a ≤ S64x64x512.size a)
theorem k0_off78_inb : ∀ (v574 : BitVec 32) (v658 : BitVec 32) (k0_hw53 : k0_chk53 v574 v658), ∀ a, (k0_off78 v574 v658) a + S1x48x512.size a ≤ S64x64x512.size a := fun v574 v658 k0_hw53 => k0_hw53

def k0_off79 (v574 : BitVec 32) (v660 : BitVec 32) : Fin 3 → Nat :=
  let v668 : Index := Scalar.indexCast v660
  let v575 : BitVec 32 := v574
  let v669 : Index := Scalar.indexCast v575
  let c0_275 : Index := 0#32
  ![v668.toNat, v669.toNat, 0]

def k0_chk54 (v574 : BitVec 32) (v660 : BitVec 32) : Prop :=
  (∀ a, (k0_off79 v574 v660) a + S1x48x512.size a ≤ S64x64x512.size a)
theorem k0_off79_inb : ∀ (v574 : BitVec 32) (v660 : BitVec 32) (k0_hw54 : k0_chk54 v574 v660), ∀ a, (k0_off79 v574 v660) a + S1x48x512.size a ≤ S64x64x512.size a := fun v574 v660 k0_hw54 => k0_hw54

def k0_off80 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_282 : BitVec 32 := 3#32
  let v680 : BitVec 32 := Scalar.addi v5 c3_i32_282
  let c7_i32_283 : BitVec 32 := 7#32
  let v681 : BitVec 32 := Scalar.muli v680 c7_i32_283
  let c4_i32_284 : BitVec 32 := 4#32
  let v682 : BitVec 32 := Scalar.addi v681 c4_i32_284
  let v683 : Index := Scalar.indexCast v682
  ![v683.toNat]
def k0_off81 (v574 : BitVec 32) (v684 : BitVec 32) : Fin 3 → Nat :=
  let v690 : Index := Scalar.indexCast v684
  let v575 : BitVec 32 := v574
  let v691 : Index := Scalar.indexCast v575
  let c0_285 : Index := 0#32
  ![v690.toNat, v691.toNat, 0]

def k0_chk55 (v574 : BitVec 32) (v684 : BitVec 32) : Prop :=
  (∀ a, (k0_off81 v574 v684) a + S1x48x512.size a ≤ S64x64x512.size a)
theorem k0_off81_inb : ∀ (v574 : BitVec 32) (v684 : BitVec 32) (k0_hw55 : k0_chk55 v574 v684), ∀ a, (k0_off81 v574 v684) a + S1x48x512.size a ≤ S64x64x512.size a := fun v574 v684 k0_hw55 => k0_hw55

def k0_off82 (v574 : BitVec 32) (v686 : BitVec 32) : Fin 3 → Nat :=
  let v694 : Index := Scalar.indexCast v686
  let v575 : BitVec 32 := v574
  let v695 : Index := Scalar.indexCast v575
  let c0_286 : Index := 0#32
  ![v694.toNat, v695.toNat, 0]

def k0_chk56 (v574 : BitVec 32) (v686 : BitVec 32) : Prop :=
  (∀ a, (k0_off82 v574 v686) a + S1x48x512.size a ≤ S64x64x512.size a)
theorem k0_off82_inb : ∀ (v574 : BitVec 32) (v686 : BitVec 32) (k0_hw56 : k0_chk56 v574 v686), ∀ a, (k0_off82 v574 v686) a + S1x48x512.size a ≤ S64x64x512.size a := fun v574 v686 k0_hw56 => k0_hw56

def k0_off83 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_293 : BitVec 32 := 3#32
  let v706 : BitVec 32 := Scalar.addi v5 c3_i32_293
  let c7_i32_294 : BitVec 32 := 7#32
  let v707 : BitVec 32 := Scalar.muli v706 c7_i32_294
  let c5_i32_295 : BitVec 32 := 5#32
  let v708 : BitVec 32 := Scalar.addi v707 c5_i32_295
  let v709 : Index := Scalar.indexCast v708
  ![v709.toNat]
def k0_off84 (v574 : BitVec 32) (v710 : BitVec 32) : Fin 3 → Nat :=
  let v716 : Index := Scalar.indexCast v710
  let v575 : BitVec 32 := v574
  let v717 : Index := Scalar.indexCast v575
  let c0_296 : Index := 0#32
  ![v716.toNat, v717.toNat, 0]

def k0_chk57 (v574 : BitVec 32) (v710 : BitVec 32) : Prop :=
  (∀ a, (k0_off84 v574 v710) a + S1x48x512.size a ≤ S64x64x512.size a)
theorem k0_off84_inb : ∀ (v574 : BitVec 32) (v710 : BitVec 32) (k0_hw57 : k0_chk57 v574 v710), ∀ a, (k0_off84 v574 v710) a + S1x48x512.size a ≤ S64x64x512.size a := fun v574 v710 k0_hw57 => k0_hw57

def k0_off85 (v574 : BitVec 32) (v712 : BitVec 32) : Fin 3 → Nat :=
  let v720 : Index := Scalar.indexCast v712
  let v575 : BitVec 32 := v574
  let v721 : Index := Scalar.indexCast v575
  let c0_297 : Index := 0#32
  ![v720.toNat, v721.toNat, 0]

def k0_chk58 (v574 : BitVec 32) (v712 : BitVec 32) : Prop :=
  (∀ a, (k0_off85 v574 v712) a + S1x48x512.size a ≤ S64x64x512.size a)
theorem k0_off85_inb : ∀ (v574 : BitVec 32) (v712 : BitVec 32) (k0_hw58 : k0_chk58 v574 v712), ∀ a, (k0_off85 v574 v712) a + S1x48x512.size a ≤ S64x64x512.size a := fun v574 v712 k0_hw58 => k0_hw58

def k0_off86 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c3_i32_304 : BitVec 32 := 3#32
  let v732 : BitVec 32 := Scalar.addi v5 c3_i32_304
  let c7_i32_305 : BitVec 32 := 7#32
  let v733 : BitVec 32 := Scalar.muli v732 c7_i32_305
  let c6_i32_306 : BitVec 32 := 6#32
  let v734 : BitVec 32 := Scalar.addi v733 c6_i32_306
  let v735 : Index := Scalar.indexCast v734
  ![v735.toNat]
def k0_off87 (v574 : BitVec 32) (v736 : BitVec 32) : Fin 3 → Nat :=
  let v742 : Index := Scalar.indexCast v736
  let v575 : BitVec 32 := v574
  let v743 : Index := Scalar.indexCast v575
  let c0_307 : Index := 0#32
  ![v742.toNat, v743.toNat, 0]

def k0_chk59 (v574 : BitVec 32) (v736 : BitVec 32) : Prop :=
  (∀ a, (k0_off87 v574 v736) a + S1x48x512.size a ≤ S64x64x512.size a)
theorem k0_off87_inb : ∀ (v574 : BitVec 32) (v736 : BitVec 32) (k0_hw59 : k0_chk59 v574 v736), ∀ a, (k0_off87 v574 v736) a + S1x48x512.size a ≤ S64x64x512.size a := fun v574 v736 k0_hw59 => k0_hw59

def k0_off88 (v574 : BitVec 32) (v738 : BitVec 32) : Fin 3 → Nat :=
  let v746 : Index := Scalar.indexCast v738
  let v575 : BitVec 32 := v574
  let v747 : Index := Scalar.indexCast v575
  let c0_308 : Index := 0#32
  ![v746.toNat, v747.toNat, 0]

def k0_chk60 (v574 : BitVec 32) (v738 : BitVec 32) : Prop :=
  (∀ a, (k0_off88 v574 v738) a + S1x48x512.size a ≤ S64x64x512.size a)
theorem k0_off88_inb : ∀ (v574 : BitVec 32) (v738 : BitVec 32) (k0_hw60 : k0_chk60 v574 v738), ∀ a, (k0_off88 v574 v738) a + S1x48x512.size a ≤ S64x64x512.size a := fun v574 v738 k0_hw60 => k0_hw60

def k0_off89 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_319 : BitVec 32 := 4#32
  let v760 : BitVec 32 := Scalar.addi v5 c4_i32_319
  let v761 : Index := Scalar.indexCast v760
  ![v761.toNat]
def k0_mult5 (v762 : BitVec 32) : BitVec 32 :=
  v762

def k0_chk61 (v762 : BitVec 32) : Prop :=
  (16 ∣ (k0_mult5 v762).toNat)
theorem k0_mult5_dvd : ∀ (v762 : BitVec 32) (k0_hw61 : k0_chk61 v762), 16 ∣ (k0_mult5 v762).toNat := fun v762 k0_hw61 => k0_hw61

def k0_off90 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_320 : BitVec 32 := 4#32
  let v764 : BitVec 32 := Scalar.addi v5 c4_i32_320
  let c7_i32_321 : BitVec 32 := 7#32
  let v765 : BitVec 32 := Scalar.muli v764 c7_i32_321
  let c0_i32_322 : BitVec 32 := 0#32
  let v766 : BitVec 32 := Scalar.addi v765 c0_i32_322
  let v767 : Index := Scalar.indexCast v766
  ![v767.toNat]
def k0_off91 (v762 : BitVec 32) (v768 : BitVec 32) : Fin 3 → Nat :=
  let v774 : Index := Scalar.indexCast v768
  let v763 : BitVec 32 := v762
  let v775 : Index := Scalar.indexCast v763
  let c0_323 : Index := 0#32
  ![v774.toNat, v775.toNat, 0]

def k0_chk62 (v762 : BitVec 32) (v768 : BitVec 32) : Prop :=
  (∀ a, (k0_off91 v762 v768) a + S1x48x512.size a ≤ S64x64x512.size a)
theorem k0_off91_inb : ∀ (v762 : BitVec 32) (v768 : BitVec 32) (k0_hw62 : k0_chk62 v762 v768), ∀ a, (k0_off91 v762 v768) a + S1x48x512.size a ≤ S64x64x512.size a := fun v762 v768 k0_hw62 => k0_hw62

def k0_off92 (v762 : BitVec 32) (v770 : BitVec 32) : Fin 3 → Nat :=
  let v778 : Index := Scalar.indexCast v770
  let v763 : BitVec 32 := v762
  let v779 : Index := Scalar.indexCast v763
  let c0_324 : Index := 0#32
  ![v778.toNat, v779.toNat, 0]

def k0_chk63 (v762 : BitVec 32) (v770 : BitVec 32) : Prop :=
  (∀ a, (k0_off92 v762 v770) a + S1x48x512.size a ≤ S64x64x512.size a)
theorem k0_off92_inb : ∀ (v762 : BitVec 32) (v770 : BitVec 32) (k0_hw63 : k0_chk63 v762 v770), ∀ a, (k0_off92 v762 v770) a + S1x48x512.size a ≤ S64x64x512.size a := fun v762 v770 k0_hw63 => k0_hw63

def k0_off93 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_331 : BitVec 32 := 4#32
  let v790 : BitVec 32 := Scalar.addi v5 c4_i32_331
  let c7_i32_332 : BitVec 32 := 7#32
  let v791 : BitVec 32 := Scalar.muli v790 c7_i32_332
  let c1_i32_333 : BitVec 32 := 1#32
  let v792 : BitVec 32 := Scalar.addi v791 c1_i32_333
  let v793 : Index := Scalar.indexCast v792
  ![v793.toNat]
def k0_off94 (v762 : BitVec 32) (v794 : BitVec 32) : Fin 3 → Nat :=
  let v800 : Index := Scalar.indexCast v794
  let v763 : BitVec 32 := v762
  let v801 : Index := Scalar.indexCast v763
  let c0_334 : Index := 0#32
  ![v800.toNat, v801.toNat, 0]

def k0_chk64 (v762 : BitVec 32) (v794 : BitVec 32) : Prop :=
  (∀ a, (k0_off94 v762 v794) a + S1x48x512.size a ≤ S64x64x512.size a)
theorem k0_off94_inb : ∀ (v762 : BitVec 32) (v794 : BitVec 32) (k0_hw64 : k0_chk64 v762 v794), ∀ a, (k0_off94 v762 v794) a + S1x48x512.size a ≤ S64x64x512.size a := fun v762 v794 k0_hw64 => k0_hw64

def k0_off95 (v762 : BitVec 32) (v796 : BitVec 32) : Fin 3 → Nat :=
  let v804 : Index := Scalar.indexCast v796
  let v763 : BitVec 32 := v762
  let v805 : Index := Scalar.indexCast v763
  let c0_335 : Index := 0#32
  ![v804.toNat, v805.toNat, 0]

def k0_chk65 (v762 : BitVec 32) (v796 : BitVec 32) : Prop :=
  (∀ a, (k0_off95 v762 v796) a + S1x48x512.size a ≤ S64x64x512.size a)
theorem k0_off95_inb : ∀ (v762 : BitVec 32) (v796 : BitVec 32) (k0_hw65 : k0_chk65 v762 v796), ∀ a, (k0_off95 v762 v796) a + S1x48x512.size a ≤ S64x64x512.size a := fun v762 v796 k0_hw65 => k0_hw65

def k0_off96 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_342 : BitVec 32 := 4#32
  let v816 : BitVec 32 := Scalar.addi v5 c4_i32_342
  let c7_i32_343 : BitVec 32 := 7#32
  let v817 : BitVec 32 := Scalar.muli v816 c7_i32_343
  let c2_i32_344 : BitVec 32 := 2#32
  let v818 : BitVec 32 := Scalar.addi v817 c2_i32_344
  let v819 : Index := Scalar.indexCast v818
  ![v819.toNat]
def k0_off97 (v762 : BitVec 32) (v820 : BitVec 32) : Fin 3 → Nat :=
  let v826 : Index := Scalar.indexCast v820
  let v763 : BitVec 32 := v762
  let v827 : Index := Scalar.indexCast v763
  let c0_345 : Index := 0#32
  ![v826.toNat, v827.toNat, 0]

def k0_chk66 (v762 : BitVec 32) (v820 : BitVec 32) : Prop :=
  (∀ a, (k0_off97 v762 v820) a + S1x48x512.size a ≤ S64x64x512.size a)
theorem k0_off97_inb : ∀ (v762 : BitVec 32) (v820 : BitVec 32) (k0_hw66 : k0_chk66 v762 v820), ∀ a, (k0_off97 v762 v820) a + S1x48x512.size a ≤ S64x64x512.size a := fun v762 v820 k0_hw66 => k0_hw66

def k0_off98 (v762 : BitVec 32) (v822 : BitVec 32) : Fin 3 → Nat :=
  let v830 : Index := Scalar.indexCast v822
  let v763 : BitVec 32 := v762
  let v831 : Index := Scalar.indexCast v763
  let c0_346 : Index := 0#32
  ![v830.toNat, v831.toNat, 0]

def k0_chk67 (v762 : BitVec 32) (v822 : BitVec 32) : Prop :=
  (∀ a, (k0_off98 v762 v822) a + S1x48x512.size a ≤ S64x64x512.size a)
theorem k0_off98_inb : ∀ (v762 : BitVec 32) (v822 : BitVec 32) (k0_hw67 : k0_chk67 v762 v822), ∀ a, (k0_off98 v762 v822) a + S1x48x512.size a ≤ S64x64x512.size a := fun v762 v822 k0_hw67 => k0_hw67

def k0_off99 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_353 : BitVec 32 := 4#32
  let v842 : BitVec 32 := Scalar.addi v5 c4_i32_353
  let c7_i32_354 : BitVec 32 := 7#32
  let v843 : BitVec 32 := Scalar.muli v842 c7_i32_354
  let c3_i32_355 : BitVec 32 := 3#32
  let v844 : BitVec 32 := Scalar.addi v843 c3_i32_355
  let v845 : Index := Scalar.indexCast v844
  ![v845.toNat]
def k0_off100 (v762 : BitVec 32) (v846 : BitVec 32) : Fin 3 → Nat :=
  let v852 : Index := Scalar.indexCast v846
  let v763 : BitVec 32 := v762
  let v853 : Index := Scalar.indexCast v763
  let c0_356 : Index := 0#32
  ![v852.toNat, v853.toNat, 0]

def k0_chk68 (v762 : BitVec 32) (v846 : BitVec 32) : Prop :=
  (∀ a, (k0_off100 v762 v846) a + S1x48x512.size a ≤ S64x64x512.size a)
theorem k0_off100_inb : ∀ (v762 : BitVec 32) (v846 : BitVec 32) (k0_hw68 : k0_chk68 v762 v846), ∀ a, (k0_off100 v762 v846) a + S1x48x512.size a ≤ S64x64x512.size a := fun v762 v846 k0_hw68 => k0_hw68

def k0_off101 (v762 : BitVec 32) (v848 : BitVec 32) : Fin 3 → Nat :=
  let v856 : Index := Scalar.indexCast v848
  let v763 : BitVec 32 := v762
  let v857 : Index := Scalar.indexCast v763
  let c0_357 : Index := 0#32
  ![v856.toNat, v857.toNat, 0]

def k0_chk69 (v762 : BitVec 32) (v848 : BitVec 32) : Prop :=
  (∀ a, (k0_off101 v762 v848) a + S1x48x512.size a ≤ S64x64x512.size a)
theorem k0_off101_inb : ∀ (v762 : BitVec 32) (v848 : BitVec 32) (k0_hw69 : k0_chk69 v762 v848), ∀ a, (k0_off101 v762 v848) a + S1x48x512.size a ≤ S64x64x512.size a := fun v762 v848 k0_hw69 => k0_hw69

def k0_off102 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_364 : BitVec 32 := 4#32
  let v868 : BitVec 32 := Scalar.addi v5 c4_i32_364
  let c7_i32_365 : BitVec 32 := 7#32
  let v869 : BitVec 32 := Scalar.muli v868 c7_i32_365
  let c4_i32_366 : BitVec 32 := 4#32
  let v870 : BitVec 32 := Scalar.addi v869 c4_i32_366
  let v871 : Index := Scalar.indexCast v870
  ![v871.toNat]
def k0_off103 (v762 : BitVec 32) (v872 : BitVec 32) : Fin 3 → Nat :=
  let v878 : Index := Scalar.indexCast v872
  let v763 : BitVec 32 := v762
  let v879 : Index := Scalar.indexCast v763
  let c0_367 : Index := 0#32
  ![v878.toNat, v879.toNat, 0]

def k0_chk70 (v762 : BitVec 32) (v872 : BitVec 32) : Prop :=
  (∀ a, (k0_off103 v762 v872) a + S1x48x512.size a ≤ S64x64x512.size a)
theorem k0_off103_inb : ∀ (v762 : BitVec 32) (v872 : BitVec 32) (k0_hw70 : k0_chk70 v762 v872), ∀ a, (k0_off103 v762 v872) a + S1x48x512.size a ≤ S64x64x512.size a := fun v762 v872 k0_hw70 => k0_hw70

def k0_off104 (v762 : BitVec 32) (v874 : BitVec 32) : Fin 3 → Nat :=
  let v882 : Index := Scalar.indexCast v874
  let v763 : BitVec 32 := v762
  let v883 : Index := Scalar.indexCast v763
  let c0_368 : Index := 0#32
  ![v882.toNat, v883.toNat, 0]

def k0_chk71 (v762 : BitVec 32) (v874 : BitVec 32) : Prop :=
  (∀ a, (k0_off104 v762 v874) a + S1x48x512.size a ≤ S64x64x512.size a)
theorem k0_off104_inb : ∀ (v762 : BitVec 32) (v874 : BitVec 32) (k0_hw71 : k0_chk71 v762 v874), ∀ a, (k0_off104 v762 v874) a + S1x48x512.size a ≤ S64x64x512.size a := fun v762 v874 k0_hw71 => k0_hw71

def k0_off105 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_375 : BitVec 32 := 4#32
  let v894 : BitVec 32 := Scalar.addi v5 c4_i32_375
  let c7_i32_376 : BitVec 32 := 7#32
  let v895 : BitVec 32 := Scalar.muli v894 c7_i32_376
  let c5_i32_377 : BitVec 32 := 5#32
  let v896 : BitVec 32 := Scalar.addi v895 c5_i32_377
  let v897 : Index := Scalar.indexCast v896
  ![v897.toNat]
def k0_off106 (v762 : BitVec 32) (v898 : BitVec 32) : Fin 3 → Nat :=
  let v904 : Index := Scalar.indexCast v898
  let v763 : BitVec 32 := v762
  let v905 : Index := Scalar.indexCast v763
  let c0_378 : Index := 0#32
  ![v904.toNat, v905.toNat, 0]

def k0_chk72 (v762 : BitVec 32) (v898 : BitVec 32) : Prop :=
  (∀ a, (k0_off106 v762 v898) a + S1x48x512.size a ≤ S64x64x512.size a)
theorem k0_off106_inb : ∀ (v762 : BitVec 32) (v898 : BitVec 32) (k0_hw72 : k0_chk72 v762 v898), ∀ a, (k0_off106 v762 v898) a + S1x48x512.size a ≤ S64x64x512.size a := fun v762 v898 k0_hw72 => k0_hw72

def k0_off107 (v762 : BitVec 32) (v900 : BitVec 32) : Fin 3 → Nat :=
  let v908 : Index := Scalar.indexCast v900
  let v763 : BitVec 32 := v762
  let v909 : Index := Scalar.indexCast v763
  let c0_379 : Index := 0#32
  ![v908.toNat, v909.toNat, 0]

def k0_chk73 (v762 : BitVec 32) (v900 : BitVec 32) : Prop :=
  (∀ a, (k0_off107 v762 v900) a + S1x48x512.size a ≤ S64x64x512.size a)
theorem k0_off107_inb : ∀ (v762 : BitVec 32) (v900 : BitVec 32) (k0_hw73 : k0_chk73 v762 v900), ∀ a, (k0_off107 v762 v900) a + S1x48x512.size a ≤ S64x64x512.size a := fun v762 v900 k0_hw73 => k0_hw73

def k0_off108 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c4_i32_386 : BitVec 32 := 4#32
  let v920 : BitVec 32 := Scalar.addi v5 c4_i32_386
  let c7_i32_387 : BitVec 32 := 7#32
  let v921 : BitVec 32 := Scalar.muli v920 c7_i32_387
  let c6_i32_388 : BitVec 32 := 6#32
  let v922 : BitVec 32 := Scalar.addi v921 c6_i32_388
  let v923 : Index := Scalar.indexCast v922
  ![v923.toNat]
def k0_off109 (v762 : BitVec 32) (v924 : BitVec 32) : Fin 3 → Nat :=
  let v930 : Index := Scalar.indexCast v924
  let v763 : BitVec 32 := v762
  let v931 : Index := Scalar.indexCast v763
  let c0_389 : Index := 0#32
  ![v930.toNat, v931.toNat, 0]

def k0_chk74 (v762 : BitVec 32) (v924 : BitVec 32) : Prop :=
  (∀ a, (k0_off109 v762 v924) a + S1x48x512.size a ≤ S64x64x512.size a)
theorem k0_off109_inb : ∀ (v762 : BitVec 32) (v924 : BitVec 32) (k0_hw74 : k0_chk74 v762 v924), ∀ a, (k0_off109 v762 v924) a + S1x48x512.size a ≤ S64x64x512.size a := fun v762 v924 k0_hw74 => k0_hw74

def k0_off110 (v762 : BitVec 32) (v926 : BitVec 32) : Fin 3 → Nat :=
  let v934 : Index := Scalar.indexCast v926
  let v763 : BitVec 32 := v762
  let v935 : Index := Scalar.indexCast v763
  let c0_390 : Index := 0#32
  ![v934.toNat, v935.toNat, 0]

def k0_chk75 (v762 : BitVec 32) (v926 : BitVec 32) : Prop :=
  (∀ a, (k0_off110 v762 v926) a + S1x48x512.size a ≤ S64x64x512.size a)
theorem k0_off110_inb : ∀ (v762 : BitVec 32) (v926 : BitVec 32) (k0_hw75 : k0_chk75 v762 v926), ∀ a, (k0_off110 v762 v926) a + S1x48x512.size a ≤ S64x64x512.size a := fun v762 v926 k0_hw75 => k0_hw75

def k0_off111 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_401 : BitVec 32 := 5#32
  let v948 : BitVec 32 := Scalar.addi v5 c5_i32_401
  let v949 : Index := Scalar.indexCast v948
  ![v949.toNat]
def k0_mult6 (v950 : BitVec 32) : BitVec 32 :=
  v950

def k0_chk76 (v950 : BitVec 32) : Prop :=
  (16 ∣ (k0_mult6 v950).toNat)
theorem k0_mult6_dvd : ∀ (v950 : BitVec 32) (k0_hw76 : k0_chk76 v950), 16 ∣ (k0_mult6 v950).toNat := fun v950 k0_hw76 => k0_hw76

def k0_off112 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_402 : BitVec 32 := 5#32
  let v952 : BitVec 32 := Scalar.addi v5 c5_i32_402
  let c7_i32_403 : BitVec 32 := 7#32
  let v953 : BitVec 32 := Scalar.muli v952 c7_i32_403
  let c0_i32_404 : BitVec 32 := 0#32
  let v954 : BitVec 32 := Scalar.addi v953 c0_i32_404
  let v955 : Index := Scalar.indexCast v954
  ![v955.toNat]
def k0_off113 (v950 : BitVec 32) (v956 : BitVec 32) : Fin 3 → Nat :=
  let v962 : Index := Scalar.indexCast v956
  let v951 : BitVec 32 := v950
  let v963 : Index := Scalar.indexCast v951
  let c0_405 : Index := 0#32
  ![v962.toNat, v963.toNat, 0]

def k0_chk77 (v950 : BitVec 32) (v956 : BitVec 32) : Prop :=
  (∀ a, (k0_off113 v950 v956) a + S1x48x512.size a ≤ S64x64x512.size a)
theorem k0_off113_inb : ∀ (v950 : BitVec 32) (v956 : BitVec 32) (k0_hw77 : k0_chk77 v950 v956), ∀ a, (k0_off113 v950 v956) a + S1x48x512.size a ≤ S64x64x512.size a := fun v950 v956 k0_hw77 => k0_hw77

def k0_off114 (v950 : BitVec 32) (v958 : BitVec 32) : Fin 3 → Nat :=
  let v966 : Index := Scalar.indexCast v958
  let v951 : BitVec 32 := v950
  let v967 : Index := Scalar.indexCast v951
  let c0_406 : Index := 0#32
  ![v966.toNat, v967.toNat, 0]

def k0_chk78 (v950 : BitVec 32) (v958 : BitVec 32) : Prop :=
  (∀ a, (k0_off114 v950 v958) a + S1x48x512.size a ≤ S64x64x512.size a)
theorem k0_off114_inb : ∀ (v950 : BitVec 32) (v958 : BitVec 32) (k0_hw78 : k0_chk78 v950 v958), ∀ a, (k0_off114 v950 v958) a + S1x48x512.size a ≤ S64x64x512.size a := fun v950 v958 k0_hw78 => k0_hw78

def k0_off115 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_413 : BitVec 32 := 5#32
  let v978 : BitVec 32 := Scalar.addi v5 c5_i32_413
  let c7_i32_414 : BitVec 32 := 7#32
  let v979 : BitVec 32 := Scalar.muli v978 c7_i32_414
  let c1_i32_415 : BitVec 32 := 1#32
  let v980 : BitVec 32 := Scalar.addi v979 c1_i32_415
  let v981 : Index := Scalar.indexCast v980
  ![v981.toNat]
def k0_off116 (v950 : BitVec 32) (v982 : BitVec 32) : Fin 3 → Nat :=
  let v988 : Index := Scalar.indexCast v982
  let v951 : BitVec 32 := v950
  let v989 : Index := Scalar.indexCast v951
  let c0_416 : Index := 0#32
  ![v988.toNat, v989.toNat, 0]

def k0_chk79 (v950 : BitVec 32) (v982 : BitVec 32) : Prop :=
  (∀ a, (k0_off116 v950 v982) a + S1x48x512.size a ≤ S64x64x512.size a)
theorem k0_off116_inb : ∀ (v950 : BitVec 32) (v982 : BitVec 32) (k0_hw79 : k0_chk79 v950 v982), ∀ a, (k0_off116 v950 v982) a + S1x48x512.size a ≤ S64x64x512.size a := fun v950 v982 k0_hw79 => k0_hw79

def k0_off117 (v950 : BitVec 32) (v984 : BitVec 32) : Fin 3 → Nat :=
  let v992 : Index := Scalar.indexCast v984
  let v951 : BitVec 32 := v950
  let v993 : Index := Scalar.indexCast v951
  let c0_417 : Index := 0#32
  ![v992.toNat, v993.toNat, 0]

def k0_chk80 (v950 : BitVec 32) (v984 : BitVec 32) : Prop :=
  (∀ a, (k0_off117 v950 v984) a + S1x48x512.size a ≤ S64x64x512.size a)
theorem k0_off117_inb : ∀ (v950 : BitVec 32) (v984 : BitVec 32) (k0_hw80 : k0_chk80 v950 v984), ∀ a, (k0_off117 v950 v984) a + S1x48x512.size a ≤ S64x64x512.size a := fun v950 v984 k0_hw80 => k0_hw80

def k0_off118 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_424 : BitVec 32 := 5#32
  let v1004 : BitVec 32 := Scalar.addi v5 c5_i32_424
  let c7_i32_425 : BitVec 32 := 7#32
  let v1005 : BitVec 32 := Scalar.muli v1004 c7_i32_425
  let c2_i32_426 : BitVec 32 := 2#32
  let v1006 : BitVec 32 := Scalar.addi v1005 c2_i32_426
  let v1007 : Index := Scalar.indexCast v1006
  ![v1007.toNat]
def k0_off119 (v950 : BitVec 32) (v1008 : BitVec 32) : Fin 3 → Nat :=
  let v1014 : Index := Scalar.indexCast v1008
  let v951 : BitVec 32 := v950
  let v1015 : Index := Scalar.indexCast v951
  let c0_427 : Index := 0#32
  ![v1014.toNat, v1015.toNat, 0]

def k0_chk81 (v950 : BitVec 32) (v1008 : BitVec 32) : Prop :=
  (∀ a, (k0_off119 v950 v1008) a + S1x48x512.size a ≤ S64x64x512.size a)
theorem k0_off119_inb : ∀ (v950 : BitVec 32) (v1008 : BitVec 32) (k0_hw81 : k0_chk81 v950 v1008), ∀ a, (k0_off119 v950 v1008) a + S1x48x512.size a ≤ S64x64x512.size a := fun v950 v1008 k0_hw81 => k0_hw81

def k0_off120 (v950 : BitVec 32) (v1010 : BitVec 32) : Fin 3 → Nat :=
  let v1018 : Index := Scalar.indexCast v1010
  let v951 : BitVec 32 := v950
  let v1019 : Index := Scalar.indexCast v951
  let c0_428 : Index := 0#32
  ![v1018.toNat, v1019.toNat, 0]

def k0_chk82 (v950 : BitVec 32) (v1010 : BitVec 32) : Prop :=
  (∀ a, (k0_off120 v950 v1010) a + S1x48x512.size a ≤ S64x64x512.size a)
theorem k0_off120_inb : ∀ (v950 : BitVec 32) (v1010 : BitVec 32) (k0_hw82 : k0_chk82 v950 v1010), ∀ a, (k0_off120 v950 v1010) a + S1x48x512.size a ≤ S64x64x512.size a := fun v950 v1010 k0_hw82 => k0_hw82

def k0_off121 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_435 : BitVec 32 := 5#32
  let v1030 : BitVec 32 := Scalar.addi v5 c5_i32_435
  let c7_i32_436 : BitVec 32 := 7#32
  let v1031 : BitVec 32 := Scalar.muli v1030 c7_i32_436
  let c3_i32_437 : BitVec 32 := 3#32
  let v1032 : BitVec 32 := Scalar.addi v1031 c3_i32_437
  let v1033 : Index := Scalar.indexCast v1032
  ![v1033.toNat]
def k0_off122 (v950 : BitVec 32) (v1034 : BitVec 32) : Fin 3 → Nat :=
  let v1040 : Index := Scalar.indexCast v1034
  let v951 : BitVec 32 := v950
  let v1041 : Index := Scalar.indexCast v951
  let c0_438 : Index := 0#32
  ![v1040.toNat, v1041.toNat, 0]

def k0_chk83 (v950 : BitVec 32) (v1034 : BitVec 32) : Prop :=
  (∀ a, (k0_off122 v950 v1034) a + S1x48x512.size a ≤ S64x64x512.size a)
theorem k0_off122_inb : ∀ (v950 : BitVec 32) (v1034 : BitVec 32) (k0_hw83 : k0_chk83 v950 v1034), ∀ a, (k0_off122 v950 v1034) a + S1x48x512.size a ≤ S64x64x512.size a := fun v950 v1034 k0_hw83 => k0_hw83

def k0_off123 (v950 : BitVec 32) (v1036 : BitVec 32) : Fin 3 → Nat :=
  let v1044 : Index := Scalar.indexCast v1036
  let v951 : BitVec 32 := v950
  let v1045 : Index := Scalar.indexCast v951
  let c0_439 : Index := 0#32
  ![v1044.toNat, v1045.toNat, 0]

def k0_chk84 (v950 : BitVec 32) (v1036 : BitVec 32) : Prop :=
  (∀ a, (k0_off123 v950 v1036) a + S1x48x512.size a ≤ S64x64x512.size a)
theorem k0_off123_inb : ∀ (v950 : BitVec 32) (v1036 : BitVec 32) (k0_hw84 : k0_chk84 v950 v1036), ∀ a, (k0_off123 v950 v1036) a + S1x48x512.size a ≤ S64x64x512.size a := fun v950 v1036 k0_hw84 => k0_hw84

def k0_off124 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_446 : BitVec 32 := 5#32
  let v1056 : BitVec 32 := Scalar.addi v5 c5_i32_446
  let c7_i32_447 : BitVec 32 := 7#32
  let v1057 : BitVec 32 := Scalar.muli v1056 c7_i32_447
  let c4_i32_448 : BitVec 32 := 4#32
  let v1058 : BitVec 32 := Scalar.addi v1057 c4_i32_448
  let v1059 : Index := Scalar.indexCast v1058
  ![v1059.toNat]
def k0_off125 (v950 : BitVec 32) (v1060 : BitVec 32) : Fin 3 → Nat :=
  let v1066 : Index := Scalar.indexCast v1060
  let v951 : BitVec 32 := v950
  let v1067 : Index := Scalar.indexCast v951
  let c0_449 : Index := 0#32
  ![v1066.toNat, v1067.toNat, 0]

def k0_chk85 (v950 : BitVec 32) (v1060 : BitVec 32) : Prop :=
  (∀ a, (k0_off125 v950 v1060) a + S1x48x512.size a ≤ S64x64x512.size a)
theorem k0_off125_inb : ∀ (v950 : BitVec 32) (v1060 : BitVec 32) (k0_hw85 : k0_chk85 v950 v1060), ∀ a, (k0_off125 v950 v1060) a + S1x48x512.size a ≤ S64x64x512.size a := fun v950 v1060 k0_hw85 => k0_hw85

def k0_off126 (v950 : BitVec 32) (v1062 : BitVec 32) : Fin 3 → Nat :=
  let v1070 : Index := Scalar.indexCast v1062
  let v951 : BitVec 32 := v950
  let v1071 : Index := Scalar.indexCast v951
  let c0_450 : Index := 0#32
  ![v1070.toNat, v1071.toNat, 0]

def k0_chk86 (v950 : BitVec 32) (v1062 : BitVec 32) : Prop :=
  (∀ a, (k0_off126 v950 v1062) a + S1x48x512.size a ≤ S64x64x512.size a)
theorem k0_off126_inb : ∀ (v950 : BitVec 32) (v1062 : BitVec 32) (k0_hw86 : k0_chk86 v950 v1062), ∀ a, (k0_off126 v950 v1062) a + S1x48x512.size a ≤ S64x64x512.size a := fun v950 v1062 k0_hw86 => k0_hw86

def k0_off127 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_457 : BitVec 32 := 5#32
  let v1082 : BitVec 32 := Scalar.addi v5 c5_i32_457
  let c7_i32_458 : BitVec 32 := 7#32
  let v1083 : BitVec 32 := Scalar.muli v1082 c7_i32_458
  let c5_i32_459 : BitVec 32 := 5#32
  let v1084 : BitVec 32 := Scalar.addi v1083 c5_i32_459
  let v1085 : Index := Scalar.indexCast v1084
  ![v1085.toNat]
def k0_off128 (v950 : BitVec 32) (v1086 : BitVec 32) : Fin 3 → Nat :=
  let v1092 : Index := Scalar.indexCast v1086
  let v951 : BitVec 32 := v950
  let v1093 : Index := Scalar.indexCast v951
  let c0_460 : Index := 0#32
  ![v1092.toNat, v1093.toNat, 0]

def k0_chk87 (v950 : BitVec 32) (v1086 : BitVec 32) : Prop :=
  (∀ a, (k0_off128 v950 v1086) a + S1x48x512.size a ≤ S64x64x512.size a)
theorem k0_off128_inb : ∀ (v950 : BitVec 32) (v1086 : BitVec 32) (k0_hw87 : k0_chk87 v950 v1086), ∀ a, (k0_off128 v950 v1086) a + S1x48x512.size a ≤ S64x64x512.size a := fun v950 v1086 k0_hw87 => k0_hw87

def k0_off129 (v950 : BitVec 32) (v1088 : BitVec 32) : Fin 3 → Nat :=
  let v1096 : Index := Scalar.indexCast v1088
  let v951 : BitVec 32 := v950
  let v1097 : Index := Scalar.indexCast v951
  let c0_461 : Index := 0#32
  ![v1096.toNat, v1097.toNat, 0]

def k0_chk88 (v950 : BitVec 32) (v1088 : BitVec 32) : Prop :=
  (∀ a, (k0_off129 v950 v1088) a + S1x48x512.size a ≤ S64x64x512.size a)
theorem k0_off129_inb : ∀ (v950 : BitVec 32) (v1088 : BitVec 32) (k0_hw88 : k0_chk88 v950 v1088), ∀ a, (k0_off129 v950 v1088) a + S1x48x512.size a ≤ S64x64x512.size a := fun v950 v1088 k0_hw88 => k0_hw88

def k0_off130 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c5_i32_468 : BitVec 32 := 5#32
  let v1108 : BitVec 32 := Scalar.addi v5 c5_i32_468
  let c7_i32_469 : BitVec 32 := 7#32
  let v1109 : BitVec 32 := Scalar.muli v1108 c7_i32_469
  let c6_i32_470 : BitVec 32 := 6#32
  let v1110 : BitVec 32 := Scalar.addi v1109 c6_i32_470
  let v1111 : Index := Scalar.indexCast v1110
  ![v1111.toNat]
def k0_off131 (v950 : BitVec 32) (v1112 : BitVec 32) : Fin 3 → Nat :=
  let v1118 : Index := Scalar.indexCast v1112
  let v951 : BitVec 32 := v950
  let v1119 : Index := Scalar.indexCast v951
  let c0_471 : Index := 0#32
  ![v1118.toNat, v1119.toNat, 0]

def k0_chk89 (v950 : BitVec 32) (v1112 : BitVec 32) : Prop :=
  (∀ a, (k0_off131 v950 v1112) a + S1x48x512.size a ≤ S64x64x512.size a)
theorem k0_off131_inb : ∀ (v950 : BitVec 32) (v1112 : BitVec 32) (k0_hw89 : k0_chk89 v950 v1112), ∀ a, (k0_off131 v950 v1112) a + S1x48x512.size a ≤ S64x64x512.size a := fun v950 v1112 k0_hw89 => k0_hw89

def k0_off132 (v950 : BitVec 32) (v1114 : BitVec 32) : Fin 3 → Nat :=
  let v1122 : Index := Scalar.indexCast v1114
  let v951 : BitVec 32 := v950
  let v1123 : Index := Scalar.indexCast v951
  let c0_472 : Index := 0#32
  ![v1122.toNat, v1123.toNat, 0]

def k0_chk90 (v950 : BitVec 32) (v1114 : BitVec 32) : Prop :=
  (∀ a, (k0_off132 v950 v1114) a + S1x48x512.size a ≤ S64x64x512.size a)
theorem k0_off132_inb : ∀ (v950 : BitVec 32) (v1114 : BitVec 32) (k0_hw90 : k0_chk90 v950 v1114), ∀ a, (k0_off132 v950 v1114) a + S1x48x512.size a ≤ S64x64x512.size a := fun v950 v1114 k0_hw90 => k0_hw90

def k0_off133 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_483 : BitVec 32 := 6#32
  let v1136 : BitVec 32 := Scalar.addi v5 c6_i32_483
  let v1137 : Index := Scalar.indexCast v1136
  ![v1137.toNat]
def k0_mult7 (v1138 : BitVec 32) : BitVec 32 :=
  v1138

def k0_chk91 (v1138 : BitVec 32) : Prop :=
  (16 ∣ (k0_mult7 v1138).toNat)
theorem k0_mult7_dvd : ∀ (v1138 : BitVec 32) (k0_hw91 : k0_chk91 v1138), 16 ∣ (k0_mult7 v1138).toNat := fun v1138 k0_hw91 => k0_hw91

def k0_off134 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_484 : BitVec 32 := 6#32
  let v1140 : BitVec 32 := Scalar.addi v5 c6_i32_484
  let c7_i32_485 : BitVec 32 := 7#32
  let v1141 : BitVec 32 := Scalar.muli v1140 c7_i32_485
  let c0_i32_486 : BitVec 32 := 0#32
  let v1142 : BitVec 32 := Scalar.addi v1141 c0_i32_486
  let v1143 : Index := Scalar.indexCast v1142
  ![v1143.toNat]
def k0_off135 (v1138 : BitVec 32) (v1144 : BitVec 32) : Fin 3 → Nat :=
  let v1150 : Index := Scalar.indexCast v1144
  let v1139 : BitVec 32 := v1138
  let v1151 : Index := Scalar.indexCast v1139
  let c0_487 : Index := 0#32
  ![v1150.toNat, v1151.toNat, 0]

def k0_chk92 (v1138 : BitVec 32) (v1144 : BitVec 32) : Prop :=
  (∀ a, (k0_off135 v1138 v1144) a + S1x48x512.size a ≤ S64x64x512.size a)
theorem k0_off135_inb : ∀ (v1138 : BitVec 32) (v1144 : BitVec 32) (k0_hw92 : k0_chk92 v1138 v1144), ∀ a, (k0_off135 v1138 v1144) a + S1x48x512.size a ≤ S64x64x512.size a := fun v1138 v1144 k0_hw92 => k0_hw92

def k0_off136 (v1138 : BitVec 32) (v1146 : BitVec 32) : Fin 3 → Nat :=
  let v1154 : Index := Scalar.indexCast v1146
  let v1139 : BitVec 32 := v1138
  let v1155 : Index := Scalar.indexCast v1139
  let c0_488 : Index := 0#32
  ![v1154.toNat, v1155.toNat, 0]

def k0_chk93 (v1138 : BitVec 32) (v1146 : BitVec 32) : Prop :=
  (∀ a, (k0_off136 v1138 v1146) a + S1x48x512.size a ≤ S64x64x512.size a)
theorem k0_off136_inb : ∀ (v1138 : BitVec 32) (v1146 : BitVec 32) (k0_hw93 : k0_chk93 v1138 v1146), ∀ a, (k0_off136 v1138 v1146) a + S1x48x512.size a ≤ S64x64x512.size a := fun v1138 v1146 k0_hw93 => k0_hw93

def k0_off137 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_495 : BitVec 32 := 6#32
  let v1166 : BitVec 32 := Scalar.addi v5 c6_i32_495
  let c7_i32_496 : BitVec 32 := 7#32
  let v1167 : BitVec 32 := Scalar.muli v1166 c7_i32_496
  let c1_i32_497 : BitVec 32 := 1#32
  let v1168 : BitVec 32 := Scalar.addi v1167 c1_i32_497
  let v1169 : Index := Scalar.indexCast v1168
  ![v1169.toNat]
def k0_off138 (v1138 : BitVec 32) (v1170 : BitVec 32) : Fin 3 → Nat :=
  let v1176 : Index := Scalar.indexCast v1170
  let v1139 : BitVec 32 := v1138
  let v1177 : Index := Scalar.indexCast v1139
  let c0_498 : Index := 0#32
  ![v1176.toNat, v1177.toNat, 0]

def k0_chk94 (v1138 : BitVec 32) (v1170 : BitVec 32) : Prop :=
  (∀ a, (k0_off138 v1138 v1170) a + S1x48x512.size a ≤ S64x64x512.size a)
theorem k0_off138_inb : ∀ (v1138 : BitVec 32) (v1170 : BitVec 32) (k0_hw94 : k0_chk94 v1138 v1170), ∀ a, (k0_off138 v1138 v1170) a + S1x48x512.size a ≤ S64x64x512.size a := fun v1138 v1170 k0_hw94 => k0_hw94

def k0_off139 (v1138 : BitVec 32) (v1172 : BitVec 32) : Fin 3 → Nat :=
  let v1180 : Index := Scalar.indexCast v1172
  let v1139 : BitVec 32 := v1138
  let v1181 : Index := Scalar.indexCast v1139
  let c0_499 : Index := 0#32
  ![v1180.toNat, v1181.toNat, 0]

def k0_chk95 (v1138 : BitVec 32) (v1172 : BitVec 32) : Prop :=
  (∀ a, (k0_off139 v1138 v1172) a + S1x48x512.size a ≤ S64x64x512.size a)
theorem k0_off139_inb : ∀ (v1138 : BitVec 32) (v1172 : BitVec 32) (k0_hw95 : k0_chk95 v1138 v1172), ∀ a, (k0_off139 v1138 v1172) a + S1x48x512.size a ≤ S64x64x512.size a := fun v1138 v1172 k0_hw95 => k0_hw95

def k0_off140 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_506 : BitVec 32 := 6#32
  let v1192 : BitVec 32 := Scalar.addi v5 c6_i32_506
  let c7_i32_507 : BitVec 32 := 7#32
  let v1193 : BitVec 32 := Scalar.muli v1192 c7_i32_507
  let c2_i32_508 : BitVec 32 := 2#32
  let v1194 : BitVec 32 := Scalar.addi v1193 c2_i32_508
  let v1195 : Index := Scalar.indexCast v1194
  ![v1195.toNat]
def k0_off141 (v1138 : BitVec 32) (v1196 : BitVec 32) : Fin 3 → Nat :=
  let v1202 : Index := Scalar.indexCast v1196
  let v1139 : BitVec 32 := v1138
  let v1203 : Index := Scalar.indexCast v1139
  let c0_509 : Index := 0#32
  ![v1202.toNat, v1203.toNat, 0]

def k0_chk96 (v1138 : BitVec 32) (v1196 : BitVec 32) : Prop :=
  (∀ a, (k0_off141 v1138 v1196) a + S1x48x512.size a ≤ S64x64x512.size a)
theorem k0_off141_inb : ∀ (v1138 : BitVec 32) (v1196 : BitVec 32) (k0_hw96 : k0_chk96 v1138 v1196), ∀ a, (k0_off141 v1138 v1196) a + S1x48x512.size a ≤ S64x64x512.size a := fun v1138 v1196 k0_hw96 => k0_hw96

def k0_off142 (v1138 : BitVec 32) (v1198 : BitVec 32) : Fin 3 → Nat :=
  let v1206 : Index := Scalar.indexCast v1198
  let v1139 : BitVec 32 := v1138
  let v1207 : Index := Scalar.indexCast v1139
  let c0_510 : Index := 0#32
  ![v1206.toNat, v1207.toNat, 0]

def k0_chk97 (v1138 : BitVec 32) (v1198 : BitVec 32) : Prop :=
  (∀ a, (k0_off142 v1138 v1198) a + S1x48x512.size a ≤ S64x64x512.size a)
theorem k0_off142_inb : ∀ (v1138 : BitVec 32) (v1198 : BitVec 32) (k0_hw97 : k0_chk97 v1138 v1198), ∀ a, (k0_off142 v1138 v1198) a + S1x48x512.size a ≤ S64x64x512.size a := fun v1138 v1198 k0_hw97 => k0_hw97

def k0_off143 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_517 : BitVec 32 := 6#32
  let v1218 : BitVec 32 := Scalar.addi v5 c6_i32_517
  let c7_i32_518 : BitVec 32 := 7#32
  let v1219 : BitVec 32 := Scalar.muli v1218 c7_i32_518
  let c3_i32_519 : BitVec 32 := 3#32
  let v1220 : BitVec 32 := Scalar.addi v1219 c3_i32_519
  let v1221 : Index := Scalar.indexCast v1220
  ![v1221.toNat]
def k0_off144 (v1138 : BitVec 32) (v1222 : BitVec 32) : Fin 3 → Nat :=
  let v1228 : Index := Scalar.indexCast v1222
  let v1139 : BitVec 32 := v1138
  let v1229 : Index := Scalar.indexCast v1139
  let c0_520 : Index := 0#32
  ![v1228.toNat, v1229.toNat, 0]

def k0_chk98 (v1138 : BitVec 32) (v1222 : BitVec 32) : Prop :=
  (∀ a, (k0_off144 v1138 v1222) a + S1x48x512.size a ≤ S64x64x512.size a)
theorem k0_off144_inb : ∀ (v1138 : BitVec 32) (v1222 : BitVec 32) (k0_hw98 : k0_chk98 v1138 v1222), ∀ a, (k0_off144 v1138 v1222) a + S1x48x512.size a ≤ S64x64x512.size a := fun v1138 v1222 k0_hw98 => k0_hw98

def k0_off145 (v1138 : BitVec 32) (v1224 : BitVec 32) : Fin 3 → Nat :=
  let v1232 : Index := Scalar.indexCast v1224
  let v1139 : BitVec 32 := v1138
  let v1233 : Index := Scalar.indexCast v1139
  let c0_521 : Index := 0#32
  ![v1232.toNat, v1233.toNat, 0]

def k0_chk99 (v1138 : BitVec 32) (v1224 : BitVec 32) : Prop :=
  (∀ a, (k0_off145 v1138 v1224) a + S1x48x512.size a ≤ S64x64x512.size a)
theorem k0_off145_inb : ∀ (v1138 : BitVec 32) (v1224 : BitVec 32) (k0_hw99 : k0_chk99 v1138 v1224), ∀ a, (k0_off145 v1138 v1224) a + S1x48x512.size a ≤ S64x64x512.size a := fun v1138 v1224 k0_hw99 => k0_hw99

def k0_off146 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_528 : BitVec 32 := 6#32
  let v1244 : BitVec 32 := Scalar.addi v5 c6_i32_528
  let c7_i32_529 : BitVec 32 := 7#32
  let v1245 : BitVec 32 := Scalar.muli v1244 c7_i32_529
  let c4_i32_530 : BitVec 32 := 4#32
  let v1246 : BitVec 32 := Scalar.addi v1245 c4_i32_530
  let v1247 : Index := Scalar.indexCast v1246
  ![v1247.toNat]
def k0_off147 (v1138 : BitVec 32) (v1248 : BitVec 32) : Fin 3 → Nat :=
  let v1254 : Index := Scalar.indexCast v1248
  let v1139 : BitVec 32 := v1138
  let v1255 : Index := Scalar.indexCast v1139
  let c0_531 : Index := 0#32
  ![v1254.toNat, v1255.toNat, 0]

def k0_chk100 (v1138 : BitVec 32) (v1248 : BitVec 32) : Prop :=
  (∀ a, (k0_off147 v1138 v1248) a + S1x48x512.size a ≤ S64x64x512.size a)
theorem k0_off147_inb : ∀ (v1138 : BitVec 32) (v1248 : BitVec 32) (k0_hw100 : k0_chk100 v1138 v1248), ∀ a, (k0_off147 v1138 v1248) a + S1x48x512.size a ≤ S64x64x512.size a := fun v1138 v1248 k0_hw100 => k0_hw100

def k0_off148 (v1138 : BitVec 32) (v1250 : BitVec 32) : Fin 3 → Nat :=
  let v1258 : Index := Scalar.indexCast v1250
  let v1139 : BitVec 32 := v1138
  let v1259 : Index := Scalar.indexCast v1139
  let c0_532 : Index := 0#32
  ![v1258.toNat, v1259.toNat, 0]

def k0_chk101 (v1138 : BitVec 32) (v1250 : BitVec 32) : Prop :=
  (∀ a, (k0_off148 v1138 v1250) a + S1x48x512.size a ≤ S64x64x512.size a)
theorem k0_off148_inb : ∀ (v1138 : BitVec 32) (v1250 : BitVec 32) (k0_hw101 : k0_chk101 v1138 v1250), ∀ a, (k0_off148 v1138 v1250) a + S1x48x512.size a ≤ S64x64x512.size a := fun v1138 v1250 k0_hw101 => k0_hw101

def k0_off149 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_539 : BitVec 32 := 6#32
  let v1270 : BitVec 32 := Scalar.addi v5 c6_i32_539
  let c7_i32_540 : BitVec 32 := 7#32
  let v1271 : BitVec 32 := Scalar.muli v1270 c7_i32_540
  let c5_i32_541 : BitVec 32 := 5#32
  let v1272 : BitVec 32 := Scalar.addi v1271 c5_i32_541
  let v1273 : Index := Scalar.indexCast v1272
  ![v1273.toNat]
def k0_off150 (v1138 : BitVec 32) (v1274 : BitVec 32) : Fin 3 → Nat :=
  let v1280 : Index := Scalar.indexCast v1274
  let v1139 : BitVec 32 := v1138
  let v1281 : Index := Scalar.indexCast v1139
  let c0_542 : Index := 0#32
  ![v1280.toNat, v1281.toNat, 0]

def k0_chk102 (v1138 : BitVec 32) (v1274 : BitVec 32) : Prop :=
  (∀ a, (k0_off150 v1138 v1274) a + S1x48x512.size a ≤ S64x64x512.size a)
theorem k0_off150_inb : ∀ (v1138 : BitVec 32) (v1274 : BitVec 32) (k0_hw102 : k0_chk102 v1138 v1274), ∀ a, (k0_off150 v1138 v1274) a + S1x48x512.size a ≤ S64x64x512.size a := fun v1138 v1274 k0_hw102 => k0_hw102

def k0_off151 (v1138 : BitVec 32) (v1276 : BitVec 32) : Fin 3 → Nat :=
  let v1284 : Index := Scalar.indexCast v1276
  let v1139 : BitVec 32 := v1138
  let v1285 : Index := Scalar.indexCast v1139
  let c0_543 : Index := 0#32
  ![v1284.toNat, v1285.toNat, 0]

def k0_chk103 (v1138 : BitVec 32) (v1276 : BitVec 32) : Prop :=
  (∀ a, (k0_off151 v1138 v1276) a + S1x48x512.size a ≤ S64x64x512.size a)
theorem k0_off151_inb : ∀ (v1138 : BitVec 32) (v1276 : BitVec 32) (k0_hw103 : k0_chk103 v1138 v1276), ∀ a, (k0_off151 v1138 v1276) a + S1x48x512.size a ≤ S64x64x512.size a := fun v1138 v1276 k0_hw103 => k0_hw103

def k0_off152 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c6_i32_550 : BitVec 32 := 6#32
  let v1296 : BitVec 32 := Scalar.addi v5 c6_i32_550
  let c7_i32_551 : BitVec 32 := 7#32
  let v1297 : BitVec 32 := Scalar.muli v1296 c7_i32_551
  let c6_i32_552 : BitVec 32 := 6#32
  let v1298 : BitVec 32 := Scalar.addi v1297 c6_i32_552
  let v1299 : Index := Scalar.indexCast v1298
  ![v1299.toNat]
def k0_off153 (v1138 : BitVec 32) (v1300 : BitVec 32) : Fin 3 → Nat :=
  let v1306 : Index := Scalar.indexCast v1300
  let v1139 : BitVec 32 := v1138
  let v1307 : Index := Scalar.indexCast v1139
  let c0_553 : Index := 0#32
  ![v1306.toNat, v1307.toNat, 0]

def k0_chk104 (v1138 : BitVec 32) (v1300 : BitVec 32) : Prop :=
  (∀ a, (k0_off153 v1138 v1300) a + S1x48x512.size a ≤ S64x64x512.size a)
theorem k0_off153_inb : ∀ (v1138 : BitVec 32) (v1300 : BitVec 32) (k0_hw104 : k0_chk104 v1138 v1300), ∀ a, (k0_off153 v1138 v1300) a + S1x48x512.size a ≤ S64x64x512.size a := fun v1138 v1300 k0_hw104 => k0_hw104

def k0_off154 (v1138 : BitVec 32) (v1302 : BitVec 32) : Fin 3 → Nat :=
  let v1310 : Index := Scalar.indexCast v1302
  let v1139 : BitVec 32 := v1138
  let v1311 : Index := Scalar.indexCast v1139
  let c0_554 : Index := 0#32
  ![v1310.toNat, v1311.toNat, 0]

def k0_chk105 (v1138 : BitVec 32) (v1302 : BitVec 32) : Prop :=
  (∀ a, (k0_off154 v1138 v1302) a + S1x48x512.size a ≤ S64x64x512.size a)
theorem k0_off154_inb : ∀ (v1138 : BitVec 32) (v1302 : BitVec 32) (k0_hw105 : k0_chk105 v1138 v1302), ∀ a, (k0_off154 v1138 v1302) a + S1x48x512.size a ≤ S64x64x512.size a := fun v1138 v1302 k0_hw105 => k0_hw105

def k0_off155 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_564 : BitVec 32 := 7#32
  let v1324 : BitVec 32 := Scalar.addi v5 c7_i32_564
  let v1325 : Index := Scalar.indexCast v1324
  ![v1325.toNat]
def k0_mult8 (v1326 : BitVec 32) : BitVec 32 :=
  v1326

def k0_chk106 (v1326 : BitVec 32) : Prop :=
  (16 ∣ (k0_mult8 v1326).toNat)
theorem k0_mult8_dvd : ∀ (v1326 : BitVec 32) (k0_hw106 : k0_chk106 v1326), 16 ∣ (k0_mult8 v1326).toNat := fun v1326 k0_hw106 => k0_hw106

def k0_off156 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_565 : BitVec 32 := 7#32
  let v1328 : BitVec 32 := Scalar.addi v5 c7_i32_565
  let c7_i32_566 : BitVec 32 := 7#32
  let v1329 : BitVec 32 := Scalar.muli v1328 c7_i32_566
  let c0_i32_567 : BitVec 32 := 0#32
  let v1330 : BitVec 32 := Scalar.addi v1329 c0_i32_567
  let v1331 : Index := Scalar.indexCast v1330
  ![v1331.toNat]
def k0_off157 (v1326 : BitVec 32) (v1332 : BitVec 32) : Fin 3 → Nat :=
  let v1338 : Index := Scalar.indexCast v1332
  let v1327 : BitVec 32 := v1326
  let v1339 : Index := Scalar.indexCast v1327
  let c0_568 : Index := 0#32
  ![v1338.toNat, v1339.toNat, 0]

def k0_chk107 (v1326 : BitVec 32) (v1332 : BitVec 32) : Prop :=
  (∀ a, (k0_off157 v1326 v1332) a + S1x48x512.size a ≤ S64x64x512.size a)
theorem k0_off157_inb : ∀ (v1326 : BitVec 32) (v1332 : BitVec 32) (k0_hw107 : k0_chk107 v1326 v1332), ∀ a, (k0_off157 v1326 v1332) a + S1x48x512.size a ≤ S64x64x512.size a := fun v1326 v1332 k0_hw107 => k0_hw107

def k0_off158 (v1326 : BitVec 32) (v1334 : BitVec 32) : Fin 3 → Nat :=
  let v1342 : Index := Scalar.indexCast v1334
  let v1327 : BitVec 32 := v1326
  let v1343 : Index := Scalar.indexCast v1327
  let c0_569 : Index := 0#32
  ![v1342.toNat, v1343.toNat, 0]

def k0_chk108 (v1326 : BitVec 32) (v1334 : BitVec 32) : Prop :=
  (∀ a, (k0_off158 v1326 v1334) a + S1x48x512.size a ≤ S64x64x512.size a)
theorem k0_off158_inb : ∀ (v1326 : BitVec 32) (v1334 : BitVec 32) (k0_hw108 : k0_chk108 v1326 v1334), ∀ a, (k0_off158 v1326 v1334) a + S1x48x512.size a ≤ S64x64x512.size a := fun v1326 v1334 k0_hw108 => k0_hw108

def k0_off159 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_576 : BitVec 32 := 7#32
  let v1354 : BitVec 32 := Scalar.addi v5 c7_i32_576
  let c7_i32_577 : BitVec 32 := 7#32
  let v1355 : BitVec 32 := Scalar.muli v1354 c7_i32_577
  let c1_i32_578 : BitVec 32 := 1#32
  let v1356 : BitVec 32 := Scalar.addi v1355 c1_i32_578
  let v1357 : Index := Scalar.indexCast v1356
  ![v1357.toNat]
def k0_off160 (v1326 : BitVec 32) (v1358 : BitVec 32) : Fin 3 → Nat :=
  let v1364 : Index := Scalar.indexCast v1358
  let v1327 : BitVec 32 := v1326
  let v1365 : Index := Scalar.indexCast v1327
  let c0_579 : Index := 0#32
  ![v1364.toNat, v1365.toNat, 0]

def k0_chk109 (v1326 : BitVec 32) (v1358 : BitVec 32) : Prop :=
  (∀ a, (k0_off160 v1326 v1358) a + S1x48x512.size a ≤ S64x64x512.size a)
theorem k0_off160_inb : ∀ (v1326 : BitVec 32) (v1358 : BitVec 32) (k0_hw109 : k0_chk109 v1326 v1358), ∀ a, (k0_off160 v1326 v1358) a + S1x48x512.size a ≤ S64x64x512.size a := fun v1326 v1358 k0_hw109 => k0_hw109

def k0_off161 (v1326 : BitVec 32) (v1360 : BitVec 32) : Fin 3 → Nat :=
  let v1368 : Index := Scalar.indexCast v1360
  let v1327 : BitVec 32 := v1326
  let v1369 : Index := Scalar.indexCast v1327
  let c0_580 : Index := 0#32
  ![v1368.toNat, v1369.toNat, 0]

def k0_chk110 (v1326 : BitVec 32) (v1360 : BitVec 32) : Prop :=
  (∀ a, (k0_off161 v1326 v1360) a + S1x48x512.size a ≤ S64x64x512.size a)
theorem k0_off161_inb : ∀ (v1326 : BitVec 32) (v1360 : BitVec 32) (k0_hw110 : k0_chk110 v1326 v1360), ∀ a, (k0_off161 v1326 v1360) a + S1x48x512.size a ≤ S64x64x512.size a := fun v1326 v1360 k0_hw110 => k0_hw110

def k0_off162 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_587 : BitVec 32 := 7#32
  let v1380 : BitVec 32 := Scalar.addi v5 c7_i32_587
  let c7_i32_588 : BitVec 32 := 7#32
  let v1381 : BitVec 32 := Scalar.muli v1380 c7_i32_588
  let c2_i32_589 : BitVec 32 := 2#32
  let v1382 : BitVec 32 := Scalar.addi v1381 c2_i32_589
  let v1383 : Index := Scalar.indexCast v1382
  ![v1383.toNat]
def k0_off163 (v1326 : BitVec 32) (v1384 : BitVec 32) : Fin 3 → Nat :=
  let v1390 : Index := Scalar.indexCast v1384
  let v1327 : BitVec 32 := v1326
  let v1391 : Index := Scalar.indexCast v1327
  let c0_590 : Index := 0#32
  ![v1390.toNat, v1391.toNat, 0]

def k0_chk111 (v1326 : BitVec 32) (v1384 : BitVec 32) : Prop :=
  (∀ a, (k0_off163 v1326 v1384) a + S1x48x512.size a ≤ S64x64x512.size a)
theorem k0_off163_inb : ∀ (v1326 : BitVec 32) (v1384 : BitVec 32) (k0_hw111 : k0_chk111 v1326 v1384), ∀ a, (k0_off163 v1326 v1384) a + S1x48x512.size a ≤ S64x64x512.size a := fun v1326 v1384 k0_hw111 => k0_hw111

def k0_off164 (v1326 : BitVec 32) (v1386 : BitVec 32) : Fin 3 → Nat :=
  let v1394 : Index := Scalar.indexCast v1386
  let v1327 : BitVec 32 := v1326
  let v1395 : Index := Scalar.indexCast v1327
  let c0_591 : Index := 0#32
  ![v1394.toNat, v1395.toNat, 0]

def k0_chk112 (v1326 : BitVec 32) (v1386 : BitVec 32) : Prop :=
  (∀ a, (k0_off164 v1326 v1386) a + S1x48x512.size a ≤ S64x64x512.size a)
theorem k0_off164_inb : ∀ (v1326 : BitVec 32) (v1386 : BitVec 32) (k0_hw112 : k0_chk112 v1326 v1386), ∀ a, (k0_off164 v1326 v1386) a + S1x48x512.size a ≤ S64x64x512.size a := fun v1326 v1386 k0_hw112 => k0_hw112

def k0_off165 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_598 : BitVec 32 := 7#32
  let v1406 : BitVec 32 := Scalar.addi v5 c7_i32_598
  let c7_i32_599 : BitVec 32 := 7#32
  let v1407 : BitVec 32 := Scalar.muli v1406 c7_i32_599
  let c3_i32_600 : BitVec 32 := 3#32
  let v1408 : BitVec 32 := Scalar.addi v1407 c3_i32_600
  let v1409 : Index := Scalar.indexCast v1408
  ![v1409.toNat]
def k0_off166 (v1326 : BitVec 32) (v1410 : BitVec 32) : Fin 3 → Nat :=
  let v1416 : Index := Scalar.indexCast v1410
  let v1327 : BitVec 32 := v1326
  let v1417 : Index := Scalar.indexCast v1327
  let c0_601 : Index := 0#32
  ![v1416.toNat, v1417.toNat, 0]

def k0_chk113 (v1326 : BitVec 32) (v1410 : BitVec 32) : Prop :=
  (∀ a, (k0_off166 v1326 v1410) a + S1x48x512.size a ≤ S64x64x512.size a)
theorem k0_off166_inb : ∀ (v1326 : BitVec 32) (v1410 : BitVec 32) (k0_hw113 : k0_chk113 v1326 v1410), ∀ a, (k0_off166 v1326 v1410) a + S1x48x512.size a ≤ S64x64x512.size a := fun v1326 v1410 k0_hw113 => k0_hw113

def k0_off167 (v1326 : BitVec 32) (v1412 : BitVec 32) : Fin 3 → Nat :=
  let v1420 : Index := Scalar.indexCast v1412
  let v1327 : BitVec 32 := v1326
  let v1421 : Index := Scalar.indexCast v1327
  let c0_602 : Index := 0#32
  ![v1420.toNat, v1421.toNat, 0]

def k0_chk114 (v1326 : BitVec 32) (v1412 : BitVec 32) : Prop :=
  (∀ a, (k0_off167 v1326 v1412) a + S1x48x512.size a ≤ S64x64x512.size a)
theorem k0_off167_inb : ∀ (v1326 : BitVec 32) (v1412 : BitVec 32) (k0_hw114 : k0_chk114 v1326 v1412), ∀ a, (k0_off167 v1326 v1412) a + S1x48x512.size a ≤ S64x64x512.size a := fun v1326 v1412 k0_hw114 => k0_hw114

def k0_off168 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_609 : BitVec 32 := 7#32
  let v1432 : BitVec 32 := Scalar.addi v5 c7_i32_609
  let c7_i32_610 : BitVec 32 := 7#32
  let v1433 : BitVec 32 := Scalar.muli v1432 c7_i32_610
  let c4_i32_611 : BitVec 32 := 4#32
  let v1434 : BitVec 32 := Scalar.addi v1433 c4_i32_611
  let v1435 : Index := Scalar.indexCast v1434
  ![v1435.toNat]
def k0_off169 (v1326 : BitVec 32) (v1436 : BitVec 32) : Fin 3 → Nat :=
  let v1442 : Index := Scalar.indexCast v1436
  let v1327 : BitVec 32 := v1326
  let v1443 : Index := Scalar.indexCast v1327
  let c0_612 : Index := 0#32
  ![v1442.toNat, v1443.toNat, 0]

def k0_chk115 (v1326 : BitVec 32) (v1436 : BitVec 32) : Prop :=
  (∀ a, (k0_off169 v1326 v1436) a + S1x48x512.size a ≤ S64x64x512.size a)
theorem k0_off169_inb : ∀ (v1326 : BitVec 32) (v1436 : BitVec 32) (k0_hw115 : k0_chk115 v1326 v1436), ∀ a, (k0_off169 v1326 v1436) a + S1x48x512.size a ≤ S64x64x512.size a := fun v1326 v1436 k0_hw115 => k0_hw115

def k0_off170 (v1326 : BitVec 32) (v1438 : BitVec 32) : Fin 3 → Nat :=
  let v1446 : Index := Scalar.indexCast v1438
  let v1327 : BitVec 32 := v1326
  let v1447 : Index := Scalar.indexCast v1327
  let c0_613 : Index := 0#32
  ![v1446.toNat, v1447.toNat, 0]

def k0_chk116 (v1326 : BitVec 32) (v1438 : BitVec 32) : Prop :=
  (∀ a, (k0_off170 v1326 v1438) a + S1x48x512.size a ≤ S64x64x512.size a)
theorem k0_off170_inb : ∀ (v1326 : BitVec 32) (v1438 : BitVec 32) (k0_hw116 : k0_chk116 v1326 v1438), ∀ a, (k0_off170 v1326 v1438) a + S1x48x512.size a ≤ S64x64x512.size a := fun v1326 v1438 k0_hw116 => k0_hw116

def k0_off171 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_620 : BitVec 32 := 7#32
  let v1458 : BitVec 32 := Scalar.addi v5 c7_i32_620
  let c7_i32_621 : BitVec 32 := 7#32
  let v1459 : BitVec 32 := Scalar.muli v1458 c7_i32_621
  let c5_i32_622 : BitVec 32 := 5#32
  let v1460 : BitVec 32 := Scalar.addi v1459 c5_i32_622
  let v1461 : Index := Scalar.indexCast v1460
  ![v1461.toNat]
def k0_off172 (v1326 : BitVec 32) (v1462 : BitVec 32) : Fin 3 → Nat :=
  let v1468 : Index := Scalar.indexCast v1462
  let v1327 : BitVec 32 := v1326
  let v1469 : Index := Scalar.indexCast v1327
  let c0_623 : Index := 0#32
  ![v1468.toNat, v1469.toNat, 0]

def k0_chk117 (v1326 : BitVec 32) (v1462 : BitVec 32) : Prop :=
  (∀ a, (k0_off172 v1326 v1462) a + S1x48x512.size a ≤ S64x64x512.size a)
theorem k0_off172_inb : ∀ (v1326 : BitVec 32) (v1462 : BitVec 32) (k0_hw117 : k0_chk117 v1326 v1462), ∀ a, (k0_off172 v1326 v1462) a + S1x48x512.size a ≤ S64x64x512.size a := fun v1326 v1462 k0_hw117 => k0_hw117

def k0_off173 (v1326 : BitVec 32) (v1464 : BitVec 32) : Fin 3 → Nat :=
  let v1472 : Index := Scalar.indexCast v1464
  let v1327 : BitVec 32 := v1326
  let v1473 : Index := Scalar.indexCast v1327
  let c0_624 : Index := 0#32
  ![v1472.toNat, v1473.toNat, 0]

def k0_chk118 (v1326 : BitVec 32) (v1464 : BitVec 32) : Prop :=
  (∀ a, (k0_off173 v1326 v1464) a + S1x48x512.size a ≤ S64x64x512.size a)
theorem k0_off173_inb : ∀ (v1326 : BitVec 32) (v1464 : BitVec 32) (k0_hw118 : k0_chk118 v1326 v1464), ∀ a, (k0_off173 v1326 v1464) a + S1x48x512.size a ≤ S64x64x512.size a := fun v1326 v1464 k0_hw118 => k0_hw118

def k0_off174 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c7_i32_631 : BitVec 32 := 7#32
  let v1484 : BitVec 32 := Scalar.addi v5 c7_i32_631
  let c7_i32_632 : BitVec 32 := 7#32
  let v1485 : BitVec 32 := Scalar.muli v1484 c7_i32_632
  let c6_i32_633 : BitVec 32 := 6#32
  let v1486 : BitVec 32 := Scalar.addi v1485 c6_i32_633
  let v1487 : Index := Scalar.indexCast v1486
  ![v1487.toNat]
def k0_off175 (v1326 : BitVec 32) (v1488 : BitVec 32) : Fin 3 → Nat :=
  let v1494 : Index := Scalar.indexCast v1488
  let v1327 : BitVec 32 := v1326
  let v1495 : Index := Scalar.indexCast v1327
  let c0_634 : Index := 0#32
  ![v1494.toNat, v1495.toNat, 0]

def k0_chk119 (v1326 : BitVec 32) (v1488 : BitVec 32) : Prop :=
  (∀ a, (k0_off175 v1326 v1488) a + S1x48x512.size a ≤ S64x64x512.size a)
theorem k0_off175_inb : ∀ (v1326 : BitVec 32) (v1488 : BitVec 32) (k0_hw119 : k0_chk119 v1326 v1488), ∀ a, (k0_off175 v1326 v1488) a + S1x48x512.size a ≤ S64x64x512.size a := fun v1326 v1488 k0_hw119 => k0_hw119

def k0_off176 (v1326 : BitVec 32) (v1490 : BitVec 32) : Fin 3 → Nat :=
  let v1498 : Index := Scalar.indexCast v1490
  let v1327 : BitVec 32 := v1326
  let v1499 : Index := Scalar.indexCast v1327
  let c0_635 : Index := 0#32
  ![v1498.toNat, v1499.toNat, 0]

def k0_chk120 (v1326 : BitVec 32) (v1490 : BitVec 32) : Prop :=
  (∀ a, (k0_off176 v1326 v1490) a + S1x48x512.size a ≤ S64x64x512.size a)
theorem k0_off176_inb : ∀ (v1326 : BitVec 32) (v1490 : BitVec 32) (k0_hw120 : k0_chk120 v1326 v1490), ∀ a, (k0_off176 v1326 v1490) a + S1x48x512.size a ≤ S64x64x512.size a := fun v1326 v1490 k0_hw120 => k0_hw120

def k0_off177 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32 : BitVec 32 := 8#32
  let v1512 : BitVec 32 := Scalar.addi v5 c8_i32
  let v1513 : Index := Scalar.indexCast v1512
  ![v1513.toNat]
def k0_mult9 (v1514 : BitVec 32) : BitVec 32 :=
  v1514

def k0_chk121 (v1514 : BitVec 32) : Prop :=
  (16 ∣ (k0_mult9 v1514).toNat)
theorem k0_mult9_dvd : ∀ (v1514 : BitVec 32) (k0_hw121 : k0_chk121 v1514), 16 ∣ (k0_mult9 v1514).toNat := fun v1514 k0_hw121 => k0_hw121

def k0_off178 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_645 : BitVec 32 := 8#32
  let v1516 : BitVec 32 := Scalar.addi v5 c8_i32_645
  let c7_i32_646 : BitVec 32 := 7#32
  let v1517 : BitVec 32 := Scalar.muli v1516 c7_i32_646
  let c0_i32_647 : BitVec 32 := 0#32
  let v1518 : BitVec 32 := Scalar.addi v1517 c0_i32_647
  let v1519 : Index := Scalar.indexCast v1518
  ![v1519.toNat]
def k0_off179 (v1514 : BitVec 32) (v1520 : BitVec 32) : Fin 3 → Nat :=
  let v1526 : Index := Scalar.indexCast v1520
  let v1515 : BitVec 32 := v1514
  let v1527 : Index := Scalar.indexCast v1515
  let c0_648 : Index := 0#32
  ![v1526.toNat, v1527.toNat, 0]

def k0_chk122 (v1514 : BitVec 32) (v1520 : BitVec 32) : Prop :=
  (∀ a, (k0_off179 v1514 v1520) a + S1x48x512.size a ≤ S64x64x512.size a)
theorem k0_off179_inb : ∀ (v1514 : BitVec 32) (v1520 : BitVec 32) (k0_hw122 : k0_chk122 v1514 v1520), ∀ a, (k0_off179 v1514 v1520) a + S1x48x512.size a ≤ S64x64x512.size a := fun v1514 v1520 k0_hw122 => k0_hw122

def k0_off180 (v1514 : BitVec 32) (v1522 : BitVec 32) : Fin 3 → Nat :=
  let v1530 : Index := Scalar.indexCast v1522
  let v1515 : BitVec 32 := v1514
  let v1531 : Index := Scalar.indexCast v1515
  let c0_649 : Index := 0#32
  ![v1530.toNat, v1531.toNat, 0]

def k0_chk123 (v1514 : BitVec 32) (v1522 : BitVec 32) : Prop :=
  (∀ a, (k0_off180 v1514 v1522) a + S1x48x512.size a ≤ S64x64x512.size a)
theorem k0_off180_inb : ∀ (v1514 : BitVec 32) (v1522 : BitVec 32) (k0_hw123 : k0_chk123 v1514 v1522), ∀ a, (k0_off180 v1514 v1522) a + S1x48x512.size a ≤ S64x64x512.size a := fun v1514 v1522 k0_hw123 => k0_hw123

def k0_off181 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_656 : BitVec 32 := 8#32
  let v1542 : BitVec 32 := Scalar.addi v5 c8_i32_656
  let c7_i32_657 : BitVec 32 := 7#32
  let v1543 : BitVec 32 := Scalar.muli v1542 c7_i32_657
  let c1_i32_658 : BitVec 32 := 1#32
  let v1544 : BitVec 32 := Scalar.addi v1543 c1_i32_658
  let v1545 : Index := Scalar.indexCast v1544
  ![v1545.toNat]
def k0_off182 (v1514 : BitVec 32) (v1546 : BitVec 32) : Fin 3 → Nat :=
  let v1552 : Index := Scalar.indexCast v1546
  let v1515 : BitVec 32 := v1514
  let v1553 : Index := Scalar.indexCast v1515
  let c0_659 : Index := 0#32
  ![v1552.toNat, v1553.toNat, 0]

def k0_chk124 (v1514 : BitVec 32) (v1546 : BitVec 32) : Prop :=
  (∀ a, (k0_off182 v1514 v1546) a + S1x48x512.size a ≤ S64x64x512.size a)
theorem k0_off182_inb : ∀ (v1514 : BitVec 32) (v1546 : BitVec 32) (k0_hw124 : k0_chk124 v1514 v1546), ∀ a, (k0_off182 v1514 v1546) a + S1x48x512.size a ≤ S64x64x512.size a := fun v1514 v1546 k0_hw124 => k0_hw124

def k0_off183 (v1514 : BitVec 32) (v1548 : BitVec 32) : Fin 3 → Nat :=
  let v1556 : Index := Scalar.indexCast v1548
  let v1515 : BitVec 32 := v1514
  let v1557 : Index := Scalar.indexCast v1515
  let c0_660 : Index := 0#32
  ![v1556.toNat, v1557.toNat, 0]

def k0_chk125 (v1514 : BitVec 32) (v1548 : BitVec 32) : Prop :=
  (∀ a, (k0_off183 v1514 v1548) a + S1x48x512.size a ≤ S64x64x512.size a)
theorem k0_off183_inb : ∀ (v1514 : BitVec 32) (v1548 : BitVec 32) (k0_hw125 : k0_chk125 v1514 v1548), ∀ a, (k0_off183 v1514 v1548) a + S1x48x512.size a ≤ S64x64x512.size a := fun v1514 v1548 k0_hw125 => k0_hw125

def k0_off184 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_667 : BitVec 32 := 8#32
  let v1568 : BitVec 32 := Scalar.addi v5 c8_i32_667
  let c7_i32_668 : BitVec 32 := 7#32
  let v1569 : BitVec 32 := Scalar.muli v1568 c7_i32_668
  let c2_i32_669 : BitVec 32 := 2#32
  let v1570 : BitVec 32 := Scalar.addi v1569 c2_i32_669
  let v1571 : Index := Scalar.indexCast v1570
  ![v1571.toNat]
def k0_off185 (v1514 : BitVec 32) (v1572 : BitVec 32) : Fin 3 → Nat :=
  let v1578 : Index := Scalar.indexCast v1572
  let v1515 : BitVec 32 := v1514
  let v1579 : Index := Scalar.indexCast v1515
  let c0_670 : Index := 0#32
  ![v1578.toNat, v1579.toNat, 0]

def k0_chk126 (v1514 : BitVec 32) (v1572 : BitVec 32) : Prop :=
  (∀ a, (k0_off185 v1514 v1572) a + S1x48x512.size a ≤ S64x64x512.size a)
theorem k0_off185_inb : ∀ (v1514 : BitVec 32) (v1572 : BitVec 32) (k0_hw126 : k0_chk126 v1514 v1572), ∀ a, (k0_off185 v1514 v1572) a + S1x48x512.size a ≤ S64x64x512.size a := fun v1514 v1572 k0_hw126 => k0_hw126

def k0_off186 (v1514 : BitVec 32) (v1574 : BitVec 32) : Fin 3 → Nat :=
  let v1582 : Index := Scalar.indexCast v1574
  let v1515 : BitVec 32 := v1514
  let v1583 : Index := Scalar.indexCast v1515
  let c0_671 : Index := 0#32
  ![v1582.toNat, v1583.toNat, 0]

def k0_chk127 (v1514 : BitVec 32) (v1574 : BitVec 32) : Prop :=
  (∀ a, (k0_off186 v1514 v1574) a + S1x48x512.size a ≤ S64x64x512.size a)
theorem k0_off186_inb : ∀ (v1514 : BitVec 32) (v1574 : BitVec 32) (k0_hw127 : k0_chk127 v1514 v1574), ∀ a, (k0_off186 v1514 v1574) a + S1x48x512.size a ≤ S64x64x512.size a := fun v1514 v1574 k0_hw127 => k0_hw127

def k0_off187 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_678 : BitVec 32 := 8#32
  let v1594 : BitVec 32 := Scalar.addi v5 c8_i32_678
  let c7_i32_679 : BitVec 32 := 7#32
  let v1595 : BitVec 32 := Scalar.muli v1594 c7_i32_679
  let c3_i32_680 : BitVec 32 := 3#32
  let v1596 : BitVec 32 := Scalar.addi v1595 c3_i32_680
  let v1597 : Index := Scalar.indexCast v1596
  ![v1597.toNat]
def k0_off188 (v1514 : BitVec 32) (v1598 : BitVec 32) : Fin 3 → Nat :=
  let v1604 : Index := Scalar.indexCast v1598
  let v1515 : BitVec 32 := v1514
  let v1605 : Index := Scalar.indexCast v1515
  let c0_681 : Index := 0#32
  ![v1604.toNat, v1605.toNat, 0]

def k0_chk128 (v1514 : BitVec 32) (v1598 : BitVec 32) : Prop :=
  (∀ a, (k0_off188 v1514 v1598) a + S1x48x512.size a ≤ S64x64x512.size a)
theorem k0_off188_inb : ∀ (v1514 : BitVec 32) (v1598 : BitVec 32) (k0_hw128 : k0_chk128 v1514 v1598), ∀ a, (k0_off188 v1514 v1598) a + S1x48x512.size a ≤ S64x64x512.size a := fun v1514 v1598 k0_hw128 => k0_hw128

def k0_off189 (v1514 : BitVec 32) (v1600 : BitVec 32) : Fin 3 → Nat :=
  let v1608 : Index := Scalar.indexCast v1600
  let v1515 : BitVec 32 := v1514
  let v1609 : Index := Scalar.indexCast v1515
  let c0_682 : Index := 0#32
  ![v1608.toNat, v1609.toNat, 0]

def k0_chk129 (v1514 : BitVec 32) (v1600 : BitVec 32) : Prop :=
  (∀ a, (k0_off189 v1514 v1600) a + S1x48x512.size a ≤ S64x64x512.size a)
theorem k0_off189_inb : ∀ (v1514 : BitVec 32) (v1600 : BitVec 32) (k0_hw129 : k0_chk129 v1514 v1600), ∀ a, (k0_off189 v1514 v1600) a + S1x48x512.size a ≤ S64x64x512.size a := fun v1514 v1600 k0_hw129 => k0_hw129

def k0_off190 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_689 : BitVec 32 := 8#32
  let v1620 : BitVec 32 := Scalar.addi v5 c8_i32_689
  let c7_i32_690 : BitVec 32 := 7#32
  let v1621 : BitVec 32 := Scalar.muli v1620 c7_i32_690
  let c4_i32_691 : BitVec 32 := 4#32
  let v1622 : BitVec 32 := Scalar.addi v1621 c4_i32_691
  let v1623 : Index := Scalar.indexCast v1622
  ![v1623.toNat]
def k0_off191 (v1514 : BitVec 32) (v1624 : BitVec 32) : Fin 3 → Nat :=
  let v1630 : Index := Scalar.indexCast v1624
  let v1515 : BitVec 32 := v1514
  let v1631 : Index := Scalar.indexCast v1515
  let c0_692 : Index := 0#32
  ![v1630.toNat, v1631.toNat, 0]

def k0_chk130 (v1514 : BitVec 32) (v1624 : BitVec 32) : Prop :=
  (∀ a, (k0_off191 v1514 v1624) a + S1x48x512.size a ≤ S64x64x512.size a)
theorem k0_off191_inb : ∀ (v1514 : BitVec 32) (v1624 : BitVec 32) (k0_hw130 : k0_chk130 v1514 v1624), ∀ a, (k0_off191 v1514 v1624) a + S1x48x512.size a ≤ S64x64x512.size a := fun v1514 v1624 k0_hw130 => k0_hw130

def k0_off192 (v1514 : BitVec 32) (v1626 : BitVec 32) : Fin 3 → Nat :=
  let v1634 : Index := Scalar.indexCast v1626
  let v1515 : BitVec 32 := v1514
  let v1635 : Index := Scalar.indexCast v1515
  let c0_693 : Index := 0#32
  ![v1634.toNat, v1635.toNat, 0]

def k0_chk131 (v1514 : BitVec 32) (v1626 : BitVec 32) : Prop :=
  (∀ a, (k0_off192 v1514 v1626) a + S1x48x512.size a ≤ S64x64x512.size a)
theorem k0_off192_inb : ∀ (v1514 : BitVec 32) (v1626 : BitVec 32) (k0_hw131 : k0_chk131 v1514 v1626), ∀ a, (k0_off192 v1514 v1626) a + S1x48x512.size a ≤ S64x64x512.size a := fun v1514 v1626 k0_hw131 => k0_hw131

def k0_off193 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_700 : BitVec 32 := 8#32
  let v1646 : BitVec 32 := Scalar.addi v5 c8_i32_700
  let c7_i32_701 : BitVec 32 := 7#32
  let v1647 : BitVec 32 := Scalar.muli v1646 c7_i32_701
  let c5_i32_702 : BitVec 32 := 5#32
  let v1648 : BitVec 32 := Scalar.addi v1647 c5_i32_702
  let v1649 : Index := Scalar.indexCast v1648
  ![v1649.toNat]
def k0_off194 (v1514 : BitVec 32) (v1650 : BitVec 32) : Fin 3 → Nat :=
  let v1656 : Index := Scalar.indexCast v1650
  let v1515 : BitVec 32 := v1514
  let v1657 : Index := Scalar.indexCast v1515
  let c0_703 : Index := 0#32
  ![v1656.toNat, v1657.toNat, 0]

def k0_chk132 (v1514 : BitVec 32) (v1650 : BitVec 32) : Prop :=
  (∀ a, (k0_off194 v1514 v1650) a + S1x48x512.size a ≤ S64x64x512.size a)
theorem k0_off194_inb : ∀ (v1514 : BitVec 32) (v1650 : BitVec 32) (k0_hw132 : k0_chk132 v1514 v1650), ∀ a, (k0_off194 v1514 v1650) a + S1x48x512.size a ≤ S64x64x512.size a := fun v1514 v1650 k0_hw132 => k0_hw132

def k0_off195 (v1514 : BitVec 32) (v1652 : BitVec 32) : Fin 3 → Nat :=
  let v1660 : Index := Scalar.indexCast v1652
  let v1515 : BitVec 32 := v1514
  let v1661 : Index := Scalar.indexCast v1515
  let c0_704 : Index := 0#32
  ![v1660.toNat, v1661.toNat, 0]

def k0_chk133 (v1514 : BitVec 32) (v1652 : BitVec 32) : Prop :=
  (∀ a, (k0_off195 v1514 v1652) a + S1x48x512.size a ≤ S64x64x512.size a)
theorem k0_off195_inb : ∀ (v1514 : BitVec 32) (v1652 : BitVec 32) (k0_hw133 : k0_chk133 v1514 v1652), ∀ a, (k0_off195 v1514 v1652) a + S1x48x512.size a ≤ S64x64x512.size a := fun v1514 v1652 k0_hw133 => k0_hw133

def k0_off196 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c8_i32_711 : BitVec 32 := 8#32
  let v1672 : BitVec 32 := Scalar.addi v5 c8_i32_711
  let c7_i32_712 : BitVec 32 := 7#32
  let v1673 : BitVec 32 := Scalar.muli v1672 c7_i32_712
  let c6_i32_713 : BitVec 32 := 6#32
  let v1674 : BitVec 32 := Scalar.addi v1673 c6_i32_713
  let v1675 : Index := Scalar.indexCast v1674
  ![v1675.toNat]
def k0_off197 (v1514 : BitVec 32) (v1676 : BitVec 32) : Fin 3 → Nat :=
  let v1682 : Index := Scalar.indexCast v1676
  let v1515 : BitVec 32 := v1514
  let v1683 : Index := Scalar.indexCast v1515
  let c0_714 : Index := 0#32
  ![v1682.toNat, v1683.toNat, 0]

def k0_chk134 (v1514 : BitVec 32) (v1676 : BitVec 32) : Prop :=
  (∀ a, (k0_off197 v1514 v1676) a + S1x48x512.size a ≤ S64x64x512.size a)
theorem k0_off197_inb : ∀ (v1514 : BitVec 32) (v1676 : BitVec 32) (k0_hw134 : k0_chk134 v1514 v1676), ∀ a, (k0_off197 v1514 v1676) a + S1x48x512.size a ≤ S64x64x512.size a := fun v1514 v1676 k0_hw134 => k0_hw134

def k0_off198 (v1514 : BitVec 32) (v1678 : BitVec 32) : Fin 3 → Nat :=
  let v1686 : Index := Scalar.indexCast v1678
  let v1515 : BitVec 32 := v1514
  let v1687 : Index := Scalar.indexCast v1515
  let c0_715 : Index := 0#32
  ![v1686.toNat, v1687.toNat, 0]

def k0_chk135 (v1514 : BitVec 32) (v1678 : BitVec 32) : Prop :=
  (∀ a, (k0_off198 v1514 v1678) a + S1x48x512.size a ≤ S64x64x512.size a)
theorem k0_off198_inb : ∀ (v1514 : BitVec 32) (v1678 : BitVec 32) (k0_hw135 : k0_chk135 v1514 v1678), ∀ a, (k0_off198 v1514 v1678) a + S1x48x512.size a ≤ S64x64x512.size a := fun v1514 v1678 k0_hw135 => k0_hw135

def k0_off199 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32 : BitVec 32 := 9#32
  let v1700 : BitVec 32 := Scalar.addi v5 c9_i32
  let v1701 : Index := Scalar.indexCast v1700
  ![v1701.toNat]
def k0_mult10 (v1702 : BitVec 32) : BitVec 32 :=
  v1702

def k0_chk136 (v1702 : BitVec 32) : Prop :=
  (16 ∣ (k0_mult10 v1702).toNat)
theorem k0_mult10_dvd : ∀ (v1702 : BitVec 32) (k0_hw136 : k0_chk136 v1702), 16 ∣ (k0_mult10 v1702).toNat := fun v1702 k0_hw136 => k0_hw136

def k0_off200 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_725 : BitVec 32 := 9#32
  let v1704 : BitVec 32 := Scalar.addi v5 c9_i32_725
  let c7_i32_726 : BitVec 32 := 7#32
  let v1705 : BitVec 32 := Scalar.muli v1704 c7_i32_726
  let c0_i32_727 : BitVec 32 := 0#32
  let v1706 : BitVec 32 := Scalar.addi v1705 c0_i32_727
  let v1707 : Index := Scalar.indexCast v1706
  ![v1707.toNat]
def k0_off201 (v1702 : BitVec 32) (v1708 : BitVec 32) : Fin 3 → Nat :=
  let v1714 : Index := Scalar.indexCast v1708
  let v1703 : BitVec 32 := v1702
  let v1715 : Index := Scalar.indexCast v1703
  let c0_728 : Index := 0#32
  ![v1714.toNat, v1715.toNat, 0]

def k0_chk137 (v1702 : BitVec 32) (v1708 : BitVec 32) : Prop :=
  (∀ a, (k0_off201 v1702 v1708) a + S1x48x512.size a ≤ S64x64x512.size a)
theorem k0_off201_inb : ∀ (v1702 : BitVec 32) (v1708 : BitVec 32) (k0_hw137 : k0_chk137 v1702 v1708), ∀ a, (k0_off201 v1702 v1708) a + S1x48x512.size a ≤ S64x64x512.size a := fun v1702 v1708 k0_hw137 => k0_hw137

def k0_off202 (v1702 : BitVec 32) (v1710 : BitVec 32) : Fin 3 → Nat :=
  let v1718 : Index := Scalar.indexCast v1710
  let v1703 : BitVec 32 := v1702
  let v1719 : Index := Scalar.indexCast v1703
  let c0_729 : Index := 0#32
  ![v1718.toNat, v1719.toNat, 0]

def k0_chk138 (v1702 : BitVec 32) (v1710 : BitVec 32) : Prop :=
  (∀ a, (k0_off202 v1702 v1710) a + S1x48x512.size a ≤ S64x64x512.size a)
theorem k0_off202_inb : ∀ (v1702 : BitVec 32) (v1710 : BitVec 32) (k0_hw138 : k0_chk138 v1702 v1710), ∀ a, (k0_off202 v1702 v1710) a + S1x48x512.size a ≤ S64x64x512.size a := fun v1702 v1710 k0_hw138 => k0_hw138

def k0_off203 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_736 : BitVec 32 := 9#32
  let v1730 : BitVec 32 := Scalar.addi v5 c9_i32_736
  let c7_i32_737 : BitVec 32 := 7#32
  let v1731 : BitVec 32 := Scalar.muli v1730 c7_i32_737
  let c1_i32_738 : BitVec 32 := 1#32
  let v1732 : BitVec 32 := Scalar.addi v1731 c1_i32_738
  let v1733 : Index := Scalar.indexCast v1732
  ![v1733.toNat]
def k0_off204 (v1702 : BitVec 32) (v1734 : BitVec 32) : Fin 3 → Nat :=
  let v1740 : Index := Scalar.indexCast v1734
  let v1703 : BitVec 32 := v1702
  let v1741 : Index := Scalar.indexCast v1703
  let c0_739 : Index := 0#32
  ![v1740.toNat, v1741.toNat, 0]

def k0_chk139 (v1702 : BitVec 32) (v1734 : BitVec 32) : Prop :=
  (∀ a, (k0_off204 v1702 v1734) a + S1x48x512.size a ≤ S64x64x512.size a)
theorem k0_off204_inb : ∀ (v1702 : BitVec 32) (v1734 : BitVec 32) (k0_hw139 : k0_chk139 v1702 v1734), ∀ a, (k0_off204 v1702 v1734) a + S1x48x512.size a ≤ S64x64x512.size a := fun v1702 v1734 k0_hw139 => k0_hw139

def k0_off205 (v1702 : BitVec 32) (v1736 : BitVec 32) : Fin 3 → Nat :=
  let v1744 : Index := Scalar.indexCast v1736
  let v1703 : BitVec 32 := v1702
  let v1745 : Index := Scalar.indexCast v1703
  let c0_740 : Index := 0#32
  ![v1744.toNat, v1745.toNat, 0]

def k0_chk140 (v1702 : BitVec 32) (v1736 : BitVec 32) : Prop :=
  (∀ a, (k0_off205 v1702 v1736) a + S1x48x512.size a ≤ S64x64x512.size a)
theorem k0_off205_inb : ∀ (v1702 : BitVec 32) (v1736 : BitVec 32) (k0_hw140 : k0_chk140 v1702 v1736), ∀ a, (k0_off205 v1702 v1736) a + S1x48x512.size a ≤ S64x64x512.size a := fun v1702 v1736 k0_hw140 => k0_hw140

def k0_off206 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_747 : BitVec 32 := 9#32
  let v1756 : BitVec 32 := Scalar.addi v5 c9_i32_747
  let c7_i32_748 : BitVec 32 := 7#32
  let v1757 : BitVec 32 := Scalar.muli v1756 c7_i32_748
  let c2_i32_749 : BitVec 32 := 2#32
  let v1758 : BitVec 32 := Scalar.addi v1757 c2_i32_749
  let v1759 : Index := Scalar.indexCast v1758
  ![v1759.toNat]
def k0_off207 (v1702 : BitVec 32) (v1760 : BitVec 32) : Fin 3 → Nat :=
  let v1766 : Index := Scalar.indexCast v1760
  let v1703 : BitVec 32 := v1702
  let v1767 : Index := Scalar.indexCast v1703
  let c0_750 : Index := 0#32
  ![v1766.toNat, v1767.toNat, 0]

def k0_chk141 (v1702 : BitVec 32) (v1760 : BitVec 32) : Prop :=
  (∀ a, (k0_off207 v1702 v1760) a + S1x48x512.size a ≤ S64x64x512.size a)
theorem k0_off207_inb : ∀ (v1702 : BitVec 32) (v1760 : BitVec 32) (k0_hw141 : k0_chk141 v1702 v1760), ∀ a, (k0_off207 v1702 v1760) a + S1x48x512.size a ≤ S64x64x512.size a := fun v1702 v1760 k0_hw141 => k0_hw141

def k0_off208 (v1702 : BitVec 32) (v1762 : BitVec 32) : Fin 3 → Nat :=
  let v1770 : Index := Scalar.indexCast v1762
  let v1703 : BitVec 32 := v1702
  let v1771 : Index := Scalar.indexCast v1703
  let c0_751 : Index := 0#32
  ![v1770.toNat, v1771.toNat, 0]

def k0_chk142 (v1702 : BitVec 32) (v1762 : BitVec 32) : Prop :=
  (∀ a, (k0_off208 v1702 v1762) a + S1x48x512.size a ≤ S64x64x512.size a)
theorem k0_off208_inb : ∀ (v1702 : BitVec 32) (v1762 : BitVec 32) (k0_hw142 : k0_chk142 v1702 v1762), ∀ a, (k0_off208 v1702 v1762) a + S1x48x512.size a ≤ S64x64x512.size a := fun v1702 v1762 k0_hw142 => k0_hw142

def k0_off209 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_758 : BitVec 32 := 9#32
  let v1782 : BitVec 32 := Scalar.addi v5 c9_i32_758
  let c7_i32_759 : BitVec 32 := 7#32
  let v1783 : BitVec 32 := Scalar.muli v1782 c7_i32_759
  let c3_i32_760 : BitVec 32 := 3#32
  let v1784 : BitVec 32 := Scalar.addi v1783 c3_i32_760
  let v1785 : Index := Scalar.indexCast v1784
  ![v1785.toNat]
def k0_off210 (v1702 : BitVec 32) (v1786 : BitVec 32) : Fin 3 → Nat :=
  let v1792 : Index := Scalar.indexCast v1786
  let v1703 : BitVec 32 := v1702
  let v1793 : Index := Scalar.indexCast v1703
  let c0_761 : Index := 0#32
  ![v1792.toNat, v1793.toNat, 0]

def k0_chk143 (v1702 : BitVec 32) (v1786 : BitVec 32) : Prop :=
  (∀ a, (k0_off210 v1702 v1786) a + S1x48x512.size a ≤ S64x64x512.size a)
theorem k0_off210_inb : ∀ (v1702 : BitVec 32) (v1786 : BitVec 32) (k0_hw143 : k0_chk143 v1702 v1786), ∀ a, (k0_off210 v1702 v1786) a + S1x48x512.size a ≤ S64x64x512.size a := fun v1702 v1786 k0_hw143 => k0_hw143

def k0_off211 (v1702 : BitVec 32) (v1788 : BitVec 32) : Fin 3 → Nat :=
  let v1796 : Index := Scalar.indexCast v1788
  let v1703 : BitVec 32 := v1702
  let v1797 : Index := Scalar.indexCast v1703
  let c0_762 : Index := 0#32
  ![v1796.toNat, v1797.toNat, 0]

def k0_chk144 (v1702 : BitVec 32) (v1788 : BitVec 32) : Prop :=
  (∀ a, (k0_off211 v1702 v1788) a + S1x48x512.size a ≤ S64x64x512.size a)
theorem k0_off211_inb : ∀ (v1702 : BitVec 32) (v1788 : BitVec 32) (k0_hw144 : k0_chk144 v1702 v1788), ∀ a, (k0_off211 v1702 v1788) a + S1x48x512.size a ≤ S64x64x512.size a := fun v1702 v1788 k0_hw144 => k0_hw144

def k0_off212 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_769 : BitVec 32 := 9#32
  let v1808 : BitVec 32 := Scalar.addi v5 c9_i32_769
  let c7_i32_770 : BitVec 32 := 7#32
  let v1809 : BitVec 32 := Scalar.muli v1808 c7_i32_770
  let c4_i32_771 : BitVec 32 := 4#32
  let v1810 : BitVec 32 := Scalar.addi v1809 c4_i32_771
  let v1811 : Index := Scalar.indexCast v1810
  ![v1811.toNat]
def k0_off213 (v1702 : BitVec 32) (v1812 : BitVec 32) : Fin 3 → Nat :=
  let v1818 : Index := Scalar.indexCast v1812
  let v1703 : BitVec 32 := v1702
  let v1819 : Index := Scalar.indexCast v1703
  let c0_772 : Index := 0#32
  ![v1818.toNat, v1819.toNat, 0]

def k0_chk145 (v1702 : BitVec 32) (v1812 : BitVec 32) : Prop :=
  (∀ a, (k0_off213 v1702 v1812) a + S1x48x512.size a ≤ S64x64x512.size a)
theorem k0_off213_inb : ∀ (v1702 : BitVec 32) (v1812 : BitVec 32) (k0_hw145 : k0_chk145 v1702 v1812), ∀ a, (k0_off213 v1702 v1812) a + S1x48x512.size a ≤ S64x64x512.size a := fun v1702 v1812 k0_hw145 => k0_hw145

def k0_off214 (v1702 : BitVec 32) (v1814 : BitVec 32) : Fin 3 → Nat :=
  let v1822 : Index := Scalar.indexCast v1814
  let v1703 : BitVec 32 := v1702
  let v1823 : Index := Scalar.indexCast v1703
  let c0_773 : Index := 0#32
  ![v1822.toNat, v1823.toNat, 0]

def k0_chk146 (v1702 : BitVec 32) (v1814 : BitVec 32) : Prop :=
  (∀ a, (k0_off214 v1702 v1814) a + S1x48x512.size a ≤ S64x64x512.size a)
theorem k0_off214_inb : ∀ (v1702 : BitVec 32) (v1814 : BitVec 32) (k0_hw146 : k0_chk146 v1702 v1814), ∀ a, (k0_off214 v1702 v1814) a + S1x48x512.size a ≤ S64x64x512.size a := fun v1702 v1814 k0_hw146 => k0_hw146

def k0_off215 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_780 : BitVec 32 := 9#32
  let v1834 : BitVec 32 := Scalar.addi v5 c9_i32_780
  let c7_i32_781 : BitVec 32 := 7#32
  let v1835 : BitVec 32 := Scalar.muli v1834 c7_i32_781
  let c5_i32_782 : BitVec 32 := 5#32
  let v1836 : BitVec 32 := Scalar.addi v1835 c5_i32_782
  let v1837 : Index := Scalar.indexCast v1836
  ![v1837.toNat]
def k0_off216 (v1702 : BitVec 32) (v1838 : BitVec 32) : Fin 3 → Nat :=
  let v1844 : Index := Scalar.indexCast v1838
  let v1703 : BitVec 32 := v1702
  let v1845 : Index := Scalar.indexCast v1703
  let c0_783 : Index := 0#32
  ![v1844.toNat, v1845.toNat, 0]

def k0_chk147 (v1702 : BitVec 32) (v1838 : BitVec 32) : Prop :=
  (∀ a, (k0_off216 v1702 v1838) a + S1x48x512.size a ≤ S64x64x512.size a)
theorem k0_off216_inb : ∀ (v1702 : BitVec 32) (v1838 : BitVec 32) (k0_hw147 : k0_chk147 v1702 v1838), ∀ a, (k0_off216 v1702 v1838) a + S1x48x512.size a ≤ S64x64x512.size a := fun v1702 v1838 k0_hw147 => k0_hw147

def k0_off217 (v1702 : BitVec 32) (v1840 : BitVec 32) : Fin 3 → Nat :=
  let v1848 : Index := Scalar.indexCast v1840
  let v1703 : BitVec 32 := v1702
  let v1849 : Index := Scalar.indexCast v1703
  let c0_784 : Index := 0#32
  ![v1848.toNat, v1849.toNat, 0]

def k0_chk148 (v1702 : BitVec 32) (v1840 : BitVec 32) : Prop :=
  (∀ a, (k0_off217 v1702 v1840) a + S1x48x512.size a ≤ S64x64x512.size a)
theorem k0_off217_inb : ∀ (v1702 : BitVec 32) (v1840 : BitVec 32) (k0_hw148 : k0_chk148 v1702 v1840), ∀ a, (k0_off217 v1702 v1840) a + S1x48x512.size a ≤ S64x64x512.size a := fun v1702 v1840 k0_hw148 => k0_hw148

def k0_off218 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c9_i32_791 : BitVec 32 := 9#32
  let v1860 : BitVec 32 := Scalar.addi v5 c9_i32_791
  let c7_i32_792 : BitVec 32 := 7#32
  let v1861 : BitVec 32 := Scalar.muli v1860 c7_i32_792
  let c6_i32_793 : BitVec 32 := 6#32
  let v1862 : BitVec 32 := Scalar.addi v1861 c6_i32_793
  let v1863 : Index := Scalar.indexCast v1862
  ![v1863.toNat]
def k0_off219 (v1702 : BitVec 32) (v1864 : BitVec 32) : Fin 3 → Nat :=
  let v1870 : Index := Scalar.indexCast v1864
  let v1703 : BitVec 32 := v1702
  let v1871 : Index := Scalar.indexCast v1703
  let c0_794 : Index := 0#32
  ![v1870.toNat, v1871.toNat, 0]

def k0_chk149 (v1702 : BitVec 32) (v1864 : BitVec 32) : Prop :=
  (∀ a, (k0_off219 v1702 v1864) a + S1x48x512.size a ≤ S64x64x512.size a)
theorem k0_off219_inb : ∀ (v1702 : BitVec 32) (v1864 : BitVec 32) (k0_hw149 : k0_chk149 v1702 v1864), ∀ a, (k0_off219 v1702 v1864) a + S1x48x512.size a ≤ S64x64x512.size a := fun v1702 v1864 k0_hw149 => k0_hw149

def k0_off220 (v1702 : BitVec 32) (v1866 : BitVec 32) : Fin 3 → Nat :=
  let v1874 : Index := Scalar.indexCast v1866
  let v1703 : BitVec 32 := v1702
  let v1875 : Index := Scalar.indexCast v1703
  let c0_795 : Index := 0#32
  ![v1874.toNat, v1875.toNat, 0]

def k0_chk150 (v1702 : BitVec 32) (v1866 : BitVec 32) : Prop :=
  (∀ a, (k0_off220 v1702 v1866) a + S1x48x512.size a ≤ S64x64x512.size a)
theorem k0_off220_inb : ∀ (v1702 : BitVec 32) (v1866 : BitVec 32) (k0_hw150 : k0_chk150 v1702 v1866), ∀ a, (k0_off220 v1702 v1866) a + S1x48x512.size a ≤ S64x64x512.size a := fun v1702 v1866 k0_hw150 => k0_hw150

def k0_off221 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32 : BitVec 32 := 10#32
  let v1888 : BitVec 32 := Scalar.addi v5 c10_i32
  let v1889 : Index := Scalar.indexCast v1888
  ![v1889.toNat]
def k0_mult11 (v1890 : BitVec 32) : BitVec 32 :=
  v1890

def k0_chk151 (v1890 : BitVec 32) : Prop :=
  (16 ∣ (k0_mult11 v1890).toNat)
theorem k0_mult11_dvd : ∀ (v1890 : BitVec 32) (k0_hw151 : k0_chk151 v1890), 16 ∣ (k0_mult11 v1890).toNat := fun v1890 k0_hw151 => k0_hw151

def k0_off222 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_805 : BitVec 32 := 10#32
  let v1892 : BitVec 32 := Scalar.addi v5 c10_i32_805
  let c7_i32_806 : BitVec 32 := 7#32
  let v1893 : BitVec 32 := Scalar.muli v1892 c7_i32_806
  let c0_i32_807 : BitVec 32 := 0#32
  let v1894 : BitVec 32 := Scalar.addi v1893 c0_i32_807
  let v1895 : Index := Scalar.indexCast v1894
  ![v1895.toNat]
def k0_off223 (v1890 : BitVec 32) (v1896 : BitVec 32) : Fin 3 → Nat :=
  let v1902 : Index := Scalar.indexCast v1896
  let v1891 : BitVec 32 := v1890
  let v1903 : Index := Scalar.indexCast v1891
  let c0_808 : Index := 0#32
  ![v1902.toNat, v1903.toNat, 0]

def k0_chk152 (v1890 : BitVec 32) (v1896 : BitVec 32) : Prop :=
  (∀ a, (k0_off223 v1890 v1896) a + S1x48x512.size a ≤ S64x64x512.size a)
theorem k0_off223_inb : ∀ (v1890 : BitVec 32) (v1896 : BitVec 32) (k0_hw152 : k0_chk152 v1890 v1896), ∀ a, (k0_off223 v1890 v1896) a + S1x48x512.size a ≤ S64x64x512.size a := fun v1890 v1896 k0_hw152 => k0_hw152

def k0_off224 (v1890 : BitVec 32) (v1898 : BitVec 32) : Fin 3 → Nat :=
  let v1906 : Index := Scalar.indexCast v1898
  let v1891 : BitVec 32 := v1890
  let v1907 : Index := Scalar.indexCast v1891
  let c0_809 : Index := 0#32
  ![v1906.toNat, v1907.toNat, 0]

def k0_chk153 (v1890 : BitVec 32) (v1898 : BitVec 32) : Prop :=
  (∀ a, (k0_off224 v1890 v1898) a + S1x48x512.size a ≤ S64x64x512.size a)
theorem k0_off224_inb : ∀ (v1890 : BitVec 32) (v1898 : BitVec 32) (k0_hw153 : k0_chk153 v1890 v1898), ∀ a, (k0_off224 v1890 v1898) a + S1x48x512.size a ≤ S64x64x512.size a := fun v1890 v1898 k0_hw153 => k0_hw153

def k0_off225 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_816 : BitVec 32 := 10#32
  let v1918 : BitVec 32 := Scalar.addi v5 c10_i32_816
  let c7_i32_817 : BitVec 32 := 7#32
  let v1919 : BitVec 32 := Scalar.muli v1918 c7_i32_817
  let c1_i32_818 : BitVec 32 := 1#32
  let v1920 : BitVec 32 := Scalar.addi v1919 c1_i32_818
  let v1921 : Index := Scalar.indexCast v1920
  ![v1921.toNat]
def k0_off226 (v1890 : BitVec 32) (v1922 : BitVec 32) : Fin 3 → Nat :=
  let v1928 : Index := Scalar.indexCast v1922
  let v1891 : BitVec 32 := v1890
  let v1929 : Index := Scalar.indexCast v1891
  let c0_819 : Index := 0#32
  ![v1928.toNat, v1929.toNat, 0]

def k0_chk154 (v1890 : BitVec 32) (v1922 : BitVec 32) : Prop :=
  (∀ a, (k0_off226 v1890 v1922) a + S1x48x512.size a ≤ S64x64x512.size a)
theorem k0_off226_inb : ∀ (v1890 : BitVec 32) (v1922 : BitVec 32) (k0_hw154 : k0_chk154 v1890 v1922), ∀ a, (k0_off226 v1890 v1922) a + S1x48x512.size a ≤ S64x64x512.size a := fun v1890 v1922 k0_hw154 => k0_hw154

def k0_off227 (v1890 : BitVec 32) (v1924 : BitVec 32) : Fin 3 → Nat :=
  let v1932 : Index := Scalar.indexCast v1924
  let v1891 : BitVec 32 := v1890
  let v1933 : Index := Scalar.indexCast v1891
  let c0_820 : Index := 0#32
  ![v1932.toNat, v1933.toNat, 0]

def k0_chk155 (v1890 : BitVec 32) (v1924 : BitVec 32) : Prop :=
  (∀ a, (k0_off227 v1890 v1924) a + S1x48x512.size a ≤ S64x64x512.size a)
theorem k0_off227_inb : ∀ (v1890 : BitVec 32) (v1924 : BitVec 32) (k0_hw155 : k0_chk155 v1890 v1924), ∀ a, (k0_off227 v1890 v1924) a + S1x48x512.size a ≤ S64x64x512.size a := fun v1890 v1924 k0_hw155 => k0_hw155

def k0_off228 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_827 : BitVec 32 := 10#32
  let v1944 : BitVec 32 := Scalar.addi v5 c10_i32_827
  let c7_i32_828 : BitVec 32 := 7#32
  let v1945 : BitVec 32 := Scalar.muli v1944 c7_i32_828
  let c2_i32_829 : BitVec 32 := 2#32
  let v1946 : BitVec 32 := Scalar.addi v1945 c2_i32_829
  let v1947 : Index := Scalar.indexCast v1946
  ![v1947.toNat]
def k0_off229 (v1890 : BitVec 32) (v1948 : BitVec 32) : Fin 3 → Nat :=
  let v1954 : Index := Scalar.indexCast v1948
  let v1891 : BitVec 32 := v1890
  let v1955 : Index := Scalar.indexCast v1891
  let c0_830 : Index := 0#32
  ![v1954.toNat, v1955.toNat, 0]

def k0_chk156 (v1890 : BitVec 32) (v1948 : BitVec 32) : Prop :=
  (∀ a, (k0_off229 v1890 v1948) a + S1x48x512.size a ≤ S64x64x512.size a)
theorem k0_off229_inb : ∀ (v1890 : BitVec 32) (v1948 : BitVec 32) (k0_hw156 : k0_chk156 v1890 v1948), ∀ a, (k0_off229 v1890 v1948) a + S1x48x512.size a ≤ S64x64x512.size a := fun v1890 v1948 k0_hw156 => k0_hw156

def k0_off230 (v1890 : BitVec 32) (v1950 : BitVec 32) : Fin 3 → Nat :=
  let v1958 : Index := Scalar.indexCast v1950
  let v1891 : BitVec 32 := v1890
  let v1959 : Index := Scalar.indexCast v1891
  let c0_831 : Index := 0#32
  ![v1958.toNat, v1959.toNat, 0]

def k0_chk157 (v1890 : BitVec 32) (v1950 : BitVec 32) : Prop :=
  (∀ a, (k0_off230 v1890 v1950) a + S1x48x512.size a ≤ S64x64x512.size a)
theorem k0_off230_inb : ∀ (v1890 : BitVec 32) (v1950 : BitVec 32) (k0_hw157 : k0_chk157 v1890 v1950), ∀ a, (k0_off230 v1890 v1950) a + S1x48x512.size a ≤ S64x64x512.size a := fun v1890 v1950 k0_hw157 => k0_hw157

def k0_off231 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_838 : BitVec 32 := 10#32
  let v1970 : BitVec 32 := Scalar.addi v5 c10_i32_838
  let c7_i32_839 : BitVec 32 := 7#32
  let v1971 : BitVec 32 := Scalar.muli v1970 c7_i32_839
  let c3_i32_840 : BitVec 32 := 3#32
  let v1972 : BitVec 32 := Scalar.addi v1971 c3_i32_840
  let v1973 : Index := Scalar.indexCast v1972
  ![v1973.toNat]
def k0_off232 (v1890 : BitVec 32) (v1974 : BitVec 32) : Fin 3 → Nat :=
  let v1980 : Index := Scalar.indexCast v1974
  let v1891 : BitVec 32 := v1890
  let v1981 : Index := Scalar.indexCast v1891
  let c0_841 : Index := 0#32
  ![v1980.toNat, v1981.toNat, 0]

def k0_chk158 (v1890 : BitVec 32) (v1974 : BitVec 32) : Prop :=
  (∀ a, (k0_off232 v1890 v1974) a + S1x48x512.size a ≤ S64x64x512.size a)
theorem k0_off232_inb : ∀ (v1890 : BitVec 32) (v1974 : BitVec 32) (k0_hw158 : k0_chk158 v1890 v1974), ∀ a, (k0_off232 v1890 v1974) a + S1x48x512.size a ≤ S64x64x512.size a := fun v1890 v1974 k0_hw158 => k0_hw158

def k0_off233 (v1890 : BitVec 32) (v1976 : BitVec 32) : Fin 3 → Nat :=
  let v1984 : Index := Scalar.indexCast v1976
  let v1891 : BitVec 32 := v1890
  let v1985 : Index := Scalar.indexCast v1891
  let c0_842 : Index := 0#32
  ![v1984.toNat, v1985.toNat, 0]

def k0_chk159 (v1890 : BitVec 32) (v1976 : BitVec 32) : Prop :=
  (∀ a, (k0_off233 v1890 v1976) a + S1x48x512.size a ≤ S64x64x512.size a)
theorem k0_off233_inb : ∀ (v1890 : BitVec 32) (v1976 : BitVec 32) (k0_hw159 : k0_chk159 v1890 v1976), ∀ a, (k0_off233 v1890 v1976) a + S1x48x512.size a ≤ S64x64x512.size a := fun v1890 v1976 k0_hw159 => k0_hw159

def k0_off234 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_849 : BitVec 32 := 10#32
  let v1996 : BitVec 32 := Scalar.addi v5 c10_i32_849
  let c7_i32_850 : BitVec 32 := 7#32
  let v1997 : BitVec 32 := Scalar.muli v1996 c7_i32_850
  let c4_i32_851 : BitVec 32 := 4#32
  let v1998 : BitVec 32 := Scalar.addi v1997 c4_i32_851
  let v1999 : Index := Scalar.indexCast v1998
  ![v1999.toNat]
def k0_off235 (v1890 : BitVec 32) (v2000 : BitVec 32) : Fin 3 → Nat :=
  let v2006 : Index := Scalar.indexCast v2000
  let v1891 : BitVec 32 := v1890
  let v2007 : Index := Scalar.indexCast v1891
  let c0_852 : Index := 0#32
  ![v2006.toNat, v2007.toNat, 0]

def k0_chk160 (v1890 : BitVec 32) (v2000 : BitVec 32) : Prop :=
  (∀ a, (k0_off235 v1890 v2000) a + S1x48x512.size a ≤ S64x64x512.size a)
theorem k0_off235_inb : ∀ (v1890 : BitVec 32) (v2000 : BitVec 32) (k0_hw160 : k0_chk160 v1890 v2000), ∀ a, (k0_off235 v1890 v2000) a + S1x48x512.size a ≤ S64x64x512.size a := fun v1890 v2000 k0_hw160 => k0_hw160

def k0_off236 (v1890 : BitVec 32) (v2002 : BitVec 32) : Fin 3 → Nat :=
  let v2010 : Index := Scalar.indexCast v2002
  let v1891 : BitVec 32 := v1890
  let v2011 : Index := Scalar.indexCast v1891
  let c0_853 : Index := 0#32
  ![v2010.toNat, v2011.toNat, 0]

def k0_chk161 (v1890 : BitVec 32) (v2002 : BitVec 32) : Prop :=
  (∀ a, (k0_off236 v1890 v2002) a + S1x48x512.size a ≤ S64x64x512.size a)
theorem k0_off236_inb : ∀ (v1890 : BitVec 32) (v2002 : BitVec 32) (k0_hw161 : k0_chk161 v1890 v2002), ∀ a, (k0_off236 v1890 v2002) a + S1x48x512.size a ≤ S64x64x512.size a := fun v1890 v2002 k0_hw161 => k0_hw161

def k0_off237 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_860 : BitVec 32 := 10#32
  let v2022 : BitVec 32 := Scalar.addi v5 c10_i32_860
  let c7_i32_861 : BitVec 32 := 7#32
  let v2023 : BitVec 32 := Scalar.muli v2022 c7_i32_861
  let c5_i32_862 : BitVec 32 := 5#32
  let v2024 : BitVec 32 := Scalar.addi v2023 c5_i32_862
  let v2025 : Index := Scalar.indexCast v2024
  ![v2025.toNat]
def k0_off238 (v1890 : BitVec 32) (v2026 : BitVec 32) : Fin 3 → Nat :=
  let v2032 : Index := Scalar.indexCast v2026
  let v1891 : BitVec 32 := v1890
  let v2033 : Index := Scalar.indexCast v1891
  let c0_863 : Index := 0#32
  ![v2032.toNat, v2033.toNat, 0]

def k0_chk162 (v1890 : BitVec 32) (v2026 : BitVec 32) : Prop :=
  (∀ a, (k0_off238 v1890 v2026) a + S1x48x512.size a ≤ S64x64x512.size a)
theorem k0_off238_inb : ∀ (v1890 : BitVec 32) (v2026 : BitVec 32) (k0_hw162 : k0_chk162 v1890 v2026), ∀ a, (k0_off238 v1890 v2026) a + S1x48x512.size a ≤ S64x64x512.size a := fun v1890 v2026 k0_hw162 => k0_hw162

def k0_off239 (v1890 : BitVec 32) (v2028 : BitVec 32) : Fin 3 → Nat :=
  let v2036 : Index := Scalar.indexCast v2028
  let v1891 : BitVec 32 := v1890
  let v2037 : Index := Scalar.indexCast v1891
  let c0_864 : Index := 0#32
  ![v2036.toNat, v2037.toNat, 0]

def k0_chk163 (v1890 : BitVec 32) (v2028 : BitVec 32) : Prop :=
  (∀ a, (k0_off239 v1890 v2028) a + S1x48x512.size a ≤ S64x64x512.size a)
theorem k0_off239_inb : ∀ (v1890 : BitVec 32) (v2028 : BitVec 32) (k0_hw163 : k0_chk163 v1890 v2028), ∀ a, (k0_off239 v1890 v2028) a + S1x48x512.size a ≤ S64x64x512.size a := fun v1890 v2028 k0_hw163 => k0_hw163

def k0_off240 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c10_i32_871 : BitVec 32 := 10#32
  let v2048 : BitVec 32 := Scalar.addi v5 c10_i32_871
  let c7_i32_872 : BitVec 32 := 7#32
  let v2049 : BitVec 32 := Scalar.muli v2048 c7_i32_872
  let c6_i32_873 : BitVec 32 := 6#32
  let v2050 : BitVec 32 := Scalar.addi v2049 c6_i32_873
  let v2051 : Index := Scalar.indexCast v2050
  ![v2051.toNat]
def k0_off241 (v1890 : BitVec 32) (v2052 : BitVec 32) : Fin 3 → Nat :=
  let v2058 : Index := Scalar.indexCast v2052
  let v1891 : BitVec 32 := v1890
  let v2059 : Index := Scalar.indexCast v1891
  let c0_874 : Index := 0#32
  ![v2058.toNat, v2059.toNat, 0]

def k0_chk164 (v1890 : BitVec 32) (v2052 : BitVec 32) : Prop :=
  (∀ a, (k0_off241 v1890 v2052) a + S1x48x512.size a ≤ S64x64x512.size a)
theorem k0_off241_inb : ∀ (v1890 : BitVec 32) (v2052 : BitVec 32) (k0_hw164 : k0_chk164 v1890 v2052), ∀ a, (k0_off241 v1890 v2052) a + S1x48x512.size a ≤ S64x64x512.size a := fun v1890 v2052 k0_hw164 => k0_hw164

def k0_off242 (v1890 : BitVec 32) (v2054 : BitVec 32) : Fin 3 → Nat :=
  let v2062 : Index := Scalar.indexCast v2054
  let v1891 : BitVec 32 := v1890
  let v2063 : Index := Scalar.indexCast v1891
  let c0_875 : Index := 0#32
  ![v2062.toNat, v2063.toNat, 0]

def k0_chk165 (v1890 : BitVec 32) (v2054 : BitVec 32) : Prop :=
  (∀ a, (k0_off242 v1890 v2054) a + S1x48x512.size a ≤ S64x64x512.size a)
theorem k0_off242_inb : ∀ (v1890 : BitVec 32) (v2054 : BitVec 32) (k0_hw165 : k0_chk165 v1890 v2054), ∀ a, (k0_off242 v1890 v2054) a + S1x48x512.size a ≤ S64x64x512.size a := fun v1890 v2054 k0_hw165 => k0_hw165

def k0_off243 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32 : BitVec 32 := 11#32
  let v2076 : BitVec 32 := Scalar.addi v5 c11_i32
  let v2077 : Index := Scalar.indexCast v2076
  ![v2077.toNat]
def k0_mult12 (v2078 : BitVec 32) : BitVec 32 :=
  v2078

def k0_chk166 (v2078 : BitVec 32) : Prop :=
  (16 ∣ (k0_mult12 v2078).toNat)
theorem k0_mult12_dvd : ∀ (v2078 : BitVec 32) (k0_hw166 : k0_chk166 v2078), 16 ∣ (k0_mult12 v2078).toNat := fun v2078 k0_hw166 => k0_hw166

def k0_off244 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_885 : BitVec 32 := 11#32
  let v2080 : BitVec 32 := Scalar.addi v5 c11_i32_885
  let c7_i32_886 : BitVec 32 := 7#32
  let v2081 : BitVec 32 := Scalar.muli v2080 c7_i32_886
  let c0_i32_887 : BitVec 32 := 0#32
  let v2082 : BitVec 32 := Scalar.addi v2081 c0_i32_887
  let v2083 : Index := Scalar.indexCast v2082
  ![v2083.toNat]
def k0_off245 (v2078 : BitVec 32) (v2084 : BitVec 32) : Fin 3 → Nat :=
  let v2090 : Index := Scalar.indexCast v2084
  let v2079 : BitVec 32 := v2078
  let v2091 : Index := Scalar.indexCast v2079
  let c0_888 : Index := 0#32
  ![v2090.toNat, v2091.toNat, 0]

def k0_chk167 (v2078 : BitVec 32) (v2084 : BitVec 32) : Prop :=
  (∀ a, (k0_off245 v2078 v2084) a + S1x48x512.size a ≤ S64x64x512.size a)
theorem k0_off245_inb : ∀ (v2078 : BitVec 32) (v2084 : BitVec 32) (k0_hw167 : k0_chk167 v2078 v2084), ∀ a, (k0_off245 v2078 v2084) a + S1x48x512.size a ≤ S64x64x512.size a := fun v2078 v2084 k0_hw167 => k0_hw167

def k0_off246 (v2078 : BitVec 32) (v2086 : BitVec 32) : Fin 3 → Nat :=
  let v2094 : Index := Scalar.indexCast v2086
  let v2079 : BitVec 32 := v2078
  let v2095 : Index := Scalar.indexCast v2079
  let c0_889 : Index := 0#32
  ![v2094.toNat, v2095.toNat, 0]

def k0_chk168 (v2078 : BitVec 32) (v2086 : BitVec 32) : Prop :=
  (∀ a, (k0_off246 v2078 v2086) a + S1x48x512.size a ≤ S64x64x512.size a)
theorem k0_off246_inb : ∀ (v2078 : BitVec 32) (v2086 : BitVec 32) (k0_hw168 : k0_chk168 v2078 v2086), ∀ a, (k0_off246 v2078 v2086) a + S1x48x512.size a ≤ S64x64x512.size a := fun v2078 v2086 k0_hw168 => k0_hw168

def k0_off247 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_896 : BitVec 32 := 11#32
  let v2106 : BitVec 32 := Scalar.addi v5 c11_i32_896
  let c7_i32_897 : BitVec 32 := 7#32
  let v2107 : BitVec 32 := Scalar.muli v2106 c7_i32_897
  let c1_i32_898 : BitVec 32 := 1#32
  let v2108 : BitVec 32 := Scalar.addi v2107 c1_i32_898
  let v2109 : Index := Scalar.indexCast v2108
  ![v2109.toNat]
def k0_off248 (v2078 : BitVec 32) (v2110 : BitVec 32) : Fin 3 → Nat :=
  let v2116 : Index := Scalar.indexCast v2110
  let v2079 : BitVec 32 := v2078
  let v2117 : Index := Scalar.indexCast v2079
  let c0_899 : Index := 0#32
  ![v2116.toNat, v2117.toNat, 0]

def k0_chk169 (v2078 : BitVec 32) (v2110 : BitVec 32) : Prop :=
  (∀ a, (k0_off248 v2078 v2110) a + S1x48x512.size a ≤ S64x64x512.size a)
theorem k0_off248_inb : ∀ (v2078 : BitVec 32) (v2110 : BitVec 32) (k0_hw169 : k0_chk169 v2078 v2110), ∀ a, (k0_off248 v2078 v2110) a + S1x48x512.size a ≤ S64x64x512.size a := fun v2078 v2110 k0_hw169 => k0_hw169

def k0_off249 (v2078 : BitVec 32) (v2112 : BitVec 32) : Fin 3 → Nat :=
  let v2120 : Index := Scalar.indexCast v2112
  let v2079 : BitVec 32 := v2078
  let v2121 : Index := Scalar.indexCast v2079
  let c0_900 : Index := 0#32
  ![v2120.toNat, v2121.toNat, 0]

def k0_chk170 (v2078 : BitVec 32) (v2112 : BitVec 32) : Prop :=
  (∀ a, (k0_off249 v2078 v2112) a + S1x48x512.size a ≤ S64x64x512.size a)
theorem k0_off249_inb : ∀ (v2078 : BitVec 32) (v2112 : BitVec 32) (k0_hw170 : k0_chk170 v2078 v2112), ∀ a, (k0_off249 v2078 v2112) a + S1x48x512.size a ≤ S64x64x512.size a := fun v2078 v2112 k0_hw170 => k0_hw170

def k0_off250 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_907 : BitVec 32 := 11#32
  let v2132 : BitVec 32 := Scalar.addi v5 c11_i32_907
  let c7_i32_908 : BitVec 32 := 7#32
  let v2133 : BitVec 32 := Scalar.muli v2132 c7_i32_908
  let c2_i32_909 : BitVec 32 := 2#32
  let v2134 : BitVec 32 := Scalar.addi v2133 c2_i32_909
  let v2135 : Index := Scalar.indexCast v2134
  ![v2135.toNat]
def k0_off251 (v2078 : BitVec 32) (v2136 : BitVec 32) : Fin 3 → Nat :=
  let v2142 : Index := Scalar.indexCast v2136
  let v2079 : BitVec 32 := v2078
  let v2143 : Index := Scalar.indexCast v2079
  let c0_910 : Index := 0#32
  ![v2142.toNat, v2143.toNat, 0]

def k0_chk171 (v2078 : BitVec 32) (v2136 : BitVec 32) : Prop :=
  (∀ a, (k0_off251 v2078 v2136) a + S1x48x512.size a ≤ S64x64x512.size a)
theorem k0_off251_inb : ∀ (v2078 : BitVec 32) (v2136 : BitVec 32) (k0_hw171 : k0_chk171 v2078 v2136), ∀ a, (k0_off251 v2078 v2136) a + S1x48x512.size a ≤ S64x64x512.size a := fun v2078 v2136 k0_hw171 => k0_hw171

def k0_off252 (v2078 : BitVec 32) (v2138 : BitVec 32) : Fin 3 → Nat :=
  let v2146 : Index := Scalar.indexCast v2138
  let v2079 : BitVec 32 := v2078
  let v2147 : Index := Scalar.indexCast v2079
  let c0_911 : Index := 0#32
  ![v2146.toNat, v2147.toNat, 0]

def k0_chk172 (v2078 : BitVec 32) (v2138 : BitVec 32) : Prop :=
  (∀ a, (k0_off252 v2078 v2138) a + S1x48x512.size a ≤ S64x64x512.size a)
theorem k0_off252_inb : ∀ (v2078 : BitVec 32) (v2138 : BitVec 32) (k0_hw172 : k0_chk172 v2078 v2138), ∀ a, (k0_off252 v2078 v2138) a + S1x48x512.size a ≤ S64x64x512.size a := fun v2078 v2138 k0_hw172 => k0_hw172

def k0_off253 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_918 : BitVec 32 := 11#32
  let v2158 : BitVec 32 := Scalar.addi v5 c11_i32_918
  let c7_i32_919 : BitVec 32 := 7#32
  let v2159 : BitVec 32 := Scalar.muli v2158 c7_i32_919
  let c3_i32_920 : BitVec 32 := 3#32
  let v2160 : BitVec 32 := Scalar.addi v2159 c3_i32_920
  let v2161 : Index := Scalar.indexCast v2160
  ![v2161.toNat]
def k0_off254 (v2078 : BitVec 32) (v2162 : BitVec 32) : Fin 3 → Nat :=
  let v2168 : Index := Scalar.indexCast v2162
  let v2079 : BitVec 32 := v2078
  let v2169 : Index := Scalar.indexCast v2079
  let c0_921 : Index := 0#32
  ![v2168.toNat, v2169.toNat, 0]

def k0_chk173 (v2078 : BitVec 32) (v2162 : BitVec 32) : Prop :=
  (∀ a, (k0_off254 v2078 v2162) a + S1x48x512.size a ≤ S64x64x512.size a)
theorem k0_off254_inb : ∀ (v2078 : BitVec 32) (v2162 : BitVec 32) (k0_hw173 : k0_chk173 v2078 v2162), ∀ a, (k0_off254 v2078 v2162) a + S1x48x512.size a ≤ S64x64x512.size a := fun v2078 v2162 k0_hw173 => k0_hw173

def k0_off255 (v2078 : BitVec 32) (v2164 : BitVec 32) : Fin 3 → Nat :=
  let v2172 : Index := Scalar.indexCast v2164
  let v2079 : BitVec 32 := v2078
  let v2173 : Index := Scalar.indexCast v2079
  let c0_922 : Index := 0#32
  ![v2172.toNat, v2173.toNat, 0]

def k0_chk174 (v2078 : BitVec 32) (v2164 : BitVec 32) : Prop :=
  (∀ a, (k0_off255 v2078 v2164) a + S1x48x512.size a ≤ S64x64x512.size a)
theorem k0_off255_inb : ∀ (v2078 : BitVec 32) (v2164 : BitVec 32) (k0_hw174 : k0_chk174 v2078 v2164), ∀ a, (k0_off255 v2078 v2164) a + S1x48x512.size a ≤ S64x64x512.size a := fun v2078 v2164 k0_hw174 => k0_hw174

def k0_off256 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_929 : BitVec 32 := 11#32
  let v2184 : BitVec 32 := Scalar.addi v5 c11_i32_929
  let c7_i32_930 : BitVec 32 := 7#32
  let v2185 : BitVec 32 := Scalar.muli v2184 c7_i32_930
  let c4_i32_931 : BitVec 32 := 4#32
  let v2186 : BitVec 32 := Scalar.addi v2185 c4_i32_931
  let v2187 : Index := Scalar.indexCast v2186
  ![v2187.toNat]
def k0_off257 (v2078 : BitVec 32) (v2188 : BitVec 32) : Fin 3 → Nat :=
  let v2194 : Index := Scalar.indexCast v2188
  let v2079 : BitVec 32 := v2078
  let v2195 : Index := Scalar.indexCast v2079
  let c0_932 : Index := 0#32
  ![v2194.toNat, v2195.toNat, 0]

def k0_chk175 (v2078 : BitVec 32) (v2188 : BitVec 32) : Prop :=
  (∀ a, (k0_off257 v2078 v2188) a + S1x48x512.size a ≤ S64x64x512.size a)
theorem k0_off257_inb : ∀ (v2078 : BitVec 32) (v2188 : BitVec 32) (k0_hw175 : k0_chk175 v2078 v2188), ∀ a, (k0_off257 v2078 v2188) a + S1x48x512.size a ≤ S64x64x512.size a := fun v2078 v2188 k0_hw175 => k0_hw175

def k0_off258 (v2078 : BitVec 32) (v2190 : BitVec 32) : Fin 3 → Nat :=
  let v2198 : Index := Scalar.indexCast v2190
  let v2079 : BitVec 32 := v2078
  let v2199 : Index := Scalar.indexCast v2079
  let c0_933 : Index := 0#32
  ![v2198.toNat, v2199.toNat, 0]

def k0_chk176 (v2078 : BitVec 32) (v2190 : BitVec 32) : Prop :=
  (∀ a, (k0_off258 v2078 v2190) a + S1x48x512.size a ≤ S64x64x512.size a)
theorem k0_off258_inb : ∀ (v2078 : BitVec 32) (v2190 : BitVec 32) (k0_hw176 : k0_chk176 v2078 v2190), ∀ a, (k0_off258 v2078 v2190) a + S1x48x512.size a ≤ S64x64x512.size a := fun v2078 v2190 k0_hw176 => k0_hw176

def k0_off259 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_940 : BitVec 32 := 11#32
  let v2210 : BitVec 32 := Scalar.addi v5 c11_i32_940
  let c7_i32_941 : BitVec 32 := 7#32
  let v2211 : BitVec 32 := Scalar.muli v2210 c7_i32_941
  let c5_i32_942 : BitVec 32 := 5#32
  let v2212 : BitVec 32 := Scalar.addi v2211 c5_i32_942
  let v2213 : Index := Scalar.indexCast v2212
  ![v2213.toNat]
def k0_off260 (v2078 : BitVec 32) (v2214 : BitVec 32) : Fin 3 → Nat :=
  let v2220 : Index := Scalar.indexCast v2214
  let v2079 : BitVec 32 := v2078
  let v2221 : Index := Scalar.indexCast v2079
  let c0_943 : Index := 0#32
  ![v2220.toNat, v2221.toNat, 0]

def k0_chk177 (v2078 : BitVec 32) (v2214 : BitVec 32) : Prop :=
  (∀ a, (k0_off260 v2078 v2214) a + S1x48x512.size a ≤ S64x64x512.size a)
theorem k0_off260_inb : ∀ (v2078 : BitVec 32) (v2214 : BitVec 32) (k0_hw177 : k0_chk177 v2078 v2214), ∀ a, (k0_off260 v2078 v2214) a + S1x48x512.size a ≤ S64x64x512.size a := fun v2078 v2214 k0_hw177 => k0_hw177

def k0_off261 (v2078 : BitVec 32) (v2216 : BitVec 32) : Fin 3 → Nat :=
  let v2224 : Index := Scalar.indexCast v2216
  let v2079 : BitVec 32 := v2078
  let v2225 : Index := Scalar.indexCast v2079
  let c0_944 : Index := 0#32
  ![v2224.toNat, v2225.toNat, 0]

def k0_chk178 (v2078 : BitVec 32) (v2216 : BitVec 32) : Prop :=
  (∀ a, (k0_off261 v2078 v2216) a + S1x48x512.size a ≤ S64x64x512.size a)
theorem k0_off261_inb : ∀ (v2078 : BitVec 32) (v2216 : BitVec 32) (k0_hw178 : k0_chk178 v2078 v2216), ∀ a, (k0_off261 v2078 v2216) a + S1x48x512.size a ≤ S64x64x512.size a := fun v2078 v2216 k0_hw178 => k0_hw178

def k0_off262 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c11_i32_951 : BitVec 32 := 11#32
  let v2236 : BitVec 32 := Scalar.addi v5 c11_i32_951
  let c7_i32_952 : BitVec 32 := 7#32
  let v2237 : BitVec 32 := Scalar.muli v2236 c7_i32_952
  let c6_i32_953 : BitVec 32 := 6#32
  let v2238 : BitVec 32 := Scalar.addi v2237 c6_i32_953
  let v2239 : Index := Scalar.indexCast v2238
  ![v2239.toNat]
def k0_off263 (v2078 : BitVec 32) (v2240 : BitVec 32) : Fin 3 → Nat :=
  let v2246 : Index := Scalar.indexCast v2240
  let v2079 : BitVec 32 := v2078
  let v2247 : Index := Scalar.indexCast v2079
  let c0_954 : Index := 0#32
  ![v2246.toNat, v2247.toNat, 0]

def k0_chk179 (v2078 : BitVec 32) (v2240 : BitVec 32) : Prop :=
  (∀ a, (k0_off263 v2078 v2240) a + S1x48x512.size a ≤ S64x64x512.size a)
theorem k0_off263_inb : ∀ (v2078 : BitVec 32) (v2240 : BitVec 32) (k0_hw179 : k0_chk179 v2078 v2240), ∀ a, (k0_off263 v2078 v2240) a + S1x48x512.size a ≤ S64x64x512.size a := fun v2078 v2240 k0_hw179 => k0_hw179

def k0_off264 (v2078 : BitVec 32) (v2242 : BitVec 32) : Fin 3 → Nat :=
  let v2250 : Index := Scalar.indexCast v2242
  let v2079 : BitVec 32 := v2078
  let v2251 : Index := Scalar.indexCast v2079
  let c0_955 : Index := 0#32
  ![v2250.toNat, v2251.toNat, 0]

def k0_chk180 (v2078 : BitVec 32) (v2242 : BitVec 32) : Prop :=
  (∀ a, (k0_off264 v2078 v2242) a + S1x48x512.size a ≤ S64x64x512.size a)
theorem k0_off264_inb : ∀ (v2078 : BitVec 32) (v2242 : BitVec 32) (k0_hw180 : k0_chk180 v2078 v2242), ∀ a, (k0_off264 v2078 v2242) a + S1x48x512.size a ≤ S64x64x512.size a := fun v2078 v2242 k0_hw180 => k0_hw180

def k0_off265 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32 : BitVec 32 := 12#32
  let v2264 : BitVec 32 := Scalar.addi v5 c12_i32
  let v2265 : Index := Scalar.indexCast v2264
  ![v2265.toNat]
def k0_mult13 (v2266 : BitVec 32) : BitVec 32 :=
  v2266

def k0_chk181 (v2266 : BitVec 32) : Prop :=
  (16 ∣ (k0_mult13 v2266).toNat)
theorem k0_mult13_dvd : ∀ (v2266 : BitVec 32) (k0_hw181 : k0_chk181 v2266), 16 ∣ (k0_mult13 v2266).toNat := fun v2266 k0_hw181 => k0_hw181

def k0_off266 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_965 : BitVec 32 := 12#32
  let v2268 : BitVec 32 := Scalar.addi v5 c12_i32_965
  let c7_i32_966 : BitVec 32 := 7#32
  let v2269 : BitVec 32 := Scalar.muli v2268 c7_i32_966
  let c0_i32_967 : BitVec 32 := 0#32
  let v2270 : BitVec 32 := Scalar.addi v2269 c0_i32_967
  let v2271 : Index := Scalar.indexCast v2270
  ![v2271.toNat]
def k0_off267 (v2266 : BitVec 32) (v2272 : BitVec 32) : Fin 3 → Nat :=
  let v2278 : Index := Scalar.indexCast v2272
  let v2267 : BitVec 32 := v2266
  let v2279 : Index := Scalar.indexCast v2267
  let c0_968 : Index := 0#32
  ![v2278.toNat, v2279.toNat, 0]

def k0_chk182 (v2266 : BitVec 32) (v2272 : BitVec 32) : Prop :=
  (∀ a, (k0_off267 v2266 v2272) a + S1x48x512.size a ≤ S64x64x512.size a)
theorem k0_off267_inb : ∀ (v2266 : BitVec 32) (v2272 : BitVec 32) (k0_hw182 : k0_chk182 v2266 v2272), ∀ a, (k0_off267 v2266 v2272) a + S1x48x512.size a ≤ S64x64x512.size a := fun v2266 v2272 k0_hw182 => k0_hw182

def k0_off268 (v2266 : BitVec 32) (v2274 : BitVec 32) : Fin 3 → Nat :=
  let v2282 : Index := Scalar.indexCast v2274
  let v2267 : BitVec 32 := v2266
  let v2283 : Index := Scalar.indexCast v2267
  let c0_969 : Index := 0#32
  ![v2282.toNat, v2283.toNat, 0]

def k0_chk183 (v2266 : BitVec 32) (v2274 : BitVec 32) : Prop :=
  (∀ a, (k0_off268 v2266 v2274) a + S1x48x512.size a ≤ S64x64x512.size a)
theorem k0_off268_inb : ∀ (v2266 : BitVec 32) (v2274 : BitVec 32) (k0_hw183 : k0_chk183 v2266 v2274), ∀ a, (k0_off268 v2266 v2274) a + S1x48x512.size a ≤ S64x64x512.size a := fun v2266 v2274 k0_hw183 => k0_hw183

def k0_off269 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_976 : BitVec 32 := 12#32
  let v2294 : BitVec 32 := Scalar.addi v5 c12_i32_976
  let c7_i32_977 : BitVec 32 := 7#32
  let v2295 : BitVec 32 := Scalar.muli v2294 c7_i32_977
  let c1_i32_978 : BitVec 32 := 1#32
  let v2296 : BitVec 32 := Scalar.addi v2295 c1_i32_978
  let v2297 : Index := Scalar.indexCast v2296
  ![v2297.toNat]
def k0_off270 (v2266 : BitVec 32) (v2298 : BitVec 32) : Fin 3 → Nat :=
  let v2304 : Index := Scalar.indexCast v2298
  let v2267 : BitVec 32 := v2266
  let v2305 : Index := Scalar.indexCast v2267
  let c0_979 : Index := 0#32
  ![v2304.toNat, v2305.toNat, 0]

def k0_chk184 (v2266 : BitVec 32) (v2298 : BitVec 32) : Prop :=
  (∀ a, (k0_off270 v2266 v2298) a + S1x48x512.size a ≤ S64x64x512.size a)
theorem k0_off270_inb : ∀ (v2266 : BitVec 32) (v2298 : BitVec 32) (k0_hw184 : k0_chk184 v2266 v2298), ∀ a, (k0_off270 v2266 v2298) a + S1x48x512.size a ≤ S64x64x512.size a := fun v2266 v2298 k0_hw184 => k0_hw184

def k0_off271 (v2266 : BitVec 32) (v2300 : BitVec 32) : Fin 3 → Nat :=
  let v2308 : Index := Scalar.indexCast v2300
  let v2267 : BitVec 32 := v2266
  let v2309 : Index := Scalar.indexCast v2267
  let c0_980 : Index := 0#32
  ![v2308.toNat, v2309.toNat, 0]

def k0_chk185 (v2266 : BitVec 32) (v2300 : BitVec 32) : Prop :=
  (∀ a, (k0_off271 v2266 v2300) a + S1x48x512.size a ≤ S64x64x512.size a)
theorem k0_off271_inb : ∀ (v2266 : BitVec 32) (v2300 : BitVec 32) (k0_hw185 : k0_chk185 v2266 v2300), ∀ a, (k0_off271 v2266 v2300) a + S1x48x512.size a ≤ S64x64x512.size a := fun v2266 v2300 k0_hw185 => k0_hw185

def k0_off272 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_987 : BitVec 32 := 12#32
  let v2320 : BitVec 32 := Scalar.addi v5 c12_i32_987
  let c7_i32_988 : BitVec 32 := 7#32
  let v2321 : BitVec 32 := Scalar.muli v2320 c7_i32_988
  let c2_i32_989 : BitVec 32 := 2#32
  let v2322 : BitVec 32 := Scalar.addi v2321 c2_i32_989
  let v2323 : Index := Scalar.indexCast v2322
  ![v2323.toNat]
def k0_off273 (v2266 : BitVec 32) (v2324 : BitVec 32) : Fin 3 → Nat :=
  let v2330 : Index := Scalar.indexCast v2324
  let v2267 : BitVec 32 := v2266
  let v2331 : Index := Scalar.indexCast v2267
  let c0_990 : Index := 0#32
  ![v2330.toNat, v2331.toNat, 0]

def k0_chk186 (v2266 : BitVec 32) (v2324 : BitVec 32) : Prop :=
  (∀ a, (k0_off273 v2266 v2324) a + S1x48x512.size a ≤ S64x64x512.size a)
theorem k0_off273_inb : ∀ (v2266 : BitVec 32) (v2324 : BitVec 32) (k0_hw186 : k0_chk186 v2266 v2324), ∀ a, (k0_off273 v2266 v2324) a + S1x48x512.size a ≤ S64x64x512.size a := fun v2266 v2324 k0_hw186 => k0_hw186

def k0_off274 (v2266 : BitVec 32) (v2326 : BitVec 32) : Fin 3 → Nat :=
  let v2334 : Index := Scalar.indexCast v2326
  let v2267 : BitVec 32 := v2266
  let v2335 : Index := Scalar.indexCast v2267
  let c0_991 : Index := 0#32
  ![v2334.toNat, v2335.toNat, 0]

def k0_chk187 (v2266 : BitVec 32) (v2326 : BitVec 32) : Prop :=
  (∀ a, (k0_off274 v2266 v2326) a + S1x48x512.size a ≤ S64x64x512.size a)
theorem k0_off274_inb : ∀ (v2266 : BitVec 32) (v2326 : BitVec 32) (k0_hw187 : k0_chk187 v2266 v2326), ∀ a, (k0_off274 v2266 v2326) a + S1x48x512.size a ≤ S64x64x512.size a := fun v2266 v2326 k0_hw187 => k0_hw187

def k0_off275 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_998 : BitVec 32 := 12#32
  let v2346 : BitVec 32 := Scalar.addi v5 c12_i32_998
  let c7_i32_999 : BitVec 32 := 7#32
  let v2347 : BitVec 32 := Scalar.muli v2346 c7_i32_999
  let c3_i32_1000 : BitVec 32 := 3#32
  let v2348 : BitVec 32 := Scalar.addi v2347 c3_i32_1000
  let v2349 : Index := Scalar.indexCast v2348
  ![v2349.toNat]
def k0_off276 (v2266 : BitVec 32) (v2350 : BitVec 32) : Fin 3 → Nat :=
  let v2356 : Index := Scalar.indexCast v2350
  let v2267 : BitVec 32 := v2266
  let v2357 : Index := Scalar.indexCast v2267
  let c0_1001 : Index := 0#32
  ![v2356.toNat, v2357.toNat, 0]

def k0_chk188 (v2266 : BitVec 32) (v2350 : BitVec 32) : Prop :=
  (∀ a, (k0_off276 v2266 v2350) a + S1x48x512.size a ≤ S64x64x512.size a)
theorem k0_off276_inb : ∀ (v2266 : BitVec 32) (v2350 : BitVec 32) (k0_hw188 : k0_chk188 v2266 v2350), ∀ a, (k0_off276 v2266 v2350) a + S1x48x512.size a ≤ S64x64x512.size a := fun v2266 v2350 k0_hw188 => k0_hw188

def k0_off277 (v2266 : BitVec 32) (v2352 : BitVec 32) : Fin 3 → Nat :=
  let v2360 : Index := Scalar.indexCast v2352
  let v2267 : BitVec 32 := v2266
  let v2361 : Index := Scalar.indexCast v2267
  let c0_1002 : Index := 0#32
  ![v2360.toNat, v2361.toNat, 0]

def k0_chk189 (v2266 : BitVec 32) (v2352 : BitVec 32) : Prop :=
  (∀ a, (k0_off277 v2266 v2352) a + S1x48x512.size a ≤ S64x64x512.size a)
theorem k0_off277_inb : ∀ (v2266 : BitVec 32) (v2352 : BitVec 32) (k0_hw189 : k0_chk189 v2266 v2352), ∀ a, (k0_off277 v2266 v2352) a + S1x48x512.size a ≤ S64x64x512.size a := fun v2266 v2352 k0_hw189 => k0_hw189

def k0_off278 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_1009 : BitVec 32 := 12#32
  let v2372 : BitVec 32 := Scalar.addi v5 c12_i32_1009
  let c7_i32_1010 : BitVec 32 := 7#32
  let v2373 : BitVec 32 := Scalar.muli v2372 c7_i32_1010
  let c4_i32_1011 : BitVec 32 := 4#32
  let v2374 : BitVec 32 := Scalar.addi v2373 c4_i32_1011
  let v2375 : Index := Scalar.indexCast v2374
  ![v2375.toNat]
def k0_off279 (v2266 : BitVec 32) (v2376 : BitVec 32) : Fin 3 → Nat :=
  let v2382 : Index := Scalar.indexCast v2376
  let v2267 : BitVec 32 := v2266
  let v2383 : Index := Scalar.indexCast v2267
  let c0_1012 : Index := 0#32
  ![v2382.toNat, v2383.toNat, 0]

def k0_chk190 (v2266 : BitVec 32) (v2376 : BitVec 32) : Prop :=
  (∀ a, (k0_off279 v2266 v2376) a + S1x48x512.size a ≤ S64x64x512.size a)
theorem k0_off279_inb : ∀ (v2266 : BitVec 32) (v2376 : BitVec 32) (k0_hw190 : k0_chk190 v2266 v2376), ∀ a, (k0_off279 v2266 v2376) a + S1x48x512.size a ≤ S64x64x512.size a := fun v2266 v2376 k0_hw190 => k0_hw190

def k0_off280 (v2266 : BitVec 32) (v2378 : BitVec 32) : Fin 3 → Nat :=
  let v2386 : Index := Scalar.indexCast v2378
  let v2267 : BitVec 32 := v2266
  let v2387 : Index := Scalar.indexCast v2267
  let c0_1013 : Index := 0#32
  ![v2386.toNat, v2387.toNat, 0]

def k0_chk191 (v2266 : BitVec 32) (v2378 : BitVec 32) : Prop :=
  (∀ a, (k0_off280 v2266 v2378) a + S1x48x512.size a ≤ S64x64x512.size a)
theorem k0_off280_inb : ∀ (v2266 : BitVec 32) (v2378 : BitVec 32) (k0_hw191 : k0_chk191 v2266 v2378), ∀ a, (k0_off280 v2266 v2378) a + S1x48x512.size a ≤ S64x64x512.size a := fun v2266 v2378 k0_hw191 => k0_hw191

def k0_off281 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_1020 : BitVec 32 := 12#32
  let v2398 : BitVec 32 := Scalar.addi v5 c12_i32_1020
  let c7_i32_1021 : BitVec 32 := 7#32
  let v2399 : BitVec 32 := Scalar.muli v2398 c7_i32_1021
  let c5_i32_1022 : BitVec 32 := 5#32
  let v2400 : BitVec 32 := Scalar.addi v2399 c5_i32_1022
  let v2401 : Index := Scalar.indexCast v2400
  ![v2401.toNat]
def k0_off282 (v2266 : BitVec 32) (v2402 : BitVec 32) : Fin 3 → Nat :=
  let v2408 : Index := Scalar.indexCast v2402
  let v2267 : BitVec 32 := v2266
  let v2409 : Index := Scalar.indexCast v2267
  let c0_1023 : Index := 0#32
  ![v2408.toNat, v2409.toNat, 0]

def k0_chk192 (v2266 : BitVec 32) (v2402 : BitVec 32) : Prop :=
  (∀ a, (k0_off282 v2266 v2402) a + S1x48x512.size a ≤ S64x64x512.size a)
theorem k0_off282_inb : ∀ (v2266 : BitVec 32) (v2402 : BitVec 32) (k0_hw192 : k0_chk192 v2266 v2402), ∀ a, (k0_off282 v2266 v2402) a + S1x48x512.size a ≤ S64x64x512.size a := fun v2266 v2402 k0_hw192 => k0_hw192

def k0_off283 (v2266 : BitVec 32) (v2404 : BitVec 32) : Fin 3 → Nat :=
  let v2412 : Index := Scalar.indexCast v2404
  let v2267 : BitVec 32 := v2266
  let v2413 : Index := Scalar.indexCast v2267
  let c0_1024 : Index := 0#32
  ![v2412.toNat, v2413.toNat, 0]

def k0_chk193 (v2266 : BitVec 32) (v2404 : BitVec 32) : Prop :=
  (∀ a, (k0_off283 v2266 v2404) a + S1x48x512.size a ≤ S64x64x512.size a)
theorem k0_off283_inb : ∀ (v2266 : BitVec 32) (v2404 : BitVec 32) (k0_hw193 : k0_chk193 v2266 v2404), ∀ a, (k0_off283 v2266 v2404) a + S1x48x512.size a ≤ S64x64x512.size a := fun v2266 v2404 k0_hw193 => k0_hw193

def k0_off284 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c12_i32_1031 : BitVec 32 := 12#32
  let v2424 : BitVec 32 := Scalar.addi v5 c12_i32_1031
  let c7_i32_1032 : BitVec 32 := 7#32
  let v2425 : BitVec 32 := Scalar.muli v2424 c7_i32_1032
  let c6_i32_1033 : BitVec 32 := 6#32
  let v2426 : BitVec 32 := Scalar.addi v2425 c6_i32_1033
  let v2427 : Index := Scalar.indexCast v2426
  ![v2427.toNat]
def k0_off285 (v2266 : BitVec 32) (v2428 : BitVec 32) : Fin 3 → Nat :=
  let v2434 : Index := Scalar.indexCast v2428
  let v2267 : BitVec 32 := v2266
  let v2435 : Index := Scalar.indexCast v2267
  let c0_1034 : Index := 0#32
  ![v2434.toNat, v2435.toNat, 0]

def k0_chk194 (v2266 : BitVec 32) (v2428 : BitVec 32) : Prop :=
  (∀ a, (k0_off285 v2266 v2428) a + S1x48x512.size a ≤ S64x64x512.size a)
theorem k0_off285_inb : ∀ (v2266 : BitVec 32) (v2428 : BitVec 32) (k0_hw194 : k0_chk194 v2266 v2428), ∀ a, (k0_off285 v2266 v2428) a + S1x48x512.size a ≤ S64x64x512.size a := fun v2266 v2428 k0_hw194 => k0_hw194

def k0_off286 (v2266 : BitVec 32) (v2430 : BitVec 32) : Fin 3 → Nat :=
  let v2438 : Index := Scalar.indexCast v2430
  let v2267 : BitVec 32 := v2266
  let v2439 : Index := Scalar.indexCast v2267
  let c0_1035 : Index := 0#32
  ![v2438.toNat, v2439.toNat, 0]

def k0_chk195 (v2266 : BitVec 32) (v2430 : BitVec 32) : Prop :=
  (∀ a, (k0_off286 v2266 v2430) a + S1x48x512.size a ≤ S64x64x512.size a)
theorem k0_off286_inb : ∀ (v2266 : BitVec 32) (v2430 : BitVec 32) (k0_hw195 : k0_chk195 v2266 v2430), ∀ a, (k0_off286 v2266 v2430) a + S1x48x512.size a ≤ S64x64x512.size a := fun v2266 v2430 k0_hw195 => k0_hw195

def k0_off287 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32 : BitVec 32 := 13#32
  let v2452 : BitVec 32 := Scalar.addi v5 c13_i32
  let v2453 : Index := Scalar.indexCast v2452
  ![v2453.toNat]
def k0_mult14 (v2454 : BitVec 32) : BitVec 32 :=
  v2454

def k0_chk196 (v2454 : BitVec 32) : Prop :=
  (16 ∣ (k0_mult14 v2454).toNat)
theorem k0_mult14_dvd : ∀ (v2454 : BitVec 32) (k0_hw196 : k0_chk196 v2454), 16 ∣ (k0_mult14 v2454).toNat := fun v2454 k0_hw196 => k0_hw196

def k0_off288 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1045 : BitVec 32 := 13#32
  let v2456 : BitVec 32 := Scalar.addi v5 c13_i32_1045
  let c7_i32_1046 : BitVec 32 := 7#32
  let v2457 : BitVec 32 := Scalar.muli v2456 c7_i32_1046
  let c0_i32_1047 : BitVec 32 := 0#32
  let v2458 : BitVec 32 := Scalar.addi v2457 c0_i32_1047
  let v2459 : Index := Scalar.indexCast v2458
  ![v2459.toNat]
def k0_off289 (v2454 : BitVec 32) (v2460 : BitVec 32) : Fin 3 → Nat :=
  let v2466 : Index := Scalar.indexCast v2460
  let v2455 : BitVec 32 := v2454
  let v2467 : Index := Scalar.indexCast v2455
  let c0_1048 : Index := 0#32
  ![v2466.toNat, v2467.toNat, 0]

def k0_chk197 (v2454 : BitVec 32) (v2460 : BitVec 32) : Prop :=
  (∀ a, (k0_off289 v2454 v2460) a + S1x48x512.size a ≤ S64x64x512.size a)
theorem k0_off289_inb : ∀ (v2454 : BitVec 32) (v2460 : BitVec 32) (k0_hw197 : k0_chk197 v2454 v2460), ∀ a, (k0_off289 v2454 v2460) a + S1x48x512.size a ≤ S64x64x512.size a := fun v2454 v2460 k0_hw197 => k0_hw197

def k0_off290 (v2454 : BitVec 32) (v2462 : BitVec 32) : Fin 3 → Nat :=
  let v2470 : Index := Scalar.indexCast v2462
  let v2455 : BitVec 32 := v2454
  let v2471 : Index := Scalar.indexCast v2455
  let c0_1049 : Index := 0#32
  ![v2470.toNat, v2471.toNat, 0]

def k0_chk198 (v2454 : BitVec 32) (v2462 : BitVec 32) : Prop :=
  (∀ a, (k0_off290 v2454 v2462) a + S1x48x512.size a ≤ S64x64x512.size a)
theorem k0_off290_inb : ∀ (v2454 : BitVec 32) (v2462 : BitVec 32) (k0_hw198 : k0_chk198 v2454 v2462), ∀ a, (k0_off290 v2454 v2462) a + S1x48x512.size a ≤ S64x64x512.size a := fun v2454 v2462 k0_hw198 => k0_hw198

def k0_off291 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1056 : BitVec 32 := 13#32
  let v2482 : BitVec 32 := Scalar.addi v5 c13_i32_1056
  let c7_i32_1057 : BitVec 32 := 7#32
  let v2483 : BitVec 32 := Scalar.muli v2482 c7_i32_1057
  let c1_i32_1058 : BitVec 32 := 1#32
  let v2484 : BitVec 32 := Scalar.addi v2483 c1_i32_1058
  let v2485 : Index := Scalar.indexCast v2484
  ![v2485.toNat]
def k0_off292 (v2454 : BitVec 32) (v2486 : BitVec 32) : Fin 3 → Nat :=
  let v2492 : Index := Scalar.indexCast v2486
  let v2455 : BitVec 32 := v2454
  let v2493 : Index := Scalar.indexCast v2455
  let c0_1059 : Index := 0#32
  ![v2492.toNat, v2493.toNat, 0]

def k0_chk199 (v2454 : BitVec 32) (v2486 : BitVec 32) : Prop :=
  (∀ a, (k0_off292 v2454 v2486) a + S1x48x512.size a ≤ S64x64x512.size a)
theorem k0_off292_inb : ∀ (v2454 : BitVec 32) (v2486 : BitVec 32) (k0_hw199 : k0_chk199 v2454 v2486), ∀ a, (k0_off292 v2454 v2486) a + S1x48x512.size a ≤ S64x64x512.size a := fun v2454 v2486 k0_hw199 => k0_hw199

def k0_off293 (v2454 : BitVec 32) (v2488 : BitVec 32) : Fin 3 → Nat :=
  let v2496 : Index := Scalar.indexCast v2488
  let v2455 : BitVec 32 := v2454
  let v2497 : Index := Scalar.indexCast v2455
  let c0_1060 : Index := 0#32
  ![v2496.toNat, v2497.toNat, 0]

def k0_chk200 (v2454 : BitVec 32) (v2488 : BitVec 32) : Prop :=
  (∀ a, (k0_off293 v2454 v2488) a + S1x48x512.size a ≤ S64x64x512.size a)
theorem k0_off293_inb : ∀ (v2454 : BitVec 32) (v2488 : BitVec 32) (k0_hw200 : k0_chk200 v2454 v2488), ∀ a, (k0_off293 v2454 v2488) a + S1x48x512.size a ≤ S64x64x512.size a := fun v2454 v2488 k0_hw200 => k0_hw200

def k0_off294 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1067 : BitVec 32 := 13#32
  let v2508 : BitVec 32 := Scalar.addi v5 c13_i32_1067
  let c7_i32_1068 : BitVec 32 := 7#32
  let v2509 : BitVec 32 := Scalar.muli v2508 c7_i32_1068
  let c2_i32_1069 : BitVec 32 := 2#32
  let v2510 : BitVec 32 := Scalar.addi v2509 c2_i32_1069
  let v2511 : Index := Scalar.indexCast v2510
  ![v2511.toNat]
def k0_off295 (v2454 : BitVec 32) (v2512 : BitVec 32) : Fin 3 → Nat :=
  let v2518 : Index := Scalar.indexCast v2512
  let v2455 : BitVec 32 := v2454
  let v2519 : Index := Scalar.indexCast v2455
  let c0_1070 : Index := 0#32
  ![v2518.toNat, v2519.toNat, 0]

def k0_chk201 (v2454 : BitVec 32) (v2512 : BitVec 32) : Prop :=
  (∀ a, (k0_off295 v2454 v2512) a + S1x48x512.size a ≤ S64x64x512.size a)
theorem k0_off295_inb : ∀ (v2454 : BitVec 32) (v2512 : BitVec 32) (k0_hw201 : k0_chk201 v2454 v2512), ∀ a, (k0_off295 v2454 v2512) a + S1x48x512.size a ≤ S64x64x512.size a := fun v2454 v2512 k0_hw201 => k0_hw201

def k0_off296 (v2454 : BitVec 32) (v2514 : BitVec 32) : Fin 3 → Nat :=
  let v2522 : Index := Scalar.indexCast v2514
  let v2455 : BitVec 32 := v2454
  let v2523 : Index := Scalar.indexCast v2455
  let c0_1071 : Index := 0#32
  ![v2522.toNat, v2523.toNat, 0]

def k0_chk202 (v2454 : BitVec 32) (v2514 : BitVec 32) : Prop :=
  (∀ a, (k0_off296 v2454 v2514) a + S1x48x512.size a ≤ S64x64x512.size a)
theorem k0_off296_inb : ∀ (v2454 : BitVec 32) (v2514 : BitVec 32) (k0_hw202 : k0_chk202 v2454 v2514), ∀ a, (k0_off296 v2454 v2514) a + S1x48x512.size a ≤ S64x64x512.size a := fun v2454 v2514 k0_hw202 => k0_hw202

def k0_off297 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1078 : BitVec 32 := 13#32
  let v2534 : BitVec 32 := Scalar.addi v5 c13_i32_1078
  let c7_i32_1079 : BitVec 32 := 7#32
  let v2535 : BitVec 32 := Scalar.muli v2534 c7_i32_1079
  let c3_i32_1080 : BitVec 32 := 3#32
  let v2536 : BitVec 32 := Scalar.addi v2535 c3_i32_1080
  let v2537 : Index := Scalar.indexCast v2536
  ![v2537.toNat]
def k0_off298 (v2454 : BitVec 32) (v2538 : BitVec 32) : Fin 3 → Nat :=
  let v2544 : Index := Scalar.indexCast v2538
  let v2455 : BitVec 32 := v2454
  let v2545 : Index := Scalar.indexCast v2455
  let c0_1081 : Index := 0#32
  ![v2544.toNat, v2545.toNat, 0]

def k0_chk203 (v2454 : BitVec 32) (v2538 : BitVec 32) : Prop :=
  (∀ a, (k0_off298 v2454 v2538) a + S1x48x512.size a ≤ S64x64x512.size a)
theorem k0_off298_inb : ∀ (v2454 : BitVec 32) (v2538 : BitVec 32) (k0_hw203 : k0_chk203 v2454 v2538), ∀ a, (k0_off298 v2454 v2538) a + S1x48x512.size a ≤ S64x64x512.size a := fun v2454 v2538 k0_hw203 => k0_hw203

def k0_off299 (v2454 : BitVec 32) (v2540 : BitVec 32) : Fin 3 → Nat :=
  let v2548 : Index := Scalar.indexCast v2540
  let v2455 : BitVec 32 := v2454
  let v2549 : Index := Scalar.indexCast v2455
  let c0_1082 : Index := 0#32
  ![v2548.toNat, v2549.toNat, 0]

def k0_chk204 (v2454 : BitVec 32) (v2540 : BitVec 32) : Prop :=
  (∀ a, (k0_off299 v2454 v2540) a + S1x48x512.size a ≤ S64x64x512.size a)
theorem k0_off299_inb : ∀ (v2454 : BitVec 32) (v2540 : BitVec 32) (k0_hw204 : k0_chk204 v2454 v2540), ∀ a, (k0_off299 v2454 v2540) a + S1x48x512.size a ≤ S64x64x512.size a := fun v2454 v2540 k0_hw204 => k0_hw204

def k0_off300 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1089 : BitVec 32 := 13#32
  let v2560 : BitVec 32 := Scalar.addi v5 c13_i32_1089
  let c7_i32_1090 : BitVec 32 := 7#32
  let v2561 : BitVec 32 := Scalar.muli v2560 c7_i32_1090
  let c4_i32_1091 : BitVec 32 := 4#32
  let v2562 : BitVec 32 := Scalar.addi v2561 c4_i32_1091
  let v2563 : Index := Scalar.indexCast v2562
  ![v2563.toNat]
def k0_off301 (v2454 : BitVec 32) (v2564 : BitVec 32) : Fin 3 → Nat :=
  let v2570 : Index := Scalar.indexCast v2564
  let v2455 : BitVec 32 := v2454
  let v2571 : Index := Scalar.indexCast v2455
  let c0_1092 : Index := 0#32
  ![v2570.toNat, v2571.toNat, 0]

def k0_chk205 (v2454 : BitVec 32) (v2564 : BitVec 32) : Prop :=
  (∀ a, (k0_off301 v2454 v2564) a + S1x48x512.size a ≤ S64x64x512.size a)
theorem k0_off301_inb : ∀ (v2454 : BitVec 32) (v2564 : BitVec 32) (k0_hw205 : k0_chk205 v2454 v2564), ∀ a, (k0_off301 v2454 v2564) a + S1x48x512.size a ≤ S64x64x512.size a := fun v2454 v2564 k0_hw205 => k0_hw205

def k0_off302 (v2454 : BitVec 32) (v2566 : BitVec 32) : Fin 3 → Nat :=
  let v2574 : Index := Scalar.indexCast v2566
  let v2455 : BitVec 32 := v2454
  let v2575 : Index := Scalar.indexCast v2455
  let c0_1093 : Index := 0#32
  ![v2574.toNat, v2575.toNat, 0]

def k0_chk206 (v2454 : BitVec 32) (v2566 : BitVec 32) : Prop :=
  (∀ a, (k0_off302 v2454 v2566) a + S1x48x512.size a ≤ S64x64x512.size a)
theorem k0_off302_inb : ∀ (v2454 : BitVec 32) (v2566 : BitVec 32) (k0_hw206 : k0_chk206 v2454 v2566), ∀ a, (k0_off302 v2454 v2566) a + S1x48x512.size a ≤ S64x64x512.size a := fun v2454 v2566 k0_hw206 => k0_hw206

def k0_off303 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1100 : BitVec 32 := 13#32
  let v2586 : BitVec 32 := Scalar.addi v5 c13_i32_1100
  let c7_i32_1101 : BitVec 32 := 7#32
  let v2587 : BitVec 32 := Scalar.muli v2586 c7_i32_1101
  let c5_i32_1102 : BitVec 32 := 5#32
  let v2588 : BitVec 32 := Scalar.addi v2587 c5_i32_1102
  let v2589 : Index := Scalar.indexCast v2588
  ![v2589.toNat]
def k0_off304 (v2454 : BitVec 32) (v2590 : BitVec 32) : Fin 3 → Nat :=
  let v2596 : Index := Scalar.indexCast v2590
  let v2455 : BitVec 32 := v2454
  let v2597 : Index := Scalar.indexCast v2455
  let c0_1103 : Index := 0#32
  ![v2596.toNat, v2597.toNat, 0]

def k0_chk207 (v2454 : BitVec 32) (v2590 : BitVec 32) : Prop :=
  (∀ a, (k0_off304 v2454 v2590) a + S1x48x512.size a ≤ S64x64x512.size a)
theorem k0_off304_inb : ∀ (v2454 : BitVec 32) (v2590 : BitVec 32) (k0_hw207 : k0_chk207 v2454 v2590), ∀ a, (k0_off304 v2454 v2590) a + S1x48x512.size a ≤ S64x64x512.size a := fun v2454 v2590 k0_hw207 => k0_hw207

def k0_off305 (v2454 : BitVec 32) (v2592 : BitVec 32) : Fin 3 → Nat :=
  let v2600 : Index := Scalar.indexCast v2592
  let v2455 : BitVec 32 := v2454
  let v2601 : Index := Scalar.indexCast v2455
  let c0_1104 : Index := 0#32
  ![v2600.toNat, v2601.toNat, 0]

def k0_chk208 (v2454 : BitVec 32) (v2592 : BitVec 32) : Prop :=
  (∀ a, (k0_off305 v2454 v2592) a + S1x48x512.size a ≤ S64x64x512.size a)
theorem k0_off305_inb : ∀ (v2454 : BitVec 32) (v2592 : BitVec 32) (k0_hw208 : k0_chk208 v2454 v2592), ∀ a, (k0_off305 v2454 v2592) a + S1x48x512.size a ≤ S64x64x512.size a := fun v2454 v2592 k0_hw208 => k0_hw208

def k0_off306 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c13_i32_1111 : BitVec 32 := 13#32
  let v2612 : BitVec 32 := Scalar.addi v5 c13_i32_1111
  let c7_i32_1112 : BitVec 32 := 7#32
  let v2613 : BitVec 32 := Scalar.muli v2612 c7_i32_1112
  let c6_i32_1113 : BitVec 32 := 6#32
  let v2614 : BitVec 32 := Scalar.addi v2613 c6_i32_1113
  let v2615 : Index := Scalar.indexCast v2614
  ![v2615.toNat]
def k0_off307 (v2454 : BitVec 32) (v2616 : BitVec 32) : Fin 3 → Nat :=
  let v2622 : Index := Scalar.indexCast v2616
  let v2455 : BitVec 32 := v2454
  let v2623 : Index := Scalar.indexCast v2455
  let c0_1114 : Index := 0#32
  ![v2622.toNat, v2623.toNat, 0]

def k0_chk209 (v2454 : BitVec 32) (v2616 : BitVec 32) : Prop :=
  (∀ a, (k0_off307 v2454 v2616) a + S1x48x512.size a ≤ S64x64x512.size a)
theorem k0_off307_inb : ∀ (v2454 : BitVec 32) (v2616 : BitVec 32) (k0_hw209 : k0_chk209 v2454 v2616), ∀ a, (k0_off307 v2454 v2616) a + S1x48x512.size a ≤ S64x64x512.size a := fun v2454 v2616 k0_hw209 => k0_hw209

def k0_off308 (v2454 : BitVec 32) (v2618 : BitVec 32) : Fin 3 → Nat :=
  let v2626 : Index := Scalar.indexCast v2618
  let v2455 : BitVec 32 := v2454
  let v2627 : Index := Scalar.indexCast v2455
  let c0_1115 : Index := 0#32
  ![v2626.toNat, v2627.toNat, 0]

def k0_chk210 (v2454 : BitVec 32) (v2618 : BitVec 32) : Prop :=
  (∀ a, (k0_off308 v2454 v2618) a + S1x48x512.size a ≤ S64x64x512.size a)
theorem k0_off308_inb : ∀ (v2454 : BitVec 32) (v2618 : BitVec 32) (k0_hw210 : k0_chk210 v2454 v2618), ∀ a, (k0_off308 v2454 v2618) a + S1x48x512.size a ≤ S64x64x512.size a := fun v2454 v2618 k0_hw210 => k0_hw210

def k0_off309 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32 : BitVec 32 := 14#32
  let v2640 : BitVec 32 := Scalar.addi v5 c14_i32
  let v2641 : Index := Scalar.indexCast v2640
  ![v2641.toNat]
def k0_mult15 (v2642 : BitVec 32) : BitVec 32 :=
  v2642

def k0_chk211 (v2642 : BitVec 32) : Prop :=
  (16 ∣ (k0_mult15 v2642).toNat)
theorem k0_mult15_dvd : ∀ (v2642 : BitVec 32) (k0_hw211 : k0_chk211 v2642), 16 ∣ (k0_mult15 v2642).toNat := fun v2642 k0_hw211 => k0_hw211

def k0_off310 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1125 : BitVec 32 := 14#32
  let v2644 : BitVec 32 := Scalar.addi v5 c14_i32_1125
  let c7_i32_1126 : BitVec 32 := 7#32
  let v2645 : BitVec 32 := Scalar.muli v2644 c7_i32_1126
  let c0_i32_1127 : BitVec 32 := 0#32
  let v2646 : BitVec 32 := Scalar.addi v2645 c0_i32_1127
  let v2647 : Index := Scalar.indexCast v2646
  ![v2647.toNat]
def k0_off311 (v2642 : BitVec 32) (v2648 : BitVec 32) : Fin 3 → Nat :=
  let v2654 : Index := Scalar.indexCast v2648
  let v2643 : BitVec 32 := v2642
  let v2655 : Index := Scalar.indexCast v2643
  let c0_1128 : Index := 0#32
  ![v2654.toNat, v2655.toNat, 0]

def k0_chk212 (v2642 : BitVec 32) (v2648 : BitVec 32) : Prop :=
  (∀ a, (k0_off311 v2642 v2648) a + S1x48x512.size a ≤ S64x64x512.size a)
theorem k0_off311_inb : ∀ (v2642 : BitVec 32) (v2648 : BitVec 32) (k0_hw212 : k0_chk212 v2642 v2648), ∀ a, (k0_off311 v2642 v2648) a + S1x48x512.size a ≤ S64x64x512.size a := fun v2642 v2648 k0_hw212 => k0_hw212

def k0_off312 (v2642 : BitVec 32) (v2650 : BitVec 32) : Fin 3 → Nat :=
  let v2658 : Index := Scalar.indexCast v2650
  let v2643 : BitVec 32 := v2642
  let v2659 : Index := Scalar.indexCast v2643
  let c0_1129 : Index := 0#32
  ![v2658.toNat, v2659.toNat, 0]

def k0_chk213 (v2642 : BitVec 32) (v2650 : BitVec 32) : Prop :=
  (∀ a, (k0_off312 v2642 v2650) a + S1x48x512.size a ≤ S64x64x512.size a)
theorem k0_off312_inb : ∀ (v2642 : BitVec 32) (v2650 : BitVec 32) (k0_hw213 : k0_chk213 v2642 v2650), ∀ a, (k0_off312 v2642 v2650) a + S1x48x512.size a ≤ S64x64x512.size a := fun v2642 v2650 k0_hw213 => k0_hw213

def k0_off313 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1136 : BitVec 32 := 14#32
  let v2670 : BitVec 32 := Scalar.addi v5 c14_i32_1136
  let c7_i32_1137 : BitVec 32 := 7#32
  let v2671 : BitVec 32 := Scalar.muli v2670 c7_i32_1137
  let c1_i32_1138 : BitVec 32 := 1#32
  let v2672 : BitVec 32 := Scalar.addi v2671 c1_i32_1138
  let v2673 : Index := Scalar.indexCast v2672
  ![v2673.toNat]
def k0_off314 (v2642 : BitVec 32) (v2674 : BitVec 32) : Fin 3 → Nat :=
  let v2680 : Index := Scalar.indexCast v2674
  let v2643 : BitVec 32 := v2642
  let v2681 : Index := Scalar.indexCast v2643
  let c0_1139 : Index := 0#32
  ![v2680.toNat, v2681.toNat, 0]

def k0_chk214 (v2642 : BitVec 32) (v2674 : BitVec 32) : Prop :=
  (∀ a, (k0_off314 v2642 v2674) a + S1x48x512.size a ≤ S64x64x512.size a)
theorem k0_off314_inb : ∀ (v2642 : BitVec 32) (v2674 : BitVec 32) (k0_hw214 : k0_chk214 v2642 v2674), ∀ a, (k0_off314 v2642 v2674) a + S1x48x512.size a ≤ S64x64x512.size a := fun v2642 v2674 k0_hw214 => k0_hw214

def k0_off315 (v2642 : BitVec 32) (v2676 : BitVec 32) : Fin 3 → Nat :=
  let v2684 : Index := Scalar.indexCast v2676
  let v2643 : BitVec 32 := v2642
  let v2685 : Index := Scalar.indexCast v2643
  let c0_1140 : Index := 0#32
  ![v2684.toNat, v2685.toNat, 0]

def k0_chk215 (v2642 : BitVec 32) (v2676 : BitVec 32) : Prop :=
  (∀ a, (k0_off315 v2642 v2676) a + S1x48x512.size a ≤ S64x64x512.size a)
theorem k0_off315_inb : ∀ (v2642 : BitVec 32) (v2676 : BitVec 32) (k0_hw215 : k0_chk215 v2642 v2676), ∀ a, (k0_off315 v2642 v2676) a + S1x48x512.size a ≤ S64x64x512.size a := fun v2642 v2676 k0_hw215 => k0_hw215

def k0_off316 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1147 : BitVec 32 := 14#32
  let v2696 : BitVec 32 := Scalar.addi v5 c14_i32_1147
  let c7_i32_1148 : BitVec 32 := 7#32
  let v2697 : BitVec 32 := Scalar.muli v2696 c7_i32_1148
  let c2_i32_1149 : BitVec 32 := 2#32
  let v2698 : BitVec 32 := Scalar.addi v2697 c2_i32_1149
  let v2699 : Index := Scalar.indexCast v2698
  ![v2699.toNat]
def k0_off317 (v2642 : BitVec 32) (v2700 : BitVec 32) : Fin 3 → Nat :=
  let v2706 : Index := Scalar.indexCast v2700
  let v2643 : BitVec 32 := v2642
  let v2707 : Index := Scalar.indexCast v2643
  let c0_1150 : Index := 0#32
  ![v2706.toNat, v2707.toNat, 0]

def k0_chk216 (v2642 : BitVec 32) (v2700 : BitVec 32) : Prop :=
  (∀ a, (k0_off317 v2642 v2700) a + S1x48x512.size a ≤ S64x64x512.size a)
theorem k0_off317_inb : ∀ (v2642 : BitVec 32) (v2700 : BitVec 32) (k0_hw216 : k0_chk216 v2642 v2700), ∀ a, (k0_off317 v2642 v2700) a + S1x48x512.size a ≤ S64x64x512.size a := fun v2642 v2700 k0_hw216 => k0_hw216

def k0_off318 (v2642 : BitVec 32) (v2702 : BitVec 32) : Fin 3 → Nat :=
  let v2710 : Index := Scalar.indexCast v2702
  let v2643 : BitVec 32 := v2642
  let v2711 : Index := Scalar.indexCast v2643
  let c0_1151 : Index := 0#32
  ![v2710.toNat, v2711.toNat, 0]

def k0_chk217 (v2642 : BitVec 32) (v2702 : BitVec 32) : Prop :=
  (∀ a, (k0_off318 v2642 v2702) a + S1x48x512.size a ≤ S64x64x512.size a)
theorem k0_off318_inb : ∀ (v2642 : BitVec 32) (v2702 : BitVec 32) (k0_hw217 : k0_chk217 v2642 v2702), ∀ a, (k0_off318 v2642 v2702) a + S1x48x512.size a ≤ S64x64x512.size a := fun v2642 v2702 k0_hw217 => k0_hw217

def k0_off319 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1158 : BitVec 32 := 14#32
  let v2722 : BitVec 32 := Scalar.addi v5 c14_i32_1158
  let c7_i32_1159 : BitVec 32 := 7#32
  let v2723 : BitVec 32 := Scalar.muli v2722 c7_i32_1159
  let c3_i32_1160 : BitVec 32 := 3#32
  let v2724 : BitVec 32 := Scalar.addi v2723 c3_i32_1160
  let v2725 : Index := Scalar.indexCast v2724
  ![v2725.toNat]
def k0_off320 (v2642 : BitVec 32) (v2726 : BitVec 32) : Fin 3 → Nat :=
  let v2732 : Index := Scalar.indexCast v2726
  let v2643 : BitVec 32 := v2642
  let v2733 : Index := Scalar.indexCast v2643
  let c0_1161 : Index := 0#32
  ![v2732.toNat, v2733.toNat, 0]

def k0_chk218 (v2642 : BitVec 32) (v2726 : BitVec 32) : Prop :=
  (∀ a, (k0_off320 v2642 v2726) a + S1x48x512.size a ≤ S64x64x512.size a)
theorem k0_off320_inb : ∀ (v2642 : BitVec 32) (v2726 : BitVec 32) (k0_hw218 : k0_chk218 v2642 v2726), ∀ a, (k0_off320 v2642 v2726) a + S1x48x512.size a ≤ S64x64x512.size a := fun v2642 v2726 k0_hw218 => k0_hw218

def k0_off321 (v2642 : BitVec 32) (v2728 : BitVec 32) : Fin 3 → Nat :=
  let v2736 : Index := Scalar.indexCast v2728
  let v2643 : BitVec 32 := v2642
  let v2737 : Index := Scalar.indexCast v2643
  let c0_1162 : Index := 0#32
  ![v2736.toNat, v2737.toNat, 0]

def k0_chk219 (v2642 : BitVec 32) (v2728 : BitVec 32) : Prop :=
  (∀ a, (k0_off321 v2642 v2728) a + S1x48x512.size a ≤ S64x64x512.size a)
theorem k0_off321_inb : ∀ (v2642 : BitVec 32) (v2728 : BitVec 32) (k0_hw219 : k0_chk219 v2642 v2728), ∀ a, (k0_off321 v2642 v2728) a + S1x48x512.size a ≤ S64x64x512.size a := fun v2642 v2728 k0_hw219 => k0_hw219

def k0_off322 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1169 : BitVec 32 := 14#32
  let v2748 : BitVec 32 := Scalar.addi v5 c14_i32_1169
  let c7_i32_1170 : BitVec 32 := 7#32
  let v2749 : BitVec 32 := Scalar.muli v2748 c7_i32_1170
  let c4_i32_1171 : BitVec 32 := 4#32
  let v2750 : BitVec 32 := Scalar.addi v2749 c4_i32_1171
  let v2751 : Index := Scalar.indexCast v2750
  ![v2751.toNat]
def k0_off323 (v2642 : BitVec 32) (v2752 : BitVec 32) : Fin 3 → Nat :=
  let v2758 : Index := Scalar.indexCast v2752
  let v2643 : BitVec 32 := v2642
  let v2759 : Index := Scalar.indexCast v2643
  let c0_1172 : Index := 0#32
  ![v2758.toNat, v2759.toNat, 0]

def k0_chk220 (v2642 : BitVec 32) (v2752 : BitVec 32) : Prop :=
  (∀ a, (k0_off323 v2642 v2752) a + S1x48x512.size a ≤ S64x64x512.size a)
theorem k0_off323_inb : ∀ (v2642 : BitVec 32) (v2752 : BitVec 32) (k0_hw220 : k0_chk220 v2642 v2752), ∀ a, (k0_off323 v2642 v2752) a + S1x48x512.size a ≤ S64x64x512.size a := fun v2642 v2752 k0_hw220 => k0_hw220

def k0_off324 (v2642 : BitVec 32) (v2754 : BitVec 32) : Fin 3 → Nat :=
  let v2762 : Index := Scalar.indexCast v2754
  let v2643 : BitVec 32 := v2642
  let v2763 : Index := Scalar.indexCast v2643
  let c0_1173 : Index := 0#32
  ![v2762.toNat, v2763.toNat, 0]

def k0_chk221 (v2642 : BitVec 32) (v2754 : BitVec 32) : Prop :=
  (∀ a, (k0_off324 v2642 v2754) a + S1x48x512.size a ≤ S64x64x512.size a)
theorem k0_off324_inb : ∀ (v2642 : BitVec 32) (v2754 : BitVec 32) (k0_hw221 : k0_chk221 v2642 v2754), ∀ a, (k0_off324 v2642 v2754) a + S1x48x512.size a ≤ S64x64x512.size a := fun v2642 v2754 k0_hw221 => k0_hw221

def k0_off325 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1180 : BitVec 32 := 14#32
  let v2774 : BitVec 32 := Scalar.addi v5 c14_i32_1180
  let c7_i32_1181 : BitVec 32 := 7#32
  let v2775 : BitVec 32 := Scalar.muli v2774 c7_i32_1181
  let c5_i32_1182 : BitVec 32 := 5#32
  let v2776 : BitVec 32 := Scalar.addi v2775 c5_i32_1182
  let v2777 : Index := Scalar.indexCast v2776
  ![v2777.toNat]
def k0_off326 (v2642 : BitVec 32) (v2778 : BitVec 32) : Fin 3 → Nat :=
  let v2784 : Index := Scalar.indexCast v2778
  let v2643 : BitVec 32 := v2642
  let v2785 : Index := Scalar.indexCast v2643
  let c0_1183 : Index := 0#32
  ![v2784.toNat, v2785.toNat, 0]

def k0_chk222 (v2642 : BitVec 32) (v2778 : BitVec 32) : Prop :=
  (∀ a, (k0_off326 v2642 v2778) a + S1x48x512.size a ≤ S64x64x512.size a)
theorem k0_off326_inb : ∀ (v2642 : BitVec 32) (v2778 : BitVec 32) (k0_hw222 : k0_chk222 v2642 v2778), ∀ a, (k0_off326 v2642 v2778) a + S1x48x512.size a ≤ S64x64x512.size a := fun v2642 v2778 k0_hw222 => k0_hw222

def k0_off327 (v2642 : BitVec 32) (v2780 : BitVec 32) : Fin 3 → Nat :=
  let v2788 : Index := Scalar.indexCast v2780
  let v2643 : BitVec 32 := v2642
  let v2789 : Index := Scalar.indexCast v2643
  let c0_1184 : Index := 0#32
  ![v2788.toNat, v2789.toNat, 0]

def k0_chk223 (v2642 : BitVec 32) (v2780 : BitVec 32) : Prop :=
  (∀ a, (k0_off327 v2642 v2780) a + S1x48x512.size a ≤ S64x64x512.size a)
theorem k0_off327_inb : ∀ (v2642 : BitVec 32) (v2780 : BitVec 32) (k0_hw223 : k0_chk223 v2642 v2780), ∀ a, (k0_off327 v2642 v2780) a + S1x48x512.size a ≤ S64x64x512.size a := fun v2642 v2780 k0_hw223 => k0_hw223

def k0_off328 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c14_i32_1191 : BitVec 32 := 14#32
  let v2800 : BitVec 32 := Scalar.addi v5 c14_i32_1191
  let c7_i32_1192 : BitVec 32 := 7#32
  let v2801 : BitVec 32 := Scalar.muli v2800 c7_i32_1192
  let c6_i32_1193 : BitVec 32 := 6#32
  let v2802 : BitVec 32 := Scalar.addi v2801 c6_i32_1193
  let v2803 : Index := Scalar.indexCast v2802
  ![v2803.toNat]
def k0_off329 (v2642 : BitVec 32) (v2804 : BitVec 32) : Fin 3 → Nat :=
  let v2810 : Index := Scalar.indexCast v2804
  let v2643 : BitVec 32 := v2642
  let v2811 : Index := Scalar.indexCast v2643
  let c0_1194 : Index := 0#32
  ![v2810.toNat, v2811.toNat, 0]

def k0_chk224 (v2642 : BitVec 32) (v2804 : BitVec 32) : Prop :=
  (∀ a, (k0_off329 v2642 v2804) a + S1x48x512.size a ≤ S64x64x512.size a)
theorem k0_off329_inb : ∀ (v2642 : BitVec 32) (v2804 : BitVec 32) (k0_hw224 : k0_chk224 v2642 v2804), ∀ a, (k0_off329 v2642 v2804) a + S1x48x512.size a ≤ S64x64x512.size a := fun v2642 v2804 k0_hw224 => k0_hw224

def k0_off330 (v2642 : BitVec 32) (v2806 : BitVec 32) : Fin 3 → Nat :=
  let v2814 : Index := Scalar.indexCast v2806
  let v2643 : BitVec 32 := v2642
  let v2815 : Index := Scalar.indexCast v2643
  let c0_1195 : Index := 0#32
  ![v2814.toNat, v2815.toNat, 0]

def k0_chk225 (v2642 : BitVec 32) (v2806 : BitVec 32) : Prop :=
  (∀ a, (k0_off330 v2642 v2806) a + S1x48x512.size a ≤ S64x64x512.size a)
theorem k0_off330_inb : ∀ (v2642 : BitVec 32) (v2806 : BitVec 32) (k0_hw225 : k0_chk225 v2642 v2806), ∀ a, (k0_off330 v2642 v2806) a + S1x48x512.size a ≤ S64x64x512.size a := fun v2642 v2806 k0_hw225 => k0_hw225

def k0_off331 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32 : BitVec 32 := 15#32
  let v2828 : BitVec 32 := Scalar.addi v5 c15_i32
  let v2829 : Index := Scalar.indexCast v2828
  ![v2829.toNat]
def k0_mult16 (v2830 : BitVec 32) : BitVec 32 :=
  v2830

def k0_chk226 (v2830 : BitVec 32) : Prop :=
  (16 ∣ (k0_mult16 v2830).toNat)
theorem k0_mult16_dvd : ∀ (v2830 : BitVec 32) (k0_hw226 : k0_chk226 v2830), 16 ∣ (k0_mult16 v2830).toNat := fun v2830 k0_hw226 => k0_hw226

def k0_off332 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1205 : BitVec 32 := 15#32
  let v2832 : BitVec 32 := Scalar.addi v5 c15_i32_1205
  let c7_i32_1206 : BitVec 32 := 7#32
  let v2833 : BitVec 32 := Scalar.muli v2832 c7_i32_1206
  let c0_i32_1207 : BitVec 32 := 0#32
  let v2834 : BitVec 32 := Scalar.addi v2833 c0_i32_1207
  let v2835 : Index := Scalar.indexCast v2834
  ![v2835.toNat]
def k0_off333 (v2830 : BitVec 32) (v2836 : BitVec 32) : Fin 3 → Nat :=
  let v2842 : Index := Scalar.indexCast v2836
  let v2831 : BitVec 32 := v2830
  let v2843 : Index := Scalar.indexCast v2831
  let c0_1208 : Index := 0#32
  ![v2842.toNat, v2843.toNat, 0]

def k0_chk227 (v2830 : BitVec 32) (v2836 : BitVec 32) : Prop :=
  (∀ a, (k0_off333 v2830 v2836) a + S1x48x512.size a ≤ S64x64x512.size a)
theorem k0_off333_inb : ∀ (v2830 : BitVec 32) (v2836 : BitVec 32) (k0_hw227 : k0_chk227 v2830 v2836), ∀ a, (k0_off333 v2830 v2836) a + S1x48x512.size a ≤ S64x64x512.size a := fun v2830 v2836 k0_hw227 => k0_hw227

def k0_off334 (v2830 : BitVec 32) (v2838 : BitVec 32) : Fin 3 → Nat :=
  let v2846 : Index := Scalar.indexCast v2838
  let v2831 : BitVec 32 := v2830
  let v2847 : Index := Scalar.indexCast v2831
  let c0_1209 : Index := 0#32
  ![v2846.toNat, v2847.toNat, 0]

def k0_chk228 (v2830 : BitVec 32) (v2838 : BitVec 32) : Prop :=
  (∀ a, (k0_off334 v2830 v2838) a + S1x48x512.size a ≤ S64x64x512.size a)
theorem k0_off334_inb : ∀ (v2830 : BitVec 32) (v2838 : BitVec 32) (k0_hw228 : k0_chk228 v2830 v2838), ∀ a, (k0_off334 v2830 v2838) a + S1x48x512.size a ≤ S64x64x512.size a := fun v2830 v2838 k0_hw228 => k0_hw228

def k0_off335 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1216 : BitVec 32 := 15#32
  let v2858 : BitVec 32 := Scalar.addi v5 c15_i32_1216
  let c7_i32_1217 : BitVec 32 := 7#32
  let v2859 : BitVec 32 := Scalar.muli v2858 c7_i32_1217
  let c1_i32_1218 : BitVec 32 := 1#32
  let v2860 : BitVec 32 := Scalar.addi v2859 c1_i32_1218
  let v2861 : Index := Scalar.indexCast v2860
  ![v2861.toNat]
def k0_off336 (v2830 : BitVec 32) (v2862 : BitVec 32) : Fin 3 → Nat :=
  let v2868 : Index := Scalar.indexCast v2862
  let v2831 : BitVec 32 := v2830
  let v2869 : Index := Scalar.indexCast v2831
  let c0_1219 : Index := 0#32
  ![v2868.toNat, v2869.toNat, 0]

def k0_chk229 (v2830 : BitVec 32) (v2862 : BitVec 32) : Prop :=
  (∀ a, (k0_off336 v2830 v2862) a + S1x48x512.size a ≤ S64x64x512.size a)
theorem k0_off336_inb : ∀ (v2830 : BitVec 32) (v2862 : BitVec 32) (k0_hw229 : k0_chk229 v2830 v2862), ∀ a, (k0_off336 v2830 v2862) a + S1x48x512.size a ≤ S64x64x512.size a := fun v2830 v2862 k0_hw229 => k0_hw229

def k0_off337 (v2830 : BitVec 32) (v2864 : BitVec 32) : Fin 3 → Nat :=
  let v2872 : Index := Scalar.indexCast v2864
  let v2831 : BitVec 32 := v2830
  let v2873 : Index := Scalar.indexCast v2831
  let c0_1220 : Index := 0#32
  ![v2872.toNat, v2873.toNat, 0]

def k0_chk230 (v2830 : BitVec 32) (v2864 : BitVec 32) : Prop :=
  (∀ a, (k0_off337 v2830 v2864) a + S1x48x512.size a ≤ S64x64x512.size a)
theorem k0_off337_inb : ∀ (v2830 : BitVec 32) (v2864 : BitVec 32) (k0_hw230 : k0_chk230 v2830 v2864), ∀ a, (k0_off337 v2830 v2864) a + S1x48x512.size a ≤ S64x64x512.size a := fun v2830 v2864 k0_hw230 => k0_hw230

def k0_off338 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1227 : BitVec 32 := 15#32
  let v2884 : BitVec 32 := Scalar.addi v5 c15_i32_1227
  let c7_i32_1228 : BitVec 32 := 7#32
  let v2885 : BitVec 32 := Scalar.muli v2884 c7_i32_1228
  let c2_i32_1229 : BitVec 32 := 2#32
  let v2886 : BitVec 32 := Scalar.addi v2885 c2_i32_1229
  let v2887 : Index := Scalar.indexCast v2886
  ![v2887.toNat]
def k0_off339 (v2830 : BitVec 32) (v2888 : BitVec 32) : Fin 3 → Nat :=
  let v2894 : Index := Scalar.indexCast v2888
  let v2831 : BitVec 32 := v2830
  let v2895 : Index := Scalar.indexCast v2831
  let c0_1230 : Index := 0#32
  ![v2894.toNat, v2895.toNat, 0]

def k0_chk231 (v2830 : BitVec 32) (v2888 : BitVec 32) : Prop :=
  (∀ a, (k0_off339 v2830 v2888) a + S1x48x512.size a ≤ S64x64x512.size a)
theorem k0_off339_inb : ∀ (v2830 : BitVec 32) (v2888 : BitVec 32) (k0_hw231 : k0_chk231 v2830 v2888), ∀ a, (k0_off339 v2830 v2888) a + S1x48x512.size a ≤ S64x64x512.size a := fun v2830 v2888 k0_hw231 => k0_hw231

def k0_off340 (v2830 : BitVec 32) (v2890 : BitVec 32) : Fin 3 → Nat :=
  let v2898 : Index := Scalar.indexCast v2890
  let v2831 : BitVec 32 := v2830
  let v2899 : Index := Scalar.indexCast v2831
  let c0_1231 : Index := 0#32
  ![v2898.toNat, v2899.toNat, 0]

def k0_chk232 (v2830 : BitVec 32) (v2890 : BitVec 32) : Prop :=
  (∀ a, (k0_off340 v2830 v2890) a + S1x48x512.size a ≤ S64x64x512.size a)
theorem k0_off340_inb : ∀ (v2830 : BitVec 32) (v2890 : BitVec 32) (k0_hw232 : k0_chk232 v2830 v2890), ∀ a, (k0_off340 v2830 v2890) a + S1x48x512.size a ≤ S64x64x512.size a := fun v2830 v2890 k0_hw232 => k0_hw232

def k0_off341 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1238 : BitVec 32 := 15#32
  let v2910 : BitVec 32 := Scalar.addi v5 c15_i32_1238
  let c7_i32_1239 : BitVec 32 := 7#32
  let v2911 : BitVec 32 := Scalar.muli v2910 c7_i32_1239
  let c3_i32_1240 : BitVec 32 := 3#32
  let v2912 : BitVec 32 := Scalar.addi v2911 c3_i32_1240
  let v2913 : Index := Scalar.indexCast v2912
  ![v2913.toNat]
def k0_off342 (v2830 : BitVec 32) (v2914 : BitVec 32) : Fin 3 → Nat :=
  let v2920 : Index := Scalar.indexCast v2914
  let v2831 : BitVec 32 := v2830
  let v2921 : Index := Scalar.indexCast v2831
  let c0_1241 : Index := 0#32
  ![v2920.toNat, v2921.toNat, 0]

def k0_chk233 (v2830 : BitVec 32) (v2914 : BitVec 32) : Prop :=
  (∀ a, (k0_off342 v2830 v2914) a + S1x48x512.size a ≤ S64x64x512.size a)
theorem k0_off342_inb : ∀ (v2830 : BitVec 32) (v2914 : BitVec 32) (k0_hw233 : k0_chk233 v2830 v2914), ∀ a, (k0_off342 v2830 v2914) a + S1x48x512.size a ≤ S64x64x512.size a := fun v2830 v2914 k0_hw233 => k0_hw233

def k0_off343 (v2830 : BitVec 32) (v2916 : BitVec 32) : Fin 3 → Nat :=
  let v2924 : Index := Scalar.indexCast v2916
  let v2831 : BitVec 32 := v2830
  let v2925 : Index := Scalar.indexCast v2831
  let c0_1242 : Index := 0#32
  ![v2924.toNat, v2925.toNat, 0]

def k0_chk234 (v2830 : BitVec 32) (v2916 : BitVec 32) : Prop :=
  (∀ a, (k0_off343 v2830 v2916) a + S1x48x512.size a ≤ S64x64x512.size a)
theorem k0_off343_inb : ∀ (v2830 : BitVec 32) (v2916 : BitVec 32) (k0_hw234 : k0_chk234 v2830 v2916), ∀ a, (k0_off343 v2830 v2916) a + S1x48x512.size a ≤ S64x64x512.size a := fun v2830 v2916 k0_hw234 => k0_hw234

def k0_off344 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1249 : BitVec 32 := 15#32
  let v2936 : BitVec 32 := Scalar.addi v5 c15_i32_1249
  let c7_i32_1250 : BitVec 32 := 7#32
  let v2937 : BitVec 32 := Scalar.muli v2936 c7_i32_1250
  let c4_i32_1251 : BitVec 32 := 4#32
  let v2938 : BitVec 32 := Scalar.addi v2937 c4_i32_1251
  let v2939 : Index := Scalar.indexCast v2938
  ![v2939.toNat]
def k0_off345 (v2830 : BitVec 32) (v2940 : BitVec 32) : Fin 3 → Nat :=
  let v2946 : Index := Scalar.indexCast v2940
  let v2831 : BitVec 32 := v2830
  let v2947 : Index := Scalar.indexCast v2831
  let c0_1252 : Index := 0#32
  ![v2946.toNat, v2947.toNat, 0]

def k0_chk235 (v2830 : BitVec 32) (v2940 : BitVec 32) : Prop :=
  (∀ a, (k0_off345 v2830 v2940) a + S1x48x512.size a ≤ S64x64x512.size a)
theorem k0_off345_inb : ∀ (v2830 : BitVec 32) (v2940 : BitVec 32) (k0_hw235 : k0_chk235 v2830 v2940), ∀ a, (k0_off345 v2830 v2940) a + S1x48x512.size a ≤ S64x64x512.size a := fun v2830 v2940 k0_hw235 => k0_hw235

def k0_off346 (v2830 : BitVec 32) (v2942 : BitVec 32) : Fin 3 → Nat :=
  let v2950 : Index := Scalar.indexCast v2942
  let v2831 : BitVec 32 := v2830
  let v2951 : Index := Scalar.indexCast v2831
  let c0_1253 : Index := 0#32
  ![v2950.toNat, v2951.toNat, 0]

def k0_chk236 (v2830 : BitVec 32) (v2942 : BitVec 32) : Prop :=
  (∀ a, (k0_off346 v2830 v2942) a + S1x48x512.size a ≤ S64x64x512.size a)
theorem k0_off346_inb : ∀ (v2830 : BitVec 32) (v2942 : BitVec 32) (k0_hw236 : k0_chk236 v2830 v2942), ∀ a, (k0_off346 v2830 v2942) a + S1x48x512.size a ≤ S64x64x512.size a := fun v2830 v2942 k0_hw236 => k0_hw236

def k0_off347 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1260 : BitVec 32 := 15#32
  let v2962 : BitVec 32 := Scalar.addi v5 c15_i32_1260
  let c7_i32_1261 : BitVec 32 := 7#32
  let v2963 : BitVec 32 := Scalar.muli v2962 c7_i32_1261
  let c5_i32_1262 : BitVec 32 := 5#32
  let v2964 : BitVec 32 := Scalar.addi v2963 c5_i32_1262
  let v2965 : Index := Scalar.indexCast v2964
  ![v2965.toNat]
def k0_off348 (v2830 : BitVec 32) (v2966 : BitVec 32) : Fin 3 → Nat :=
  let v2972 : Index := Scalar.indexCast v2966
  let v2831 : BitVec 32 := v2830
  let v2973 : Index := Scalar.indexCast v2831
  let c0_1263 : Index := 0#32
  ![v2972.toNat, v2973.toNat, 0]

def k0_chk237 (v2830 : BitVec 32) (v2966 : BitVec 32) : Prop :=
  (∀ a, (k0_off348 v2830 v2966) a + S1x48x512.size a ≤ S64x64x512.size a)
theorem k0_off348_inb : ∀ (v2830 : BitVec 32) (v2966 : BitVec 32) (k0_hw237 : k0_chk237 v2830 v2966), ∀ a, (k0_off348 v2830 v2966) a + S1x48x512.size a ≤ S64x64x512.size a := fun v2830 v2966 k0_hw237 => k0_hw237

def k0_off349 (v2830 : BitVec 32) (v2968 : BitVec 32) : Fin 3 → Nat :=
  let v2976 : Index := Scalar.indexCast v2968
  let v2831 : BitVec 32 := v2830
  let v2977 : Index := Scalar.indexCast v2831
  let c0_1264 : Index := 0#32
  ![v2976.toNat, v2977.toNat, 0]

def k0_chk238 (v2830 : BitVec 32) (v2968 : BitVec 32) : Prop :=
  (∀ a, (k0_off349 v2830 v2968) a + S1x48x512.size a ≤ S64x64x512.size a)
theorem k0_off349_inb : ∀ (v2830 : BitVec 32) (v2968 : BitVec 32) (k0_hw238 : k0_chk238 v2830 v2968), ∀ a, (k0_off349 v2830 v2968) a + S1x48x512.size a ≤ S64x64x512.size a := fun v2830 v2968 k0_hw238 => k0_hw238

def k0_off350 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c15_i32_1271 : BitVec 32 := 15#32
  let v2988 : BitVec 32 := Scalar.addi v5 c15_i32_1271
  let c7_i32_1272 : BitVec 32 := 7#32
  let v2989 : BitVec 32 := Scalar.muli v2988 c7_i32_1272
  let c6_i32_1273 : BitVec 32 := 6#32
  let v2990 : BitVec 32 := Scalar.addi v2989 c6_i32_1273
  let v2991 : Index := Scalar.indexCast v2990
  ![v2991.toNat]
def k0_off351 (v2830 : BitVec 32) (v2992 : BitVec 32) : Fin 3 → Nat :=
  let v2998 : Index := Scalar.indexCast v2992
  let v2831 : BitVec 32 := v2830
  let v2999 : Index := Scalar.indexCast v2831
  let c0_1274 : Index := 0#32
  ![v2998.toNat, v2999.toNat, 0]

def k0_chk239 (v2830 : BitVec 32) (v2992 : BitVec 32) : Prop :=
  (∀ a, (k0_off351 v2830 v2992) a + S1x48x512.size a ≤ S64x64x512.size a)
theorem k0_off351_inb : ∀ (v2830 : BitVec 32) (v2992 : BitVec 32) (k0_hw239 : k0_chk239 v2830 v2992), ∀ a, (k0_off351 v2830 v2992) a + S1x48x512.size a ≤ S64x64x512.size a := fun v2830 v2992 k0_hw239 => k0_hw239

def k0_off352 (v2830 : BitVec 32) (v2994 : BitVec 32) : Fin 3 → Nat :=
  let v3002 : Index := Scalar.indexCast v2994
  let v2831 : BitVec 32 := v2830
  let v3003 : Index := Scalar.indexCast v2831
  let c0_1275 : Index := 0#32
  ![v3002.toNat, v3003.toNat, 0]

def k0_chk240 (v2830 : BitVec 32) (v2994 : BitVec 32) : Prop :=
  (∀ a, (k0_off352 v2830 v2994) a + S1x48x512.size a ≤ S64x64x512.size a)
theorem k0_off352_inb : ∀ (v2830 : BitVec 32) (v2994 : BitVec 32) (k0_hw240 : k0_chk240 v2830 v2994), ∀ a, (k0_off352 v2830 v2994) a + S1x48x512.size a ≤ S64x64x512.size a := fun v2830 v2994 k0_hw240 => k0_hw240

def k0_off353 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32 : BitVec 32 := 16#32
  let v3016 : BitVec 32 := Scalar.addi v5 c16_i32
  let v3017 : Index := Scalar.indexCast v3016
  ![v3017.toNat]
def k0_mult17 (v3018 : BitVec 32) : BitVec 32 :=
  v3018

def k0_chk241 (v3018 : BitVec 32) : Prop :=
  (16 ∣ (k0_mult17 v3018).toNat)
theorem k0_mult17_dvd : ∀ (v3018 : BitVec 32) (k0_hw241 : k0_chk241 v3018), 16 ∣ (k0_mult17 v3018).toNat := fun v3018 k0_hw241 => k0_hw241

def k0_off354 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1285 : BitVec 32 := 16#32
  let v3020 : BitVec 32 := Scalar.addi v5 c16_i32_1285
  let c7_i32_1286 : BitVec 32 := 7#32
  let v3021 : BitVec 32 := Scalar.muli v3020 c7_i32_1286
  let c0_i32_1287 : BitVec 32 := 0#32
  let v3022 : BitVec 32 := Scalar.addi v3021 c0_i32_1287
  let v3023 : Index := Scalar.indexCast v3022
  ![v3023.toNat]
def k0_off355 (v3018 : BitVec 32) (v3024 : BitVec 32) : Fin 3 → Nat :=
  let v3030 : Index := Scalar.indexCast v3024
  let v3019 : BitVec 32 := v3018
  let v3031 : Index := Scalar.indexCast v3019
  let c0_1288 : Index := 0#32
  ![v3030.toNat, v3031.toNat, 0]

def k0_chk242 (v3018 : BitVec 32) (v3024 : BitVec 32) : Prop :=
  (∀ a, (k0_off355 v3018 v3024) a + S1x48x512.size a ≤ S64x64x512.size a)
theorem k0_off355_inb : ∀ (v3018 : BitVec 32) (v3024 : BitVec 32) (k0_hw242 : k0_chk242 v3018 v3024), ∀ a, (k0_off355 v3018 v3024) a + S1x48x512.size a ≤ S64x64x512.size a := fun v3018 v3024 k0_hw242 => k0_hw242

def k0_off356 (v3018 : BitVec 32) (v3026 : BitVec 32) : Fin 3 → Nat :=
  let v3034 : Index := Scalar.indexCast v3026
  let v3019 : BitVec 32 := v3018
  let v3035 : Index := Scalar.indexCast v3019
  let c0_1289 : Index := 0#32
  ![v3034.toNat, v3035.toNat, 0]

def k0_chk243 (v3018 : BitVec 32) (v3026 : BitVec 32) : Prop :=
  (∀ a, (k0_off356 v3018 v3026) a + S1x48x512.size a ≤ S64x64x512.size a)
theorem k0_off356_inb : ∀ (v3018 : BitVec 32) (v3026 : BitVec 32) (k0_hw243 : k0_chk243 v3018 v3026), ∀ a, (k0_off356 v3018 v3026) a + S1x48x512.size a ≤ S64x64x512.size a := fun v3018 v3026 k0_hw243 => k0_hw243

def k0_off357 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1296 : BitVec 32 := 16#32
  let v3046 : BitVec 32 := Scalar.addi v5 c16_i32_1296
  let c7_i32_1297 : BitVec 32 := 7#32
  let v3047 : BitVec 32 := Scalar.muli v3046 c7_i32_1297
  let c1_i32_1298 : BitVec 32 := 1#32
  let v3048 : BitVec 32 := Scalar.addi v3047 c1_i32_1298
  let v3049 : Index := Scalar.indexCast v3048
  ![v3049.toNat]
def k0_off358 (v3018 : BitVec 32) (v3050 : BitVec 32) : Fin 3 → Nat :=
  let v3056 : Index := Scalar.indexCast v3050
  let v3019 : BitVec 32 := v3018
  let v3057 : Index := Scalar.indexCast v3019
  let c0_1299 : Index := 0#32
  ![v3056.toNat, v3057.toNat, 0]

def k0_chk244 (v3018 : BitVec 32) (v3050 : BitVec 32) : Prop :=
  (∀ a, (k0_off358 v3018 v3050) a + S1x48x512.size a ≤ S64x64x512.size a)
theorem k0_off358_inb : ∀ (v3018 : BitVec 32) (v3050 : BitVec 32) (k0_hw244 : k0_chk244 v3018 v3050), ∀ a, (k0_off358 v3018 v3050) a + S1x48x512.size a ≤ S64x64x512.size a := fun v3018 v3050 k0_hw244 => k0_hw244

def k0_off359 (v3018 : BitVec 32) (v3052 : BitVec 32) : Fin 3 → Nat :=
  let v3060 : Index := Scalar.indexCast v3052
  let v3019 : BitVec 32 := v3018
  let v3061 : Index := Scalar.indexCast v3019
  let c0_1300 : Index := 0#32
  ![v3060.toNat, v3061.toNat, 0]

def k0_chk245 (v3018 : BitVec 32) (v3052 : BitVec 32) : Prop :=
  (∀ a, (k0_off359 v3018 v3052) a + S1x48x512.size a ≤ S64x64x512.size a)
theorem k0_off359_inb : ∀ (v3018 : BitVec 32) (v3052 : BitVec 32) (k0_hw245 : k0_chk245 v3018 v3052), ∀ a, (k0_off359 v3018 v3052) a + S1x48x512.size a ≤ S64x64x512.size a := fun v3018 v3052 k0_hw245 => k0_hw245

def k0_off360 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1307 : BitVec 32 := 16#32
  let v3072 : BitVec 32 := Scalar.addi v5 c16_i32_1307
  let c7_i32_1308 : BitVec 32 := 7#32
  let v3073 : BitVec 32 := Scalar.muli v3072 c7_i32_1308
  let c2_i32_1309 : BitVec 32 := 2#32
  let v3074 : BitVec 32 := Scalar.addi v3073 c2_i32_1309
  let v3075 : Index := Scalar.indexCast v3074
  ![v3075.toNat]
def k0_off361 (v3018 : BitVec 32) (v3076 : BitVec 32) : Fin 3 → Nat :=
  let v3082 : Index := Scalar.indexCast v3076
  let v3019 : BitVec 32 := v3018
  let v3083 : Index := Scalar.indexCast v3019
  let c0_1310 : Index := 0#32
  ![v3082.toNat, v3083.toNat, 0]

def k0_chk246 (v3018 : BitVec 32) (v3076 : BitVec 32) : Prop :=
  (∀ a, (k0_off361 v3018 v3076) a + S1x48x512.size a ≤ S64x64x512.size a)
theorem k0_off361_inb : ∀ (v3018 : BitVec 32) (v3076 : BitVec 32) (k0_hw246 : k0_chk246 v3018 v3076), ∀ a, (k0_off361 v3018 v3076) a + S1x48x512.size a ≤ S64x64x512.size a := fun v3018 v3076 k0_hw246 => k0_hw246

def k0_off362 (v3018 : BitVec 32) (v3078 : BitVec 32) : Fin 3 → Nat :=
  let v3086 : Index := Scalar.indexCast v3078
  let v3019 : BitVec 32 := v3018
  let v3087 : Index := Scalar.indexCast v3019
  let c0_1311 : Index := 0#32
  ![v3086.toNat, v3087.toNat, 0]

def k0_chk247 (v3018 : BitVec 32) (v3078 : BitVec 32) : Prop :=
  (∀ a, (k0_off362 v3018 v3078) a + S1x48x512.size a ≤ S64x64x512.size a)
theorem k0_off362_inb : ∀ (v3018 : BitVec 32) (v3078 : BitVec 32) (k0_hw247 : k0_chk247 v3018 v3078), ∀ a, (k0_off362 v3018 v3078) a + S1x48x512.size a ≤ S64x64x512.size a := fun v3018 v3078 k0_hw247 => k0_hw247

def k0_off363 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1318 : BitVec 32 := 16#32
  let v3098 : BitVec 32 := Scalar.addi v5 c16_i32_1318
  let c7_i32_1319 : BitVec 32 := 7#32
  let v3099 : BitVec 32 := Scalar.muli v3098 c7_i32_1319
  let c3_i32_1320 : BitVec 32 := 3#32
  let v3100 : BitVec 32 := Scalar.addi v3099 c3_i32_1320
  let v3101 : Index := Scalar.indexCast v3100
  ![v3101.toNat]
def k0_off364 (v3018 : BitVec 32) (v3102 : BitVec 32) : Fin 3 → Nat :=
  let v3108 : Index := Scalar.indexCast v3102
  let v3019 : BitVec 32 := v3018
  let v3109 : Index := Scalar.indexCast v3019
  let c0_1321 : Index := 0#32
  ![v3108.toNat, v3109.toNat, 0]

def k0_chk248 (v3018 : BitVec 32) (v3102 : BitVec 32) : Prop :=
  (∀ a, (k0_off364 v3018 v3102) a + S1x48x512.size a ≤ S64x64x512.size a)
theorem k0_off364_inb : ∀ (v3018 : BitVec 32) (v3102 : BitVec 32) (k0_hw248 : k0_chk248 v3018 v3102), ∀ a, (k0_off364 v3018 v3102) a + S1x48x512.size a ≤ S64x64x512.size a := fun v3018 v3102 k0_hw248 => k0_hw248

def k0_off365 (v3018 : BitVec 32) (v3104 : BitVec 32) : Fin 3 → Nat :=
  let v3112 : Index := Scalar.indexCast v3104
  let v3019 : BitVec 32 := v3018
  let v3113 : Index := Scalar.indexCast v3019
  let c0_1322 : Index := 0#32
  ![v3112.toNat, v3113.toNat, 0]

def k0_chk249 (v3018 : BitVec 32) (v3104 : BitVec 32) : Prop :=
  (∀ a, (k0_off365 v3018 v3104) a + S1x48x512.size a ≤ S64x64x512.size a)
theorem k0_off365_inb : ∀ (v3018 : BitVec 32) (v3104 : BitVec 32) (k0_hw249 : k0_chk249 v3018 v3104), ∀ a, (k0_off365 v3018 v3104) a + S1x48x512.size a ≤ S64x64x512.size a := fun v3018 v3104 k0_hw249 => k0_hw249

def k0_off366 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1329 : BitVec 32 := 16#32
  let v3124 : BitVec 32 := Scalar.addi v5 c16_i32_1329
  let c7_i32_1330 : BitVec 32 := 7#32
  let v3125 : BitVec 32 := Scalar.muli v3124 c7_i32_1330
  let c4_i32_1331 : BitVec 32 := 4#32
  let v3126 : BitVec 32 := Scalar.addi v3125 c4_i32_1331
  let v3127 : Index := Scalar.indexCast v3126
  ![v3127.toNat]
def k0_off367 (v3018 : BitVec 32) (v3128 : BitVec 32) : Fin 3 → Nat :=
  let v3134 : Index := Scalar.indexCast v3128
  let v3019 : BitVec 32 := v3018
  let v3135 : Index := Scalar.indexCast v3019
  let c0_1332 : Index := 0#32
  ![v3134.toNat, v3135.toNat, 0]

def k0_chk250 (v3018 : BitVec 32) (v3128 : BitVec 32) : Prop :=
  (∀ a, (k0_off367 v3018 v3128) a + S1x48x512.size a ≤ S64x64x512.size a)
theorem k0_off367_inb : ∀ (v3018 : BitVec 32) (v3128 : BitVec 32) (k0_hw250 : k0_chk250 v3018 v3128), ∀ a, (k0_off367 v3018 v3128) a + S1x48x512.size a ≤ S64x64x512.size a := fun v3018 v3128 k0_hw250 => k0_hw250

def k0_off368 (v3018 : BitVec 32) (v3130 : BitVec 32) : Fin 3 → Nat :=
  let v3138 : Index := Scalar.indexCast v3130
  let v3019 : BitVec 32 := v3018
  let v3139 : Index := Scalar.indexCast v3019
  let c0_1333 : Index := 0#32
  ![v3138.toNat, v3139.toNat, 0]

def k0_chk251 (v3018 : BitVec 32) (v3130 : BitVec 32) : Prop :=
  (∀ a, (k0_off368 v3018 v3130) a + S1x48x512.size a ≤ S64x64x512.size a)
theorem k0_off368_inb : ∀ (v3018 : BitVec 32) (v3130 : BitVec 32) (k0_hw251 : k0_chk251 v3018 v3130), ∀ a, (k0_off368 v3018 v3130) a + S1x48x512.size a ≤ S64x64x512.size a := fun v3018 v3130 k0_hw251 => k0_hw251

def k0_off369 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1340 : BitVec 32 := 16#32
  let v3150 : BitVec 32 := Scalar.addi v5 c16_i32_1340
  let c7_i32_1341 : BitVec 32 := 7#32
  let v3151 : BitVec 32 := Scalar.muli v3150 c7_i32_1341
  let c5_i32_1342 : BitVec 32 := 5#32
  let v3152 : BitVec 32 := Scalar.addi v3151 c5_i32_1342
  let v3153 : Index := Scalar.indexCast v3152
  ![v3153.toNat]
def k0_off370 (v3018 : BitVec 32) (v3154 : BitVec 32) : Fin 3 → Nat :=
  let v3160 : Index := Scalar.indexCast v3154
  let v3019 : BitVec 32 := v3018
  let v3161 : Index := Scalar.indexCast v3019
  let c0_1343 : Index := 0#32
  ![v3160.toNat, v3161.toNat, 0]

def k0_chk252 (v3018 : BitVec 32) (v3154 : BitVec 32) : Prop :=
  (∀ a, (k0_off370 v3018 v3154) a + S1x48x512.size a ≤ S64x64x512.size a)
theorem k0_off370_inb : ∀ (v3018 : BitVec 32) (v3154 : BitVec 32) (k0_hw252 : k0_chk252 v3018 v3154), ∀ a, (k0_off370 v3018 v3154) a + S1x48x512.size a ≤ S64x64x512.size a := fun v3018 v3154 k0_hw252 => k0_hw252

def k0_off371 (v3018 : BitVec 32) (v3156 : BitVec 32) : Fin 3 → Nat :=
  let v3164 : Index := Scalar.indexCast v3156
  let v3019 : BitVec 32 := v3018
  let v3165 : Index := Scalar.indexCast v3019
  let c0_1344 : Index := 0#32
  ![v3164.toNat, v3165.toNat, 0]

def k0_chk253 (v3018 : BitVec 32) (v3156 : BitVec 32) : Prop :=
  (∀ a, (k0_off371 v3018 v3156) a + S1x48x512.size a ≤ S64x64x512.size a)
theorem k0_off371_inb : ∀ (v3018 : BitVec 32) (v3156 : BitVec 32) (k0_hw253 : k0_chk253 v3018 v3156), ∀ a, (k0_off371 v3018 v3156) a + S1x48x512.size a ≤ S64x64x512.size a := fun v3018 v3156 k0_hw253 => k0_hw253

def k0_off372 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c16_i32_1351 : BitVec 32 := 16#32
  let v3176 : BitVec 32 := Scalar.addi v5 c16_i32_1351
  let c7_i32_1352 : BitVec 32 := 7#32
  let v3177 : BitVec 32 := Scalar.muli v3176 c7_i32_1352
  let c6_i32_1353 : BitVec 32 := 6#32
  let v3178 : BitVec 32 := Scalar.addi v3177 c6_i32_1353
  let v3179 : Index := Scalar.indexCast v3178
  ![v3179.toNat]
def k0_off373 (v3018 : BitVec 32) (v3180 : BitVec 32) : Fin 3 → Nat :=
  let v3186 : Index := Scalar.indexCast v3180
  let v3019 : BitVec 32 := v3018
  let v3187 : Index := Scalar.indexCast v3019
  let c0_1354 : Index := 0#32
  ![v3186.toNat, v3187.toNat, 0]

def k0_chk254 (v3018 : BitVec 32) (v3180 : BitVec 32) : Prop :=
  (∀ a, (k0_off373 v3018 v3180) a + S1x48x512.size a ≤ S64x64x512.size a)
theorem k0_off373_inb : ∀ (v3018 : BitVec 32) (v3180 : BitVec 32) (k0_hw254 : k0_chk254 v3018 v3180), ∀ a, (k0_off373 v3018 v3180) a + S1x48x512.size a ≤ S64x64x512.size a := fun v3018 v3180 k0_hw254 => k0_hw254

def k0_off374 (v3018 : BitVec 32) (v3182 : BitVec 32) : Fin 3 → Nat :=
  let v3190 : Index := Scalar.indexCast v3182
  let v3019 : BitVec 32 := v3018
  let v3191 : Index := Scalar.indexCast v3019
  let c0_1355 : Index := 0#32
  ![v3190.toNat, v3191.toNat, 0]

def k0_chk255 (v3018 : BitVec 32) (v3182 : BitVec 32) : Prop :=
  (∀ a, (k0_off374 v3018 v3182) a + S1x48x512.size a ≤ S64x64x512.size a)
theorem k0_off374_inb : ∀ (v3018 : BitVec 32) (v3182 : BitVec 32) (k0_hw255 : k0_chk255 v3018 v3182), ∀ a, (k0_off374 v3018 v3182) a + S1x48x512.size a ≤ S64x64x512.size a := fun v3018 v3182 k0_hw255 => k0_hw255

def k0_off375 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32 : BitVec 32 := 17#32
  let v3204 : BitVec 32 := Scalar.addi v5 c17_i32
  let v3205 : Index := Scalar.indexCast v3204
  ![v3205.toNat]
def k0_mult18 (v3206 : BitVec 32) : BitVec 32 :=
  v3206

def k0_chk256 (v3206 : BitVec 32) : Prop :=
  (16 ∣ (k0_mult18 v3206).toNat)
theorem k0_mult18_dvd : ∀ (v3206 : BitVec 32) (k0_hw256 : k0_chk256 v3206), 16 ∣ (k0_mult18 v3206).toNat := fun v3206 k0_hw256 => k0_hw256

def k0_off376 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1365 : BitVec 32 := 17#32
  let v3208 : BitVec 32 := Scalar.addi v5 c17_i32_1365
  let c7_i32_1366 : BitVec 32 := 7#32
  let v3209 : BitVec 32 := Scalar.muli v3208 c7_i32_1366
  let c0_i32_1367 : BitVec 32 := 0#32
  let v3210 : BitVec 32 := Scalar.addi v3209 c0_i32_1367
  let v3211 : Index := Scalar.indexCast v3210
  ![v3211.toNat]
def k0_off377 (v3206 : BitVec 32) (v3212 : BitVec 32) : Fin 3 → Nat :=
  let v3218 : Index := Scalar.indexCast v3212
  let v3207 : BitVec 32 := v3206
  let v3219 : Index := Scalar.indexCast v3207
  let c0_1368 : Index := 0#32
  ![v3218.toNat, v3219.toNat, 0]

def k0_chk257 (v3206 : BitVec 32) (v3212 : BitVec 32) : Prop :=
  (∀ a, (k0_off377 v3206 v3212) a + S1x48x512.size a ≤ S64x64x512.size a)
theorem k0_off377_inb : ∀ (v3206 : BitVec 32) (v3212 : BitVec 32) (k0_hw257 : k0_chk257 v3206 v3212), ∀ a, (k0_off377 v3206 v3212) a + S1x48x512.size a ≤ S64x64x512.size a := fun v3206 v3212 k0_hw257 => k0_hw257

def k0_off378 (v3206 : BitVec 32) (v3214 : BitVec 32) : Fin 3 → Nat :=
  let v3222 : Index := Scalar.indexCast v3214
  let v3207 : BitVec 32 := v3206
  let v3223 : Index := Scalar.indexCast v3207
  let c0_1369 : Index := 0#32
  ![v3222.toNat, v3223.toNat, 0]

def k0_chk258 (v3206 : BitVec 32) (v3214 : BitVec 32) : Prop :=
  (∀ a, (k0_off378 v3206 v3214) a + S1x48x512.size a ≤ S64x64x512.size a)
theorem k0_off378_inb : ∀ (v3206 : BitVec 32) (v3214 : BitVec 32) (k0_hw258 : k0_chk258 v3206 v3214), ∀ a, (k0_off378 v3206 v3214) a + S1x48x512.size a ≤ S64x64x512.size a := fun v3206 v3214 k0_hw258 => k0_hw258

def k0_off379 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1376 : BitVec 32 := 17#32
  let v3234 : BitVec 32 := Scalar.addi v5 c17_i32_1376
  let c7_i32_1377 : BitVec 32 := 7#32
  let v3235 : BitVec 32 := Scalar.muli v3234 c7_i32_1377
  let c1_i32_1378 : BitVec 32 := 1#32
  let v3236 : BitVec 32 := Scalar.addi v3235 c1_i32_1378
  let v3237 : Index := Scalar.indexCast v3236
  ![v3237.toNat]
def k0_off380 (v3206 : BitVec 32) (v3238 : BitVec 32) : Fin 3 → Nat :=
  let v3244 : Index := Scalar.indexCast v3238
  let v3207 : BitVec 32 := v3206
  let v3245 : Index := Scalar.indexCast v3207
  let c0_1379 : Index := 0#32
  ![v3244.toNat, v3245.toNat, 0]

def k0_chk259 (v3206 : BitVec 32) (v3238 : BitVec 32) : Prop :=
  (∀ a, (k0_off380 v3206 v3238) a + S1x48x512.size a ≤ S64x64x512.size a)
theorem k0_off380_inb : ∀ (v3206 : BitVec 32) (v3238 : BitVec 32) (k0_hw259 : k0_chk259 v3206 v3238), ∀ a, (k0_off380 v3206 v3238) a + S1x48x512.size a ≤ S64x64x512.size a := fun v3206 v3238 k0_hw259 => k0_hw259

def k0_off381 (v3206 : BitVec 32) (v3240 : BitVec 32) : Fin 3 → Nat :=
  let v3248 : Index := Scalar.indexCast v3240
  let v3207 : BitVec 32 := v3206
  let v3249 : Index := Scalar.indexCast v3207
  let c0_1380 : Index := 0#32
  ![v3248.toNat, v3249.toNat, 0]

def k0_chk260 (v3206 : BitVec 32) (v3240 : BitVec 32) : Prop :=
  (∀ a, (k0_off381 v3206 v3240) a + S1x48x512.size a ≤ S64x64x512.size a)
theorem k0_off381_inb : ∀ (v3206 : BitVec 32) (v3240 : BitVec 32) (k0_hw260 : k0_chk260 v3206 v3240), ∀ a, (k0_off381 v3206 v3240) a + S1x48x512.size a ≤ S64x64x512.size a := fun v3206 v3240 k0_hw260 => k0_hw260

def k0_off382 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1387 : BitVec 32 := 17#32
  let v3260 : BitVec 32 := Scalar.addi v5 c17_i32_1387
  let c7_i32_1388 : BitVec 32 := 7#32
  let v3261 : BitVec 32 := Scalar.muli v3260 c7_i32_1388
  let c2_i32_1389 : BitVec 32 := 2#32
  let v3262 : BitVec 32 := Scalar.addi v3261 c2_i32_1389
  let v3263 : Index := Scalar.indexCast v3262
  ![v3263.toNat]
def k0_off383 (v3206 : BitVec 32) (v3264 : BitVec 32) : Fin 3 → Nat :=
  let v3270 : Index := Scalar.indexCast v3264
  let v3207 : BitVec 32 := v3206
  let v3271 : Index := Scalar.indexCast v3207
  let c0_1390 : Index := 0#32
  ![v3270.toNat, v3271.toNat, 0]

def k0_chk261 (v3206 : BitVec 32) (v3264 : BitVec 32) : Prop :=
  (∀ a, (k0_off383 v3206 v3264) a + S1x48x512.size a ≤ S64x64x512.size a)
theorem k0_off383_inb : ∀ (v3206 : BitVec 32) (v3264 : BitVec 32) (k0_hw261 : k0_chk261 v3206 v3264), ∀ a, (k0_off383 v3206 v3264) a + S1x48x512.size a ≤ S64x64x512.size a := fun v3206 v3264 k0_hw261 => k0_hw261

def k0_off384 (v3206 : BitVec 32) (v3266 : BitVec 32) : Fin 3 → Nat :=
  let v3274 : Index := Scalar.indexCast v3266
  let v3207 : BitVec 32 := v3206
  let v3275 : Index := Scalar.indexCast v3207
  let c0_1391 : Index := 0#32
  ![v3274.toNat, v3275.toNat, 0]

def k0_chk262 (v3206 : BitVec 32) (v3266 : BitVec 32) : Prop :=
  (∀ a, (k0_off384 v3206 v3266) a + S1x48x512.size a ≤ S64x64x512.size a)
theorem k0_off384_inb : ∀ (v3206 : BitVec 32) (v3266 : BitVec 32) (k0_hw262 : k0_chk262 v3206 v3266), ∀ a, (k0_off384 v3206 v3266) a + S1x48x512.size a ≤ S64x64x512.size a := fun v3206 v3266 k0_hw262 => k0_hw262

def k0_off385 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1398 : BitVec 32 := 17#32
  let v3286 : BitVec 32 := Scalar.addi v5 c17_i32_1398
  let c7_i32_1399 : BitVec 32 := 7#32
  let v3287 : BitVec 32 := Scalar.muli v3286 c7_i32_1399
  let c3_i32_1400 : BitVec 32 := 3#32
  let v3288 : BitVec 32 := Scalar.addi v3287 c3_i32_1400
  let v3289 : Index := Scalar.indexCast v3288
  ![v3289.toNat]
def k0_off386 (v3206 : BitVec 32) (v3290 : BitVec 32) : Fin 3 → Nat :=
  let v3296 : Index := Scalar.indexCast v3290
  let v3207 : BitVec 32 := v3206
  let v3297 : Index := Scalar.indexCast v3207
  let c0_1401 : Index := 0#32
  ![v3296.toNat, v3297.toNat, 0]

def k0_chk263 (v3206 : BitVec 32) (v3290 : BitVec 32) : Prop :=
  (∀ a, (k0_off386 v3206 v3290) a + S1x48x512.size a ≤ S64x64x512.size a)
theorem k0_off386_inb : ∀ (v3206 : BitVec 32) (v3290 : BitVec 32) (k0_hw263 : k0_chk263 v3206 v3290), ∀ a, (k0_off386 v3206 v3290) a + S1x48x512.size a ≤ S64x64x512.size a := fun v3206 v3290 k0_hw263 => k0_hw263

def k0_off387 (v3206 : BitVec 32) (v3292 : BitVec 32) : Fin 3 → Nat :=
  let v3300 : Index := Scalar.indexCast v3292
  let v3207 : BitVec 32 := v3206
  let v3301 : Index := Scalar.indexCast v3207
  let c0_1402 : Index := 0#32
  ![v3300.toNat, v3301.toNat, 0]

def k0_chk264 (v3206 : BitVec 32) (v3292 : BitVec 32) : Prop :=
  (∀ a, (k0_off387 v3206 v3292) a + S1x48x512.size a ≤ S64x64x512.size a)
theorem k0_off387_inb : ∀ (v3206 : BitVec 32) (v3292 : BitVec 32) (k0_hw264 : k0_chk264 v3206 v3292), ∀ a, (k0_off387 v3206 v3292) a + S1x48x512.size a ≤ S64x64x512.size a := fun v3206 v3292 k0_hw264 => k0_hw264

def k0_off388 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1409 : BitVec 32 := 17#32
  let v3312 : BitVec 32 := Scalar.addi v5 c17_i32_1409
  let c7_i32_1410 : BitVec 32 := 7#32
  let v3313 : BitVec 32 := Scalar.muli v3312 c7_i32_1410
  let c4_i32_1411 : BitVec 32 := 4#32
  let v3314 : BitVec 32 := Scalar.addi v3313 c4_i32_1411
  let v3315 : Index := Scalar.indexCast v3314
  ![v3315.toNat]
def k0_off389 (v3206 : BitVec 32) (v3316 : BitVec 32) : Fin 3 → Nat :=
  let v3322 : Index := Scalar.indexCast v3316
  let v3207 : BitVec 32 := v3206
  let v3323 : Index := Scalar.indexCast v3207
  let c0_1412 : Index := 0#32
  ![v3322.toNat, v3323.toNat, 0]

def k0_chk265 (v3206 : BitVec 32) (v3316 : BitVec 32) : Prop :=
  (∀ a, (k0_off389 v3206 v3316) a + S1x48x512.size a ≤ S64x64x512.size a)
theorem k0_off389_inb : ∀ (v3206 : BitVec 32) (v3316 : BitVec 32) (k0_hw265 : k0_chk265 v3206 v3316), ∀ a, (k0_off389 v3206 v3316) a + S1x48x512.size a ≤ S64x64x512.size a := fun v3206 v3316 k0_hw265 => k0_hw265

def k0_off390 (v3206 : BitVec 32) (v3318 : BitVec 32) : Fin 3 → Nat :=
  let v3326 : Index := Scalar.indexCast v3318
  let v3207 : BitVec 32 := v3206
  let v3327 : Index := Scalar.indexCast v3207
  let c0_1413 : Index := 0#32
  ![v3326.toNat, v3327.toNat, 0]

def k0_chk266 (v3206 : BitVec 32) (v3318 : BitVec 32) : Prop :=
  (∀ a, (k0_off390 v3206 v3318) a + S1x48x512.size a ≤ S64x64x512.size a)
theorem k0_off390_inb : ∀ (v3206 : BitVec 32) (v3318 : BitVec 32) (k0_hw266 : k0_chk266 v3206 v3318), ∀ a, (k0_off390 v3206 v3318) a + S1x48x512.size a ≤ S64x64x512.size a := fun v3206 v3318 k0_hw266 => k0_hw266

def k0_off391 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1420 : BitVec 32 := 17#32
  let v3338 : BitVec 32 := Scalar.addi v5 c17_i32_1420
  let c7_i32_1421 : BitVec 32 := 7#32
  let v3339 : BitVec 32 := Scalar.muli v3338 c7_i32_1421
  let c5_i32_1422 : BitVec 32 := 5#32
  let v3340 : BitVec 32 := Scalar.addi v3339 c5_i32_1422
  let v3341 : Index := Scalar.indexCast v3340
  ![v3341.toNat]
def k0_off392 (v3206 : BitVec 32) (v3342 : BitVec 32) : Fin 3 → Nat :=
  let v3348 : Index := Scalar.indexCast v3342
  let v3207 : BitVec 32 := v3206
  let v3349 : Index := Scalar.indexCast v3207
  let c0_1423 : Index := 0#32
  ![v3348.toNat, v3349.toNat, 0]

def k0_chk267 (v3206 : BitVec 32) (v3342 : BitVec 32) : Prop :=
  (∀ a, (k0_off392 v3206 v3342) a + S1x48x512.size a ≤ S64x64x512.size a)
theorem k0_off392_inb : ∀ (v3206 : BitVec 32) (v3342 : BitVec 32) (k0_hw267 : k0_chk267 v3206 v3342), ∀ a, (k0_off392 v3206 v3342) a + S1x48x512.size a ≤ S64x64x512.size a := fun v3206 v3342 k0_hw267 => k0_hw267

def k0_off393 (v3206 : BitVec 32) (v3344 : BitVec 32) : Fin 3 → Nat :=
  let v3352 : Index := Scalar.indexCast v3344
  let v3207 : BitVec 32 := v3206
  let v3353 : Index := Scalar.indexCast v3207
  let c0_1424 : Index := 0#32
  ![v3352.toNat, v3353.toNat, 0]

def k0_chk268 (v3206 : BitVec 32) (v3344 : BitVec 32) : Prop :=
  (∀ a, (k0_off393 v3206 v3344) a + S1x48x512.size a ≤ S64x64x512.size a)
theorem k0_off393_inb : ∀ (v3206 : BitVec 32) (v3344 : BitVec 32) (k0_hw268 : k0_chk268 v3206 v3344), ∀ a, (k0_off393 v3206 v3344) a + S1x48x512.size a ≤ S64x64x512.size a := fun v3206 v3344 k0_hw268 => k0_hw268

def k0_off394 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c17_i32_1431 : BitVec 32 := 17#32
  let v3364 : BitVec 32 := Scalar.addi v5 c17_i32_1431
  let c7_i32_1432 : BitVec 32 := 7#32
  let v3365 : BitVec 32 := Scalar.muli v3364 c7_i32_1432
  let c6_i32_1433 : BitVec 32 := 6#32
  let v3366 : BitVec 32 := Scalar.addi v3365 c6_i32_1433
  let v3367 : Index := Scalar.indexCast v3366
  ![v3367.toNat]
def k0_off395 (v3206 : BitVec 32) (v3368 : BitVec 32) : Fin 3 → Nat :=
  let v3374 : Index := Scalar.indexCast v3368
  let v3207 : BitVec 32 := v3206
  let v3375 : Index := Scalar.indexCast v3207
  let c0_1434 : Index := 0#32
  ![v3374.toNat, v3375.toNat, 0]

def k0_chk269 (v3206 : BitVec 32) (v3368 : BitVec 32) : Prop :=
  (∀ a, (k0_off395 v3206 v3368) a + S1x48x512.size a ≤ S64x64x512.size a)
theorem k0_off395_inb : ∀ (v3206 : BitVec 32) (v3368 : BitVec 32) (k0_hw269 : k0_chk269 v3206 v3368), ∀ a, (k0_off395 v3206 v3368) a + S1x48x512.size a ≤ S64x64x512.size a := fun v3206 v3368 k0_hw269 => k0_hw269

def k0_off396 (v3206 : BitVec 32) (v3370 : BitVec 32) : Fin 3 → Nat :=
  let v3378 : Index := Scalar.indexCast v3370
  let v3207 : BitVec 32 := v3206
  let v3379 : Index := Scalar.indexCast v3207
  let c0_1435 : Index := 0#32
  ![v3378.toNat, v3379.toNat, 0]

def k0_chk270 (v3206 : BitVec 32) (v3370 : BitVec 32) : Prop :=
  (∀ a, (k0_off396 v3206 v3370) a + S1x48x512.size a ≤ S64x64x512.size a)
theorem k0_off396_inb : ∀ (v3206 : BitVec 32) (v3370 : BitVec 32) (k0_hw270 : k0_chk270 v3206 v3370), ∀ a, (k0_off396 v3206 v3370) a + S1x48x512.size a ≤ S64x64x512.size a := fun v3206 v3370 k0_hw270 => k0_hw270

def k0_off397 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32 : BitVec 32 := 18#32
  let v3392 : BitVec 32 := Scalar.addi v5 c18_i32
  let v3393 : Index := Scalar.indexCast v3392
  ![v3393.toNat]
def k0_mult19 (v3394 : BitVec 32) : BitVec 32 :=
  v3394

def k0_chk271 (v3394 : BitVec 32) : Prop :=
  (16 ∣ (k0_mult19 v3394).toNat)
theorem k0_mult19_dvd : ∀ (v3394 : BitVec 32) (k0_hw271 : k0_chk271 v3394), 16 ∣ (k0_mult19 v3394).toNat := fun v3394 k0_hw271 => k0_hw271

def k0_off398 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1445 : BitVec 32 := 18#32
  let v3396 : BitVec 32 := Scalar.addi v5 c18_i32_1445
  let c7_i32_1446 : BitVec 32 := 7#32
  let v3397 : BitVec 32 := Scalar.muli v3396 c7_i32_1446
  let c0_i32_1447 : BitVec 32 := 0#32
  let v3398 : BitVec 32 := Scalar.addi v3397 c0_i32_1447
  let v3399 : Index := Scalar.indexCast v3398
  ![v3399.toNat]
def k0_off399 (v3394 : BitVec 32) (v3400 : BitVec 32) : Fin 3 → Nat :=
  let v3406 : Index := Scalar.indexCast v3400
  let v3395 : BitVec 32 := v3394
  let v3407 : Index := Scalar.indexCast v3395
  let c0_1448 : Index := 0#32
  ![v3406.toNat, v3407.toNat, 0]

def k0_chk272 (v3394 : BitVec 32) (v3400 : BitVec 32) : Prop :=
  (∀ a, (k0_off399 v3394 v3400) a + S1x48x512.size a ≤ S64x64x512.size a)
theorem k0_off399_inb : ∀ (v3394 : BitVec 32) (v3400 : BitVec 32) (k0_hw272 : k0_chk272 v3394 v3400), ∀ a, (k0_off399 v3394 v3400) a + S1x48x512.size a ≤ S64x64x512.size a := fun v3394 v3400 k0_hw272 => k0_hw272

def k0_off400 (v3394 : BitVec 32) (v3402 : BitVec 32) : Fin 3 → Nat :=
  let v3410 : Index := Scalar.indexCast v3402
  let v3395 : BitVec 32 := v3394
  let v3411 : Index := Scalar.indexCast v3395
  let c0_1449 : Index := 0#32
  ![v3410.toNat, v3411.toNat, 0]

def k0_chk273 (v3394 : BitVec 32) (v3402 : BitVec 32) : Prop :=
  (∀ a, (k0_off400 v3394 v3402) a + S1x48x512.size a ≤ S64x64x512.size a)
theorem k0_off400_inb : ∀ (v3394 : BitVec 32) (v3402 : BitVec 32) (k0_hw273 : k0_chk273 v3394 v3402), ∀ a, (k0_off400 v3394 v3402) a + S1x48x512.size a ≤ S64x64x512.size a := fun v3394 v3402 k0_hw273 => k0_hw273

def k0_off401 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1456 : BitVec 32 := 18#32
  let v3422 : BitVec 32 := Scalar.addi v5 c18_i32_1456
  let c7_i32_1457 : BitVec 32 := 7#32
  let v3423 : BitVec 32 := Scalar.muli v3422 c7_i32_1457
  let c1_i32_1458 : BitVec 32 := 1#32
  let v3424 : BitVec 32 := Scalar.addi v3423 c1_i32_1458
  let v3425 : Index := Scalar.indexCast v3424
  ![v3425.toNat]
def k0_off402 (v3394 : BitVec 32) (v3426 : BitVec 32) : Fin 3 → Nat :=
  let v3432 : Index := Scalar.indexCast v3426
  let v3395 : BitVec 32 := v3394
  let v3433 : Index := Scalar.indexCast v3395
  let c0_1459 : Index := 0#32
  ![v3432.toNat, v3433.toNat, 0]

def k0_chk274 (v3394 : BitVec 32) (v3426 : BitVec 32) : Prop :=
  (∀ a, (k0_off402 v3394 v3426) a + S1x48x512.size a ≤ S64x64x512.size a)
theorem k0_off402_inb : ∀ (v3394 : BitVec 32) (v3426 : BitVec 32) (k0_hw274 : k0_chk274 v3394 v3426), ∀ a, (k0_off402 v3394 v3426) a + S1x48x512.size a ≤ S64x64x512.size a := fun v3394 v3426 k0_hw274 => k0_hw274

def k0_off403 (v3394 : BitVec 32) (v3428 : BitVec 32) : Fin 3 → Nat :=
  let v3436 : Index := Scalar.indexCast v3428
  let v3395 : BitVec 32 := v3394
  let v3437 : Index := Scalar.indexCast v3395
  let c0_1460 : Index := 0#32
  ![v3436.toNat, v3437.toNat, 0]

def k0_chk275 (v3394 : BitVec 32) (v3428 : BitVec 32) : Prop :=
  (∀ a, (k0_off403 v3394 v3428) a + S1x48x512.size a ≤ S64x64x512.size a)
theorem k0_off403_inb : ∀ (v3394 : BitVec 32) (v3428 : BitVec 32) (k0_hw275 : k0_chk275 v3394 v3428), ∀ a, (k0_off403 v3394 v3428) a + S1x48x512.size a ≤ S64x64x512.size a := fun v3394 v3428 k0_hw275 => k0_hw275

def k0_off404 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1467 : BitVec 32 := 18#32
  let v3448 : BitVec 32 := Scalar.addi v5 c18_i32_1467
  let c7_i32_1468 : BitVec 32 := 7#32
  let v3449 : BitVec 32 := Scalar.muli v3448 c7_i32_1468
  let c2_i32_1469 : BitVec 32 := 2#32
  let v3450 : BitVec 32 := Scalar.addi v3449 c2_i32_1469
  let v3451 : Index := Scalar.indexCast v3450
  ![v3451.toNat]
def k0_off405 (v3394 : BitVec 32) (v3452 : BitVec 32) : Fin 3 → Nat :=
  let v3458 : Index := Scalar.indexCast v3452
  let v3395 : BitVec 32 := v3394
  let v3459 : Index := Scalar.indexCast v3395
  let c0_1470 : Index := 0#32
  ![v3458.toNat, v3459.toNat, 0]

def k0_chk276 (v3394 : BitVec 32) (v3452 : BitVec 32) : Prop :=
  (∀ a, (k0_off405 v3394 v3452) a + S1x48x512.size a ≤ S64x64x512.size a)
theorem k0_off405_inb : ∀ (v3394 : BitVec 32) (v3452 : BitVec 32) (k0_hw276 : k0_chk276 v3394 v3452), ∀ a, (k0_off405 v3394 v3452) a + S1x48x512.size a ≤ S64x64x512.size a := fun v3394 v3452 k0_hw276 => k0_hw276

def k0_off406 (v3394 : BitVec 32) (v3454 : BitVec 32) : Fin 3 → Nat :=
  let v3462 : Index := Scalar.indexCast v3454
  let v3395 : BitVec 32 := v3394
  let v3463 : Index := Scalar.indexCast v3395
  let c0_1471 : Index := 0#32
  ![v3462.toNat, v3463.toNat, 0]

def k0_chk277 (v3394 : BitVec 32) (v3454 : BitVec 32) : Prop :=
  (∀ a, (k0_off406 v3394 v3454) a + S1x48x512.size a ≤ S64x64x512.size a)
theorem k0_off406_inb : ∀ (v3394 : BitVec 32) (v3454 : BitVec 32) (k0_hw277 : k0_chk277 v3394 v3454), ∀ a, (k0_off406 v3394 v3454) a + S1x48x512.size a ≤ S64x64x512.size a := fun v3394 v3454 k0_hw277 => k0_hw277

def k0_off407 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1478 : BitVec 32 := 18#32
  let v3474 : BitVec 32 := Scalar.addi v5 c18_i32_1478
  let c7_i32_1479 : BitVec 32 := 7#32
  let v3475 : BitVec 32 := Scalar.muli v3474 c7_i32_1479
  let c3_i32_1480 : BitVec 32 := 3#32
  let v3476 : BitVec 32 := Scalar.addi v3475 c3_i32_1480
  let v3477 : Index := Scalar.indexCast v3476
  ![v3477.toNat]
def k0_off408 (v3394 : BitVec 32) (v3478 : BitVec 32) : Fin 3 → Nat :=
  let v3484 : Index := Scalar.indexCast v3478
  let v3395 : BitVec 32 := v3394
  let v3485 : Index := Scalar.indexCast v3395
  let c0_1481 : Index := 0#32
  ![v3484.toNat, v3485.toNat, 0]

def k0_chk278 (v3394 : BitVec 32) (v3478 : BitVec 32) : Prop :=
  (∀ a, (k0_off408 v3394 v3478) a + S1x48x512.size a ≤ S64x64x512.size a)
theorem k0_off408_inb : ∀ (v3394 : BitVec 32) (v3478 : BitVec 32) (k0_hw278 : k0_chk278 v3394 v3478), ∀ a, (k0_off408 v3394 v3478) a + S1x48x512.size a ≤ S64x64x512.size a := fun v3394 v3478 k0_hw278 => k0_hw278

def k0_off409 (v3394 : BitVec 32) (v3480 : BitVec 32) : Fin 3 → Nat :=
  let v3488 : Index := Scalar.indexCast v3480
  let v3395 : BitVec 32 := v3394
  let v3489 : Index := Scalar.indexCast v3395
  let c0_1482 : Index := 0#32
  ![v3488.toNat, v3489.toNat, 0]

def k0_chk279 (v3394 : BitVec 32) (v3480 : BitVec 32) : Prop :=
  (∀ a, (k0_off409 v3394 v3480) a + S1x48x512.size a ≤ S64x64x512.size a)
theorem k0_off409_inb : ∀ (v3394 : BitVec 32) (v3480 : BitVec 32) (k0_hw279 : k0_chk279 v3394 v3480), ∀ a, (k0_off409 v3394 v3480) a + S1x48x512.size a ≤ S64x64x512.size a := fun v3394 v3480 k0_hw279 => k0_hw279

def k0_off410 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1489 : BitVec 32 := 18#32
  let v3500 : BitVec 32 := Scalar.addi v5 c18_i32_1489
  let c7_i32_1490 : BitVec 32 := 7#32
  let v3501 : BitVec 32 := Scalar.muli v3500 c7_i32_1490
  let c4_i32_1491 : BitVec 32 := 4#32
  let v3502 : BitVec 32 := Scalar.addi v3501 c4_i32_1491
  let v3503 : Index := Scalar.indexCast v3502
  ![v3503.toNat]
def k0_off411 (v3394 : BitVec 32) (v3504 : BitVec 32) : Fin 3 → Nat :=
  let v3510 : Index := Scalar.indexCast v3504
  let v3395 : BitVec 32 := v3394
  let v3511 : Index := Scalar.indexCast v3395
  let c0_1492 : Index := 0#32
  ![v3510.toNat, v3511.toNat, 0]

def k0_chk280 (v3394 : BitVec 32) (v3504 : BitVec 32) : Prop :=
  (∀ a, (k0_off411 v3394 v3504) a + S1x48x512.size a ≤ S64x64x512.size a)
theorem k0_off411_inb : ∀ (v3394 : BitVec 32) (v3504 : BitVec 32) (k0_hw280 : k0_chk280 v3394 v3504), ∀ a, (k0_off411 v3394 v3504) a + S1x48x512.size a ≤ S64x64x512.size a := fun v3394 v3504 k0_hw280 => k0_hw280

def k0_off412 (v3394 : BitVec 32) (v3506 : BitVec 32) : Fin 3 → Nat :=
  let v3514 : Index := Scalar.indexCast v3506
  let v3395 : BitVec 32 := v3394
  let v3515 : Index := Scalar.indexCast v3395
  let c0_1493 : Index := 0#32
  ![v3514.toNat, v3515.toNat, 0]

def k0_chk281 (v3394 : BitVec 32) (v3506 : BitVec 32) : Prop :=
  (∀ a, (k0_off412 v3394 v3506) a + S1x48x512.size a ≤ S64x64x512.size a)
theorem k0_off412_inb : ∀ (v3394 : BitVec 32) (v3506 : BitVec 32) (k0_hw281 : k0_chk281 v3394 v3506), ∀ a, (k0_off412 v3394 v3506) a + S1x48x512.size a ≤ S64x64x512.size a := fun v3394 v3506 k0_hw281 => k0_hw281

def k0_off413 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1500 : BitVec 32 := 18#32
  let v3526 : BitVec 32 := Scalar.addi v5 c18_i32_1500
  let c7_i32_1501 : BitVec 32 := 7#32
  let v3527 : BitVec 32 := Scalar.muli v3526 c7_i32_1501
  let c5_i32_1502 : BitVec 32 := 5#32
  let v3528 : BitVec 32 := Scalar.addi v3527 c5_i32_1502
  let v3529 : Index := Scalar.indexCast v3528
  ![v3529.toNat]
def k0_off414 (v3394 : BitVec 32) (v3530 : BitVec 32) : Fin 3 → Nat :=
  let v3536 : Index := Scalar.indexCast v3530
  let v3395 : BitVec 32 := v3394
  let v3537 : Index := Scalar.indexCast v3395
  let c0_1503 : Index := 0#32
  ![v3536.toNat, v3537.toNat, 0]

def k0_chk282 (v3394 : BitVec 32) (v3530 : BitVec 32) : Prop :=
  (∀ a, (k0_off414 v3394 v3530) a + S1x48x512.size a ≤ S64x64x512.size a)
theorem k0_off414_inb : ∀ (v3394 : BitVec 32) (v3530 : BitVec 32) (k0_hw282 : k0_chk282 v3394 v3530), ∀ a, (k0_off414 v3394 v3530) a + S1x48x512.size a ≤ S64x64x512.size a := fun v3394 v3530 k0_hw282 => k0_hw282

def k0_off415 (v3394 : BitVec 32) (v3532 : BitVec 32) : Fin 3 → Nat :=
  let v3540 : Index := Scalar.indexCast v3532
  let v3395 : BitVec 32 := v3394
  let v3541 : Index := Scalar.indexCast v3395
  let c0_1504 : Index := 0#32
  ![v3540.toNat, v3541.toNat, 0]

def k0_chk283 (v3394 : BitVec 32) (v3532 : BitVec 32) : Prop :=
  (∀ a, (k0_off415 v3394 v3532) a + S1x48x512.size a ≤ S64x64x512.size a)
theorem k0_off415_inb : ∀ (v3394 : BitVec 32) (v3532 : BitVec 32) (k0_hw283 : k0_chk283 v3394 v3532), ∀ a, (k0_off415 v3394 v3532) a + S1x48x512.size a ≤ S64x64x512.size a := fun v3394 v3532 k0_hw283 => k0_hw283

def k0_off416 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c18_i32_1511 : BitVec 32 := 18#32
  let v3552 : BitVec 32 := Scalar.addi v5 c18_i32_1511
  let c7_i32_1512 : BitVec 32 := 7#32
  let v3553 : BitVec 32 := Scalar.muli v3552 c7_i32_1512
  let c6_i32_1513 : BitVec 32 := 6#32
  let v3554 : BitVec 32 := Scalar.addi v3553 c6_i32_1513
  let v3555 : Index := Scalar.indexCast v3554
  ![v3555.toNat]
def k0_off417 (v3394 : BitVec 32) (v3556 : BitVec 32) : Fin 3 → Nat :=
  let v3562 : Index := Scalar.indexCast v3556
  let v3395 : BitVec 32 := v3394
  let v3563 : Index := Scalar.indexCast v3395
  let c0_1514 : Index := 0#32
  ![v3562.toNat, v3563.toNat, 0]

def k0_chk284 (v3394 : BitVec 32) (v3556 : BitVec 32) : Prop :=
  (∀ a, (k0_off417 v3394 v3556) a + S1x48x512.size a ≤ S64x64x512.size a)
theorem k0_off417_inb : ∀ (v3394 : BitVec 32) (v3556 : BitVec 32) (k0_hw284 : k0_chk284 v3394 v3556), ∀ a, (k0_off417 v3394 v3556) a + S1x48x512.size a ≤ S64x64x512.size a := fun v3394 v3556 k0_hw284 => k0_hw284

def k0_off418 (v3394 : BitVec 32) (v3558 : BitVec 32) : Fin 3 → Nat :=
  let v3566 : Index := Scalar.indexCast v3558
  let v3395 : BitVec 32 := v3394
  let v3567 : Index := Scalar.indexCast v3395
  let c0_1515 : Index := 0#32
  ![v3566.toNat, v3567.toNat, 0]

def k0_chk285 (v3394 : BitVec 32) (v3558 : BitVec 32) : Prop :=
  (∀ a, (k0_off418 v3394 v3558) a + S1x48x512.size a ≤ S64x64x512.size a)
theorem k0_off418_inb : ∀ (v3394 : BitVec 32) (v3558 : BitVec 32) (k0_hw285 : k0_chk285 v3394 v3558), ∀ a, (k0_off418 v3394 v3558) a + S1x48x512.size a ≤ S64x64x512.size a := fun v3394 v3558 k0_hw285 => k0_hw285

def k0_off419 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32 : BitVec 32 := 19#32
  let v3580 : BitVec 32 := Scalar.addi v5 c19_i32
  let v3581 : Index := Scalar.indexCast v3580
  ![v3581.toNat]
def k0_mult20 (v3582 : BitVec 32) : BitVec 32 :=
  v3582

def k0_chk286 (v3582 : BitVec 32) : Prop :=
  (16 ∣ (k0_mult20 v3582).toNat)
theorem k0_mult20_dvd : ∀ (v3582 : BitVec 32) (k0_hw286 : k0_chk286 v3582), 16 ∣ (k0_mult20 v3582).toNat := fun v3582 k0_hw286 => k0_hw286

def k0_off420 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1525 : BitVec 32 := 19#32
  let v3584 : BitVec 32 := Scalar.addi v5 c19_i32_1525
  let c7_i32_1526 : BitVec 32 := 7#32
  let v3585 : BitVec 32 := Scalar.muli v3584 c7_i32_1526
  let c0_i32_1527 : BitVec 32 := 0#32
  let v3586 : BitVec 32 := Scalar.addi v3585 c0_i32_1527
  let v3587 : Index := Scalar.indexCast v3586
  ![v3587.toNat]
def k0_off421 (v3582 : BitVec 32) (v3588 : BitVec 32) : Fin 3 → Nat :=
  let v3594 : Index := Scalar.indexCast v3588
  let v3583 : BitVec 32 := v3582
  let v3595 : Index := Scalar.indexCast v3583
  let c0_1528 : Index := 0#32
  ![v3594.toNat, v3595.toNat, 0]

def k0_chk287 (v3582 : BitVec 32) (v3588 : BitVec 32) : Prop :=
  (∀ a, (k0_off421 v3582 v3588) a + S1x48x512.size a ≤ S64x64x512.size a)
theorem k0_off421_inb : ∀ (v3582 : BitVec 32) (v3588 : BitVec 32) (k0_hw287 : k0_chk287 v3582 v3588), ∀ a, (k0_off421 v3582 v3588) a + S1x48x512.size a ≤ S64x64x512.size a := fun v3582 v3588 k0_hw287 => k0_hw287

def k0_off422 (v3582 : BitVec 32) (v3590 : BitVec 32) : Fin 3 → Nat :=
  let v3598 : Index := Scalar.indexCast v3590
  let v3583 : BitVec 32 := v3582
  let v3599 : Index := Scalar.indexCast v3583
  let c0_1529 : Index := 0#32
  ![v3598.toNat, v3599.toNat, 0]

def k0_chk288 (v3582 : BitVec 32) (v3590 : BitVec 32) : Prop :=
  (∀ a, (k0_off422 v3582 v3590) a + S1x48x512.size a ≤ S64x64x512.size a)
theorem k0_off422_inb : ∀ (v3582 : BitVec 32) (v3590 : BitVec 32) (k0_hw288 : k0_chk288 v3582 v3590), ∀ a, (k0_off422 v3582 v3590) a + S1x48x512.size a ≤ S64x64x512.size a := fun v3582 v3590 k0_hw288 => k0_hw288

def k0_off423 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1536 : BitVec 32 := 19#32
  let v3610 : BitVec 32 := Scalar.addi v5 c19_i32_1536
  let c7_i32_1537 : BitVec 32 := 7#32
  let v3611 : BitVec 32 := Scalar.muli v3610 c7_i32_1537
  let c1_i32_1538 : BitVec 32 := 1#32
  let v3612 : BitVec 32 := Scalar.addi v3611 c1_i32_1538
  let v3613 : Index := Scalar.indexCast v3612
  ![v3613.toNat]
def k0_off424 (v3582 : BitVec 32) (v3614 : BitVec 32) : Fin 3 → Nat :=
  let v3620 : Index := Scalar.indexCast v3614
  let v3583 : BitVec 32 := v3582
  let v3621 : Index := Scalar.indexCast v3583
  let c0_1539 : Index := 0#32
  ![v3620.toNat, v3621.toNat, 0]

def k0_chk289 (v3582 : BitVec 32) (v3614 : BitVec 32) : Prop :=
  (∀ a, (k0_off424 v3582 v3614) a + S1x48x512.size a ≤ S64x64x512.size a)
theorem k0_off424_inb : ∀ (v3582 : BitVec 32) (v3614 : BitVec 32) (k0_hw289 : k0_chk289 v3582 v3614), ∀ a, (k0_off424 v3582 v3614) a + S1x48x512.size a ≤ S64x64x512.size a := fun v3582 v3614 k0_hw289 => k0_hw289

def k0_off425 (v3582 : BitVec 32) (v3616 : BitVec 32) : Fin 3 → Nat :=
  let v3624 : Index := Scalar.indexCast v3616
  let v3583 : BitVec 32 := v3582
  let v3625 : Index := Scalar.indexCast v3583
  let c0_1540 : Index := 0#32
  ![v3624.toNat, v3625.toNat, 0]

def k0_chk290 (v3582 : BitVec 32) (v3616 : BitVec 32) : Prop :=
  (∀ a, (k0_off425 v3582 v3616) a + S1x48x512.size a ≤ S64x64x512.size a)
theorem k0_off425_inb : ∀ (v3582 : BitVec 32) (v3616 : BitVec 32) (k0_hw290 : k0_chk290 v3582 v3616), ∀ a, (k0_off425 v3582 v3616) a + S1x48x512.size a ≤ S64x64x512.size a := fun v3582 v3616 k0_hw290 => k0_hw290

def k0_off426 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1547 : BitVec 32 := 19#32
  let v3636 : BitVec 32 := Scalar.addi v5 c19_i32_1547
  let c7_i32_1548 : BitVec 32 := 7#32
  let v3637 : BitVec 32 := Scalar.muli v3636 c7_i32_1548
  let c2_i32_1549 : BitVec 32 := 2#32
  let v3638 : BitVec 32 := Scalar.addi v3637 c2_i32_1549
  let v3639 : Index := Scalar.indexCast v3638
  ![v3639.toNat]
def k0_off427 (v3582 : BitVec 32) (v3640 : BitVec 32) : Fin 3 → Nat :=
  let v3646 : Index := Scalar.indexCast v3640
  let v3583 : BitVec 32 := v3582
  let v3647 : Index := Scalar.indexCast v3583
  let c0_1550 : Index := 0#32
  ![v3646.toNat, v3647.toNat, 0]

def k0_chk291 (v3582 : BitVec 32) (v3640 : BitVec 32) : Prop :=
  (∀ a, (k0_off427 v3582 v3640) a + S1x48x512.size a ≤ S64x64x512.size a)
theorem k0_off427_inb : ∀ (v3582 : BitVec 32) (v3640 : BitVec 32) (k0_hw291 : k0_chk291 v3582 v3640), ∀ a, (k0_off427 v3582 v3640) a + S1x48x512.size a ≤ S64x64x512.size a := fun v3582 v3640 k0_hw291 => k0_hw291

def k0_off428 (v3582 : BitVec 32) (v3642 : BitVec 32) : Fin 3 → Nat :=
  let v3650 : Index := Scalar.indexCast v3642
  let v3583 : BitVec 32 := v3582
  let v3651 : Index := Scalar.indexCast v3583
  let c0_1551 : Index := 0#32
  ![v3650.toNat, v3651.toNat, 0]

def k0_chk292 (v3582 : BitVec 32) (v3642 : BitVec 32) : Prop :=
  (∀ a, (k0_off428 v3582 v3642) a + S1x48x512.size a ≤ S64x64x512.size a)
theorem k0_off428_inb : ∀ (v3582 : BitVec 32) (v3642 : BitVec 32) (k0_hw292 : k0_chk292 v3582 v3642), ∀ a, (k0_off428 v3582 v3642) a + S1x48x512.size a ≤ S64x64x512.size a := fun v3582 v3642 k0_hw292 => k0_hw292

def k0_off429 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1558 : BitVec 32 := 19#32
  let v3662 : BitVec 32 := Scalar.addi v5 c19_i32_1558
  let c7_i32_1559 : BitVec 32 := 7#32
  let v3663 : BitVec 32 := Scalar.muli v3662 c7_i32_1559
  let c3_i32_1560 : BitVec 32 := 3#32
  let v3664 : BitVec 32 := Scalar.addi v3663 c3_i32_1560
  let v3665 : Index := Scalar.indexCast v3664
  ![v3665.toNat]
def k0_off430 (v3582 : BitVec 32) (v3666 : BitVec 32) : Fin 3 → Nat :=
  let v3672 : Index := Scalar.indexCast v3666
  let v3583 : BitVec 32 := v3582
  let v3673 : Index := Scalar.indexCast v3583
  let c0_1561 : Index := 0#32
  ![v3672.toNat, v3673.toNat, 0]

def k0_chk293 (v3582 : BitVec 32) (v3666 : BitVec 32) : Prop :=
  (∀ a, (k0_off430 v3582 v3666) a + S1x48x512.size a ≤ S64x64x512.size a)
theorem k0_off430_inb : ∀ (v3582 : BitVec 32) (v3666 : BitVec 32) (k0_hw293 : k0_chk293 v3582 v3666), ∀ a, (k0_off430 v3582 v3666) a + S1x48x512.size a ≤ S64x64x512.size a := fun v3582 v3666 k0_hw293 => k0_hw293

def k0_off431 (v3582 : BitVec 32) (v3668 : BitVec 32) : Fin 3 → Nat :=
  let v3676 : Index := Scalar.indexCast v3668
  let v3583 : BitVec 32 := v3582
  let v3677 : Index := Scalar.indexCast v3583
  let c0_1562 : Index := 0#32
  ![v3676.toNat, v3677.toNat, 0]

def k0_chk294 (v3582 : BitVec 32) (v3668 : BitVec 32) : Prop :=
  (∀ a, (k0_off431 v3582 v3668) a + S1x48x512.size a ≤ S64x64x512.size a)
theorem k0_off431_inb : ∀ (v3582 : BitVec 32) (v3668 : BitVec 32) (k0_hw294 : k0_chk294 v3582 v3668), ∀ a, (k0_off431 v3582 v3668) a + S1x48x512.size a ≤ S64x64x512.size a := fun v3582 v3668 k0_hw294 => k0_hw294

def k0_off432 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1569 : BitVec 32 := 19#32
  let v3688 : BitVec 32 := Scalar.addi v5 c19_i32_1569
  let c7_i32_1570 : BitVec 32 := 7#32
  let v3689 : BitVec 32 := Scalar.muli v3688 c7_i32_1570
  let c4_i32_1571 : BitVec 32 := 4#32
  let v3690 : BitVec 32 := Scalar.addi v3689 c4_i32_1571
  let v3691 : Index := Scalar.indexCast v3690
  ![v3691.toNat]
def k0_off433 (v3582 : BitVec 32) (v3692 : BitVec 32) : Fin 3 → Nat :=
  let v3698 : Index := Scalar.indexCast v3692
  let v3583 : BitVec 32 := v3582
  let v3699 : Index := Scalar.indexCast v3583
  let c0_1572 : Index := 0#32
  ![v3698.toNat, v3699.toNat, 0]

def k0_chk295 (v3582 : BitVec 32) (v3692 : BitVec 32) : Prop :=
  (∀ a, (k0_off433 v3582 v3692) a + S1x48x512.size a ≤ S64x64x512.size a)
theorem k0_off433_inb : ∀ (v3582 : BitVec 32) (v3692 : BitVec 32) (k0_hw295 : k0_chk295 v3582 v3692), ∀ a, (k0_off433 v3582 v3692) a + S1x48x512.size a ≤ S64x64x512.size a := fun v3582 v3692 k0_hw295 => k0_hw295

def k0_off434 (v3582 : BitVec 32) (v3694 : BitVec 32) : Fin 3 → Nat :=
  let v3702 : Index := Scalar.indexCast v3694
  let v3583 : BitVec 32 := v3582
  let v3703 : Index := Scalar.indexCast v3583
  let c0_1573 : Index := 0#32
  ![v3702.toNat, v3703.toNat, 0]

def k0_chk296 (v3582 : BitVec 32) (v3694 : BitVec 32) : Prop :=
  (∀ a, (k0_off434 v3582 v3694) a + S1x48x512.size a ≤ S64x64x512.size a)
theorem k0_off434_inb : ∀ (v3582 : BitVec 32) (v3694 : BitVec 32) (k0_hw296 : k0_chk296 v3582 v3694), ∀ a, (k0_off434 v3582 v3694) a + S1x48x512.size a ≤ S64x64x512.size a := fun v3582 v3694 k0_hw296 => k0_hw296

def k0_off435 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1580 : BitVec 32 := 19#32
  let v3714 : BitVec 32 := Scalar.addi v5 c19_i32_1580
  let c7_i32_1581 : BitVec 32 := 7#32
  let v3715 : BitVec 32 := Scalar.muli v3714 c7_i32_1581
  let c5_i32_1582 : BitVec 32 := 5#32
  let v3716 : BitVec 32 := Scalar.addi v3715 c5_i32_1582
  let v3717 : Index := Scalar.indexCast v3716
  ![v3717.toNat]
def k0_off436 (v3582 : BitVec 32) (v3718 : BitVec 32) : Fin 3 → Nat :=
  let v3724 : Index := Scalar.indexCast v3718
  let v3583 : BitVec 32 := v3582
  let v3725 : Index := Scalar.indexCast v3583
  let c0_1583 : Index := 0#32
  ![v3724.toNat, v3725.toNat, 0]

def k0_chk297 (v3582 : BitVec 32) (v3718 : BitVec 32) : Prop :=
  (∀ a, (k0_off436 v3582 v3718) a + S1x48x512.size a ≤ S64x64x512.size a)
theorem k0_off436_inb : ∀ (v3582 : BitVec 32) (v3718 : BitVec 32) (k0_hw297 : k0_chk297 v3582 v3718), ∀ a, (k0_off436 v3582 v3718) a + S1x48x512.size a ≤ S64x64x512.size a := fun v3582 v3718 k0_hw297 => k0_hw297

def k0_off437 (v3582 : BitVec 32) (v3720 : BitVec 32) : Fin 3 → Nat :=
  let v3728 : Index := Scalar.indexCast v3720
  let v3583 : BitVec 32 := v3582
  let v3729 : Index := Scalar.indexCast v3583
  let c0_1584 : Index := 0#32
  ![v3728.toNat, v3729.toNat, 0]

def k0_chk298 (v3582 : BitVec 32) (v3720 : BitVec 32) : Prop :=
  (∀ a, (k0_off437 v3582 v3720) a + S1x48x512.size a ≤ S64x64x512.size a)
theorem k0_off437_inb : ∀ (v3582 : BitVec 32) (v3720 : BitVec 32) (k0_hw298 : k0_chk298 v3582 v3720), ∀ a, (k0_off437 v3582 v3720) a + S1x48x512.size a ≤ S64x64x512.size a := fun v3582 v3720 k0_hw298 => k0_hw298

def k0_off438 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c19_i32_1591 : BitVec 32 := 19#32
  let v3740 : BitVec 32 := Scalar.addi v5 c19_i32_1591
  let c7_i32_1592 : BitVec 32 := 7#32
  let v3741 : BitVec 32 := Scalar.muli v3740 c7_i32_1592
  let c6_i32_1593 : BitVec 32 := 6#32
  let v3742 : BitVec 32 := Scalar.addi v3741 c6_i32_1593
  let v3743 : Index := Scalar.indexCast v3742
  ![v3743.toNat]
def k0_off439 (v3582 : BitVec 32) (v3744 : BitVec 32) : Fin 3 → Nat :=
  let v3750 : Index := Scalar.indexCast v3744
  let v3583 : BitVec 32 := v3582
  let v3751 : Index := Scalar.indexCast v3583
  let c0_1594 : Index := 0#32
  ![v3750.toNat, v3751.toNat, 0]

def k0_chk299 (v3582 : BitVec 32) (v3744 : BitVec 32) : Prop :=
  (∀ a, (k0_off439 v3582 v3744) a + S1x48x512.size a ≤ S64x64x512.size a)
theorem k0_off439_inb : ∀ (v3582 : BitVec 32) (v3744 : BitVec 32) (k0_hw299 : k0_chk299 v3582 v3744), ∀ a, (k0_off439 v3582 v3744) a + S1x48x512.size a ≤ S64x64x512.size a := fun v3582 v3744 k0_hw299 => k0_hw299

def k0_off440 (v3582 : BitVec 32) (v3746 : BitVec 32) : Fin 3 → Nat :=
  let v3754 : Index := Scalar.indexCast v3746
  let v3583 : BitVec 32 := v3582
  let v3755 : Index := Scalar.indexCast v3583
  let c0_1595 : Index := 0#32
  ![v3754.toNat, v3755.toNat, 0]

def k0_chk300 (v3582 : BitVec 32) (v3746 : BitVec 32) : Prop :=
  (∀ a, (k0_off440 v3582 v3746) a + S1x48x512.size a ≤ S64x64x512.size a)
theorem k0_off440_inb : ∀ (v3582 : BitVec 32) (v3746 : BitVec 32) (k0_hw300 : k0_chk300 v3582 v3746), ∀ a, (k0_off440 v3582 v3746) a + S1x48x512.size a ≤ S64x64x512.size a := fun v3582 v3746 k0_hw300 => k0_hw300

def k0_off441 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32 : BitVec 32 := 20#32
  let v3768 : BitVec 32 := Scalar.addi v5 c20_i32
  let v3769 : Index := Scalar.indexCast v3768
  ![v3769.toNat]
def k0_mult21 (v3770 : BitVec 32) : BitVec 32 :=
  v3770

def k0_chk301 (v3770 : BitVec 32) : Prop :=
  (16 ∣ (k0_mult21 v3770).toNat)
theorem k0_mult21_dvd : ∀ (v3770 : BitVec 32) (k0_hw301 : k0_chk301 v3770), 16 ∣ (k0_mult21 v3770).toNat := fun v3770 k0_hw301 => k0_hw301

def k0_off442 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1605 : BitVec 32 := 20#32
  let v3772 : BitVec 32 := Scalar.addi v5 c20_i32_1605
  let c7_i32_1606 : BitVec 32 := 7#32
  let v3773 : BitVec 32 := Scalar.muli v3772 c7_i32_1606
  let c0_i32_1607 : BitVec 32 := 0#32
  let v3774 : BitVec 32 := Scalar.addi v3773 c0_i32_1607
  let v3775 : Index := Scalar.indexCast v3774
  ![v3775.toNat]
def k0_off443 (v3770 : BitVec 32) (v3776 : BitVec 32) : Fin 3 → Nat :=
  let v3782 : Index := Scalar.indexCast v3776
  let v3771 : BitVec 32 := v3770
  let v3783 : Index := Scalar.indexCast v3771
  let c0_1608 : Index := 0#32
  ![v3782.toNat, v3783.toNat, 0]

def k0_chk302 (v3770 : BitVec 32) (v3776 : BitVec 32) : Prop :=
  (∀ a, (k0_off443 v3770 v3776) a + S1x48x512.size a ≤ S64x64x512.size a)
theorem k0_off443_inb : ∀ (v3770 : BitVec 32) (v3776 : BitVec 32) (k0_hw302 : k0_chk302 v3770 v3776), ∀ a, (k0_off443 v3770 v3776) a + S1x48x512.size a ≤ S64x64x512.size a := fun v3770 v3776 k0_hw302 => k0_hw302

def k0_off444 (v3770 : BitVec 32) (v3778 : BitVec 32) : Fin 3 → Nat :=
  let v3786 : Index := Scalar.indexCast v3778
  let v3771 : BitVec 32 := v3770
  let v3787 : Index := Scalar.indexCast v3771
  let c0_1609 : Index := 0#32
  ![v3786.toNat, v3787.toNat, 0]

def k0_chk303 (v3770 : BitVec 32) (v3778 : BitVec 32) : Prop :=
  (∀ a, (k0_off444 v3770 v3778) a + S1x48x512.size a ≤ S64x64x512.size a)
theorem k0_off444_inb : ∀ (v3770 : BitVec 32) (v3778 : BitVec 32) (k0_hw303 : k0_chk303 v3770 v3778), ∀ a, (k0_off444 v3770 v3778) a + S1x48x512.size a ≤ S64x64x512.size a := fun v3770 v3778 k0_hw303 => k0_hw303

def k0_off445 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1616 : BitVec 32 := 20#32
  let v3798 : BitVec 32 := Scalar.addi v5 c20_i32_1616
  let c7_i32_1617 : BitVec 32 := 7#32
  let v3799 : BitVec 32 := Scalar.muli v3798 c7_i32_1617
  let c1_i32_1618 : BitVec 32 := 1#32
  let v3800 : BitVec 32 := Scalar.addi v3799 c1_i32_1618
  let v3801 : Index := Scalar.indexCast v3800
  ![v3801.toNat]
def k0_off446 (v3770 : BitVec 32) (v3802 : BitVec 32) : Fin 3 → Nat :=
  let v3808 : Index := Scalar.indexCast v3802
  let v3771 : BitVec 32 := v3770
  let v3809 : Index := Scalar.indexCast v3771
  let c0_1619 : Index := 0#32
  ![v3808.toNat, v3809.toNat, 0]

def k0_chk304 (v3770 : BitVec 32) (v3802 : BitVec 32) : Prop :=
  (∀ a, (k0_off446 v3770 v3802) a + S1x48x512.size a ≤ S64x64x512.size a)
theorem k0_off446_inb : ∀ (v3770 : BitVec 32) (v3802 : BitVec 32) (k0_hw304 : k0_chk304 v3770 v3802), ∀ a, (k0_off446 v3770 v3802) a + S1x48x512.size a ≤ S64x64x512.size a := fun v3770 v3802 k0_hw304 => k0_hw304

def k0_off447 (v3770 : BitVec 32) (v3804 : BitVec 32) : Fin 3 → Nat :=
  let v3812 : Index := Scalar.indexCast v3804
  let v3771 : BitVec 32 := v3770
  let v3813 : Index := Scalar.indexCast v3771
  let c0_1620 : Index := 0#32
  ![v3812.toNat, v3813.toNat, 0]

def k0_chk305 (v3770 : BitVec 32) (v3804 : BitVec 32) : Prop :=
  (∀ a, (k0_off447 v3770 v3804) a + S1x48x512.size a ≤ S64x64x512.size a)
theorem k0_off447_inb : ∀ (v3770 : BitVec 32) (v3804 : BitVec 32) (k0_hw305 : k0_chk305 v3770 v3804), ∀ a, (k0_off447 v3770 v3804) a + S1x48x512.size a ≤ S64x64x512.size a := fun v3770 v3804 k0_hw305 => k0_hw305

def k0_off448 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1627 : BitVec 32 := 20#32
  let v3824 : BitVec 32 := Scalar.addi v5 c20_i32_1627
  let c7_i32_1628 : BitVec 32 := 7#32
  let v3825 : BitVec 32 := Scalar.muli v3824 c7_i32_1628
  let c2_i32_1629 : BitVec 32 := 2#32
  let v3826 : BitVec 32 := Scalar.addi v3825 c2_i32_1629
  let v3827 : Index := Scalar.indexCast v3826
  ![v3827.toNat]
def k0_off449 (v3770 : BitVec 32) (v3828 : BitVec 32) : Fin 3 → Nat :=
  let v3834 : Index := Scalar.indexCast v3828
  let v3771 : BitVec 32 := v3770
  let v3835 : Index := Scalar.indexCast v3771
  let c0_1630 : Index := 0#32
  ![v3834.toNat, v3835.toNat, 0]

def k0_chk306 (v3770 : BitVec 32) (v3828 : BitVec 32) : Prop :=
  (∀ a, (k0_off449 v3770 v3828) a + S1x48x512.size a ≤ S64x64x512.size a)
theorem k0_off449_inb : ∀ (v3770 : BitVec 32) (v3828 : BitVec 32) (k0_hw306 : k0_chk306 v3770 v3828), ∀ a, (k0_off449 v3770 v3828) a + S1x48x512.size a ≤ S64x64x512.size a := fun v3770 v3828 k0_hw306 => k0_hw306

def k0_off450 (v3770 : BitVec 32) (v3830 : BitVec 32) : Fin 3 → Nat :=
  let v3838 : Index := Scalar.indexCast v3830
  let v3771 : BitVec 32 := v3770
  let v3839 : Index := Scalar.indexCast v3771
  let c0_1631 : Index := 0#32
  ![v3838.toNat, v3839.toNat, 0]

def k0_chk307 (v3770 : BitVec 32) (v3830 : BitVec 32) : Prop :=
  (∀ a, (k0_off450 v3770 v3830) a + S1x48x512.size a ≤ S64x64x512.size a)
theorem k0_off450_inb : ∀ (v3770 : BitVec 32) (v3830 : BitVec 32) (k0_hw307 : k0_chk307 v3770 v3830), ∀ a, (k0_off450 v3770 v3830) a + S1x48x512.size a ≤ S64x64x512.size a := fun v3770 v3830 k0_hw307 => k0_hw307

def k0_off451 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1638 : BitVec 32 := 20#32
  let v3850 : BitVec 32 := Scalar.addi v5 c20_i32_1638
  let c7_i32_1639 : BitVec 32 := 7#32
  let v3851 : BitVec 32 := Scalar.muli v3850 c7_i32_1639
  let c3_i32_1640 : BitVec 32 := 3#32
  let v3852 : BitVec 32 := Scalar.addi v3851 c3_i32_1640
  let v3853 : Index := Scalar.indexCast v3852
  ![v3853.toNat]
def k0_off452 (v3770 : BitVec 32) (v3854 : BitVec 32) : Fin 3 → Nat :=
  let v3860 : Index := Scalar.indexCast v3854
  let v3771 : BitVec 32 := v3770
  let v3861 : Index := Scalar.indexCast v3771
  let c0_1641 : Index := 0#32
  ![v3860.toNat, v3861.toNat, 0]

def k0_chk308 (v3770 : BitVec 32) (v3854 : BitVec 32) : Prop :=
  (∀ a, (k0_off452 v3770 v3854) a + S1x48x512.size a ≤ S64x64x512.size a)
theorem k0_off452_inb : ∀ (v3770 : BitVec 32) (v3854 : BitVec 32) (k0_hw308 : k0_chk308 v3770 v3854), ∀ a, (k0_off452 v3770 v3854) a + S1x48x512.size a ≤ S64x64x512.size a := fun v3770 v3854 k0_hw308 => k0_hw308

def k0_off453 (v3770 : BitVec 32) (v3856 : BitVec 32) : Fin 3 → Nat :=
  let v3864 : Index := Scalar.indexCast v3856
  let v3771 : BitVec 32 := v3770
  let v3865 : Index := Scalar.indexCast v3771
  let c0_1642 : Index := 0#32
  ![v3864.toNat, v3865.toNat, 0]

def k0_chk309 (v3770 : BitVec 32) (v3856 : BitVec 32) : Prop :=
  (∀ a, (k0_off453 v3770 v3856) a + S1x48x512.size a ≤ S64x64x512.size a)
theorem k0_off453_inb : ∀ (v3770 : BitVec 32) (v3856 : BitVec 32) (k0_hw309 : k0_chk309 v3770 v3856), ∀ a, (k0_off453 v3770 v3856) a + S1x48x512.size a ≤ S64x64x512.size a := fun v3770 v3856 k0_hw309 => k0_hw309

def k0_off454 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1649 : BitVec 32 := 20#32
  let v3876 : BitVec 32 := Scalar.addi v5 c20_i32_1649
  let c7_i32_1650 : BitVec 32 := 7#32
  let v3877 : BitVec 32 := Scalar.muli v3876 c7_i32_1650
  let c4_i32_1651 : BitVec 32 := 4#32
  let v3878 : BitVec 32 := Scalar.addi v3877 c4_i32_1651
  let v3879 : Index := Scalar.indexCast v3878
  ![v3879.toNat]
def k0_off455 (v3770 : BitVec 32) (v3880 : BitVec 32) : Fin 3 → Nat :=
  let v3886 : Index := Scalar.indexCast v3880
  let v3771 : BitVec 32 := v3770
  let v3887 : Index := Scalar.indexCast v3771
  let c0_1652 : Index := 0#32
  ![v3886.toNat, v3887.toNat, 0]

def k0_chk310 (v3770 : BitVec 32) (v3880 : BitVec 32) : Prop :=
  (∀ a, (k0_off455 v3770 v3880) a + S1x48x512.size a ≤ S64x64x512.size a)
theorem k0_off455_inb : ∀ (v3770 : BitVec 32) (v3880 : BitVec 32) (k0_hw310 : k0_chk310 v3770 v3880), ∀ a, (k0_off455 v3770 v3880) a + S1x48x512.size a ≤ S64x64x512.size a := fun v3770 v3880 k0_hw310 => k0_hw310

def k0_off456 (v3770 : BitVec 32) (v3882 : BitVec 32) : Fin 3 → Nat :=
  let v3890 : Index := Scalar.indexCast v3882
  let v3771 : BitVec 32 := v3770
  let v3891 : Index := Scalar.indexCast v3771
  let c0_1653 : Index := 0#32
  ![v3890.toNat, v3891.toNat, 0]

def k0_chk311 (v3770 : BitVec 32) (v3882 : BitVec 32) : Prop :=
  (∀ a, (k0_off456 v3770 v3882) a + S1x48x512.size a ≤ S64x64x512.size a)
theorem k0_off456_inb : ∀ (v3770 : BitVec 32) (v3882 : BitVec 32) (k0_hw311 : k0_chk311 v3770 v3882), ∀ a, (k0_off456 v3770 v3882) a + S1x48x512.size a ≤ S64x64x512.size a := fun v3770 v3882 k0_hw311 => k0_hw311

def k0_off457 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1660 : BitVec 32 := 20#32
  let v3902 : BitVec 32 := Scalar.addi v5 c20_i32_1660
  let c7_i32_1661 : BitVec 32 := 7#32
  let v3903 : BitVec 32 := Scalar.muli v3902 c7_i32_1661
  let c5_i32_1662 : BitVec 32 := 5#32
  let v3904 : BitVec 32 := Scalar.addi v3903 c5_i32_1662
  let v3905 : Index := Scalar.indexCast v3904
  ![v3905.toNat]
def k0_off458 (v3770 : BitVec 32) (v3906 : BitVec 32) : Fin 3 → Nat :=
  let v3912 : Index := Scalar.indexCast v3906
  let v3771 : BitVec 32 := v3770
  let v3913 : Index := Scalar.indexCast v3771
  let c0_1663 : Index := 0#32
  ![v3912.toNat, v3913.toNat, 0]

def k0_chk312 (v3770 : BitVec 32) (v3906 : BitVec 32) : Prop :=
  (∀ a, (k0_off458 v3770 v3906) a + S1x48x512.size a ≤ S64x64x512.size a)
theorem k0_off458_inb : ∀ (v3770 : BitVec 32) (v3906 : BitVec 32) (k0_hw312 : k0_chk312 v3770 v3906), ∀ a, (k0_off458 v3770 v3906) a + S1x48x512.size a ≤ S64x64x512.size a := fun v3770 v3906 k0_hw312 => k0_hw312

def k0_off459 (v3770 : BitVec 32) (v3908 : BitVec 32) : Fin 3 → Nat :=
  let v3916 : Index := Scalar.indexCast v3908
  let v3771 : BitVec 32 := v3770
  let v3917 : Index := Scalar.indexCast v3771
  let c0_1664 : Index := 0#32
  ![v3916.toNat, v3917.toNat, 0]

def k0_chk313 (v3770 : BitVec 32) (v3908 : BitVec 32) : Prop :=
  (∀ a, (k0_off459 v3770 v3908) a + S1x48x512.size a ≤ S64x64x512.size a)
theorem k0_off459_inb : ∀ (v3770 : BitVec 32) (v3908 : BitVec 32) (k0_hw313 : k0_chk313 v3770 v3908), ∀ a, (k0_off459 v3770 v3908) a + S1x48x512.size a ≤ S64x64x512.size a := fun v3770 v3908 k0_hw313 => k0_hw313

def k0_off460 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c20_i32_1671 : BitVec 32 := 20#32
  let v3928 : BitVec 32 := Scalar.addi v5 c20_i32_1671
  let c7_i32_1672 : BitVec 32 := 7#32
  let v3929 : BitVec 32 := Scalar.muli v3928 c7_i32_1672
  let c6_i32_1673 : BitVec 32 := 6#32
  let v3930 : BitVec 32 := Scalar.addi v3929 c6_i32_1673
  let v3931 : Index := Scalar.indexCast v3930
  ![v3931.toNat]
def k0_off461 (v3770 : BitVec 32) (v3932 : BitVec 32) : Fin 3 → Nat :=
  let v3938 : Index := Scalar.indexCast v3932
  let v3771 : BitVec 32 := v3770
  let v3939 : Index := Scalar.indexCast v3771
  let c0_1674 : Index := 0#32
  ![v3938.toNat, v3939.toNat, 0]

def k0_chk314 (v3770 : BitVec 32) (v3932 : BitVec 32) : Prop :=
  (∀ a, (k0_off461 v3770 v3932) a + S1x48x512.size a ≤ S64x64x512.size a)
theorem k0_off461_inb : ∀ (v3770 : BitVec 32) (v3932 : BitVec 32) (k0_hw314 : k0_chk314 v3770 v3932), ∀ a, (k0_off461 v3770 v3932) a + S1x48x512.size a ≤ S64x64x512.size a := fun v3770 v3932 k0_hw314 => k0_hw314

def k0_off462 (v3770 : BitVec 32) (v3934 : BitVec 32) : Fin 3 → Nat :=
  let v3942 : Index := Scalar.indexCast v3934
  let v3771 : BitVec 32 := v3770
  let v3943 : Index := Scalar.indexCast v3771
  let c0_1675 : Index := 0#32
  ![v3942.toNat, v3943.toNat, 0]

def k0_chk315 (v3770 : BitVec 32) (v3934 : BitVec 32) : Prop :=
  (∀ a, (k0_off462 v3770 v3934) a + S1x48x512.size a ≤ S64x64x512.size a)
theorem k0_off462_inb : ∀ (v3770 : BitVec 32) (v3934 : BitVec 32) (k0_hw315 : k0_chk315 v3770 v3934), ∀ a, (k0_off462 v3770 v3934) a + S1x48x512.size a ≤ S64x64x512.size a := fun v3770 v3934 k0_hw315 => k0_hw315

def k0_off463 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32 : BitVec 32 := 21#32
  let v3956 : BitVec 32 := Scalar.addi v5 c21_i32
  let v3957 : Index := Scalar.indexCast v3956
  ![v3957.toNat]
def k0_mult22 (v3958 : BitVec 32) : BitVec 32 :=
  v3958

def k0_chk316 (v3958 : BitVec 32) : Prop :=
  (16 ∣ (k0_mult22 v3958).toNat)
theorem k0_mult22_dvd : ∀ (v3958 : BitVec 32) (k0_hw316 : k0_chk316 v3958), 16 ∣ (k0_mult22 v3958).toNat := fun v3958 k0_hw316 => k0_hw316

def k0_off464 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1685 : BitVec 32 := 21#32
  let v3960 : BitVec 32 := Scalar.addi v5 c21_i32_1685
  let c7_i32_1686 : BitVec 32 := 7#32
  let v3961 : BitVec 32 := Scalar.muli v3960 c7_i32_1686
  let c0_i32_1687 : BitVec 32 := 0#32
  let v3962 : BitVec 32 := Scalar.addi v3961 c0_i32_1687
  let v3963 : Index := Scalar.indexCast v3962
  ![v3963.toNat]
def k0_off465 (v3958 : BitVec 32) (v3964 : BitVec 32) : Fin 3 → Nat :=
  let v3970 : Index := Scalar.indexCast v3964
  let v3959 : BitVec 32 := v3958
  let v3971 : Index := Scalar.indexCast v3959
  let c0_1688 : Index := 0#32
  ![v3970.toNat, v3971.toNat, 0]

def k0_chk317 (v3958 : BitVec 32) (v3964 : BitVec 32) : Prop :=
  (∀ a, (k0_off465 v3958 v3964) a + S1x48x512.size a ≤ S64x64x512.size a)
theorem k0_off465_inb : ∀ (v3958 : BitVec 32) (v3964 : BitVec 32) (k0_hw317 : k0_chk317 v3958 v3964), ∀ a, (k0_off465 v3958 v3964) a + S1x48x512.size a ≤ S64x64x512.size a := fun v3958 v3964 k0_hw317 => k0_hw317

def k0_off466 (v3958 : BitVec 32) (v3966 : BitVec 32) : Fin 3 → Nat :=
  let v3974 : Index := Scalar.indexCast v3966
  let v3959 : BitVec 32 := v3958
  let v3975 : Index := Scalar.indexCast v3959
  let c0_1689 : Index := 0#32
  ![v3974.toNat, v3975.toNat, 0]

def k0_chk318 (v3958 : BitVec 32) (v3966 : BitVec 32) : Prop :=
  (∀ a, (k0_off466 v3958 v3966) a + S1x48x512.size a ≤ S64x64x512.size a)
theorem k0_off466_inb : ∀ (v3958 : BitVec 32) (v3966 : BitVec 32) (k0_hw318 : k0_chk318 v3958 v3966), ∀ a, (k0_off466 v3958 v3966) a + S1x48x512.size a ≤ S64x64x512.size a := fun v3958 v3966 k0_hw318 => k0_hw318

def k0_off467 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1696 : BitVec 32 := 21#32
  let v3986 : BitVec 32 := Scalar.addi v5 c21_i32_1696
  let c7_i32_1697 : BitVec 32 := 7#32
  let v3987 : BitVec 32 := Scalar.muli v3986 c7_i32_1697
  let c1_i32_1698 : BitVec 32 := 1#32
  let v3988 : BitVec 32 := Scalar.addi v3987 c1_i32_1698
  let v3989 : Index := Scalar.indexCast v3988
  ![v3989.toNat]
def k0_off468 (v3958 : BitVec 32) (v3990 : BitVec 32) : Fin 3 → Nat :=
  let v3996 : Index := Scalar.indexCast v3990
  let v3959 : BitVec 32 := v3958
  let v3997 : Index := Scalar.indexCast v3959
  let c0_1699 : Index := 0#32
  ![v3996.toNat, v3997.toNat, 0]

def k0_chk319 (v3958 : BitVec 32) (v3990 : BitVec 32) : Prop :=
  (∀ a, (k0_off468 v3958 v3990) a + S1x48x512.size a ≤ S64x64x512.size a)
theorem k0_off468_inb : ∀ (v3958 : BitVec 32) (v3990 : BitVec 32) (k0_hw319 : k0_chk319 v3958 v3990), ∀ a, (k0_off468 v3958 v3990) a + S1x48x512.size a ≤ S64x64x512.size a := fun v3958 v3990 k0_hw319 => k0_hw319

def k0_off469 (v3958 : BitVec 32) (v3992 : BitVec 32) : Fin 3 → Nat :=
  let v4000 : Index := Scalar.indexCast v3992
  let v3959 : BitVec 32 := v3958
  let v4001 : Index := Scalar.indexCast v3959
  let c0_1700 : Index := 0#32
  ![v4000.toNat, v4001.toNat, 0]

def k0_chk320 (v3958 : BitVec 32) (v3992 : BitVec 32) : Prop :=
  (∀ a, (k0_off469 v3958 v3992) a + S1x48x512.size a ≤ S64x64x512.size a)
theorem k0_off469_inb : ∀ (v3958 : BitVec 32) (v3992 : BitVec 32) (k0_hw320 : k0_chk320 v3958 v3992), ∀ a, (k0_off469 v3958 v3992) a + S1x48x512.size a ≤ S64x64x512.size a := fun v3958 v3992 k0_hw320 => k0_hw320

def k0_off470 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1707 : BitVec 32 := 21#32
  let v4012 : BitVec 32 := Scalar.addi v5 c21_i32_1707
  let c7_i32_1708 : BitVec 32 := 7#32
  let v4013 : BitVec 32 := Scalar.muli v4012 c7_i32_1708
  let c2_i32_1709 : BitVec 32 := 2#32
  let v4014 : BitVec 32 := Scalar.addi v4013 c2_i32_1709
  let v4015 : Index := Scalar.indexCast v4014
  ![v4015.toNat]
def k0_off471 (v3958 : BitVec 32) (v4016 : BitVec 32) : Fin 3 → Nat :=
  let v4022 : Index := Scalar.indexCast v4016
  let v3959 : BitVec 32 := v3958
  let v4023 : Index := Scalar.indexCast v3959
  let c0_1710 : Index := 0#32
  ![v4022.toNat, v4023.toNat, 0]

def k0_chk321 (v3958 : BitVec 32) (v4016 : BitVec 32) : Prop :=
  (∀ a, (k0_off471 v3958 v4016) a + S1x48x512.size a ≤ S64x64x512.size a)
theorem k0_off471_inb : ∀ (v3958 : BitVec 32) (v4016 : BitVec 32) (k0_hw321 : k0_chk321 v3958 v4016), ∀ a, (k0_off471 v3958 v4016) a + S1x48x512.size a ≤ S64x64x512.size a := fun v3958 v4016 k0_hw321 => k0_hw321

def k0_off472 (v3958 : BitVec 32) (v4018 : BitVec 32) : Fin 3 → Nat :=
  let v4026 : Index := Scalar.indexCast v4018
  let v3959 : BitVec 32 := v3958
  let v4027 : Index := Scalar.indexCast v3959
  let c0_1711 : Index := 0#32
  ![v4026.toNat, v4027.toNat, 0]

def k0_chk322 (v3958 : BitVec 32) (v4018 : BitVec 32) : Prop :=
  (∀ a, (k0_off472 v3958 v4018) a + S1x48x512.size a ≤ S64x64x512.size a)
theorem k0_off472_inb : ∀ (v3958 : BitVec 32) (v4018 : BitVec 32) (k0_hw322 : k0_chk322 v3958 v4018), ∀ a, (k0_off472 v3958 v4018) a + S1x48x512.size a ≤ S64x64x512.size a := fun v3958 v4018 k0_hw322 => k0_hw322

def k0_off473 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1718 : BitVec 32 := 21#32
  let v4038 : BitVec 32 := Scalar.addi v5 c21_i32_1718
  let c7_i32_1719 : BitVec 32 := 7#32
  let v4039 : BitVec 32 := Scalar.muli v4038 c7_i32_1719
  let c3_i32_1720 : BitVec 32 := 3#32
  let v4040 : BitVec 32 := Scalar.addi v4039 c3_i32_1720
  let v4041 : Index := Scalar.indexCast v4040
  ![v4041.toNat]
def k0_off474 (v3958 : BitVec 32) (v4042 : BitVec 32) : Fin 3 → Nat :=
  let v4048 : Index := Scalar.indexCast v4042
  let v3959 : BitVec 32 := v3958
  let v4049 : Index := Scalar.indexCast v3959
  let c0_1721 : Index := 0#32
  ![v4048.toNat, v4049.toNat, 0]

def k0_chk323 (v3958 : BitVec 32) (v4042 : BitVec 32) : Prop :=
  (∀ a, (k0_off474 v3958 v4042) a + S1x48x512.size a ≤ S64x64x512.size a)
theorem k0_off474_inb : ∀ (v3958 : BitVec 32) (v4042 : BitVec 32) (k0_hw323 : k0_chk323 v3958 v4042), ∀ a, (k0_off474 v3958 v4042) a + S1x48x512.size a ≤ S64x64x512.size a := fun v3958 v4042 k0_hw323 => k0_hw323

def k0_off475 (v3958 : BitVec 32) (v4044 : BitVec 32) : Fin 3 → Nat :=
  let v4052 : Index := Scalar.indexCast v4044
  let v3959 : BitVec 32 := v3958
  let v4053 : Index := Scalar.indexCast v3959
  let c0_1722 : Index := 0#32
  ![v4052.toNat, v4053.toNat, 0]

def k0_chk324 (v3958 : BitVec 32) (v4044 : BitVec 32) : Prop :=
  (∀ a, (k0_off475 v3958 v4044) a + S1x48x512.size a ≤ S64x64x512.size a)
theorem k0_off475_inb : ∀ (v3958 : BitVec 32) (v4044 : BitVec 32) (k0_hw324 : k0_chk324 v3958 v4044), ∀ a, (k0_off475 v3958 v4044) a + S1x48x512.size a ≤ S64x64x512.size a := fun v3958 v4044 k0_hw324 => k0_hw324

def k0_off476 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1729 : BitVec 32 := 21#32
  let v4064 : BitVec 32 := Scalar.addi v5 c21_i32_1729
  let c7_i32_1730 : BitVec 32 := 7#32
  let v4065 : BitVec 32 := Scalar.muli v4064 c7_i32_1730
  let c4_i32_1731 : BitVec 32 := 4#32
  let v4066 : BitVec 32 := Scalar.addi v4065 c4_i32_1731
  let v4067 : Index := Scalar.indexCast v4066
  ![v4067.toNat]
def k0_off477 (v3958 : BitVec 32) (v4068 : BitVec 32) : Fin 3 → Nat :=
  let v4074 : Index := Scalar.indexCast v4068
  let v3959 : BitVec 32 := v3958
  let v4075 : Index := Scalar.indexCast v3959
  let c0_1732 : Index := 0#32
  ![v4074.toNat, v4075.toNat, 0]

def k0_chk325 (v3958 : BitVec 32) (v4068 : BitVec 32) : Prop :=
  (∀ a, (k0_off477 v3958 v4068) a + S1x48x512.size a ≤ S64x64x512.size a)
theorem k0_off477_inb : ∀ (v3958 : BitVec 32) (v4068 : BitVec 32) (k0_hw325 : k0_chk325 v3958 v4068), ∀ a, (k0_off477 v3958 v4068) a + S1x48x512.size a ≤ S64x64x512.size a := fun v3958 v4068 k0_hw325 => k0_hw325

def k0_off478 (v3958 : BitVec 32) (v4070 : BitVec 32) : Fin 3 → Nat :=
  let v4078 : Index := Scalar.indexCast v4070
  let v3959 : BitVec 32 := v3958
  let v4079 : Index := Scalar.indexCast v3959
  let c0_1733 : Index := 0#32
  ![v4078.toNat, v4079.toNat, 0]

def k0_chk326 (v3958 : BitVec 32) (v4070 : BitVec 32) : Prop :=
  (∀ a, (k0_off478 v3958 v4070) a + S1x48x512.size a ≤ S64x64x512.size a)
theorem k0_off478_inb : ∀ (v3958 : BitVec 32) (v4070 : BitVec 32) (k0_hw326 : k0_chk326 v3958 v4070), ∀ a, (k0_off478 v3958 v4070) a + S1x48x512.size a ≤ S64x64x512.size a := fun v3958 v4070 k0_hw326 => k0_hw326

def k0_off479 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1740 : BitVec 32 := 21#32
  let v4090 : BitVec 32 := Scalar.addi v5 c21_i32_1740
  let c7_i32_1741 : BitVec 32 := 7#32
  let v4091 : BitVec 32 := Scalar.muli v4090 c7_i32_1741
  let c5_i32_1742 : BitVec 32 := 5#32
  let v4092 : BitVec 32 := Scalar.addi v4091 c5_i32_1742
  let v4093 : Index := Scalar.indexCast v4092
  ![v4093.toNat]
def k0_off480 (v3958 : BitVec 32) (v4094 : BitVec 32) : Fin 3 → Nat :=
  let v4100 : Index := Scalar.indexCast v4094
  let v3959 : BitVec 32 := v3958
  let v4101 : Index := Scalar.indexCast v3959
  let c0_1743 : Index := 0#32
  ![v4100.toNat, v4101.toNat, 0]

def k0_chk327 (v3958 : BitVec 32) (v4094 : BitVec 32) : Prop :=
  (∀ a, (k0_off480 v3958 v4094) a + S1x48x512.size a ≤ S64x64x512.size a)
theorem k0_off480_inb : ∀ (v3958 : BitVec 32) (v4094 : BitVec 32) (k0_hw327 : k0_chk327 v3958 v4094), ∀ a, (k0_off480 v3958 v4094) a + S1x48x512.size a ≤ S64x64x512.size a := fun v3958 v4094 k0_hw327 => k0_hw327

def k0_off481 (v3958 : BitVec 32) (v4096 : BitVec 32) : Fin 3 → Nat :=
  let v4104 : Index := Scalar.indexCast v4096
  let v3959 : BitVec 32 := v3958
  let v4105 : Index := Scalar.indexCast v3959
  let c0_1744 : Index := 0#32
  ![v4104.toNat, v4105.toNat, 0]

def k0_chk328 (v3958 : BitVec 32) (v4096 : BitVec 32) : Prop :=
  (∀ a, (k0_off481 v3958 v4096) a + S1x48x512.size a ≤ S64x64x512.size a)
theorem k0_off481_inb : ∀ (v3958 : BitVec 32) (v4096 : BitVec 32) (k0_hw328 : k0_chk328 v3958 v4096), ∀ a, (k0_off481 v3958 v4096) a + S1x48x512.size a ≤ S64x64x512.size a := fun v3958 v4096 k0_hw328 => k0_hw328

def k0_off482 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c21_i32_1751 : BitVec 32 := 21#32
  let v4116 : BitVec 32 := Scalar.addi v5 c21_i32_1751
  let c7_i32_1752 : BitVec 32 := 7#32
  let v4117 : BitVec 32 := Scalar.muli v4116 c7_i32_1752
  let c6_i32_1753 : BitVec 32 := 6#32
  let v4118 : BitVec 32 := Scalar.addi v4117 c6_i32_1753
  let v4119 : Index := Scalar.indexCast v4118
  ![v4119.toNat]
def k0_off483 (v3958 : BitVec 32) (v4120 : BitVec 32) : Fin 3 → Nat :=
  let v4126 : Index := Scalar.indexCast v4120
  let v3959 : BitVec 32 := v3958
  let v4127 : Index := Scalar.indexCast v3959
  let c0_1754 : Index := 0#32
  ![v4126.toNat, v4127.toNat, 0]

def k0_chk329 (v3958 : BitVec 32) (v4120 : BitVec 32) : Prop :=
  (∀ a, (k0_off483 v3958 v4120) a + S1x48x512.size a ≤ S64x64x512.size a)
theorem k0_off483_inb : ∀ (v3958 : BitVec 32) (v4120 : BitVec 32) (k0_hw329 : k0_chk329 v3958 v4120), ∀ a, (k0_off483 v3958 v4120) a + S1x48x512.size a ≤ S64x64x512.size a := fun v3958 v4120 k0_hw329 => k0_hw329

def k0_off484 (v3958 : BitVec 32) (v4122 : BitVec 32) : Fin 3 → Nat :=
  let v4130 : Index := Scalar.indexCast v4122
  let v3959 : BitVec 32 := v3958
  let v4131 : Index := Scalar.indexCast v3959
  let c0_1755 : Index := 0#32
  ![v4130.toNat, v4131.toNat, 0]

def k0_chk330 (v3958 : BitVec 32) (v4122 : BitVec 32) : Prop :=
  (∀ a, (k0_off484 v3958 v4122) a + S1x48x512.size a ≤ S64x64x512.size a)
theorem k0_off484_inb : ∀ (v3958 : BitVec 32) (v4122 : BitVec 32) (k0_hw330 : k0_chk330 v3958 v4122), ∀ a, (k0_off484 v3958 v4122) a + S1x48x512.size a ≤ S64x64x512.size a := fun v3958 v4122 k0_hw330 => k0_hw330

def k0_off485 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32 : BitVec 32 := 22#32
  let v4144 : BitVec 32 := Scalar.addi v5 c22_i32
  let v4145 : Index := Scalar.indexCast v4144
  ![v4145.toNat]
def k0_mult23 (v4146 : BitVec 32) : BitVec 32 :=
  v4146

def k0_chk331 (v4146 : BitVec 32) : Prop :=
  (16 ∣ (k0_mult23 v4146).toNat)
theorem k0_mult23_dvd : ∀ (v4146 : BitVec 32) (k0_hw331 : k0_chk331 v4146), 16 ∣ (k0_mult23 v4146).toNat := fun v4146 k0_hw331 => k0_hw331

def k0_off486 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1765 : BitVec 32 := 22#32
  let v4148 : BitVec 32 := Scalar.addi v5 c22_i32_1765
  let c7_i32_1766 : BitVec 32 := 7#32
  let v4149 : BitVec 32 := Scalar.muli v4148 c7_i32_1766
  let c0_i32_1767 : BitVec 32 := 0#32
  let v4150 : BitVec 32 := Scalar.addi v4149 c0_i32_1767
  let v4151 : Index := Scalar.indexCast v4150
  ![v4151.toNat]
def k0_off487 (v4146 : BitVec 32) (v4152 : BitVec 32) : Fin 3 → Nat :=
  let v4158 : Index := Scalar.indexCast v4152
  let v4147 : BitVec 32 := v4146
  let v4159 : Index := Scalar.indexCast v4147
  let c0_1768 : Index := 0#32
  ![v4158.toNat, v4159.toNat, 0]

def k0_chk332 (v4146 : BitVec 32) (v4152 : BitVec 32) : Prop :=
  (∀ a, (k0_off487 v4146 v4152) a + S1x48x512.size a ≤ S64x64x512.size a)
theorem k0_off487_inb : ∀ (v4146 : BitVec 32) (v4152 : BitVec 32) (k0_hw332 : k0_chk332 v4146 v4152), ∀ a, (k0_off487 v4146 v4152) a + S1x48x512.size a ≤ S64x64x512.size a := fun v4146 v4152 k0_hw332 => k0_hw332

def k0_off488 (v4146 : BitVec 32) (v4154 : BitVec 32) : Fin 3 → Nat :=
  let v4162 : Index := Scalar.indexCast v4154
  let v4147 : BitVec 32 := v4146
  let v4163 : Index := Scalar.indexCast v4147
  let c0_1769 : Index := 0#32
  ![v4162.toNat, v4163.toNat, 0]

def k0_chk333 (v4146 : BitVec 32) (v4154 : BitVec 32) : Prop :=
  (∀ a, (k0_off488 v4146 v4154) a + S1x48x512.size a ≤ S64x64x512.size a)
theorem k0_off488_inb : ∀ (v4146 : BitVec 32) (v4154 : BitVec 32) (k0_hw333 : k0_chk333 v4146 v4154), ∀ a, (k0_off488 v4146 v4154) a + S1x48x512.size a ≤ S64x64x512.size a := fun v4146 v4154 k0_hw333 => k0_hw333

def k0_off489 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1776 : BitVec 32 := 22#32
  let v4174 : BitVec 32 := Scalar.addi v5 c22_i32_1776
  let c7_i32_1777 : BitVec 32 := 7#32
  let v4175 : BitVec 32 := Scalar.muli v4174 c7_i32_1777
  let c1_i32_1778 : BitVec 32 := 1#32
  let v4176 : BitVec 32 := Scalar.addi v4175 c1_i32_1778
  let v4177 : Index := Scalar.indexCast v4176
  ![v4177.toNat]
def k0_off490 (v4146 : BitVec 32) (v4178 : BitVec 32) : Fin 3 → Nat :=
  let v4184 : Index := Scalar.indexCast v4178
  let v4147 : BitVec 32 := v4146
  let v4185 : Index := Scalar.indexCast v4147
  let c0_1779 : Index := 0#32
  ![v4184.toNat, v4185.toNat, 0]

def k0_chk334 (v4146 : BitVec 32) (v4178 : BitVec 32) : Prop :=
  (∀ a, (k0_off490 v4146 v4178) a + S1x48x512.size a ≤ S64x64x512.size a)
theorem k0_off490_inb : ∀ (v4146 : BitVec 32) (v4178 : BitVec 32) (k0_hw334 : k0_chk334 v4146 v4178), ∀ a, (k0_off490 v4146 v4178) a + S1x48x512.size a ≤ S64x64x512.size a := fun v4146 v4178 k0_hw334 => k0_hw334

def k0_off491 (v4146 : BitVec 32) (v4180 : BitVec 32) : Fin 3 → Nat :=
  let v4188 : Index := Scalar.indexCast v4180
  let v4147 : BitVec 32 := v4146
  let v4189 : Index := Scalar.indexCast v4147
  let c0_1780 : Index := 0#32
  ![v4188.toNat, v4189.toNat, 0]

def k0_chk335 (v4146 : BitVec 32) (v4180 : BitVec 32) : Prop :=
  (∀ a, (k0_off491 v4146 v4180) a + S1x48x512.size a ≤ S64x64x512.size a)
theorem k0_off491_inb : ∀ (v4146 : BitVec 32) (v4180 : BitVec 32) (k0_hw335 : k0_chk335 v4146 v4180), ∀ a, (k0_off491 v4146 v4180) a + S1x48x512.size a ≤ S64x64x512.size a := fun v4146 v4180 k0_hw335 => k0_hw335

def k0_off492 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1787 : BitVec 32 := 22#32
  let v4200 : BitVec 32 := Scalar.addi v5 c22_i32_1787
  let c7_i32_1788 : BitVec 32 := 7#32
  let v4201 : BitVec 32 := Scalar.muli v4200 c7_i32_1788
  let c2_i32_1789 : BitVec 32 := 2#32
  let v4202 : BitVec 32 := Scalar.addi v4201 c2_i32_1789
  let v4203 : Index := Scalar.indexCast v4202
  ![v4203.toNat]
def k0_off493 (v4146 : BitVec 32) (v4204 : BitVec 32) : Fin 3 → Nat :=
  let v4210 : Index := Scalar.indexCast v4204
  let v4147 : BitVec 32 := v4146
  let v4211 : Index := Scalar.indexCast v4147
  let c0_1790 : Index := 0#32
  ![v4210.toNat, v4211.toNat, 0]

def k0_chk336 (v4146 : BitVec 32) (v4204 : BitVec 32) : Prop :=
  (∀ a, (k0_off493 v4146 v4204) a + S1x48x512.size a ≤ S64x64x512.size a)
theorem k0_off493_inb : ∀ (v4146 : BitVec 32) (v4204 : BitVec 32) (k0_hw336 : k0_chk336 v4146 v4204), ∀ a, (k0_off493 v4146 v4204) a + S1x48x512.size a ≤ S64x64x512.size a := fun v4146 v4204 k0_hw336 => k0_hw336

def k0_off494 (v4146 : BitVec 32) (v4206 : BitVec 32) : Fin 3 → Nat :=
  let v4214 : Index := Scalar.indexCast v4206
  let v4147 : BitVec 32 := v4146
  let v4215 : Index := Scalar.indexCast v4147
  let c0_1791 : Index := 0#32
  ![v4214.toNat, v4215.toNat, 0]

def k0_chk337 (v4146 : BitVec 32) (v4206 : BitVec 32) : Prop :=
  (∀ a, (k0_off494 v4146 v4206) a + S1x48x512.size a ≤ S64x64x512.size a)
theorem k0_off494_inb : ∀ (v4146 : BitVec 32) (v4206 : BitVec 32) (k0_hw337 : k0_chk337 v4146 v4206), ∀ a, (k0_off494 v4146 v4206) a + S1x48x512.size a ≤ S64x64x512.size a := fun v4146 v4206 k0_hw337 => k0_hw337

def k0_off495 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1798 : BitVec 32 := 22#32
  let v4226 : BitVec 32 := Scalar.addi v5 c22_i32_1798
  let c7_i32_1799 : BitVec 32 := 7#32
  let v4227 : BitVec 32 := Scalar.muli v4226 c7_i32_1799
  let c3_i32_1800 : BitVec 32 := 3#32
  let v4228 : BitVec 32 := Scalar.addi v4227 c3_i32_1800
  let v4229 : Index := Scalar.indexCast v4228
  ![v4229.toNat]
def k0_off496 (v4146 : BitVec 32) (v4230 : BitVec 32) : Fin 3 → Nat :=
  let v4236 : Index := Scalar.indexCast v4230
  let v4147 : BitVec 32 := v4146
  let v4237 : Index := Scalar.indexCast v4147
  let c0_1801 : Index := 0#32
  ![v4236.toNat, v4237.toNat, 0]

def k0_chk338 (v4146 : BitVec 32) (v4230 : BitVec 32) : Prop :=
  (∀ a, (k0_off496 v4146 v4230) a + S1x48x512.size a ≤ S64x64x512.size a)
theorem k0_off496_inb : ∀ (v4146 : BitVec 32) (v4230 : BitVec 32) (k0_hw338 : k0_chk338 v4146 v4230), ∀ a, (k0_off496 v4146 v4230) a + S1x48x512.size a ≤ S64x64x512.size a := fun v4146 v4230 k0_hw338 => k0_hw338

def k0_off497 (v4146 : BitVec 32) (v4232 : BitVec 32) : Fin 3 → Nat :=
  let v4240 : Index := Scalar.indexCast v4232
  let v4147 : BitVec 32 := v4146
  let v4241 : Index := Scalar.indexCast v4147
  let c0_1802 : Index := 0#32
  ![v4240.toNat, v4241.toNat, 0]

def k0_chk339 (v4146 : BitVec 32) (v4232 : BitVec 32) : Prop :=
  (∀ a, (k0_off497 v4146 v4232) a + S1x48x512.size a ≤ S64x64x512.size a)
theorem k0_off497_inb : ∀ (v4146 : BitVec 32) (v4232 : BitVec 32) (k0_hw339 : k0_chk339 v4146 v4232), ∀ a, (k0_off497 v4146 v4232) a + S1x48x512.size a ≤ S64x64x512.size a := fun v4146 v4232 k0_hw339 => k0_hw339

def k0_off498 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1809 : BitVec 32 := 22#32
  let v4252 : BitVec 32 := Scalar.addi v5 c22_i32_1809
  let c7_i32_1810 : BitVec 32 := 7#32
  let v4253 : BitVec 32 := Scalar.muli v4252 c7_i32_1810
  let c4_i32_1811 : BitVec 32 := 4#32
  let v4254 : BitVec 32 := Scalar.addi v4253 c4_i32_1811
  let v4255 : Index := Scalar.indexCast v4254
  ![v4255.toNat]
def k0_off499 (v4146 : BitVec 32) (v4256 : BitVec 32) : Fin 3 → Nat :=
  let v4262 : Index := Scalar.indexCast v4256
  let v4147 : BitVec 32 := v4146
  let v4263 : Index := Scalar.indexCast v4147
  let c0_1812 : Index := 0#32
  ![v4262.toNat, v4263.toNat, 0]

def k0_chk340 (v4146 : BitVec 32) (v4256 : BitVec 32) : Prop :=
  (∀ a, (k0_off499 v4146 v4256) a + S1x48x512.size a ≤ S64x64x512.size a)
theorem k0_off499_inb : ∀ (v4146 : BitVec 32) (v4256 : BitVec 32) (k0_hw340 : k0_chk340 v4146 v4256), ∀ a, (k0_off499 v4146 v4256) a + S1x48x512.size a ≤ S64x64x512.size a := fun v4146 v4256 k0_hw340 => k0_hw340

def k0_off500 (v4146 : BitVec 32) (v4258 : BitVec 32) : Fin 3 → Nat :=
  let v4266 : Index := Scalar.indexCast v4258
  let v4147 : BitVec 32 := v4146
  let v4267 : Index := Scalar.indexCast v4147
  let c0_1813 : Index := 0#32
  ![v4266.toNat, v4267.toNat, 0]

def k0_chk341 (v4146 : BitVec 32) (v4258 : BitVec 32) : Prop :=
  (∀ a, (k0_off500 v4146 v4258) a + S1x48x512.size a ≤ S64x64x512.size a)
theorem k0_off500_inb : ∀ (v4146 : BitVec 32) (v4258 : BitVec 32) (k0_hw341 : k0_chk341 v4146 v4258), ∀ a, (k0_off500 v4146 v4258) a + S1x48x512.size a ≤ S64x64x512.size a := fun v4146 v4258 k0_hw341 => k0_hw341

def k0_off501 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1820 : BitVec 32 := 22#32
  let v4278 : BitVec 32 := Scalar.addi v5 c22_i32_1820
  let c7_i32_1821 : BitVec 32 := 7#32
  let v4279 : BitVec 32 := Scalar.muli v4278 c7_i32_1821
  let c5_i32_1822 : BitVec 32 := 5#32
  let v4280 : BitVec 32 := Scalar.addi v4279 c5_i32_1822
  let v4281 : Index := Scalar.indexCast v4280
  ![v4281.toNat]
def k0_off502 (v4146 : BitVec 32) (v4282 : BitVec 32) : Fin 3 → Nat :=
  let v4288 : Index := Scalar.indexCast v4282
  let v4147 : BitVec 32 := v4146
  let v4289 : Index := Scalar.indexCast v4147
  let c0_1823 : Index := 0#32
  ![v4288.toNat, v4289.toNat, 0]

def k0_chk342 (v4146 : BitVec 32) (v4282 : BitVec 32) : Prop :=
  (∀ a, (k0_off502 v4146 v4282) a + S1x48x512.size a ≤ S64x64x512.size a)
theorem k0_off502_inb : ∀ (v4146 : BitVec 32) (v4282 : BitVec 32) (k0_hw342 : k0_chk342 v4146 v4282), ∀ a, (k0_off502 v4146 v4282) a + S1x48x512.size a ≤ S64x64x512.size a := fun v4146 v4282 k0_hw342 => k0_hw342

def k0_off503 (v4146 : BitVec 32) (v4284 : BitVec 32) : Fin 3 → Nat :=
  let v4292 : Index := Scalar.indexCast v4284
  let v4147 : BitVec 32 := v4146
  let v4293 : Index := Scalar.indexCast v4147
  let c0_1824 : Index := 0#32
  ![v4292.toNat, v4293.toNat, 0]

def k0_chk343 (v4146 : BitVec 32) (v4284 : BitVec 32) : Prop :=
  (∀ a, (k0_off503 v4146 v4284) a + S1x48x512.size a ≤ S64x64x512.size a)
theorem k0_off503_inb : ∀ (v4146 : BitVec 32) (v4284 : BitVec 32) (k0_hw343 : k0_chk343 v4146 v4284), ∀ a, (k0_off503 v4146 v4284) a + S1x48x512.size a ≤ S64x64x512.size a := fun v4146 v4284 k0_hw343 => k0_hw343

def k0_off504 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c22_i32_1831 : BitVec 32 := 22#32
  let v4304 : BitVec 32 := Scalar.addi v5 c22_i32_1831
  let c7_i32_1832 : BitVec 32 := 7#32
  let v4305 : BitVec 32 := Scalar.muli v4304 c7_i32_1832
  let c6_i32_1833 : BitVec 32 := 6#32
  let v4306 : BitVec 32 := Scalar.addi v4305 c6_i32_1833
  let v4307 : Index := Scalar.indexCast v4306
  ![v4307.toNat]
def k0_off505 (v4146 : BitVec 32) (v4308 : BitVec 32) : Fin 3 → Nat :=
  let v4314 : Index := Scalar.indexCast v4308
  let v4147 : BitVec 32 := v4146
  let v4315 : Index := Scalar.indexCast v4147
  let c0_1834 : Index := 0#32
  ![v4314.toNat, v4315.toNat, 0]

def k0_chk344 (v4146 : BitVec 32) (v4308 : BitVec 32) : Prop :=
  (∀ a, (k0_off505 v4146 v4308) a + S1x48x512.size a ≤ S64x64x512.size a)
theorem k0_off505_inb : ∀ (v4146 : BitVec 32) (v4308 : BitVec 32) (k0_hw344 : k0_chk344 v4146 v4308), ∀ a, (k0_off505 v4146 v4308) a + S1x48x512.size a ≤ S64x64x512.size a := fun v4146 v4308 k0_hw344 => k0_hw344

def k0_off506 (v4146 : BitVec 32) (v4310 : BitVec 32) : Fin 3 → Nat :=
  let v4318 : Index := Scalar.indexCast v4310
  let v4147 : BitVec 32 := v4146
  let v4319 : Index := Scalar.indexCast v4147
  let c0_1835 : Index := 0#32
  ![v4318.toNat, v4319.toNat, 0]

def k0_chk345 (v4146 : BitVec 32) (v4310 : BitVec 32) : Prop :=
  (∀ a, (k0_off506 v4146 v4310) a + S1x48x512.size a ≤ S64x64x512.size a)
theorem k0_off506_inb : ∀ (v4146 : BitVec 32) (v4310 : BitVec 32) (k0_hw345 : k0_chk345 v4146 v4310), ∀ a, (k0_off506 v4146 v4310) a + S1x48x512.size a ≤ S64x64x512.size a := fun v4146 v4310 k0_hw345 => k0_hw345

def k0_off507 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32 : BitVec 32 := 23#32
  let v4332 : BitVec 32 := Scalar.addi v5 c23_i32
  let v4333 : Index := Scalar.indexCast v4332
  ![v4333.toNat]
def k0_mult24 (v4334 : BitVec 32) : BitVec 32 :=
  v4334

def k0_chk346 (v4334 : BitVec 32) : Prop :=
  (16 ∣ (k0_mult24 v4334).toNat)
theorem k0_mult24_dvd : ∀ (v4334 : BitVec 32) (k0_hw346 : k0_chk346 v4334), 16 ∣ (k0_mult24 v4334).toNat := fun v4334 k0_hw346 => k0_hw346

def k0_off508 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1845 : BitVec 32 := 23#32
  let v4336 : BitVec 32 := Scalar.addi v5 c23_i32_1845
  let c7_i32_1846 : BitVec 32 := 7#32
  let v4337 : BitVec 32 := Scalar.muli v4336 c7_i32_1846
  let c0_i32_1847 : BitVec 32 := 0#32
  let v4338 : BitVec 32 := Scalar.addi v4337 c0_i32_1847
  let v4339 : Index := Scalar.indexCast v4338
  ![v4339.toNat]
def k0_off509 (v4334 : BitVec 32) (v4340 : BitVec 32) : Fin 3 → Nat :=
  let v4346 : Index := Scalar.indexCast v4340
  let v4335 : BitVec 32 := v4334
  let v4347 : Index := Scalar.indexCast v4335
  let c0_1848 : Index := 0#32
  ![v4346.toNat, v4347.toNat, 0]

def k0_chk347 (v4334 : BitVec 32) (v4340 : BitVec 32) : Prop :=
  (∀ a, (k0_off509 v4334 v4340) a + S1x48x512.size a ≤ S64x64x512.size a)
theorem k0_off509_inb : ∀ (v4334 : BitVec 32) (v4340 : BitVec 32) (k0_hw347 : k0_chk347 v4334 v4340), ∀ a, (k0_off509 v4334 v4340) a + S1x48x512.size a ≤ S64x64x512.size a := fun v4334 v4340 k0_hw347 => k0_hw347

def k0_off510 (v4334 : BitVec 32) (v4342 : BitVec 32) : Fin 3 → Nat :=
  let v4350 : Index := Scalar.indexCast v4342
  let v4335 : BitVec 32 := v4334
  let v4351 : Index := Scalar.indexCast v4335
  let c0_1849 : Index := 0#32
  ![v4350.toNat, v4351.toNat, 0]

def k0_chk348 (v4334 : BitVec 32) (v4342 : BitVec 32) : Prop :=
  (∀ a, (k0_off510 v4334 v4342) a + S1x48x512.size a ≤ S64x64x512.size a)
theorem k0_off510_inb : ∀ (v4334 : BitVec 32) (v4342 : BitVec 32) (k0_hw348 : k0_chk348 v4334 v4342), ∀ a, (k0_off510 v4334 v4342) a + S1x48x512.size a ≤ S64x64x512.size a := fun v4334 v4342 k0_hw348 => k0_hw348

def k0_off511 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1856 : BitVec 32 := 23#32
  let v4362 : BitVec 32 := Scalar.addi v5 c23_i32_1856
  let c7_i32_1857 : BitVec 32 := 7#32
  let v4363 : BitVec 32 := Scalar.muli v4362 c7_i32_1857
  let c1_i32_1858 : BitVec 32 := 1#32
  let v4364 : BitVec 32 := Scalar.addi v4363 c1_i32_1858
  let v4365 : Index := Scalar.indexCast v4364
  ![v4365.toNat]
def k0_off512 (v4334 : BitVec 32) (v4366 : BitVec 32) : Fin 3 → Nat :=
  let v4372 : Index := Scalar.indexCast v4366
  let v4335 : BitVec 32 := v4334
  let v4373 : Index := Scalar.indexCast v4335
  let c0_1859 : Index := 0#32
  ![v4372.toNat, v4373.toNat, 0]

def k0_chk349 (v4334 : BitVec 32) (v4366 : BitVec 32) : Prop :=
  (∀ a, (k0_off512 v4334 v4366) a + S1x48x512.size a ≤ S64x64x512.size a)
theorem k0_off512_inb : ∀ (v4334 : BitVec 32) (v4366 : BitVec 32) (k0_hw349 : k0_chk349 v4334 v4366), ∀ a, (k0_off512 v4334 v4366) a + S1x48x512.size a ≤ S64x64x512.size a := fun v4334 v4366 k0_hw349 => k0_hw349

def k0_off513 (v4334 : BitVec 32) (v4368 : BitVec 32) : Fin 3 → Nat :=
  let v4376 : Index := Scalar.indexCast v4368
  let v4335 : BitVec 32 := v4334
  let v4377 : Index := Scalar.indexCast v4335
  let c0_1860 : Index := 0#32
  ![v4376.toNat, v4377.toNat, 0]

def k0_chk350 (v4334 : BitVec 32) (v4368 : BitVec 32) : Prop :=
  (∀ a, (k0_off513 v4334 v4368) a + S1x48x512.size a ≤ S64x64x512.size a)
theorem k0_off513_inb : ∀ (v4334 : BitVec 32) (v4368 : BitVec 32) (k0_hw350 : k0_chk350 v4334 v4368), ∀ a, (k0_off513 v4334 v4368) a + S1x48x512.size a ≤ S64x64x512.size a := fun v4334 v4368 k0_hw350 => k0_hw350

def k0_off514 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1867 : BitVec 32 := 23#32
  let v4388 : BitVec 32 := Scalar.addi v5 c23_i32_1867
  let c7_i32_1868 : BitVec 32 := 7#32
  let v4389 : BitVec 32 := Scalar.muli v4388 c7_i32_1868
  let c2_i32_1869 : BitVec 32 := 2#32
  let v4390 : BitVec 32 := Scalar.addi v4389 c2_i32_1869
  let v4391 : Index := Scalar.indexCast v4390
  ![v4391.toNat]
def k0_off515 (v4334 : BitVec 32) (v4392 : BitVec 32) : Fin 3 → Nat :=
  let v4398 : Index := Scalar.indexCast v4392
  let v4335 : BitVec 32 := v4334
  let v4399 : Index := Scalar.indexCast v4335
  let c0_1870 : Index := 0#32
  ![v4398.toNat, v4399.toNat, 0]

def k0_chk351 (v4334 : BitVec 32) (v4392 : BitVec 32) : Prop :=
  (∀ a, (k0_off515 v4334 v4392) a + S1x48x512.size a ≤ S64x64x512.size a)
theorem k0_off515_inb : ∀ (v4334 : BitVec 32) (v4392 : BitVec 32) (k0_hw351 : k0_chk351 v4334 v4392), ∀ a, (k0_off515 v4334 v4392) a + S1x48x512.size a ≤ S64x64x512.size a := fun v4334 v4392 k0_hw351 => k0_hw351

def k0_off516 (v4334 : BitVec 32) (v4394 : BitVec 32) : Fin 3 → Nat :=
  let v4402 : Index := Scalar.indexCast v4394
  let v4335 : BitVec 32 := v4334
  let v4403 : Index := Scalar.indexCast v4335
  let c0_1871 : Index := 0#32
  ![v4402.toNat, v4403.toNat, 0]

def k0_chk352 (v4334 : BitVec 32) (v4394 : BitVec 32) : Prop :=
  (∀ a, (k0_off516 v4334 v4394) a + S1x48x512.size a ≤ S64x64x512.size a)
theorem k0_off516_inb : ∀ (v4334 : BitVec 32) (v4394 : BitVec 32) (k0_hw352 : k0_chk352 v4334 v4394), ∀ a, (k0_off516 v4334 v4394) a + S1x48x512.size a ≤ S64x64x512.size a := fun v4334 v4394 k0_hw352 => k0_hw352

def k0_off517 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1878 : BitVec 32 := 23#32
  let v4414 : BitVec 32 := Scalar.addi v5 c23_i32_1878
  let c7_i32_1879 : BitVec 32 := 7#32
  let v4415 : BitVec 32 := Scalar.muli v4414 c7_i32_1879
  let c3_i32_1880 : BitVec 32 := 3#32
  let v4416 : BitVec 32 := Scalar.addi v4415 c3_i32_1880
  let v4417 : Index := Scalar.indexCast v4416
  ![v4417.toNat]
def k0_off518 (v4334 : BitVec 32) (v4418 : BitVec 32) : Fin 3 → Nat :=
  let v4424 : Index := Scalar.indexCast v4418
  let v4335 : BitVec 32 := v4334
  let v4425 : Index := Scalar.indexCast v4335
  let c0_1881 : Index := 0#32
  ![v4424.toNat, v4425.toNat, 0]

def k0_chk353 (v4334 : BitVec 32) (v4418 : BitVec 32) : Prop :=
  (∀ a, (k0_off518 v4334 v4418) a + S1x48x512.size a ≤ S64x64x512.size a)
theorem k0_off518_inb : ∀ (v4334 : BitVec 32) (v4418 : BitVec 32) (k0_hw353 : k0_chk353 v4334 v4418), ∀ a, (k0_off518 v4334 v4418) a + S1x48x512.size a ≤ S64x64x512.size a := fun v4334 v4418 k0_hw353 => k0_hw353

def k0_off519 (v4334 : BitVec 32) (v4420 : BitVec 32) : Fin 3 → Nat :=
  let v4428 : Index := Scalar.indexCast v4420
  let v4335 : BitVec 32 := v4334
  let v4429 : Index := Scalar.indexCast v4335
  let c0_1882 : Index := 0#32
  ![v4428.toNat, v4429.toNat, 0]

def k0_chk354 (v4334 : BitVec 32) (v4420 : BitVec 32) : Prop :=
  (∀ a, (k0_off519 v4334 v4420) a + S1x48x512.size a ≤ S64x64x512.size a)
theorem k0_off519_inb : ∀ (v4334 : BitVec 32) (v4420 : BitVec 32) (k0_hw354 : k0_chk354 v4334 v4420), ∀ a, (k0_off519 v4334 v4420) a + S1x48x512.size a ≤ S64x64x512.size a := fun v4334 v4420 k0_hw354 => k0_hw354

def k0_off520 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1889 : BitVec 32 := 23#32
  let v4440 : BitVec 32 := Scalar.addi v5 c23_i32_1889
  let c7_i32_1890 : BitVec 32 := 7#32
  let v4441 : BitVec 32 := Scalar.muli v4440 c7_i32_1890
  let c4_i32_1891 : BitVec 32 := 4#32
  let v4442 : BitVec 32 := Scalar.addi v4441 c4_i32_1891
  let v4443 : Index := Scalar.indexCast v4442
  ![v4443.toNat]
def k0_off521 (v4334 : BitVec 32) (v4444 : BitVec 32) : Fin 3 → Nat :=
  let v4450 : Index := Scalar.indexCast v4444
  let v4335 : BitVec 32 := v4334
  let v4451 : Index := Scalar.indexCast v4335
  let c0_1892 : Index := 0#32
  ![v4450.toNat, v4451.toNat, 0]

def k0_chk355 (v4334 : BitVec 32) (v4444 : BitVec 32) : Prop :=
  (∀ a, (k0_off521 v4334 v4444) a + S1x48x512.size a ≤ S64x64x512.size a)
theorem k0_off521_inb : ∀ (v4334 : BitVec 32) (v4444 : BitVec 32) (k0_hw355 : k0_chk355 v4334 v4444), ∀ a, (k0_off521 v4334 v4444) a + S1x48x512.size a ≤ S64x64x512.size a := fun v4334 v4444 k0_hw355 => k0_hw355

def k0_off522 (v4334 : BitVec 32) (v4446 : BitVec 32) : Fin 3 → Nat :=
  let v4454 : Index := Scalar.indexCast v4446
  let v4335 : BitVec 32 := v4334
  let v4455 : Index := Scalar.indexCast v4335
  let c0_1893 : Index := 0#32
  ![v4454.toNat, v4455.toNat, 0]

def k0_chk356 (v4334 : BitVec 32) (v4446 : BitVec 32) : Prop :=
  (∀ a, (k0_off522 v4334 v4446) a + S1x48x512.size a ≤ S64x64x512.size a)
theorem k0_off522_inb : ∀ (v4334 : BitVec 32) (v4446 : BitVec 32) (k0_hw356 : k0_chk356 v4334 v4446), ∀ a, (k0_off522 v4334 v4446) a + S1x48x512.size a ≤ S64x64x512.size a := fun v4334 v4446 k0_hw356 => k0_hw356

def k0_off523 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1900 : BitVec 32 := 23#32
  let v4466 : BitVec 32 := Scalar.addi v5 c23_i32_1900
  let c7_i32_1901 : BitVec 32 := 7#32
  let v4467 : BitVec 32 := Scalar.muli v4466 c7_i32_1901
  let c5_i32_1902 : BitVec 32 := 5#32
  let v4468 : BitVec 32 := Scalar.addi v4467 c5_i32_1902
  let v4469 : Index := Scalar.indexCast v4468
  ![v4469.toNat]
def k0_off524 (v4334 : BitVec 32) (v4470 : BitVec 32) : Fin 3 → Nat :=
  let v4476 : Index := Scalar.indexCast v4470
  let v4335 : BitVec 32 := v4334
  let v4477 : Index := Scalar.indexCast v4335
  let c0_1903 : Index := 0#32
  ![v4476.toNat, v4477.toNat, 0]

def k0_chk357 (v4334 : BitVec 32) (v4470 : BitVec 32) : Prop :=
  (∀ a, (k0_off524 v4334 v4470) a + S1x48x512.size a ≤ S64x64x512.size a)
theorem k0_off524_inb : ∀ (v4334 : BitVec 32) (v4470 : BitVec 32) (k0_hw357 : k0_chk357 v4334 v4470), ∀ a, (k0_off524 v4334 v4470) a + S1x48x512.size a ≤ S64x64x512.size a := fun v4334 v4470 k0_hw357 => k0_hw357

def k0_off525 (v4334 : BitVec 32) (v4472 : BitVec 32) : Fin 3 → Nat :=
  let v4480 : Index := Scalar.indexCast v4472
  let v4335 : BitVec 32 := v4334
  let v4481 : Index := Scalar.indexCast v4335
  let c0_1904 : Index := 0#32
  ![v4480.toNat, v4481.toNat, 0]

def k0_chk358 (v4334 : BitVec 32) (v4472 : BitVec 32) : Prop :=
  (∀ a, (k0_off525 v4334 v4472) a + S1x48x512.size a ≤ S64x64x512.size a)
theorem k0_off525_inb : ∀ (v4334 : BitVec 32) (v4472 : BitVec 32) (k0_hw358 : k0_chk358 v4334 v4472), ∀ a, (k0_off525 v4334 v4472) a + S1x48x512.size a ≤ S64x64x512.size a := fun v4334 v4472 k0_hw358 => k0_hw358

def k0_off526 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c23_i32_1911 : BitVec 32 := 23#32
  let v4492 : BitVec 32 := Scalar.addi v5 c23_i32_1911
  let c7_i32_1912 : BitVec 32 := 7#32
  let v4493 : BitVec 32 := Scalar.muli v4492 c7_i32_1912
  let c6_i32_1913 : BitVec 32 := 6#32
  let v4494 : BitVec 32 := Scalar.addi v4493 c6_i32_1913
  let v4495 : Index := Scalar.indexCast v4494
  ![v4495.toNat]
def k0_off527 (v4334 : BitVec 32) (v4496 : BitVec 32) : Fin 3 → Nat :=
  let v4502 : Index := Scalar.indexCast v4496
  let v4335 : BitVec 32 := v4334
  let v4503 : Index := Scalar.indexCast v4335
  let c0_1914 : Index := 0#32
  ![v4502.toNat, v4503.toNat, 0]

def k0_chk359 (v4334 : BitVec 32) (v4496 : BitVec 32) : Prop :=
  (∀ a, (k0_off527 v4334 v4496) a + S1x48x512.size a ≤ S64x64x512.size a)
theorem k0_off527_inb : ∀ (v4334 : BitVec 32) (v4496 : BitVec 32) (k0_hw359 : k0_chk359 v4334 v4496), ∀ a, (k0_off527 v4334 v4496) a + S1x48x512.size a ≤ S64x64x512.size a := fun v4334 v4496 k0_hw359 => k0_hw359

def k0_off528 (v4334 : BitVec 32) (v4498 : BitVec 32) : Fin 3 → Nat :=
  let v4506 : Index := Scalar.indexCast v4498
  let v4335 : BitVec 32 := v4334
  let v4507 : Index := Scalar.indexCast v4335
  let c0_1915 : Index := 0#32
  ![v4506.toNat, v4507.toNat, 0]

def k0_chk360 (v4334 : BitVec 32) (v4498 : BitVec 32) : Prop :=
  (∀ a, (k0_off528 v4334 v4498) a + S1x48x512.size a ≤ S64x64x512.size a)
theorem k0_off528_inb : ∀ (v4334 : BitVec 32) (v4498 : BitVec 32) (k0_hw360 : k0_chk360 v4334 v4498), ∀ a, (k0_off528 v4334 v4498) a + S1x48x512.size a ≤ S64x64x512.size a := fun v4334 v4498 k0_hw360 => k0_hw360

def k0_off529 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32 : BitVec 32 := 24#32
  let v4520 : BitVec 32 := Scalar.addi v5 c24_i32
  let v4521 : Index := Scalar.indexCast v4520
  ![v4521.toNat]
def k0_mult25 (v4522 : BitVec 32) : BitVec 32 :=
  v4522

def k0_chk361 (v4522 : BitVec 32) : Prop :=
  (16 ∣ (k0_mult25 v4522).toNat)
theorem k0_mult25_dvd : ∀ (v4522 : BitVec 32) (k0_hw361 : k0_chk361 v4522), 16 ∣ (k0_mult25 v4522).toNat := fun v4522 k0_hw361 => k0_hw361

def k0_off530 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1925 : BitVec 32 := 24#32
  let v4524 : BitVec 32 := Scalar.addi v5 c24_i32_1925
  let c7_i32_1926 : BitVec 32 := 7#32
  let v4525 : BitVec 32 := Scalar.muli v4524 c7_i32_1926
  let c0_i32_1927 : BitVec 32 := 0#32
  let v4526 : BitVec 32 := Scalar.addi v4525 c0_i32_1927
  let v4527 : Index := Scalar.indexCast v4526
  ![v4527.toNat]
def k0_off531 (v4522 : BitVec 32) (v4528 : BitVec 32) : Fin 3 → Nat :=
  let v4534 : Index := Scalar.indexCast v4528
  let v4523 : BitVec 32 := v4522
  let v4535 : Index := Scalar.indexCast v4523
  let c0_1928 : Index := 0#32
  ![v4534.toNat, v4535.toNat, 0]

def k0_chk362 (v4522 : BitVec 32) (v4528 : BitVec 32) : Prop :=
  (∀ a, (k0_off531 v4522 v4528) a + S1x48x512.size a ≤ S64x64x512.size a)
theorem k0_off531_inb : ∀ (v4522 : BitVec 32) (v4528 : BitVec 32) (k0_hw362 : k0_chk362 v4522 v4528), ∀ a, (k0_off531 v4522 v4528) a + S1x48x512.size a ≤ S64x64x512.size a := fun v4522 v4528 k0_hw362 => k0_hw362

def k0_off532 (v4522 : BitVec 32) (v4530 : BitVec 32) : Fin 3 → Nat :=
  let v4538 : Index := Scalar.indexCast v4530
  let v4523 : BitVec 32 := v4522
  let v4539 : Index := Scalar.indexCast v4523
  let c0_1929 : Index := 0#32
  ![v4538.toNat, v4539.toNat, 0]

def k0_chk363 (v4522 : BitVec 32) (v4530 : BitVec 32) : Prop :=
  (∀ a, (k0_off532 v4522 v4530) a + S1x48x512.size a ≤ S64x64x512.size a)
theorem k0_off532_inb : ∀ (v4522 : BitVec 32) (v4530 : BitVec 32) (k0_hw363 : k0_chk363 v4522 v4530), ∀ a, (k0_off532 v4522 v4530) a + S1x48x512.size a ≤ S64x64x512.size a := fun v4522 v4530 k0_hw363 => k0_hw363

def k0_off533 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1936 : BitVec 32 := 24#32
  let v4550 : BitVec 32 := Scalar.addi v5 c24_i32_1936
  let c7_i32_1937 : BitVec 32 := 7#32
  let v4551 : BitVec 32 := Scalar.muli v4550 c7_i32_1937
  let c1_i32_1938 : BitVec 32 := 1#32
  let v4552 : BitVec 32 := Scalar.addi v4551 c1_i32_1938
  let v4553 : Index := Scalar.indexCast v4552
  ![v4553.toNat]
def k0_off534 (v4522 : BitVec 32) (v4554 : BitVec 32) : Fin 3 → Nat :=
  let v4560 : Index := Scalar.indexCast v4554
  let v4523 : BitVec 32 := v4522
  let v4561 : Index := Scalar.indexCast v4523
  let c0_1939 : Index := 0#32
  ![v4560.toNat, v4561.toNat, 0]

def k0_chk364 (v4522 : BitVec 32) (v4554 : BitVec 32) : Prop :=
  (∀ a, (k0_off534 v4522 v4554) a + S1x48x512.size a ≤ S64x64x512.size a)
theorem k0_off534_inb : ∀ (v4522 : BitVec 32) (v4554 : BitVec 32) (k0_hw364 : k0_chk364 v4522 v4554), ∀ a, (k0_off534 v4522 v4554) a + S1x48x512.size a ≤ S64x64x512.size a := fun v4522 v4554 k0_hw364 => k0_hw364

def k0_off535 (v4522 : BitVec 32) (v4556 : BitVec 32) : Fin 3 → Nat :=
  let v4564 : Index := Scalar.indexCast v4556
  let v4523 : BitVec 32 := v4522
  let v4565 : Index := Scalar.indexCast v4523
  let c0_1940 : Index := 0#32
  ![v4564.toNat, v4565.toNat, 0]

def k0_chk365 (v4522 : BitVec 32) (v4556 : BitVec 32) : Prop :=
  (∀ a, (k0_off535 v4522 v4556) a + S1x48x512.size a ≤ S64x64x512.size a)
theorem k0_off535_inb : ∀ (v4522 : BitVec 32) (v4556 : BitVec 32) (k0_hw365 : k0_chk365 v4522 v4556), ∀ a, (k0_off535 v4522 v4556) a + S1x48x512.size a ≤ S64x64x512.size a := fun v4522 v4556 k0_hw365 => k0_hw365

def k0_off536 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1947 : BitVec 32 := 24#32
  let v4576 : BitVec 32 := Scalar.addi v5 c24_i32_1947
  let c7_i32_1948 : BitVec 32 := 7#32
  let v4577 : BitVec 32 := Scalar.muli v4576 c7_i32_1948
  let c2_i32_1949 : BitVec 32 := 2#32
  let v4578 : BitVec 32 := Scalar.addi v4577 c2_i32_1949
  let v4579 : Index := Scalar.indexCast v4578
  ![v4579.toNat]
def k0_off537 (v4522 : BitVec 32) (v4580 : BitVec 32) : Fin 3 → Nat :=
  let v4586 : Index := Scalar.indexCast v4580
  let v4523 : BitVec 32 := v4522
  let v4587 : Index := Scalar.indexCast v4523
  let c0_1950 : Index := 0#32
  ![v4586.toNat, v4587.toNat, 0]

def k0_chk366 (v4522 : BitVec 32) (v4580 : BitVec 32) : Prop :=
  (∀ a, (k0_off537 v4522 v4580) a + S1x48x512.size a ≤ S64x64x512.size a)
theorem k0_off537_inb : ∀ (v4522 : BitVec 32) (v4580 : BitVec 32) (k0_hw366 : k0_chk366 v4522 v4580), ∀ a, (k0_off537 v4522 v4580) a + S1x48x512.size a ≤ S64x64x512.size a := fun v4522 v4580 k0_hw366 => k0_hw366

def k0_off538 (v4522 : BitVec 32) (v4582 : BitVec 32) : Fin 3 → Nat :=
  let v4590 : Index := Scalar.indexCast v4582
  let v4523 : BitVec 32 := v4522
  let v4591 : Index := Scalar.indexCast v4523
  let c0_1951 : Index := 0#32
  ![v4590.toNat, v4591.toNat, 0]

def k0_chk367 (v4522 : BitVec 32) (v4582 : BitVec 32) : Prop :=
  (∀ a, (k0_off538 v4522 v4582) a + S1x48x512.size a ≤ S64x64x512.size a)
theorem k0_off538_inb : ∀ (v4522 : BitVec 32) (v4582 : BitVec 32) (k0_hw367 : k0_chk367 v4522 v4582), ∀ a, (k0_off538 v4522 v4582) a + S1x48x512.size a ≤ S64x64x512.size a := fun v4522 v4582 k0_hw367 => k0_hw367

def k0_off539 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1958 : BitVec 32 := 24#32
  let v4602 : BitVec 32 := Scalar.addi v5 c24_i32_1958
  let c7_i32_1959 : BitVec 32 := 7#32
  let v4603 : BitVec 32 := Scalar.muli v4602 c7_i32_1959
  let c3_i32_1960 : BitVec 32 := 3#32
  let v4604 : BitVec 32 := Scalar.addi v4603 c3_i32_1960
  let v4605 : Index := Scalar.indexCast v4604
  ![v4605.toNat]
def k0_off540 (v4522 : BitVec 32) (v4606 : BitVec 32) : Fin 3 → Nat :=
  let v4612 : Index := Scalar.indexCast v4606
  let v4523 : BitVec 32 := v4522
  let v4613 : Index := Scalar.indexCast v4523
  let c0_1961 : Index := 0#32
  ![v4612.toNat, v4613.toNat, 0]

def k0_chk368 (v4522 : BitVec 32) (v4606 : BitVec 32) : Prop :=
  (∀ a, (k0_off540 v4522 v4606) a + S1x48x512.size a ≤ S64x64x512.size a)
theorem k0_off540_inb : ∀ (v4522 : BitVec 32) (v4606 : BitVec 32) (k0_hw368 : k0_chk368 v4522 v4606), ∀ a, (k0_off540 v4522 v4606) a + S1x48x512.size a ≤ S64x64x512.size a := fun v4522 v4606 k0_hw368 => k0_hw368

def k0_off541 (v4522 : BitVec 32) (v4608 : BitVec 32) : Fin 3 → Nat :=
  let v4616 : Index := Scalar.indexCast v4608
  let v4523 : BitVec 32 := v4522
  let v4617 : Index := Scalar.indexCast v4523
  let c0_1962 : Index := 0#32
  ![v4616.toNat, v4617.toNat, 0]

def k0_chk369 (v4522 : BitVec 32) (v4608 : BitVec 32) : Prop :=
  (∀ a, (k0_off541 v4522 v4608) a + S1x48x512.size a ≤ S64x64x512.size a)
theorem k0_off541_inb : ∀ (v4522 : BitVec 32) (v4608 : BitVec 32) (k0_hw369 : k0_chk369 v4522 v4608), ∀ a, (k0_off541 v4522 v4608) a + S1x48x512.size a ≤ S64x64x512.size a := fun v4522 v4608 k0_hw369 => k0_hw369

def k0_off542 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1969 : BitVec 32 := 24#32
  let v4628 : BitVec 32 := Scalar.addi v5 c24_i32_1969
  let c7_i32_1970 : BitVec 32 := 7#32
  let v4629 : BitVec 32 := Scalar.muli v4628 c7_i32_1970
  let c4_i32_1971 : BitVec 32 := 4#32
  let v4630 : BitVec 32 := Scalar.addi v4629 c4_i32_1971
  let v4631 : Index := Scalar.indexCast v4630
  ![v4631.toNat]
def k0_off543 (v4522 : BitVec 32) (v4632 : BitVec 32) : Fin 3 → Nat :=
  let v4638 : Index := Scalar.indexCast v4632
  let v4523 : BitVec 32 := v4522
  let v4639 : Index := Scalar.indexCast v4523
  let c0_1972 : Index := 0#32
  ![v4638.toNat, v4639.toNat, 0]

def k0_chk370 (v4522 : BitVec 32) (v4632 : BitVec 32) : Prop :=
  (∀ a, (k0_off543 v4522 v4632) a + S1x48x512.size a ≤ S64x64x512.size a)
theorem k0_off543_inb : ∀ (v4522 : BitVec 32) (v4632 : BitVec 32) (k0_hw370 : k0_chk370 v4522 v4632), ∀ a, (k0_off543 v4522 v4632) a + S1x48x512.size a ≤ S64x64x512.size a := fun v4522 v4632 k0_hw370 => k0_hw370

def k0_off544 (v4522 : BitVec 32) (v4634 : BitVec 32) : Fin 3 → Nat :=
  let v4642 : Index := Scalar.indexCast v4634
  let v4523 : BitVec 32 := v4522
  let v4643 : Index := Scalar.indexCast v4523
  let c0_1973 : Index := 0#32
  ![v4642.toNat, v4643.toNat, 0]

def k0_chk371 (v4522 : BitVec 32) (v4634 : BitVec 32) : Prop :=
  (∀ a, (k0_off544 v4522 v4634) a + S1x48x512.size a ≤ S64x64x512.size a)
theorem k0_off544_inb : ∀ (v4522 : BitVec 32) (v4634 : BitVec 32) (k0_hw371 : k0_chk371 v4522 v4634), ∀ a, (k0_off544 v4522 v4634) a + S1x48x512.size a ≤ S64x64x512.size a := fun v4522 v4634 k0_hw371 => k0_hw371

def k0_off545 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1980 : BitVec 32 := 24#32
  let v4654 : BitVec 32 := Scalar.addi v5 c24_i32_1980
  let c7_i32_1981 : BitVec 32 := 7#32
  let v4655 : BitVec 32 := Scalar.muli v4654 c7_i32_1981
  let c5_i32_1982 : BitVec 32 := 5#32
  let v4656 : BitVec 32 := Scalar.addi v4655 c5_i32_1982
  let v4657 : Index := Scalar.indexCast v4656
  ![v4657.toNat]
def k0_off546 (v4522 : BitVec 32) (v4658 : BitVec 32) : Fin 3 → Nat :=
  let v4664 : Index := Scalar.indexCast v4658
  let v4523 : BitVec 32 := v4522
  let v4665 : Index := Scalar.indexCast v4523
  let c0_1983 : Index := 0#32
  ![v4664.toNat, v4665.toNat, 0]

def k0_chk372 (v4522 : BitVec 32) (v4658 : BitVec 32) : Prop :=
  (∀ a, (k0_off546 v4522 v4658) a + S1x48x512.size a ≤ S64x64x512.size a)
theorem k0_off546_inb : ∀ (v4522 : BitVec 32) (v4658 : BitVec 32) (k0_hw372 : k0_chk372 v4522 v4658), ∀ a, (k0_off546 v4522 v4658) a + S1x48x512.size a ≤ S64x64x512.size a := fun v4522 v4658 k0_hw372 => k0_hw372

def k0_off547 (v4522 : BitVec 32) (v4660 : BitVec 32) : Fin 3 → Nat :=
  let v4668 : Index := Scalar.indexCast v4660
  let v4523 : BitVec 32 := v4522
  let v4669 : Index := Scalar.indexCast v4523
  let c0_1984 : Index := 0#32
  ![v4668.toNat, v4669.toNat, 0]

def k0_chk373 (v4522 : BitVec 32) (v4660 : BitVec 32) : Prop :=
  (∀ a, (k0_off547 v4522 v4660) a + S1x48x512.size a ≤ S64x64x512.size a)
theorem k0_off547_inb : ∀ (v4522 : BitVec 32) (v4660 : BitVec 32) (k0_hw373 : k0_chk373 v4522 v4660), ∀ a, (k0_off547 v4522 v4660) a + S1x48x512.size a ≤ S64x64x512.size a := fun v4522 v4660 k0_hw373 => k0_hw373

def k0_off548 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c24_i32_1991 : BitVec 32 := 24#32
  let v4680 : BitVec 32 := Scalar.addi v5 c24_i32_1991
  let c7_i32_1992 : BitVec 32 := 7#32
  let v4681 : BitVec 32 := Scalar.muli v4680 c7_i32_1992
  let c6_i32_1993 : BitVec 32 := 6#32
  let v4682 : BitVec 32 := Scalar.addi v4681 c6_i32_1993
  let v4683 : Index := Scalar.indexCast v4682
  ![v4683.toNat]
def k0_off549 (v4522 : BitVec 32) (v4684 : BitVec 32) : Fin 3 → Nat :=
  let v4690 : Index := Scalar.indexCast v4684
  let v4523 : BitVec 32 := v4522
  let v4691 : Index := Scalar.indexCast v4523
  let c0_1994 : Index := 0#32
  ![v4690.toNat, v4691.toNat, 0]

def k0_chk374 (v4522 : BitVec 32) (v4684 : BitVec 32) : Prop :=
  (∀ a, (k0_off549 v4522 v4684) a + S1x48x512.size a ≤ S64x64x512.size a)
theorem k0_off549_inb : ∀ (v4522 : BitVec 32) (v4684 : BitVec 32) (k0_hw374 : k0_chk374 v4522 v4684), ∀ a, (k0_off549 v4522 v4684) a + S1x48x512.size a ≤ S64x64x512.size a := fun v4522 v4684 k0_hw374 => k0_hw374

def k0_off550 (v4522 : BitVec 32) (v4686 : BitVec 32) : Fin 3 → Nat :=
  let v4694 : Index := Scalar.indexCast v4686
  let v4523 : BitVec 32 := v4522
  let v4695 : Index := Scalar.indexCast v4523
  let c0_1995 : Index := 0#32
  ![v4694.toNat, v4695.toNat, 0]

def k0_chk375 (v4522 : BitVec 32) (v4686 : BitVec 32) : Prop :=
  (∀ a, (k0_off550 v4522 v4686) a + S1x48x512.size a ≤ S64x64x512.size a)
theorem k0_off550_inb : ∀ (v4522 : BitVec 32) (v4686 : BitVec 32) (k0_hw375 : k0_chk375 v4522 v4686), ∀ a, (k0_off550 v4522 v4686) a + S1x48x512.size a ≤ S64x64x512.size a := fun v4522 v4686 k0_hw375 => k0_hw375

def k0_off551 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32 : BitVec 32 := 25#32
  let v4708 : BitVec 32 := Scalar.addi v5 c25_i32
  let v4709 : Index := Scalar.indexCast v4708
  ![v4709.toNat]
def k0_mult26 (v4710 : BitVec 32) : BitVec 32 :=
  v4710

def k0_chk376 (v4710 : BitVec 32) : Prop :=
  (16 ∣ (k0_mult26 v4710).toNat)
theorem k0_mult26_dvd : ∀ (v4710 : BitVec 32) (k0_hw376 : k0_chk376 v4710), 16 ∣ (k0_mult26 v4710).toNat := fun v4710 k0_hw376 => k0_hw376

def k0_off552 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2005 : BitVec 32 := 25#32
  let v4712 : BitVec 32 := Scalar.addi v5 c25_i32_2005
  let c7_i32_2006 : BitVec 32 := 7#32
  let v4713 : BitVec 32 := Scalar.muli v4712 c7_i32_2006
  let c0_i32_2007 : BitVec 32 := 0#32
  let v4714 : BitVec 32 := Scalar.addi v4713 c0_i32_2007
  let v4715 : Index := Scalar.indexCast v4714
  ![v4715.toNat]
def k0_off553 (v4710 : BitVec 32) (v4716 : BitVec 32) : Fin 3 → Nat :=
  let v4722 : Index := Scalar.indexCast v4716
  let v4711 : BitVec 32 := v4710
  let v4723 : Index := Scalar.indexCast v4711
  let c0_2008 : Index := 0#32
  ![v4722.toNat, v4723.toNat, 0]

def k0_chk377 (v4710 : BitVec 32) (v4716 : BitVec 32) : Prop :=
  (∀ a, (k0_off553 v4710 v4716) a + S1x48x512.size a ≤ S64x64x512.size a)
theorem k0_off553_inb : ∀ (v4710 : BitVec 32) (v4716 : BitVec 32) (k0_hw377 : k0_chk377 v4710 v4716), ∀ a, (k0_off553 v4710 v4716) a + S1x48x512.size a ≤ S64x64x512.size a := fun v4710 v4716 k0_hw377 => k0_hw377

def k0_off554 (v4710 : BitVec 32) (v4718 : BitVec 32) : Fin 3 → Nat :=
  let v4726 : Index := Scalar.indexCast v4718
  let v4711 : BitVec 32 := v4710
  let v4727 : Index := Scalar.indexCast v4711
  let c0_2009 : Index := 0#32
  ![v4726.toNat, v4727.toNat, 0]

def k0_chk378 (v4710 : BitVec 32) (v4718 : BitVec 32) : Prop :=
  (∀ a, (k0_off554 v4710 v4718) a + S1x48x512.size a ≤ S64x64x512.size a)
theorem k0_off554_inb : ∀ (v4710 : BitVec 32) (v4718 : BitVec 32) (k0_hw378 : k0_chk378 v4710 v4718), ∀ a, (k0_off554 v4710 v4718) a + S1x48x512.size a ≤ S64x64x512.size a := fun v4710 v4718 k0_hw378 => k0_hw378

def k0_off555 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2016 : BitVec 32 := 25#32
  let v4738 : BitVec 32 := Scalar.addi v5 c25_i32_2016
  let c7_i32_2017 : BitVec 32 := 7#32
  let v4739 : BitVec 32 := Scalar.muli v4738 c7_i32_2017
  let c1_i32_2018 : BitVec 32 := 1#32
  let v4740 : BitVec 32 := Scalar.addi v4739 c1_i32_2018
  let v4741 : Index := Scalar.indexCast v4740
  ![v4741.toNat]
def k0_off556 (v4710 : BitVec 32) (v4742 : BitVec 32) : Fin 3 → Nat :=
  let v4748 : Index := Scalar.indexCast v4742
  let v4711 : BitVec 32 := v4710
  let v4749 : Index := Scalar.indexCast v4711
  let c0_2019 : Index := 0#32
  ![v4748.toNat, v4749.toNat, 0]

def k0_chk379 (v4710 : BitVec 32) (v4742 : BitVec 32) : Prop :=
  (∀ a, (k0_off556 v4710 v4742) a + S1x48x512.size a ≤ S64x64x512.size a)
theorem k0_off556_inb : ∀ (v4710 : BitVec 32) (v4742 : BitVec 32) (k0_hw379 : k0_chk379 v4710 v4742), ∀ a, (k0_off556 v4710 v4742) a + S1x48x512.size a ≤ S64x64x512.size a := fun v4710 v4742 k0_hw379 => k0_hw379

def k0_off557 (v4710 : BitVec 32) (v4744 : BitVec 32) : Fin 3 → Nat :=
  let v4752 : Index := Scalar.indexCast v4744
  let v4711 : BitVec 32 := v4710
  let v4753 : Index := Scalar.indexCast v4711
  let c0_2020 : Index := 0#32
  ![v4752.toNat, v4753.toNat, 0]

def k0_chk380 (v4710 : BitVec 32) (v4744 : BitVec 32) : Prop :=
  (∀ a, (k0_off557 v4710 v4744) a + S1x48x512.size a ≤ S64x64x512.size a)
theorem k0_off557_inb : ∀ (v4710 : BitVec 32) (v4744 : BitVec 32) (k0_hw380 : k0_chk380 v4710 v4744), ∀ a, (k0_off557 v4710 v4744) a + S1x48x512.size a ≤ S64x64x512.size a := fun v4710 v4744 k0_hw380 => k0_hw380

def k0_off558 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2027 : BitVec 32 := 25#32
  let v4764 : BitVec 32 := Scalar.addi v5 c25_i32_2027
  let c7_i32_2028 : BitVec 32 := 7#32
  let v4765 : BitVec 32 := Scalar.muli v4764 c7_i32_2028
  let c2_i32_2029 : BitVec 32 := 2#32
  let v4766 : BitVec 32 := Scalar.addi v4765 c2_i32_2029
  let v4767 : Index := Scalar.indexCast v4766
  ![v4767.toNat]
def k0_off559 (v4710 : BitVec 32) (v4768 : BitVec 32) : Fin 3 → Nat :=
  let v4774 : Index := Scalar.indexCast v4768
  let v4711 : BitVec 32 := v4710
  let v4775 : Index := Scalar.indexCast v4711
  let c0_2030 : Index := 0#32
  ![v4774.toNat, v4775.toNat, 0]

def k0_chk381 (v4710 : BitVec 32) (v4768 : BitVec 32) : Prop :=
  (∀ a, (k0_off559 v4710 v4768) a + S1x48x512.size a ≤ S64x64x512.size a)
theorem k0_off559_inb : ∀ (v4710 : BitVec 32) (v4768 : BitVec 32) (k0_hw381 : k0_chk381 v4710 v4768), ∀ a, (k0_off559 v4710 v4768) a + S1x48x512.size a ≤ S64x64x512.size a := fun v4710 v4768 k0_hw381 => k0_hw381

def k0_off560 (v4710 : BitVec 32) (v4770 : BitVec 32) : Fin 3 → Nat :=
  let v4778 : Index := Scalar.indexCast v4770
  let v4711 : BitVec 32 := v4710
  let v4779 : Index := Scalar.indexCast v4711
  let c0_2031 : Index := 0#32
  ![v4778.toNat, v4779.toNat, 0]

def k0_chk382 (v4710 : BitVec 32) (v4770 : BitVec 32) : Prop :=
  (∀ a, (k0_off560 v4710 v4770) a + S1x48x512.size a ≤ S64x64x512.size a)
theorem k0_off560_inb : ∀ (v4710 : BitVec 32) (v4770 : BitVec 32) (k0_hw382 : k0_chk382 v4710 v4770), ∀ a, (k0_off560 v4710 v4770) a + S1x48x512.size a ≤ S64x64x512.size a := fun v4710 v4770 k0_hw382 => k0_hw382

def k0_off561 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2038 : BitVec 32 := 25#32
  let v4790 : BitVec 32 := Scalar.addi v5 c25_i32_2038
  let c7_i32_2039 : BitVec 32 := 7#32
  let v4791 : BitVec 32 := Scalar.muli v4790 c7_i32_2039
  let c3_i32_2040 : BitVec 32 := 3#32
  let v4792 : BitVec 32 := Scalar.addi v4791 c3_i32_2040
  let v4793 : Index := Scalar.indexCast v4792
  ![v4793.toNat]
def k0_off562 (v4710 : BitVec 32) (v4794 : BitVec 32) : Fin 3 → Nat :=
  let v4800 : Index := Scalar.indexCast v4794
  let v4711 : BitVec 32 := v4710
  let v4801 : Index := Scalar.indexCast v4711
  let c0_2041 : Index := 0#32
  ![v4800.toNat, v4801.toNat, 0]

def k0_chk383 (v4710 : BitVec 32) (v4794 : BitVec 32) : Prop :=
  (∀ a, (k0_off562 v4710 v4794) a + S1x48x512.size a ≤ S64x64x512.size a)
theorem k0_off562_inb : ∀ (v4710 : BitVec 32) (v4794 : BitVec 32) (k0_hw383 : k0_chk383 v4710 v4794), ∀ a, (k0_off562 v4710 v4794) a + S1x48x512.size a ≤ S64x64x512.size a := fun v4710 v4794 k0_hw383 => k0_hw383

def k0_off563 (v4710 : BitVec 32) (v4796 : BitVec 32) : Fin 3 → Nat :=
  let v4804 : Index := Scalar.indexCast v4796
  let v4711 : BitVec 32 := v4710
  let v4805 : Index := Scalar.indexCast v4711
  let c0_2042 : Index := 0#32
  ![v4804.toNat, v4805.toNat, 0]

def k0_chk384 (v4710 : BitVec 32) (v4796 : BitVec 32) : Prop :=
  (∀ a, (k0_off563 v4710 v4796) a + S1x48x512.size a ≤ S64x64x512.size a)
theorem k0_off563_inb : ∀ (v4710 : BitVec 32) (v4796 : BitVec 32) (k0_hw384 : k0_chk384 v4710 v4796), ∀ a, (k0_off563 v4710 v4796) a + S1x48x512.size a ≤ S64x64x512.size a := fun v4710 v4796 k0_hw384 => k0_hw384

def k0_off564 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2049 : BitVec 32 := 25#32
  let v4816 : BitVec 32 := Scalar.addi v5 c25_i32_2049
  let c7_i32_2050 : BitVec 32 := 7#32
  let v4817 : BitVec 32 := Scalar.muli v4816 c7_i32_2050
  let c4_i32_2051 : BitVec 32 := 4#32
  let v4818 : BitVec 32 := Scalar.addi v4817 c4_i32_2051
  let v4819 : Index := Scalar.indexCast v4818
  ![v4819.toNat]
def k0_off565 (v4710 : BitVec 32) (v4820 : BitVec 32) : Fin 3 → Nat :=
  let v4826 : Index := Scalar.indexCast v4820
  let v4711 : BitVec 32 := v4710
  let v4827 : Index := Scalar.indexCast v4711
  let c0_2052 : Index := 0#32
  ![v4826.toNat, v4827.toNat, 0]

def k0_chk385 (v4710 : BitVec 32) (v4820 : BitVec 32) : Prop :=
  (∀ a, (k0_off565 v4710 v4820) a + S1x48x512.size a ≤ S64x64x512.size a)
theorem k0_off565_inb : ∀ (v4710 : BitVec 32) (v4820 : BitVec 32) (k0_hw385 : k0_chk385 v4710 v4820), ∀ a, (k0_off565 v4710 v4820) a + S1x48x512.size a ≤ S64x64x512.size a := fun v4710 v4820 k0_hw385 => k0_hw385

def k0_off566 (v4710 : BitVec 32) (v4822 : BitVec 32) : Fin 3 → Nat :=
  let v4830 : Index := Scalar.indexCast v4822
  let v4711 : BitVec 32 := v4710
  let v4831 : Index := Scalar.indexCast v4711
  let c0_2053 : Index := 0#32
  ![v4830.toNat, v4831.toNat, 0]

def k0_chk386 (v4710 : BitVec 32) (v4822 : BitVec 32) : Prop :=
  (∀ a, (k0_off566 v4710 v4822) a + S1x48x512.size a ≤ S64x64x512.size a)
theorem k0_off566_inb : ∀ (v4710 : BitVec 32) (v4822 : BitVec 32) (k0_hw386 : k0_chk386 v4710 v4822), ∀ a, (k0_off566 v4710 v4822) a + S1x48x512.size a ≤ S64x64x512.size a := fun v4710 v4822 k0_hw386 => k0_hw386

def k0_off567 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2060 : BitVec 32 := 25#32
  let v4842 : BitVec 32 := Scalar.addi v5 c25_i32_2060
  let c7_i32_2061 : BitVec 32 := 7#32
  let v4843 : BitVec 32 := Scalar.muli v4842 c7_i32_2061
  let c5_i32_2062 : BitVec 32 := 5#32
  let v4844 : BitVec 32 := Scalar.addi v4843 c5_i32_2062
  let v4845 : Index := Scalar.indexCast v4844
  ![v4845.toNat]
def k0_off568 (v4710 : BitVec 32) (v4846 : BitVec 32) : Fin 3 → Nat :=
  let v4852 : Index := Scalar.indexCast v4846
  let v4711 : BitVec 32 := v4710
  let v4853 : Index := Scalar.indexCast v4711
  let c0_2063 : Index := 0#32
  ![v4852.toNat, v4853.toNat, 0]

def k0_chk387 (v4710 : BitVec 32) (v4846 : BitVec 32) : Prop :=
  (∀ a, (k0_off568 v4710 v4846) a + S1x48x512.size a ≤ S64x64x512.size a)
theorem k0_off568_inb : ∀ (v4710 : BitVec 32) (v4846 : BitVec 32) (k0_hw387 : k0_chk387 v4710 v4846), ∀ a, (k0_off568 v4710 v4846) a + S1x48x512.size a ≤ S64x64x512.size a := fun v4710 v4846 k0_hw387 => k0_hw387

def k0_off569 (v4710 : BitVec 32) (v4848 : BitVec 32) : Fin 3 → Nat :=
  let v4856 : Index := Scalar.indexCast v4848
  let v4711 : BitVec 32 := v4710
  let v4857 : Index := Scalar.indexCast v4711
  let c0_2064 : Index := 0#32
  ![v4856.toNat, v4857.toNat, 0]

def k0_chk388 (v4710 : BitVec 32) (v4848 : BitVec 32) : Prop :=
  (∀ a, (k0_off569 v4710 v4848) a + S1x48x512.size a ≤ S64x64x512.size a)
theorem k0_off569_inb : ∀ (v4710 : BitVec 32) (v4848 : BitVec 32) (k0_hw388 : k0_chk388 v4710 v4848), ∀ a, (k0_off569 v4710 v4848) a + S1x48x512.size a ≤ S64x64x512.size a := fun v4710 v4848 k0_hw388 => k0_hw388

def k0_off570 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c25_i32_2071 : BitVec 32 := 25#32
  let v4868 : BitVec 32 := Scalar.addi v5 c25_i32_2071
  let c7_i32_2072 : BitVec 32 := 7#32
  let v4869 : BitVec 32 := Scalar.muli v4868 c7_i32_2072
  let c6_i32_2073 : BitVec 32 := 6#32
  let v4870 : BitVec 32 := Scalar.addi v4869 c6_i32_2073
  let v4871 : Index := Scalar.indexCast v4870
  ![v4871.toNat]
def k0_off571 (v4710 : BitVec 32) (v4872 : BitVec 32) : Fin 3 → Nat :=
  let v4878 : Index := Scalar.indexCast v4872
  let v4711 : BitVec 32 := v4710
  let v4879 : Index := Scalar.indexCast v4711
  let c0_2074 : Index := 0#32
  ![v4878.toNat, v4879.toNat, 0]

def k0_chk389 (v4710 : BitVec 32) (v4872 : BitVec 32) : Prop :=
  (∀ a, (k0_off571 v4710 v4872) a + S1x48x512.size a ≤ S64x64x512.size a)
theorem k0_off571_inb : ∀ (v4710 : BitVec 32) (v4872 : BitVec 32) (k0_hw389 : k0_chk389 v4710 v4872), ∀ a, (k0_off571 v4710 v4872) a + S1x48x512.size a ≤ S64x64x512.size a := fun v4710 v4872 k0_hw389 => k0_hw389

def k0_off572 (v4710 : BitVec 32) (v4874 : BitVec 32) : Fin 3 → Nat :=
  let v4882 : Index := Scalar.indexCast v4874
  let v4711 : BitVec 32 := v4710
  let v4883 : Index := Scalar.indexCast v4711
  let c0_2075 : Index := 0#32
  ![v4882.toNat, v4883.toNat, 0]

def k0_chk390 (v4710 : BitVec 32) (v4874 : BitVec 32) : Prop :=
  (∀ a, (k0_off572 v4710 v4874) a + S1x48x512.size a ≤ S64x64x512.size a)
theorem k0_off572_inb : ∀ (v4710 : BitVec 32) (v4874 : BitVec 32) (k0_hw390 : k0_chk390 v4710 v4874), ∀ a, (k0_off572 v4710 v4874) a + S1x48x512.size a ≤ S64x64x512.size a := fun v4710 v4874 k0_hw390 => k0_hw390

def k0_off573 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32 : BitVec 32 := 26#32
  let v4896 : BitVec 32 := Scalar.addi v5 c26_i32
  let v4897 : Index := Scalar.indexCast v4896
  ![v4897.toNat]
def k0_mult27 (v4898 : BitVec 32) : BitVec 32 :=
  v4898

def k0_chk391 (v4898 : BitVec 32) : Prop :=
  (16 ∣ (k0_mult27 v4898).toNat)
theorem k0_mult27_dvd : ∀ (v4898 : BitVec 32) (k0_hw391 : k0_chk391 v4898), 16 ∣ (k0_mult27 v4898).toNat := fun v4898 k0_hw391 => k0_hw391

def k0_off574 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2085 : BitVec 32 := 26#32
  let v4900 : BitVec 32 := Scalar.addi v5 c26_i32_2085
  let c7_i32_2086 : BitVec 32 := 7#32
  let v4901 : BitVec 32 := Scalar.muli v4900 c7_i32_2086
  let c0_i32_2087 : BitVec 32 := 0#32
  let v4902 : BitVec 32 := Scalar.addi v4901 c0_i32_2087
  let v4903 : Index := Scalar.indexCast v4902
  ![v4903.toNat]
def k0_off575 (v4898 : BitVec 32) (v4904 : BitVec 32) : Fin 3 → Nat :=
  let v4910 : Index := Scalar.indexCast v4904
  let v4899 : BitVec 32 := v4898
  let v4911 : Index := Scalar.indexCast v4899
  let c0_2088 : Index := 0#32
  ![v4910.toNat, v4911.toNat, 0]

def k0_chk392 (v4898 : BitVec 32) (v4904 : BitVec 32) : Prop :=
  (∀ a, (k0_off575 v4898 v4904) a + S1x48x512.size a ≤ S64x64x512.size a)
theorem k0_off575_inb : ∀ (v4898 : BitVec 32) (v4904 : BitVec 32) (k0_hw392 : k0_chk392 v4898 v4904), ∀ a, (k0_off575 v4898 v4904) a + S1x48x512.size a ≤ S64x64x512.size a := fun v4898 v4904 k0_hw392 => k0_hw392

def k0_off576 (v4898 : BitVec 32) (v4906 : BitVec 32) : Fin 3 → Nat :=
  let v4914 : Index := Scalar.indexCast v4906
  let v4899 : BitVec 32 := v4898
  let v4915 : Index := Scalar.indexCast v4899
  let c0_2089 : Index := 0#32
  ![v4914.toNat, v4915.toNat, 0]

def k0_chk393 (v4898 : BitVec 32) (v4906 : BitVec 32) : Prop :=
  (∀ a, (k0_off576 v4898 v4906) a + S1x48x512.size a ≤ S64x64x512.size a)
theorem k0_off576_inb : ∀ (v4898 : BitVec 32) (v4906 : BitVec 32) (k0_hw393 : k0_chk393 v4898 v4906), ∀ a, (k0_off576 v4898 v4906) a + S1x48x512.size a ≤ S64x64x512.size a := fun v4898 v4906 k0_hw393 => k0_hw393

def k0_off577 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2096 : BitVec 32 := 26#32
  let v4926 : BitVec 32 := Scalar.addi v5 c26_i32_2096
  let c7_i32_2097 : BitVec 32 := 7#32
  let v4927 : BitVec 32 := Scalar.muli v4926 c7_i32_2097
  let c1_i32_2098 : BitVec 32 := 1#32
  let v4928 : BitVec 32 := Scalar.addi v4927 c1_i32_2098
  let v4929 : Index := Scalar.indexCast v4928
  ![v4929.toNat]
def k0_off578 (v4898 : BitVec 32) (v4930 : BitVec 32) : Fin 3 → Nat :=
  let v4936 : Index := Scalar.indexCast v4930
  let v4899 : BitVec 32 := v4898
  let v4937 : Index := Scalar.indexCast v4899
  let c0_2099 : Index := 0#32
  ![v4936.toNat, v4937.toNat, 0]

def k0_chk394 (v4898 : BitVec 32) (v4930 : BitVec 32) : Prop :=
  (∀ a, (k0_off578 v4898 v4930) a + S1x48x512.size a ≤ S64x64x512.size a)
theorem k0_off578_inb : ∀ (v4898 : BitVec 32) (v4930 : BitVec 32) (k0_hw394 : k0_chk394 v4898 v4930), ∀ a, (k0_off578 v4898 v4930) a + S1x48x512.size a ≤ S64x64x512.size a := fun v4898 v4930 k0_hw394 => k0_hw394

def k0_off579 (v4898 : BitVec 32) (v4932 : BitVec 32) : Fin 3 → Nat :=
  let v4940 : Index := Scalar.indexCast v4932
  let v4899 : BitVec 32 := v4898
  let v4941 : Index := Scalar.indexCast v4899
  let c0_2100 : Index := 0#32
  ![v4940.toNat, v4941.toNat, 0]

def k0_chk395 (v4898 : BitVec 32) (v4932 : BitVec 32) : Prop :=
  (∀ a, (k0_off579 v4898 v4932) a + S1x48x512.size a ≤ S64x64x512.size a)
theorem k0_off579_inb : ∀ (v4898 : BitVec 32) (v4932 : BitVec 32) (k0_hw395 : k0_chk395 v4898 v4932), ∀ a, (k0_off579 v4898 v4932) a + S1x48x512.size a ≤ S64x64x512.size a := fun v4898 v4932 k0_hw395 => k0_hw395

def k0_off580 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2107 : BitVec 32 := 26#32
  let v4952 : BitVec 32 := Scalar.addi v5 c26_i32_2107
  let c7_i32_2108 : BitVec 32 := 7#32
  let v4953 : BitVec 32 := Scalar.muli v4952 c7_i32_2108
  let c2_i32_2109 : BitVec 32 := 2#32
  let v4954 : BitVec 32 := Scalar.addi v4953 c2_i32_2109
  let v4955 : Index := Scalar.indexCast v4954
  ![v4955.toNat]
def k0_off581 (v4898 : BitVec 32) (v4956 : BitVec 32) : Fin 3 → Nat :=
  let v4962 : Index := Scalar.indexCast v4956
  let v4899 : BitVec 32 := v4898
  let v4963 : Index := Scalar.indexCast v4899
  let c0_2110 : Index := 0#32
  ![v4962.toNat, v4963.toNat, 0]

def k0_chk396 (v4898 : BitVec 32) (v4956 : BitVec 32) : Prop :=
  (∀ a, (k0_off581 v4898 v4956) a + S1x48x512.size a ≤ S64x64x512.size a)
theorem k0_off581_inb : ∀ (v4898 : BitVec 32) (v4956 : BitVec 32) (k0_hw396 : k0_chk396 v4898 v4956), ∀ a, (k0_off581 v4898 v4956) a + S1x48x512.size a ≤ S64x64x512.size a := fun v4898 v4956 k0_hw396 => k0_hw396

def k0_off582 (v4898 : BitVec 32) (v4958 : BitVec 32) : Fin 3 → Nat :=
  let v4966 : Index := Scalar.indexCast v4958
  let v4899 : BitVec 32 := v4898
  let v4967 : Index := Scalar.indexCast v4899
  let c0_2111 : Index := 0#32
  ![v4966.toNat, v4967.toNat, 0]

def k0_chk397 (v4898 : BitVec 32) (v4958 : BitVec 32) : Prop :=
  (∀ a, (k0_off582 v4898 v4958) a + S1x48x512.size a ≤ S64x64x512.size a)
theorem k0_off582_inb : ∀ (v4898 : BitVec 32) (v4958 : BitVec 32) (k0_hw397 : k0_chk397 v4898 v4958), ∀ a, (k0_off582 v4898 v4958) a + S1x48x512.size a ≤ S64x64x512.size a := fun v4898 v4958 k0_hw397 => k0_hw397

def k0_off583 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2118 : BitVec 32 := 26#32
  let v4978 : BitVec 32 := Scalar.addi v5 c26_i32_2118
  let c7_i32_2119 : BitVec 32 := 7#32
  let v4979 : BitVec 32 := Scalar.muli v4978 c7_i32_2119
  let c3_i32_2120 : BitVec 32 := 3#32
  let v4980 : BitVec 32 := Scalar.addi v4979 c3_i32_2120
  let v4981 : Index := Scalar.indexCast v4980
  ![v4981.toNat]
def k0_off584 (v4898 : BitVec 32) (v4982 : BitVec 32) : Fin 3 → Nat :=
  let v4988 : Index := Scalar.indexCast v4982
  let v4899 : BitVec 32 := v4898
  let v4989 : Index := Scalar.indexCast v4899
  let c0_2121 : Index := 0#32
  ![v4988.toNat, v4989.toNat, 0]

def k0_chk398 (v4898 : BitVec 32) (v4982 : BitVec 32) : Prop :=
  (∀ a, (k0_off584 v4898 v4982) a + S1x48x512.size a ≤ S64x64x512.size a)
theorem k0_off584_inb : ∀ (v4898 : BitVec 32) (v4982 : BitVec 32) (k0_hw398 : k0_chk398 v4898 v4982), ∀ a, (k0_off584 v4898 v4982) a + S1x48x512.size a ≤ S64x64x512.size a := fun v4898 v4982 k0_hw398 => k0_hw398

def k0_off585 (v4898 : BitVec 32) (v4984 : BitVec 32) : Fin 3 → Nat :=
  let v4992 : Index := Scalar.indexCast v4984
  let v4899 : BitVec 32 := v4898
  let v4993 : Index := Scalar.indexCast v4899
  let c0_2122 : Index := 0#32
  ![v4992.toNat, v4993.toNat, 0]

def k0_chk399 (v4898 : BitVec 32) (v4984 : BitVec 32) : Prop :=
  (∀ a, (k0_off585 v4898 v4984) a + S1x48x512.size a ≤ S64x64x512.size a)
theorem k0_off585_inb : ∀ (v4898 : BitVec 32) (v4984 : BitVec 32) (k0_hw399 : k0_chk399 v4898 v4984), ∀ a, (k0_off585 v4898 v4984) a + S1x48x512.size a ≤ S64x64x512.size a := fun v4898 v4984 k0_hw399 => k0_hw399

def k0_off586 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2129 : BitVec 32 := 26#32
  let v5004 : BitVec 32 := Scalar.addi v5 c26_i32_2129
  let c7_i32_2130 : BitVec 32 := 7#32
  let v5005 : BitVec 32 := Scalar.muli v5004 c7_i32_2130
  let c4_i32_2131 : BitVec 32 := 4#32
  let v5006 : BitVec 32 := Scalar.addi v5005 c4_i32_2131
  let v5007 : Index := Scalar.indexCast v5006
  ![v5007.toNat]
def k0_off587 (v4898 : BitVec 32) (v5008 : BitVec 32) : Fin 3 → Nat :=
  let v5014 : Index := Scalar.indexCast v5008
  let v4899 : BitVec 32 := v4898
  let v5015 : Index := Scalar.indexCast v4899
  let c0_2132 : Index := 0#32
  ![v5014.toNat, v5015.toNat, 0]

def k0_chk400 (v4898 : BitVec 32) (v5008 : BitVec 32) : Prop :=
  (∀ a, (k0_off587 v4898 v5008) a + S1x48x512.size a ≤ S64x64x512.size a)
theorem k0_off587_inb : ∀ (v4898 : BitVec 32) (v5008 : BitVec 32) (k0_hw400 : k0_chk400 v4898 v5008), ∀ a, (k0_off587 v4898 v5008) a + S1x48x512.size a ≤ S64x64x512.size a := fun v4898 v5008 k0_hw400 => k0_hw400

def k0_off588 (v4898 : BitVec 32) (v5010 : BitVec 32) : Fin 3 → Nat :=
  let v5018 : Index := Scalar.indexCast v5010
  let v4899 : BitVec 32 := v4898
  let v5019 : Index := Scalar.indexCast v4899
  let c0_2133 : Index := 0#32
  ![v5018.toNat, v5019.toNat, 0]

def k0_chk401 (v4898 : BitVec 32) (v5010 : BitVec 32) : Prop :=
  (∀ a, (k0_off588 v4898 v5010) a + S1x48x512.size a ≤ S64x64x512.size a)
theorem k0_off588_inb : ∀ (v4898 : BitVec 32) (v5010 : BitVec 32) (k0_hw401 : k0_chk401 v4898 v5010), ∀ a, (k0_off588 v4898 v5010) a + S1x48x512.size a ≤ S64x64x512.size a := fun v4898 v5010 k0_hw401 => k0_hw401

def k0_off589 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2140 : BitVec 32 := 26#32
  let v5030 : BitVec 32 := Scalar.addi v5 c26_i32_2140
  let c7_i32_2141 : BitVec 32 := 7#32
  let v5031 : BitVec 32 := Scalar.muli v5030 c7_i32_2141
  let c5_i32_2142 : BitVec 32 := 5#32
  let v5032 : BitVec 32 := Scalar.addi v5031 c5_i32_2142
  let v5033 : Index := Scalar.indexCast v5032
  ![v5033.toNat]
def k0_off590 (v4898 : BitVec 32) (v5034 : BitVec 32) : Fin 3 → Nat :=
  let v5040 : Index := Scalar.indexCast v5034
  let v4899 : BitVec 32 := v4898
  let v5041 : Index := Scalar.indexCast v4899
  let c0_2143 : Index := 0#32
  ![v5040.toNat, v5041.toNat, 0]

def k0_chk402 (v4898 : BitVec 32) (v5034 : BitVec 32) : Prop :=
  (∀ a, (k0_off590 v4898 v5034) a + S1x48x512.size a ≤ S64x64x512.size a)
theorem k0_off590_inb : ∀ (v4898 : BitVec 32) (v5034 : BitVec 32) (k0_hw402 : k0_chk402 v4898 v5034), ∀ a, (k0_off590 v4898 v5034) a + S1x48x512.size a ≤ S64x64x512.size a := fun v4898 v5034 k0_hw402 => k0_hw402

def k0_off591 (v4898 : BitVec 32) (v5036 : BitVec 32) : Fin 3 → Nat :=
  let v5044 : Index := Scalar.indexCast v5036
  let v4899 : BitVec 32 := v4898
  let v5045 : Index := Scalar.indexCast v4899
  let c0_2144 : Index := 0#32
  ![v5044.toNat, v5045.toNat, 0]

def k0_chk403 (v4898 : BitVec 32) (v5036 : BitVec 32) : Prop :=
  (∀ a, (k0_off591 v4898 v5036) a + S1x48x512.size a ≤ S64x64x512.size a)
theorem k0_off591_inb : ∀ (v4898 : BitVec 32) (v5036 : BitVec 32) (k0_hw403 : k0_chk403 v4898 v5036), ∀ a, (k0_off591 v4898 v5036) a + S1x48x512.size a ≤ S64x64x512.size a := fun v4898 v5036 k0_hw403 => k0_hw403

def k0_off592 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c26_i32_2151 : BitVec 32 := 26#32
  let v5056 : BitVec 32 := Scalar.addi v5 c26_i32_2151
  let c7_i32_2152 : BitVec 32 := 7#32
  let v5057 : BitVec 32 := Scalar.muli v5056 c7_i32_2152
  let c6_i32_2153 : BitVec 32 := 6#32
  let v5058 : BitVec 32 := Scalar.addi v5057 c6_i32_2153
  let v5059 : Index := Scalar.indexCast v5058
  ![v5059.toNat]
def k0_off593 (v4898 : BitVec 32) (v5060 : BitVec 32) : Fin 3 → Nat :=
  let v5066 : Index := Scalar.indexCast v5060
  let v4899 : BitVec 32 := v4898
  let v5067 : Index := Scalar.indexCast v4899
  let c0_2154 : Index := 0#32
  ![v5066.toNat, v5067.toNat, 0]

def k0_chk404 (v4898 : BitVec 32) (v5060 : BitVec 32) : Prop :=
  (∀ a, (k0_off593 v4898 v5060) a + S1x48x512.size a ≤ S64x64x512.size a)
theorem k0_off593_inb : ∀ (v4898 : BitVec 32) (v5060 : BitVec 32) (k0_hw404 : k0_chk404 v4898 v5060), ∀ a, (k0_off593 v4898 v5060) a + S1x48x512.size a ≤ S64x64x512.size a := fun v4898 v5060 k0_hw404 => k0_hw404

def k0_off594 (v4898 : BitVec 32) (v5062 : BitVec 32) : Fin 3 → Nat :=
  let v5070 : Index := Scalar.indexCast v5062
  let v4899 : BitVec 32 := v4898
  let v5071 : Index := Scalar.indexCast v4899
  let c0_2155 : Index := 0#32
  ![v5070.toNat, v5071.toNat, 0]

def k0_chk405 (v4898 : BitVec 32) (v5062 : BitVec 32) : Prop :=
  (∀ a, (k0_off594 v4898 v5062) a + S1x48x512.size a ≤ S64x64x512.size a)
theorem k0_off594_inb : ∀ (v4898 : BitVec 32) (v5062 : BitVec 32) (k0_hw405 : k0_chk405 v4898 v5062), ∀ a, (k0_off594 v4898 v5062) a + S1x48x512.size a ≤ S64x64x512.size a := fun v4898 v5062 k0_hw405 => k0_hw405

def k0_off595 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32 : BitVec 32 := 27#32
  let v5084 : BitVec 32 := Scalar.addi v5 c27_i32
  let v5085 : Index := Scalar.indexCast v5084
  ![v5085.toNat]
def k0_mult28 (v5086 : BitVec 32) : BitVec 32 :=
  v5086

def k0_chk406 (v5086 : BitVec 32) : Prop :=
  (16 ∣ (k0_mult28 v5086).toNat)
theorem k0_mult28_dvd : ∀ (v5086 : BitVec 32) (k0_hw406 : k0_chk406 v5086), 16 ∣ (k0_mult28 v5086).toNat := fun v5086 k0_hw406 => k0_hw406

def k0_off596 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2165 : BitVec 32 := 27#32
  let v5088 : BitVec 32 := Scalar.addi v5 c27_i32_2165
  let c7_i32_2166 : BitVec 32 := 7#32
  let v5089 : BitVec 32 := Scalar.muli v5088 c7_i32_2166
  let c0_i32_2167 : BitVec 32 := 0#32
  let v5090 : BitVec 32 := Scalar.addi v5089 c0_i32_2167
  let v5091 : Index := Scalar.indexCast v5090
  ![v5091.toNat]
def k0_off597 (v5086 : BitVec 32) (v5092 : BitVec 32) : Fin 3 → Nat :=
  let v5098 : Index := Scalar.indexCast v5092
  let v5087 : BitVec 32 := v5086
  let v5099 : Index := Scalar.indexCast v5087
  let c0_2168 : Index := 0#32
  ![v5098.toNat, v5099.toNat, 0]

def k0_chk407 (v5086 : BitVec 32) (v5092 : BitVec 32) : Prop :=
  (∀ a, (k0_off597 v5086 v5092) a + S1x48x512.size a ≤ S64x64x512.size a)
theorem k0_off597_inb : ∀ (v5086 : BitVec 32) (v5092 : BitVec 32) (k0_hw407 : k0_chk407 v5086 v5092), ∀ a, (k0_off597 v5086 v5092) a + S1x48x512.size a ≤ S64x64x512.size a := fun v5086 v5092 k0_hw407 => k0_hw407

def k0_off598 (v5086 : BitVec 32) (v5094 : BitVec 32) : Fin 3 → Nat :=
  let v5102 : Index := Scalar.indexCast v5094
  let v5087 : BitVec 32 := v5086
  let v5103 : Index := Scalar.indexCast v5087
  let c0_2169 : Index := 0#32
  ![v5102.toNat, v5103.toNat, 0]

def k0_chk408 (v5086 : BitVec 32) (v5094 : BitVec 32) : Prop :=
  (∀ a, (k0_off598 v5086 v5094) a + S1x48x512.size a ≤ S64x64x512.size a)
theorem k0_off598_inb : ∀ (v5086 : BitVec 32) (v5094 : BitVec 32) (k0_hw408 : k0_chk408 v5086 v5094), ∀ a, (k0_off598 v5086 v5094) a + S1x48x512.size a ≤ S64x64x512.size a := fun v5086 v5094 k0_hw408 => k0_hw408

def k0_off599 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2176 : BitVec 32 := 27#32
  let v5114 : BitVec 32 := Scalar.addi v5 c27_i32_2176
  let c7_i32_2177 : BitVec 32 := 7#32
  let v5115 : BitVec 32 := Scalar.muli v5114 c7_i32_2177
  let c1_i32_2178 : BitVec 32 := 1#32
  let v5116 : BitVec 32 := Scalar.addi v5115 c1_i32_2178
  let v5117 : Index := Scalar.indexCast v5116
  ![v5117.toNat]
def k0_off600 (v5086 : BitVec 32) (v5118 : BitVec 32) : Fin 3 → Nat :=
  let v5124 : Index := Scalar.indexCast v5118
  let v5087 : BitVec 32 := v5086
  let v5125 : Index := Scalar.indexCast v5087
  let c0_2179 : Index := 0#32
  ![v5124.toNat, v5125.toNat, 0]

def k0_chk409 (v5086 : BitVec 32) (v5118 : BitVec 32) : Prop :=
  (∀ a, (k0_off600 v5086 v5118) a + S1x48x512.size a ≤ S64x64x512.size a)
theorem k0_off600_inb : ∀ (v5086 : BitVec 32) (v5118 : BitVec 32) (k0_hw409 : k0_chk409 v5086 v5118), ∀ a, (k0_off600 v5086 v5118) a + S1x48x512.size a ≤ S64x64x512.size a := fun v5086 v5118 k0_hw409 => k0_hw409

def k0_off601 (v5086 : BitVec 32) (v5120 : BitVec 32) : Fin 3 → Nat :=
  let v5128 : Index := Scalar.indexCast v5120
  let v5087 : BitVec 32 := v5086
  let v5129 : Index := Scalar.indexCast v5087
  let c0_2180 : Index := 0#32
  ![v5128.toNat, v5129.toNat, 0]

def k0_chk410 (v5086 : BitVec 32) (v5120 : BitVec 32) : Prop :=
  (∀ a, (k0_off601 v5086 v5120) a + S1x48x512.size a ≤ S64x64x512.size a)
theorem k0_off601_inb : ∀ (v5086 : BitVec 32) (v5120 : BitVec 32) (k0_hw410 : k0_chk410 v5086 v5120), ∀ a, (k0_off601 v5086 v5120) a + S1x48x512.size a ≤ S64x64x512.size a := fun v5086 v5120 k0_hw410 => k0_hw410

def k0_off602 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2187 : BitVec 32 := 27#32
  let v5140 : BitVec 32 := Scalar.addi v5 c27_i32_2187
  let c7_i32_2188 : BitVec 32 := 7#32
  let v5141 : BitVec 32 := Scalar.muli v5140 c7_i32_2188
  let c2_i32_2189 : BitVec 32 := 2#32
  let v5142 : BitVec 32 := Scalar.addi v5141 c2_i32_2189
  let v5143 : Index := Scalar.indexCast v5142
  ![v5143.toNat]
def k0_off603 (v5086 : BitVec 32) (v5144 : BitVec 32) : Fin 3 → Nat :=
  let v5150 : Index := Scalar.indexCast v5144
  let v5087 : BitVec 32 := v5086
  let v5151 : Index := Scalar.indexCast v5087
  let c0_2190 : Index := 0#32
  ![v5150.toNat, v5151.toNat, 0]

def k0_chk411 (v5086 : BitVec 32) (v5144 : BitVec 32) : Prop :=
  (∀ a, (k0_off603 v5086 v5144) a + S1x48x512.size a ≤ S64x64x512.size a)
theorem k0_off603_inb : ∀ (v5086 : BitVec 32) (v5144 : BitVec 32) (k0_hw411 : k0_chk411 v5086 v5144), ∀ a, (k0_off603 v5086 v5144) a + S1x48x512.size a ≤ S64x64x512.size a := fun v5086 v5144 k0_hw411 => k0_hw411

def k0_off604 (v5086 : BitVec 32) (v5146 : BitVec 32) : Fin 3 → Nat :=
  let v5154 : Index := Scalar.indexCast v5146
  let v5087 : BitVec 32 := v5086
  let v5155 : Index := Scalar.indexCast v5087
  let c0_2191 : Index := 0#32
  ![v5154.toNat, v5155.toNat, 0]

def k0_chk412 (v5086 : BitVec 32) (v5146 : BitVec 32) : Prop :=
  (∀ a, (k0_off604 v5086 v5146) a + S1x48x512.size a ≤ S64x64x512.size a)
theorem k0_off604_inb : ∀ (v5086 : BitVec 32) (v5146 : BitVec 32) (k0_hw412 : k0_chk412 v5086 v5146), ∀ a, (k0_off604 v5086 v5146) a + S1x48x512.size a ≤ S64x64x512.size a := fun v5086 v5146 k0_hw412 => k0_hw412

def k0_off605 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2198 : BitVec 32 := 27#32
  let v5166 : BitVec 32 := Scalar.addi v5 c27_i32_2198
  let c7_i32_2199 : BitVec 32 := 7#32
  let v5167 : BitVec 32 := Scalar.muli v5166 c7_i32_2199
  let c3_i32_2200 : BitVec 32 := 3#32
  let v5168 : BitVec 32 := Scalar.addi v5167 c3_i32_2200
  let v5169 : Index := Scalar.indexCast v5168
  ![v5169.toNat]
def k0_off606 (v5086 : BitVec 32) (v5170 : BitVec 32) : Fin 3 → Nat :=
  let v5176 : Index := Scalar.indexCast v5170
  let v5087 : BitVec 32 := v5086
  let v5177 : Index := Scalar.indexCast v5087
  let c0_2201 : Index := 0#32
  ![v5176.toNat, v5177.toNat, 0]

def k0_chk413 (v5086 : BitVec 32) (v5170 : BitVec 32) : Prop :=
  (∀ a, (k0_off606 v5086 v5170) a + S1x48x512.size a ≤ S64x64x512.size a)
theorem k0_off606_inb : ∀ (v5086 : BitVec 32) (v5170 : BitVec 32) (k0_hw413 : k0_chk413 v5086 v5170), ∀ a, (k0_off606 v5086 v5170) a + S1x48x512.size a ≤ S64x64x512.size a := fun v5086 v5170 k0_hw413 => k0_hw413

def k0_off607 (v5086 : BitVec 32) (v5172 : BitVec 32) : Fin 3 → Nat :=
  let v5180 : Index := Scalar.indexCast v5172
  let v5087 : BitVec 32 := v5086
  let v5181 : Index := Scalar.indexCast v5087
  let c0_2202 : Index := 0#32
  ![v5180.toNat, v5181.toNat, 0]

def k0_chk414 (v5086 : BitVec 32) (v5172 : BitVec 32) : Prop :=
  (∀ a, (k0_off607 v5086 v5172) a + S1x48x512.size a ≤ S64x64x512.size a)
theorem k0_off607_inb : ∀ (v5086 : BitVec 32) (v5172 : BitVec 32) (k0_hw414 : k0_chk414 v5086 v5172), ∀ a, (k0_off607 v5086 v5172) a + S1x48x512.size a ≤ S64x64x512.size a := fun v5086 v5172 k0_hw414 => k0_hw414

def k0_off608 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2209 : BitVec 32 := 27#32
  let v5192 : BitVec 32 := Scalar.addi v5 c27_i32_2209
  let c7_i32_2210 : BitVec 32 := 7#32
  let v5193 : BitVec 32 := Scalar.muli v5192 c7_i32_2210
  let c4_i32_2211 : BitVec 32 := 4#32
  let v5194 : BitVec 32 := Scalar.addi v5193 c4_i32_2211
  let v5195 : Index := Scalar.indexCast v5194
  ![v5195.toNat]
def k0_off609 (v5086 : BitVec 32) (v5196 : BitVec 32) : Fin 3 → Nat :=
  let v5202 : Index := Scalar.indexCast v5196
  let v5087 : BitVec 32 := v5086
  let v5203 : Index := Scalar.indexCast v5087
  let c0_2212 : Index := 0#32
  ![v5202.toNat, v5203.toNat, 0]

def k0_chk415 (v5086 : BitVec 32) (v5196 : BitVec 32) : Prop :=
  (∀ a, (k0_off609 v5086 v5196) a + S1x48x512.size a ≤ S64x64x512.size a)
theorem k0_off609_inb : ∀ (v5086 : BitVec 32) (v5196 : BitVec 32) (k0_hw415 : k0_chk415 v5086 v5196), ∀ a, (k0_off609 v5086 v5196) a + S1x48x512.size a ≤ S64x64x512.size a := fun v5086 v5196 k0_hw415 => k0_hw415

def k0_off610 (v5086 : BitVec 32) (v5198 : BitVec 32) : Fin 3 → Nat :=
  let v5206 : Index := Scalar.indexCast v5198
  let v5087 : BitVec 32 := v5086
  let v5207 : Index := Scalar.indexCast v5087
  let c0_2213 : Index := 0#32
  ![v5206.toNat, v5207.toNat, 0]

def k0_chk416 (v5086 : BitVec 32) (v5198 : BitVec 32) : Prop :=
  (∀ a, (k0_off610 v5086 v5198) a + S1x48x512.size a ≤ S64x64x512.size a)
theorem k0_off610_inb : ∀ (v5086 : BitVec 32) (v5198 : BitVec 32) (k0_hw416 : k0_chk416 v5086 v5198), ∀ a, (k0_off610 v5086 v5198) a + S1x48x512.size a ≤ S64x64x512.size a := fun v5086 v5198 k0_hw416 => k0_hw416

def k0_off611 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2220 : BitVec 32 := 27#32
  let v5218 : BitVec 32 := Scalar.addi v5 c27_i32_2220
  let c7_i32_2221 : BitVec 32 := 7#32
  let v5219 : BitVec 32 := Scalar.muli v5218 c7_i32_2221
  let c5_i32_2222 : BitVec 32 := 5#32
  let v5220 : BitVec 32 := Scalar.addi v5219 c5_i32_2222
  let v5221 : Index := Scalar.indexCast v5220
  ![v5221.toNat]
def k0_off612 (v5086 : BitVec 32) (v5222 : BitVec 32) : Fin 3 → Nat :=
  let v5228 : Index := Scalar.indexCast v5222
  let v5087 : BitVec 32 := v5086
  let v5229 : Index := Scalar.indexCast v5087
  let c0_2223 : Index := 0#32
  ![v5228.toNat, v5229.toNat, 0]

def k0_chk417 (v5086 : BitVec 32) (v5222 : BitVec 32) : Prop :=
  (∀ a, (k0_off612 v5086 v5222) a + S1x48x512.size a ≤ S64x64x512.size a)
theorem k0_off612_inb : ∀ (v5086 : BitVec 32) (v5222 : BitVec 32) (k0_hw417 : k0_chk417 v5086 v5222), ∀ a, (k0_off612 v5086 v5222) a + S1x48x512.size a ≤ S64x64x512.size a := fun v5086 v5222 k0_hw417 => k0_hw417

def k0_off613 (v5086 : BitVec 32) (v5224 : BitVec 32) : Fin 3 → Nat :=
  let v5232 : Index := Scalar.indexCast v5224
  let v5087 : BitVec 32 := v5086
  let v5233 : Index := Scalar.indexCast v5087
  let c0_2224 : Index := 0#32
  ![v5232.toNat, v5233.toNat, 0]

def k0_chk418 (v5086 : BitVec 32) (v5224 : BitVec 32) : Prop :=
  (∀ a, (k0_off613 v5086 v5224) a + S1x48x512.size a ≤ S64x64x512.size a)
theorem k0_off613_inb : ∀ (v5086 : BitVec 32) (v5224 : BitVec 32) (k0_hw418 : k0_chk418 v5086 v5224), ∀ a, (k0_off613 v5086 v5224) a + S1x48x512.size a ≤ S64x64x512.size a := fun v5086 v5224 k0_hw418 => k0_hw418

def k0_off614 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c27_i32_2231 : BitVec 32 := 27#32
  let v5244 : BitVec 32 := Scalar.addi v5 c27_i32_2231
  let c7_i32_2232 : BitVec 32 := 7#32
  let v5245 : BitVec 32 := Scalar.muli v5244 c7_i32_2232
  let c6_i32_2233 : BitVec 32 := 6#32
  let v5246 : BitVec 32 := Scalar.addi v5245 c6_i32_2233
  let v5247 : Index := Scalar.indexCast v5246
  ![v5247.toNat]
def k0_off615 (v5086 : BitVec 32) (v5248 : BitVec 32) : Fin 3 → Nat :=
  let v5254 : Index := Scalar.indexCast v5248
  let v5087 : BitVec 32 := v5086
  let v5255 : Index := Scalar.indexCast v5087
  let c0_2234 : Index := 0#32
  ![v5254.toNat, v5255.toNat, 0]

def k0_chk419 (v5086 : BitVec 32) (v5248 : BitVec 32) : Prop :=
  (∀ a, (k0_off615 v5086 v5248) a + S1x48x512.size a ≤ S64x64x512.size a)
theorem k0_off615_inb : ∀ (v5086 : BitVec 32) (v5248 : BitVec 32) (k0_hw419 : k0_chk419 v5086 v5248), ∀ a, (k0_off615 v5086 v5248) a + S1x48x512.size a ≤ S64x64x512.size a := fun v5086 v5248 k0_hw419 => k0_hw419

def k0_off616 (v5086 : BitVec 32) (v5250 : BitVec 32) : Fin 3 → Nat :=
  let v5258 : Index := Scalar.indexCast v5250
  let v5087 : BitVec 32 := v5086
  let v5259 : Index := Scalar.indexCast v5087
  let c0_2235 : Index := 0#32
  ![v5258.toNat, v5259.toNat, 0]

def k0_chk420 (v5086 : BitVec 32) (v5250 : BitVec 32) : Prop :=
  (∀ a, (k0_off616 v5086 v5250) a + S1x48x512.size a ≤ S64x64x512.size a)
theorem k0_off616_inb : ∀ (v5086 : BitVec 32) (v5250 : BitVec 32) (k0_hw420 : k0_chk420 v5086 v5250), ∀ a, (k0_off616 v5086 v5250) a + S1x48x512.size a ≤ S64x64x512.size a := fun v5086 v5250 k0_hw420 => k0_hw420

def k0_off617 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32 : BitVec 32 := 28#32
  let v5272 : BitVec 32 := Scalar.addi v5 c28_i32
  let v5273 : Index := Scalar.indexCast v5272
  ![v5273.toNat]
def k0_mult29 (v5274 : BitVec 32) : BitVec 32 :=
  v5274

def k0_chk421 (v5274 : BitVec 32) : Prop :=
  (16 ∣ (k0_mult29 v5274).toNat)
theorem k0_mult29_dvd : ∀ (v5274 : BitVec 32) (k0_hw421 : k0_chk421 v5274), 16 ∣ (k0_mult29 v5274).toNat := fun v5274 k0_hw421 => k0_hw421

def k0_off618 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2245 : BitVec 32 := 28#32
  let v5276 : BitVec 32 := Scalar.addi v5 c28_i32_2245
  let c7_i32_2246 : BitVec 32 := 7#32
  let v5277 : BitVec 32 := Scalar.muli v5276 c7_i32_2246
  let c0_i32_2247 : BitVec 32 := 0#32
  let v5278 : BitVec 32 := Scalar.addi v5277 c0_i32_2247
  let v5279 : Index := Scalar.indexCast v5278
  ![v5279.toNat]
def k0_off619 (v5274 : BitVec 32) (v5280 : BitVec 32) : Fin 3 → Nat :=
  let v5286 : Index := Scalar.indexCast v5280
  let v5275 : BitVec 32 := v5274
  let v5287 : Index := Scalar.indexCast v5275
  let c0_2248 : Index := 0#32
  ![v5286.toNat, v5287.toNat, 0]

def k0_chk422 (v5274 : BitVec 32) (v5280 : BitVec 32) : Prop :=
  (∀ a, (k0_off619 v5274 v5280) a + S1x48x512.size a ≤ S64x64x512.size a)
theorem k0_off619_inb : ∀ (v5274 : BitVec 32) (v5280 : BitVec 32) (k0_hw422 : k0_chk422 v5274 v5280), ∀ a, (k0_off619 v5274 v5280) a + S1x48x512.size a ≤ S64x64x512.size a := fun v5274 v5280 k0_hw422 => k0_hw422

def k0_off620 (v5274 : BitVec 32) (v5282 : BitVec 32) : Fin 3 → Nat :=
  let v5290 : Index := Scalar.indexCast v5282
  let v5275 : BitVec 32 := v5274
  let v5291 : Index := Scalar.indexCast v5275
  let c0_2249 : Index := 0#32
  ![v5290.toNat, v5291.toNat, 0]

def k0_chk423 (v5274 : BitVec 32) (v5282 : BitVec 32) : Prop :=
  (∀ a, (k0_off620 v5274 v5282) a + S1x48x512.size a ≤ S64x64x512.size a)
theorem k0_off620_inb : ∀ (v5274 : BitVec 32) (v5282 : BitVec 32) (k0_hw423 : k0_chk423 v5274 v5282), ∀ a, (k0_off620 v5274 v5282) a + S1x48x512.size a ≤ S64x64x512.size a := fun v5274 v5282 k0_hw423 => k0_hw423

def k0_off621 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2256 : BitVec 32 := 28#32
  let v5302 : BitVec 32 := Scalar.addi v5 c28_i32_2256
  let c7_i32_2257 : BitVec 32 := 7#32
  let v5303 : BitVec 32 := Scalar.muli v5302 c7_i32_2257
  let c1_i32_2258 : BitVec 32 := 1#32
  let v5304 : BitVec 32 := Scalar.addi v5303 c1_i32_2258
  let v5305 : Index := Scalar.indexCast v5304
  ![v5305.toNat]
def k0_off622 (v5274 : BitVec 32) (v5306 : BitVec 32) : Fin 3 → Nat :=
  let v5312 : Index := Scalar.indexCast v5306
  let v5275 : BitVec 32 := v5274
  let v5313 : Index := Scalar.indexCast v5275
  let c0_2259 : Index := 0#32
  ![v5312.toNat, v5313.toNat, 0]

def k0_chk424 (v5274 : BitVec 32) (v5306 : BitVec 32) : Prop :=
  (∀ a, (k0_off622 v5274 v5306) a + S1x48x512.size a ≤ S64x64x512.size a)
theorem k0_off622_inb : ∀ (v5274 : BitVec 32) (v5306 : BitVec 32) (k0_hw424 : k0_chk424 v5274 v5306), ∀ a, (k0_off622 v5274 v5306) a + S1x48x512.size a ≤ S64x64x512.size a := fun v5274 v5306 k0_hw424 => k0_hw424

def k0_off623 (v5274 : BitVec 32) (v5308 : BitVec 32) : Fin 3 → Nat :=
  let v5316 : Index := Scalar.indexCast v5308
  let v5275 : BitVec 32 := v5274
  let v5317 : Index := Scalar.indexCast v5275
  let c0_2260 : Index := 0#32
  ![v5316.toNat, v5317.toNat, 0]

def k0_chk425 (v5274 : BitVec 32) (v5308 : BitVec 32) : Prop :=
  (∀ a, (k0_off623 v5274 v5308) a + S1x48x512.size a ≤ S64x64x512.size a)
theorem k0_off623_inb : ∀ (v5274 : BitVec 32) (v5308 : BitVec 32) (k0_hw425 : k0_chk425 v5274 v5308), ∀ a, (k0_off623 v5274 v5308) a + S1x48x512.size a ≤ S64x64x512.size a := fun v5274 v5308 k0_hw425 => k0_hw425

def k0_off624 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2267 : BitVec 32 := 28#32
  let v5328 : BitVec 32 := Scalar.addi v5 c28_i32_2267
  let c7_i32_2268 : BitVec 32 := 7#32
  let v5329 : BitVec 32 := Scalar.muli v5328 c7_i32_2268
  let c2_i32_2269 : BitVec 32 := 2#32
  let v5330 : BitVec 32 := Scalar.addi v5329 c2_i32_2269
  let v5331 : Index := Scalar.indexCast v5330
  ![v5331.toNat]
def k0_off625 (v5274 : BitVec 32) (v5332 : BitVec 32) : Fin 3 → Nat :=
  let v5338 : Index := Scalar.indexCast v5332
  let v5275 : BitVec 32 := v5274
  let v5339 : Index := Scalar.indexCast v5275
  let c0_2270 : Index := 0#32
  ![v5338.toNat, v5339.toNat, 0]

def k0_chk426 (v5274 : BitVec 32) (v5332 : BitVec 32) : Prop :=
  (∀ a, (k0_off625 v5274 v5332) a + S1x48x512.size a ≤ S64x64x512.size a)
theorem k0_off625_inb : ∀ (v5274 : BitVec 32) (v5332 : BitVec 32) (k0_hw426 : k0_chk426 v5274 v5332), ∀ a, (k0_off625 v5274 v5332) a + S1x48x512.size a ≤ S64x64x512.size a := fun v5274 v5332 k0_hw426 => k0_hw426

def k0_off626 (v5274 : BitVec 32) (v5334 : BitVec 32) : Fin 3 → Nat :=
  let v5342 : Index := Scalar.indexCast v5334
  let v5275 : BitVec 32 := v5274
  let v5343 : Index := Scalar.indexCast v5275
  let c0_2271 : Index := 0#32
  ![v5342.toNat, v5343.toNat, 0]

def k0_chk427 (v5274 : BitVec 32) (v5334 : BitVec 32) : Prop :=
  (∀ a, (k0_off626 v5274 v5334) a + S1x48x512.size a ≤ S64x64x512.size a)
theorem k0_off626_inb : ∀ (v5274 : BitVec 32) (v5334 : BitVec 32) (k0_hw427 : k0_chk427 v5274 v5334), ∀ a, (k0_off626 v5274 v5334) a + S1x48x512.size a ≤ S64x64x512.size a := fun v5274 v5334 k0_hw427 => k0_hw427

def k0_off627 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2278 : BitVec 32 := 28#32
  let v5354 : BitVec 32 := Scalar.addi v5 c28_i32_2278
  let c7_i32_2279 : BitVec 32 := 7#32
  let v5355 : BitVec 32 := Scalar.muli v5354 c7_i32_2279
  let c3_i32_2280 : BitVec 32 := 3#32
  let v5356 : BitVec 32 := Scalar.addi v5355 c3_i32_2280
  let v5357 : Index := Scalar.indexCast v5356
  ![v5357.toNat]
def k0_off628 (v5274 : BitVec 32) (v5358 : BitVec 32) : Fin 3 → Nat :=
  let v5364 : Index := Scalar.indexCast v5358
  let v5275 : BitVec 32 := v5274
  let v5365 : Index := Scalar.indexCast v5275
  let c0_2281 : Index := 0#32
  ![v5364.toNat, v5365.toNat, 0]

def k0_chk428 (v5274 : BitVec 32) (v5358 : BitVec 32) : Prop :=
  (∀ a, (k0_off628 v5274 v5358) a + S1x48x512.size a ≤ S64x64x512.size a)
theorem k0_off628_inb : ∀ (v5274 : BitVec 32) (v5358 : BitVec 32) (k0_hw428 : k0_chk428 v5274 v5358), ∀ a, (k0_off628 v5274 v5358) a + S1x48x512.size a ≤ S64x64x512.size a := fun v5274 v5358 k0_hw428 => k0_hw428

def k0_off629 (v5274 : BitVec 32) (v5360 : BitVec 32) : Fin 3 → Nat :=
  let v5368 : Index := Scalar.indexCast v5360
  let v5275 : BitVec 32 := v5274
  let v5369 : Index := Scalar.indexCast v5275
  let c0_2282 : Index := 0#32
  ![v5368.toNat, v5369.toNat, 0]

def k0_chk429 (v5274 : BitVec 32) (v5360 : BitVec 32) : Prop :=
  (∀ a, (k0_off629 v5274 v5360) a + S1x48x512.size a ≤ S64x64x512.size a)
theorem k0_off629_inb : ∀ (v5274 : BitVec 32) (v5360 : BitVec 32) (k0_hw429 : k0_chk429 v5274 v5360), ∀ a, (k0_off629 v5274 v5360) a + S1x48x512.size a ≤ S64x64x512.size a := fun v5274 v5360 k0_hw429 => k0_hw429

def k0_off630 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2289 : BitVec 32 := 28#32
  let v5380 : BitVec 32 := Scalar.addi v5 c28_i32_2289
  let c7_i32_2290 : BitVec 32 := 7#32
  let v5381 : BitVec 32 := Scalar.muli v5380 c7_i32_2290
  let c4_i32_2291 : BitVec 32 := 4#32
  let v5382 : BitVec 32 := Scalar.addi v5381 c4_i32_2291
  let v5383 : Index := Scalar.indexCast v5382
  ![v5383.toNat]
def k0_off631 (v5274 : BitVec 32) (v5384 : BitVec 32) : Fin 3 → Nat :=
  let v5390 : Index := Scalar.indexCast v5384
  let v5275 : BitVec 32 := v5274
  let v5391 : Index := Scalar.indexCast v5275
  let c0_2292 : Index := 0#32
  ![v5390.toNat, v5391.toNat, 0]

def k0_chk430 (v5274 : BitVec 32) (v5384 : BitVec 32) : Prop :=
  (∀ a, (k0_off631 v5274 v5384) a + S1x48x512.size a ≤ S64x64x512.size a)
theorem k0_off631_inb : ∀ (v5274 : BitVec 32) (v5384 : BitVec 32) (k0_hw430 : k0_chk430 v5274 v5384), ∀ a, (k0_off631 v5274 v5384) a + S1x48x512.size a ≤ S64x64x512.size a := fun v5274 v5384 k0_hw430 => k0_hw430

def k0_off632 (v5274 : BitVec 32) (v5386 : BitVec 32) : Fin 3 → Nat :=
  let v5394 : Index := Scalar.indexCast v5386
  let v5275 : BitVec 32 := v5274
  let v5395 : Index := Scalar.indexCast v5275
  let c0_2293 : Index := 0#32
  ![v5394.toNat, v5395.toNat, 0]

def k0_chk431 (v5274 : BitVec 32) (v5386 : BitVec 32) : Prop :=
  (∀ a, (k0_off632 v5274 v5386) a + S1x48x512.size a ≤ S64x64x512.size a)
theorem k0_off632_inb : ∀ (v5274 : BitVec 32) (v5386 : BitVec 32) (k0_hw431 : k0_chk431 v5274 v5386), ∀ a, (k0_off632 v5274 v5386) a + S1x48x512.size a ≤ S64x64x512.size a := fun v5274 v5386 k0_hw431 => k0_hw431

def k0_off633 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2300 : BitVec 32 := 28#32
  let v5406 : BitVec 32 := Scalar.addi v5 c28_i32_2300
  let c7_i32_2301 : BitVec 32 := 7#32
  let v5407 : BitVec 32 := Scalar.muli v5406 c7_i32_2301
  let c5_i32_2302 : BitVec 32 := 5#32
  let v5408 : BitVec 32 := Scalar.addi v5407 c5_i32_2302
  let v5409 : Index := Scalar.indexCast v5408
  ![v5409.toNat]
def k0_off634 (v5274 : BitVec 32) (v5410 : BitVec 32) : Fin 3 → Nat :=
  let v5416 : Index := Scalar.indexCast v5410
  let v5275 : BitVec 32 := v5274
  let v5417 : Index := Scalar.indexCast v5275
  let c0_2303 : Index := 0#32
  ![v5416.toNat, v5417.toNat, 0]

def k0_chk432 (v5274 : BitVec 32) (v5410 : BitVec 32) : Prop :=
  (∀ a, (k0_off634 v5274 v5410) a + S1x48x512.size a ≤ S64x64x512.size a)
theorem k0_off634_inb : ∀ (v5274 : BitVec 32) (v5410 : BitVec 32) (k0_hw432 : k0_chk432 v5274 v5410), ∀ a, (k0_off634 v5274 v5410) a + S1x48x512.size a ≤ S64x64x512.size a := fun v5274 v5410 k0_hw432 => k0_hw432

def k0_off635 (v5274 : BitVec 32) (v5412 : BitVec 32) : Fin 3 → Nat :=
  let v5420 : Index := Scalar.indexCast v5412
  let v5275 : BitVec 32 := v5274
  let v5421 : Index := Scalar.indexCast v5275
  let c0_2304 : Index := 0#32
  ![v5420.toNat, v5421.toNat, 0]

def k0_chk433 (v5274 : BitVec 32) (v5412 : BitVec 32) : Prop :=
  (∀ a, (k0_off635 v5274 v5412) a + S1x48x512.size a ≤ S64x64x512.size a)
theorem k0_off635_inb : ∀ (v5274 : BitVec 32) (v5412 : BitVec 32) (k0_hw433 : k0_chk433 v5274 v5412), ∀ a, (k0_off635 v5274 v5412) a + S1x48x512.size a ≤ S64x64x512.size a := fun v5274 v5412 k0_hw433 => k0_hw433

def k0_off636 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c28_i32_2311 : BitVec 32 := 28#32
  let v5432 : BitVec 32 := Scalar.addi v5 c28_i32_2311
  let c7_i32_2312 : BitVec 32 := 7#32
  let v5433 : BitVec 32 := Scalar.muli v5432 c7_i32_2312
  let c6_i32_2313 : BitVec 32 := 6#32
  let v5434 : BitVec 32 := Scalar.addi v5433 c6_i32_2313
  let v5435 : Index := Scalar.indexCast v5434
  ![v5435.toNat]
def k0_off637 (v5274 : BitVec 32) (v5436 : BitVec 32) : Fin 3 → Nat :=
  let v5442 : Index := Scalar.indexCast v5436
  let v5275 : BitVec 32 := v5274
  let v5443 : Index := Scalar.indexCast v5275
  let c0_2314 : Index := 0#32
  ![v5442.toNat, v5443.toNat, 0]

def k0_chk434 (v5274 : BitVec 32) (v5436 : BitVec 32) : Prop :=
  (∀ a, (k0_off637 v5274 v5436) a + S1x48x512.size a ≤ S64x64x512.size a)
theorem k0_off637_inb : ∀ (v5274 : BitVec 32) (v5436 : BitVec 32) (k0_hw434 : k0_chk434 v5274 v5436), ∀ a, (k0_off637 v5274 v5436) a + S1x48x512.size a ≤ S64x64x512.size a := fun v5274 v5436 k0_hw434 => k0_hw434

def k0_off638 (v5274 : BitVec 32) (v5438 : BitVec 32) : Fin 3 → Nat :=
  let v5446 : Index := Scalar.indexCast v5438
  let v5275 : BitVec 32 := v5274
  let v5447 : Index := Scalar.indexCast v5275
  let c0_2315 : Index := 0#32
  ![v5446.toNat, v5447.toNat, 0]

def k0_chk435 (v5274 : BitVec 32) (v5438 : BitVec 32) : Prop :=
  (∀ a, (k0_off638 v5274 v5438) a + S1x48x512.size a ≤ S64x64x512.size a)
theorem k0_off638_inb : ∀ (v5274 : BitVec 32) (v5438 : BitVec 32) (k0_hw435 : k0_chk435 v5274 v5438), ∀ a, (k0_off638 v5274 v5438) a + S1x48x512.size a ≤ S64x64x512.size a := fun v5274 v5438 k0_hw435 => k0_hw435

def k0_off639 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32 : BitVec 32 := 29#32
  let v5460 : BitVec 32 := Scalar.addi v5 c29_i32
  let v5461 : Index := Scalar.indexCast v5460
  ![v5461.toNat]
def k0_mult30 (v5462 : BitVec 32) : BitVec 32 :=
  v5462

def k0_chk436 (v5462 : BitVec 32) : Prop :=
  (16 ∣ (k0_mult30 v5462).toNat)
theorem k0_mult30_dvd : ∀ (v5462 : BitVec 32) (k0_hw436 : k0_chk436 v5462), 16 ∣ (k0_mult30 v5462).toNat := fun v5462 k0_hw436 => k0_hw436

def k0_off640 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2325 : BitVec 32 := 29#32
  let v5464 : BitVec 32 := Scalar.addi v5 c29_i32_2325
  let c7_i32_2326 : BitVec 32 := 7#32
  let v5465 : BitVec 32 := Scalar.muli v5464 c7_i32_2326
  let c0_i32_2327 : BitVec 32 := 0#32
  let v5466 : BitVec 32 := Scalar.addi v5465 c0_i32_2327
  let v5467 : Index := Scalar.indexCast v5466
  ![v5467.toNat]
def k0_off641 (v5462 : BitVec 32) (v5468 : BitVec 32) : Fin 3 → Nat :=
  let v5474 : Index := Scalar.indexCast v5468
  let v5463 : BitVec 32 := v5462
  let v5475 : Index := Scalar.indexCast v5463
  let c0_2328 : Index := 0#32
  ![v5474.toNat, v5475.toNat, 0]

def k0_chk437 (v5462 : BitVec 32) (v5468 : BitVec 32) : Prop :=
  (∀ a, (k0_off641 v5462 v5468) a + S1x48x512.size a ≤ S64x64x512.size a)
theorem k0_off641_inb : ∀ (v5462 : BitVec 32) (v5468 : BitVec 32) (k0_hw437 : k0_chk437 v5462 v5468), ∀ a, (k0_off641 v5462 v5468) a + S1x48x512.size a ≤ S64x64x512.size a := fun v5462 v5468 k0_hw437 => k0_hw437

def k0_off642 (v5462 : BitVec 32) (v5470 : BitVec 32) : Fin 3 → Nat :=
  let v5478 : Index := Scalar.indexCast v5470
  let v5463 : BitVec 32 := v5462
  let v5479 : Index := Scalar.indexCast v5463
  let c0_2329 : Index := 0#32
  ![v5478.toNat, v5479.toNat, 0]

def k0_chk438 (v5462 : BitVec 32) (v5470 : BitVec 32) : Prop :=
  (∀ a, (k0_off642 v5462 v5470) a + S1x48x512.size a ≤ S64x64x512.size a)
theorem k0_off642_inb : ∀ (v5462 : BitVec 32) (v5470 : BitVec 32) (k0_hw438 : k0_chk438 v5462 v5470), ∀ a, (k0_off642 v5462 v5470) a + S1x48x512.size a ≤ S64x64x512.size a := fun v5462 v5470 k0_hw438 => k0_hw438

def k0_off643 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2336 : BitVec 32 := 29#32
  let v5490 : BitVec 32 := Scalar.addi v5 c29_i32_2336
  let c7_i32_2337 : BitVec 32 := 7#32
  let v5491 : BitVec 32 := Scalar.muli v5490 c7_i32_2337
  let c1_i32_2338 : BitVec 32 := 1#32
  let v5492 : BitVec 32 := Scalar.addi v5491 c1_i32_2338
  let v5493 : Index := Scalar.indexCast v5492
  ![v5493.toNat]
def k0_off644 (v5462 : BitVec 32) (v5494 : BitVec 32) : Fin 3 → Nat :=
  let v5500 : Index := Scalar.indexCast v5494
  let v5463 : BitVec 32 := v5462
  let v5501 : Index := Scalar.indexCast v5463
  let c0_2339 : Index := 0#32
  ![v5500.toNat, v5501.toNat, 0]

def k0_chk439 (v5462 : BitVec 32) (v5494 : BitVec 32) : Prop :=
  (∀ a, (k0_off644 v5462 v5494) a + S1x48x512.size a ≤ S64x64x512.size a)
theorem k0_off644_inb : ∀ (v5462 : BitVec 32) (v5494 : BitVec 32) (k0_hw439 : k0_chk439 v5462 v5494), ∀ a, (k0_off644 v5462 v5494) a + S1x48x512.size a ≤ S64x64x512.size a := fun v5462 v5494 k0_hw439 => k0_hw439

def k0_off645 (v5462 : BitVec 32) (v5496 : BitVec 32) : Fin 3 → Nat :=
  let v5504 : Index := Scalar.indexCast v5496
  let v5463 : BitVec 32 := v5462
  let v5505 : Index := Scalar.indexCast v5463
  let c0_2340 : Index := 0#32
  ![v5504.toNat, v5505.toNat, 0]

def k0_chk440 (v5462 : BitVec 32) (v5496 : BitVec 32) : Prop :=
  (∀ a, (k0_off645 v5462 v5496) a + S1x48x512.size a ≤ S64x64x512.size a)
theorem k0_off645_inb : ∀ (v5462 : BitVec 32) (v5496 : BitVec 32) (k0_hw440 : k0_chk440 v5462 v5496), ∀ a, (k0_off645 v5462 v5496) a + S1x48x512.size a ≤ S64x64x512.size a := fun v5462 v5496 k0_hw440 => k0_hw440

def k0_off646 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2347 : BitVec 32 := 29#32
  let v5516 : BitVec 32 := Scalar.addi v5 c29_i32_2347
  let c7_i32_2348 : BitVec 32 := 7#32
  let v5517 : BitVec 32 := Scalar.muli v5516 c7_i32_2348
  let c2_i32_2349 : BitVec 32 := 2#32
  let v5518 : BitVec 32 := Scalar.addi v5517 c2_i32_2349
  let v5519 : Index := Scalar.indexCast v5518
  ![v5519.toNat]
def k0_off647 (v5462 : BitVec 32) (v5520 : BitVec 32) : Fin 3 → Nat :=
  let v5526 : Index := Scalar.indexCast v5520
  let v5463 : BitVec 32 := v5462
  let v5527 : Index := Scalar.indexCast v5463
  let c0_2350 : Index := 0#32
  ![v5526.toNat, v5527.toNat, 0]

def k0_chk441 (v5462 : BitVec 32) (v5520 : BitVec 32) : Prop :=
  (∀ a, (k0_off647 v5462 v5520) a + S1x48x512.size a ≤ S64x64x512.size a)
theorem k0_off647_inb : ∀ (v5462 : BitVec 32) (v5520 : BitVec 32) (k0_hw441 : k0_chk441 v5462 v5520), ∀ a, (k0_off647 v5462 v5520) a + S1x48x512.size a ≤ S64x64x512.size a := fun v5462 v5520 k0_hw441 => k0_hw441

def k0_off648 (v5462 : BitVec 32) (v5522 : BitVec 32) : Fin 3 → Nat :=
  let v5530 : Index := Scalar.indexCast v5522
  let v5463 : BitVec 32 := v5462
  let v5531 : Index := Scalar.indexCast v5463
  let c0_2351 : Index := 0#32
  ![v5530.toNat, v5531.toNat, 0]

def k0_chk442 (v5462 : BitVec 32) (v5522 : BitVec 32) : Prop :=
  (∀ a, (k0_off648 v5462 v5522) a + S1x48x512.size a ≤ S64x64x512.size a)
theorem k0_off648_inb : ∀ (v5462 : BitVec 32) (v5522 : BitVec 32) (k0_hw442 : k0_chk442 v5462 v5522), ∀ a, (k0_off648 v5462 v5522) a + S1x48x512.size a ≤ S64x64x512.size a := fun v5462 v5522 k0_hw442 => k0_hw442

def k0_off649 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2358 : BitVec 32 := 29#32
  let v5542 : BitVec 32 := Scalar.addi v5 c29_i32_2358
  let c7_i32_2359 : BitVec 32 := 7#32
  let v5543 : BitVec 32 := Scalar.muli v5542 c7_i32_2359
  let c3_i32_2360 : BitVec 32 := 3#32
  let v5544 : BitVec 32 := Scalar.addi v5543 c3_i32_2360
  let v5545 : Index := Scalar.indexCast v5544
  ![v5545.toNat]
def k0_off650 (v5462 : BitVec 32) (v5546 : BitVec 32) : Fin 3 → Nat :=
  let v5552 : Index := Scalar.indexCast v5546
  let v5463 : BitVec 32 := v5462
  let v5553 : Index := Scalar.indexCast v5463
  let c0_2361 : Index := 0#32
  ![v5552.toNat, v5553.toNat, 0]

def k0_chk443 (v5462 : BitVec 32) (v5546 : BitVec 32) : Prop :=
  (∀ a, (k0_off650 v5462 v5546) a + S1x48x512.size a ≤ S64x64x512.size a)
theorem k0_off650_inb : ∀ (v5462 : BitVec 32) (v5546 : BitVec 32) (k0_hw443 : k0_chk443 v5462 v5546), ∀ a, (k0_off650 v5462 v5546) a + S1x48x512.size a ≤ S64x64x512.size a := fun v5462 v5546 k0_hw443 => k0_hw443

def k0_off651 (v5462 : BitVec 32) (v5548 : BitVec 32) : Fin 3 → Nat :=
  let v5556 : Index := Scalar.indexCast v5548
  let v5463 : BitVec 32 := v5462
  let v5557 : Index := Scalar.indexCast v5463
  let c0_2362 : Index := 0#32
  ![v5556.toNat, v5557.toNat, 0]

def k0_chk444 (v5462 : BitVec 32) (v5548 : BitVec 32) : Prop :=
  (∀ a, (k0_off651 v5462 v5548) a + S1x48x512.size a ≤ S64x64x512.size a)
theorem k0_off651_inb : ∀ (v5462 : BitVec 32) (v5548 : BitVec 32) (k0_hw444 : k0_chk444 v5462 v5548), ∀ a, (k0_off651 v5462 v5548) a + S1x48x512.size a ≤ S64x64x512.size a := fun v5462 v5548 k0_hw444 => k0_hw444

def k0_off652 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2369 : BitVec 32 := 29#32
  let v5568 : BitVec 32 := Scalar.addi v5 c29_i32_2369
  let c7_i32_2370 : BitVec 32 := 7#32
  let v5569 : BitVec 32 := Scalar.muli v5568 c7_i32_2370
  let c4_i32_2371 : BitVec 32 := 4#32
  let v5570 : BitVec 32 := Scalar.addi v5569 c4_i32_2371
  let v5571 : Index := Scalar.indexCast v5570
  ![v5571.toNat]
def k0_off653 (v5462 : BitVec 32) (v5572 : BitVec 32) : Fin 3 → Nat :=
  let v5578 : Index := Scalar.indexCast v5572
  let v5463 : BitVec 32 := v5462
  let v5579 : Index := Scalar.indexCast v5463
  let c0_2372 : Index := 0#32
  ![v5578.toNat, v5579.toNat, 0]

def k0_chk445 (v5462 : BitVec 32) (v5572 : BitVec 32) : Prop :=
  (∀ a, (k0_off653 v5462 v5572) a + S1x48x512.size a ≤ S64x64x512.size a)
theorem k0_off653_inb : ∀ (v5462 : BitVec 32) (v5572 : BitVec 32) (k0_hw445 : k0_chk445 v5462 v5572), ∀ a, (k0_off653 v5462 v5572) a + S1x48x512.size a ≤ S64x64x512.size a := fun v5462 v5572 k0_hw445 => k0_hw445

def k0_off654 (v5462 : BitVec 32) (v5574 : BitVec 32) : Fin 3 → Nat :=
  let v5582 : Index := Scalar.indexCast v5574
  let v5463 : BitVec 32 := v5462
  let v5583 : Index := Scalar.indexCast v5463
  let c0_2373 : Index := 0#32
  ![v5582.toNat, v5583.toNat, 0]

def k0_chk446 (v5462 : BitVec 32) (v5574 : BitVec 32) : Prop :=
  (∀ a, (k0_off654 v5462 v5574) a + S1x48x512.size a ≤ S64x64x512.size a)
theorem k0_off654_inb : ∀ (v5462 : BitVec 32) (v5574 : BitVec 32) (k0_hw446 : k0_chk446 v5462 v5574), ∀ a, (k0_off654 v5462 v5574) a + S1x48x512.size a ≤ S64x64x512.size a := fun v5462 v5574 k0_hw446 => k0_hw446

def k0_off655 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2380 : BitVec 32 := 29#32
  let v5594 : BitVec 32 := Scalar.addi v5 c29_i32_2380
  let c7_i32_2381 : BitVec 32 := 7#32
  let v5595 : BitVec 32 := Scalar.muli v5594 c7_i32_2381
  let c5_i32_2382 : BitVec 32 := 5#32
  let v5596 : BitVec 32 := Scalar.addi v5595 c5_i32_2382
  let v5597 : Index := Scalar.indexCast v5596
  ![v5597.toNat]
def k0_off656 (v5462 : BitVec 32) (v5598 : BitVec 32) : Fin 3 → Nat :=
  let v5604 : Index := Scalar.indexCast v5598
  let v5463 : BitVec 32 := v5462
  let v5605 : Index := Scalar.indexCast v5463
  let c0_2383 : Index := 0#32
  ![v5604.toNat, v5605.toNat, 0]

def k0_chk447 (v5462 : BitVec 32) (v5598 : BitVec 32) : Prop :=
  (∀ a, (k0_off656 v5462 v5598) a + S1x48x512.size a ≤ S64x64x512.size a)
theorem k0_off656_inb : ∀ (v5462 : BitVec 32) (v5598 : BitVec 32) (k0_hw447 : k0_chk447 v5462 v5598), ∀ a, (k0_off656 v5462 v5598) a + S1x48x512.size a ≤ S64x64x512.size a := fun v5462 v5598 k0_hw447 => k0_hw447

def k0_off657 (v5462 : BitVec 32) (v5600 : BitVec 32) : Fin 3 → Nat :=
  let v5608 : Index := Scalar.indexCast v5600
  let v5463 : BitVec 32 := v5462
  let v5609 : Index := Scalar.indexCast v5463
  let c0_2384 : Index := 0#32
  ![v5608.toNat, v5609.toNat, 0]

def k0_chk448 (v5462 : BitVec 32) (v5600 : BitVec 32) : Prop :=
  (∀ a, (k0_off657 v5462 v5600) a + S1x48x512.size a ≤ S64x64x512.size a)
theorem k0_off657_inb : ∀ (v5462 : BitVec 32) (v5600 : BitVec 32) (k0_hw448 : k0_chk448 v5462 v5600), ∀ a, (k0_off657 v5462 v5600) a + S1x48x512.size a ≤ S64x64x512.size a := fun v5462 v5600 k0_hw448 => k0_hw448

def k0_off658 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c29_i32_2391 : BitVec 32 := 29#32
  let v5620 : BitVec 32 := Scalar.addi v5 c29_i32_2391
  let c7_i32_2392 : BitVec 32 := 7#32
  let v5621 : BitVec 32 := Scalar.muli v5620 c7_i32_2392
  let c6_i32_2393 : BitVec 32 := 6#32
  let v5622 : BitVec 32 := Scalar.addi v5621 c6_i32_2393
  let v5623 : Index := Scalar.indexCast v5622
  ![v5623.toNat]
def k0_off659 (v5462 : BitVec 32) (v5624 : BitVec 32) : Fin 3 → Nat :=
  let v5630 : Index := Scalar.indexCast v5624
  let v5463 : BitVec 32 := v5462
  let v5631 : Index := Scalar.indexCast v5463
  let c0_2394 : Index := 0#32
  ![v5630.toNat, v5631.toNat, 0]

def k0_chk449 (v5462 : BitVec 32) (v5624 : BitVec 32) : Prop :=
  (∀ a, (k0_off659 v5462 v5624) a + S1x48x512.size a ≤ S64x64x512.size a)
theorem k0_off659_inb : ∀ (v5462 : BitVec 32) (v5624 : BitVec 32) (k0_hw449 : k0_chk449 v5462 v5624), ∀ a, (k0_off659 v5462 v5624) a + S1x48x512.size a ≤ S64x64x512.size a := fun v5462 v5624 k0_hw449 => k0_hw449

def k0_off660 (v5462 : BitVec 32) (v5626 : BitVec 32) : Fin 3 → Nat :=
  let v5634 : Index := Scalar.indexCast v5626
  let v5463 : BitVec 32 := v5462
  let v5635 : Index := Scalar.indexCast v5463
  let c0_2395 : Index := 0#32
  ![v5634.toNat, v5635.toNat, 0]

def k0_chk450 (v5462 : BitVec 32) (v5626 : BitVec 32) : Prop :=
  (∀ a, (k0_off660 v5462 v5626) a + S1x48x512.size a ≤ S64x64x512.size a)
theorem k0_off660_inb : ∀ (v5462 : BitVec 32) (v5626 : BitVec 32) (k0_hw450 : k0_chk450 v5462 v5626), ∀ a, (k0_off660 v5462 v5626) a + S1x48x512.size a ≤ S64x64x512.size a := fun v5462 v5626 k0_hw450 => k0_hw450

def k0_off661 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32 : BitVec 32 := 30#32
  let v5648 : BitVec 32 := Scalar.addi v5 c30_i32
  let v5649 : Index := Scalar.indexCast v5648
  ![v5649.toNat]
def k0_mult31 (v5650 : BitVec 32) : BitVec 32 :=
  v5650

def k0_chk451 (v5650 : BitVec 32) : Prop :=
  (16 ∣ (k0_mult31 v5650).toNat)
theorem k0_mult31_dvd : ∀ (v5650 : BitVec 32) (k0_hw451 : k0_chk451 v5650), 16 ∣ (k0_mult31 v5650).toNat := fun v5650 k0_hw451 => k0_hw451

def k0_off662 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2405 : BitVec 32 := 30#32
  let v5652 : BitVec 32 := Scalar.addi v5 c30_i32_2405
  let c7_i32_2406 : BitVec 32 := 7#32
  let v5653 : BitVec 32 := Scalar.muli v5652 c7_i32_2406
  let c0_i32_2407 : BitVec 32 := 0#32
  let v5654 : BitVec 32 := Scalar.addi v5653 c0_i32_2407
  let v5655 : Index := Scalar.indexCast v5654
  ![v5655.toNat]
def k0_off663 (v5650 : BitVec 32) (v5656 : BitVec 32) : Fin 3 → Nat :=
  let v5662 : Index := Scalar.indexCast v5656
  let v5651 : BitVec 32 := v5650
  let v5663 : Index := Scalar.indexCast v5651
  let c0_2408 : Index := 0#32
  ![v5662.toNat, v5663.toNat, 0]

def k0_chk452 (v5650 : BitVec 32) (v5656 : BitVec 32) : Prop :=
  (∀ a, (k0_off663 v5650 v5656) a + S1x48x512.size a ≤ S64x64x512.size a)
theorem k0_off663_inb : ∀ (v5650 : BitVec 32) (v5656 : BitVec 32) (k0_hw452 : k0_chk452 v5650 v5656), ∀ a, (k0_off663 v5650 v5656) a + S1x48x512.size a ≤ S64x64x512.size a := fun v5650 v5656 k0_hw452 => k0_hw452

def k0_off664 (v5650 : BitVec 32) (v5658 : BitVec 32) : Fin 3 → Nat :=
  let v5666 : Index := Scalar.indexCast v5658
  let v5651 : BitVec 32 := v5650
  let v5667 : Index := Scalar.indexCast v5651
  let c0_2409 : Index := 0#32
  ![v5666.toNat, v5667.toNat, 0]

def k0_chk453 (v5650 : BitVec 32) (v5658 : BitVec 32) : Prop :=
  (∀ a, (k0_off664 v5650 v5658) a + S1x48x512.size a ≤ S64x64x512.size a)
theorem k0_off664_inb : ∀ (v5650 : BitVec 32) (v5658 : BitVec 32) (k0_hw453 : k0_chk453 v5650 v5658), ∀ a, (k0_off664 v5650 v5658) a + S1x48x512.size a ≤ S64x64x512.size a := fun v5650 v5658 k0_hw453 => k0_hw453

def k0_off665 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2416 : BitVec 32 := 30#32
  let v5678 : BitVec 32 := Scalar.addi v5 c30_i32_2416
  let c7_i32_2417 : BitVec 32 := 7#32
  let v5679 : BitVec 32 := Scalar.muli v5678 c7_i32_2417
  let c1_i32_2418 : BitVec 32 := 1#32
  let v5680 : BitVec 32 := Scalar.addi v5679 c1_i32_2418
  let v5681 : Index := Scalar.indexCast v5680
  ![v5681.toNat]
def k0_off666 (v5650 : BitVec 32) (v5682 : BitVec 32) : Fin 3 → Nat :=
  let v5688 : Index := Scalar.indexCast v5682
  let v5651 : BitVec 32 := v5650
  let v5689 : Index := Scalar.indexCast v5651
  let c0_2419 : Index := 0#32
  ![v5688.toNat, v5689.toNat, 0]

def k0_chk454 (v5650 : BitVec 32) (v5682 : BitVec 32) : Prop :=
  (∀ a, (k0_off666 v5650 v5682) a + S1x48x512.size a ≤ S64x64x512.size a)
theorem k0_off666_inb : ∀ (v5650 : BitVec 32) (v5682 : BitVec 32) (k0_hw454 : k0_chk454 v5650 v5682), ∀ a, (k0_off666 v5650 v5682) a + S1x48x512.size a ≤ S64x64x512.size a := fun v5650 v5682 k0_hw454 => k0_hw454

def k0_off667 (v5650 : BitVec 32) (v5684 : BitVec 32) : Fin 3 → Nat :=
  let v5692 : Index := Scalar.indexCast v5684
  let v5651 : BitVec 32 := v5650
  let v5693 : Index := Scalar.indexCast v5651
  let c0_2420 : Index := 0#32
  ![v5692.toNat, v5693.toNat, 0]

def k0_chk455 (v5650 : BitVec 32) (v5684 : BitVec 32) : Prop :=
  (∀ a, (k0_off667 v5650 v5684) a + S1x48x512.size a ≤ S64x64x512.size a)
theorem k0_off667_inb : ∀ (v5650 : BitVec 32) (v5684 : BitVec 32) (k0_hw455 : k0_chk455 v5650 v5684), ∀ a, (k0_off667 v5650 v5684) a + S1x48x512.size a ≤ S64x64x512.size a := fun v5650 v5684 k0_hw455 => k0_hw455

def k0_off668 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2427 : BitVec 32 := 30#32
  let v5704 : BitVec 32 := Scalar.addi v5 c30_i32_2427
  let c7_i32_2428 : BitVec 32 := 7#32
  let v5705 : BitVec 32 := Scalar.muli v5704 c7_i32_2428
  let c2_i32_2429 : BitVec 32 := 2#32
  let v5706 : BitVec 32 := Scalar.addi v5705 c2_i32_2429
  let v5707 : Index := Scalar.indexCast v5706
  ![v5707.toNat]
def k0_off669 (v5650 : BitVec 32) (v5708 : BitVec 32) : Fin 3 → Nat :=
  let v5714 : Index := Scalar.indexCast v5708
  let v5651 : BitVec 32 := v5650
  let v5715 : Index := Scalar.indexCast v5651
  let c0_2430 : Index := 0#32
  ![v5714.toNat, v5715.toNat, 0]

def k0_chk456 (v5650 : BitVec 32) (v5708 : BitVec 32) : Prop :=
  (∀ a, (k0_off669 v5650 v5708) a + S1x48x512.size a ≤ S64x64x512.size a)
theorem k0_off669_inb : ∀ (v5650 : BitVec 32) (v5708 : BitVec 32) (k0_hw456 : k0_chk456 v5650 v5708), ∀ a, (k0_off669 v5650 v5708) a + S1x48x512.size a ≤ S64x64x512.size a := fun v5650 v5708 k0_hw456 => k0_hw456

def k0_off670 (v5650 : BitVec 32) (v5710 : BitVec 32) : Fin 3 → Nat :=
  let v5718 : Index := Scalar.indexCast v5710
  let v5651 : BitVec 32 := v5650
  let v5719 : Index := Scalar.indexCast v5651
  let c0_2431 : Index := 0#32
  ![v5718.toNat, v5719.toNat, 0]

def k0_chk457 (v5650 : BitVec 32) (v5710 : BitVec 32) : Prop :=
  (∀ a, (k0_off670 v5650 v5710) a + S1x48x512.size a ≤ S64x64x512.size a)
theorem k0_off670_inb : ∀ (v5650 : BitVec 32) (v5710 : BitVec 32) (k0_hw457 : k0_chk457 v5650 v5710), ∀ a, (k0_off670 v5650 v5710) a + S1x48x512.size a ≤ S64x64x512.size a := fun v5650 v5710 k0_hw457 => k0_hw457

def k0_off671 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2438 : BitVec 32 := 30#32
  let v5730 : BitVec 32 := Scalar.addi v5 c30_i32_2438
  let c7_i32_2439 : BitVec 32 := 7#32
  let v5731 : BitVec 32 := Scalar.muli v5730 c7_i32_2439
  let c3_i32_2440 : BitVec 32 := 3#32
  let v5732 : BitVec 32 := Scalar.addi v5731 c3_i32_2440
  let v5733 : Index := Scalar.indexCast v5732
  ![v5733.toNat]
def k0_off672 (v5650 : BitVec 32) (v5734 : BitVec 32) : Fin 3 → Nat :=
  let v5740 : Index := Scalar.indexCast v5734
  let v5651 : BitVec 32 := v5650
  let v5741 : Index := Scalar.indexCast v5651
  let c0_2441 : Index := 0#32
  ![v5740.toNat, v5741.toNat, 0]

def k0_chk458 (v5650 : BitVec 32) (v5734 : BitVec 32) : Prop :=
  (∀ a, (k0_off672 v5650 v5734) a + S1x48x512.size a ≤ S64x64x512.size a)
theorem k0_off672_inb : ∀ (v5650 : BitVec 32) (v5734 : BitVec 32) (k0_hw458 : k0_chk458 v5650 v5734), ∀ a, (k0_off672 v5650 v5734) a + S1x48x512.size a ≤ S64x64x512.size a := fun v5650 v5734 k0_hw458 => k0_hw458

def k0_off673 (v5650 : BitVec 32) (v5736 : BitVec 32) : Fin 3 → Nat :=
  let v5744 : Index := Scalar.indexCast v5736
  let v5651 : BitVec 32 := v5650
  let v5745 : Index := Scalar.indexCast v5651
  let c0_2442 : Index := 0#32
  ![v5744.toNat, v5745.toNat, 0]

def k0_chk459 (v5650 : BitVec 32) (v5736 : BitVec 32) : Prop :=
  (∀ a, (k0_off673 v5650 v5736) a + S1x48x512.size a ≤ S64x64x512.size a)
theorem k0_off673_inb : ∀ (v5650 : BitVec 32) (v5736 : BitVec 32) (k0_hw459 : k0_chk459 v5650 v5736), ∀ a, (k0_off673 v5650 v5736) a + S1x48x512.size a ≤ S64x64x512.size a := fun v5650 v5736 k0_hw459 => k0_hw459

def k0_off674 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2449 : BitVec 32 := 30#32
  let v5756 : BitVec 32 := Scalar.addi v5 c30_i32_2449
  let c7_i32_2450 : BitVec 32 := 7#32
  let v5757 : BitVec 32 := Scalar.muli v5756 c7_i32_2450
  let c4_i32_2451 : BitVec 32 := 4#32
  let v5758 : BitVec 32 := Scalar.addi v5757 c4_i32_2451
  let v5759 : Index := Scalar.indexCast v5758
  ![v5759.toNat]
def k0_off675 (v5650 : BitVec 32) (v5760 : BitVec 32) : Fin 3 → Nat :=
  let v5766 : Index := Scalar.indexCast v5760
  let v5651 : BitVec 32 := v5650
  let v5767 : Index := Scalar.indexCast v5651
  let c0_2452 : Index := 0#32
  ![v5766.toNat, v5767.toNat, 0]

def k0_chk460 (v5650 : BitVec 32) (v5760 : BitVec 32) : Prop :=
  (∀ a, (k0_off675 v5650 v5760) a + S1x48x512.size a ≤ S64x64x512.size a)
theorem k0_off675_inb : ∀ (v5650 : BitVec 32) (v5760 : BitVec 32) (k0_hw460 : k0_chk460 v5650 v5760), ∀ a, (k0_off675 v5650 v5760) a + S1x48x512.size a ≤ S64x64x512.size a := fun v5650 v5760 k0_hw460 => k0_hw460

def k0_off676 (v5650 : BitVec 32) (v5762 : BitVec 32) : Fin 3 → Nat :=
  let v5770 : Index := Scalar.indexCast v5762
  let v5651 : BitVec 32 := v5650
  let v5771 : Index := Scalar.indexCast v5651
  let c0_2453 : Index := 0#32
  ![v5770.toNat, v5771.toNat, 0]

def k0_chk461 (v5650 : BitVec 32) (v5762 : BitVec 32) : Prop :=
  (∀ a, (k0_off676 v5650 v5762) a + S1x48x512.size a ≤ S64x64x512.size a)
theorem k0_off676_inb : ∀ (v5650 : BitVec 32) (v5762 : BitVec 32) (k0_hw461 : k0_chk461 v5650 v5762), ∀ a, (k0_off676 v5650 v5762) a + S1x48x512.size a ≤ S64x64x512.size a := fun v5650 v5762 k0_hw461 => k0_hw461

def k0_off677 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2460 : BitVec 32 := 30#32
  let v5782 : BitVec 32 := Scalar.addi v5 c30_i32_2460
  let c7_i32_2461 : BitVec 32 := 7#32
  let v5783 : BitVec 32 := Scalar.muli v5782 c7_i32_2461
  let c5_i32_2462 : BitVec 32 := 5#32
  let v5784 : BitVec 32 := Scalar.addi v5783 c5_i32_2462
  let v5785 : Index := Scalar.indexCast v5784
  ![v5785.toNat]
def k0_off678 (v5650 : BitVec 32) (v5786 : BitVec 32) : Fin 3 → Nat :=
  let v5792 : Index := Scalar.indexCast v5786
  let v5651 : BitVec 32 := v5650
  let v5793 : Index := Scalar.indexCast v5651
  let c0_2463 : Index := 0#32
  ![v5792.toNat, v5793.toNat, 0]

def k0_chk462 (v5650 : BitVec 32) (v5786 : BitVec 32) : Prop :=
  (∀ a, (k0_off678 v5650 v5786) a + S1x48x512.size a ≤ S64x64x512.size a)
theorem k0_off678_inb : ∀ (v5650 : BitVec 32) (v5786 : BitVec 32) (k0_hw462 : k0_chk462 v5650 v5786), ∀ a, (k0_off678 v5650 v5786) a + S1x48x512.size a ≤ S64x64x512.size a := fun v5650 v5786 k0_hw462 => k0_hw462

def k0_off679 (v5650 : BitVec 32) (v5788 : BitVec 32) : Fin 3 → Nat :=
  let v5796 : Index := Scalar.indexCast v5788
  let v5651 : BitVec 32 := v5650
  let v5797 : Index := Scalar.indexCast v5651
  let c0_2464 : Index := 0#32
  ![v5796.toNat, v5797.toNat, 0]

def k0_chk463 (v5650 : BitVec 32) (v5788 : BitVec 32) : Prop :=
  (∀ a, (k0_off679 v5650 v5788) a + S1x48x512.size a ≤ S64x64x512.size a)
theorem k0_off679_inb : ∀ (v5650 : BitVec 32) (v5788 : BitVec 32) (k0_hw463 : k0_chk463 v5650 v5788), ∀ a, (k0_off679 v5650 v5788) a + S1x48x512.size a ≤ S64x64x512.size a := fun v5650 v5788 k0_hw463 => k0_hw463

def k0_off680 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c30_i32_2471 : BitVec 32 := 30#32
  let v5808 : BitVec 32 := Scalar.addi v5 c30_i32_2471
  let c7_i32_2472 : BitVec 32 := 7#32
  let v5809 : BitVec 32 := Scalar.muli v5808 c7_i32_2472
  let c6_i32_2473 : BitVec 32 := 6#32
  let v5810 : BitVec 32 := Scalar.addi v5809 c6_i32_2473
  let v5811 : Index := Scalar.indexCast v5810
  ![v5811.toNat]
def k0_off681 (v5650 : BitVec 32) (v5812 : BitVec 32) : Fin 3 → Nat :=
  let v5818 : Index := Scalar.indexCast v5812
  let v5651 : BitVec 32 := v5650
  let v5819 : Index := Scalar.indexCast v5651
  let c0_2474 : Index := 0#32
  ![v5818.toNat, v5819.toNat, 0]

def k0_chk464 (v5650 : BitVec 32) (v5812 : BitVec 32) : Prop :=
  (∀ a, (k0_off681 v5650 v5812) a + S1x48x512.size a ≤ S64x64x512.size a)
theorem k0_off681_inb : ∀ (v5650 : BitVec 32) (v5812 : BitVec 32) (k0_hw464 : k0_chk464 v5650 v5812), ∀ a, (k0_off681 v5650 v5812) a + S1x48x512.size a ≤ S64x64x512.size a := fun v5650 v5812 k0_hw464 => k0_hw464

def k0_off682 (v5650 : BitVec 32) (v5814 : BitVec 32) : Fin 3 → Nat :=
  let v5822 : Index := Scalar.indexCast v5814
  let v5651 : BitVec 32 := v5650
  let v5823 : Index := Scalar.indexCast v5651
  let c0_2475 : Index := 0#32
  ![v5822.toNat, v5823.toNat, 0]

def k0_chk465 (v5650 : BitVec 32) (v5814 : BitVec 32) : Prop :=
  (∀ a, (k0_off682 v5650 v5814) a + S1x48x512.size a ≤ S64x64x512.size a)
theorem k0_off682_inb : ∀ (v5650 : BitVec 32) (v5814 : BitVec 32) (k0_hw465 : k0_chk465 v5650 v5814), ∀ a, (k0_off682 v5650 v5814) a + S1x48x512.size a ≤ S64x64x512.size a := fun v5650 v5814 k0_hw465 => k0_hw465

def k0_off683 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32 : BitVec 32 := 31#32
  let v5836 : BitVec 32 := Scalar.addi v5 c31_i32
  let v5837 : Index := Scalar.indexCast v5836
  ![v5837.toNat]
def k0_mult32 (v5838 : BitVec 32) : BitVec 32 :=
  v5838

def k0_chk466 (v5838 : BitVec 32) : Prop :=
  (16 ∣ (k0_mult32 v5838).toNat)
theorem k0_mult32_dvd : ∀ (v5838 : BitVec 32) (k0_hw466 : k0_chk466 v5838), 16 ∣ (k0_mult32 v5838).toNat := fun v5838 k0_hw466 => k0_hw466

def k0_off684 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2485 : BitVec 32 := 31#32
  let v5840 : BitVec 32 := Scalar.addi v5 c31_i32_2485
  let c7_i32_2486 : BitVec 32 := 7#32
  let v5841 : BitVec 32 := Scalar.muli v5840 c7_i32_2486
  let c0_i32_2487 : BitVec 32 := 0#32
  let v5842 : BitVec 32 := Scalar.addi v5841 c0_i32_2487
  let v5843 : Index := Scalar.indexCast v5842
  ![v5843.toNat]
def k0_off685 (v5838 : BitVec 32) (v5844 : BitVec 32) : Fin 3 → Nat :=
  let v5850 : Index := Scalar.indexCast v5844
  let v5839 : BitVec 32 := v5838
  let v5851 : Index := Scalar.indexCast v5839
  let c0_2488 : Index := 0#32
  ![v5850.toNat, v5851.toNat, 0]

def k0_chk467 (v5838 : BitVec 32) (v5844 : BitVec 32) : Prop :=
  (∀ a, (k0_off685 v5838 v5844) a + S1x48x512.size a ≤ S64x64x512.size a)
theorem k0_off685_inb : ∀ (v5838 : BitVec 32) (v5844 : BitVec 32) (k0_hw467 : k0_chk467 v5838 v5844), ∀ a, (k0_off685 v5838 v5844) a + S1x48x512.size a ≤ S64x64x512.size a := fun v5838 v5844 k0_hw467 => k0_hw467

def k0_off686 (v5838 : BitVec 32) (v5846 : BitVec 32) : Fin 3 → Nat :=
  let v5854 : Index := Scalar.indexCast v5846
  let v5839 : BitVec 32 := v5838
  let v5855 : Index := Scalar.indexCast v5839
  let c0_2489 : Index := 0#32
  ![v5854.toNat, v5855.toNat, 0]

def k0_chk468 (v5838 : BitVec 32) (v5846 : BitVec 32) : Prop :=
  (∀ a, (k0_off686 v5838 v5846) a + S1x48x512.size a ≤ S64x64x512.size a)
theorem k0_off686_inb : ∀ (v5838 : BitVec 32) (v5846 : BitVec 32) (k0_hw468 : k0_chk468 v5838 v5846), ∀ a, (k0_off686 v5838 v5846) a + S1x48x512.size a ≤ S64x64x512.size a := fun v5838 v5846 k0_hw468 => k0_hw468

def k0_off687 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2496 : BitVec 32 := 31#32
  let v5866 : BitVec 32 := Scalar.addi v5 c31_i32_2496
  let c7_i32_2497 : BitVec 32 := 7#32
  let v5867 : BitVec 32 := Scalar.muli v5866 c7_i32_2497
  let c1_i32_2498 : BitVec 32 := 1#32
  let v5868 : BitVec 32 := Scalar.addi v5867 c1_i32_2498
  let v5869 : Index := Scalar.indexCast v5868
  ![v5869.toNat]
def k0_off688 (v5838 : BitVec 32) (v5870 : BitVec 32) : Fin 3 → Nat :=
  let v5876 : Index := Scalar.indexCast v5870
  let v5839 : BitVec 32 := v5838
  let v5877 : Index := Scalar.indexCast v5839
  let c0_2499 : Index := 0#32
  ![v5876.toNat, v5877.toNat, 0]

def k0_chk469 (v5838 : BitVec 32) (v5870 : BitVec 32) : Prop :=
  (∀ a, (k0_off688 v5838 v5870) a + S1x48x512.size a ≤ S64x64x512.size a)
theorem k0_off688_inb : ∀ (v5838 : BitVec 32) (v5870 : BitVec 32) (k0_hw469 : k0_chk469 v5838 v5870), ∀ a, (k0_off688 v5838 v5870) a + S1x48x512.size a ≤ S64x64x512.size a := fun v5838 v5870 k0_hw469 => k0_hw469

def k0_off689 (v5838 : BitVec 32) (v5872 : BitVec 32) : Fin 3 → Nat :=
  let v5880 : Index := Scalar.indexCast v5872
  let v5839 : BitVec 32 := v5838
  let v5881 : Index := Scalar.indexCast v5839
  let c0_2500 : Index := 0#32
  ![v5880.toNat, v5881.toNat, 0]

def k0_chk470 (v5838 : BitVec 32) (v5872 : BitVec 32) : Prop :=
  (∀ a, (k0_off689 v5838 v5872) a + S1x48x512.size a ≤ S64x64x512.size a)
theorem k0_off689_inb : ∀ (v5838 : BitVec 32) (v5872 : BitVec 32) (k0_hw470 : k0_chk470 v5838 v5872), ∀ a, (k0_off689 v5838 v5872) a + S1x48x512.size a ≤ S64x64x512.size a := fun v5838 v5872 k0_hw470 => k0_hw470

def k0_off690 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2507 : BitVec 32 := 31#32
  let v5892 : BitVec 32 := Scalar.addi v5 c31_i32_2507
  let c7_i32_2508 : BitVec 32 := 7#32
  let v5893 : BitVec 32 := Scalar.muli v5892 c7_i32_2508
  let c2_i32_2509 : BitVec 32 := 2#32
  let v5894 : BitVec 32 := Scalar.addi v5893 c2_i32_2509
  let v5895 : Index := Scalar.indexCast v5894
  ![v5895.toNat]
def k0_off691 (v5838 : BitVec 32) (v5896 : BitVec 32) : Fin 3 → Nat :=
  let v5902 : Index := Scalar.indexCast v5896
  let v5839 : BitVec 32 := v5838
  let v5903 : Index := Scalar.indexCast v5839
  let c0_2510 : Index := 0#32
  ![v5902.toNat, v5903.toNat, 0]

def k0_chk471 (v5838 : BitVec 32) (v5896 : BitVec 32) : Prop :=
  (∀ a, (k0_off691 v5838 v5896) a + S1x48x512.size a ≤ S64x64x512.size a)
theorem k0_off691_inb : ∀ (v5838 : BitVec 32) (v5896 : BitVec 32) (k0_hw471 : k0_chk471 v5838 v5896), ∀ a, (k0_off691 v5838 v5896) a + S1x48x512.size a ≤ S64x64x512.size a := fun v5838 v5896 k0_hw471 => k0_hw471

def k0_off692 (v5838 : BitVec 32) (v5898 : BitVec 32) : Fin 3 → Nat :=
  let v5906 : Index := Scalar.indexCast v5898
  let v5839 : BitVec 32 := v5838
  let v5907 : Index := Scalar.indexCast v5839
  let c0_2511 : Index := 0#32
  ![v5906.toNat, v5907.toNat, 0]

def k0_chk472 (v5838 : BitVec 32) (v5898 : BitVec 32) : Prop :=
  (∀ a, (k0_off692 v5838 v5898) a + S1x48x512.size a ≤ S64x64x512.size a)
theorem k0_off692_inb : ∀ (v5838 : BitVec 32) (v5898 : BitVec 32) (k0_hw472 : k0_chk472 v5838 v5898), ∀ a, (k0_off692 v5838 v5898) a + S1x48x512.size a ≤ S64x64x512.size a := fun v5838 v5898 k0_hw472 => k0_hw472

def k0_off693 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2518 : BitVec 32 := 31#32
  let v5918 : BitVec 32 := Scalar.addi v5 c31_i32_2518
  let c7_i32_2519 : BitVec 32 := 7#32
  let v5919 : BitVec 32 := Scalar.muli v5918 c7_i32_2519
  let c3_i32_2520 : BitVec 32 := 3#32
  let v5920 : BitVec 32 := Scalar.addi v5919 c3_i32_2520
  let v5921 : Index := Scalar.indexCast v5920
  ![v5921.toNat]
def k0_off694 (v5838 : BitVec 32) (v5922 : BitVec 32) : Fin 3 → Nat :=
  let v5928 : Index := Scalar.indexCast v5922
  let v5839 : BitVec 32 := v5838
  let v5929 : Index := Scalar.indexCast v5839
  let c0_2521 : Index := 0#32
  ![v5928.toNat, v5929.toNat, 0]

def k0_chk473 (v5838 : BitVec 32) (v5922 : BitVec 32) : Prop :=
  (∀ a, (k0_off694 v5838 v5922) a + S1x48x512.size a ≤ S64x64x512.size a)
theorem k0_off694_inb : ∀ (v5838 : BitVec 32) (v5922 : BitVec 32) (k0_hw473 : k0_chk473 v5838 v5922), ∀ a, (k0_off694 v5838 v5922) a + S1x48x512.size a ≤ S64x64x512.size a := fun v5838 v5922 k0_hw473 => k0_hw473

def k0_off695 (v5838 : BitVec 32) (v5924 : BitVec 32) : Fin 3 → Nat :=
  let v5932 : Index := Scalar.indexCast v5924
  let v5839 : BitVec 32 := v5838
  let v5933 : Index := Scalar.indexCast v5839
  let c0_2522 : Index := 0#32
  ![v5932.toNat, v5933.toNat, 0]

def k0_chk474 (v5838 : BitVec 32) (v5924 : BitVec 32) : Prop :=
  (∀ a, (k0_off695 v5838 v5924) a + S1x48x512.size a ≤ S64x64x512.size a)
theorem k0_off695_inb : ∀ (v5838 : BitVec 32) (v5924 : BitVec 32) (k0_hw474 : k0_chk474 v5838 v5924), ∀ a, (k0_off695 v5838 v5924) a + S1x48x512.size a ≤ S64x64x512.size a := fun v5838 v5924 k0_hw474 => k0_hw474

def k0_off696 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2529 : BitVec 32 := 31#32
  let v5944 : BitVec 32 := Scalar.addi v5 c31_i32_2529
  let c7_i32_2530 : BitVec 32 := 7#32
  let v5945 : BitVec 32 := Scalar.muli v5944 c7_i32_2530
  let c4_i32_2531 : BitVec 32 := 4#32
  let v5946 : BitVec 32 := Scalar.addi v5945 c4_i32_2531
  let v5947 : Index := Scalar.indexCast v5946
  ![v5947.toNat]
def k0_off697 (v5838 : BitVec 32) (v5948 : BitVec 32) : Fin 3 → Nat :=
  let v5954 : Index := Scalar.indexCast v5948
  let v5839 : BitVec 32 := v5838
  let v5955 : Index := Scalar.indexCast v5839
  let c0_2532 : Index := 0#32
  ![v5954.toNat, v5955.toNat, 0]

def k0_chk475 (v5838 : BitVec 32) (v5948 : BitVec 32) : Prop :=
  (∀ a, (k0_off697 v5838 v5948) a + S1x48x512.size a ≤ S64x64x512.size a)
theorem k0_off697_inb : ∀ (v5838 : BitVec 32) (v5948 : BitVec 32) (k0_hw475 : k0_chk475 v5838 v5948), ∀ a, (k0_off697 v5838 v5948) a + S1x48x512.size a ≤ S64x64x512.size a := fun v5838 v5948 k0_hw475 => k0_hw475

def k0_off698 (v5838 : BitVec 32) (v5950 : BitVec 32) : Fin 3 → Nat :=
  let v5958 : Index := Scalar.indexCast v5950
  let v5839 : BitVec 32 := v5838
  let v5959 : Index := Scalar.indexCast v5839
  let c0_2533 : Index := 0#32
  ![v5958.toNat, v5959.toNat, 0]

def k0_chk476 (v5838 : BitVec 32) (v5950 : BitVec 32) : Prop :=
  (∀ a, (k0_off698 v5838 v5950) a + S1x48x512.size a ≤ S64x64x512.size a)
theorem k0_off698_inb : ∀ (v5838 : BitVec 32) (v5950 : BitVec 32) (k0_hw476 : k0_chk476 v5838 v5950), ∀ a, (k0_off698 v5838 v5950) a + S1x48x512.size a ≤ S64x64x512.size a := fun v5838 v5950 k0_hw476 => k0_hw476

def k0_off699 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2540 : BitVec 32 := 31#32
  let v5970 : BitVec 32 := Scalar.addi v5 c31_i32_2540
  let c7_i32_2541 : BitVec 32 := 7#32
  let v5971 : BitVec 32 := Scalar.muli v5970 c7_i32_2541
  let c5_i32_2542 : BitVec 32 := 5#32
  let v5972 : BitVec 32 := Scalar.addi v5971 c5_i32_2542
  let v5973 : Index := Scalar.indexCast v5972
  ![v5973.toNat]
def k0_off700 (v5838 : BitVec 32) (v5974 : BitVec 32) : Fin 3 → Nat :=
  let v5980 : Index := Scalar.indexCast v5974
  let v5839 : BitVec 32 := v5838
  let v5981 : Index := Scalar.indexCast v5839
  let c0_2543 : Index := 0#32
  ![v5980.toNat, v5981.toNat, 0]

def k0_chk477 (v5838 : BitVec 32) (v5974 : BitVec 32) : Prop :=
  (∀ a, (k0_off700 v5838 v5974) a + S1x48x512.size a ≤ S64x64x512.size a)
theorem k0_off700_inb : ∀ (v5838 : BitVec 32) (v5974 : BitVec 32) (k0_hw477 : k0_chk477 v5838 v5974), ∀ a, (k0_off700 v5838 v5974) a + S1x48x512.size a ≤ S64x64x512.size a := fun v5838 v5974 k0_hw477 => k0_hw477

def k0_off701 (v5838 : BitVec 32) (v5976 : BitVec 32) : Fin 3 → Nat :=
  let v5984 : Index := Scalar.indexCast v5976
  let v5839 : BitVec 32 := v5838
  let v5985 : Index := Scalar.indexCast v5839
  let c0_2544 : Index := 0#32
  ![v5984.toNat, v5985.toNat, 0]

def k0_chk478 (v5838 : BitVec 32) (v5976 : BitVec 32) : Prop :=
  (∀ a, (k0_off701 v5838 v5976) a + S1x48x512.size a ≤ S64x64x512.size a)
theorem k0_off701_inb : ∀ (v5838 : BitVec 32) (v5976 : BitVec 32) (k0_hw478 : k0_chk478 v5838 v5976), ∀ a, (k0_off701 v5838 v5976) a + S1x48x512.size a ≤ S64x64x512.size a := fun v5838 v5976 k0_hw478 => k0_hw478

def k0_off702 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c31_i32_2551 : BitVec 32 := 31#32
  let v5996 : BitVec 32 := Scalar.addi v5 c31_i32_2551
  let c7_i32_2552 : BitVec 32 := 7#32
  let v5997 : BitVec 32 := Scalar.muli v5996 c7_i32_2552
  let c6_i32_2553 : BitVec 32 := 6#32
  let v5998 : BitVec 32 := Scalar.addi v5997 c6_i32_2553
  let v5999 : Index := Scalar.indexCast v5998
  ![v5999.toNat]
def k0_off703 (v5838 : BitVec 32) (v6000 : BitVec 32) : Fin 3 → Nat :=
  let v6006 : Index := Scalar.indexCast v6000
  let v5839 : BitVec 32 := v5838
  let v6007 : Index := Scalar.indexCast v5839
  let c0_2554 : Index := 0#32
  ![v6006.toNat, v6007.toNat, 0]

def k0_chk479 (v5838 : BitVec 32) (v6000 : BitVec 32) : Prop :=
  (∀ a, (k0_off703 v5838 v6000) a + S1x48x512.size a ≤ S64x64x512.size a)
theorem k0_off703_inb : ∀ (v5838 : BitVec 32) (v6000 : BitVec 32) (k0_hw479 : k0_chk479 v5838 v6000), ∀ a, (k0_off703 v5838 v6000) a + S1x48x512.size a ≤ S64x64x512.size a := fun v5838 v6000 k0_hw479 => k0_hw479

def k0_off704 (v5838 : BitVec 32) (v6002 : BitVec 32) : Fin 3 → Nat :=
  let v6010 : Index := Scalar.indexCast v6002
  let v5839 : BitVec 32 := v5838
  let v6011 : Index := Scalar.indexCast v5839
  let c0_2555 : Index := 0#32
  ![v6010.toNat, v6011.toNat, 0]

def k0_chk480 (v5838 : BitVec 32) (v6002 : BitVec 32) : Prop :=
  (∀ a, (k0_off704 v5838 v6002) a + S1x48x512.size a ≤ S64x64x512.size a)
theorem k0_off704_inb : ∀ (v5838 : BitVec 32) (v6002 : BitVec 32) (k0_hw480 : k0_chk480 v5838 v6002), ∀ a, (k0_off704 v5838 v6002) a + S1x48x512.size a ≤ S64x64x512.size a := fun v5838 v6002 k0_hw480 => k0_hw480

def k0_off705 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32 : BitVec 32 := 32#32
  let v6024 : BitVec 32 := Scalar.addi v5 c32_i32
  let v6025 : Index := Scalar.indexCast v6024
  ![v6025.toNat]
def k0_mult33 (v6026 : BitVec 32) : BitVec 32 :=
  v6026

def k0_chk481 (v6026 : BitVec 32) : Prop :=
  (16 ∣ (k0_mult33 v6026).toNat)
theorem k0_mult33_dvd : ∀ (v6026 : BitVec 32) (k0_hw481 : k0_chk481 v6026), 16 ∣ (k0_mult33 v6026).toNat := fun v6026 k0_hw481 => k0_hw481

def k0_off706 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2565 : BitVec 32 := 32#32
  let v6028 : BitVec 32 := Scalar.addi v5 c32_i32_2565
  let c7_i32_2566 : BitVec 32 := 7#32
  let v6029 : BitVec 32 := Scalar.muli v6028 c7_i32_2566
  let c0_i32_2567 : BitVec 32 := 0#32
  let v6030 : BitVec 32 := Scalar.addi v6029 c0_i32_2567
  let v6031 : Index := Scalar.indexCast v6030
  ![v6031.toNat]
def k0_off707 (v6026 : BitVec 32) (v6032 : BitVec 32) : Fin 3 → Nat :=
  let v6038 : Index := Scalar.indexCast v6032
  let v6027 : BitVec 32 := v6026
  let v6039 : Index := Scalar.indexCast v6027
  let c0_2568 : Index := 0#32
  ![v6038.toNat, v6039.toNat, 0]

def k0_chk482 (v6026 : BitVec 32) (v6032 : BitVec 32) : Prop :=
  (∀ a, (k0_off707 v6026 v6032) a + S1x48x512.size a ≤ S64x64x512.size a)
theorem k0_off707_inb : ∀ (v6026 : BitVec 32) (v6032 : BitVec 32) (k0_hw482 : k0_chk482 v6026 v6032), ∀ a, (k0_off707 v6026 v6032) a + S1x48x512.size a ≤ S64x64x512.size a := fun v6026 v6032 k0_hw482 => k0_hw482

def k0_off708 (v6026 : BitVec 32) (v6034 : BitVec 32) : Fin 3 → Nat :=
  let v6042 : Index := Scalar.indexCast v6034
  let v6027 : BitVec 32 := v6026
  let v6043 : Index := Scalar.indexCast v6027
  let c0_2569 : Index := 0#32
  ![v6042.toNat, v6043.toNat, 0]

def k0_chk483 (v6026 : BitVec 32) (v6034 : BitVec 32) : Prop :=
  (∀ a, (k0_off708 v6026 v6034) a + S1x48x512.size a ≤ S64x64x512.size a)
theorem k0_off708_inb : ∀ (v6026 : BitVec 32) (v6034 : BitVec 32) (k0_hw483 : k0_chk483 v6026 v6034), ∀ a, (k0_off708 v6026 v6034) a + S1x48x512.size a ≤ S64x64x512.size a := fun v6026 v6034 k0_hw483 => k0_hw483

def k0_off709 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2576 : BitVec 32 := 32#32
  let v6054 : BitVec 32 := Scalar.addi v5 c32_i32_2576
  let c7_i32_2577 : BitVec 32 := 7#32
  let v6055 : BitVec 32 := Scalar.muli v6054 c7_i32_2577
  let c1_i32_2578 : BitVec 32 := 1#32
  let v6056 : BitVec 32 := Scalar.addi v6055 c1_i32_2578
  let v6057 : Index := Scalar.indexCast v6056
  ![v6057.toNat]
def k0_off710 (v6026 : BitVec 32) (v6058 : BitVec 32) : Fin 3 → Nat :=
  let v6064 : Index := Scalar.indexCast v6058
  let v6027 : BitVec 32 := v6026
  let v6065 : Index := Scalar.indexCast v6027
  let c0_2579 : Index := 0#32
  ![v6064.toNat, v6065.toNat, 0]

def k0_chk484 (v6026 : BitVec 32) (v6058 : BitVec 32) : Prop :=
  (∀ a, (k0_off710 v6026 v6058) a + S1x48x512.size a ≤ S64x64x512.size a)
theorem k0_off710_inb : ∀ (v6026 : BitVec 32) (v6058 : BitVec 32) (k0_hw484 : k0_chk484 v6026 v6058), ∀ a, (k0_off710 v6026 v6058) a + S1x48x512.size a ≤ S64x64x512.size a := fun v6026 v6058 k0_hw484 => k0_hw484

def k0_off711 (v6026 : BitVec 32) (v6060 : BitVec 32) : Fin 3 → Nat :=
  let v6068 : Index := Scalar.indexCast v6060
  let v6027 : BitVec 32 := v6026
  let v6069 : Index := Scalar.indexCast v6027
  let c0_2580 : Index := 0#32
  ![v6068.toNat, v6069.toNat, 0]

def k0_chk485 (v6026 : BitVec 32) (v6060 : BitVec 32) : Prop :=
  (∀ a, (k0_off711 v6026 v6060) a + S1x48x512.size a ≤ S64x64x512.size a)
theorem k0_off711_inb : ∀ (v6026 : BitVec 32) (v6060 : BitVec 32) (k0_hw485 : k0_chk485 v6026 v6060), ∀ a, (k0_off711 v6026 v6060) a + S1x48x512.size a ≤ S64x64x512.size a := fun v6026 v6060 k0_hw485 => k0_hw485

def k0_off712 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2587 : BitVec 32 := 32#32
  let v6080 : BitVec 32 := Scalar.addi v5 c32_i32_2587
  let c7_i32_2588 : BitVec 32 := 7#32
  let v6081 : BitVec 32 := Scalar.muli v6080 c7_i32_2588
  let c2_i32_2589 : BitVec 32 := 2#32
  let v6082 : BitVec 32 := Scalar.addi v6081 c2_i32_2589
  let v6083 : Index := Scalar.indexCast v6082
  ![v6083.toNat]
def k0_off713 (v6026 : BitVec 32) (v6084 : BitVec 32) : Fin 3 → Nat :=
  let v6090 : Index := Scalar.indexCast v6084
  let v6027 : BitVec 32 := v6026
  let v6091 : Index := Scalar.indexCast v6027
  let c0_2590 : Index := 0#32
  ![v6090.toNat, v6091.toNat, 0]

def k0_chk486 (v6026 : BitVec 32) (v6084 : BitVec 32) : Prop :=
  (∀ a, (k0_off713 v6026 v6084) a + S1x48x512.size a ≤ S64x64x512.size a)
theorem k0_off713_inb : ∀ (v6026 : BitVec 32) (v6084 : BitVec 32) (k0_hw486 : k0_chk486 v6026 v6084), ∀ a, (k0_off713 v6026 v6084) a + S1x48x512.size a ≤ S64x64x512.size a := fun v6026 v6084 k0_hw486 => k0_hw486

def k0_off714 (v6026 : BitVec 32) (v6086 : BitVec 32) : Fin 3 → Nat :=
  let v6094 : Index := Scalar.indexCast v6086
  let v6027 : BitVec 32 := v6026
  let v6095 : Index := Scalar.indexCast v6027
  let c0_2591 : Index := 0#32
  ![v6094.toNat, v6095.toNat, 0]

def k0_chk487 (v6026 : BitVec 32) (v6086 : BitVec 32) : Prop :=
  (∀ a, (k0_off714 v6026 v6086) a + S1x48x512.size a ≤ S64x64x512.size a)
theorem k0_off714_inb : ∀ (v6026 : BitVec 32) (v6086 : BitVec 32) (k0_hw487 : k0_chk487 v6026 v6086), ∀ a, (k0_off714 v6026 v6086) a + S1x48x512.size a ≤ S64x64x512.size a := fun v6026 v6086 k0_hw487 => k0_hw487

def k0_off715 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2598 : BitVec 32 := 32#32
  let v6106 : BitVec 32 := Scalar.addi v5 c32_i32_2598
  let c7_i32_2599 : BitVec 32 := 7#32
  let v6107 : BitVec 32 := Scalar.muli v6106 c7_i32_2599
  let c3_i32_2600 : BitVec 32 := 3#32
  let v6108 : BitVec 32 := Scalar.addi v6107 c3_i32_2600
  let v6109 : Index := Scalar.indexCast v6108
  ![v6109.toNat]
def k0_off716 (v6026 : BitVec 32) (v6110 : BitVec 32) : Fin 3 → Nat :=
  let v6116 : Index := Scalar.indexCast v6110
  let v6027 : BitVec 32 := v6026
  let v6117 : Index := Scalar.indexCast v6027
  let c0_2601 : Index := 0#32
  ![v6116.toNat, v6117.toNat, 0]

def k0_chk488 (v6026 : BitVec 32) (v6110 : BitVec 32) : Prop :=
  (∀ a, (k0_off716 v6026 v6110) a + S1x48x512.size a ≤ S64x64x512.size a)
theorem k0_off716_inb : ∀ (v6026 : BitVec 32) (v6110 : BitVec 32) (k0_hw488 : k0_chk488 v6026 v6110), ∀ a, (k0_off716 v6026 v6110) a + S1x48x512.size a ≤ S64x64x512.size a := fun v6026 v6110 k0_hw488 => k0_hw488

def k0_off717 (v6026 : BitVec 32) (v6112 : BitVec 32) : Fin 3 → Nat :=
  let v6120 : Index := Scalar.indexCast v6112
  let v6027 : BitVec 32 := v6026
  let v6121 : Index := Scalar.indexCast v6027
  let c0_2602 : Index := 0#32
  ![v6120.toNat, v6121.toNat, 0]

def k0_chk489 (v6026 : BitVec 32) (v6112 : BitVec 32) : Prop :=
  (∀ a, (k0_off717 v6026 v6112) a + S1x48x512.size a ≤ S64x64x512.size a)
theorem k0_off717_inb : ∀ (v6026 : BitVec 32) (v6112 : BitVec 32) (k0_hw489 : k0_chk489 v6026 v6112), ∀ a, (k0_off717 v6026 v6112) a + S1x48x512.size a ≤ S64x64x512.size a := fun v6026 v6112 k0_hw489 => k0_hw489

def k0_off718 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2609 : BitVec 32 := 32#32
  let v6132 : BitVec 32 := Scalar.addi v5 c32_i32_2609
  let c7_i32_2610 : BitVec 32 := 7#32
  let v6133 : BitVec 32 := Scalar.muli v6132 c7_i32_2610
  let c4_i32_2611 : BitVec 32 := 4#32
  let v6134 : BitVec 32 := Scalar.addi v6133 c4_i32_2611
  let v6135 : Index := Scalar.indexCast v6134
  ![v6135.toNat]
def k0_off719 (v6026 : BitVec 32) (v6136 : BitVec 32) : Fin 3 → Nat :=
  let v6142 : Index := Scalar.indexCast v6136
  let v6027 : BitVec 32 := v6026
  let v6143 : Index := Scalar.indexCast v6027
  let c0_2612 : Index := 0#32
  ![v6142.toNat, v6143.toNat, 0]

def k0_chk490 (v6026 : BitVec 32) (v6136 : BitVec 32) : Prop :=
  (∀ a, (k0_off719 v6026 v6136) a + S1x48x512.size a ≤ S64x64x512.size a)
theorem k0_off719_inb : ∀ (v6026 : BitVec 32) (v6136 : BitVec 32) (k0_hw490 : k0_chk490 v6026 v6136), ∀ a, (k0_off719 v6026 v6136) a + S1x48x512.size a ≤ S64x64x512.size a := fun v6026 v6136 k0_hw490 => k0_hw490

def k0_off720 (v6026 : BitVec 32) (v6138 : BitVec 32) : Fin 3 → Nat :=
  let v6146 : Index := Scalar.indexCast v6138
  let v6027 : BitVec 32 := v6026
  let v6147 : Index := Scalar.indexCast v6027
  let c0_2613 : Index := 0#32
  ![v6146.toNat, v6147.toNat, 0]

def k0_chk491 (v6026 : BitVec 32) (v6138 : BitVec 32) : Prop :=
  (∀ a, (k0_off720 v6026 v6138) a + S1x48x512.size a ≤ S64x64x512.size a)
theorem k0_off720_inb : ∀ (v6026 : BitVec 32) (v6138 : BitVec 32) (k0_hw491 : k0_chk491 v6026 v6138), ∀ a, (k0_off720 v6026 v6138) a + S1x48x512.size a ≤ S64x64x512.size a := fun v6026 v6138 k0_hw491 => k0_hw491

def k0_off721 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2620 : BitVec 32 := 32#32
  let v6158 : BitVec 32 := Scalar.addi v5 c32_i32_2620
  let c7_i32_2621 : BitVec 32 := 7#32
  let v6159 : BitVec 32 := Scalar.muli v6158 c7_i32_2621
  let c5_i32_2622 : BitVec 32 := 5#32
  let v6160 : BitVec 32 := Scalar.addi v6159 c5_i32_2622
  let v6161 : Index := Scalar.indexCast v6160
  ![v6161.toNat]
def k0_off722 (v6026 : BitVec 32) (v6162 : BitVec 32) : Fin 3 → Nat :=
  let v6168 : Index := Scalar.indexCast v6162
  let v6027 : BitVec 32 := v6026
  let v6169 : Index := Scalar.indexCast v6027
  let c0_2623 : Index := 0#32
  ![v6168.toNat, v6169.toNat, 0]

def k0_chk492 (v6026 : BitVec 32) (v6162 : BitVec 32) : Prop :=
  (∀ a, (k0_off722 v6026 v6162) a + S1x48x512.size a ≤ S64x64x512.size a)
theorem k0_off722_inb : ∀ (v6026 : BitVec 32) (v6162 : BitVec 32) (k0_hw492 : k0_chk492 v6026 v6162), ∀ a, (k0_off722 v6026 v6162) a + S1x48x512.size a ≤ S64x64x512.size a := fun v6026 v6162 k0_hw492 => k0_hw492

def k0_off723 (v6026 : BitVec 32) (v6164 : BitVec 32) : Fin 3 → Nat :=
  let v6172 : Index := Scalar.indexCast v6164
  let v6027 : BitVec 32 := v6026
  let v6173 : Index := Scalar.indexCast v6027
  let c0_2624 : Index := 0#32
  ![v6172.toNat, v6173.toNat, 0]

def k0_chk493 (v6026 : BitVec 32) (v6164 : BitVec 32) : Prop :=
  (∀ a, (k0_off723 v6026 v6164) a + S1x48x512.size a ≤ S64x64x512.size a)
theorem k0_off723_inb : ∀ (v6026 : BitVec 32) (v6164 : BitVec 32) (k0_hw493 : k0_chk493 v6026 v6164), ∀ a, (k0_off723 v6026 v6164) a + S1x48x512.size a ≤ S64x64x512.size a := fun v6026 v6164 k0_hw493 => k0_hw493

def k0_off724 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c32_i32_2631 : BitVec 32 := 32#32
  let v6184 : BitVec 32 := Scalar.addi v5 c32_i32_2631
  let c7_i32_2632 : BitVec 32 := 7#32
  let v6185 : BitVec 32 := Scalar.muli v6184 c7_i32_2632
  let c6_i32_2633 : BitVec 32 := 6#32
  let v6186 : BitVec 32 := Scalar.addi v6185 c6_i32_2633
  let v6187 : Index := Scalar.indexCast v6186
  ![v6187.toNat]
def k0_off725 (v6026 : BitVec 32) (v6188 : BitVec 32) : Fin 3 → Nat :=
  let v6194 : Index := Scalar.indexCast v6188
  let v6027 : BitVec 32 := v6026
  let v6195 : Index := Scalar.indexCast v6027
  let c0_2634 : Index := 0#32
  ![v6194.toNat, v6195.toNat, 0]

def k0_chk494 (v6026 : BitVec 32) (v6188 : BitVec 32) : Prop :=
  (∀ a, (k0_off725 v6026 v6188) a + S1x48x512.size a ≤ S64x64x512.size a)
theorem k0_off725_inb : ∀ (v6026 : BitVec 32) (v6188 : BitVec 32) (k0_hw494 : k0_chk494 v6026 v6188), ∀ a, (k0_off725 v6026 v6188) a + S1x48x512.size a ≤ S64x64x512.size a := fun v6026 v6188 k0_hw494 => k0_hw494

def k0_off726 (v6026 : BitVec 32) (v6190 : BitVec 32) : Fin 3 → Nat :=
  let v6198 : Index := Scalar.indexCast v6190
  let v6027 : BitVec 32 := v6026
  let v6199 : Index := Scalar.indexCast v6027
  let c0_2635 : Index := 0#32
  ![v6198.toNat, v6199.toNat, 0]

def k0_chk495 (v6026 : BitVec 32) (v6190 : BitVec 32) : Prop :=
  (∀ a, (k0_off726 v6026 v6190) a + S1x48x512.size a ≤ S64x64x512.size a)
theorem k0_off726_inb : ∀ (v6026 : BitVec 32) (v6190 : BitVec 32) (k0_hw495 : k0_chk495 v6026 v6190), ∀ a, (k0_off726 v6026 v6190) a + S1x48x512.size a ≤ S64x64x512.size a := fun v6026 v6190 k0_hw495 => k0_hw495

def k0_off727 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32 : BitVec 32 := 33#32
  let v6212 : BitVec 32 := Scalar.addi v5 c33_i32
  let v6213 : Index := Scalar.indexCast v6212
  ![v6213.toNat]
def k0_mult34 (v6214 : BitVec 32) : BitVec 32 :=
  v6214

def k0_chk496 (v6214 : BitVec 32) : Prop :=
  (16 ∣ (k0_mult34 v6214).toNat)
theorem k0_mult34_dvd : ∀ (v6214 : BitVec 32) (k0_hw496 : k0_chk496 v6214), 16 ∣ (k0_mult34 v6214).toNat := fun v6214 k0_hw496 => k0_hw496

def k0_off728 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2645 : BitVec 32 := 33#32
  let v6216 : BitVec 32 := Scalar.addi v5 c33_i32_2645
  let c7_i32_2646 : BitVec 32 := 7#32
  let v6217 : BitVec 32 := Scalar.muli v6216 c7_i32_2646
  let c0_i32_2647 : BitVec 32 := 0#32
  let v6218 : BitVec 32 := Scalar.addi v6217 c0_i32_2647
  let v6219 : Index := Scalar.indexCast v6218
  ![v6219.toNat]
def k0_off729 (v6214 : BitVec 32) (v6220 : BitVec 32) : Fin 3 → Nat :=
  let v6226 : Index := Scalar.indexCast v6220
  let v6215 : BitVec 32 := v6214
  let v6227 : Index := Scalar.indexCast v6215
  let c0_2648 : Index := 0#32
  ![v6226.toNat, v6227.toNat, 0]

def k0_chk497 (v6214 : BitVec 32) (v6220 : BitVec 32) : Prop :=
  (∀ a, (k0_off729 v6214 v6220) a + S1x48x512.size a ≤ S64x64x512.size a)
theorem k0_off729_inb : ∀ (v6214 : BitVec 32) (v6220 : BitVec 32) (k0_hw497 : k0_chk497 v6214 v6220), ∀ a, (k0_off729 v6214 v6220) a + S1x48x512.size a ≤ S64x64x512.size a := fun v6214 v6220 k0_hw497 => k0_hw497

def k0_off730 (v6214 : BitVec 32) (v6222 : BitVec 32) : Fin 3 → Nat :=
  let v6230 : Index := Scalar.indexCast v6222
  let v6215 : BitVec 32 := v6214
  let v6231 : Index := Scalar.indexCast v6215
  let c0_2649 : Index := 0#32
  ![v6230.toNat, v6231.toNat, 0]

def k0_chk498 (v6214 : BitVec 32) (v6222 : BitVec 32) : Prop :=
  (∀ a, (k0_off730 v6214 v6222) a + S1x48x512.size a ≤ S64x64x512.size a)
theorem k0_off730_inb : ∀ (v6214 : BitVec 32) (v6222 : BitVec 32) (k0_hw498 : k0_chk498 v6214 v6222), ∀ a, (k0_off730 v6214 v6222) a + S1x48x512.size a ≤ S64x64x512.size a := fun v6214 v6222 k0_hw498 => k0_hw498

def k0_off731 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2656 : BitVec 32 := 33#32
  let v6242 : BitVec 32 := Scalar.addi v5 c33_i32_2656
  let c7_i32_2657 : BitVec 32 := 7#32
  let v6243 : BitVec 32 := Scalar.muli v6242 c7_i32_2657
  let c1_i32_2658 : BitVec 32 := 1#32
  let v6244 : BitVec 32 := Scalar.addi v6243 c1_i32_2658
  let v6245 : Index := Scalar.indexCast v6244
  ![v6245.toNat]
def k0_off732 (v6214 : BitVec 32) (v6246 : BitVec 32) : Fin 3 → Nat :=
  let v6252 : Index := Scalar.indexCast v6246
  let v6215 : BitVec 32 := v6214
  let v6253 : Index := Scalar.indexCast v6215
  let c0_2659 : Index := 0#32
  ![v6252.toNat, v6253.toNat, 0]

def k0_chk499 (v6214 : BitVec 32) (v6246 : BitVec 32) : Prop :=
  (∀ a, (k0_off732 v6214 v6246) a + S1x48x512.size a ≤ S64x64x512.size a)
theorem k0_off732_inb : ∀ (v6214 : BitVec 32) (v6246 : BitVec 32) (k0_hw499 : k0_chk499 v6214 v6246), ∀ a, (k0_off732 v6214 v6246) a + S1x48x512.size a ≤ S64x64x512.size a := fun v6214 v6246 k0_hw499 => k0_hw499

def k0_off733 (v6214 : BitVec 32) (v6248 : BitVec 32) : Fin 3 → Nat :=
  let v6256 : Index := Scalar.indexCast v6248
  let v6215 : BitVec 32 := v6214
  let v6257 : Index := Scalar.indexCast v6215
  let c0_2660 : Index := 0#32
  ![v6256.toNat, v6257.toNat, 0]

def k0_chk500 (v6214 : BitVec 32) (v6248 : BitVec 32) : Prop :=
  (∀ a, (k0_off733 v6214 v6248) a + S1x48x512.size a ≤ S64x64x512.size a)
theorem k0_off733_inb : ∀ (v6214 : BitVec 32) (v6248 : BitVec 32) (k0_hw500 : k0_chk500 v6214 v6248), ∀ a, (k0_off733 v6214 v6248) a + S1x48x512.size a ≤ S64x64x512.size a := fun v6214 v6248 k0_hw500 => k0_hw500

def k0_off734 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2667 : BitVec 32 := 33#32
  let v6268 : BitVec 32 := Scalar.addi v5 c33_i32_2667
  let c7_i32_2668 : BitVec 32 := 7#32
  let v6269 : BitVec 32 := Scalar.muli v6268 c7_i32_2668
  let c2_i32_2669 : BitVec 32 := 2#32
  let v6270 : BitVec 32 := Scalar.addi v6269 c2_i32_2669
  let v6271 : Index := Scalar.indexCast v6270
  ![v6271.toNat]
def k0_off735 (v6214 : BitVec 32) (v6272 : BitVec 32) : Fin 3 → Nat :=
  let v6278 : Index := Scalar.indexCast v6272
  let v6215 : BitVec 32 := v6214
  let v6279 : Index := Scalar.indexCast v6215
  let c0_2670 : Index := 0#32
  ![v6278.toNat, v6279.toNat, 0]

def k0_chk501 (v6214 : BitVec 32) (v6272 : BitVec 32) : Prop :=
  (∀ a, (k0_off735 v6214 v6272) a + S1x48x512.size a ≤ S64x64x512.size a)
theorem k0_off735_inb : ∀ (v6214 : BitVec 32) (v6272 : BitVec 32) (k0_hw501 : k0_chk501 v6214 v6272), ∀ a, (k0_off735 v6214 v6272) a + S1x48x512.size a ≤ S64x64x512.size a := fun v6214 v6272 k0_hw501 => k0_hw501

def k0_off736 (v6214 : BitVec 32) (v6274 : BitVec 32) : Fin 3 → Nat :=
  let v6282 : Index := Scalar.indexCast v6274
  let v6215 : BitVec 32 := v6214
  let v6283 : Index := Scalar.indexCast v6215
  let c0_2671 : Index := 0#32
  ![v6282.toNat, v6283.toNat, 0]

def k0_chk502 (v6214 : BitVec 32) (v6274 : BitVec 32) : Prop :=
  (∀ a, (k0_off736 v6214 v6274) a + S1x48x512.size a ≤ S64x64x512.size a)
theorem k0_off736_inb : ∀ (v6214 : BitVec 32) (v6274 : BitVec 32) (k0_hw502 : k0_chk502 v6214 v6274), ∀ a, (k0_off736 v6214 v6274) a + S1x48x512.size a ≤ S64x64x512.size a := fun v6214 v6274 k0_hw502 => k0_hw502

def k0_off737 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2678 : BitVec 32 := 33#32
  let v6294 : BitVec 32 := Scalar.addi v5 c33_i32_2678
  let c7_i32_2679 : BitVec 32 := 7#32
  let v6295 : BitVec 32 := Scalar.muli v6294 c7_i32_2679
  let c3_i32_2680 : BitVec 32 := 3#32
  let v6296 : BitVec 32 := Scalar.addi v6295 c3_i32_2680
  let v6297 : Index := Scalar.indexCast v6296
  ![v6297.toNat]
def k0_off738 (v6214 : BitVec 32) (v6298 : BitVec 32) : Fin 3 → Nat :=
  let v6304 : Index := Scalar.indexCast v6298
  let v6215 : BitVec 32 := v6214
  let v6305 : Index := Scalar.indexCast v6215
  let c0_2681 : Index := 0#32
  ![v6304.toNat, v6305.toNat, 0]

def k0_chk503 (v6214 : BitVec 32) (v6298 : BitVec 32) : Prop :=
  (∀ a, (k0_off738 v6214 v6298) a + S1x48x512.size a ≤ S64x64x512.size a)
theorem k0_off738_inb : ∀ (v6214 : BitVec 32) (v6298 : BitVec 32) (k0_hw503 : k0_chk503 v6214 v6298), ∀ a, (k0_off738 v6214 v6298) a + S1x48x512.size a ≤ S64x64x512.size a := fun v6214 v6298 k0_hw503 => k0_hw503

def k0_off739 (v6214 : BitVec 32) (v6300 : BitVec 32) : Fin 3 → Nat :=
  let v6308 : Index := Scalar.indexCast v6300
  let v6215 : BitVec 32 := v6214
  let v6309 : Index := Scalar.indexCast v6215
  let c0_2682 : Index := 0#32
  ![v6308.toNat, v6309.toNat, 0]

def k0_chk504 (v6214 : BitVec 32) (v6300 : BitVec 32) : Prop :=
  (∀ a, (k0_off739 v6214 v6300) a + S1x48x512.size a ≤ S64x64x512.size a)
theorem k0_off739_inb : ∀ (v6214 : BitVec 32) (v6300 : BitVec 32) (k0_hw504 : k0_chk504 v6214 v6300), ∀ a, (k0_off739 v6214 v6300) a + S1x48x512.size a ≤ S64x64x512.size a := fun v6214 v6300 k0_hw504 => k0_hw504

def k0_off740 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2689 : BitVec 32 := 33#32
  let v6320 : BitVec 32 := Scalar.addi v5 c33_i32_2689
  let c7_i32_2690 : BitVec 32 := 7#32
  let v6321 : BitVec 32 := Scalar.muli v6320 c7_i32_2690
  let c4_i32_2691 : BitVec 32 := 4#32
  let v6322 : BitVec 32 := Scalar.addi v6321 c4_i32_2691
  let v6323 : Index := Scalar.indexCast v6322
  ![v6323.toNat]
def k0_off741 (v6214 : BitVec 32) (v6324 : BitVec 32) : Fin 3 → Nat :=
  let v6330 : Index := Scalar.indexCast v6324
  let v6215 : BitVec 32 := v6214
  let v6331 : Index := Scalar.indexCast v6215
  let c0_2692 : Index := 0#32
  ![v6330.toNat, v6331.toNat, 0]

def k0_chk505 (v6214 : BitVec 32) (v6324 : BitVec 32) : Prop :=
  (∀ a, (k0_off741 v6214 v6324) a + S1x48x512.size a ≤ S64x64x512.size a)
theorem k0_off741_inb : ∀ (v6214 : BitVec 32) (v6324 : BitVec 32) (k0_hw505 : k0_chk505 v6214 v6324), ∀ a, (k0_off741 v6214 v6324) a + S1x48x512.size a ≤ S64x64x512.size a := fun v6214 v6324 k0_hw505 => k0_hw505

def k0_off742 (v6214 : BitVec 32) (v6326 : BitVec 32) : Fin 3 → Nat :=
  let v6334 : Index := Scalar.indexCast v6326
  let v6215 : BitVec 32 := v6214
  let v6335 : Index := Scalar.indexCast v6215
  let c0_2693 : Index := 0#32
  ![v6334.toNat, v6335.toNat, 0]

def k0_chk506 (v6214 : BitVec 32) (v6326 : BitVec 32) : Prop :=
  (∀ a, (k0_off742 v6214 v6326) a + S1x48x512.size a ≤ S64x64x512.size a)
theorem k0_off742_inb : ∀ (v6214 : BitVec 32) (v6326 : BitVec 32) (k0_hw506 : k0_chk506 v6214 v6326), ∀ a, (k0_off742 v6214 v6326) a + S1x48x512.size a ≤ S64x64x512.size a := fun v6214 v6326 k0_hw506 => k0_hw506

def k0_off743 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2700 : BitVec 32 := 33#32
  let v6346 : BitVec 32 := Scalar.addi v5 c33_i32_2700
  let c7_i32_2701 : BitVec 32 := 7#32
  let v6347 : BitVec 32 := Scalar.muli v6346 c7_i32_2701
  let c5_i32_2702 : BitVec 32 := 5#32
  let v6348 : BitVec 32 := Scalar.addi v6347 c5_i32_2702
  let v6349 : Index := Scalar.indexCast v6348
  ![v6349.toNat]
def k0_off744 (v6214 : BitVec 32) (v6350 : BitVec 32) : Fin 3 → Nat :=
  let v6356 : Index := Scalar.indexCast v6350
  let v6215 : BitVec 32 := v6214
  let v6357 : Index := Scalar.indexCast v6215
  let c0_2703 : Index := 0#32
  ![v6356.toNat, v6357.toNat, 0]

def k0_chk507 (v6214 : BitVec 32) (v6350 : BitVec 32) : Prop :=
  (∀ a, (k0_off744 v6214 v6350) a + S1x48x512.size a ≤ S64x64x512.size a)
theorem k0_off744_inb : ∀ (v6214 : BitVec 32) (v6350 : BitVec 32) (k0_hw507 : k0_chk507 v6214 v6350), ∀ a, (k0_off744 v6214 v6350) a + S1x48x512.size a ≤ S64x64x512.size a := fun v6214 v6350 k0_hw507 => k0_hw507

def k0_off745 (v6214 : BitVec 32) (v6352 : BitVec 32) : Fin 3 → Nat :=
  let v6360 : Index := Scalar.indexCast v6352
  let v6215 : BitVec 32 := v6214
  let v6361 : Index := Scalar.indexCast v6215
  let c0_2704 : Index := 0#32
  ![v6360.toNat, v6361.toNat, 0]

def k0_chk508 (v6214 : BitVec 32) (v6352 : BitVec 32) : Prop :=
  (∀ a, (k0_off745 v6214 v6352) a + S1x48x512.size a ≤ S64x64x512.size a)
theorem k0_off745_inb : ∀ (v6214 : BitVec 32) (v6352 : BitVec 32) (k0_hw508 : k0_chk508 v6214 v6352), ∀ a, (k0_off745 v6214 v6352) a + S1x48x512.size a ≤ S64x64x512.size a := fun v6214 v6352 k0_hw508 => k0_hw508

def k0_off746 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c33_i32_2711 : BitVec 32 := 33#32
  let v6372 : BitVec 32 := Scalar.addi v5 c33_i32_2711
  let c7_i32_2712 : BitVec 32 := 7#32
  let v6373 : BitVec 32 := Scalar.muli v6372 c7_i32_2712
  let c6_i32_2713 : BitVec 32 := 6#32
  let v6374 : BitVec 32 := Scalar.addi v6373 c6_i32_2713
  let v6375 : Index := Scalar.indexCast v6374
  ![v6375.toNat]
def k0_off747 (v6214 : BitVec 32) (v6376 : BitVec 32) : Fin 3 → Nat :=
  let v6382 : Index := Scalar.indexCast v6376
  let v6215 : BitVec 32 := v6214
  let v6383 : Index := Scalar.indexCast v6215
  let c0_2714 : Index := 0#32
  ![v6382.toNat, v6383.toNat, 0]

def k0_chk509 (v6214 : BitVec 32) (v6376 : BitVec 32) : Prop :=
  (∀ a, (k0_off747 v6214 v6376) a + S1x48x512.size a ≤ S64x64x512.size a)
theorem k0_off747_inb : ∀ (v6214 : BitVec 32) (v6376 : BitVec 32) (k0_hw509 : k0_chk509 v6214 v6376), ∀ a, (k0_off747 v6214 v6376) a + S1x48x512.size a ≤ S64x64x512.size a := fun v6214 v6376 k0_hw509 => k0_hw509

def k0_off748 (v6214 : BitVec 32) (v6378 : BitVec 32) : Fin 3 → Nat :=
  let v6386 : Index := Scalar.indexCast v6378
  let v6215 : BitVec 32 := v6214
  let v6387 : Index := Scalar.indexCast v6215
  let c0_2715 : Index := 0#32
  ![v6386.toNat, v6387.toNat, 0]

def k0_chk510 (v6214 : BitVec 32) (v6378 : BitVec 32) : Prop :=
  (∀ a, (k0_off748 v6214 v6378) a + S1x48x512.size a ≤ S64x64x512.size a)
theorem k0_off748_inb : ∀ (v6214 : BitVec 32) (v6378 : BitVec 32) (k0_hw510 : k0_chk510 v6214 v6378), ∀ a, (k0_off748 v6214 v6378) a + S1x48x512.size a ≤ S64x64x512.size a := fun v6214 v6378 k0_hw510 => k0_hw510

def k0_off749 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32 : BitVec 32 := 34#32
  let v6400 : BitVec 32 := Scalar.addi v5 c34_i32
  let v6401 : Index := Scalar.indexCast v6400
  ![v6401.toNat]
def k0_mult35 (v6402 : BitVec 32) : BitVec 32 :=
  v6402

def k0_chk511 (v6402 : BitVec 32) : Prop :=
  (16 ∣ (k0_mult35 v6402).toNat)
theorem k0_mult35_dvd : ∀ (v6402 : BitVec 32) (k0_hw511 : k0_chk511 v6402), 16 ∣ (k0_mult35 v6402).toNat := fun v6402 k0_hw511 => k0_hw511

def k0_off750 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2725 : BitVec 32 := 34#32
  let v6404 : BitVec 32 := Scalar.addi v5 c34_i32_2725
  let c7_i32_2726 : BitVec 32 := 7#32
  let v6405 : BitVec 32 := Scalar.muli v6404 c7_i32_2726
  let c0_i32_2727 : BitVec 32 := 0#32
  let v6406 : BitVec 32 := Scalar.addi v6405 c0_i32_2727
  let v6407 : Index := Scalar.indexCast v6406
  ![v6407.toNat]
def k0_off751 (v6402 : BitVec 32) (v6408 : BitVec 32) : Fin 3 → Nat :=
  let v6414 : Index := Scalar.indexCast v6408
  let v6403 : BitVec 32 := v6402
  let v6415 : Index := Scalar.indexCast v6403
  let c0_2728 : Index := 0#32
  ![v6414.toNat, v6415.toNat, 0]

def k0_chk512 (v6402 : BitVec 32) (v6408 : BitVec 32) : Prop :=
  (∀ a, (k0_off751 v6402 v6408) a + S1x48x512.size a ≤ S64x64x512.size a)
theorem k0_off751_inb : ∀ (v6402 : BitVec 32) (v6408 : BitVec 32) (k0_hw512 : k0_chk512 v6402 v6408), ∀ a, (k0_off751 v6402 v6408) a + S1x48x512.size a ≤ S64x64x512.size a := fun v6402 v6408 k0_hw512 => k0_hw512

def k0_off752 (v6402 : BitVec 32) (v6410 : BitVec 32) : Fin 3 → Nat :=
  let v6418 : Index := Scalar.indexCast v6410
  let v6403 : BitVec 32 := v6402
  let v6419 : Index := Scalar.indexCast v6403
  let c0_2729 : Index := 0#32
  ![v6418.toNat, v6419.toNat, 0]

def k0_chk513 (v6402 : BitVec 32) (v6410 : BitVec 32) : Prop :=
  (∀ a, (k0_off752 v6402 v6410) a + S1x48x512.size a ≤ S64x64x512.size a)
theorem k0_off752_inb : ∀ (v6402 : BitVec 32) (v6410 : BitVec 32) (k0_hw513 : k0_chk513 v6402 v6410), ∀ a, (k0_off752 v6402 v6410) a + S1x48x512.size a ≤ S64x64x512.size a := fun v6402 v6410 k0_hw513 => k0_hw513

def k0_off753 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2736 : BitVec 32 := 34#32
  let v6430 : BitVec 32 := Scalar.addi v5 c34_i32_2736
  let c7_i32_2737 : BitVec 32 := 7#32
  let v6431 : BitVec 32 := Scalar.muli v6430 c7_i32_2737
  let c1_i32_2738 : BitVec 32 := 1#32
  let v6432 : BitVec 32 := Scalar.addi v6431 c1_i32_2738
  let v6433 : Index := Scalar.indexCast v6432
  ![v6433.toNat]
def k0_off754 (v6402 : BitVec 32) (v6434 : BitVec 32) : Fin 3 → Nat :=
  let v6440 : Index := Scalar.indexCast v6434
  let v6403 : BitVec 32 := v6402
  let v6441 : Index := Scalar.indexCast v6403
  let c0_2739 : Index := 0#32
  ![v6440.toNat, v6441.toNat, 0]

def k0_chk514 (v6402 : BitVec 32) (v6434 : BitVec 32) : Prop :=
  (∀ a, (k0_off754 v6402 v6434) a + S1x48x512.size a ≤ S64x64x512.size a)
theorem k0_off754_inb : ∀ (v6402 : BitVec 32) (v6434 : BitVec 32) (k0_hw514 : k0_chk514 v6402 v6434), ∀ a, (k0_off754 v6402 v6434) a + S1x48x512.size a ≤ S64x64x512.size a := fun v6402 v6434 k0_hw514 => k0_hw514

def k0_off755 (v6402 : BitVec 32) (v6436 : BitVec 32) : Fin 3 → Nat :=
  let v6444 : Index := Scalar.indexCast v6436
  let v6403 : BitVec 32 := v6402
  let v6445 : Index := Scalar.indexCast v6403
  let c0_2740 : Index := 0#32
  ![v6444.toNat, v6445.toNat, 0]

def k0_chk515 (v6402 : BitVec 32) (v6436 : BitVec 32) : Prop :=
  (∀ a, (k0_off755 v6402 v6436) a + S1x48x512.size a ≤ S64x64x512.size a)
theorem k0_off755_inb : ∀ (v6402 : BitVec 32) (v6436 : BitVec 32) (k0_hw515 : k0_chk515 v6402 v6436), ∀ a, (k0_off755 v6402 v6436) a + S1x48x512.size a ≤ S64x64x512.size a := fun v6402 v6436 k0_hw515 => k0_hw515

def k0_off756 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2747 : BitVec 32 := 34#32
  let v6456 : BitVec 32 := Scalar.addi v5 c34_i32_2747
  let c7_i32_2748 : BitVec 32 := 7#32
  let v6457 : BitVec 32 := Scalar.muli v6456 c7_i32_2748
  let c2_i32_2749 : BitVec 32 := 2#32
  let v6458 : BitVec 32 := Scalar.addi v6457 c2_i32_2749
  let v6459 : Index := Scalar.indexCast v6458
  ![v6459.toNat]
def k0_off757 (v6402 : BitVec 32) (v6460 : BitVec 32) : Fin 3 → Nat :=
  let v6466 : Index := Scalar.indexCast v6460
  let v6403 : BitVec 32 := v6402
  let v6467 : Index := Scalar.indexCast v6403
  let c0_2750 : Index := 0#32
  ![v6466.toNat, v6467.toNat, 0]

def k0_chk516 (v6402 : BitVec 32) (v6460 : BitVec 32) : Prop :=
  (∀ a, (k0_off757 v6402 v6460) a + S1x48x512.size a ≤ S64x64x512.size a)
theorem k0_off757_inb : ∀ (v6402 : BitVec 32) (v6460 : BitVec 32) (k0_hw516 : k0_chk516 v6402 v6460), ∀ a, (k0_off757 v6402 v6460) a + S1x48x512.size a ≤ S64x64x512.size a := fun v6402 v6460 k0_hw516 => k0_hw516

def k0_off758 (v6402 : BitVec 32) (v6462 : BitVec 32) : Fin 3 → Nat :=
  let v6470 : Index := Scalar.indexCast v6462
  let v6403 : BitVec 32 := v6402
  let v6471 : Index := Scalar.indexCast v6403
  let c0_2751 : Index := 0#32
  ![v6470.toNat, v6471.toNat, 0]

def k0_chk517 (v6402 : BitVec 32) (v6462 : BitVec 32) : Prop :=
  (∀ a, (k0_off758 v6402 v6462) a + S1x48x512.size a ≤ S64x64x512.size a)
theorem k0_off758_inb : ∀ (v6402 : BitVec 32) (v6462 : BitVec 32) (k0_hw517 : k0_chk517 v6402 v6462), ∀ a, (k0_off758 v6402 v6462) a + S1x48x512.size a ≤ S64x64x512.size a := fun v6402 v6462 k0_hw517 => k0_hw517

def k0_off759 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2758 : BitVec 32 := 34#32
  let v6482 : BitVec 32 := Scalar.addi v5 c34_i32_2758
  let c7_i32_2759 : BitVec 32 := 7#32
  let v6483 : BitVec 32 := Scalar.muli v6482 c7_i32_2759
  let c3_i32_2760 : BitVec 32 := 3#32
  let v6484 : BitVec 32 := Scalar.addi v6483 c3_i32_2760
  let v6485 : Index := Scalar.indexCast v6484
  ![v6485.toNat]
def k0_off760 (v6402 : BitVec 32) (v6486 : BitVec 32) : Fin 3 → Nat :=
  let v6492 : Index := Scalar.indexCast v6486
  let v6403 : BitVec 32 := v6402
  let v6493 : Index := Scalar.indexCast v6403
  let c0_2761 : Index := 0#32
  ![v6492.toNat, v6493.toNat, 0]

def k0_chk518 (v6402 : BitVec 32) (v6486 : BitVec 32) : Prop :=
  (∀ a, (k0_off760 v6402 v6486) a + S1x48x512.size a ≤ S64x64x512.size a)
theorem k0_off760_inb : ∀ (v6402 : BitVec 32) (v6486 : BitVec 32) (k0_hw518 : k0_chk518 v6402 v6486), ∀ a, (k0_off760 v6402 v6486) a + S1x48x512.size a ≤ S64x64x512.size a := fun v6402 v6486 k0_hw518 => k0_hw518

def k0_off761 (v6402 : BitVec 32) (v6488 : BitVec 32) : Fin 3 → Nat :=
  let v6496 : Index := Scalar.indexCast v6488
  let v6403 : BitVec 32 := v6402
  let v6497 : Index := Scalar.indexCast v6403
  let c0_2762 : Index := 0#32
  ![v6496.toNat, v6497.toNat, 0]

def k0_chk519 (v6402 : BitVec 32) (v6488 : BitVec 32) : Prop :=
  (∀ a, (k0_off761 v6402 v6488) a + S1x48x512.size a ≤ S64x64x512.size a)
theorem k0_off761_inb : ∀ (v6402 : BitVec 32) (v6488 : BitVec 32) (k0_hw519 : k0_chk519 v6402 v6488), ∀ a, (k0_off761 v6402 v6488) a + S1x48x512.size a ≤ S64x64x512.size a := fun v6402 v6488 k0_hw519 => k0_hw519

def k0_off762 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2769 : BitVec 32 := 34#32
  let v6508 : BitVec 32 := Scalar.addi v5 c34_i32_2769
  let c7_i32_2770 : BitVec 32 := 7#32
  let v6509 : BitVec 32 := Scalar.muli v6508 c7_i32_2770
  let c4_i32_2771 : BitVec 32 := 4#32
  let v6510 : BitVec 32 := Scalar.addi v6509 c4_i32_2771
  let v6511 : Index := Scalar.indexCast v6510
  ![v6511.toNat]
def k0_off763 (v6402 : BitVec 32) (v6512 : BitVec 32) : Fin 3 → Nat :=
  let v6518 : Index := Scalar.indexCast v6512
  let v6403 : BitVec 32 := v6402
  let v6519 : Index := Scalar.indexCast v6403
  let c0_2772 : Index := 0#32
  ![v6518.toNat, v6519.toNat, 0]

def k0_chk520 (v6402 : BitVec 32) (v6512 : BitVec 32) : Prop :=
  (∀ a, (k0_off763 v6402 v6512) a + S1x48x512.size a ≤ S64x64x512.size a)
theorem k0_off763_inb : ∀ (v6402 : BitVec 32) (v6512 : BitVec 32) (k0_hw520 : k0_chk520 v6402 v6512), ∀ a, (k0_off763 v6402 v6512) a + S1x48x512.size a ≤ S64x64x512.size a := fun v6402 v6512 k0_hw520 => k0_hw520

def k0_off764 (v6402 : BitVec 32) (v6514 : BitVec 32) : Fin 3 → Nat :=
  let v6522 : Index := Scalar.indexCast v6514
  let v6403 : BitVec 32 := v6402
  let v6523 : Index := Scalar.indexCast v6403
  let c0_2773 : Index := 0#32
  ![v6522.toNat, v6523.toNat, 0]

def k0_chk521 (v6402 : BitVec 32) (v6514 : BitVec 32) : Prop :=
  (∀ a, (k0_off764 v6402 v6514) a + S1x48x512.size a ≤ S64x64x512.size a)
theorem k0_off764_inb : ∀ (v6402 : BitVec 32) (v6514 : BitVec 32) (k0_hw521 : k0_chk521 v6402 v6514), ∀ a, (k0_off764 v6402 v6514) a + S1x48x512.size a ≤ S64x64x512.size a := fun v6402 v6514 k0_hw521 => k0_hw521

def k0_off765 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2780 : BitVec 32 := 34#32
  let v6534 : BitVec 32 := Scalar.addi v5 c34_i32_2780
  let c7_i32_2781 : BitVec 32 := 7#32
  let v6535 : BitVec 32 := Scalar.muli v6534 c7_i32_2781
  let c5_i32_2782 : BitVec 32 := 5#32
  let v6536 : BitVec 32 := Scalar.addi v6535 c5_i32_2782
  let v6537 : Index := Scalar.indexCast v6536
  ![v6537.toNat]
def k0_off766 (v6402 : BitVec 32) (v6538 : BitVec 32) : Fin 3 → Nat :=
  let v6544 : Index := Scalar.indexCast v6538
  let v6403 : BitVec 32 := v6402
  let v6545 : Index := Scalar.indexCast v6403
  let c0_2783 : Index := 0#32
  ![v6544.toNat, v6545.toNat, 0]

def k0_chk522 (v6402 : BitVec 32) (v6538 : BitVec 32) : Prop :=
  (∀ a, (k0_off766 v6402 v6538) a + S1x48x512.size a ≤ S64x64x512.size a)
theorem k0_off766_inb : ∀ (v6402 : BitVec 32) (v6538 : BitVec 32) (k0_hw522 : k0_chk522 v6402 v6538), ∀ a, (k0_off766 v6402 v6538) a + S1x48x512.size a ≤ S64x64x512.size a := fun v6402 v6538 k0_hw522 => k0_hw522

def k0_off767 (v6402 : BitVec 32) (v6540 : BitVec 32) : Fin 3 → Nat :=
  let v6548 : Index := Scalar.indexCast v6540
  let v6403 : BitVec 32 := v6402
  let v6549 : Index := Scalar.indexCast v6403
  let c0_2784 : Index := 0#32
  ![v6548.toNat, v6549.toNat, 0]

def k0_chk523 (v6402 : BitVec 32) (v6540 : BitVec 32) : Prop :=
  (∀ a, (k0_off767 v6402 v6540) a + S1x48x512.size a ≤ S64x64x512.size a)
theorem k0_off767_inb : ∀ (v6402 : BitVec 32) (v6540 : BitVec 32) (k0_hw523 : k0_chk523 v6402 v6540), ∀ a, (k0_off767 v6402 v6540) a + S1x48x512.size a ≤ S64x64x512.size a := fun v6402 v6540 k0_hw523 => k0_hw523

def k0_off768 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c34_i32_2791 : BitVec 32 := 34#32
  let v6560 : BitVec 32 := Scalar.addi v5 c34_i32_2791
  let c7_i32_2792 : BitVec 32 := 7#32
  let v6561 : BitVec 32 := Scalar.muli v6560 c7_i32_2792
  let c6_i32_2793 : BitVec 32 := 6#32
  let v6562 : BitVec 32 := Scalar.addi v6561 c6_i32_2793
  let v6563 : Index := Scalar.indexCast v6562
  ![v6563.toNat]
def k0_off769 (v6402 : BitVec 32) (v6564 : BitVec 32) : Fin 3 → Nat :=
  let v6570 : Index := Scalar.indexCast v6564
  let v6403 : BitVec 32 := v6402
  let v6571 : Index := Scalar.indexCast v6403
  let c0_2794 : Index := 0#32
  ![v6570.toNat, v6571.toNat, 0]

def k0_chk524 (v6402 : BitVec 32) (v6564 : BitVec 32) : Prop :=
  (∀ a, (k0_off769 v6402 v6564) a + S1x48x512.size a ≤ S64x64x512.size a)
theorem k0_off769_inb : ∀ (v6402 : BitVec 32) (v6564 : BitVec 32) (k0_hw524 : k0_chk524 v6402 v6564), ∀ a, (k0_off769 v6402 v6564) a + S1x48x512.size a ≤ S64x64x512.size a := fun v6402 v6564 k0_hw524 => k0_hw524

def k0_off770 (v6402 : BitVec 32) (v6566 : BitVec 32) : Fin 3 → Nat :=
  let v6574 : Index := Scalar.indexCast v6566
  let v6403 : BitVec 32 := v6402
  let v6575 : Index := Scalar.indexCast v6403
  let c0_2795 : Index := 0#32
  ![v6574.toNat, v6575.toNat, 0]

def k0_chk525 (v6402 : BitVec 32) (v6566 : BitVec 32) : Prop :=
  (∀ a, (k0_off770 v6402 v6566) a + S1x48x512.size a ≤ S64x64x512.size a)
theorem k0_off770_inb : ∀ (v6402 : BitVec 32) (v6566 : BitVec 32) (k0_hw525 : k0_chk525 v6402 v6566), ∀ a, (k0_off770 v6402 v6566) a + S1x48x512.size a ≤ S64x64x512.size a := fun v6402 v6566 k0_hw525 => k0_hw525

def k0_off771 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32 : BitVec 32 := 35#32
  let v6588 : BitVec 32 := Scalar.addi v5 c35_i32
  let v6589 : Index := Scalar.indexCast v6588
  ![v6589.toNat]
def k0_mult36 (v6590 : BitVec 32) : BitVec 32 :=
  v6590

def k0_chk526 (v6590 : BitVec 32) : Prop :=
  (16 ∣ (k0_mult36 v6590).toNat)
theorem k0_mult36_dvd : ∀ (v6590 : BitVec 32) (k0_hw526 : k0_chk526 v6590), 16 ∣ (k0_mult36 v6590).toNat := fun v6590 k0_hw526 => k0_hw526

def k0_off772 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2805 : BitVec 32 := 35#32
  let v6592 : BitVec 32 := Scalar.addi v5 c35_i32_2805
  let c7_i32_2806 : BitVec 32 := 7#32
  let v6593 : BitVec 32 := Scalar.muli v6592 c7_i32_2806
  let c0_i32_2807 : BitVec 32 := 0#32
  let v6594 : BitVec 32 := Scalar.addi v6593 c0_i32_2807
  let v6595 : Index := Scalar.indexCast v6594
  ![v6595.toNat]
def k0_off773 (v6590 : BitVec 32) (v6596 : BitVec 32) : Fin 3 → Nat :=
  let v6602 : Index := Scalar.indexCast v6596
  let v6591 : BitVec 32 := v6590
  let v6603 : Index := Scalar.indexCast v6591
  let c0_2808 : Index := 0#32
  ![v6602.toNat, v6603.toNat, 0]

def k0_chk527 (v6590 : BitVec 32) (v6596 : BitVec 32) : Prop :=
  (∀ a, (k0_off773 v6590 v6596) a + S1x48x512.size a ≤ S64x64x512.size a)
theorem k0_off773_inb : ∀ (v6590 : BitVec 32) (v6596 : BitVec 32) (k0_hw527 : k0_chk527 v6590 v6596), ∀ a, (k0_off773 v6590 v6596) a + S1x48x512.size a ≤ S64x64x512.size a := fun v6590 v6596 k0_hw527 => k0_hw527

def k0_off774 (v6590 : BitVec 32) (v6598 : BitVec 32) : Fin 3 → Nat :=
  let v6606 : Index := Scalar.indexCast v6598
  let v6591 : BitVec 32 := v6590
  let v6607 : Index := Scalar.indexCast v6591
  let c0_2809 : Index := 0#32
  ![v6606.toNat, v6607.toNat, 0]

def k0_chk528 (v6590 : BitVec 32) (v6598 : BitVec 32) : Prop :=
  (∀ a, (k0_off774 v6590 v6598) a + S1x48x512.size a ≤ S64x64x512.size a)
theorem k0_off774_inb : ∀ (v6590 : BitVec 32) (v6598 : BitVec 32) (k0_hw528 : k0_chk528 v6590 v6598), ∀ a, (k0_off774 v6590 v6598) a + S1x48x512.size a ≤ S64x64x512.size a := fun v6590 v6598 k0_hw528 => k0_hw528

def k0_off775 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2816 : BitVec 32 := 35#32
  let v6618 : BitVec 32 := Scalar.addi v5 c35_i32_2816
  let c7_i32_2817 : BitVec 32 := 7#32
  let v6619 : BitVec 32 := Scalar.muli v6618 c7_i32_2817
  let c1_i32_2818 : BitVec 32 := 1#32
  let v6620 : BitVec 32 := Scalar.addi v6619 c1_i32_2818
  let v6621 : Index := Scalar.indexCast v6620
  ![v6621.toNat]
def k0_off776 (v6590 : BitVec 32) (v6622 : BitVec 32) : Fin 3 → Nat :=
  let v6628 : Index := Scalar.indexCast v6622
  let v6591 : BitVec 32 := v6590
  let v6629 : Index := Scalar.indexCast v6591
  let c0_2819 : Index := 0#32
  ![v6628.toNat, v6629.toNat, 0]

def k0_chk529 (v6590 : BitVec 32) (v6622 : BitVec 32) : Prop :=
  (∀ a, (k0_off776 v6590 v6622) a + S1x48x512.size a ≤ S64x64x512.size a)
theorem k0_off776_inb : ∀ (v6590 : BitVec 32) (v6622 : BitVec 32) (k0_hw529 : k0_chk529 v6590 v6622), ∀ a, (k0_off776 v6590 v6622) a + S1x48x512.size a ≤ S64x64x512.size a := fun v6590 v6622 k0_hw529 => k0_hw529

def k0_off777 (v6590 : BitVec 32) (v6624 : BitVec 32) : Fin 3 → Nat :=
  let v6632 : Index := Scalar.indexCast v6624
  let v6591 : BitVec 32 := v6590
  let v6633 : Index := Scalar.indexCast v6591
  let c0_2820 : Index := 0#32
  ![v6632.toNat, v6633.toNat, 0]

def k0_chk530 (v6590 : BitVec 32) (v6624 : BitVec 32) : Prop :=
  (∀ a, (k0_off777 v6590 v6624) a + S1x48x512.size a ≤ S64x64x512.size a)
theorem k0_off777_inb : ∀ (v6590 : BitVec 32) (v6624 : BitVec 32) (k0_hw530 : k0_chk530 v6590 v6624), ∀ a, (k0_off777 v6590 v6624) a + S1x48x512.size a ≤ S64x64x512.size a := fun v6590 v6624 k0_hw530 => k0_hw530

def k0_off778 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2827 : BitVec 32 := 35#32
  let v6644 : BitVec 32 := Scalar.addi v5 c35_i32_2827
  let c7_i32_2828 : BitVec 32 := 7#32
  let v6645 : BitVec 32 := Scalar.muli v6644 c7_i32_2828
  let c2_i32_2829 : BitVec 32 := 2#32
  let v6646 : BitVec 32 := Scalar.addi v6645 c2_i32_2829
  let v6647 : Index := Scalar.indexCast v6646
  ![v6647.toNat]
def k0_off779 (v6590 : BitVec 32) (v6648 : BitVec 32) : Fin 3 → Nat :=
  let v6654 : Index := Scalar.indexCast v6648
  let v6591 : BitVec 32 := v6590
  let v6655 : Index := Scalar.indexCast v6591
  let c0_2830 : Index := 0#32
  ![v6654.toNat, v6655.toNat, 0]

def k0_chk531 (v6590 : BitVec 32) (v6648 : BitVec 32) : Prop :=
  (∀ a, (k0_off779 v6590 v6648) a + S1x48x512.size a ≤ S64x64x512.size a)
theorem k0_off779_inb : ∀ (v6590 : BitVec 32) (v6648 : BitVec 32) (k0_hw531 : k0_chk531 v6590 v6648), ∀ a, (k0_off779 v6590 v6648) a + S1x48x512.size a ≤ S64x64x512.size a := fun v6590 v6648 k0_hw531 => k0_hw531

def k0_off780 (v6590 : BitVec 32) (v6650 : BitVec 32) : Fin 3 → Nat :=
  let v6658 : Index := Scalar.indexCast v6650
  let v6591 : BitVec 32 := v6590
  let v6659 : Index := Scalar.indexCast v6591
  let c0_2831 : Index := 0#32
  ![v6658.toNat, v6659.toNat, 0]

def k0_chk532 (v6590 : BitVec 32) (v6650 : BitVec 32) : Prop :=
  (∀ a, (k0_off780 v6590 v6650) a + S1x48x512.size a ≤ S64x64x512.size a)
theorem k0_off780_inb : ∀ (v6590 : BitVec 32) (v6650 : BitVec 32) (k0_hw532 : k0_chk532 v6590 v6650), ∀ a, (k0_off780 v6590 v6650) a + S1x48x512.size a ≤ S64x64x512.size a := fun v6590 v6650 k0_hw532 => k0_hw532

def k0_off781 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2838 : BitVec 32 := 35#32
  let v6670 : BitVec 32 := Scalar.addi v5 c35_i32_2838
  let c7_i32_2839 : BitVec 32 := 7#32
  let v6671 : BitVec 32 := Scalar.muli v6670 c7_i32_2839
  let c3_i32_2840 : BitVec 32 := 3#32
  let v6672 : BitVec 32 := Scalar.addi v6671 c3_i32_2840
  let v6673 : Index := Scalar.indexCast v6672
  ![v6673.toNat]
def k0_off782 (v6590 : BitVec 32) (v6674 : BitVec 32) : Fin 3 → Nat :=
  let v6680 : Index := Scalar.indexCast v6674
  let v6591 : BitVec 32 := v6590
  let v6681 : Index := Scalar.indexCast v6591
  let c0_2841 : Index := 0#32
  ![v6680.toNat, v6681.toNat, 0]

def k0_chk533 (v6590 : BitVec 32) (v6674 : BitVec 32) : Prop :=
  (∀ a, (k0_off782 v6590 v6674) a + S1x48x512.size a ≤ S64x64x512.size a)
theorem k0_off782_inb : ∀ (v6590 : BitVec 32) (v6674 : BitVec 32) (k0_hw533 : k0_chk533 v6590 v6674), ∀ a, (k0_off782 v6590 v6674) a + S1x48x512.size a ≤ S64x64x512.size a := fun v6590 v6674 k0_hw533 => k0_hw533

def k0_off783 (v6590 : BitVec 32) (v6676 : BitVec 32) : Fin 3 → Nat :=
  let v6684 : Index := Scalar.indexCast v6676
  let v6591 : BitVec 32 := v6590
  let v6685 : Index := Scalar.indexCast v6591
  let c0_2842 : Index := 0#32
  ![v6684.toNat, v6685.toNat, 0]

def k0_chk534 (v6590 : BitVec 32) (v6676 : BitVec 32) : Prop :=
  (∀ a, (k0_off783 v6590 v6676) a + S1x48x512.size a ≤ S64x64x512.size a)
theorem k0_off783_inb : ∀ (v6590 : BitVec 32) (v6676 : BitVec 32) (k0_hw534 : k0_chk534 v6590 v6676), ∀ a, (k0_off783 v6590 v6676) a + S1x48x512.size a ≤ S64x64x512.size a := fun v6590 v6676 k0_hw534 => k0_hw534

def k0_off784 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2849 : BitVec 32 := 35#32
  let v6696 : BitVec 32 := Scalar.addi v5 c35_i32_2849
  let c7_i32_2850 : BitVec 32 := 7#32
  let v6697 : BitVec 32 := Scalar.muli v6696 c7_i32_2850
  let c4_i32_2851 : BitVec 32 := 4#32
  let v6698 : BitVec 32 := Scalar.addi v6697 c4_i32_2851
  let v6699 : Index := Scalar.indexCast v6698
  ![v6699.toNat]
def k0_off785 (v6590 : BitVec 32) (v6700 : BitVec 32) : Fin 3 → Nat :=
  let v6706 : Index := Scalar.indexCast v6700
  let v6591 : BitVec 32 := v6590
  let v6707 : Index := Scalar.indexCast v6591
  let c0_2852 : Index := 0#32
  ![v6706.toNat, v6707.toNat, 0]

def k0_chk535 (v6590 : BitVec 32) (v6700 : BitVec 32) : Prop :=
  (∀ a, (k0_off785 v6590 v6700) a + S1x48x512.size a ≤ S64x64x512.size a)
theorem k0_off785_inb : ∀ (v6590 : BitVec 32) (v6700 : BitVec 32) (k0_hw535 : k0_chk535 v6590 v6700), ∀ a, (k0_off785 v6590 v6700) a + S1x48x512.size a ≤ S64x64x512.size a := fun v6590 v6700 k0_hw535 => k0_hw535

def k0_off786 (v6590 : BitVec 32) (v6702 : BitVec 32) : Fin 3 → Nat :=
  let v6710 : Index := Scalar.indexCast v6702
  let v6591 : BitVec 32 := v6590
  let v6711 : Index := Scalar.indexCast v6591
  let c0_2853 : Index := 0#32
  ![v6710.toNat, v6711.toNat, 0]

def k0_chk536 (v6590 : BitVec 32) (v6702 : BitVec 32) : Prop :=
  (∀ a, (k0_off786 v6590 v6702) a + S1x48x512.size a ≤ S64x64x512.size a)
theorem k0_off786_inb : ∀ (v6590 : BitVec 32) (v6702 : BitVec 32) (k0_hw536 : k0_chk536 v6590 v6702), ∀ a, (k0_off786 v6590 v6702) a + S1x48x512.size a ≤ S64x64x512.size a := fun v6590 v6702 k0_hw536 => k0_hw536

def k0_off787 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2860 : BitVec 32 := 35#32
  let v6722 : BitVec 32 := Scalar.addi v5 c35_i32_2860
  let c7_i32_2861 : BitVec 32 := 7#32
  let v6723 : BitVec 32 := Scalar.muli v6722 c7_i32_2861
  let c5_i32_2862 : BitVec 32 := 5#32
  let v6724 : BitVec 32 := Scalar.addi v6723 c5_i32_2862
  let v6725 : Index := Scalar.indexCast v6724
  ![v6725.toNat]
def k0_off788 (v6590 : BitVec 32) (v6726 : BitVec 32) : Fin 3 → Nat :=
  let v6732 : Index := Scalar.indexCast v6726
  let v6591 : BitVec 32 := v6590
  let v6733 : Index := Scalar.indexCast v6591
  let c0_2863 : Index := 0#32
  ![v6732.toNat, v6733.toNat, 0]

def k0_chk537 (v6590 : BitVec 32) (v6726 : BitVec 32) : Prop :=
  (∀ a, (k0_off788 v6590 v6726) a + S1x48x512.size a ≤ S64x64x512.size a)
theorem k0_off788_inb : ∀ (v6590 : BitVec 32) (v6726 : BitVec 32) (k0_hw537 : k0_chk537 v6590 v6726), ∀ a, (k0_off788 v6590 v6726) a + S1x48x512.size a ≤ S64x64x512.size a := fun v6590 v6726 k0_hw537 => k0_hw537

def k0_off789 (v6590 : BitVec 32) (v6728 : BitVec 32) : Fin 3 → Nat :=
  let v6736 : Index := Scalar.indexCast v6728
  let v6591 : BitVec 32 := v6590
  let v6737 : Index := Scalar.indexCast v6591
  let c0_2864 : Index := 0#32
  ![v6736.toNat, v6737.toNat, 0]

def k0_chk538 (v6590 : BitVec 32) (v6728 : BitVec 32) : Prop :=
  (∀ a, (k0_off789 v6590 v6728) a + S1x48x512.size a ≤ S64x64x512.size a)
theorem k0_off789_inb : ∀ (v6590 : BitVec 32) (v6728 : BitVec 32) (k0_hw538 : k0_chk538 v6590 v6728), ∀ a, (k0_off789 v6590 v6728) a + S1x48x512.size a ≤ S64x64x512.size a := fun v6590 v6728 k0_hw538 => k0_hw538

def k0_off790 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c35_i32_2871 : BitVec 32 := 35#32
  let v6748 : BitVec 32 := Scalar.addi v5 c35_i32_2871
  let c7_i32_2872 : BitVec 32 := 7#32
  let v6749 : BitVec 32 := Scalar.muli v6748 c7_i32_2872
  let c6_i32_2873 : BitVec 32 := 6#32
  let v6750 : BitVec 32 := Scalar.addi v6749 c6_i32_2873
  let v6751 : Index := Scalar.indexCast v6750
  ![v6751.toNat]
def k0_off791 (v6590 : BitVec 32) (v6752 : BitVec 32) : Fin 3 → Nat :=
  let v6758 : Index := Scalar.indexCast v6752
  let v6591 : BitVec 32 := v6590
  let v6759 : Index := Scalar.indexCast v6591
  let c0_2874 : Index := 0#32
  ![v6758.toNat, v6759.toNat, 0]

def k0_chk539 (v6590 : BitVec 32) (v6752 : BitVec 32) : Prop :=
  (∀ a, (k0_off791 v6590 v6752) a + S1x48x512.size a ≤ S64x64x512.size a)
theorem k0_off791_inb : ∀ (v6590 : BitVec 32) (v6752 : BitVec 32) (k0_hw539 : k0_chk539 v6590 v6752), ∀ a, (k0_off791 v6590 v6752) a + S1x48x512.size a ≤ S64x64x512.size a := fun v6590 v6752 k0_hw539 => k0_hw539

def k0_off792 (v6590 : BitVec 32) (v6754 : BitVec 32) : Fin 3 → Nat :=
  let v6762 : Index := Scalar.indexCast v6754
  let v6591 : BitVec 32 := v6590
  let v6763 : Index := Scalar.indexCast v6591
  let c0_2875 : Index := 0#32
  ![v6762.toNat, v6763.toNat, 0]

def k0_chk540 (v6590 : BitVec 32) (v6754 : BitVec 32) : Prop :=
  (∀ a, (k0_off792 v6590 v6754) a + S1x48x512.size a ≤ S64x64x512.size a)
theorem k0_off792_inb : ∀ (v6590 : BitVec 32) (v6754 : BitVec 32) (k0_hw540 : k0_chk540 v6590 v6754), ∀ a, (k0_off792 v6590 v6754) a + S1x48x512.size a ≤ S64x64x512.size a := fun v6590 v6754 k0_hw540 => k0_hw540

def k0_off793 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32 : BitVec 32 := 36#32
  let v6776 : BitVec 32 := Scalar.addi v5 c36_i32
  let v6777 : Index := Scalar.indexCast v6776
  ![v6777.toNat]
def k0_mult37 (v6778 : BitVec 32) : BitVec 32 :=
  v6778

def k0_chk541 (v6778 : BitVec 32) : Prop :=
  (16 ∣ (k0_mult37 v6778).toNat)
theorem k0_mult37_dvd : ∀ (v6778 : BitVec 32) (k0_hw541 : k0_chk541 v6778), 16 ∣ (k0_mult37 v6778).toNat := fun v6778 k0_hw541 => k0_hw541

def k0_off794 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2885 : BitVec 32 := 36#32
  let v6780 : BitVec 32 := Scalar.addi v5 c36_i32_2885
  let c7_i32_2886 : BitVec 32 := 7#32
  let v6781 : BitVec 32 := Scalar.muli v6780 c7_i32_2886
  let c0_i32_2887 : BitVec 32 := 0#32
  let v6782 : BitVec 32 := Scalar.addi v6781 c0_i32_2887
  let v6783 : Index := Scalar.indexCast v6782
  ![v6783.toNat]
def k0_off795 (v6778 : BitVec 32) (v6784 : BitVec 32) : Fin 3 → Nat :=
  let v6790 : Index := Scalar.indexCast v6784
  let v6779 : BitVec 32 := v6778
  let v6791 : Index := Scalar.indexCast v6779
  let c0_2888 : Index := 0#32
  ![v6790.toNat, v6791.toNat, 0]

def k0_chk542 (v6778 : BitVec 32) (v6784 : BitVec 32) : Prop :=
  (∀ a, (k0_off795 v6778 v6784) a + S1x48x512.size a ≤ S64x64x512.size a)
theorem k0_off795_inb : ∀ (v6778 : BitVec 32) (v6784 : BitVec 32) (k0_hw542 : k0_chk542 v6778 v6784), ∀ a, (k0_off795 v6778 v6784) a + S1x48x512.size a ≤ S64x64x512.size a := fun v6778 v6784 k0_hw542 => k0_hw542

def k0_off796 (v6778 : BitVec 32) (v6786 : BitVec 32) : Fin 3 → Nat :=
  let v6794 : Index := Scalar.indexCast v6786
  let v6779 : BitVec 32 := v6778
  let v6795 : Index := Scalar.indexCast v6779
  let c0_2889 : Index := 0#32
  ![v6794.toNat, v6795.toNat, 0]

def k0_chk543 (v6778 : BitVec 32) (v6786 : BitVec 32) : Prop :=
  (∀ a, (k0_off796 v6778 v6786) a + S1x48x512.size a ≤ S64x64x512.size a)
theorem k0_off796_inb : ∀ (v6778 : BitVec 32) (v6786 : BitVec 32) (k0_hw543 : k0_chk543 v6778 v6786), ∀ a, (k0_off796 v6778 v6786) a + S1x48x512.size a ≤ S64x64x512.size a := fun v6778 v6786 k0_hw543 => k0_hw543

def k0_off797 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2896 : BitVec 32 := 36#32
  let v6806 : BitVec 32 := Scalar.addi v5 c36_i32_2896
  let c7_i32_2897 : BitVec 32 := 7#32
  let v6807 : BitVec 32 := Scalar.muli v6806 c7_i32_2897
  let c1_i32_2898 : BitVec 32 := 1#32
  let v6808 : BitVec 32 := Scalar.addi v6807 c1_i32_2898
  let v6809 : Index := Scalar.indexCast v6808
  ![v6809.toNat]
def k0_off798 (v6778 : BitVec 32) (v6810 : BitVec 32) : Fin 3 → Nat :=
  let v6816 : Index := Scalar.indexCast v6810
  let v6779 : BitVec 32 := v6778
  let v6817 : Index := Scalar.indexCast v6779
  let c0_2899 : Index := 0#32
  ![v6816.toNat, v6817.toNat, 0]

def k0_chk544 (v6778 : BitVec 32) (v6810 : BitVec 32) : Prop :=
  (∀ a, (k0_off798 v6778 v6810) a + S1x48x512.size a ≤ S64x64x512.size a)
theorem k0_off798_inb : ∀ (v6778 : BitVec 32) (v6810 : BitVec 32) (k0_hw544 : k0_chk544 v6778 v6810), ∀ a, (k0_off798 v6778 v6810) a + S1x48x512.size a ≤ S64x64x512.size a := fun v6778 v6810 k0_hw544 => k0_hw544

def k0_off799 (v6778 : BitVec 32) (v6812 : BitVec 32) : Fin 3 → Nat :=
  let v6820 : Index := Scalar.indexCast v6812
  let v6779 : BitVec 32 := v6778
  let v6821 : Index := Scalar.indexCast v6779
  let c0_2900 : Index := 0#32
  ![v6820.toNat, v6821.toNat, 0]

def k0_chk545 (v6778 : BitVec 32) (v6812 : BitVec 32) : Prop :=
  (∀ a, (k0_off799 v6778 v6812) a + S1x48x512.size a ≤ S64x64x512.size a)
theorem k0_off799_inb : ∀ (v6778 : BitVec 32) (v6812 : BitVec 32) (k0_hw545 : k0_chk545 v6778 v6812), ∀ a, (k0_off799 v6778 v6812) a + S1x48x512.size a ≤ S64x64x512.size a := fun v6778 v6812 k0_hw545 => k0_hw545

def k0_off800 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2907 : BitVec 32 := 36#32
  let v6832 : BitVec 32 := Scalar.addi v5 c36_i32_2907
  let c7_i32_2908 : BitVec 32 := 7#32
  let v6833 : BitVec 32 := Scalar.muli v6832 c7_i32_2908
  let c2_i32_2909 : BitVec 32 := 2#32
  let v6834 : BitVec 32 := Scalar.addi v6833 c2_i32_2909
  let v6835 : Index := Scalar.indexCast v6834
  ![v6835.toNat]
def k0_off801 (v6778 : BitVec 32) (v6836 : BitVec 32) : Fin 3 → Nat :=
  let v6842 : Index := Scalar.indexCast v6836
  let v6779 : BitVec 32 := v6778
  let v6843 : Index := Scalar.indexCast v6779
  let c0_2910 : Index := 0#32
  ![v6842.toNat, v6843.toNat, 0]

def k0_chk546 (v6778 : BitVec 32) (v6836 : BitVec 32) : Prop :=
  (∀ a, (k0_off801 v6778 v6836) a + S1x48x512.size a ≤ S64x64x512.size a)
theorem k0_off801_inb : ∀ (v6778 : BitVec 32) (v6836 : BitVec 32) (k0_hw546 : k0_chk546 v6778 v6836), ∀ a, (k0_off801 v6778 v6836) a + S1x48x512.size a ≤ S64x64x512.size a := fun v6778 v6836 k0_hw546 => k0_hw546

def k0_off802 (v6778 : BitVec 32) (v6838 : BitVec 32) : Fin 3 → Nat :=
  let v6846 : Index := Scalar.indexCast v6838
  let v6779 : BitVec 32 := v6778
  let v6847 : Index := Scalar.indexCast v6779
  let c0_2911 : Index := 0#32
  ![v6846.toNat, v6847.toNat, 0]

def k0_chk547 (v6778 : BitVec 32) (v6838 : BitVec 32) : Prop :=
  (∀ a, (k0_off802 v6778 v6838) a + S1x48x512.size a ≤ S64x64x512.size a)
theorem k0_off802_inb : ∀ (v6778 : BitVec 32) (v6838 : BitVec 32) (k0_hw547 : k0_chk547 v6778 v6838), ∀ a, (k0_off802 v6778 v6838) a + S1x48x512.size a ≤ S64x64x512.size a := fun v6778 v6838 k0_hw547 => k0_hw547

def k0_off803 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2918 : BitVec 32 := 36#32
  let v6858 : BitVec 32 := Scalar.addi v5 c36_i32_2918
  let c7_i32_2919 : BitVec 32 := 7#32
  let v6859 : BitVec 32 := Scalar.muli v6858 c7_i32_2919
  let c3_i32_2920 : BitVec 32 := 3#32
  let v6860 : BitVec 32 := Scalar.addi v6859 c3_i32_2920
  let v6861 : Index := Scalar.indexCast v6860
  ![v6861.toNat]
def k0_off804 (v6778 : BitVec 32) (v6862 : BitVec 32) : Fin 3 → Nat :=
  let v6868 : Index := Scalar.indexCast v6862
  let v6779 : BitVec 32 := v6778
  let v6869 : Index := Scalar.indexCast v6779
  let c0_2921 : Index := 0#32
  ![v6868.toNat, v6869.toNat, 0]

def k0_chk548 (v6778 : BitVec 32) (v6862 : BitVec 32) : Prop :=
  (∀ a, (k0_off804 v6778 v6862) a + S1x48x512.size a ≤ S64x64x512.size a)
theorem k0_off804_inb : ∀ (v6778 : BitVec 32) (v6862 : BitVec 32) (k0_hw548 : k0_chk548 v6778 v6862), ∀ a, (k0_off804 v6778 v6862) a + S1x48x512.size a ≤ S64x64x512.size a := fun v6778 v6862 k0_hw548 => k0_hw548

def k0_off805 (v6778 : BitVec 32) (v6864 : BitVec 32) : Fin 3 → Nat :=
  let v6872 : Index := Scalar.indexCast v6864
  let v6779 : BitVec 32 := v6778
  let v6873 : Index := Scalar.indexCast v6779
  let c0_2922 : Index := 0#32
  ![v6872.toNat, v6873.toNat, 0]

def k0_chk549 (v6778 : BitVec 32) (v6864 : BitVec 32) : Prop :=
  (∀ a, (k0_off805 v6778 v6864) a + S1x48x512.size a ≤ S64x64x512.size a)
theorem k0_off805_inb : ∀ (v6778 : BitVec 32) (v6864 : BitVec 32) (k0_hw549 : k0_chk549 v6778 v6864), ∀ a, (k0_off805 v6778 v6864) a + S1x48x512.size a ≤ S64x64x512.size a := fun v6778 v6864 k0_hw549 => k0_hw549

def k0_off806 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2929 : BitVec 32 := 36#32
  let v6884 : BitVec 32 := Scalar.addi v5 c36_i32_2929
  let c7_i32_2930 : BitVec 32 := 7#32
  let v6885 : BitVec 32 := Scalar.muli v6884 c7_i32_2930
  let c4_i32_2931 : BitVec 32 := 4#32
  let v6886 : BitVec 32 := Scalar.addi v6885 c4_i32_2931
  let v6887 : Index := Scalar.indexCast v6886
  ![v6887.toNat]
def k0_off807 (v6778 : BitVec 32) (v6888 : BitVec 32) : Fin 3 → Nat :=
  let v6894 : Index := Scalar.indexCast v6888
  let v6779 : BitVec 32 := v6778
  let v6895 : Index := Scalar.indexCast v6779
  let c0_2932 : Index := 0#32
  ![v6894.toNat, v6895.toNat, 0]

def k0_chk550 (v6778 : BitVec 32) (v6888 : BitVec 32) : Prop :=
  (∀ a, (k0_off807 v6778 v6888) a + S1x48x512.size a ≤ S64x64x512.size a)
theorem k0_off807_inb : ∀ (v6778 : BitVec 32) (v6888 : BitVec 32) (k0_hw550 : k0_chk550 v6778 v6888), ∀ a, (k0_off807 v6778 v6888) a + S1x48x512.size a ≤ S64x64x512.size a := fun v6778 v6888 k0_hw550 => k0_hw550

def k0_off808 (v6778 : BitVec 32) (v6890 : BitVec 32) : Fin 3 → Nat :=
  let v6898 : Index := Scalar.indexCast v6890
  let v6779 : BitVec 32 := v6778
  let v6899 : Index := Scalar.indexCast v6779
  let c0_2933 : Index := 0#32
  ![v6898.toNat, v6899.toNat, 0]

def k0_chk551 (v6778 : BitVec 32) (v6890 : BitVec 32) : Prop :=
  (∀ a, (k0_off808 v6778 v6890) a + S1x48x512.size a ≤ S64x64x512.size a)
theorem k0_off808_inb : ∀ (v6778 : BitVec 32) (v6890 : BitVec 32) (k0_hw551 : k0_chk551 v6778 v6890), ∀ a, (k0_off808 v6778 v6890) a + S1x48x512.size a ≤ S64x64x512.size a := fun v6778 v6890 k0_hw551 => k0_hw551

def k0_off809 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2940 : BitVec 32 := 36#32
  let v6910 : BitVec 32 := Scalar.addi v5 c36_i32_2940
  let c7_i32_2941 : BitVec 32 := 7#32
  let v6911 : BitVec 32 := Scalar.muli v6910 c7_i32_2941
  let c5_i32_2942 : BitVec 32 := 5#32
  let v6912 : BitVec 32 := Scalar.addi v6911 c5_i32_2942
  let v6913 : Index := Scalar.indexCast v6912
  ![v6913.toNat]
def k0_off810 (v6778 : BitVec 32) (v6914 : BitVec 32) : Fin 3 → Nat :=
  let v6920 : Index := Scalar.indexCast v6914
  let v6779 : BitVec 32 := v6778
  let v6921 : Index := Scalar.indexCast v6779
  let c0_2943 : Index := 0#32
  ![v6920.toNat, v6921.toNat, 0]

def k0_chk552 (v6778 : BitVec 32) (v6914 : BitVec 32) : Prop :=
  (∀ a, (k0_off810 v6778 v6914) a + S1x48x512.size a ≤ S64x64x512.size a)
theorem k0_off810_inb : ∀ (v6778 : BitVec 32) (v6914 : BitVec 32) (k0_hw552 : k0_chk552 v6778 v6914), ∀ a, (k0_off810 v6778 v6914) a + S1x48x512.size a ≤ S64x64x512.size a := fun v6778 v6914 k0_hw552 => k0_hw552

def k0_off811 (v6778 : BitVec 32) (v6916 : BitVec 32) : Fin 3 → Nat :=
  let v6924 : Index := Scalar.indexCast v6916
  let v6779 : BitVec 32 := v6778
  let v6925 : Index := Scalar.indexCast v6779
  let c0_2944 : Index := 0#32
  ![v6924.toNat, v6925.toNat, 0]

def k0_chk553 (v6778 : BitVec 32) (v6916 : BitVec 32) : Prop :=
  (∀ a, (k0_off811 v6778 v6916) a + S1x48x512.size a ≤ S64x64x512.size a)
theorem k0_off811_inb : ∀ (v6778 : BitVec 32) (v6916 : BitVec 32) (k0_hw553 : k0_chk553 v6778 v6916), ∀ a, (k0_off811 v6778 v6916) a + S1x48x512.size a ≤ S64x64x512.size a := fun v6778 v6916 k0_hw553 => k0_hw553

def k0_off812 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c36_i32_2951 : BitVec 32 := 36#32
  let v6936 : BitVec 32 := Scalar.addi v5 c36_i32_2951
  let c7_i32_2952 : BitVec 32 := 7#32
  let v6937 : BitVec 32 := Scalar.muli v6936 c7_i32_2952
  let c6_i32_2953 : BitVec 32 := 6#32
  let v6938 : BitVec 32 := Scalar.addi v6937 c6_i32_2953
  let v6939 : Index := Scalar.indexCast v6938
  ![v6939.toNat]
def k0_off813 (v6778 : BitVec 32) (v6940 : BitVec 32) : Fin 3 → Nat :=
  let v6946 : Index := Scalar.indexCast v6940
  let v6779 : BitVec 32 := v6778
  let v6947 : Index := Scalar.indexCast v6779
  let c0_2954 : Index := 0#32
  ![v6946.toNat, v6947.toNat, 0]

def k0_chk554 (v6778 : BitVec 32) (v6940 : BitVec 32) : Prop :=
  (∀ a, (k0_off813 v6778 v6940) a + S1x48x512.size a ≤ S64x64x512.size a)
theorem k0_off813_inb : ∀ (v6778 : BitVec 32) (v6940 : BitVec 32) (k0_hw554 : k0_chk554 v6778 v6940), ∀ a, (k0_off813 v6778 v6940) a + S1x48x512.size a ≤ S64x64x512.size a := fun v6778 v6940 k0_hw554 => k0_hw554

def k0_off814 (v6778 : BitVec 32) (v6942 : BitVec 32) : Fin 3 → Nat :=
  let v6950 : Index := Scalar.indexCast v6942
  let v6779 : BitVec 32 := v6778
  let v6951 : Index := Scalar.indexCast v6779
  let c0_2955 : Index := 0#32
  ![v6950.toNat, v6951.toNat, 0]

def k0_chk555 (v6778 : BitVec 32) (v6942 : BitVec 32) : Prop :=
  (∀ a, (k0_off814 v6778 v6942) a + S1x48x512.size a ≤ S64x64x512.size a)
theorem k0_off814_inb : ∀ (v6778 : BitVec 32) (v6942 : BitVec 32) (k0_hw555 : k0_chk555 v6778 v6942), ∀ a, (k0_off814 v6778 v6942) a + S1x48x512.size a ≤ S64x64x512.size a := fun v6778 v6942 k0_hw555 => k0_hw555

def k0_off815 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32 : BitVec 32 := 37#32
  let v6964 : BitVec 32 := Scalar.addi v5 c37_i32
  let v6965 : Index := Scalar.indexCast v6964
  ![v6965.toNat]
def k0_mult38 (v6966 : BitVec 32) : BitVec 32 :=
  v6966

def k0_chk556 (v6966 : BitVec 32) : Prop :=
  (16 ∣ (k0_mult38 v6966).toNat)
theorem k0_mult38_dvd : ∀ (v6966 : BitVec 32) (k0_hw556 : k0_chk556 v6966), 16 ∣ (k0_mult38 v6966).toNat := fun v6966 k0_hw556 => k0_hw556

def k0_off816 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_2965 : BitVec 32 := 37#32
  let v6968 : BitVec 32 := Scalar.addi v5 c37_i32_2965
  let c7_i32_2966 : BitVec 32 := 7#32
  let v6969 : BitVec 32 := Scalar.muli v6968 c7_i32_2966
  let c0_i32_2967 : BitVec 32 := 0#32
  let v6970 : BitVec 32 := Scalar.addi v6969 c0_i32_2967
  let v6971 : Index := Scalar.indexCast v6970
  ![v6971.toNat]
def k0_off817 (v6966 : BitVec 32) (v6972 : BitVec 32) : Fin 3 → Nat :=
  let v6978 : Index := Scalar.indexCast v6972
  let v6967 : BitVec 32 := v6966
  let v6979 : Index := Scalar.indexCast v6967
  let c0_2968 : Index := 0#32
  ![v6978.toNat, v6979.toNat, 0]

def k0_chk557 (v6966 : BitVec 32) (v6972 : BitVec 32) : Prop :=
  (∀ a, (k0_off817 v6966 v6972) a + S1x48x512.size a ≤ S64x64x512.size a)
theorem k0_off817_inb : ∀ (v6966 : BitVec 32) (v6972 : BitVec 32) (k0_hw557 : k0_chk557 v6966 v6972), ∀ a, (k0_off817 v6966 v6972) a + S1x48x512.size a ≤ S64x64x512.size a := fun v6966 v6972 k0_hw557 => k0_hw557

def k0_off818 (v6966 : BitVec 32) (v6974 : BitVec 32) : Fin 3 → Nat :=
  let v6982 : Index := Scalar.indexCast v6974
  let v6967 : BitVec 32 := v6966
  let v6983 : Index := Scalar.indexCast v6967
  let c0_2969 : Index := 0#32
  ![v6982.toNat, v6983.toNat, 0]

def k0_chk558 (v6966 : BitVec 32) (v6974 : BitVec 32) : Prop :=
  (∀ a, (k0_off818 v6966 v6974) a + S1x48x512.size a ≤ S64x64x512.size a)
theorem k0_off818_inb : ∀ (v6966 : BitVec 32) (v6974 : BitVec 32) (k0_hw558 : k0_chk558 v6966 v6974), ∀ a, (k0_off818 v6966 v6974) a + S1x48x512.size a ≤ S64x64x512.size a := fun v6966 v6974 k0_hw558 => k0_hw558

def k0_off819 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_2976 : BitVec 32 := 37#32
  let v6994 : BitVec 32 := Scalar.addi v5 c37_i32_2976
  let c7_i32_2977 : BitVec 32 := 7#32
  let v6995 : BitVec 32 := Scalar.muli v6994 c7_i32_2977
  let c1_i32_2978 : BitVec 32 := 1#32
  let v6996 : BitVec 32 := Scalar.addi v6995 c1_i32_2978
  let v6997 : Index := Scalar.indexCast v6996
  ![v6997.toNat]
def k0_off820 (v6966 : BitVec 32) (v6998 : BitVec 32) : Fin 3 → Nat :=
  let v7004 : Index := Scalar.indexCast v6998
  let v6967 : BitVec 32 := v6966
  let v7005 : Index := Scalar.indexCast v6967
  let c0_2979 : Index := 0#32
  ![v7004.toNat, v7005.toNat, 0]

def k0_chk559 (v6966 : BitVec 32) (v6998 : BitVec 32) : Prop :=
  (∀ a, (k0_off820 v6966 v6998) a + S1x48x512.size a ≤ S64x64x512.size a)
theorem k0_off820_inb : ∀ (v6966 : BitVec 32) (v6998 : BitVec 32) (k0_hw559 : k0_chk559 v6966 v6998), ∀ a, (k0_off820 v6966 v6998) a + S1x48x512.size a ≤ S64x64x512.size a := fun v6966 v6998 k0_hw559 => k0_hw559

def k0_off821 (v6966 : BitVec 32) (v7000 : BitVec 32) : Fin 3 → Nat :=
  let v7008 : Index := Scalar.indexCast v7000
  let v6967 : BitVec 32 := v6966
  let v7009 : Index := Scalar.indexCast v6967
  let c0_2980 : Index := 0#32
  ![v7008.toNat, v7009.toNat, 0]

def k0_chk560 (v6966 : BitVec 32) (v7000 : BitVec 32) : Prop :=
  (∀ a, (k0_off821 v6966 v7000) a + S1x48x512.size a ≤ S64x64x512.size a)
theorem k0_off821_inb : ∀ (v6966 : BitVec 32) (v7000 : BitVec 32) (k0_hw560 : k0_chk560 v6966 v7000), ∀ a, (k0_off821 v6966 v7000) a + S1x48x512.size a ≤ S64x64x512.size a := fun v6966 v7000 k0_hw560 => k0_hw560

def k0_off822 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_2987 : BitVec 32 := 37#32
  let v7020 : BitVec 32 := Scalar.addi v5 c37_i32_2987
  let c7_i32_2988 : BitVec 32 := 7#32
  let v7021 : BitVec 32 := Scalar.muli v7020 c7_i32_2988
  let c2_i32_2989 : BitVec 32 := 2#32
  let v7022 : BitVec 32 := Scalar.addi v7021 c2_i32_2989
  let v7023 : Index := Scalar.indexCast v7022
  ![v7023.toNat]
def k0_off823 (v6966 : BitVec 32) (v7024 : BitVec 32) : Fin 3 → Nat :=
  let v7030 : Index := Scalar.indexCast v7024
  let v6967 : BitVec 32 := v6966
  let v7031 : Index := Scalar.indexCast v6967
  let c0_2990 : Index := 0#32
  ![v7030.toNat, v7031.toNat, 0]

def k0_chk561 (v6966 : BitVec 32) (v7024 : BitVec 32) : Prop :=
  (∀ a, (k0_off823 v6966 v7024) a + S1x48x512.size a ≤ S64x64x512.size a)
theorem k0_off823_inb : ∀ (v6966 : BitVec 32) (v7024 : BitVec 32) (k0_hw561 : k0_chk561 v6966 v7024), ∀ a, (k0_off823 v6966 v7024) a + S1x48x512.size a ≤ S64x64x512.size a := fun v6966 v7024 k0_hw561 => k0_hw561

def k0_off824 (v6966 : BitVec 32) (v7026 : BitVec 32) : Fin 3 → Nat :=
  let v7034 : Index := Scalar.indexCast v7026
  let v6967 : BitVec 32 := v6966
  let v7035 : Index := Scalar.indexCast v6967
  let c0_2991 : Index := 0#32
  ![v7034.toNat, v7035.toNat, 0]

def k0_chk562 (v6966 : BitVec 32) (v7026 : BitVec 32) : Prop :=
  (∀ a, (k0_off824 v6966 v7026) a + S1x48x512.size a ≤ S64x64x512.size a)
theorem k0_off824_inb : ∀ (v6966 : BitVec 32) (v7026 : BitVec 32) (k0_hw562 : k0_chk562 v6966 v7026), ∀ a, (k0_off824 v6966 v7026) a + S1x48x512.size a ≤ S64x64x512.size a := fun v6966 v7026 k0_hw562 => k0_hw562

def k0_off825 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_2998 : BitVec 32 := 37#32
  let v7046 : BitVec 32 := Scalar.addi v5 c37_i32_2998
  let c7_i32_2999 : BitVec 32 := 7#32
  let v7047 : BitVec 32 := Scalar.muli v7046 c7_i32_2999
  let c3_i32_3000 : BitVec 32 := 3#32
  let v7048 : BitVec 32 := Scalar.addi v7047 c3_i32_3000
  let v7049 : Index := Scalar.indexCast v7048
  ![v7049.toNat]
def k0_off826 (v6966 : BitVec 32) (v7050 : BitVec 32) : Fin 3 → Nat :=
  let v7056 : Index := Scalar.indexCast v7050
  let v6967 : BitVec 32 := v6966
  let v7057 : Index := Scalar.indexCast v6967
  let c0_3001 : Index := 0#32
  ![v7056.toNat, v7057.toNat, 0]

def k0_chk563 (v6966 : BitVec 32) (v7050 : BitVec 32) : Prop :=
  (∀ a, (k0_off826 v6966 v7050) a + S1x48x512.size a ≤ S64x64x512.size a)
theorem k0_off826_inb : ∀ (v6966 : BitVec 32) (v7050 : BitVec 32) (k0_hw563 : k0_chk563 v6966 v7050), ∀ a, (k0_off826 v6966 v7050) a + S1x48x512.size a ≤ S64x64x512.size a := fun v6966 v7050 k0_hw563 => k0_hw563

def k0_off827 (v6966 : BitVec 32) (v7052 : BitVec 32) : Fin 3 → Nat :=
  let v7060 : Index := Scalar.indexCast v7052
  let v6967 : BitVec 32 := v6966
  let v7061 : Index := Scalar.indexCast v6967
  let c0_3002 : Index := 0#32
  ![v7060.toNat, v7061.toNat, 0]

def k0_chk564 (v6966 : BitVec 32) (v7052 : BitVec 32) : Prop :=
  (∀ a, (k0_off827 v6966 v7052) a + S1x48x512.size a ≤ S64x64x512.size a)
theorem k0_off827_inb : ∀ (v6966 : BitVec 32) (v7052 : BitVec 32) (k0_hw564 : k0_chk564 v6966 v7052), ∀ a, (k0_off827 v6966 v7052) a + S1x48x512.size a ≤ S64x64x512.size a := fun v6966 v7052 k0_hw564 => k0_hw564

def k0_off828 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_3009 : BitVec 32 := 37#32
  let v7072 : BitVec 32 := Scalar.addi v5 c37_i32_3009
  let c7_i32_3010 : BitVec 32 := 7#32
  let v7073 : BitVec 32 := Scalar.muli v7072 c7_i32_3010
  let c4_i32_3011 : BitVec 32 := 4#32
  let v7074 : BitVec 32 := Scalar.addi v7073 c4_i32_3011
  let v7075 : Index := Scalar.indexCast v7074
  ![v7075.toNat]
def k0_off829 (v6966 : BitVec 32) (v7076 : BitVec 32) : Fin 3 → Nat :=
  let v7082 : Index := Scalar.indexCast v7076
  let v6967 : BitVec 32 := v6966
  let v7083 : Index := Scalar.indexCast v6967
  let c0_3012 : Index := 0#32
  ![v7082.toNat, v7083.toNat, 0]

def k0_chk565 (v6966 : BitVec 32) (v7076 : BitVec 32) : Prop :=
  (∀ a, (k0_off829 v6966 v7076) a + S1x48x512.size a ≤ S64x64x512.size a)
theorem k0_off829_inb : ∀ (v6966 : BitVec 32) (v7076 : BitVec 32) (k0_hw565 : k0_chk565 v6966 v7076), ∀ a, (k0_off829 v6966 v7076) a + S1x48x512.size a ≤ S64x64x512.size a := fun v6966 v7076 k0_hw565 => k0_hw565

def k0_off830 (v6966 : BitVec 32) (v7078 : BitVec 32) : Fin 3 → Nat :=
  let v7086 : Index := Scalar.indexCast v7078
  let v6967 : BitVec 32 := v6966
  let v7087 : Index := Scalar.indexCast v6967
  let c0_3013 : Index := 0#32
  ![v7086.toNat, v7087.toNat, 0]

def k0_chk566 (v6966 : BitVec 32) (v7078 : BitVec 32) : Prop :=
  (∀ a, (k0_off830 v6966 v7078) a + S1x48x512.size a ≤ S64x64x512.size a)
theorem k0_off830_inb : ∀ (v6966 : BitVec 32) (v7078 : BitVec 32) (k0_hw566 : k0_chk566 v6966 v7078), ∀ a, (k0_off830 v6966 v7078) a + S1x48x512.size a ≤ S64x64x512.size a := fun v6966 v7078 k0_hw566 => k0_hw566

def k0_off831 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_3020 : BitVec 32 := 37#32
  let v7098 : BitVec 32 := Scalar.addi v5 c37_i32_3020
  let c7_i32_3021 : BitVec 32 := 7#32
  let v7099 : BitVec 32 := Scalar.muli v7098 c7_i32_3021
  let c5_i32_3022 : BitVec 32 := 5#32
  let v7100 : BitVec 32 := Scalar.addi v7099 c5_i32_3022
  let v7101 : Index := Scalar.indexCast v7100
  ![v7101.toNat]
def k0_off832 (v6966 : BitVec 32) (v7102 : BitVec 32) : Fin 3 → Nat :=
  let v7108 : Index := Scalar.indexCast v7102
  let v6967 : BitVec 32 := v6966
  let v7109 : Index := Scalar.indexCast v6967
  let c0_3023 : Index := 0#32
  ![v7108.toNat, v7109.toNat, 0]

def k0_chk567 (v6966 : BitVec 32) (v7102 : BitVec 32) : Prop :=
  (∀ a, (k0_off832 v6966 v7102) a + S1x48x512.size a ≤ S64x64x512.size a)
theorem k0_off832_inb : ∀ (v6966 : BitVec 32) (v7102 : BitVec 32) (k0_hw567 : k0_chk567 v6966 v7102), ∀ a, (k0_off832 v6966 v7102) a + S1x48x512.size a ≤ S64x64x512.size a := fun v6966 v7102 k0_hw567 => k0_hw567

def k0_off833 (v6966 : BitVec 32) (v7104 : BitVec 32) : Fin 3 → Nat :=
  let v7112 : Index := Scalar.indexCast v7104
  let v6967 : BitVec 32 := v6966
  let v7113 : Index := Scalar.indexCast v6967
  let c0_3024 : Index := 0#32
  ![v7112.toNat, v7113.toNat, 0]

def k0_chk568 (v6966 : BitVec 32) (v7104 : BitVec 32) : Prop :=
  (∀ a, (k0_off833 v6966 v7104) a + S1x48x512.size a ≤ S64x64x512.size a)
theorem k0_off833_inb : ∀ (v6966 : BitVec 32) (v7104 : BitVec 32) (k0_hw568 : k0_chk568 v6966 v7104), ∀ a, (k0_off833 v6966 v7104) a + S1x48x512.size a ≤ S64x64x512.size a := fun v6966 v7104 k0_hw568 => k0_hw568

def k0_off834 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c37_i32_3031 : BitVec 32 := 37#32
  let v7124 : BitVec 32 := Scalar.addi v5 c37_i32_3031
  let c7_i32_3032 : BitVec 32 := 7#32
  let v7125 : BitVec 32 := Scalar.muli v7124 c7_i32_3032
  let c6_i32_3033 : BitVec 32 := 6#32
  let v7126 : BitVec 32 := Scalar.addi v7125 c6_i32_3033
  let v7127 : Index := Scalar.indexCast v7126
  ![v7127.toNat]
def k0_off835 (v6966 : BitVec 32) (v7128 : BitVec 32) : Fin 3 → Nat :=
  let v7134 : Index := Scalar.indexCast v7128
  let v6967 : BitVec 32 := v6966
  let v7135 : Index := Scalar.indexCast v6967
  let c0_3034 : Index := 0#32
  ![v7134.toNat, v7135.toNat, 0]

def k0_chk569 (v6966 : BitVec 32) (v7128 : BitVec 32) : Prop :=
  (∀ a, (k0_off835 v6966 v7128) a + S1x48x512.size a ≤ S64x64x512.size a)
theorem k0_off835_inb : ∀ (v6966 : BitVec 32) (v7128 : BitVec 32) (k0_hw569 : k0_chk569 v6966 v7128), ∀ a, (k0_off835 v6966 v7128) a + S1x48x512.size a ≤ S64x64x512.size a := fun v6966 v7128 k0_hw569 => k0_hw569

def k0_off836 (v6966 : BitVec 32) (v7130 : BitVec 32) : Fin 3 → Nat :=
  let v7138 : Index := Scalar.indexCast v7130
  let v6967 : BitVec 32 := v6966
  let v7139 : Index := Scalar.indexCast v6967
  let c0_3035 : Index := 0#32
  ![v7138.toNat, v7139.toNat, 0]

def k0_chk570 (v6966 : BitVec 32) (v7130 : BitVec 32) : Prop :=
  (∀ a, (k0_off836 v6966 v7130) a + S1x48x512.size a ≤ S64x64x512.size a)
theorem k0_off836_inb : ∀ (v6966 : BitVec 32) (v7130 : BitVec 32) (k0_hw570 : k0_chk570 v6966 v7130), ∀ a, (k0_off836 v6966 v7130) a + S1x48x512.size a ≤ S64x64x512.size a := fun v6966 v7130 k0_hw570 => k0_hw570

def k0_off837 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32 : BitVec 32 := 38#32
  let v7152 : BitVec 32 := Scalar.addi v5 c38_i32
  let v7153 : Index := Scalar.indexCast v7152
  ![v7153.toNat]
def k0_mult39 (v7154 : BitVec 32) : BitVec 32 :=
  v7154

def k0_chk571 (v7154 : BitVec 32) : Prop :=
  (16 ∣ (k0_mult39 v7154).toNat)
theorem k0_mult39_dvd : ∀ (v7154 : BitVec 32) (k0_hw571 : k0_chk571 v7154), 16 ∣ (k0_mult39 v7154).toNat := fun v7154 k0_hw571 => k0_hw571

def k0_off838 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3045 : BitVec 32 := 38#32
  let v7156 : BitVec 32 := Scalar.addi v5 c38_i32_3045
  let c7_i32_3046 : BitVec 32 := 7#32
  let v7157 : BitVec 32 := Scalar.muli v7156 c7_i32_3046
  let c0_i32_3047 : BitVec 32 := 0#32
  let v7158 : BitVec 32 := Scalar.addi v7157 c0_i32_3047
  let v7159 : Index := Scalar.indexCast v7158
  ![v7159.toNat]
def k0_off839 (v7154 : BitVec 32) (v7160 : BitVec 32) : Fin 3 → Nat :=
  let v7166 : Index := Scalar.indexCast v7160
  let v7155 : BitVec 32 := v7154
  let v7167 : Index := Scalar.indexCast v7155
  let c0_3048 : Index := 0#32
  ![v7166.toNat, v7167.toNat, 0]

def k0_chk572 (v7154 : BitVec 32) (v7160 : BitVec 32) : Prop :=
  (∀ a, (k0_off839 v7154 v7160) a + S1x48x512.size a ≤ S64x64x512.size a)
theorem k0_off839_inb : ∀ (v7154 : BitVec 32) (v7160 : BitVec 32) (k0_hw572 : k0_chk572 v7154 v7160), ∀ a, (k0_off839 v7154 v7160) a + S1x48x512.size a ≤ S64x64x512.size a := fun v7154 v7160 k0_hw572 => k0_hw572

def k0_off840 (v7154 : BitVec 32) (v7162 : BitVec 32) : Fin 3 → Nat :=
  let v7170 : Index := Scalar.indexCast v7162
  let v7155 : BitVec 32 := v7154
  let v7171 : Index := Scalar.indexCast v7155
  let c0_3049 : Index := 0#32
  ![v7170.toNat, v7171.toNat, 0]

def k0_chk573 (v7154 : BitVec 32) (v7162 : BitVec 32) : Prop :=
  (∀ a, (k0_off840 v7154 v7162) a + S1x48x512.size a ≤ S64x64x512.size a)
theorem k0_off840_inb : ∀ (v7154 : BitVec 32) (v7162 : BitVec 32) (k0_hw573 : k0_chk573 v7154 v7162), ∀ a, (k0_off840 v7154 v7162) a + S1x48x512.size a ≤ S64x64x512.size a := fun v7154 v7162 k0_hw573 => k0_hw573

def k0_off841 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3056 : BitVec 32 := 38#32
  let v7182 : BitVec 32 := Scalar.addi v5 c38_i32_3056
  let c7_i32_3057 : BitVec 32 := 7#32
  let v7183 : BitVec 32 := Scalar.muli v7182 c7_i32_3057
  let c1_i32_3058 : BitVec 32 := 1#32
  let v7184 : BitVec 32 := Scalar.addi v7183 c1_i32_3058
  let v7185 : Index := Scalar.indexCast v7184
  ![v7185.toNat]
def k0_off842 (v7154 : BitVec 32) (v7186 : BitVec 32) : Fin 3 → Nat :=
  let v7192 : Index := Scalar.indexCast v7186
  let v7155 : BitVec 32 := v7154
  let v7193 : Index := Scalar.indexCast v7155
  let c0_3059 : Index := 0#32
  ![v7192.toNat, v7193.toNat, 0]

def k0_chk574 (v7154 : BitVec 32) (v7186 : BitVec 32) : Prop :=
  (∀ a, (k0_off842 v7154 v7186) a + S1x48x512.size a ≤ S64x64x512.size a)
theorem k0_off842_inb : ∀ (v7154 : BitVec 32) (v7186 : BitVec 32) (k0_hw574 : k0_chk574 v7154 v7186), ∀ a, (k0_off842 v7154 v7186) a + S1x48x512.size a ≤ S64x64x512.size a := fun v7154 v7186 k0_hw574 => k0_hw574

def k0_off843 (v7154 : BitVec 32) (v7188 : BitVec 32) : Fin 3 → Nat :=
  let v7196 : Index := Scalar.indexCast v7188
  let v7155 : BitVec 32 := v7154
  let v7197 : Index := Scalar.indexCast v7155
  let c0_3060 : Index := 0#32
  ![v7196.toNat, v7197.toNat, 0]

def k0_chk575 (v7154 : BitVec 32) (v7188 : BitVec 32) : Prop :=
  (∀ a, (k0_off843 v7154 v7188) a + S1x48x512.size a ≤ S64x64x512.size a)
theorem k0_off843_inb : ∀ (v7154 : BitVec 32) (v7188 : BitVec 32) (k0_hw575 : k0_chk575 v7154 v7188), ∀ a, (k0_off843 v7154 v7188) a + S1x48x512.size a ≤ S64x64x512.size a := fun v7154 v7188 k0_hw575 => k0_hw575

def k0_off844 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3067 : BitVec 32 := 38#32
  let v7208 : BitVec 32 := Scalar.addi v5 c38_i32_3067
  let c7_i32_3068 : BitVec 32 := 7#32
  let v7209 : BitVec 32 := Scalar.muli v7208 c7_i32_3068
  let c2_i32_3069 : BitVec 32 := 2#32
  let v7210 : BitVec 32 := Scalar.addi v7209 c2_i32_3069
  let v7211 : Index := Scalar.indexCast v7210
  ![v7211.toNat]
def k0_off845 (v7154 : BitVec 32) (v7212 : BitVec 32) : Fin 3 → Nat :=
  let v7218 : Index := Scalar.indexCast v7212
  let v7155 : BitVec 32 := v7154
  let v7219 : Index := Scalar.indexCast v7155
  let c0_3070 : Index := 0#32
  ![v7218.toNat, v7219.toNat, 0]

def k0_chk576 (v7154 : BitVec 32) (v7212 : BitVec 32) : Prop :=
  (∀ a, (k0_off845 v7154 v7212) a + S1x48x512.size a ≤ S64x64x512.size a)
theorem k0_off845_inb : ∀ (v7154 : BitVec 32) (v7212 : BitVec 32) (k0_hw576 : k0_chk576 v7154 v7212), ∀ a, (k0_off845 v7154 v7212) a + S1x48x512.size a ≤ S64x64x512.size a := fun v7154 v7212 k0_hw576 => k0_hw576

def k0_off846 (v7154 : BitVec 32) (v7214 : BitVec 32) : Fin 3 → Nat :=
  let v7222 : Index := Scalar.indexCast v7214
  let v7155 : BitVec 32 := v7154
  let v7223 : Index := Scalar.indexCast v7155
  let c0_3071 : Index := 0#32
  ![v7222.toNat, v7223.toNat, 0]

def k0_chk577 (v7154 : BitVec 32) (v7214 : BitVec 32) : Prop :=
  (∀ a, (k0_off846 v7154 v7214) a + S1x48x512.size a ≤ S64x64x512.size a)
theorem k0_off846_inb : ∀ (v7154 : BitVec 32) (v7214 : BitVec 32) (k0_hw577 : k0_chk577 v7154 v7214), ∀ a, (k0_off846 v7154 v7214) a + S1x48x512.size a ≤ S64x64x512.size a := fun v7154 v7214 k0_hw577 => k0_hw577

def k0_off847 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3078 : BitVec 32 := 38#32
  let v7234 : BitVec 32 := Scalar.addi v5 c38_i32_3078
  let c7_i32_3079 : BitVec 32 := 7#32
  let v7235 : BitVec 32 := Scalar.muli v7234 c7_i32_3079
  let c3_i32_3080 : BitVec 32 := 3#32
  let v7236 : BitVec 32 := Scalar.addi v7235 c3_i32_3080
  let v7237 : Index := Scalar.indexCast v7236
  ![v7237.toNat]
def k0_off848 (v7154 : BitVec 32) (v7238 : BitVec 32) : Fin 3 → Nat :=
  let v7244 : Index := Scalar.indexCast v7238
  let v7155 : BitVec 32 := v7154
  let v7245 : Index := Scalar.indexCast v7155
  let c0_3081 : Index := 0#32
  ![v7244.toNat, v7245.toNat, 0]

def k0_chk578 (v7154 : BitVec 32) (v7238 : BitVec 32) : Prop :=
  (∀ a, (k0_off848 v7154 v7238) a + S1x48x512.size a ≤ S64x64x512.size a)
theorem k0_off848_inb : ∀ (v7154 : BitVec 32) (v7238 : BitVec 32) (k0_hw578 : k0_chk578 v7154 v7238), ∀ a, (k0_off848 v7154 v7238) a + S1x48x512.size a ≤ S64x64x512.size a := fun v7154 v7238 k0_hw578 => k0_hw578

def k0_off849 (v7154 : BitVec 32) (v7240 : BitVec 32) : Fin 3 → Nat :=
  let v7248 : Index := Scalar.indexCast v7240
  let v7155 : BitVec 32 := v7154
  let v7249 : Index := Scalar.indexCast v7155
  let c0_3082 : Index := 0#32
  ![v7248.toNat, v7249.toNat, 0]

def k0_chk579 (v7154 : BitVec 32) (v7240 : BitVec 32) : Prop :=
  (∀ a, (k0_off849 v7154 v7240) a + S1x48x512.size a ≤ S64x64x512.size a)
theorem k0_off849_inb : ∀ (v7154 : BitVec 32) (v7240 : BitVec 32) (k0_hw579 : k0_chk579 v7154 v7240), ∀ a, (k0_off849 v7154 v7240) a + S1x48x512.size a ≤ S64x64x512.size a := fun v7154 v7240 k0_hw579 => k0_hw579

def k0_off850 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3089 : BitVec 32 := 38#32
  let v7260 : BitVec 32 := Scalar.addi v5 c38_i32_3089
  let c7_i32_3090 : BitVec 32 := 7#32
  let v7261 : BitVec 32 := Scalar.muli v7260 c7_i32_3090
  let c4_i32_3091 : BitVec 32 := 4#32
  let v7262 : BitVec 32 := Scalar.addi v7261 c4_i32_3091
  let v7263 : Index := Scalar.indexCast v7262
  ![v7263.toNat]
def k0_off851 (v7154 : BitVec 32) (v7264 : BitVec 32) : Fin 3 → Nat :=
  let v7270 : Index := Scalar.indexCast v7264
  let v7155 : BitVec 32 := v7154
  let v7271 : Index := Scalar.indexCast v7155
  let c0_3092 : Index := 0#32
  ![v7270.toNat, v7271.toNat, 0]

def k0_chk580 (v7154 : BitVec 32) (v7264 : BitVec 32) : Prop :=
  (∀ a, (k0_off851 v7154 v7264) a + S1x48x512.size a ≤ S64x64x512.size a)
theorem k0_off851_inb : ∀ (v7154 : BitVec 32) (v7264 : BitVec 32) (k0_hw580 : k0_chk580 v7154 v7264), ∀ a, (k0_off851 v7154 v7264) a + S1x48x512.size a ≤ S64x64x512.size a := fun v7154 v7264 k0_hw580 => k0_hw580

def k0_off852 (v7154 : BitVec 32) (v7266 : BitVec 32) : Fin 3 → Nat :=
  let v7274 : Index := Scalar.indexCast v7266
  let v7155 : BitVec 32 := v7154
  let v7275 : Index := Scalar.indexCast v7155
  let c0_3093 : Index := 0#32
  ![v7274.toNat, v7275.toNat, 0]

def k0_chk581 (v7154 : BitVec 32) (v7266 : BitVec 32) : Prop :=
  (∀ a, (k0_off852 v7154 v7266) a + S1x48x512.size a ≤ S64x64x512.size a)
theorem k0_off852_inb : ∀ (v7154 : BitVec 32) (v7266 : BitVec 32) (k0_hw581 : k0_chk581 v7154 v7266), ∀ a, (k0_off852 v7154 v7266) a + S1x48x512.size a ≤ S64x64x512.size a := fun v7154 v7266 k0_hw581 => k0_hw581

def k0_off853 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3100 : BitVec 32 := 38#32
  let v7286 : BitVec 32 := Scalar.addi v5 c38_i32_3100
  let c7_i32_3101 : BitVec 32 := 7#32
  let v7287 : BitVec 32 := Scalar.muli v7286 c7_i32_3101
  let c5_i32_3102 : BitVec 32 := 5#32
  let v7288 : BitVec 32 := Scalar.addi v7287 c5_i32_3102
  let v7289 : Index := Scalar.indexCast v7288
  ![v7289.toNat]
def k0_off854 (v7154 : BitVec 32) (v7290 : BitVec 32) : Fin 3 → Nat :=
  let v7296 : Index := Scalar.indexCast v7290
  let v7155 : BitVec 32 := v7154
  let v7297 : Index := Scalar.indexCast v7155
  let c0_3103 : Index := 0#32
  ![v7296.toNat, v7297.toNat, 0]

def k0_chk582 (v7154 : BitVec 32) (v7290 : BitVec 32) : Prop :=
  (∀ a, (k0_off854 v7154 v7290) a + S1x48x512.size a ≤ S64x64x512.size a)
theorem k0_off854_inb : ∀ (v7154 : BitVec 32) (v7290 : BitVec 32) (k0_hw582 : k0_chk582 v7154 v7290), ∀ a, (k0_off854 v7154 v7290) a + S1x48x512.size a ≤ S64x64x512.size a := fun v7154 v7290 k0_hw582 => k0_hw582

def k0_off855 (v7154 : BitVec 32) (v7292 : BitVec 32) : Fin 3 → Nat :=
  let v7300 : Index := Scalar.indexCast v7292
  let v7155 : BitVec 32 := v7154
  let v7301 : Index := Scalar.indexCast v7155
  let c0_3104 : Index := 0#32
  ![v7300.toNat, v7301.toNat, 0]

def k0_chk583 (v7154 : BitVec 32) (v7292 : BitVec 32) : Prop :=
  (∀ a, (k0_off855 v7154 v7292) a + S1x48x512.size a ≤ S64x64x512.size a)
theorem k0_off855_inb : ∀ (v7154 : BitVec 32) (v7292 : BitVec 32) (k0_hw583 : k0_chk583 v7154 v7292), ∀ a, (k0_off855 v7154 v7292) a + S1x48x512.size a ≤ S64x64x512.size a := fun v7154 v7292 k0_hw583 => k0_hw583

def k0_off856 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c38_i32_3111 : BitVec 32 := 38#32
  let v7312 : BitVec 32 := Scalar.addi v5 c38_i32_3111
  let c7_i32_3112 : BitVec 32 := 7#32
  let v7313 : BitVec 32 := Scalar.muli v7312 c7_i32_3112
  let c6_i32_3113 : BitVec 32 := 6#32
  let v7314 : BitVec 32 := Scalar.addi v7313 c6_i32_3113
  let v7315 : Index := Scalar.indexCast v7314
  ![v7315.toNat]
def k0_off857 (v7154 : BitVec 32) (v7316 : BitVec 32) : Fin 3 → Nat :=
  let v7322 : Index := Scalar.indexCast v7316
  let v7155 : BitVec 32 := v7154
  let v7323 : Index := Scalar.indexCast v7155
  let c0_3114 : Index := 0#32
  ![v7322.toNat, v7323.toNat, 0]

def k0_chk584 (v7154 : BitVec 32) (v7316 : BitVec 32) : Prop :=
  (∀ a, (k0_off857 v7154 v7316) a + S1x48x512.size a ≤ S64x64x512.size a)
theorem k0_off857_inb : ∀ (v7154 : BitVec 32) (v7316 : BitVec 32) (k0_hw584 : k0_chk584 v7154 v7316), ∀ a, (k0_off857 v7154 v7316) a + S1x48x512.size a ≤ S64x64x512.size a := fun v7154 v7316 k0_hw584 => k0_hw584

def k0_off858 (v7154 : BitVec 32) (v7318 : BitVec 32) : Fin 3 → Nat :=
  let v7326 : Index := Scalar.indexCast v7318
  let v7155 : BitVec 32 := v7154
  let v7327 : Index := Scalar.indexCast v7155
  let c0_3115 : Index := 0#32
  ![v7326.toNat, v7327.toNat, 0]

def k0_chk585 (v7154 : BitVec 32) (v7318 : BitVec 32) : Prop :=
  (∀ a, (k0_off858 v7154 v7318) a + S1x48x512.size a ≤ S64x64x512.size a)
theorem k0_off858_inb : ∀ (v7154 : BitVec 32) (v7318 : BitVec 32) (k0_hw585 : k0_chk585 v7154 v7318), ∀ a, (k0_off858 v7154 v7318) a + S1x48x512.size a ≤ S64x64x512.size a := fun v7154 v7318 k0_hw585 => k0_hw585

def k0_off859 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32 : BitVec 32 := 39#32
  let v7340 : BitVec 32 := Scalar.addi v5 c39_i32
  let v7341 : Index := Scalar.indexCast v7340
  ![v7341.toNat]
def k0_mult40 (v7342 : BitVec 32) : BitVec 32 :=
  v7342

def k0_chk586 (v7342 : BitVec 32) : Prop :=
  (16 ∣ (k0_mult40 v7342).toNat)
theorem k0_mult40_dvd : ∀ (v7342 : BitVec 32) (k0_hw586 : k0_chk586 v7342), 16 ∣ (k0_mult40 v7342).toNat := fun v7342 k0_hw586 => k0_hw586

def k0_off860 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3125 : BitVec 32 := 39#32
  let v7344 : BitVec 32 := Scalar.addi v5 c39_i32_3125
  let c7_i32_3126 : BitVec 32 := 7#32
  let v7345 : BitVec 32 := Scalar.muli v7344 c7_i32_3126
  let c0_i32_3127 : BitVec 32 := 0#32
  let v7346 : BitVec 32 := Scalar.addi v7345 c0_i32_3127
  let v7347 : Index := Scalar.indexCast v7346
  ![v7347.toNat]
def k0_off861 (v7342 : BitVec 32) (v7348 : BitVec 32) : Fin 3 → Nat :=
  let v7354 : Index := Scalar.indexCast v7348
  let v7343 : BitVec 32 := v7342
  let v7355 : Index := Scalar.indexCast v7343
  let c0_3128 : Index := 0#32
  ![v7354.toNat, v7355.toNat, 0]

def k0_chk587 (v7342 : BitVec 32) (v7348 : BitVec 32) : Prop :=
  (∀ a, (k0_off861 v7342 v7348) a + S1x48x512.size a ≤ S64x64x512.size a)
theorem k0_off861_inb : ∀ (v7342 : BitVec 32) (v7348 : BitVec 32) (k0_hw587 : k0_chk587 v7342 v7348), ∀ a, (k0_off861 v7342 v7348) a + S1x48x512.size a ≤ S64x64x512.size a := fun v7342 v7348 k0_hw587 => k0_hw587

def k0_off862 (v7342 : BitVec 32) (v7350 : BitVec 32) : Fin 3 → Nat :=
  let v7358 : Index := Scalar.indexCast v7350
  let v7343 : BitVec 32 := v7342
  let v7359 : Index := Scalar.indexCast v7343
  let c0_3129 : Index := 0#32
  ![v7358.toNat, v7359.toNat, 0]

def k0_chk588 (v7342 : BitVec 32) (v7350 : BitVec 32) : Prop :=
  (∀ a, (k0_off862 v7342 v7350) a + S1x48x512.size a ≤ S64x64x512.size a)
theorem k0_off862_inb : ∀ (v7342 : BitVec 32) (v7350 : BitVec 32) (k0_hw588 : k0_chk588 v7342 v7350), ∀ a, (k0_off862 v7342 v7350) a + S1x48x512.size a ≤ S64x64x512.size a := fun v7342 v7350 k0_hw588 => k0_hw588

def k0_off863 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3136 : BitVec 32 := 39#32
  let v7370 : BitVec 32 := Scalar.addi v5 c39_i32_3136
  let c7_i32_3137 : BitVec 32 := 7#32
  let v7371 : BitVec 32 := Scalar.muli v7370 c7_i32_3137
  let c1_i32_3138 : BitVec 32 := 1#32
  let v7372 : BitVec 32 := Scalar.addi v7371 c1_i32_3138
  let v7373 : Index := Scalar.indexCast v7372
  ![v7373.toNat]
def k0_off864 (v7342 : BitVec 32) (v7374 : BitVec 32) : Fin 3 → Nat :=
  let v7380 : Index := Scalar.indexCast v7374
  let v7343 : BitVec 32 := v7342
  let v7381 : Index := Scalar.indexCast v7343
  let c0_3139 : Index := 0#32
  ![v7380.toNat, v7381.toNat, 0]

def k0_chk589 (v7342 : BitVec 32) (v7374 : BitVec 32) : Prop :=
  (∀ a, (k0_off864 v7342 v7374) a + S1x48x512.size a ≤ S64x64x512.size a)
theorem k0_off864_inb : ∀ (v7342 : BitVec 32) (v7374 : BitVec 32) (k0_hw589 : k0_chk589 v7342 v7374), ∀ a, (k0_off864 v7342 v7374) a + S1x48x512.size a ≤ S64x64x512.size a := fun v7342 v7374 k0_hw589 => k0_hw589

def k0_off865 (v7342 : BitVec 32) (v7376 : BitVec 32) : Fin 3 → Nat :=
  let v7384 : Index := Scalar.indexCast v7376
  let v7343 : BitVec 32 := v7342
  let v7385 : Index := Scalar.indexCast v7343
  let c0_3140 : Index := 0#32
  ![v7384.toNat, v7385.toNat, 0]

def k0_chk590 (v7342 : BitVec 32) (v7376 : BitVec 32) : Prop :=
  (∀ a, (k0_off865 v7342 v7376) a + S1x48x512.size a ≤ S64x64x512.size a)
theorem k0_off865_inb : ∀ (v7342 : BitVec 32) (v7376 : BitVec 32) (k0_hw590 : k0_chk590 v7342 v7376), ∀ a, (k0_off865 v7342 v7376) a + S1x48x512.size a ≤ S64x64x512.size a := fun v7342 v7376 k0_hw590 => k0_hw590

def k0_off866 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3147 : BitVec 32 := 39#32
  let v7396 : BitVec 32 := Scalar.addi v5 c39_i32_3147
  let c7_i32_3148 : BitVec 32 := 7#32
  let v7397 : BitVec 32 := Scalar.muli v7396 c7_i32_3148
  let c2_i32_3149 : BitVec 32 := 2#32
  let v7398 : BitVec 32 := Scalar.addi v7397 c2_i32_3149
  let v7399 : Index := Scalar.indexCast v7398
  ![v7399.toNat]
def k0_off867 (v7342 : BitVec 32) (v7400 : BitVec 32) : Fin 3 → Nat :=
  let v7406 : Index := Scalar.indexCast v7400
  let v7343 : BitVec 32 := v7342
  let v7407 : Index := Scalar.indexCast v7343
  let c0_3150 : Index := 0#32
  ![v7406.toNat, v7407.toNat, 0]

def k0_chk591 (v7342 : BitVec 32) (v7400 : BitVec 32) : Prop :=
  (∀ a, (k0_off867 v7342 v7400) a + S1x48x512.size a ≤ S64x64x512.size a)
theorem k0_off867_inb : ∀ (v7342 : BitVec 32) (v7400 : BitVec 32) (k0_hw591 : k0_chk591 v7342 v7400), ∀ a, (k0_off867 v7342 v7400) a + S1x48x512.size a ≤ S64x64x512.size a := fun v7342 v7400 k0_hw591 => k0_hw591

def k0_off868 (v7342 : BitVec 32) (v7402 : BitVec 32) : Fin 3 → Nat :=
  let v7410 : Index := Scalar.indexCast v7402
  let v7343 : BitVec 32 := v7342
  let v7411 : Index := Scalar.indexCast v7343
  let c0_3151 : Index := 0#32
  ![v7410.toNat, v7411.toNat, 0]

def k0_chk592 (v7342 : BitVec 32) (v7402 : BitVec 32) : Prop :=
  (∀ a, (k0_off868 v7342 v7402) a + S1x48x512.size a ≤ S64x64x512.size a)
theorem k0_off868_inb : ∀ (v7342 : BitVec 32) (v7402 : BitVec 32) (k0_hw592 : k0_chk592 v7342 v7402), ∀ a, (k0_off868 v7342 v7402) a + S1x48x512.size a ≤ S64x64x512.size a := fun v7342 v7402 k0_hw592 => k0_hw592

def k0_off869 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3158 : BitVec 32 := 39#32
  let v7422 : BitVec 32 := Scalar.addi v5 c39_i32_3158
  let c7_i32_3159 : BitVec 32 := 7#32
  let v7423 : BitVec 32 := Scalar.muli v7422 c7_i32_3159
  let c3_i32_3160 : BitVec 32 := 3#32
  let v7424 : BitVec 32 := Scalar.addi v7423 c3_i32_3160
  let v7425 : Index := Scalar.indexCast v7424
  ![v7425.toNat]
def k0_off870 (v7342 : BitVec 32) (v7426 : BitVec 32) : Fin 3 → Nat :=
  let v7432 : Index := Scalar.indexCast v7426
  let v7343 : BitVec 32 := v7342
  let v7433 : Index := Scalar.indexCast v7343
  let c0_3161 : Index := 0#32
  ![v7432.toNat, v7433.toNat, 0]

def k0_chk593 (v7342 : BitVec 32) (v7426 : BitVec 32) : Prop :=
  (∀ a, (k0_off870 v7342 v7426) a + S1x48x512.size a ≤ S64x64x512.size a)
theorem k0_off870_inb : ∀ (v7342 : BitVec 32) (v7426 : BitVec 32) (k0_hw593 : k0_chk593 v7342 v7426), ∀ a, (k0_off870 v7342 v7426) a + S1x48x512.size a ≤ S64x64x512.size a := fun v7342 v7426 k0_hw593 => k0_hw593

def k0_off871 (v7342 : BitVec 32) (v7428 : BitVec 32) : Fin 3 → Nat :=
  let v7436 : Index := Scalar.indexCast v7428
  let v7343 : BitVec 32 := v7342
  let v7437 : Index := Scalar.indexCast v7343
  let c0_3162 : Index := 0#32
  ![v7436.toNat, v7437.toNat, 0]

def k0_chk594 (v7342 : BitVec 32) (v7428 : BitVec 32) : Prop :=
  (∀ a, (k0_off871 v7342 v7428) a + S1x48x512.size a ≤ S64x64x512.size a)
theorem k0_off871_inb : ∀ (v7342 : BitVec 32) (v7428 : BitVec 32) (k0_hw594 : k0_chk594 v7342 v7428), ∀ a, (k0_off871 v7342 v7428) a + S1x48x512.size a ≤ S64x64x512.size a := fun v7342 v7428 k0_hw594 => k0_hw594

def k0_off872 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3169 : BitVec 32 := 39#32
  let v7448 : BitVec 32 := Scalar.addi v5 c39_i32_3169
  let c7_i32_3170 : BitVec 32 := 7#32
  let v7449 : BitVec 32 := Scalar.muli v7448 c7_i32_3170
  let c4_i32_3171 : BitVec 32 := 4#32
  let v7450 : BitVec 32 := Scalar.addi v7449 c4_i32_3171
  let v7451 : Index := Scalar.indexCast v7450
  ![v7451.toNat]
def k0_off873 (v7342 : BitVec 32) (v7452 : BitVec 32) : Fin 3 → Nat :=
  let v7458 : Index := Scalar.indexCast v7452
  let v7343 : BitVec 32 := v7342
  let v7459 : Index := Scalar.indexCast v7343
  let c0_3172 : Index := 0#32
  ![v7458.toNat, v7459.toNat, 0]

def k0_chk595 (v7342 : BitVec 32) (v7452 : BitVec 32) : Prop :=
  (∀ a, (k0_off873 v7342 v7452) a + S1x48x512.size a ≤ S64x64x512.size a)
theorem k0_off873_inb : ∀ (v7342 : BitVec 32) (v7452 : BitVec 32) (k0_hw595 : k0_chk595 v7342 v7452), ∀ a, (k0_off873 v7342 v7452) a + S1x48x512.size a ≤ S64x64x512.size a := fun v7342 v7452 k0_hw595 => k0_hw595

def k0_off874 (v7342 : BitVec 32) (v7454 : BitVec 32) : Fin 3 → Nat :=
  let v7462 : Index := Scalar.indexCast v7454
  let v7343 : BitVec 32 := v7342
  let v7463 : Index := Scalar.indexCast v7343
  let c0_3173 : Index := 0#32
  ![v7462.toNat, v7463.toNat, 0]

def k0_chk596 (v7342 : BitVec 32) (v7454 : BitVec 32) : Prop :=
  (∀ a, (k0_off874 v7342 v7454) a + S1x48x512.size a ≤ S64x64x512.size a)
theorem k0_off874_inb : ∀ (v7342 : BitVec 32) (v7454 : BitVec 32) (k0_hw596 : k0_chk596 v7342 v7454), ∀ a, (k0_off874 v7342 v7454) a + S1x48x512.size a ≤ S64x64x512.size a := fun v7342 v7454 k0_hw596 => k0_hw596

def k0_off875 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3180 : BitVec 32 := 39#32
  let v7474 : BitVec 32 := Scalar.addi v5 c39_i32_3180
  let c7_i32_3181 : BitVec 32 := 7#32
  let v7475 : BitVec 32 := Scalar.muli v7474 c7_i32_3181
  let c5_i32_3182 : BitVec 32 := 5#32
  let v7476 : BitVec 32 := Scalar.addi v7475 c5_i32_3182
  let v7477 : Index := Scalar.indexCast v7476
  ![v7477.toNat]
def k0_off876 (v7342 : BitVec 32) (v7478 : BitVec 32) : Fin 3 → Nat :=
  let v7484 : Index := Scalar.indexCast v7478
  let v7343 : BitVec 32 := v7342
  let v7485 : Index := Scalar.indexCast v7343
  let c0_3183 : Index := 0#32
  ![v7484.toNat, v7485.toNat, 0]

def k0_chk597 (v7342 : BitVec 32) (v7478 : BitVec 32) : Prop :=
  (∀ a, (k0_off876 v7342 v7478) a + S1x48x512.size a ≤ S64x64x512.size a)
theorem k0_off876_inb : ∀ (v7342 : BitVec 32) (v7478 : BitVec 32) (k0_hw597 : k0_chk597 v7342 v7478), ∀ a, (k0_off876 v7342 v7478) a + S1x48x512.size a ≤ S64x64x512.size a := fun v7342 v7478 k0_hw597 => k0_hw597

def k0_off877 (v7342 : BitVec 32) (v7480 : BitVec 32) : Fin 3 → Nat :=
  let v7488 : Index := Scalar.indexCast v7480
  let v7343 : BitVec 32 := v7342
  let v7489 : Index := Scalar.indexCast v7343
  let c0_3184 : Index := 0#32
  ![v7488.toNat, v7489.toNat, 0]

def k0_chk598 (v7342 : BitVec 32) (v7480 : BitVec 32) : Prop :=
  (∀ a, (k0_off877 v7342 v7480) a + S1x48x512.size a ≤ S64x64x512.size a)
theorem k0_off877_inb : ∀ (v7342 : BitVec 32) (v7480 : BitVec 32) (k0_hw598 : k0_chk598 v7342 v7480), ∀ a, (k0_off877 v7342 v7480) a + S1x48x512.size a ≤ S64x64x512.size a := fun v7342 v7480 k0_hw598 => k0_hw598

def k0_off878 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c39_i32_3191 : BitVec 32 := 39#32
  let v7500 : BitVec 32 := Scalar.addi v5 c39_i32_3191
  let c7_i32_3192 : BitVec 32 := 7#32
  let v7501 : BitVec 32 := Scalar.muli v7500 c7_i32_3192
  let c6_i32_3193 : BitVec 32 := 6#32
  let v7502 : BitVec 32 := Scalar.addi v7501 c6_i32_3193
  let v7503 : Index := Scalar.indexCast v7502
  ![v7503.toNat]
def k0_off879 (v7342 : BitVec 32) (v7504 : BitVec 32) : Fin 3 → Nat :=
  let v7510 : Index := Scalar.indexCast v7504
  let v7343 : BitVec 32 := v7342
  let v7511 : Index := Scalar.indexCast v7343
  let c0_3194 : Index := 0#32
  ![v7510.toNat, v7511.toNat, 0]

def k0_chk599 (v7342 : BitVec 32) (v7504 : BitVec 32) : Prop :=
  (∀ a, (k0_off879 v7342 v7504) a + S1x48x512.size a ≤ S64x64x512.size a)
theorem k0_off879_inb : ∀ (v7342 : BitVec 32) (v7504 : BitVec 32) (k0_hw599 : k0_chk599 v7342 v7504), ∀ a, (k0_off879 v7342 v7504) a + S1x48x512.size a ≤ S64x64x512.size a := fun v7342 v7504 k0_hw599 => k0_hw599

def k0_off880 (v7342 : BitVec 32) (v7506 : BitVec 32) : Fin 3 → Nat :=
  let v7514 : Index := Scalar.indexCast v7506
  let v7343 : BitVec 32 := v7342
  let v7515 : Index := Scalar.indexCast v7343
  let c0_3195 : Index := 0#32
  ![v7514.toNat, v7515.toNat, 0]

def k0_chk600 (v7342 : BitVec 32) (v7506 : BitVec 32) : Prop :=
  (∀ a, (k0_off880 v7342 v7506) a + S1x48x512.size a ≤ S64x64x512.size a)
theorem k0_off880_inb : ∀ (v7342 : BitVec 32) (v7506 : BitVec 32) (k0_hw600 : k0_chk600 v7342 v7506), ∀ a, (k0_off880 v7342 v7506) a + S1x48x512.size a ≤ S64x64x512.size a := fun v7342 v7506 k0_hw600 => k0_hw600

def k0_off881 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32 : BitVec 32 := 40#32
  let v7528 : BitVec 32 := Scalar.addi v5 c40_i32
  let v7529 : Index := Scalar.indexCast v7528
  ![v7529.toNat]
def k0_mult41 (v7530 : BitVec 32) : BitVec 32 :=
  v7530

def k0_chk601 (v7530 : BitVec 32) : Prop :=
  (16 ∣ (k0_mult41 v7530).toNat)
theorem k0_mult41_dvd : ∀ (v7530 : BitVec 32) (k0_hw601 : k0_chk601 v7530), 16 ∣ (k0_mult41 v7530).toNat := fun v7530 k0_hw601 => k0_hw601

def k0_off882 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3205 : BitVec 32 := 40#32
  let v7532 : BitVec 32 := Scalar.addi v5 c40_i32_3205
  let c7_i32_3206 : BitVec 32 := 7#32
  let v7533 : BitVec 32 := Scalar.muli v7532 c7_i32_3206
  let c0_i32_3207 : BitVec 32 := 0#32
  let v7534 : BitVec 32 := Scalar.addi v7533 c0_i32_3207
  let v7535 : Index := Scalar.indexCast v7534
  ![v7535.toNat]
def k0_off883 (v7530 : BitVec 32) (v7536 : BitVec 32) : Fin 3 → Nat :=
  let v7542 : Index := Scalar.indexCast v7536
  let v7531 : BitVec 32 := v7530
  let v7543 : Index := Scalar.indexCast v7531
  let c0_3208 : Index := 0#32
  ![v7542.toNat, v7543.toNat, 0]

def k0_chk602 (v7530 : BitVec 32) (v7536 : BitVec 32) : Prop :=
  (∀ a, (k0_off883 v7530 v7536) a + S1x48x512.size a ≤ S64x64x512.size a)
theorem k0_off883_inb : ∀ (v7530 : BitVec 32) (v7536 : BitVec 32) (k0_hw602 : k0_chk602 v7530 v7536), ∀ a, (k0_off883 v7530 v7536) a + S1x48x512.size a ≤ S64x64x512.size a := fun v7530 v7536 k0_hw602 => k0_hw602

def k0_off884 (v7530 : BitVec 32) (v7538 : BitVec 32) : Fin 3 → Nat :=
  let v7546 : Index := Scalar.indexCast v7538
  let v7531 : BitVec 32 := v7530
  let v7547 : Index := Scalar.indexCast v7531
  let c0_3209 : Index := 0#32
  ![v7546.toNat, v7547.toNat, 0]

def k0_chk603 (v7530 : BitVec 32) (v7538 : BitVec 32) : Prop :=
  (∀ a, (k0_off884 v7530 v7538) a + S1x48x512.size a ≤ S64x64x512.size a)
theorem k0_off884_inb : ∀ (v7530 : BitVec 32) (v7538 : BitVec 32) (k0_hw603 : k0_chk603 v7530 v7538), ∀ a, (k0_off884 v7530 v7538) a + S1x48x512.size a ≤ S64x64x512.size a := fun v7530 v7538 k0_hw603 => k0_hw603

def k0_off885 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3216 : BitVec 32 := 40#32
  let v7558 : BitVec 32 := Scalar.addi v5 c40_i32_3216
  let c7_i32_3217 : BitVec 32 := 7#32
  let v7559 : BitVec 32 := Scalar.muli v7558 c7_i32_3217
  let c1_i32_3218 : BitVec 32 := 1#32
  let v7560 : BitVec 32 := Scalar.addi v7559 c1_i32_3218
  let v7561 : Index := Scalar.indexCast v7560
  ![v7561.toNat]
def k0_off886 (v7530 : BitVec 32) (v7562 : BitVec 32) : Fin 3 → Nat :=
  let v7568 : Index := Scalar.indexCast v7562
  let v7531 : BitVec 32 := v7530
  let v7569 : Index := Scalar.indexCast v7531
  let c0_3219 : Index := 0#32
  ![v7568.toNat, v7569.toNat, 0]

def k0_chk604 (v7530 : BitVec 32) (v7562 : BitVec 32) : Prop :=
  (∀ a, (k0_off886 v7530 v7562) a + S1x48x512.size a ≤ S64x64x512.size a)
theorem k0_off886_inb : ∀ (v7530 : BitVec 32) (v7562 : BitVec 32) (k0_hw604 : k0_chk604 v7530 v7562), ∀ a, (k0_off886 v7530 v7562) a + S1x48x512.size a ≤ S64x64x512.size a := fun v7530 v7562 k0_hw604 => k0_hw604

def k0_off887 (v7530 : BitVec 32) (v7564 : BitVec 32) : Fin 3 → Nat :=
  let v7572 : Index := Scalar.indexCast v7564
  let v7531 : BitVec 32 := v7530
  let v7573 : Index := Scalar.indexCast v7531
  let c0_3220 : Index := 0#32
  ![v7572.toNat, v7573.toNat, 0]

def k0_chk605 (v7530 : BitVec 32) (v7564 : BitVec 32) : Prop :=
  (∀ a, (k0_off887 v7530 v7564) a + S1x48x512.size a ≤ S64x64x512.size a)
theorem k0_off887_inb : ∀ (v7530 : BitVec 32) (v7564 : BitVec 32) (k0_hw605 : k0_chk605 v7530 v7564), ∀ a, (k0_off887 v7530 v7564) a + S1x48x512.size a ≤ S64x64x512.size a := fun v7530 v7564 k0_hw605 => k0_hw605

def k0_off888 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3227 : BitVec 32 := 40#32
  let v7584 : BitVec 32 := Scalar.addi v5 c40_i32_3227
  let c7_i32_3228 : BitVec 32 := 7#32
  let v7585 : BitVec 32 := Scalar.muli v7584 c7_i32_3228
  let c2_i32_3229 : BitVec 32 := 2#32
  let v7586 : BitVec 32 := Scalar.addi v7585 c2_i32_3229
  let v7587 : Index := Scalar.indexCast v7586
  ![v7587.toNat]
def k0_off889 (v7530 : BitVec 32) (v7588 : BitVec 32) : Fin 3 → Nat :=
  let v7594 : Index := Scalar.indexCast v7588
  let v7531 : BitVec 32 := v7530
  let v7595 : Index := Scalar.indexCast v7531
  let c0_3230 : Index := 0#32
  ![v7594.toNat, v7595.toNat, 0]

def k0_chk606 (v7530 : BitVec 32) (v7588 : BitVec 32) : Prop :=
  (∀ a, (k0_off889 v7530 v7588) a + S1x48x512.size a ≤ S64x64x512.size a)
theorem k0_off889_inb : ∀ (v7530 : BitVec 32) (v7588 : BitVec 32) (k0_hw606 : k0_chk606 v7530 v7588), ∀ a, (k0_off889 v7530 v7588) a + S1x48x512.size a ≤ S64x64x512.size a := fun v7530 v7588 k0_hw606 => k0_hw606

def k0_off890 (v7530 : BitVec 32) (v7590 : BitVec 32) : Fin 3 → Nat :=
  let v7598 : Index := Scalar.indexCast v7590
  let v7531 : BitVec 32 := v7530
  let v7599 : Index := Scalar.indexCast v7531
  let c0_3231 : Index := 0#32
  ![v7598.toNat, v7599.toNat, 0]

def k0_chk607 (v7530 : BitVec 32) (v7590 : BitVec 32) : Prop :=
  (∀ a, (k0_off890 v7530 v7590) a + S1x48x512.size a ≤ S64x64x512.size a)
theorem k0_off890_inb : ∀ (v7530 : BitVec 32) (v7590 : BitVec 32) (k0_hw607 : k0_chk607 v7530 v7590), ∀ a, (k0_off890 v7530 v7590) a + S1x48x512.size a ≤ S64x64x512.size a := fun v7530 v7590 k0_hw607 => k0_hw607

def k0_off891 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3238 : BitVec 32 := 40#32
  let v7610 : BitVec 32 := Scalar.addi v5 c40_i32_3238
  let c7_i32_3239 : BitVec 32 := 7#32
  let v7611 : BitVec 32 := Scalar.muli v7610 c7_i32_3239
  let c3_i32_3240 : BitVec 32 := 3#32
  let v7612 : BitVec 32 := Scalar.addi v7611 c3_i32_3240
  let v7613 : Index := Scalar.indexCast v7612
  ![v7613.toNat]
def k0_off892 (v7530 : BitVec 32) (v7614 : BitVec 32) : Fin 3 → Nat :=
  let v7620 : Index := Scalar.indexCast v7614
  let v7531 : BitVec 32 := v7530
  let v7621 : Index := Scalar.indexCast v7531
  let c0_3241 : Index := 0#32
  ![v7620.toNat, v7621.toNat, 0]

def k0_chk608 (v7530 : BitVec 32) (v7614 : BitVec 32) : Prop :=
  (∀ a, (k0_off892 v7530 v7614) a + S1x48x512.size a ≤ S64x64x512.size a)
theorem k0_off892_inb : ∀ (v7530 : BitVec 32) (v7614 : BitVec 32) (k0_hw608 : k0_chk608 v7530 v7614), ∀ a, (k0_off892 v7530 v7614) a + S1x48x512.size a ≤ S64x64x512.size a := fun v7530 v7614 k0_hw608 => k0_hw608

def k0_off893 (v7530 : BitVec 32) (v7616 : BitVec 32) : Fin 3 → Nat :=
  let v7624 : Index := Scalar.indexCast v7616
  let v7531 : BitVec 32 := v7530
  let v7625 : Index := Scalar.indexCast v7531
  let c0_3242 : Index := 0#32
  ![v7624.toNat, v7625.toNat, 0]

def k0_chk609 (v7530 : BitVec 32) (v7616 : BitVec 32) : Prop :=
  (∀ a, (k0_off893 v7530 v7616) a + S1x48x512.size a ≤ S64x64x512.size a)
theorem k0_off893_inb : ∀ (v7530 : BitVec 32) (v7616 : BitVec 32) (k0_hw609 : k0_chk609 v7530 v7616), ∀ a, (k0_off893 v7530 v7616) a + S1x48x512.size a ≤ S64x64x512.size a := fun v7530 v7616 k0_hw609 => k0_hw609

def k0_off894 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3249 : BitVec 32 := 40#32
  let v7636 : BitVec 32 := Scalar.addi v5 c40_i32_3249
  let c7_i32_3250 : BitVec 32 := 7#32
  let v7637 : BitVec 32 := Scalar.muli v7636 c7_i32_3250
  let c4_i32_3251 : BitVec 32 := 4#32
  let v7638 : BitVec 32 := Scalar.addi v7637 c4_i32_3251
  let v7639 : Index := Scalar.indexCast v7638
  ![v7639.toNat]
def k0_off895 (v7530 : BitVec 32) (v7640 : BitVec 32) : Fin 3 → Nat :=
  let v7646 : Index := Scalar.indexCast v7640
  let v7531 : BitVec 32 := v7530
  let v7647 : Index := Scalar.indexCast v7531
  let c0_3252 : Index := 0#32
  ![v7646.toNat, v7647.toNat, 0]

def k0_chk610 (v7530 : BitVec 32) (v7640 : BitVec 32) : Prop :=
  (∀ a, (k0_off895 v7530 v7640) a + S1x48x512.size a ≤ S64x64x512.size a)
theorem k0_off895_inb : ∀ (v7530 : BitVec 32) (v7640 : BitVec 32) (k0_hw610 : k0_chk610 v7530 v7640), ∀ a, (k0_off895 v7530 v7640) a + S1x48x512.size a ≤ S64x64x512.size a := fun v7530 v7640 k0_hw610 => k0_hw610

def k0_off896 (v7530 : BitVec 32) (v7642 : BitVec 32) : Fin 3 → Nat :=
  let v7650 : Index := Scalar.indexCast v7642
  let v7531 : BitVec 32 := v7530
  let v7651 : Index := Scalar.indexCast v7531
  let c0_3253 : Index := 0#32
  ![v7650.toNat, v7651.toNat, 0]

def k0_chk611 (v7530 : BitVec 32) (v7642 : BitVec 32) : Prop :=
  (∀ a, (k0_off896 v7530 v7642) a + S1x48x512.size a ≤ S64x64x512.size a)
theorem k0_off896_inb : ∀ (v7530 : BitVec 32) (v7642 : BitVec 32) (k0_hw611 : k0_chk611 v7530 v7642), ∀ a, (k0_off896 v7530 v7642) a + S1x48x512.size a ≤ S64x64x512.size a := fun v7530 v7642 k0_hw611 => k0_hw611

def k0_off897 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3260 : BitVec 32 := 40#32
  let v7662 : BitVec 32 := Scalar.addi v5 c40_i32_3260
  let c7_i32_3261 : BitVec 32 := 7#32
  let v7663 : BitVec 32 := Scalar.muli v7662 c7_i32_3261
  let c5_i32_3262 : BitVec 32 := 5#32
  let v7664 : BitVec 32 := Scalar.addi v7663 c5_i32_3262
  let v7665 : Index := Scalar.indexCast v7664
  ![v7665.toNat]
def k0_off898 (v7530 : BitVec 32) (v7666 : BitVec 32) : Fin 3 → Nat :=
  let v7672 : Index := Scalar.indexCast v7666
  let v7531 : BitVec 32 := v7530
  let v7673 : Index := Scalar.indexCast v7531
  let c0_3263 : Index := 0#32
  ![v7672.toNat, v7673.toNat, 0]

def k0_chk612 (v7530 : BitVec 32) (v7666 : BitVec 32) : Prop :=
  (∀ a, (k0_off898 v7530 v7666) a + S1x48x512.size a ≤ S64x64x512.size a)
theorem k0_off898_inb : ∀ (v7530 : BitVec 32) (v7666 : BitVec 32) (k0_hw612 : k0_chk612 v7530 v7666), ∀ a, (k0_off898 v7530 v7666) a + S1x48x512.size a ≤ S64x64x512.size a := fun v7530 v7666 k0_hw612 => k0_hw612

def k0_off899 (v7530 : BitVec 32) (v7668 : BitVec 32) : Fin 3 → Nat :=
  let v7676 : Index := Scalar.indexCast v7668
  let v7531 : BitVec 32 := v7530
  let v7677 : Index := Scalar.indexCast v7531
  let c0_3264 : Index := 0#32
  ![v7676.toNat, v7677.toNat, 0]

def k0_chk613 (v7530 : BitVec 32) (v7668 : BitVec 32) : Prop :=
  (∀ a, (k0_off899 v7530 v7668) a + S1x48x512.size a ≤ S64x64x512.size a)
theorem k0_off899_inb : ∀ (v7530 : BitVec 32) (v7668 : BitVec 32) (k0_hw613 : k0_chk613 v7530 v7668), ∀ a, (k0_off899 v7530 v7668) a + S1x48x512.size a ≤ S64x64x512.size a := fun v7530 v7668 k0_hw613 => k0_hw613

def k0_off900 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c40_i32_3271 : BitVec 32 := 40#32
  let v7688 : BitVec 32 := Scalar.addi v5 c40_i32_3271
  let c7_i32_3272 : BitVec 32 := 7#32
  let v7689 : BitVec 32 := Scalar.muli v7688 c7_i32_3272
  let c6_i32_3273 : BitVec 32 := 6#32
  let v7690 : BitVec 32 := Scalar.addi v7689 c6_i32_3273
  let v7691 : Index := Scalar.indexCast v7690
  ![v7691.toNat]
def k0_off901 (v7530 : BitVec 32) (v7692 : BitVec 32) : Fin 3 → Nat :=
  let v7698 : Index := Scalar.indexCast v7692
  let v7531 : BitVec 32 := v7530
  let v7699 : Index := Scalar.indexCast v7531
  let c0_3274 : Index := 0#32
  ![v7698.toNat, v7699.toNat, 0]

def k0_chk614 (v7530 : BitVec 32) (v7692 : BitVec 32) : Prop :=
  (∀ a, (k0_off901 v7530 v7692) a + S1x48x512.size a ≤ S64x64x512.size a)
theorem k0_off901_inb : ∀ (v7530 : BitVec 32) (v7692 : BitVec 32) (k0_hw614 : k0_chk614 v7530 v7692), ∀ a, (k0_off901 v7530 v7692) a + S1x48x512.size a ≤ S64x64x512.size a := fun v7530 v7692 k0_hw614 => k0_hw614

def k0_off902 (v7530 : BitVec 32) (v7694 : BitVec 32) : Fin 3 → Nat :=
  let v7702 : Index := Scalar.indexCast v7694
  let v7531 : BitVec 32 := v7530
  let v7703 : Index := Scalar.indexCast v7531
  let c0_3275 : Index := 0#32
  ![v7702.toNat, v7703.toNat, 0]

def k0_chk615 (v7530 : BitVec 32) (v7694 : BitVec 32) : Prop :=
  (∀ a, (k0_off902 v7530 v7694) a + S1x48x512.size a ≤ S64x64x512.size a)
theorem k0_off902_inb : ∀ (v7530 : BitVec 32) (v7694 : BitVec 32) (k0_hw615 : k0_chk615 v7530 v7694), ∀ a, (k0_off902 v7530 v7694) a + S1x48x512.size a ≤ S64x64x512.size a := fun v7530 v7694 k0_hw615 => k0_hw615

def k0_off903 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32 : BitVec 32 := 41#32
  let v7716 : BitVec 32 := Scalar.addi v5 c41_i32
  let v7717 : Index := Scalar.indexCast v7716
  ![v7717.toNat]
def k0_mult42 (v7718 : BitVec 32) : BitVec 32 :=
  v7718

def k0_chk616 (v7718 : BitVec 32) : Prop :=
  (16 ∣ (k0_mult42 v7718).toNat)
theorem k0_mult42_dvd : ∀ (v7718 : BitVec 32) (k0_hw616 : k0_chk616 v7718), 16 ∣ (k0_mult42 v7718).toNat := fun v7718 k0_hw616 => k0_hw616

def k0_off904 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3285 : BitVec 32 := 41#32
  let v7720 : BitVec 32 := Scalar.addi v5 c41_i32_3285
  let c7_i32_3286 : BitVec 32 := 7#32
  let v7721 : BitVec 32 := Scalar.muli v7720 c7_i32_3286
  let c0_i32_3287 : BitVec 32 := 0#32
  let v7722 : BitVec 32 := Scalar.addi v7721 c0_i32_3287
  let v7723 : Index := Scalar.indexCast v7722
  ![v7723.toNat]
def k0_off905 (v7718 : BitVec 32) (v7724 : BitVec 32) : Fin 3 → Nat :=
  let v7730 : Index := Scalar.indexCast v7724
  let v7719 : BitVec 32 := v7718
  let v7731 : Index := Scalar.indexCast v7719
  let c0_3288 : Index := 0#32
  ![v7730.toNat, v7731.toNat, 0]

def k0_chk617 (v7718 : BitVec 32) (v7724 : BitVec 32) : Prop :=
  (∀ a, (k0_off905 v7718 v7724) a + S1x48x512.size a ≤ S64x64x512.size a)
theorem k0_off905_inb : ∀ (v7718 : BitVec 32) (v7724 : BitVec 32) (k0_hw617 : k0_chk617 v7718 v7724), ∀ a, (k0_off905 v7718 v7724) a + S1x48x512.size a ≤ S64x64x512.size a := fun v7718 v7724 k0_hw617 => k0_hw617

def k0_off906 (v7718 : BitVec 32) (v7726 : BitVec 32) : Fin 3 → Nat :=
  let v7734 : Index := Scalar.indexCast v7726
  let v7719 : BitVec 32 := v7718
  let v7735 : Index := Scalar.indexCast v7719
  let c0_3289 : Index := 0#32
  ![v7734.toNat, v7735.toNat, 0]

def k0_chk618 (v7718 : BitVec 32) (v7726 : BitVec 32) : Prop :=
  (∀ a, (k0_off906 v7718 v7726) a + S1x48x512.size a ≤ S64x64x512.size a)
theorem k0_off906_inb : ∀ (v7718 : BitVec 32) (v7726 : BitVec 32) (k0_hw618 : k0_chk618 v7718 v7726), ∀ a, (k0_off906 v7718 v7726) a + S1x48x512.size a ≤ S64x64x512.size a := fun v7718 v7726 k0_hw618 => k0_hw618

def k0_off907 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3296 : BitVec 32 := 41#32
  let v7746 : BitVec 32 := Scalar.addi v5 c41_i32_3296
  let c7_i32_3297 : BitVec 32 := 7#32
  let v7747 : BitVec 32 := Scalar.muli v7746 c7_i32_3297
  let c1_i32_3298 : BitVec 32 := 1#32
  let v7748 : BitVec 32 := Scalar.addi v7747 c1_i32_3298
  let v7749 : Index := Scalar.indexCast v7748
  ![v7749.toNat]
def k0_off908 (v7718 : BitVec 32) (v7750 : BitVec 32) : Fin 3 → Nat :=
  let v7756 : Index := Scalar.indexCast v7750
  let v7719 : BitVec 32 := v7718
  let v7757 : Index := Scalar.indexCast v7719
  let c0_3299 : Index := 0#32
  ![v7756.toNat, v7757.toNat, 0]

def k0_chk619 (v7718 : BitVec 32) (v7750 : BitVec 32) : Prop :=
  (∀ a, (k0_off908 v7718 v7750) a + S1x48x512.size a ≤ S64x64x512.size a)
theorem k0_off908_inb : ∀ (v7718 : BitVec 32) (v7750 : BitVec 32) (k0_hw619 : k0_chk619 v7718 v7750), ∀ a, (k0_off908 v7718 v7750) a + S1x48x512.size a ≤ S64x64x512.size a := fun v7718 v7750 k0_hw619 => k0_hw619

def k0_off909 (v7718 : BitVec 32) (v7752 : BitVec 32) : Fin 3 → Nat :=
  let v7760 : Index := Scalar.indexCast v7752
  let v7719 : BitVec 32 := v7718
  let v7761 : Index := Scalar.indexCast v7719
  let c0_3300 : Index := 0#32
  ![v7760.toNat, v7761.toNat, 0]

def k0_chk620 (v7718 : BitVec 32) (v7752 : BitVec 32) : Prop :=
  (∀ a, (k0_off909 v7718 v7752) a + S1x48x512.size a ≤ S64x64x512.size a)
theorem k0_off909_inb : ∀ (v7718 : BitVec 32) (v7752 : BitVec 32) (k0_hw620 : k0_chk620 v7718 v7752), ∀ a, (k0_off909 v7718 v7752) a + S1x48x512.size a ≤ S64x64x512.size a := fun v7718 v7752 k0_hw620 => k0_hw620

def k0_off910 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3307 : BitVec 32 := 41#32
  let v7772 : BitVec 32 := Scalar.addi v5 c41_i32_3307
  let c7_i32_3308 : BitVec 32 := 7#32
  let v7773 : BitVec 32 := Scalar.muli v7772 c7_i32_3308
  let c2_i32_3309 : BitVec 32 := 2#32
  let v7774 : BitVec 32 := Scalar.addi v7773 c2_i32_3309
  let v7775 : Index := Scalar.indexCast v7774
  ![v7775.toNat]
def k0_off911 (v7718 : BitVec 32) (v7776 : BitVec 32) : Fin 3 → Nat :=
  let v7782 : Index := Scalar.indexCast v7776
  let v7719 : BitVec 32 := v7718
  let v7783 : Index := Scalar.indexCast v7719
  let c0_3310 : Index := 0#32
  ![v7782.toNat, v7783.toNat, 0]

def k0_chk621 (v7718 : BitVec 32) (v7776 : BitVec 32) : Prop :=
  (∀ a, (k0_off911 v7718 v7776) a + S1x48x512.size a ≤ S64x64x512.size a)
theorem k0_off911_inb : ∀ (v7718 : BitVec 32) (v7776 : BitVec 32) (k0_hw621 : k0_chk621 v7718 v7776), ∀ a, (k0_off911 v7718 v7776) a + S1x48x512.size a ≤ S64x64x512.size a := fun v7718 v7776 k0_hw621 => k0_hw621

def k0_off912 (v7718 : BitVec 32) (v7778 : BitVec 32) : Fin 3 → Nat :=
  let v7786 : Index := Scalar.indexCast v7778
  let v7719 : BitVec 32 := v7718
  let v7787 : Index := Scalar.indexCast v7719
  let c0_3311 : Index := 0#32
  ![v7786.toNat, v7787.toNat, 0]

def k0_chk622 (v7718 : BitVec 32) (v7778 : BitVec 32) : Prop :=
  (∀ a, (k0_off912 v7718 v7778) a + S1x48x512.size a ≤ S64x64x512.size a)
theorem k0_off912_inb : ∀ (v7718 : BitVec 32) (v7778 : BitVec 32) (k0_hw622 : k0_chk622 v7718 v7778), ∀ a, (k0_off912 v7718 v7778) a + S1x48x512.size a ≤ S64x64x512.size a := fun v7718 v7778 k0_hw622 => k0_hw622

def k0_off913 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3318 : BitVec 32 := 41#32
  let v7798 : BitVec 32 := Scalar.addi v5 c41_i32_3318
  let c7_i32_3319 : BitVec 32 := 7#32
  let v7799 : BitVec 32 := Scalar.muli v7798 c7_i32_3319
  let c3_i32_3320 : BitVec 32 := 3#32
  let v7800 : BitVec 32 := Scalar.addi v7799 c3_i32_3320
  let v7801 : Index := Scalar.indexCast v7800
  ![v7801.toNat]
def k0_off914 (v7718 : BitVec 32) (v7802 : BitVec 32) : Fin 3 → Nat :=
  let v7808 : Index := Scalar.indexCast v7802
  let v7719 : BitVec 32 := v7718
  let v7809 : Index := Scalar.indexCast v7719
  let c0_3321 : Index := 0#32
  ![v7808.toNat, v7809.toNat, 0]

def k0_chk623 (v7718 : BitVec 32) (v7802 : BitVec 32) : Prop :=
  (∀ a, (k0_off914 v7718 v7802) a + S1x48x512.size a ≤ S64x64x512.size a)
theorem k0_off914_inb : ∀ (v7718 : BitVec 32) (v7802 : BitVec 32) (k0_hw623 : k0_chk623 v7718 v7802), ∀ a, (k0_off914 v7718 v7802) a + S1x48x512.size a ≤ S64x64x512.size a := fun v7718 v7802 k0_hw623 => k0_hw623

def k0_off915 (v7718 : BitVec 32) (v7804 : BitVec 32) : Fin 3 → Nat :=
  let v7812 : Index := Scalar.indexCast v7804
  let v7719 : BitVec 32 := v7718
  let v7813 : Index := Scalar.indexCast v7719
  let c0_3322 : Index := 0#32
  ![v7812.toNat, v7813.toNat, 0]

def k0_chk624 (v7718 : BitVec 32) (v7804 : BitVec 32) : Prop :=
  (∀ a, (k0_off915 v7718 v7804) a + S1x48x512.size a ≤ S64x64x512.size a)
theorem k0_off915_inb : ∀ (v7718 : BitVec 32) (v7804 : BitVec 32) (k0_hw624 : k0_chk624 v7718 v7804), ∀ a, (k0_off915 v7718 v7804) a + S1x48x512.size a ≤ S64x64x512.size a := fun v7718 v7804 k0_hw624 => k0_hw624

def k0_off916 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3329 : BitVec 32 := 41#32
  let v7824 : BitVec 32 := Scalar.addi v5 c41_i32_3329
  let c7_i32_3330 : BitVec 32 := 7#32
  let v7825 : BitVec 32 := Scalar.muli v7824 c7_i32_3330
  let c4_i32_3331 : BitVec 32 := 4#32
  let v7826 : BitVec 32 := Scalar.addi v7825 c4_i32_3331
  let v7827 : Index := Scalar.indexCast v7826
  ![v7827.toNat]
def k0_off917 (v7718 : BitVec 32) (v7828 : BitVec 32) : Fin 3 → Nat :=
  let v7834 : Index := Scalar.indexCast v7828
  let v7719 : BitVec 32 := v7718
  let v7835 : Index := Scalar.indexCast v7719
  let c0_3332 : Index := 0#32
  ![v7834.toNat, v7835.toNat, 0]

def k0_chk625 (v7718 : BitVec 32) (v7828 : BitVec 32) : Prop :=
  (∀ a, (k0_off917 v7718 v7828) a + S1x48x512.size a ≤ S64x64x512.size a)
theorem k0_off917_inb : ∀ (v7718 : BitVec 32) (v7828 : BitVec 32) (k0_hw625 : k0_chk625 v7718 v7828), ∀ a, (k0_off917 v7718 v7828) a + S1x48x512.size a ≤ S64x64x512.size a := fun v7718 v7828 k0_hw625 => k0_hw625

def k0_off918 (v7718 : BitVec 32) (v7830 : BitVec 32) : Fin 3 → Nat :=
  let v7838 : Index := Scalar.indexCast v7830
  let v7719 : BitVec 32 := v7718
  let v7839 : Index := Scalar.indexCast v7719
  let c0_3333 : Index := 0#32
  ![v7838.toNat, v7839.toNat, 0]

def k0_chk626 (v7718 : BitVec 32) (v7830 : BitVec 32) : Prop :=
  (∀ a, (k0_off918 v7718 v7830) a + S1x48x512.size a ≤ S64x64x512.size a)
theorem k0_off918_inb : ∀ (v7718 : BitVec 32) (v7830 : BitVec 32) (k0_hw626 : k0_chk626 v7718 v7830), ∀ a, (k0_off918 v7718 v7830) a + S1x48x512.size a ≤ S64x64x512.size a := fun v7718 v7830 k0_hw626 => k0_hw626

def k0_off919 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3340 : BitVec 32 := 41#32
  let v7850 : BitVec 32 := Scalar.addi v5 c41_i32_3340
  let c7_i32_3341 : BitVec 32 := 7#32
  let v7851 : BitVec 32 := Scalar.muli v7850 c7_i32_3341
  let c5_i32_3342 : BitVec 32 := 5#32
  let v7852 : BitVec 32 := Scalar.addi v7851 c5_i32_3342
  let v7853 : Index := Scalar.indexCast v7852
  ![v7853.toNat]
def k0_off920 (v7718 : BitVec 32) (v7854 : BitVec 32) : Fin 3 → Nat :=
  let v7860 : Index := Scalar.indexCast v7854
  let v7719 : BitVec 32 := v7718
  let v7861 : Index := Scalar.indexCast v7719
  let c0_3343 : Index := 0#32
  ![v7860.toNat, v7861.toNat, 0]

def k0_chk627 (v7718 : BitVec 32) (v7854 : BitVec 32) : Prop :=
  (∀ a, (k0_off920 v7718 v7854) a + S1x48x512.size a ≤ S64x64x512.size a)
theorem k0_off920_inb : ∀ (v7718 : BitVec 32) (v7854 : BitVec 32) (k0_hw627 : k0_chk627 v7718 v7854), ∀ a, (k0_off920 v7718 v7854) a + S1x48x512.size a ≤ S64x64x512.size a := fun v7718 v7854 k0_hw627 => k0_hw627

def k0_off921 (v7718 : BitVec 32) (v7856 : BitVec 32) : Fin 3 → Nat :=
  let v7864 : Index := Scalar.indexCast v7856
  let v7719 : BitVec 32 := v7718
  let v7865 : Index := Scalar.indexCast v7719
  let c0_3344 : Index := 0#32
  ![v7864.toNat, v7865.toNat, 0]

def k0_chk628 (v7718 : BitVec 32) (v7856 : BitVec 32) : Prop :=
  (∀ a, (k0_off921 v7718 v7856) a + S1x48x512.size a ≤ S64x64x512.size a)
theorem k0_off921_inb : ∀ (v7718 : BitVec 32) (v7856 : BitVec 32) (k0_hw628 : k0_chk628 v7718 v7856), ∀ a, (k0_off921 v7718 v7856) a + S1x48x512.size a ≤ S64x64x512.size a := fun v7718 v7856 k0_hw628 => k0_hw628

def k0_off922 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c41_i32_3351 : BitVec 32 := 41#32
  let v7876 : BitVec 32 := Scalar.addi v5 c41_i32_3351
  let c7_i32_3352 : BitVec 32 := 7#32
  let v7877 : BitVec 32 := Scalar.muli v7876 c7_i32_3352
  let c6_i32_3353 : BitVec 32 := 6#32
  let v7878 : BitVec 32 := Scalar.addi v7877 c6_i32_3353
  let v7879 : Index := Scalar.indexCast v7878
  ![v7879.toNat]
def k0_off923 (v7718 : BitVec 32) (v7880 : BitVec 32) : Fin 3 → Nat :=
  let v7886 : Index := Scalar.indexCast v7880
  let v7719 : BitVec 32 := v7718
  let v7887 : Index := Scalar.indexCast v7719
  let c0_3354 : Index := 0#32
  ![v7886.toNat, v7887.toNat, 0]

def k0_chk629 (v7718 : BitVec 32) (v7880 : BitVec 32) : Prop :=
  (∀ a, (k0_off923 v7718 v7880) a + S1x48x512.size a ≤ S64x64x512.size a)
theorem k0_off923_inb : ∀ (v7718 : BitVec 32) (v7880 : BitVec 32) (k0_hw629 : k0_chk629 v7718 v7880), ∀ a, (k0_off923 v7718 v7880) a + S1x48x512.size a ≤ S64x64x512.size a := fun v7718 v7880 k0_hw629 => k0_hw629

def k0_off924 (v7718 : BitVec 32) (v7882 : BitVec 32) : Fin 3 → Nat :=
  let v7890 : Index := Scalar.indexCast v7882
  let v7719 : BitVec 32 := v7718
  let v7891 : Index := Scalar.indexCast v7719
  let c0_3355 : Index := 0#32
  ![v7890.toNat, v7891.toNat, 0]

def k0_chk630 (v7718 : BitVec 32) (v7882 : BitVec 32) : Prop :=
  (∀ a, (k0_off924 v7718 v7882) a + S1x48x512.size a ≤ S64x64x512.size a)
theorem k0_off924_inb : ∀ (v7718 : BitVec 32) (v7882 : BitVec 32) (k0_hw630 : k0_chk630 v7718 v7882), ∀ a, (k0_off924 v7718 v7882) a + S1x48x512.size a ≤ S64x64x512.size a := fun v7718 v7882 k0_hw630 => k0_hw630

def k0_off925 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32 : BitVec 32 := 42#32
  let v7904 : BitVec 32 := Scalar.addi v5 c42_i32
  let v7905 : Index := Scalar.indexCast v7904
  ![v7905.toNat]
def k0_mult43 (v7906 : BitVec 32) : BitVec 32 :=
  v7906

def k0_chk631 (v7906 : BitVec 32) : Prop :=
  (16 ∣ (k0_mult43 v7906).toNat)
theorem k0_mult43_dvd : ∀ (v7906 : BitVec 32) (k0_hw631 : k0_chk631 v7906), 16 ∣ (k0_mult43 v7906).toNat := fun v7906 k0_hw631 => k0_hw631

def k0_off926 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3365 : BitVec 32 := 42#32
  let v7908 : BitVec 32 := Scalar.addi v5 c42_i32_3365
  let c7_i32_3366 : BitVec 32 := 7#32
  let v7909 : BitVec 32 := Scalar.muli v7908 c7_i32_3366
  let c0_i32_3367 : BitVec 32 := 0#32
  let v7910 : BitVec 32 := Scalar.addi v7909 c0_i32_3367
  let v7911 : Index := Scalar.indexCast v7910
  ![v7911.toNat]
def k0_off927 (v7906 : BitVec 32) (v7912 : BitVec 32) : Fin 3 → Nat :=
  let v7918 : Index := Scalar.indexCast v7912
  let v7907 : BitVec 32 := v7906
  let v7919 : Index := Scalar.indexCast v7907
  let c0_3368 : Index := 0#32
  ![v7918.toNat, v7919.toNat, 0]

def k0_chk632 (v7906 : BitVec 32) (v7912 : BitVec 32) : Prop :=
  (∀ a, (k0_off927 v7906 v7912) a + S1x48x512.size a ≤ S64x64x512.size a)
theorem k0_off927_inb : ∀ (v7906 : BitVec 32) (v7912 : BitVec 32) (k0_hw632 : k0_chk632 v7906 v7912), ∀ a, (k0_off927 v7906 v7912) a + S1x48x512.size a ≤ S64x64x512.size a := fun v7906 v7912 k0_hw632 => k0_hw632

def k0_off928 (v7906 : BitVec 32) (v7914 : BitVec 32) : Fin 3 → Nat :=
  let v7922 : Index := Scalar.indexCast v7914
  let v7907 : BitVec 32 := v7906
  let v7923 : Index := Scalar.indexCast v7907
  let c0_3369 : Index := 0#32
  ![v7922.toNat, v7923.toNat, 0]

def k0_chk633 (v7906 : BitVec 32) (v7914 : BitVec 32) : Prop :=
  (∀ a, (k0_off928 v7906 v7914) a + S1x48x512.size a ≤ S64x64x512.size a)
theorem k0_off928_inb : ∀ (v7906 : BitVec 32) (v7914 : BitVec 32) (k0_hw633 : k0_chk633 v7906 v7914), ∀ a, (k0_off928 v7906 v7914) a + S1x48x512.size a ≤ S64x64x512.size a := fun v7906 v7914 k0_hw633 => k0_hw633

def k0_off929 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3376 : BitVec 32 := 42#32
  let v7934 : BitVec 32 := Scalar.addi v5 c42_i32_3376
  let c7_i32_3377 : BitVec 32 := 7#32
  let v7935 : BitVec 32 := Scalar.muli v7934 c7_i32_3377
  let c1_i32_3378 : BitVec 32 := 1#32
  let v7936 : BitVec 32 := Scalar.addi v7935 c1_i32_3378
  let v7937 : Index := Scalar.indexCast v7936
  ![v7937.toNat]
def k0_off930 (v7906 : BitVec 32) (v7938 : BitVec 32) : Fin 3 → Nat :=
  let v7944 : Index := Scalar.indexCast v7938
  let v7907 : BitVec 32 := v7906
  let v7945 : Index := Scalar.indexCast v7907
  let c0_3379 : Index := 0#32
  ![v7944.toNat, v7945.toNat, 0]

def k0_chk634 (v7906 : BitVec 32) (v7938 : BitVec 32) : Prop :=
  (∀ a, (k0_off930 v7906 v7938) a + S1x48x512.size a ≤ S64x64x512.size a)
theorem k0_off930_inb : ∀ (v7906 : BitVec 32) (v7938 : BitVec 32) (k0_hw634 : k0_chk634 v7906 v7938), ∀ a, (k0_off930 v7906 v7938) a + S1x48x512.size a ≤ S64x64x512.size a := fun v7906 v7938 k0_hw634 => k0_hw634

def k0_off931 (v7906 : BitVec 32) (v7940 : BitVec 32) : Fin 3 → Nat :=
  let v7948 : Index := Scalar.indexCast v7940
  let v7907 : BitVec 32 := v7906
  let v7949 : Index := Scalar.indexCast v7907
  let c0_3380 : Index := 0#32
  ![v7948.toNat, v7949.toNat, 0]

def k0_chk635 (v7906 : BitVec 32) (v7940 : BitVec 32) : Prop :=
  (∀ a, (k0_off931 v7906 v7940) a + S1x48x512.size a ≤ S64x64x512.size a)
theorem k0_off931_inb : ∀ (v7906 : BitVec 32) (v7940 : BitVec 32) (k0_hw635 : k0_chk635 v7906 v7940), ∀ a, (k0_off931 v7906 v7940) a + S1x48x512.size a ≤ S64x64x512.size a := fun v7906 v7940 k0_hw635 => k0_hw635

def k0_off932 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3387 : BitVec 32 := 42#32
  let v7960 : BitVec 32 := Scalar.addi v5 c42_i32_3387
  let c7_i32_3388 : BitVec 32 := 7#32
  let v7961 : BitVec 32 := Scalar.muli v7960 c7_i32_3388
  let c2_i32_3389 : BitVec 32 := 2#32
  let v7962 : BitVec 32 := Scalar.addi v7961 c2_i32_3389
  let v7963 : Index := Scalar.indexCast v7962
  ![v7963.toNat]
def k0_off933 (v7906 : BitVec 32) (v7964 : BitVec 32) : Fin 3 → Nat :=
  let v7970 : Index := Scalar.indexCast v7964
  let v7907 : BitVec 32 := v7906
  let v7971 : Index := Scalar.indexCast v7907
  let c0_3390 : Index := 0#32
  ![v7970.toNat, v7971.toNat, 0]

def k0_chk636 (v7906 : BitVec 32) (v7964 : BitVec 32) : Prop :=
  (∀ a, (k0_off933 v7906 v7964) a + S1x48x512.size a ≤ S64x64x512.size a)
theorem k0_off933_inb : ∀ (v7906 : BitVec 32) (v7964 : BitVec 32) (k0_hw636 : k0_chk636 v7906 v7964), ∀ a, (k0_off933 v7906 v7964) a + S1x48x512.size a ≤ S64x64x512.size a := fun v7906 v7964 k0_hw636 => k0_hw636

def k0_off934 (v7906 : BitVec 32) (v7966 : BitVec 32) : Fin 3 → Nat :=
  let v7974 : Index := Scalar.indexCast v7966
  let v7907 : BitVec 32 := v7906
  let v7975 : Index := Scalar.indexCast v7907
  let c0_3391 : Index := 0#32
  ![v7974.toNat, v7975.toNat, 0]

def k0_chk637 (v7906 : BitVec 32) (v7966 : BitVec 32) : Prop :=
  (∀ a, (k0_off934 v7906 v7966) a + S1x48x512.size a ≤ S64x64x512.size a)
theorem k0_off934_inb : ∀ (v7906 : BitVec 32) (v7966 : BitVec 32) (k0_hw637 : k0_chk637 v7906 v7966), ∀ a, (k0_off934 v7906 v7966) a + S1x48x512.size a ≤ S64x64x512.size a := fun v7906 v7966 k0_hw637 => k0_hw637

def k0_off935 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3398 : BitVec 32 := 42#32
  let v7986 : BitVec 32 := Scalar.addi v5 c42_i32_3398
  let c7_i32_3399 : BitVec 32 := 7#32
  let v7987 : BitVec 32 := Scalar.muli v7986 c7_i32_3399
  let c3_i32_3400 : BitVec 32 := 3#32
  let v7988 : BitVec 32 := Scalar.addi v7987 c3_i32_3400
  let v7989 : Index := Scalar.indexCast v7988
  ![v7989.toNat]
def k0_off936 (v7906 : BitVec 32) (v7990 : BitVec 32) : Fin 3 → Nat :=
  let v7996 : Index := Scalar.indexCast v7990
  let v7907 : BitVec 32 := v7906
  let v7997 : Index := Scalar.indexCast v7907
  let c0_3401 : Index := 0#32
  ![v7996.toNat, v7997.toNat, 0]

def k0_chk638 (v7906 : BitVec 32) (v7990 : BitVec 32) : Prop :=
  (∀ a, (k0_off936 v7906 v7990) a + S1x48x512.size a ≤ S64x64x512.size a)
theorem k0_off936_inb : ∀ (v7906 : BitVec 32) (v7990 : BitVec 32) (k0_hw638 : k0_chk638 v7906 v7990), ∀ a, (k0_off936 v7906 v7990) a + S1x48x512.size a ≤ S64x64x512.size a := fun v7906 v7990 k0_hw638 => k0_hw638

def k0_off937 (v7906 : BitVec 32) (v7992 : BitVec 32) : Fin 3 → Nat :=
  let v8000 : Index := Scalar.indexCast v7992
  let v7907 : BitVec 32 := v7906
  let v8001 : Index := Scalar.indexCast v7907
  let c0_3402 : Index := 0#32
  ![v8000.toNat, v8001.toNat, 0]

def k0_chk639 (v7906 : BitVec 32) (v7992 : BitVec 32) : Prop :=
  (∀ a, (k0_off937 v7906 v7992) a + S1x48x512.size a ≤ S64x64x512.size a)
theorem k0_off937_inb : ∀ (v7906 : BitVec 32) (v7992 : BitVec 32) (k0_hw639 : k0_chk639 v7906 v7992), ∀ a, (k0_off937 v7906 v7992) a + S1x48x512.size a ≤ S64x64x512.size a := fun v7906 v7992 k0_hw639 => k0_hw639

def k0_off938 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3409 : BitVec 32 := 42#32
  let v8012 : BitVec 32 := Scalar.addi v5 c42_i32_3409
  let c7_i32_3410 : BitVec 32 := 7#32
  let v8013 : BitVec 32 := Scalar.muli v8012 c7_i32_3410
  let c4_i32_3411 : BitVec 32 := 4#32
  let v8014 : BitVec 32 := Scalar.addi v8013 c4_i32_3411
  let v8015 : Index := Scalar.indexCast v8014
  ![v8015.toNat]
def k0_off939 (v7906 : BitVec 32) (v8016 : BitVec 32) : Fin 3 → Nat :=
  let v8022 : Index := Scalar.indexCast v8016
  let v7907 : BitVec 32 := v7906
  let v8023 : Index := Scalar.indexCast v7907
  let c0_3412 : Index := 0#32
  ![v8022.toNat, v8023.toNat, 0]

def k0_chk640 (v7906 : BitVec 32) (v8016 : BitVec 32) : Prop :=
  (∀ a, (k0_off939 v7906 v8016) a + S1x48x512.size a ≤ S64x64x512.size a)
theorem k0_off939_inb : ∀ (v7906 : BitVec 32) (v8016 : BitVec 32) (k0_hw640 : k0_chk640 v7906 v8016), ∀ a, (k0_off939 v7906 v8016) a + S1x48x512.size a ≤ S64x64x512.size a := fun v7906 v8016 k0_hw640 => k0_hw640

def k0_off940 (v7906 : BitVec 32) (v8018 : BitVec 32) : Fin 3 → Nat :=
  let v8026 : Index := Scalar.indexCast v8018
  let v7907 : BitVec 32 := v7906
  let v8027 : Index := Scalar.indexCast v7907
  let c0_3413 : Index := 0#32
  ![v8026.toNat, v8027.toNat, 0]

def k0_chk641 (v7906 : BitVec 32) (v8018 : BitVec 32) : Prop :=
  (∀ a, (k0_off940 v7906 v8018) a + S1x48x512.size a ≤ S64x64x512.size a)
theorem k0_off940_inb : ∀ (v7906 : BitVec 32) (v8018 : BitVec 32) (k0_hw641 : k0_chk641 v7906 v8018), ∀ a, (k0_off940 v7906 v8018) a + S1x48x512.size a ≤ S64x64x512.size a := fun v7906 v8018 k0_hw641 => k0_hw641

def k0_off941 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3420 : BitVec 32 := 42#32
  let v8038 : BitVec 32 := Scalar.addi v5 c42_i32_3420
  let c7_i32_3421 : BitVec 32 := 7#32
  let v8039 : BitVec 32 := Scalar.muli v8038 c7_i32_3421
  let c5_i32_3422 : BitVec 32 := 5#32
  let v8040 : BitVec 32 := Scalar.addi v8039 c5_i32_3422
  let v8041 : Index := Scalar.indexCast v8040
  ![v8041.toNat]
def k0_off942 (v7906 : BitVec 32) (v8042 : BitVec 32) : Fin 3 → Nat :=
  let v8048 : Index := Scalar.indexCast v8042
  let v7907 : BitVec 32 := v7906
  let v8049 : Index := Scalar.indexCast v7907
  let c0_3423 : Index := 0#32
  ![v8048.toNat, v8049.toNat, 0]

def k0_chk642 (v7906 : BitVec 32) (v8042 : BitVec 32) : Prop :=
  (∀ a, (k0_off942 v7906 v8042) a + S1x48x512.size a ≤ S64x64x512.size a)
theorem k0_off942_inb : ∀ (v7906 : BitVec 32) (v8042 : BitVec 32) (k0_hw642 : k0_chk642 v7906 v8042), ∀ a, (k0_off942 v7906 v8042) a + S1x48x512.size a ≤ S64x64x512.size a := fun v7906 v8042 k0_hw642 => k0_hw642

def k0_off943 (v7906 : BitVec 32) (v8044 : BitVec 32) : Fin 3 → Nat :=
  let v8052 : Index := Scalar.indexCast v8044
  let v7907 : BitVec 32 := v7906
  let v8053 : Index := Scalar.indexCast v7907
  let c0_3424 : Index := 0#32
  ![v8052.toNat, v8053.toNat, 0]

def k0_chk643 (v7906 : BitVec 32) (v8044 : BitVec 32) : Prop :=
  (∀ a, (k0_off943 v7906 v8044) a + S1x48x512.size a ≤ S64x64x512.size a)
theorem k0_off943_inb : ∀ (v7906 : BitVec 32) (v8044 : BitVec 32) (k0_hw643 : k0_chk643 v7906 v8044), ∀ a, (k0_off943 v7906 v8044) a + S1x48x512.size a ≤ S64x64x512.size a := fun v7906 v8044 k0_hw643 => k0_hw643

def k0_off944 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c42_i32_3431 : BitVec 32 := 42#32
  let v8064 : BitVec 32 := Scalar.addi v5 c42_i32_3431
  let c7_i32_3432 : BitVec 32 := 7#32
  let v8065 : BitVec 32 := Scalar.muli v8064 c7_i32_3432
  let c6_i32_3433 : BitVec 32 := 6#32
  let v8066 : BitVec 32 := Scalar.addi v8065 c6_i32_3433
  let v8067 : Index := Scalar.indexCast v8066
  ![v8067.toNat]
def k0_off945 (v7906 : BitVec 32) (v8068 : BitVec 32) : Fin 3 → Nat :=
  let v8074 : Index := Scalar.indexCast v8068
  let v7907 : BitVec 32 := v7906
  let v8075 : Index := Scalar.indexCast v7907
  let c0_3434 : Index := 0#32
  ![v8074.toNat, v8075.toNat, 0]

def k0_chk644 (v7906 : BitVec 32) (v8068 : BitVec 32) : Prop :=
  (∀ a, (k0_off945 v7906 v8068) a + S1x48x512.size a ≤ S64x64x512.size a)
theorem k0_off945_inb : ∀ (v7906 : BitVec 32) (v8068 : BitVec 32) (k0_hw644 : k0_chk644 v7906 v8068), ∀ a, (k0_off945 v7906 v8068) a + S1x48x512.size a ≤ S64x64x512.size a := fun v7906 v8068 k0_hw644 => k0_hw644

def k0_off946 (v7906 : BitVec 32) (v8070 : BitVec 32) : Fin 3 → Nat :=
  let v8078 : Index := Scalar.indexCast v8070
  let v7907 : BitVec 32 := v7906
  let v8079 : Index := Scalar.indexCast v7907
  let c0_3435 : Index := 0#32
  ![v8078.toNat, v8079.toNat, 0]

def k0_chk645 (v7906 : BitVec 32) (v8070 : BitVec 32) : Prop :=
  (∀ a, (k0_off946 v7906 v8070) a + S1x48x512.size a ≤ S64x64x512.size a)
theorem k0_off946_inb : ∀ (v7906 : BitVec 32) (v8070 : BitVec 32) (k0_hw645 : k0_chk645 v7906 v8070), ∀ a, (k0_off946 v7906 v8070) a + S1x48x512.size a ≤ S64x64x512.size a := fun v7906 v8070 k0_hw645 => k0_hw645

def k0_off947 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32 : BitVec 32 := 43#32
  let v8092 : BitVec 32 := Scalar.addi v5 c43_i32
  let v8093 : Index := Scalar.indexCast v8092
  ![v8093.toNat]
def k0_mult44 (v8094 : BitVec 32) : BitVec 32 :=
  v8094

def k0_chk646 (v8094 : BitVec 32) : Prop :=
  (16 ∣ (k0_mult44 v8094).toNat)
theorem k0_mult44_dvd : ∀ (v8094 : BitVec 32) (k0_hw646 : k0_chk646 v8094), 16 ∣ (k0_mult44 v8094).toNat := fun v8094 k0_hw646 => k0_hw646

def k0_off948 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3445 : BitVec 32 := 43#32
  let v8096 : BitVec 32 := Scalar.addi v5 c43_i32_3445
  let c7_i32_3446 : BitVec 32 := 7#32
  let v8097 : BitVec 32 := Scalar.muli v8096 c7_i32_3446
  let c0_i32_3447 : BitVec 32 := 0#32
  let v8098 : BitVec 32 := Scalar.addi v8097 c0_i32_3447
  let v8099 : Index := Scalar.indexCast v8098
  ![v8099.toNat]
def k0_off949 (v8094 : BitVec 32) (v8100 : BitVec 32) : Fin 3 → Nat :=
  let v8106 : Index := Scalar.indexCast v8100
  let v8095 : BitVec 32 := v8094
  let v8107 : Index := Scalar.indexCast v8095
  let c0_3448 : Index := 0#32
  ![v8106.toNat, v8107.toNat, 0]

def k0_chk647 (v8094 : BitVec 32) (v8100 : BitVec 32) : Prop :=
  (∀ a, (k0_off949 v8094 v8100) a + S1x48x512.size a ≤ S64x64x512.size a)
theorem k0_off949_inb : ∀ (v8094 : BitVec 32) (v8100 : BitVec 32) (k0_hw647 : k0_chk647 v8094 v8100), ∀ a, (k0_off949 v8094 v8100) a + S1x48x512.size a ≤ S64x64x512.size a := fun v8094 v8100 k0_hw647 => k0_hw647

def k0_off950 (v8094 : BitVec 32) (v8102 : BitVec 32) : Fin 3 → Nat :=
  let v8110 : Index := Scalar.indexCast v8102
  let v8095 : BitVec 32 := v8094
  let v8111 : Index := Scalar.indexCast v8095
  let c0_3449 : Index := 0#32
  ![v8110.toNat, v8111.toNat, 0]

def k0_chk648 (v8094 : BitVec 32) (v8102 : BitVec 32) : Prop :=
  (∀ a, (k0_off950 v8094 v8102) a + S1x48x512.size a ≤ S64x64x512.size a)
theorem k0_off950_inb : ∀ (v8094 : BitVec 32) (v8102 : BitVec 32) (k0_hw648 : k0_chk648 v8094 v8102), ∀ a, (k0_off950 v8094 v8102) a + S1x48x512.size a ≤ S64x64x512.size a := fun v8094 v8102 k0_hw648 => k0_hw648

def k0_off951 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3456 : BitVec 32 := 43#32
  let v8122 : BitVec 32 := Scalar.addi v5 c43_i32_3456
  let c7_i32_3457 : BitVec 32 := 7#32
  let v8123 : BitVec 32 := Scalar.muli v8122 c7_i32_3457
  let c1_i32_3458 : BitVec 32 := 1#32
  let v8124 : BitVec 32 := Scalar.addi v8123 c1_i32_3458
  let v8125 : Index := Scalar.indexCast v8124
  ![v8125.toNat]
def k0_off952 (v8094 : BitVec 32) (v8126 : BitVec 32) : Fin 3 → Nat :=
  let v8132 : Index := Scalar.indexCast v8126
  let v8095 : BitVec 32 := v8094
  let v8133 : Index := Scalar.indexCast v8095
  let c0_3459 : Index := 0#32
  ![v8132.toNat, v8133.toNat, 0]

def k0_chk649 (v8094 : BitVec 32) (v8126 : BitVec 32) : Prop :=
  (∀ a, (k0_off952 v8094 v8126) a + S1x48x512.size a ≤ S64x64x512.size a)
theorem k0_off952_inb : ∀ (v8094 : BitVec 32) (v8126 : BitVec 32) (k0_hw649 : k0_chk649 v8094 v8126), ∀ a, (k0_off952 v8094 v8126) a + S1x48x512.size a ≤ S64x64x512.size a := fun v8094 v8126 k0_hw649 => k0_hw649

def k0_off953 (v8094 : BitVec 32) (v8128 : BitVec 32) : Fin 3 → Nat :=
  let v8136 : Index := Scalar.indexCast v8128
  let v8095 : BitVec 32 := v8094
  let v8137 : Index := Scalar.indexCast v8095
  let c0_3460 : Index := 0#32
  ![v8136.toNat, v8137.toNat, 0]

def k0_chk650 (v8094 : BitVec 32) (v8128 : BitVec 32) : Prop :=
  (∀ a, (k0_off953 v8094 v8128) a + S1x48x512.size a ≤ S64x64x512.size a)
theorem k0_off953_inb : ∀ (v8094 : BitVec 32) (v8128 : BitVec 32) (k0_hw650 : k0_chk650 v8094 v8128), ∀ a, (k0_off953 v8094 v8128) a + S1x48x512.size a ≤ S64x64x512.size a := fun v8094 v8128 k0_hw650 => k0_hw650

def k0_off954 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3467 : BitVec 32 := 43#32
  let v8148 : BitVec 32 := Scalar.addi v5 c43_i32_3467
  let c7_i32_3468 : BitVec 32 := 7#32
  let v8149 : BitVec 32 := Scalar.muli v8148 c7_i32_3468
  let c2_i32_3469 : BitVec 32 := 2#32
  let v8150 : BitVec 32 := Scalar.addi v8149 c2_i32_3469
  let v8151 : Index := Scalar.indexCast v8150
  ![v8151.toNat]
def k0_off955 (v8094 : BitVec 32) (v8152 : BitVec 32) : Fin 3 → Nat :=
  let v8158 : Index := Scalar.indexCast v8152
  let v8095 : BitVec 32 := v8094
  let v8159 : Index := Scalar.indexCast v8095
  let c0_3470 : Index := 0#32
  ![v8158.toNat, v8159.toNat, 0]

def k0_chk651 (v8094 : BitVec 32) (v8152 : BitVec 32) : Prop :=
  (∀ a, (k0_off955 v8094 v8152) a + S1x48x512.size a ≤ S64x64x512.size a)
theorem k0_off955_inb : ∀ (v8094 : BitVec 32) (v8152 : BitVec 32) (k0_hw651 : k0_chk651 v8094 v8152), ∀ a, (k0_off955 v8094 v8152) a + S1x48x512.size a ≤ S64x64x512.size a := fun v8094 v8152 k0_hw651 => k0_hw651

def k0_off956 (v8094 : BitVec 32) (v8154 : BitVec 32) : Fin 3 → Nat :=
  let v8162 : Index := Scalar.indexCast v8154
  let v8095 : BitVec 32 := v8094
  let v8163 : Index := Scalar.indexCast v8095
  let c0_3471 : Index := 0#32
  ![v8162.toNat, v8163.toNat, 0]

def k0_chk652 (v8094 : BitVec 32) (v8154 : BitVec 32) : Prop :=
  (∀ a, (k0_off956 v8094 v8154) a + S1x48x512.size a ≤ S64x64x512.size a)
theorem k0_off956_inb : ∀ (v8094 : BitVec 32) (v8154 : BitVec 32) (k0_hw652 : k0_chk652 v8094 v8154), ∀ a, (k0_off956 v8094 v8154) a + S1x48x512.size a ≤ S64x64x512.size a := fun v8094 v8154 k0_hw652 => k0_hw652

def k0_off957 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3478 : BitVec 32 := 43#32
  let v8174 : BitVec 32 := Scalar.addi v5 c43_i32_3478
  let c7_i32_3479 : BitVec 32 := 7#32
  let v8175 : BitVec 32 := Scalar.muli v8174 c7_i32_3479
  let c3_i32_3480 : BitVec 32 := 3#32
  let v8176 : BitVec 32 := Scalar.addi v8175 c3_i32_3480
  let v8177 : Index := Scalar.indexCast v8176
  ![v8177.toNat]
def k0_off958 (v8094 : BitVec 32) (v8178 : BitVec 32) : Fin 3 → Nat :=
  let v8184 : Index := Scalar.indexCast v8178
  let v8095 : BitVec 32 := v8094
  let v8185 : Index := Scalar.indexCast v8095
  let c0_3481 : Index := 0#32
  ![v8184.toNat, v8185.toNat, 0]

def k0_chk653 (v8094 : BitVec 32) (v8178 : BitVec 32) : Prop :=
  (∀ a, (k0_off958 v8094 v8178) a + S1x48x512.size a ≤ S64x64x512.size a)
theorem k0_off958_inb : ∀ (v8094 : BitVec 32) (v8178 : BitVec 32) (k0_hw653 : k0_chk653 v8094 v8178), ∀ a, (k0_off958 v8094 v8178) a + S1x48x512.size a ≤ S64x64x512.size a := fun v8094 v8178 k0_hw653 => k0_hw653

def k0_off959 (v8094 : BitVec 32) (v8180 : BitVec 32) : Fin 3 → Nat :=
  let v8188 : Index := Scalar.indexCast v8180
  let v8095 : BitVec 32 := v8094
  let v8189 : Index := Scalar.indexCast v8095
  let c0_3482 : Index := 0#32
  ![v8188.toNat, v8189.toNat, 0]

def k0_chk654 (v8094 : BitVec 32) (v8180 : BitVec 32) : Prop :=
  (∀ a, (k0_off959 v8094 v8180) a + S1x48x512.size a ≤ S64x64x512.size a)
theorem k0_off959_inb : ∀ (v8094 : BitVec 32) (v8180 : BitVec 32) (k0_hw654 : k0_chk654 v8094 v8180), ∀ a, (k0_off959 v8094 v8180) a + S1x48x512.size a ≤ S64x64x512.size a := fun v8094 v8180 k0_hw654 => k0_hw654

def k0_off960 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3489 : BitVec 32 := 43#32
  let v8200 : BitVec 32 := Scalar.addi v5 c43_i32_3489
  let c7_i32_3490 : BitVec 32 := 7#32
  let v8201 : BitVec 32 := Scalar.muli v8200 c7_i32_3490
  let c4_i32_3491 : BitVec 32 := 4#32
  let v8202 : BitVec 32 := Scalar.addi v8201 c4_i32_3491
  let v8203 : Index := Scalar.indexCast v8202
  ![v8203.toNat]
def k0_off961 (v8094 : BitVec 32) (v8204 : BitVec 32) : Fin 3 → Nat :=
  let v8210 : Index := Scalar.indexCast v8204
  let v8095 : BitVec 32 := v8094
  let v8211 : Index := Scalar.indexCast v8095
  let c0_3492 : Index := 0#32
  ![v8210.toNat, v8211.toNat, 0]

def k0_chk655 (v8094 : BitVec 32) (v8204 : BitVec 32) : Prop :=
  (∀ a, (k0_off961 v8094 v8204) a + S1x48x512.size a ≤ S64x64x512.size a)
theorem k0_off961_inb : ∀ (v8094 : BitVec 32) (v8204 : BitVec 32) (k0_hw655 : k0_chk655 v8094 v8204), ∀ a, (k0_off961 v8094 v8204) a + S1x48x512.size a ≤ S64x64x512.size a := fun v8094 v8204 k0_hw655 => k0_hw655

def k0_off962 (v8094 : BitVec 32) (v8206 : BitVec 32) : Fin 3 → Nat :=
  let v8214 : Index := Scalar.indexCast v8206
  let v8095 : BitVec 32 := v8094
  let v8215 : Index := Scalar.indexCast v8095
  let c0_3493 : Index := 0#32
  ![v8214.toNat, v8215.toNat, 0]

def k0_chk656 (v8094 : BitVec 32) (v8206 : BitVec 32) : Prop :=
  (∀ a, (k0_off962 v8094 v8206) a + S1x48x512.size a ≤ S64x64x512.size a)
theorem k0_off962_inb : ∀ (v8094 : BitVec 32) (v8206 : BitVec 32) (k0_hw656 : k0_chk656 v8094 v8206), ∀ a, (k0_off962 v8094 v8206) a + S1x48x512.size a ≤ S64x64x512.size a := fun v8094 v8206 k0_hw656 => k0_hw656

def k0_off963 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3500 : BitVec 32 := 43#32
  let v8226 : BitVec 32 := Scalar.addi v5 c43_i32_3500
  let c7_i32_3501 : BitVec 32 := 7#32
  let v8227 : BitVec 32 := Scalar.muli v8226 c7_i32_3501
  let c5_i32_3502 : BitVec 32 := 5#32
  let v8228 : BitVec 32 := Scalar.addi v8227 c5_i32_3502
  let v8229 : Index := Scalar.indexCast v8228
  ![v8229.toNat]
def k0_off964 (v8094 : BitVec 32) (v8230 : BitVec 32) : Fin 3 → Nat :=
  let v8236 : Index := Scalar.indexCast v8230
  let v8095 : BitVec 32 := v8094
  let v8237 : Index := Scalar.indexCast v8095
  let c0_3503 : Index := 0#32
  ![v8236.toNat, v8237.toNat, 0]

def k0_chk657 (v8094 : BitVec 32) (v8230 : BitVec 32) : Prop :=
  (∀ a, (k0_off964 v8094 v8230) a + S1x48x512.size a ≤ S64x64x512.size a)
theorem k0_off964_inb : ∀ (v8094 : BitVec 32) (v8230 : BitVec 32) (k0_hw657 : k0_chk657 v8094 v8230), ∀ a, (k0_off964 v8094 v8230) a + S1x48x512.size a ≤ S64x64x512.size a := fun v8094 v8230 k0_hw657 => k0_hw657

def k0_off965 (v8094 : BitVec 32) (v8232 : BitVec 32) : Fin 3 → Nat :=
  let v8240 : Index := Scalar.indexCast v8232
  let v8095 : BitVec 32 := v8094
  let v8241 : Index := Scalar.indexCast v8095
  let c0_3504 : Index := 0#32
  ![v8240.toNat, v8241.toNat, 0]

def k0_chk658 (v8094 : BitVec 32) (v8232 : BitVec 32) : Prop :=
  (∀ a, (k0_off965 v8094 v8232) a + S1x48x512.size a ≤ S64x64x512.size a)
theorem k0_off965_inb : ∀ (v8094 : BitVec 32) (v8232 : BitVec 32) (k0_hw658 : k0_chk658 v8094 v8232), ∀ a, (k0_off965 v8094 v8232) a + S1x48x512.size a ≤ S64x64x512.size a := fun v8094 v8232 k0_hw658 => k0_hw658

def k0_off966 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c43_i32_3511 : BitVec 32 := 43#32
  let v8252 : BitVec 32 := Scalar.addi v5 c43_i32_3511
  let c7_i32_3512 : BitVec 32 := 7#32
  let v8253 : BitVec 32 := Scalar.muli v8252 c7_i32_3512
  let c6_i32_3513 : BitVec 32 := 6#32
  let v8254 : BitVec 32 := Scalar.addi v8253 c6_i32_3513
  let v8255 : Index := Scalar.indexCast v8254
  ![v8255.toNat]
def k0_off967 (v8094 : BitVec 32) (v8256 : BitVec 32) : Fin 3 → Nat :=
  let v8262 : Index := Scalar.indexCast v8256
  let v8095 : BitVec 32 := v8094
  let v8263 : Index := Scalar.indexCast v8095
  let c0_3514 : Index := 0#32
  ![v8262.toNat, v8263.toNat, 0]

def k0_chk659 (v8094 : BitVec 32) (v8256 : BitVec 32) : Prop :=
  (∀ a, (k0_off967 v8094 v8256) a + S1x48x512.size a ≤ S64x64x512.size a)
theorem k0_off967_inb : ∀ (v8094 : BitVec 32) (v8256 : BitVec 32) (k0_hw659 : k0_chk659 v8094 v8256), ∀ a, (k0_off967 v8094 v8256) a + S1x48x512.size a ≤ S64x64x512.size a := fun v8094 v8256 k0_hw659 => k0_hw659

def k0_off968 (v8094 : BitVec 32) (v8258 : BitVec 32) : Fin 3 → Nat :=
  let v8266 : Index := Scalar.indexCast v8258
  let v8095 : BitVec 32 := v8094
  let v8267 : Index := Scalar.indexCast v8095
  let c0_3515 : Index := 0#32
  ![v8266.toNat, v8267.toNat, 0]

def k0_chk660 (v8094 : BitVec 32) (v8258 : BitVec 32) : Prop :=
  (∀ a, (k0_off968 v8094 v8258) a + S1x48x512.size a ≤ S64x64x512.size a)
theorem k0_off968_inb : ∀ (v8094 : BitVec 32) (v8258 : BitVec 32) (k0_hw660 : k0_chk660 v8094 v8258), ∀ a, (k0_off968 v8094 v8258) a + S1x48x512.size a ≤ S64x64x512.size a := fun v8094 v8258 k0_hw660 => k0_hw660

def k0_off969 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32 : BitVec 32 := 44#32
  let v8280 : BitVec 32 := Scalar.addi v5 c44_i32
  let v8281 : Index := Scalar.indexCast v8280
  ![v8281.toNat]
def k0_mult45 (v8282 : BitVec 32) : BitVec 32 :=
  v8282

def k0_chk661 (v8282 : BitVec 32) : Prop :=
  (16 ∣ (k0_mult45 v8282).toNat)
theorem k0_mult45_dvd : ∀ (v8282 : BitVec 32) (k0_hw661 : k0_chk661 v8282), 16 ∣ (k0_mult45 v8282).toNat := fun v8282 k0_hw661 => k0_hw661

def k0_off970 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3525 : BitVec 32 := 44#32
  let v8284 : BitVec 32 := Scalar.addi v5 c44_i32_3525
  let c7_i32_3526 : BitVec 32 := 7#32
  let v8285 : BitVec 32 := Scalar.muli v8284 c7_i32_3526
  let c0_i32_3527 : BitVec 32 := 0#32
  let v8286 : BitVec 32 := Scalar.addi v8285 c0_i32_3527
  let v8287 : Index := Scalar.indexCast v8286
  ![v8287.toNat]
def k0_off971 (v8282 : BitVec 32) (v8288 : BitVec 32) : Fin 3 → Nat :=
  let v8294 : Index := Scalar.indexCast v8288
  let v8283 : BitVec 32 := v8282
  let v8295 : Index := Scalar.indexCast v8283
  let c0_3528 : Index := 0#32
  ![v8294.toNat, v8295.toNat, 0]

def k0_chk662 (v8282 : BitVec 32) (v8288 : BitVec 32) : Prop :=
  (∀ a, (k0_off971 v8282 v8288) a + S1x48x512.size a ≤ S64x64x512.size a)
theorem k0_off971_inb : ∀ (v8282 : BitVec 32) (v8288 : BitVec 32) (k0_hw662 : k0_chk662 v8282 v8288), ∀ a, (k0_off971 v8282 v8288) a + S1x48x512.size a ≤ S64x64x512.size a := fun v8282 v8288 k0_hw662 => k0_hw662

def k0_off972 (v8282 : BitVec 32) (v8290 : BitVec 32) : Fin 3 → Nat :=
  let v8298 : Index := Scalar.indexCast v8290
  let v8283 : BitVec 32 := v8282
  let v8299 : Index := Scalar.indexCast v8283
  let c0_3529 : Index := 0#32
  ![v8298.toNat, v8299.toNat, 0]

def k0_chk663 (v8282 : BitVec 32) (v8290 : BitVec 32) : Prop :=
  (∀ a, (k0_off972 v8282 v8290) a + S1x48x512.size a ≤ S64x64x512.size a)
theorem k0_off972_inb : ∀ (v8282 : BitVec 32) (v8290 : BitVec 32) (k0_hw663 : k0_chk663 v8282 v8290), ∀ a, (k0_off972 v8282 v8290) a + S1x48x512.size a ≤ S64x64x512.size a := fun v8282 v8290 k0_hw663 => k0_hw663

def k0_off973 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3536 : BitVec 32 := 44#32
  let v8310 : BitVec 32 := Scalar.addi v5 c44_i32_3536
  let c7_i32_3537 : BitVec 32 := 7#32
  let v8311 : BitVec 32 := Scalar.muli v8310 c7_i32_3537
  let c1_i32_3538 : BitVec 32 := 1#32
  let v8312 : BitVec 32 := Scalar.addi v8311 c1_i32_3538
  let v8313 : Index := Scalar.indexCast v8312
  ![v8313.toNat]
def k0_off974 (v8282 : BitVec 32) (v8314 : BitVec 32) : Fin 3 → Nat :=
  let v8320 : Index := Scalar.indexCast v8314
  let v8283 : BitVec 32 := v8282
  let v8321 : Index := Scalar.indexCast v8283
  let c0_3539 : Index := 0#32
  ![v8320.toNat, v8321.toNat, 0]

def k0_chk664 (v8282 : BitVec 32) (v8314 : BitVec 32) : Prop :=
  (∀ a, (k0_off974 v8282 v8314) a + S1x48x512.size a ≤ S64x64x512.size a)
theorem k0_off974_inb : ∀ (v8282 : BitVec 32) (v8314 : BitVec 32) (k0_hw664 : k0_chk664 v8282 v8314), ∀ a, (k0_off974 v8282 v8314) a + S1x48x512.size a ≤ S64x64x512.size a := fun v8282 v8314 k0_hw664 => k0_hw664

def k0_off975 (v8282 : BitVec 32) (v8316 : BitVec 32) : Fin 3 → Nat :=
  let v8324 : Index := Scalar.indexCast v8316
  let v8283 : BitVec 32 := v8282
  let v8325 : Index := Scalar.indexCast v8283
  let c0_3540 : Index := 0#32
  ![v8324.toNat, v8325.toNat, 0]

def k0_chk665 (v8282 : BitVec 32) (v8316 : BitVec 32) : Prop :=
  (∀ a, (k0_off975 v8282 v8316) a + S1x48x512.size a ≤ S64x64x512.size a)
theorem k0_off975_inb : ∀ (v8282 : BitVec 32) (v8316 : BitVec 32) (k0_hw665 : k0_chk665 v8282 v8316), ∀ a, (k0_off975 v8282 v8316) a + S1x48x512.size a ≤ S64x64x512.size a := fun v8282 v8316 k0_hw665 => k0_hw665

def k0_off976 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3547 : BitVec 32 := 44#32
  let v8336 : BitVec 32 := Scalar.addi v5 c44_i32_3547
  let c7_i32_3548 : BitVec 32 := 7#32
  let v8337 : BitVec 32 := Scalar.muli v8336 c7_i32_3548
  let c2_i32_3549 : BitVec 32 := 2#32
  let v8338 : BitVec 32 := Scalar.addi v8337 c2_i32_3549
  let v8339 : Index := Scalar.indexCast v8338
  ![v8339.toNat]
def k0_off977 (v8282 : BitVec 32) (v8340 : BitVec 32) : Fin 3 → Nat :=
  let v8346 : Index := Scalar.indexCast v8340
  let v8283 : BitVec 32 := v8282
  let v8347 : Index := Scalar.indexCast v8283
  let c0_3550 : Index := 0#32
  ![v8346.toNat, v8347.toNat, 0]

def k0_chk666 (v8282 : BitVec 32) (v8340 : BitVec 32) : Prop :=
  (∀ a, (k0_off977 v8282 v8340) a + S1x48x512.size a ≤ S64x64x512.size a)
theorem k0_off977_inb : ∀ (v8282 : BitVec 32) (v8340 : BitVec 32) (k0_hw666 : k0_chk666 v8282 v8340), ∀ a, (k0_off977 v8282 v8340) a + S1x48x512.size a ≤ S64x64x512.size a := fun v8282 v8340 k0_hw666 => k0_hw666

def k0_off978 (v8282 : BitVec 32) (v8342 : BitVec 32) : Fin 3 → Nat :=
  let v8350 : Index := Scalar.indexCast v8342
  let v8283 : BitVec 32 := v8282
  let v8351 : Index := Scalar.indexCast v8283
  let c0_3551 : Index := 0#32
  ![v8350.toNat, v8351.toNat, 0]

def k0_chk667 (v8282 : BitVec 32) (v8342 : BitVec 32) : Prop :=
  (∀ a, (k0_off978 v8282 v8342) a + S1x48x512.size a ≤ S64x64x512.size a)
theorem k0_off978_inb : ∀ (v8282 : BitVec 32) (v8342 : BitVec 32) (k0_hw667 : k0_chk667 v8282 v8342), ∀ a, (k0_off978 v8282 v8342) a + S1x48x512.size a ≤ S64x64x512.size a := fun v8282 v8342 k0_hw667 => k0_hw667

def k0_off979 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3558 : BitVec 32 := 44#32
  let v8362 : BitVec 32 := Scalar.addi v5 c44_i32_3558
  let c7_i32_3559 : BitVec 32 := 7#32
  let v8363 : BitVec 32 := Scalar.muli v8362 c7_i32_3559
  let c3_i32_3560 : BitVec 32 := 3#32
  let v8364 : BitVec 32 := Scalar.addi v8363 c3_i32_3560
  let v8365 : Index := Scalar.indexCast v8364
  ![v8365.toNat]
def k0_off980 (v8282 : BitVec 32) (v8366 : BitVec 32) : Fin 3 → Nat :=
  let v8372 : Index := Scalar.indexCast v8366
  let v8283 : BitVec 32 := v8282
  let v8373 : Index := Scalar.indexCast v8283
  let c0_3561 : Index := 0#32
  ![v8372.toNat, v8373.toNat, 0]

def k0_chk668 (v8282 : BitVec 32) (v8366 : BitVec 32) : Prop :=
  (∀ a, (k0_off980 v8282 v8366) a + S1x48x512.size a ≤ S64x64x512.size a)
theorem k0_off980_inb : ∀ (v8282 : BitVec 32) (v8366 : BitVec 32) (k0_hw668 : k0_chk668 v8282 v8366), ∀ a, (k0_off980 v8282 v8366) a + S1x48x512.size a ≤ S64x64x512.size a := fun v8282 v8366 k0_hw668 => k0_hw668

def k0_off981 (v8282 : BitVec 32) (v8368 : BitVec 32) : Fin 3 → Nat :=
  let v8376 : Index := Scalar.indexCast v8368
  let v8283 : BitVec 32 := v8282
  let v8377 : Index := Scalar.indexCast v8283
  let c0_3562 : Index := 0#32
  ![v8376.toNat, v8377.toNat, 0]

def k0_chk669 (v8282 : BitVec 32) (v8368 : BitVec 32) : Prop :=
  (∀ a, (k0_off981 v8282 v8368) a + S1x48x512.size a ≤ S64x64x512.size a)
theorem k0_off981_inb : ∀ (v8282 : BitVec 32) (v8368 : BitVec 32) (k0_hw669 : k0_chk669 v8282 v8368), ∀ a, (k0_off981 v8282 v8368) a + S1x48x512.size a ≤ S64x64x512.size a := fun v8282 v8368 k0_hw669 => k0_hw669

def k0_off982 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3569 : BitVec 32 := 44#32
  let v8388 : BitVec 32 := Scalar.addi v5 c44_i32_3569
  let c7_i32_3570 : BitVec 32 := 7#32
  let v8389 : BitVec 32 := Scalar.muli v8388 c7_i32_3570
  let c4_i32_3571 : BitVec 32 := 4#32
  let v8390 : BitVec 32 := Scalar.addi v8389 c4_i32_3571
  let v8391 : Index := Scalar.indexCast v8390
  ![v8391.toNat]
def k0_off983 (v8282 : BitVec 32) (v8392 : BitVec 32) : Fin 3 → Nat :=
  let v8398 : Index := Scalar.indexCast v8392
  let v8283 : BitVec 32 := v8282
  let v8399 : Index := Scalar.indexCast v8283
  let c0_3572 : Index := 0#32
  ![v8398.toNat, v8399.toNat, 0]

def k0_chk670 (v8282 : BitVec 32) (v8392 : BitVec 32) : Prop :=
  (∀ a, (k0_off983 v8282 v8392) a + S1x48x512.size a ≤ S64x64x512.size a)
theorem k0_off983_inb : ∀ (v8282 : BitVec 32) (v8392 : BitVec 32) (k0_hw670 : k0_chk670 v8282 v8392), ∀ a, (k0_off983 v8282 v8392) a + S1x48x512.size a ≤ S64x64x512.size a := fun v8282 v8392 k0_hw670 => k0_hw670

def k0_off984 (v8282 : BitVec 32) (v8394 : BitVec 32) : Fin 3 → Nat :=
  let v8402 : Index := Scalar.indexCast v8394
  let v8283 : BitVec 32 := v8282
  let v8403 : Index := Scalar.indexCast v8283
  let c0_3573 : Index := 0#32
  ![v8402.toNat, v8403.toNat, 0]

def k0_chk671 (v8282 : BitVec 32) (v8394 : BitVec 32) : Prop :=
  (∀ a, (k0_off984 v8282 v8394) a + S1x48x512.size a ≤ S64x64x512.size a)
theorem k0_off984_inb : ∀ (v8282 : BitVec 32) (v8394 : BitVec 32) (k0_hw671 : k0_chk671 v8282 v8394), ∀ a, (k0_off984 v8282 v8394) a + S1x48x512.size a ≤ S64x64x512.size a := fun v8282 v8394 k0_hw671 => k0_hw671

def k0_off985 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3580 : BitVec 32 := 44#32
  let v8414 : BitVec 32 := Scalar.addi v5 c44_i32_3580
  let c7_i32_3581 : BitVec 32 := 7#32
  let v8415 : BitVec 32 := Scalar.muli v8414 c7_i32_3581
  let c5_i32_3582 : BitVec 32 := 5#32
  let v8416 : BitVec 32 := Scalar.addi v8415 c5_i32_3582
  let v8417 : Index := Scalar.indexCast v8416
  ![v8417.toNat]
def k0_off986 (v8282 : BitVec 32) (v8418 : BitVec 32) : Fin 3 → Nat :=
  let v8424 : Index := Scalar.indexCast v8418
  let v8283 : BitVec 32 := v8282
  let v8425 : Index := Scalar.indexCast v8283
  let c0_3583 : Index := 0#32
  ![v8424.toNat, v8425.toNat, 0]

def k0_chk672 (v8282 : BitVec 32) (v8418 : BitVec 32) : Prop :=
  (∀ a, (k0_off986 v8282 v8418) a + S1x48x512.size a ≤ S64x64x512.size a)
theorem k0_off986_inb : ∀ (v8282 : BitVec 32) (v8418 : BitVec 32) (k0_hw672 : k0_chk672 v8282 v8418), ∀ a, (k0_off986 v8282 v8418) a + S1x48x512.size a ≤ S64x64x512.size a := fun v8282 v8418 k0_hw672 => k0_hw672

def k0_off987 (v8282 : BitVec 32) (v8420 : BitVec 32) : Fin 3 → Nat :=
  let v8428 : Index := Scalar.indexCast v8420
  let v8283 : BitVec 32 := v8282
  let v8429 : Index := Scalar.indexCast v8283
  let c0_3584 : Index := 0#32
  ![v8428.toNat, v8429.toNat, 0]

def k0_chk673 (v8282 : BitVec 32) (v8420 : BitVec 32) : Prop :=
  (∀ a, (k0_off987 v8282 v8420) a + S1x48x512.size a ≤ S64x64x512.size a)
theorem k0_off987_inb : ∀ (v8282 : BitVec 32) (v8420 : BitVec 32) (k0_hw673 : k0_chk673 v8282 v8420), ∀ a, (k0_off987 v8282 v8420) a + S1x48x512.size a ≤ S64x64x512.size a := fun v8282 v8420 k0_hw673 => k0_hw673

def k0_off988 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c44_i32_3591 : BitVec 32 := 44#32
  let v8440 : BitVec 32 := Scalar.addi v5 c44_i32_3591
  let c7_i32_3592 : BitVec 32 := 7#32
  let v8441 : BitVec 32 := Scalar.muli v8440 c7_i32_3592
  let c6_i32_3593 : BitVec 32 := 6#32
  let v8442 : BitVec 32 := Scalar.addi v8441 c6_i32_3593
  let v8443 : Index := Scalar.indexCast v8442
  ![v8443.toNat]
def k0_off989 (v8282 : BitVec 32) (v8444 : BitVec 32) : Fin 3 → Nat :=
  let v8450 : Index := Scalar.indexCast v8444
  let v8283 : BitVec 32 := v8282
  let v8451 : Index := Scalar.indexCast v8283
  let c0_3594 : Index := 0#32
  ![v8450.toNat, v8451.toNat, 0]

def k0_chk674 (v8282 : BitVec 32) (v8444 : BitVec 32) : Prop :=
  (∀ a, (k0_off989 v8282 v8444) a + S1x48x512.size a ≤ S64x64x512.size a)
theorem k0_off989_inb : ∀ (v8282 : BitVec 32) (v8444 : BitVec 32) (k0_hw674 : k0_chk674 v8282 v8444), ∀ a, (k0_off989 v8282 v8444) a + S1x48x512.size a ≤ S64x64x512.size a := fun v8282 v8444 k0_hw674 => k0_hw674

def k0_off990 (v8282 : BitVec 32) (v8446 : BitVec 32) : Fin 3 → Nat :=
  let v8454 : Index := Scalar.indexCast v8446
  let v8283 : BitVec 32 := v8282
  let v8455 : Index := Scalar.indexCast v8283
  let c0_3595 : Index := 0#32
  ![v8454.toNat, v8455.toNat, 0]

def k0_chk675 (v8282 : BitVec 32) (v8446 : BitVec 32) : Prop :=
  (∀ a, (k0_off990 v8282 v8446) a + S1x48x512.size a ≤ S64x64x512.size a)
theorem k0_off990_inb : ∀ (v8282 : BitVec 32) (v8446 : BitVec 32) (k0_hw675 : k0_chk675 v8282 v8446), ∀ a, (k0_off990 v8282 v8446) a + S1x48x512.size a ≤ S64x64x512.size a := fun v8282 v8446 k0_hw675 => k0_hw675

def k0_off991 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32 : BitVec 32 := 45#32
  let v8468 : BitVec 32 := Scalar.addi v5 c45_i32
  let v8469 : Index := Scalar.indexCast v8468
  ![v8469.toNat]
def k0_mult46 (v8470 : BitVec 32) : BitVec 32 :=
  v8470

def k0_chk676 (v8470 : BitVec 32) : Prop :=
  (16 ∣ (k0_mult46 v8470).toNat)
theorem k0_mult46_dvd : ∀ (v8470 : BitVec 32) (k0_hw676 : k0_chk676 v8470), 16 ∣ (k0_mult46 v8470).toNat := fun v8470 k0_hw676 => k0_hw676

def k0_off992 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3605 : BitVec 32 := 45#32
  let v8472 : BitVec 32 := Scalar.addi v5 c45_i32_3605
  let c7_i32_3606 : BitVec 32 := 7#32
  let v8473 : BitVec 32 := Scalar.muli v8472 c7_i32_3606
  let c0_i32_3607 : BitVec 32 := 0#32
  let v8474 : BitVec 32 := Scalar.addi v8473 c0_i32_3607
  let v8475 : Index := Scalar.indexCast v8474
  ![v8475.toNat]
def k0_off993 (v8470 : BitVec 32) (v8476 : BitVec 32) : Fin 3 → Nat :=
  let v8482 : Index := Scalar.indexCast v8476
  let v8471 : BitVec 32 := v8470
  let v8483 : Index := Scalar.indexCast v8471
  let c0_3608 : Index := 0#32
  ![v8482.toNat, v8483.toNat, 0]

def k0_chk677 (v8470 : BitVec 32) (v8476 : BitVec 32) : Prop :=
  (∀ a, (k0_off993 v8470 v8476) a + S1x48x512.size a ≤ S64x64x512.size a)
theorem k0_off993_inb : ∀ (v8470 : BitVec 32) (v8476 : BitVec 32) (k0_hw677 : k0_chk677 v8470 v8476), ∀ a, (k0_off993 v8470 v8476) a + S1x48x512.size a ≤ S64x64x512.size a := fun v8470 v8476 k0_hw677 => k0_hw677

def k0_off994 (v8470 : BitVec 32) (v8478 : BitVec 32) : Fin 3 → Nat :=
  let v8486 : Index := Scalar.indexCast v8478
  let v8471 : BitVec 32 := v8470
  let v8487 : Index := Scalar.indexCast v8471
  let c0_3609 : Index := 0#32
  ![v8486.toNat, v8487.toNat, 0]

def k0_chk678 (v8470 : BitVec 32) (v8478 : BitVec 32) : Prop :=
  (∀ a, (k0_off994 v8470 v8478) a + S1x48x512.size a ≤ S64x64x512.size a)
theorem k0_off994_inb : ∀ (v8470 : BitVec 32) (v8478 : BitVec 32) (k0_hw678 : k0_chk678 v8470 v8478), ∀ a, (k0_off994 v8470 v8478) a + S1x48x512.size a ≤ S64x64x512.size a := fun v8470 v8478 k0_hw678 => k0_hw678

def k0_off995 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3616 : BitVec 32 := 45#32
  let v8498 : BitVec 32 := Scalar.addi v5 c45_i32_3616
  let c7_i32_3617 : BitVec 32 := 7#32
  let v8499 : BitVec 32 := Scalar.muli v8498 c7_i32_3617
  let c1_i32_3618 : BitVec 32 := 1#32
  let v8500 : BitVec 32 := Scalar.addi v8499 c1_i32_3618
  let v8501 : Index := Scalar.indexCast v8500
  ![v8501.toNat]
def k0_off996 (v8470 : BitVec 32) (v8502 : BitVec 32) : Fin 3 → Nat :=
  let v8508 : Index := Scalar.indexCast v8502
  let v8471 : BitVec 32 := v8470
  let v8509 : Index := Scalar.indexCast v8471
  let c0_3619 : Index := 0#32
  ![v8508.toNat, v8509.toNat, 0]

def k0_chk679 (v8470 : BitVec 32) (v8502 : BitVec 32) : Prop :=
  (∀ a, (k0_off996 v8470 v8502) a + S1x48x512.size a ≤ S64x64x512.size a)
theorem k0_off996_inb : ∀ (v8470 : BitVec 32) (v8502 : BitVec 32) (k0_hw679 : k0_chk679 v8470 v8502), ∀ a, (k0_off996 v8470 v8502) a + S1x48x512.size a ≤ S64x64x512.size a := fun v8470 v8502 k0_hw679 => k0_hw679

def k0_off997 (v8470 : BitVec 32) (v8504 : BitVec 32) : Fin 3 → Nat :=
  let v8512 : Index := Scalar.indexCast v8504
  let v8471 : BitVec 32 := v8470
  let v8513 : Index := Scalar.indexCast v8471
  let c0_3620 : Index := 0#32
  ![v8512.toNat, v8513.toNat, 0]

def k0_chk680 (v8470 : BitVec 32) (v8504 : BitVec 32) : Prop :=
  (∀ a, (k0_off997 v8470 v8504) a + S1x48x512.size a ≤ S64x64x512.size a)
theorem k0_off997_inb : ∀ (v8470 : BitVec 32) (v8504 : BitVec 32) (k0_hw680 : k0_chk680 v8470 v8504), ∀ a, (k0_off997 v8470 v8504) a + S1x48x512.size a ≤ S64x64x512.size a := fun v8470 v8504 k0_hw680 => k0_hw680

def k0_off998 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3627 : BitVec 32 := 45#32
  let v8524 : BitVec 32 := Scalar.addi v5 c45_i32_3627
  let c7_i32_3628 : BitVec 32 := 7#32
  let v8525 : BitVec 32 := Scalar.muli v8524 c7_i32_3628
  let c2_i32_3629 : BitVec 32 := 2#32
  let v8526 : BitVec 32 := Scalar.addi v8525 c2_i32_3629
  let v8527 : Index := Scalar.indexCast v8526
  ![v8527.toNat]
def k0_off999 (v8470 : BitVec 32) (v8528 : BitVec 32) : Fin 3 → Nat :=
  let v8534 : Index := Scalar.indexCast v8528
  let v8471 : BitVec 32 := v8470
  let v8535 : Index := Scalar.indexCast v8471
  let c0_3630 : Index := 0#32
  ![v8534.toNat, v8535.toNat, 0]

def k0_chk681 (v8470 : BitVec 32) (v8528 : BitVec 32) : Prop :=
  (∀ a, (k0_off999 v8470 v8528) a + S1x48x512.size a ≤ S64x64x512.size a)
theorem k0_off999_inb : ∀ (v8470 : BitVec 32) (v8528 : BitVec 32) (k0_hw681 : k0_chk681 v8470 v8528), ∀ a, (k0_off999 v8470 v8528) a + S1x48x512.size a ≤ S64x64x512.size a := fun v8470 v8528 k0_hw681 => k0_hw681

def k0_off1000 (v8470 : BitVec 32) (v8530 : BitVec 32) : Fin 3 → Nat :=
  let v8538 : Index := Scalar.indexCast v8530
  let v8471 : BitVec 32 := v8470
  let v8539 : Index := Scalar.indexCast v8471
  let c0_3631 : Index := 0#32
  ![v8538.toNat, v8539.toNat, 0]

def k0_chk682 (v8470 : BitVec 32) (v8530 : BitVec 32) : Prop :=
  (∀ a, (k0_off1000 v8470 v8530) a + S1x48x512.size a ≤ S64x64x512.size a)
theorem k0_off1000_inb : ∀ (v8470 : BitVec 32) (v8530 : BitVec 32) (k0_hw682 : k0_chk682 v8470 v8530), ∀ a, (k0_off1000 v8470 v8530) a + S1x48x512.size a ≤ S64x64x512.size a := fun v8470 v8530 k0_hw682 => k0_hw682

def k0_off1001 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3638 : BitVec 32 := 45#32
  let v8550 : BitVec 32 := Scalar.addi v5 c45_i32_3638
  let c7_i32_3639 : BitVec 32 := 7#32
  let v8551 : BitVec 32 := Scalar.muli v8550 c7_i32_3639
  let c3_i32_3640 : BitVec 32 := 3#32
  let v8552 : BitVec 32 := Scalar.addi v8551 c3_i32_3640
  let v8553 : Index := Scalar.indexCast v8552
  ![v8553.toNat]
def k0_off1002 (v8470 : BitVec 32) (v8554 : BitVec 32) : Fin 3 → Nat :=
  let v8560 : Index := Scalar.indexCast v8554
  let v8471 : BitVec 32 := v8470
  let v8561 : Index := Scalar.indexCast v8471
  let c0_3641 : Index := 0#32
  ![v8560.toNat, v8561.toNat, 0]

def k0_chk683 (v8470 : BitVec 32) (v8554 : BitVec 32) : Prop :=
  (∀ a, (k0_off1002 v8470 v8554) a + S1x48x512.size a ≤ S64x64x512.size a)
theorem k0_off1002_inb : ∀ (v8470 : BitVec 32) (v8554 : BitVec 32) (k0_hw683 : k0_chk683 v8470 v8554), ∀ a, (k0_off1002 v8470 v8554) a + S1x48x512.size a ≤ S64x64x512.size a := fun v8470 v8554 k0_hw683 => k0_hw683

def k0_off1003 (v8470 : BitVec 32) (v8556 : BitVec 32) : Fin 3 → Nat :=
  let v8564 : Index := Scalar.indexCast v8556
  let v8471 : BitVec 32 := v8470
  let v8565 : Index := Scalar.indexCast v8471
  let c0_3642 : Index := 0#32
  ![v8564.toNat, v8565.toNat, 0]

def k0_chk684 (v8470 : BitVec 32) (v8556 : BitVec 32) : Prop :=
  (∀ a, (k0_off1003 v8470 v8556) a + S1x48x512.size a ≤ S64x64x512.size a)
theorem k0_off1003_inb : ∀ (v8470 : BitVec 32) (v8556 : BitVec 32) (k0_hw684 : k0_chk684 v8470 v8556), ∀ a, (k0_off1003 v8470 v8556) a + S1x48x512.size a ≤ S64x64x512.size a := fun v8470 v8556 k0_hw684 => k0_hw684

def k0_off1004 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3649 : BitVec 32 := 45#32
  let v8576 : BitVec 32 := Scalar.addi v5 c45_i32_3649
  let c7_i32_3650 : BitVec 32 := 7#32
  let v8577 : BitVec 32 := Scalar.muli v8576 c7_i32_3650
  let c4_i32_3651 : BitVec 32 := 4#32
  let v8578 : BitVec 32 := Scalar.addi v8577 c4_i32_3651
  let v8579 : Index := Scalar.indexCast v8578
  ![v8579.toNat]
def k0_off1005 (v8470 : BitVec 32) (v8580 : BitVec 32) : Fin 3 → Nat :=
  let v8586 : Index := Scalar.indexCast v8580
  let v8471 : BitVec 32 := v8470
  let v8587 : Index := Scalar.indexCast v8471
  let c0_3652 : Index := 0#32
  ![v8586.toNat, v8587.toNat, 0]

def k0_chk685 (v8470 : BitVec 32) (v8580 : BitVec 32) : Prop :=
  (∀ a, (k0_off1005 v8470 v8580) a + S1x48x512.size a ≤ S64x64x512.size a)
theorem k0_off1005_inb : ∀ (v8470 : BitVec 32) (v8580 : BitVec 32) (k0_hw685 : k0_chk685 v8470 v8580), ∀ a, (k0_off1005 v8470 v8580) a + S1x48x512.size a ≤ S64x64x512.size a := fun v8470 v8580 k0_hw685 => k0_hw685

def k0_off1006 (v8470 : BitVec 32) (v8582 : BitVec 32) : Fin 3 → Nat :=
  let v8590 : Index := Scalar.indexCast v8582
  let v8471 : BitVec 32 := v8470
  let v8591 : Index := Scalar.indexCast v8471
  let c0_3653 : Index := 0#32
  ![v8590.toNat, v8591.toNat, 0]

def k0_chk686 (v8470 : BitVec 32) (v8582 : BitVec 32) : Prop :=
  (∀ a, (k0_off1006 v8470 v8582) a + S1x48x512.size a ≤ S64x64x512.size a)
theorem k0_off1006_inb : ∀ (v8470 : BitVec 32) (v8582 : BitVec 32) (k0_hw686 : k0_chk686 v8470 v8582), ∀ a, (k0_off1006 v8470 v8582) a + S1x48x512.size a ≤ S64x64x512.size a := fun v8470 v8582 k0_hw686 => k0_hw686

def k0_off1007 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3660 : BitVec 32 := 45#32
  let v8602 : BitVec 32 := Scalar.addi v5 c45_i32_3660
  let c7_i32_3661 : BitVec 32 := 7#32
  let v8603 : BitVec 32 := Scalar.muli v8602 c7_i32_3661
  let c5_i32_3662 : BitVec 32 := 5#32
  let v8604 : BitVec 32 := Scalar.addi v8603 c5_i32_3662
  let v8605 : Index := Scalar.indexCast v8604
  ![v8605.toNat]
def k0_off1008 (v8470 : BitVec 32) (v8606 : BitVec 32) : Fin 3 → Nat :=
  let v8612 : Index := Scalar.indexCast v8606
  let v8471 : BitVec 32 := v8470
  let v8613 : Index := Scalar.indexCast v8471
  let c0_3663 : Index := 0#32
  ![v8612.toNat, v8613.toNat, 0]

def k0_chk687 (v8470 : BitVec 32) (v8606 : BitVec 32) : Prop :=
  (∀ a, (k0_off1008 v8470 v8606) a + S1x48x512.size a ≤ S64x64x512.size a)
theorem k0_off1008_inb : ∀ (v8470 : BitVec 32) (v8606 : BitVec 32) (k0_hw687 : k0_chk687 v8470 v8606), ∀ a, (k0_off1008 v8470 v8606) a + S1x48x512.size a ≤ S64x64x512.size a := fun v8470 v8606 k0_hw687 => k0_hw687

def k0_off1009 (v8470 : BitVec 32) (v8608 : BitVec 32) : Fin 3 → Nat :=
  let v8616 : Index := Scalar.indexCast v8608
  let v8471 : BitVec 32 := v8470
  let v8617 : Index := Scalar.indexCast v8471
  let c0_3664 : Index := 0#32
  ![v8616.toNat, v8617.toNat, 0]

def k0_chk688 (v8470 : BitVec 32) (v8608 : BitVec 32) : Prop :=
  (∀ a, (k0_off1009 v8470 v8608) a + S1x48x512.size a ≤ S64x64x512.size a)
theorem k0_off1009_inb : ∀ (v8470 : BitVec 32) (v8608 : BitVec 32) (k0_hw688 : k0_chk688 v8470 v8608), ∀ a, (k0_off1009 v8470 v8608) a + S1x48x512.size a ≤ S64x64x512.size a := fun v8470 v8608 k0_hw688 => k0_hw688

def k0_off1010 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c45_i32_3671 : BitVec 32 := 45#32
  let v8628 : BitVec 32 := Scalar.addi v5 c45_i32_3671
  let c7_i32_3672 : BitVec 32 := 7#32
  let v8629 : BitVec 32 := Scalar.muli v8628 c7_i32_3672
  let c6_i32_3673 : BitVec 32 := 6#32
  let v8630 : BitVec 32 := Scalar.addi v8629 c6_i32_3673
  let v8631 : Index := Scalar.indexCast v8630
  ![v8631.toNat]
def k0_off1011 (v8470 : BitVec 32) (v8632 : BitVec 32) : Fin 3 → Nat :=
  let v8638 : Index := Scalar.indexCast v8632
  let v8471 : BitVec 32 := v8470
  let v8639 : Index := Scalar.indexCast v8471
  let c0_3674 : Index := 0#32
  ![v8638.toNat, v8639.toNat, 0]

def k0_chk689 (v8470 : BitVec 32) (v8632 : BitVec 32) : Prop :=
  (∀ a, (k0_off1011 v8470 v8632) a + S1x48x512.size a ≤ S64x64x512.size a)
theorem k0_off1011_inb : ∀ (v8470 : BitVec 32) (v8632 : BitVec 32) (k0_hw689 : k0_chk689 v8470 v8632), ∀ a, (k0_off1011 v8470 v8632) a + S1x48x512.size a ≤ S64x64x512.size a := fun v8470 v8632 k0_hw689 => k0_hw689

def k0_off1012 (v8470 : BitVec 32) (v8634 : BitVec 32) : Fin 3 → Nat :=
  let v8642 : Index := Scalar.indexCast v8634
  let v8471 : BitVec 32 := v8470
  let v8643 : Index := Scalar.indexCast v8471
  let c0_3675 : Index := 0#32
  ![v8642.toNat, v8643.toNat, 0]

def k0_chk690 (v8470 : BitVec 32) (v8634 : BitVec 32) : Prop :=
  (∀ a, (k0_off1012 v8470 v8634) a + S1x48x512.size a ≤ S64x64x512.size a)
theorem k0_off1012_inb : ∀ (v8470 : BitVec 32) (v8634 : BitVec 32) (k0_hw690 : k0_chk690 v8470 v8634), ∀ a, (k0_off1012 v8470 v8634) a + S1x48x512.size a ≤ S64x64x512.size a := fun v8470 v8634 k0_hw690 => k0_hw690

def k0_off1013 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32 : BitVec 32 := 46#32
  let v8656 : BitVec 32 := Scalar.addi v5 c46_i32
  let v8657 : Index := Scalar.indexCast v8656
  ![v8657.toNat]
def k0_mult47 (v8658 : BitVec 32) : BitVec 32 :=
  v8658

def k0_chk691 (v8658 : BitVec 32) : Prop :=
  (16 ∣ (k0_mult47 v8658).toNat)
theorem k0_mult47_dvd : ∀ (v8658 : BitVec 32) (k0_hw691 : k0_chk691 v8658), 16 ∣ (k0_mult47 v8658).toNat := fun v8658 k0_hw691 => k0_hw691

def k0_off1014 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3685 : BitVec 32 := 46#32
  let v8660 : BitVec 32 := Scalar.addi v5 c46_i32_3685
  let c7_i32_3686 : BitVec 32 := 7#32
  let v8661 : BitVec 32 := Scalar.muli v8660 c7_i32_3686
  let c0_i32_3687 : BitVec 32 := 0#32
  let v8662 : BitVec 32 := Scalar.addi v8661 c0_i32_3687
  let v8663 : Index := Scalar.indexCast v8662
  ![v8663.toNat]
def k0_off1015 (v8658 : BitVec 32) (v8664 : BitVec 32) : Fin 3 → Nat :=
  let v8670 : Index := Scalar.indexCast v8664
  let v8659 : BitVec 32 := v8658
  let v8671 : Index := Scalar.indexCast v8659
  let c0_3688 : Index := 0#32
  ![v8670.toNat, v8671.toNat, 0]

def k0_chk692 (v8658 : BitVec 32) (v8664 : BitVec 32) : Prop :=
  (∀ a, (k0_off1015 v8658 v8664) a + S1x48x512.size a ≤ S64x64x512.size a)
theorem k0_off1015_inb : ∀ (v8658 : BitVec 32) (v8664 : BitVec 32) (k0_hw692 : k0_chk692 v8658 v8664), ∀ a, (k0_off1015 v8658 v8664) a + S1x48x512.size a ≤ S64x64x512.size a := fun v8658 v8664 k0_hw692 => k0_hw692

def k0_off1016 (v8658 : BitVec 32) (v8666 : BitVec 32) : Fin 3 → Nat :=
  let v8674 : Index := Scalar.indexCast v8666
  let v8659 : BitVec 32 := v8658
  let v8675 : Index := Scalar.indexCast v8659
  let c0_3689 : Index := 0#32
  ![v8674.toNat, v8675.toNat, 0]

def k0_chk693 (v8658 : BitVec 32) (v8666 : BitVec 32) : Prop :=
  (∀ a, (k0_off1016 v8658 v8666) a + S1x48x512.size a ≤ S64x64x512.size a)
theorem k0_off1016_inb : ∀ (v8658 : BitVec 32) (v8666 : BitVec 32) (k0_hw693 : k0_chk693 v8658 v8666), ∀ a, (k0_off1016 v8658 v8666) a + S1x48x512.size a ≤ S64x64x512.size a := fun v8658 v8666 k0_hw693 => k0_hw693

def k0_off1017 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3696 : BitVec 32 := 46#32
  let v8686 : BitVec 32 := Scalar.addi v5 c46_i32_3696
  let c7_i32_3697 : BitVec 32 := 7#32
  let v8687 : BitVec 32 := Scalar.muli v8686 c7_i32_3697
  let c1_i32_3698 : BitVec 32 := 1#32
  let v8688 : BitVec 32 := Scalar.addi v8687 c1_i32_3698
  let v8689 : Index := Scalar.indexCast v8688
  ![v8689.toNat]
def k0_off1018 (v8658 : BitVec 32) (v8690 : BitVec 32) : Fin 3 → Nat :=
  let v8696 : Index := Scalar.indexCast v8690
  let v8659 : BitVec 32 := v8658
  let v8697 : Index := Scalar.indexCast v8659
  let c0_3699 : Index := 0#32
  ![v8696.toNat, v8697.toNat, 0]

def k0_chk694 (v8658 : BitVec 32) (v8690 : BitVec 32) : Prop :=
  (∀ a, (k0_off1018 v8658 v8690) a + S1x48x512.size a ≤ S64x64x512.size a)
theorem k0_off1018_inb : ∀ (v8658 : BitVec 32) (v8690 : BitVec 32) (k0_hw694 : k0_chk694 v8658 v8690), ∀ a, (k0_off1018 v8658 v8690) a + S1x48x512.size a ≤ S64x64x512.size a := fun v8658 v8690 k0_hw694 => k0_hw694

def k0_off1019 (v8658 : BitVec 32) (v8692 : BitVec 32) : Fin 3 → Nat :=
  let v8700 : Index := Scalar.indexCast v8692
  let v8659 : BitVec 32 := v8658
  let v8701 : Index := Scalar.indexCast v8659
  let c0_3700 : Index := 0#32
  ![v8700.toNat, v8701.toNat, 0]

def k0_chk695 (v8658 : BitVec 32) (v8692 : BitVec 32) : Prop :=
  (∀ a, (k0_off1019 v8658 v8692) a + S1x48x512.size a ≤ S64x64x512.size a)
theorem k0_off1019_inb : ∀ (v8658 : BitVec 32) (v8692 : BitVec 32) (k0_hw695 : k0_chk695 v8658 v8692), ∀ a, (k0_off1019 v8658 v8692) a + S1x48x512.size a ≤ S64x64x512.size a := fun v8658 v8692 k0_hw695 => k0_hw695

def k0_off1020 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3707 : BitVec 32 := 46#32
  let v8712 : BitVec 32 := Scalar.addi v5 c46_i32_3707
  let c7_i32_3708 : BitVec 32 := 7#32
  let v8713 : BitVec 32 := Scalar.muli v8712 c7_i32_3708
  let c2_i32_3709 : BitVec 32 := 2#32
  let v8714 : BitVec 32 := Scalar.addi v8713 c2_i32_3709
  let v8715 : Index := Scalar.indexCast v8714
  ![v8715.toNat]
def k0_off1021 (v8658 : BitVec 32) (v8716 : BitVec 32) : Fin 3 → Nat :=
  let v8722 : Index := Scalar.indexCast v8716
  let v8659 : BitVec 32 := v8658
  let v8723 : Index := Scalar.indexCast v8659
  let c0_3710 : Index := 0#32
  ![v8722.toNat, v8723.toNat, 0]

def k0_chk696 (v8658 : BitVec 32) (v8716 : BitVec 32) : Prop :=
  (∀ a, (k0_off1021 v8658 v8716) a + S1x48x512.size a ≤ S64x64x512.size a)
theorem k0_off1021_inb : ∀ (v8658 : BitVec 32) (v8716 : BitVec 32) (k0_hw696 : k0_chk696 v8658 v8716), ∀ a, (k0_off1021 v8658 v8716) a + S1x48x512.size a ≤ S64x64x512.size a := fun v8658 v8716 k0_hw696 => k0_hw696

def k0_off1022 (v8658 : BitVec 32) (v8718 : BitVec 32) : Fin 3 → Nat :=
  let v8726 : Index := Scalar.indexCast v8718
  let v8659 : BitVec 32 := v8658
  let v8727 : Index := Scalar.indexCast v8659
  let c0_3711 : Index := 0#32
  ![v8726.toNat, v8727.toNat, 0]

def k0_chk697 (v8658 : BitVec 32) (v8718 : BitVec 32) : Prop :=
  (∀ a, (k0_off1022 v8658 v8718) a + S1x48x512.size a ≤ S64x64x512.size a)
theorem k0_off1022_inb : ∀ (v8658 : BitVec 32) (v8718 : BitVec 32) (k0_hw697 : k0_chk697 v8658 v8718), ∀ a, (k0_off1022 v8658 v8718) a + S1x48x512.size a ≤ S64x64x512.size a := fun v8658 v8718 k0_hw697 => k0_hw697

def k0_off1023 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3718 : BitVec 32 := 46#32
  let v8738 : BitVec 32 := Scalar.addi v5 c46_i32_3718
  let c7_i32_3719 : BitVec 32 := 7#32
  let v8739 : BitVec 32 := Scalar.muli v8738 c7_i32_3719
  let c3_i32_3720 : BitVec 32 := 3#32
  let v8740 : BitVec 32 := Scalar.addi v8739 c3_i32_3720
  let v8741 : Index := Scalar.indexCast v8740
  ![v8741.toNat]
def k0_off1024 (v8658 : BitVec 32) (v8742 : BitVec 32) : Fin 3 → Nat :=
  let v8748 : Index := Scalar.indexCast v8742
  let v8659 : BitVec 32 := v8658
  let v8749 : Index := Scalar.indexCast v8659
  let c0_3721 : Index := 0#32
  ![v8748.toNat, v8749.toNat, 0]

def k0_chk698 (v8658 : BitVec 32) (v8742 : BitVec 32) : Prop :=
  (∀ a, (k0_off1024 v8658 v8742) a + S1x48x512.size a ≤ S64x64x512.size a)
theorem k0_off1024_inb : ∀ (v8658 : BitVec 32) (v8742 : BitVec 32) (k0_hw698 : k0_chk698 v8658 v8742), ∀ a, (k0_off1024 v8658 v8742) a + S1x48x512.size a ≤ S64x64x512.size a := fun v8658 v8742 k0_hw698 => k0_hw698

def k0_off1025 (v8658 : BitVec 32) (v8744 : BitVec 32) : Fin 3 → Nat :=
  let v8752 : Index := Scalar.indexCast v8744
  let v8659 : BitVec 32 := v8658
  let v8753 : Index := Scalar.indexCast v8659
  let c0_3722 : Index := 0#32
  ![v8752.toNat, v8753.toNat, 0]

def k0_chk699 (v8658 : BitVec 32) (v8744 : BitVec 32) : Prop :=
  (∀ a, (k0_off1025 v8658 v8744) a + S1x48x512.size a ≤ S64x64x512.size a)
theorem k0_off1025_inb : ∀ (v8658 : BitVec 32) (v8744 : BitVec 32) (k0_hw699 : k0_chk699 v8658 v8744), ∀ a, (k0_off1025 v8658 v8744) a + S1x48x512.size a ≤ S64x64x512.size a := fun v8658 v8744 k0_hw699 => k0_hw699

def k0_off1026 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3729 : BitVec 32 := 46#32
  let v8764 : BitVec 32 := Scalar.addi v5 c46_i32_3729
  let c7_i32_3730 : BitVec 32 := 7#32
  let v8765 : BitVec 32 := Scalar.muli v8764 c7_i32_3730
  let c4_i32_3731 : BitVec 32 := 4#32
  let v8766 : BitVec 32 := Scalar.addi v8765 c4_i32_3731
  let v8767 : Index := Scalar.indexCast v8766
  ![v8767.toNat]
def k0_off1027 (v8658 : BitVec 32) (v8768 : BitVec 32) : Fin 3 → Nat :=
  let v8774 : Index := Scalar.indexCast v8768
  let v8659 : BitVec 32 := v8658
  let v8775 : Index := Scalar.indexCast v8659
  let c0_3732 : Index := 0#32
  ![v8774.toNat, v8775.toNat, 0]

def k0_chk700 (v8658 : BitVec 32) (v8768 : BitVec 32) : Prop :=
  (∀ a, (k0_off1027 v8658 v8768) a + S1x48x512.size a ≤ S64x64x512.size a)
theorem k0_off1027_inb : ∀ (v8658 : BitVec 32) (v8768 : BitVec 32) (k0_hw700 : k0_chk700 v8658 v8768), ∀ a, (k0_off1027 v8658 v8768) a + S1x48x512.size a ≤ S64x64x512.size a := fun v8658 v8768 k0_hw700 => k0_hw700

def k0_off1028 (v8658 : BitVec 32) (v8770 : BitVec 32) : Fin 3 → Nat :=
  let v8778 : Index := Scalar.indexCast v8770
  let v8659 : BitVec 32 := v8658
  let v8779 : Index := Scalar.indexCast v8659
  let c0_3733 : Index := 0#32
  ![v8778.toNat, v8779.toNat, 0]

def k0_chk701 (v8658 : BitVec 32) (v8770 : BitVec 32) : Prop :=
  (∀ a, (k0_off1028 v8658 v8770) a + S1x48x512.size a ≤ S64x64x512.size a)
theorem k0_off1028_inb : ∀ (v8658 : BitVec 32) (v8770 : BitVec 32) (k0_hw701 : k0_chk701 v8658 v8770), ∀ a, (k0_off1028 v8658 v8770) a + S1x48x512.size a ≤ S64x64x512.size a := fun v8658 v8770 k0_hw701 => k0_hw701

def k0_off1029 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3740 : BitVec 32 := 46#32
  let v8790 : BitVec 32 := Scalar.addi v5 c46_i32_3740
  let c7_i32_3741 : BitVec 32 := 7#32
  let v8791 : BitVec 32 := Scalar.muli v8790 c7_i32_3741
  let c5_i32_3742 : BitVec 32 := 5#32
  let v8792 : BitVec 32 := Scalar.addi v8791 c5_i32_3742
  let v8793 : Index := Scalar.indexCast v8792
  ![v8793.toNat]
def k0_off1030 (v8658 : BitVec 32) (v8794 : BitVec 32) : Fin 3 → Nat :=
  let v8800 : Index := Scalar.indexCast v8794
  let v8659 : BitVec 32 := v8658
  let v8801 : Index := Scalar.indexCast v8659
  let c0_3743 : Index := 0#32
  ![v8800.toNat, v8801.toNat, 0]

def k0_chk702 (v8658 : BitVec 32) (v8794 : BitVec 32) : Prop :=
  (∀ a, (k0_off1030 v8658 v8794) a + S1x48x512.size a ≤ S64x64x512.size a)
theorem k0_off1030_inb : ∀ (v8658 : BitVec 32) (v8794 : BitVec 32) (k0_hw702 : k0_chk702 v8658 v8794), ∀ a, (k0_off1030 v8658 v8794) a + S1x48x512.size a ≤ S64x64x512.size a := fun v8658 v8794 k0_hw702 => k0_hw702

def k0_off1031 (v8658 : BitVec 32) (v8796 : BitVec 32) : Fin 3 → Nat :=
  let v8804 : Index := Scalar.indexCast v8796
  let v8659 : BitVec 32 := v8658
  let v8805 : Index := Scalar.indexCast v8659
  let c0_3744 : Index := 0#32
  ![v8804.toNat, v8805.toNat, 0]

def k0_chk703 (v8658 : BitVec 32) (v8796 : BitVec 32) : Prop :=
  (∀ a, (k0_off1031 v8658 v8796) a + S1x48x512.size a ≤ S64x64x512.size a)
theorem k0_off1031_inb : ∀ (v8658 : BitVec 32) (v8796 : BitVec 32) (k0_hw703 : k0_chk703 v8658 v8796), ∀ a, (k0_off1031 v8658 v8796) a + S1x48x512.size a ≤ S64x64x512.size a := fun v8658 v8796 k0_hw703 => k0_hw703

def k0_off1032 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c46_i32_3751 : BitVec 32 := 46#32
  let v8816 : BitVec 32 := Scalar.addi v5 c46_i32_3751
  let c7_i32_3752 : BitVec 32 := 7#32
  let v8817 : BitVec 32 := Scalar.muli v8816 c7_i32_3752
  let c6_i32_3753 : BitVec 32 := 6#32
  let v8818 : BitVec 32 := Scalar.addi v8817 c6_i32_3753
  let v8819 : Index := Scalar.indexCast v8818
  ![v8819.toNat]
def k0_off1033 (v8658 : BitVec 32) (v8820 : BitVec 32) : Fin 3 → Nat :=
  let v8826 : Index := Scalar.indexCast v8820
  let v8659 : BitVec 32 := v8658
  let v8827 : Index := Scalar.indexCast v8659
  let c0_3754 : Index := 0#32
  ![v8826.toNat, v8827.toNat, 0]

def k0_chk704 (v8658 : BitVec 32) (v8820 : BitVec 32) : Prop :=
  (∀ a, (k0_off1033 v8658 v8820) a + S1x48x512.size a ≤ S64x64x512.size a)
theorem k0_off1033_inb : ∀ (v8658 : BitVec 32) (v8820 : BitVec 32) (k0_hw704 : k0_chk704 v8658 v8820), ∀ a, (k0_off1033 v8658 v8820) a + S1x48x512.size a ≤ S64x64x512.size a := fun v8658 v8820 k0_hw704 => k0_hw704

def k0_off1034 (v8658 : BitVec 32) (v8822 : BitVec 32) : Fin 3 → Nat :=
  let v8830 : Index := Scalar.indexCast v8822
  let v8659 : BitVec 32 := v8658
  let v8831 : Index := Scalar.indexCast v8659
  let c0_3755 : Index := 0#32
  ![v8830.toNat, v8831.toNat, 0]

def k0_chk705 (v8658 : BitVec 32) (v8822 : BitVec 32) : Prop :=
  (∀ a, (k0_off1034 v8658 v8822) a + S1x48x512.size a ≤ S64x64x512.size a)
theorem k0_off1034_inb : ∀ (v8658 : BitVec 32) (v8822 : BitVec 32) (k0_hw705 : k0_chk705 v8658 v8822), ∀ a, (k0_off1034 v8658 v8822) a + S1x48x512.size a ≤ S64x64x512.size a := fun v8658 v8822 k0_hw705 => k0_hw705

def k0_off1035 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32 : BitVec 32 := 47#32
  let v8844 : BitVec 32 := Scalar.addi v5 c47_i32
  let v8845 : Index := Scalar.indexCast v8844
  ![v8845.toNat]
def k0_mult48 (v8846 : BitVec 32) : BitVec 32 :=
  v8846

def k0_chk706 (v8846 : BitVec 32) : Prop :=
  (16 ∣ (k0_mult48 v8846).toNat)
theorem k0_mult48_dvd : ∀ (v8846 : BitVec 32) (k0_hw706 : k0_chk706 v8846), 16 ∣ (k0_mult48 v8846).toNat := fun v8846 k0_hw706 => k0_hw706

def k0_off1036 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3765 : BitVec 32 := 47#32
  let v8848 : BitVec 32 := Scalar.addi v5 c47_i32_3765
  let c7_i32_3766 : BitVec 32 := 7#32
  let v8849 : BitVec 32 := Scalar.muli v8848 c7_i32_3766
  let c0_i32_3767 : BitVec 32 := 0#32
  let v8850 : BitVec 32 := Scalar.addi v8849 c0_i32_3767
  let v8851 : Index := Scalar.indexCast v8850
  ![v8851.toNat]
def k0_off1037 (v8846 : BitVec 32) (v8852 : BitVec 32) : Fin 3 → Nat :=
  let v8858 : Index := Scalar.indexCast v8852
  let v8847 : BitVec 32 := v8846
  let v8859 : Index := Scalar.indexCast v8847
  let c0_3768 : Index := 0#32
  ![v8858.toNat, v8859.toNat, 0]

def k0_chk707 (v8846 : BitVec 32) (v8852 : BitVec 32) : Prop :=
  (∀ a, (k0_off1037 v8846 v8852) a + S1x48x512.size a ≤ S64x64x512.size a)
theorem k0_off1037_inb : ∀ (v8846 : BitVec 32) (v8852 : BitVec 32) (k0_hw707 : k0_chk707 v8846 v8852), ∀ a, (k0_off1037 v8846 v8852) a + S1x48x512.size a ≤ S64x64x512.size a := fun v8846 v8852 k0_hw707 => k0_hw707

def k0_off1038 (v8846 : BitVec 32) (v8854 : BitVec 32) : Fin 3 → Nat :=
  let v8862 : Index := Scalar.indexCast v8854
  let v8847 : BitVec 32 := v8846
  let v8863 : Index := Scalar.indexCast v8847
  let c0_3769 : Index := 0#32
  ![v8862.toNat, v8863.toNat, 0]

def k0_chk708 (v8846 : BitVec 32) (v8854 : BitVec 32) : Prop :=
  (∀ a, (k0_off1038 v8846 v8854) a + S1x48x512.size a ≤ S64x64x512.size a)
theorem k0_off1038_inb : ∀ (v8846 : BitVec 32) (v8854 : BitVec 32) (k0_hw708 : k0_chk708 v8846 v8854), ∀ a, (k0_off1038 v8846 v8854) a + S1x48x512.size a ≤ S64x64x512.size a := fun v8846 v8854 k0_hw708 => k0_hw708

def k0_off1039 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3776 : BitVec 32 := 47#32
  let v8874 : BitVec 32 := Scalar.addi v5 c47_i32_3776
  let c7_i32_3777 : BitVec 32 := 7#32
  let v8875 : BitVec 32 := Scalar.muli v8874 c7_i32_3777
  let c1_i32_3778 : BitVec 32 := 1#32
  let v8876 : BitVec 32 := Scalar.addi v8875 c1_i32_3778
  let v8877 : Index := Scalar.indexCast v8876
  ![v8877.toNat]
def k0_off1040 (v8846 : BitVec 32) (v8878 : BitVec 32) : Fin 3 → Nat :=
  let v8884 : Index := Scalar.indexCast v8878
  let v8847 : BitVec 32 := v8846
  let v8885 : Index := Scalar.indexCast v8847
  let c0_3779 : Index := 0#32
  ![v8884.toNat, v8885.toNat, 0]

def k0_chk709 (v8846 : BitVec 32) (v8878 : BitVec 32) : Prop :=
  (∀ a, (k0_off1040 v8846 v8878) a + S1x48x512.size a ≤ S64x64x512.size a)
theorem k0_off1040_inb : ∀ (v8846 : BitVec 32) (v8878 : BitVec 32) (k0_hw709 : k0_chk709 v8846 v8878), ∀ a, (k0_off1040 v8846 v8878) a + S1x48x512.size a ≤ S64x64x512.size a := fun v8846 v8878 k0_hw709 => k0_hw709

def k0_off1041 (v8846 : BitVec 32) (v8880 : BitVec 32) : Fin 3 → Nat :=
  let v8888 : Index := Scalar.indexCast v8880
  let v8847 : BitVec 32 := v8846
  let v8889 : Index := Scalar.indexCast v8847
  let c0_3780 : Index := 0#32
  ![v8888.toNat, v8889.toNat, 0]

def k0_chk710 (v8846 : BitVec 32) (v8880 : BitVec 32) : Prop :=
  (∀ a, (k0_off1041 v8846 v8880) a + S1x48x512.size a ≤ S64x64x512.size a)
theorem k0_off1041_inb : ∀ (v8846 : BitVec 32) (v8880 : BitVec 32) (k0_hw710 : k0_chk710 v8846 v8880), ∀ a, (k0_off1041 v8846 v8880) a + S1x48x512.size a ≤ S64x64x512.size a := fun v8846 v8880 k0_hw710 => k0_hw710

def k0_off1042 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3787 : BitVec 32 := 47#32
  let v8900 : BitVec 32 := Scalar.addi v5 c47_i32_3787
  let c7_i32_3788 : BitVec 32 := 7#32
  let v8901 : BitVec 32 := Scalar.muli v8900 c7_i32_3788
  let c2_i32_3789 : BitVec 32 := 2#32
  let v8902 : BitVec 32 := Scalar.addi v8901 c2_i32_3789
  let v8903 : Index := Scalar.indexCast v8902
  ![v8903.toNat]
def k0_off1043 (v8846 : BitVec 32) (v8904 : BitVec 32) : Fin 3 → Nat :=
  let v8910 : Index := Scalar.indexCast v8904
  let v8847 : BitVec 32 := v8846
  let v8911 : Index := Scalar.indexCast v8847
  let c0_3790 : Index := 0#32
  ![v8910.toNat, v8911.toNat, 0]

def k0_chk711 (v8846 : BitVec 32) (v8904 : BitVec 32) : Prop :=
  (∀ a, (k0_off1043 v8846 v8904) a + S1x48x512.size a ≤ S64x64x512.size a)
theorem k0_off1043_inb : ∀ (v8846 : BitVec 32) (v8904 : BitVec 32) (k0_hw711 : k0_chk711 v8846 v8904), ∀ a, (k0_off1043 v8846 v8904) a + S1x48x512.size a ≤ S64x64x512.size a := fun v8846 v8904 k0_hw711 => k0_hw711

def k0_off1044 (v8846 : BitVec 32) (v8906 : BitVec 32) : Fin 3 → Nat :=
  let v8914 : Index := Scalar.indexCast v8906
  let v8847 : BitVec 32 := v8846
  let v8915 : Index := Scalar.indexCast v8847
  let c0_3791 : Index := 0#32
  ![v8914.toNat, v8915.toNat, 0]

def k0_chk712 (v8846 : BitVec 32) (v8906 : BitVec 32) : Prop :=
  (∀ a, (k0_off1044 v8846 v8906) a + S1x48x512.size a ≤ S64x64x512.size a)
theorem k0_off1044_inb : ∀ (v8846 : BitVec 32) (v8906 : BitVec 32) (k0_hw712 : k0_chk712 v8846 v8906), ∀ a, (k0_off1044 v8846 v8906) a + S1x48x512.size a ≤ S64x64x512.size a := fun v8846 v8906 k0_hw712 => k0_hw712

def k0_off1045 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3798 : BitVec 32 := 47#32
  let v8926 : BitVec 32 := Scalar.addi v5 c47_i32_3798
  let c7_i32_3799 : BitVec 32 := 7#32
  let v8927 : BitVec 32 := Scalar.muli v8926 c7_i32_3799
  let c3_i32_3800 : BitVec 32 := 3#32
  let v8928 : BitVec 32 := Scalar.addi v8927 c3_i32_3800
  let v8929 : Index := Scalar.indexCast v8928
  ![v8929.toNat]
def k0_off1046 (v8846 : BitVec 32) (v8930 : BitVec 32) : Fin 3 → Nat :=
  let v8936 : Index := Scalar.indexCast v8930
  let v8847 : BitVec 32 := v8846
  let v8937 : Index := Scalar.indexCast v8847
  let c0_3801 : Index := 0#32
  ![v8936.toNat, v8937.toNat, 0]

def k0_chk713 (v8846 : BitVec 32) (v8930 : BitVec 32) : Prop :=
  (∀ a, (k0_off1046 v8846 v8930) a + S1x48x512.size a ≤ S64x64x512.size a)
theorem k0_off1046_inb : ∀ (v8846 : BitVec 32) (v8930 : BitVec 32) (k0_hw713 : k0_chk713 v8846 v8930), ∀ a, (k0_off1046 v8846 v8930) a + S1x48x512.size a ≤ S64x64x512.size a := fun v8846 v8930 k0_hw713 => k0_hw713

def k0_off1047 (v8846 : BitVec 32) (v8932 : BitVec 32) : Fin 3 → Nat :=
  let v8940 : Index := Scalar.indexCast v8932
  let v8847 : BitVec 32 := v8846
  let v8941 : Index := Scalar.indexCast v8847
  let c0_3802 : Index := 0#32
  ![v8940.toNat, v8941.toNat, 0]

def k0_chk714 (v8846 : BitVec 32) (v8932 : BitVec 32) : Prop :=
  (∀ a, (k0_off1047 v8846 v8932) a + S1x48x512.size a ≤ S64x64x512.size a)
theorem k0_off1047_inb : ∀ (v8846 : BitVec 32) (v8932 : BitVec 32) (k0_hw714 : k0_chk714 v8846 v8932), ∀ a, (k0_off1047 v8846 v8932) a + S1x48x512.size a ≤ S64x64x512.size a := fun v8846 v8932 k0_hw714 => k0_hw714

def k0_off1048 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3809 : BitVec 32 := 47#32
  let v8952 : BitVec 32 := Scalar.addi v5 c47_i32_3809
  let c7_i32_3810 : BitVec 32 := 7#32
  let v8953 : BitVec 32 := Scalar.muli v8952 c7_i32_3810
  let c4_i32_3811 : BitVec 32 := 4#32
  let v8954 : BitVec 32 := Scalar.addi v8953 c4_i32_3811
  let v8955 : Index := Scalar.indexCast v8954
  ![v8955.toNat]
def k0_off1049 (v8846 : BitVec 32) (v8956 : BitVec 32) : Fin 3 → Nat :=
  let v8962 : Index := Scalar.indexCast v8956
  let v8847 : BitVec 32 := v8846
  let v8963 : Index := Scalar.indexCast v8847
  let c0_3812 : Index := 0#32
  ![v8962.toNat, v8963.toNat, 0]

def k0_chk715 (v8846 : BitVec 32) (v8956 : BitVec 32) : Prop :=
  (∀ a, (k0_off1049 v8846 v8956) a + S1x48x512.size a ≤ S64x64x512.size a)
theorem k0_off1049_inb : ∀ (v8846 : BitVec 32) (v8956 : BitVec 32) (k0_hw715 : k0_chk715 v8846 v8956), ∀ a, (k0_off1049 v8846 v8956) a + S1x48x512.size a ≤ S64x64x512.size a := fun v8846 v8956 k0_hw715 => k0_hw715

def k0_off1050 (v8846 : BitVec 32) (v8958 : BitVec 32) : Fin 3 → Nat :=
  let v8966 : Index := Scalar.indexCast v8958
  let v8847 : BitVec 32 := v8846
  let v8967 : Index := Scalar.indexCast v8847
  let c0_3813 : Index := 0#32
  ![v8966.toNat, v8967.toNat, 0]

def k0_chk716 (v8846 : BitVec 32) (v8958 : BitVec 32) : Prop :=
  (∀ a, (k0_off1050 v8846 v8958) a + S1x48x512.size a ≤ S64x64x512.size a)
theorem k0_off1050_inb : ∀ (v8846 : BitVec 32) (v8958 : BitVec 32) (k0_hw716 : k0_chk716 v8846 v8958), ∀ a, (k0_off1050 v8846 v8958) a + S1x48x512.size a ≤ S64x64x512.size a := fun v8846 v8958 k0_hw716 => k0_hw716

def k0_off1051 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3820 : BitVec 32 := 47#32
  let v8978 : BitVec 32 := Scalar.addi v5 c47_i32_3820
  let c7_i32_3821 : BitVec 32 := 7#32
  let v8979 : BitVec 32 := Scalar.muli v8978 c7_i32_3821
  let c5_i32_3822 : BitVec 32 := 5#32
  let v8980 : BitVec 32 := Scalar.addi v8979 c5_i32_3822
  let v8981 : Index := Scalar.indexCast v8980
  ![v8981.toNat]
def k0_off1052 (v8846 : BitVec 32) (v8982 : BitVec 32) : Fin 3 → Nat :=
  let v8988 : Index := Scalar.indexCast v8982
  let v8847 : BitVec 32 := v8846
  let v8989 : Index := Scalar.indexCast v8847
  let c0_3823 : Index := 0#32
  ![v8988.toNat, v8989.toNat, 0]

def k0_chk717 (v8846 : BitVec 32) (v8982 : BitVec 32) : Prop :=
  (∀ a, (k0_off1052 v8846 v8982) a + S1x48x512.size a ≤ S64x64x512.size a)
theorem k0_off1052_inb : ∀ (v8846 : BitVec 32) (v8982 : BitVec 32) (k0_hw717 : k0_chk717 v8846 v8982), ∀ a, (k0_off1052 v8846 v8982) a + S1x48x512.size a ≤ S64x64x512.size a := fun v8846 v8982 k0_hw717 => k0_hw717

def k0_off1053 (v8846 : BitVec 32) (v8984 : BitVec 32) : Fin 3 → Nat :=
  let v8992 : Index := Scalar.indexCast v8984
  let v8847 : BitVec 32 := v8846
  let v8993 : Index := Scalar.indexCast v8847
  let c0_3824 : Index := 0#32
  ![v8992.toNat, v8993.toNat, 0]

def k0_chk718 (v8846 : BitVec 32) (v8984 : BitVec 32) : Prop :=
  (∀ a, (k0_off1053 v8846 v8984) a + S1x48x512.size a ≤ S64x64x512.size a)
theorem k0_off1053_inb : ∀ (v8846 : BitVec 32) (v8984 : BitVec 32) (k0_hw718 : k0_chk718 v8846 v8984), ∀ a, (k0_off1053 v8846 v8984) a + S1x48x512.size a ≤ S64x64x512.size a := fun v8846 v8984 k0_hw718 => k0_hw718

def k0_off1054 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c47_i32_3831 : BitVec 32 := 47#32
  let v9004 : BitVec 32 := Scalar.addi v5 c47_i32_3831
  let c7_i32_3832 : BitVec 32 := 7#32
  let v9005 : BitVec 32 := Scalar.muli v9004 c7_i32_3832
  let c6_i32_3833 : BitVec 32 := 6#32
  let v9006 : BitVec 32 := Scalar.addi v9005 c6_i32_3833
  let v9007 : Index := Scalar.indexCast v9006
  ![v9007.toNat]
def k0_off1055 (v8846 : BitVec 32) (v9008 : BitVec 32) : Fin 3 → Nat :=
  let v9014 : Index := Scalar.indexCast v9008
  let v8847 : BitVec 32 := v8846
  let v9015 : Index := Scalar.indexCast v8847
  let c0_3834 : Index := 0#32
  ![v9014.toNat, v9015.toNat, 0]

def k0_chk719 (v8846 : BitVec 32) (v9008 : BitVec 32) : Prop :=
  (∀ a, (k0_off1055 v8846 v9008) a + S1x48x512.size a ≤ S64x64x512.size a)
theorem k0_off1055_inb : ∀ (v8846 : BitVec 32) (v9008 : BitVec 32) (k0_hw719 : k0_chk719 v8846 v9008), ∀ a, (k0_off1055 v8846 v9008) a + S1x48x512.size a ≤ S64x64x512.size a := fun v8846 v9008 k0_hw719 => k0_hw719

def k0_off1056 (v8846 : BitVec 32) (v9010 : BitVec 32) : Fin 3 → Nat :=
  let v9018 : Index := Scalar.indexCast v9010
  let v8847 : BitVec 32 := v8846
  let v9019 : Index := Scalar.indexCast v8847
  let c0_3835 : Index := 0#32
  ![v9018.toNat, v9019.toNat, 0]

def k0_chk720 (v8846 : BitVec 32) (v9010 : BitVec 32) : Prop :=
  (∀ a, (k0_off1056 v8846 v9010) a + S1x48x512.size a ≤ S64x64x512.size a)
theorem k0_off1056_inb : ∀ (v8846 : BitVec 32) (v9010 : BitVec 32) (k0_hw720 : k0_chk720 v8846 v9010), ∀ a, (k0_off1056 v8846 v9010) a + S1x48x512.size a ≤ S64x64x512.size a := fun v8846 v9010 k0_hw720 => k0_hw720

def k0_off1057 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32 : BitVec 32 := 48#32
  let v9032 : BitVec 32 := Scalar.addi v5 c48_i32
  let v9033 : Index := Scalar.indexCast v9032
  ![v9033.toNat]
def k0_mult49 (v9034 : BitVec 32) : BitVec 32 :=
  v9034

def k0_chk721 (v9034 : BitVec 32) : Prop :=
  (16 ∣ (k0_mult49 v9034).toNat)
theorem k0_mult49_dvd : ∀ (v9034 : BitVec 32) (k0_hw721 : k0_chk721 v9034), 16 ∣ (k0_mult49 v9034).toNat := fun v9034 k0_hw721 => k0_hw721

def k0_off1058 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3845 : BitVec 32 := 48#32
  let v9036 : BitVec 32 := Scalar.addi v5 c48_i32_3845
  let c7_i32_3846 : BitVec 32 := 7#32
  let v9037 : BitVec 32 := Scalar.muli v9036 c7_i32_3846
  let c0_i32_3847 : BitVec 32 := 0#32
  let v9038 : BitVec 32 := Scalar.addi v9037 c0_i32_3847
  let v9039 : Index := Scalar.indexCast v9038
  ![v9039.toNat]
def k0_off1059 (v9034 : BitVec 32) (v9040 : BitVec 32) : Fin 3 → Nat :=
  let v9046 : Index := Scalar.indexCast v9040
  let v9035 : BitVec 32 := v9034
  let v9047 : Index := Scalar.indexCast v9035
  let c0_3848 : Index := 0#32
  ![v9046.toNat, v9047.toNat, 0]

def k0_chk722 (v9034 : BitVec 32) (v9040 : BitVec 32) : Prop :=
  (∀ a, (k0_off1059 v9034 v9040) a + S1x48x512.size a ≤ S64x64x512.size a)
theorem k0_off1059_inb : ∀ (v9034 : BitVec 32) (v9040 : BitVec 32) (k0_hw722 : k0_chk722 v9034 v9040), ∀ a, (k0_off1059 v9034 v9040) a + S1x48x512.size a ≤ S64x64x512.size a := fun v9034 v9040 k0_hw722 => k0_hw722

def k0_off1060 (v9034 : BitVec 32) (v9042 : BitVec 32) : Fin 3 → Nat :=
  let v9050 : Index := Scalar.indexCast v9042
  let v9035 : BitVec 32 := v9034
  let v9051 : Index := Scalar.indexCast v9035
  let c0_3849 : Index := 0#32
  ![v9050.toNat, v9051.toNat, 0]

def k0_chk723 (v9034 : BitVec 32) (v9042 : BitVec 32) : Prop :=
  (∀ a, (k0_off1060 v9034 v9042) a + S1x48x512.size a ≤ S64x64x512.size a)
theorem k0_off1060_inb : ∀ (v9034 : BitVec 32) (v9042 : BitVec 32) (k0_hw723 : k0_chk723 v9034 v9042), ∀ a, (k0_off1060 v9034 v9042) a + S1x48x512.size a ≤ S64x64x512.size a := fun v9034 v9042 k0_hw723 => k0_hw723

def k0_off1061 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3856 : BitVec 32 := 48#32
  let v9062 : BitVec 32 := Scalar.addi v5 c48_i32_3856
  let c7_i32_3857 : BitVec 32 := 7#32
  let v9063 : BitVec 32 := Scalar.muli v9062 c7_i32_3857
  let c1_i32_3858 : BitVec 32 := 1#32
  let v9064 : BitVec 32 := Scalar.addi v9063 c1_i32_3858
  let v9065 : Index := Scalar.indexCast v9064
  ![v9065.toNat]
def k0_off1062 (v9034 : BitVec 32) (v9066 : BitVec 32) : Fin 3 → Nat :=
  let v9072 : Index := Scalar.indexCast v9066
  let v9035 : BitVec 32 := v9034
  let v9073 : Index := Scalar.indexCast v9035
  let c0_3859 : Index := 0#32
  ![v9072.toNat, v9073.toNat, 0]

def k0_chk724 (v9034 : BitVec 32) (v9066 : BitVec 32) : Prop :=
  (∀ a, (k0_off1062 v9034 v9066) a + S1x48x512.size a ≤ S64x64x512.size a)
theorem k0_off1062_inb : ∀ (v9034 : BitVec 32) (v9066 : BitVec 32) (k0_hw724 : k0_chk724 v9034 v9066), ∀ a, (k0_off1062 v9034 v9066) a + S1x48x512.size a ≤ S64x64x512.size a := fun v9034 v9066 k0_hw724 => k0_hw724

def k0_off1063 (v9034 : BitVec 32) (v9068 : BitVec 32) : Fin 3 → Nat :=
  let v9076 : Index := Scalar.indexCast v9068
  let v9035 : BitVec 32 := v9034
  let v9077 : Index := Scalar.indexCast v9035
  let c0_3860 : Index := 0#32
  ![v9076.toNat, v9077.toNat, 0]

def k0_chk725 (v9034 : BitVec 32) (v9068 : BitVec 32) : Prop :=
  (∀ a, (k0_off1063 v9034 v9068) a + S1x48x512.size a ≤ S64x64x512.size a)
theorem k0_off1063_inb : ∀ (v9034 : BitVec 32) (v9068 : BitVec 32) (k0_hw725 : k0_chk725 v9034 v9068), ∀ a, (k0_off1063 v9034 v9068) a + S1x48x512.size a ≤ S64x64x512.size a := fun v9034 v9068 k0_hw725 => k0_hw725

def k0_off1064 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3867 : BitVec 32 := 48#32
  let v9088 : BitVec 32 := Scalar.addi v5 c48_i32_3867
  let c7_i32_3868 : BitVec 32 := 7#32
  let v9089 : BitVec 32 := Scalar.muli v9088 c7_i32_3868
  let c2_i32_3869 : BitVec 32 := 2#32
  let v9090 : BitVec 32 := Scalar.addi v9089 c2_i32_3869
  let v9091 : Index := Scalar.indexCast v9090
  ![v9091.toNat]
def k0_off1065 (v9034 : BitVec 32) (v9092 : BitVec 32) : Fin 3 → Nat :=
  let v9098 : Index := Scalar.indexCast v9092
  let v9035 : BitVec 32 := v9034
  let v9099 : Index := Scalar.indexCast v9035
  let c0_3870 : Index := 0#32
  ![v9098.toNat, v9099.toNat, 0]

def k0_chk726 (v9034 : BitVec 32) (v9092 : BitVec 32) : Prop :=
  (∀ a, (k0_off1065 v9034 v9092) a + S1x48x512.size a ≤ S64x64x512.size a)
theorem k0_off1065_inb : ∀ (v9034 : BitVec 32) (v9092 : BitVec 32) (k0_hw726 : k0_chk726 v9034 v9092), ∀ a, (k0_off1065 v9034 v9092) a + S1x48x512.size a ≤ S64x64x512.size a := fun v9034 v9092 k0_hw726 => k0_hw726

def k0_off1066 (v9034 : BitVec 32) (v9094 : BitVec 32) : Fin 3 → Nat :=
  let v9102 : Index := Scalar.indexCast v9094
  let v9035 : BitVec 32 := v9034
  let v9103 : Index := Scalar.indexCast v9035
  let c0_3871 : Index := 0#32
  ![v9102.toNat, v9103.toNat, 0]

def k0_chk727 (v9034 : BitVec 32) (v9094 : BitVec 32) : Prop :=
  (∀ a, (k0_off1066 v9034 v9094) a + S1x48x512.size a ≤ S64x64x512.size a)
theorem k0_off1066_inb : ∀ (v9034 : BitVec 32) (v9094 : BitVec 32) (k0_hw727 : k0_chk727 v9034 v9094), ∀ a, (k0_off1066 v9034 v9094) a + S1x48x512.size a ≤ S64x64x512.size a := fun v9034 v9094 k0_hw727 => k0_hw727

def k0_off1067 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3878 : BitVec 32 := 48#32
  let v9114 : BitVec 32 := Scalar.addi v5 c48_i32_3878
  let c7_i32_3879 : BitVec 32 := 7#32
  let v9115 : BitVec 32 := Scalar.muli v9114 c7_i32_3879
  let c3_i32_3880 : BitVec 32 := 3#32
  let v9116 : BitVec 32 := Scalar.addi v9115 c3_i32_3880
  let v9117 : Index := Scalar.indexCast v9116
  ![v9117.toNat]
def k0_off1068 (v9034 : BitVec 32) (v9118 : BitVec 32) : Fin 3 → Nat :=
  let v9124 : Index := Scalar.indexCast v9118
  let v9035 : BitVec 32 := v9034
  let v9125 : Index := Scalar.indexCast v9035
  let c0_3881 : Index := 0#32
  ![v9124.toNat, v9125.toNat, 0]

def k0_chk728 (v9034 : BitVec 32) (v9118 : BitVec 32) : Prop :=
  (∀ a, (k0_off1068 v9034 v9118) a + S1x48x512.size a ≤ S64x64x512.size a)
theorem k0_off1068_inb : ∀ (v9034 : BitVec 32) (v9118 : BitVec 32) (k0_hw728 : k0_chk728 v9034 v9118), ∀ a, (k0_off1068 v9034 v9118) a + S1x48x512.size a ≤ S64x64x512.size a := fun v9034 v9118 k0_hw728 => k0_hw728

def k0_off1069 (v9034 : BitVec 32) (v9120 : BitVec 32) : Fin 3 → Nat :=
  let v9128 : Index := Scalar.indexCast v9120
  let v9035 : BitVec 32 := v9034
  let v9129 : Index := Scalar.indexCast v9035
  let c0_3882 : Index := 0#32
  ![v9128.toNat, v9129.toNat, 0]

def k0_chk729 (v9034 : BitVec 32) (v9120 : BitVec 32) : Prop :=
  (∀ a, (k0_off1069 v9034 v9120) a + S1x48x512.size a ≤ S64x64x512.size a)
theorem k0_off1069_inb : ∀ (v9034 : BitVec 32) (v9120 : BitVec 32) (k0_hw729 : k0_chk729 v9034 v9120), ∀ a, (k0_off1069 v9034 v9120) a + S1x48x512.size a ≤ S64x64x512.size a := fun v9034 v9120 k0_hw729 => k0_hw729

def k0_off1070 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3889 : BitVec 32 := 48#32
  let v9140 : BitVec 32 := Scalar.addi v5 c48_i32_3889
  let c7_i32_3890 : BitVec 32 := 7#32
  let v9141 : BitVec 32 := Scalar.muli v9140 c7_i32_3890
  let c4_i32_3891 : BitVec 32 := 4#32
  let v9142 : BitVec 32 := Scalar.addi v9141 c4_i32_3891
  let v9143 : Index := Scalar.indexCast v9142
  ![v9143.toNat]
def k0_off1071 (v9034 : BitVec 32) (v9144 : BitVec 32) : Fin 3 → Nat :=
  let v9150 : Index := Scalar.indexCast v9144
  let v9035 : BitVec 32 := v9034
  let v9151 : Index := Scalar.indexCast v9035
  let c0_3892 : Index := 0#32
  ![v9150.toNat, v9151.toNat, 0]

def k0_chk730 (v9034 : BitVec 32) (v9144 : BitVec 32) : Prop :=
  (∀ a, (k0_off1071 v9034 v9144) a + S1x48x512.size a ≤ S64x64x512.size a)
theorem k0_off1071_inb : ∀ (v9034 : BitVec 32) (v9144 : BitVec 32) (k0_hw730 : k0_chk730 v9034 v9144), ∀ a, (k0_off1071 v9034 v9144) a + S1x48x512.size a ≤ S64x64x512.size a := fun v9034 v9144 k0_hw730 => k0_hw730

def k0_off1072 (v9034 : BitVec 32) (v9146 : BitVec 32) : Fin 3 → Nat :=
  let v9154 : Index := Scalar.indexCast v9146
  let v9035 : BitVec 32 := v9034
  let v9155 : Index := Scalar.indexCast v9035
  let c0_3893 : Index := 0#32
  ![v9154.toNat, v9155.toNat, 0]

def k0_chk731 (v9034 : BitVec 32) (v9146 : BitVec 32) : Prop :=
  (∀ a, (k0_off1072 v9034 v9146) a + S1x48x512.size a ≤ S64x64x512.size a)
theorem k0_off1072_inb : ∀ (v9034 : BitVec 32) (v9146 : BitVec 32) (k0_hw731 : k0_chk731 v9034 v9146), ∀ a, (k0_off1072 v9034 v9146) a + S1x48x512.size a ≤ S64x64x512.size a := fun v9034 v9146 k0_hw731 => k0_hw731

def k0_off1073 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3900 : BitVec 32 := 48#32
  let v9166 : BitVec 32 := Scalar.addi v5 c48_i32_3900
  let c7_i32_3901 : BitVec 32 := 7#32
  let v9167 : BitVec 32 := Scalar.muli v9166 c7_i32_3901
  let c5_i32_3902 : BitVec 32 := 5#32
  let v9168 : BitVec 32 := Scalar.addi v9167 c5_i32_3902
  let v9169 : Index := Scalar.indexCast v9168
  ![v9169.toNat]
def k0_off1074 (v9034 : BitVec 32) (v9170 : BitVec 32) : Fin 3 → Nat :=
  let v9176 : Index := Scalar.indexCast v9170
  let v9035 : BitVec 32 := v9034
  let v9177 : Index := Scalar.indexCast v9035
  let c0_3903 : Index := 0#32
  ![v9176.toNat, v9177.toNat, 0]

def k0_chk732 (v9034 : BitVec 32) (v9170 : BitVec 32) : Prop :=
  (∀ a, (k0_off1074 v9034 v9170) a + S1x48x512.size a ≤ S64x64x512.size a)
theorem k0_off1074_inb : ∀ (v9034 : BitVec 32) (v9170 : BitVec 32) (k0_hw732 : k0_chk732 v9034 v9170), ∀ a, (k0_off1074 v9034 v9170) a + S1x48x512.size a ≤ S64x64x512.size a := fun v9034 v9170 k0_hw732 => k0_hw732

def k0_off1075 (v9034 : BitVec 32) (v9172 : BitVec 32) : Fin 3 → Nat :=
  let v9180 : Index := Scalar.indexCast v9172
  let v9035 : BitVec 32 := v9034
  let v9181 : Index := Scalar.indexCast v9035
  let c0_3904 : Index := 0#32
  ![v9180.toNat, v9181.toNat, 0]

def k0_chk733 (v9034 : BitVec 32) (v9172 : BitVec 32) : Prop :=
  (∀ a, (k0_off1075 v9034 v9172) a + S1x48x512.size a ≤ S64x64x512.size a)
theorem k0_off1075_inb : ∀ (v9034 : BitVec 32) (v9172 : BitVec 32) (k0_hw733 : k0_chk733 v9034 v9172), ∀ a, (k0_off1075 v9034 v9172) a + S1x48x512.size a ≤ S64x64x512.size a := fun v9034 v9172 k0_hw733 => k0_hw733

def k0_off1076 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c48_i32_3911 : BitVec 32 := 48#32
  let v9192 : BitVec 32 := Scalar.addi v5 c48_i32_3911
  let c7_i32_3912 : BitVec 32 := 7#32
  let v9193 : BitVec 32 := Scalar.muli v9192 c7_i32_3912
  let c6_i32_3913 : BitVec 32 := 6#32
  let v9194 : BitVec 32 := Scalar.addi v9193 c6_i32_3913
  let v9195 : Index := Scalar.indexCast v9194
  ![v9195.toNat]
def k0_off1077 (v9034 : BitVec 32) (v9196 : BitVec 32) : Fin 3 → Nat :=
  let v9202 : Index := Scalar.indexCast v9196
  let v9035 : BitVec 32 := v9034
  let v9203 : Index := Scalar.indexCast v9035
  let c0_3914 : Index := 0#32
  ![v9202.toNat, v9203.toNat, 0]

def k0_chk734 (v9034 : BitVec 32) (v9196 : BitVec 32) : Prop :=
  (∀ a, (k0_off1077 v9034 v9196) a + S1x48x512.size a ≤ S64x64x512.size a)
theorem k0_off1077_inb : ∀ (v9034 : BitVec 32) (v9196 : BitVec 32) (k0_hw734 : k0_chk734 v9034 v9196), ∀ a, (k0_off1077 v9034 v9196) a + S1x48x512.size a ≤ S64x64x512.size a := fun v9034 v9196 k0_hw734 => k0_hw734

def k0_off1078 (v9034 : BitVec 32) (v9198 : BitVec 32) : Fin 3 → Nat :=
  let v9206 : Index := Scalar.indexCast v9198
  let v9035 : BitVec 32 := v9034
  let v9207 : Index := Scalar.indexCast v9035
  let c0_3915 : Index := 0#32
  ![v9206.toNat, v9207.toNat, 0]

def k0_chk735 (v9034 : BitVec 32) (v9198 : BitVec 32) : Prop :=
  (∀ a, (k0_off1078 v9034 v9198) a + S1x48x512.size a ≤ S64x64x512.size a)
theorem k0_off1078_inb : ∀ (v9034 : BitVec 32) (v9198 : BitVec 32) (k0_hw735 : k0_chk735 v9034 v9198), ∀ a, (k0_off1078 v9034 v9198) a + S1x48x512.size a ≤ S64x64x512.size a := fun v9034 v9198 k0_hw735 => k0_hw735

def k0_off1079 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32 : BitVec 32 := 49#32
  let v9220 : BitVec 32 := Scalar.addi v5 c49_i32
  let v9221 : Index := Scalar.indexCast v9220
  ![v9221.toNat]
def k0_mult50 (v9222 : BitVec 32) : BitVec 32 :=
  v9222

def k0_chk736 (v9222 : BitVec 32) : Prop :=
  (16 ∣ (k0_mult50 v9222).toNat)
theorem k0_mult50_dvd : ∀ (v9222 : BitVec 32) (k0_hw736 : k0_chk736 v9222), 16 ∣ (k0_mult50 v9222).toNat := fun v9222 k0_hw736 => k0_hw736

def k0_off1080 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3925 : BitVec 32 := 49#32
  let v9224 : BitVec 32 := Scalar.addi v5 c49_i32_3925
  let c7_i32_3926 : BitVec 32 := 7#32
  let v9225 : BitVec 32 := Scalar.muli v9224 c7_i32_3926
  let c0_i32_3927 : BitVec 32 := 0#32
  let v9226 : BitVec 32 := Scalar.addi v9225 c0_i32_3927
  let v9227 : Index := Scalar.indexCast v9226
  ![v9227.toNat]
def k0_off1081 (v9222 : BitVec 32) (v9228 : BitVec 32) : Fin 3 → Nat :=
  let v9234 : Index := Scalar.indexCast v9228
  let v9223 : BitVec 32 := v9222
  let v9235 : Index := Scalar.indexCast v9223
  let c0_3928 : Index := 0#32
  ![v9234.toNat, v9235.toNat, 0]

def k0_chk737 (v9222 : BitVec 32) (v9228 : BitVec 32) : Prop :=
  (∀ a, (k0_off1081 v9222 v9228) a + S1x48x512.size a ≤ S64x64x512.size a)
theorem k0_off1081_inb : ∀ (v9222 : BitVec 32) (v9228 : BitVec 32) (k0_hw737 : k0_chk737 v9222 v9228), ∀ a, (k0_off1081 v9222 v9228) a + S1x48x512.size a ≤ S64x64x512.size a := fun v9222 v9228 k0_hw737 => k0_hw737

def k0_off1082 (v9222 : BitVec 32) (v9230 : BitVec 32) : Fin 3 → Nat :=
  let v9238 : Index := Scalar.indexCast v9230
  let v9223 : BitVec 32 := v9222
  let v9239 : Index := Scalar.indexCast v9223
  let c0_3929 : Index := 0#32
  ![v9238.toNat, v9239.toNat, 0]

def k0_chk738 (v9222 : BitVec 32) (v9230 : BitVec 32) : Prop :=
  (∀ a, (k0_off1082 v9222 v9230) a + S1x48x512.size a ≤ S64x64x512.size a)
theorem k0_off1082_inb : ∀ (v9222 : BitVec 32) (v9230 : BitVec 32) (k0_hw738 : k0_chk738 v9222 v9230), ∀ a, (k0_off1082 v9222 v9230) a + S1x48x512.size a ≤ S64x64x512.size a := fun v9222 v9230 k0_hw738 => k0_hw738

def k0_off1083 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3936 : BitVec 32 := 49#32
  let v9250 : BitVec 32 := Scalar.addi v5 c49_i32_3936
  let c7_i32_3937 : BitVec 32 := 7#32
  let v9251 : BitVec 32 := Scalar.muli v9250 c7_i32_3937
  let c1_i32_3938 : BitVec 32 := 1#32
  let v9252 : BitVec 32 := Scalar.addi v9251 c1_i32_3938
  let v9253 : Index := Scalar.indexCast v9252
  ![v9253.toNat]
def k0_off1084 (v9222 : BitVec 32) (v9254 : BitVec 32) : Fin 3 → Nat :=
  let v9260 : Index := Scalar.indexCast v9254
  let v9223 : BitVec 32 := v9222
  let v9261 : Index := Scalar.indexCast v9223
  let c0_3939 : Index := 0#32
  ![v9260.toNat, v9261.toNat, 0]

def k0_chk739 (v9222 : BitVec 32) (v9254 : BitVec 32) : Prop :=
  (∀ a, (k0_off1084 v9222 v9254) a + S1x48x512.size a ≤ S64x64x512.size a)
theorem k0_off1084_inb : ∀ (v9222 : BitVec 32) (v9254 : BitVec 32) (k0_hw739 : k0_chk739 v9222 v9254), ∀ a, (k0_off1084 v9222 v9254) a + S1x48x512.size a ≤ S64x64x512.size a := fun v9222 v9254 k0_hw739 => k0_hw739

def k0_off1085 (v9222 : BitVec 32) (v9256 : BitVec 32) : Fin 3 → Nat :=
  let v9264 : Index := Scalar.indexCast v9256
  let v9223 : BitVec 32 := v9222
  let v9265 : Index := Scalar.indexCast v9223
  let c0_3940 : Index := 0#32
  ![v9264.toNat, v9265.toNat, 0]

def k0_chk740 (v9222 : BitVec 32) (v9256 : BitVec 32) : Prop :=
  (∀ a, (k0_off1085 v9222 v9256) a + S1x48x512.size a ≤ S64x64x512.size a)
theorem k0_off1085_inb : ∀ (v9222 : BitVec 32) (v9256 : BitVec 32) (k0_hw740 : k0_chk740 v9222 v9256), ∀ a, (k0_off1085 v9222 v9256) a + S1x48x512.size a ≤ S64x64x512.size a := fun v9222 v9256 k0_hw740 => k0_hw740

def k0_off1086 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3947 : BitVec 32 := 49#32
  let v9276 : BitVec 32 := Scalar.addi v5 c49_i32_3947
  let c7_i32_3948 : BitVec 32 := 7#32
  let v9277 : BitVec 32 := Scalar.muli v9276 c7_i32_3948
  let c2_i32_3949 : BitVec 32 := 2#32
  let v9278 : BitVec 32 := Scalar.addi v9277 c2_i32_3949
  let v9279 : Index := Scalar.indexCast v9278
  ![v9279.toNat]
def k0_off1087 (v9222 : BitVec 32) (v9280 : BitVec 32) : Fin 3 → Nat :=
  let v9286 : Index := Scalar.indexCast v9280
  let v9223 : BitVec 32 := v9222
  let v9287 : Index := Scalar.indexCast v9223
  let c0_3950 : Index := 0#32
  ![v9286.toNat, v9287.toNat, 0]

def k0_chk741 (v9222 : BitVec 32) (v9280 : BitVec 32) : Prop :=
  (∀ a, (k0_off1087 v9222 v9280) a + S1x48x512.size a ≤ S64x64x512.size a)
theorem k0_off1087_inb : ∀ (v9222 : BitVec 32) (v9280 : BitVec 32) (k0_hw741 : k0_chk741 v9222 v9280), ∀ a, (k0_off1087 v9222 v9280) a + S1x48x512.size a ≤ S64x64x512.size a := fun v9222 v9280 k0_hw741 => k0_hw741

def k0_off1088 (v9222 : BitVec 32) (v9282 : BitVec 32) : Fin 3 → Nat :=
  let v9290 : Index := Scalar.indexCast v9282
  let v9223 : BitVec 32 := v9222
  let v9291 : Index := Scalar.indexCast v9223
  let c0_3951 : Index := 0#32
  ![v9290.toNat, v9291.toNat, 0]

def k0_chk742 (v9222 : BitVec 32) (v9282 : BitVec 32) : Prop :=
  (∀ a, (k0_off1088 v9222 v9282) a + S1x48x512.size a ≤ S64x64x512.size a)
theorem k0_off1088_inb : ∀ (v9222 : BitVec 32) (v9282 : BitVec 32) (k0_hw742 : k0_chk742 v9222 v9282), ∀ a, (k0_off1088 v9222 v9282) a + S1x48x512.size a ≤ S64x64x512.size a := fun v9222 v9282 k0_hw742 => k0_hw742

def k0_off1089 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3958 : BitVec 32 := 49#32
  let v9302 : BitVec 32 := Scalar.addi v5 c49_i32_3958
  let c7_i32_3959 : BitVec 32 := 7#32
  let v9303 : BitVec 32 := Scalar.muli v9302 c7_i32_3959
  let c3_i32_3960 : BitVec 32 := 3#32
  let v9304 : BitVec 32 := Scalar.addi v9303 c3_i32_3960
  let v9305 : Index := Scalar.indexCast v9304
  ![v9305.toNat]
def k0_off1090 (v9222 : BitVec 32) (v9306 : BitVec 32) : Fin 3 → Nat :=
  let v9312 : Index := Scalar.indexCast v9306
  let v9223 : BitVec 32 := v9222
  let v9313 : Index := Scalar.indexCast v9223
  let c0_3961 : Index := 0#32
  ![v9312.toNat, v9313.toNat, 0]

def k0_chk743 (v9222 : BitVec 32) (v9306 : BitVec 32) : Prop :=
  (∀ a, (k0_off1090 v9222 v9306) a + S1x48x512.size a ≤ S64x64x512.size a)
theorem k0_off1090_inb : ∀ (v9222 : BitVec 32) (v9306 : BitVec 32) (k0_hw743 : k0_chk743 v9222 v9306), ∀ a, (k0_off1090 v9222 v9306) a + S1x48x512.size a ≤ S64x64x512.size a := fun v9222 v9306 k0_hw743 => k0_hw743

def k0_off1091 (v9222 : BitVec 32) (v9308 : BitVec 32) : Fin 3 → Nat :=
  let v9316 : Index := Scalar.indexCast v9308
  let v9223 : BitVec 32 := v9222
  let v9317 : Index := Scalar.indexCast v9223
  let c0_3962 : Index := 0#32
  ![v9316.toNat, v9317.toNat, 0]

def k0_chk744 (v9222 : BitVec 32) (v9308 : BitVec 32) : Prop :=
  (∀ a, (k0_off1091 v9222 v9308) a + S1x48x512.size a ≤ S64x64x512.size a)
theorem k0_off1091_inb : ∀ (v9222 : BitVec 32) (v9308 : BitVec 32) (k0_hw744 : k0_chk744 v9222 v9308), ∀ a, (k0_off1091 v9222 v9308) a + S1x48x512.size a ≤ S64x64x512.size a := fun v9222 v9308 k0_hw744 => k0_hw744

def k0_off1092 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3969 : BitVec 32 := 49#32
  let v9328 : BitVec 32 := Scalar.addi v5 c49_i32_3969
  let c7_i32_3970 : BitVec 32 := 7#32
  let v9329 : BitVec 32 := Scalar.muli v9328 c7_i32_3970
  let c4_i32_3971 : BitVec 32 := 4#32
  let v9330 : BitVec 32 := Scalar.addi v9329 c4_i32_3971
  let v9331 : Index := Scalar.indexCast v9330
  ![v9331.toNat]
def k0_off1093 (v9222 : BitVec 32) (v9332 : BitVec 32) : Fin 3 → Nat :=
  let v9338 : Index := Scalar.indexCast v9332
  let v9223 : BitVec 32 := v9222
  let v9339 : Index := Scalar.indexCast v9223
  let c0_3972 : Index := 0#32
  ![v9338.toNat, v9339.toNat, 0]

def k0_chk745 (v9222 : BitVec 32) (v9332 : BitVec 32) : Prop :=
  (∀ a, (k0_off1093 v9222 v9332) a + S1x48x512.size a ≤ S64x64x512.size a)
theorem k0_off1093_inb : ∀ (v9222 : BitVec 32) (v9332 : BitVec 32) (k0_hw745 : k0_chk745 v9222 v9332), ∀ a, (k0_off1093 v9222 v9332) a + S1x48x512.size a ≤ S64x64x512.size a := fun v9222 v9332 k0_hw745 => k0_hw745

def k0_off1094 (v9222 : BitVec 32) (v9334 : BitVec 32) : Fin 3 → Nat :=
  let v9342 : Index := Scalar.indexCast v9334
  let v9223 : BitVec 32 := v9222
  let v9343 : Index := Scalar.indexCast v9223
  let c0_3973 : Index := 0#32
  ![v9342.toNat, v9343.toNat, 0]

def k0_chk746 (v9222 : BitVec 32) (v9334 : BitVec 32) : Prop :=
  (∀ a, (k0_off1094 v9222 v9334) a + S1x48x512.size a ≤ S64x64x512.size a)
theorem k0_off1094_inb : ∀ (v9222 : BitVec 32) (v9334 : BitVec 32) (k0_hw746 : k0_chk746 v9222 v9334), ∀ a, (k0_off1094 v9222 v9334) a + S1x48x512.size a ≤ S64x64x512.size a := fun v9222 v9334 k0_hw746 => k0_hw746

def k0_off1095 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3980 : BitVec 32 := 49#32
  let v9354 : BitVec 32 := Scalar.addi v5 c49_i32_3980
  let c7_i32_3981 : BitVec 32 := 7#32
  let v9355 : BitVec 32 := Scalar.muli v9354 c7_i32_3981
  let c5_i32_3982 : BitVec 32 := 5#32
  let v9356 : BitVec 32 := Scalar.addi v9355 c5_i32_3982
  let v9357 : Index := Scalar.indexCast v9356
  ![v9357.toNat]
def k0_off1096 (v9222 : BitVec 32) (v9358 : BitVec 32) : Fin 3 → Nat :=
  let v9364 : Index := Scalar.indexCast v9358
  let v9223 : BitVec 32 := v9222
  let v9365 : Index := Scalar.indexCast v9223
  let c0_3983 : Index := 0#32
  ![v9364.toNat, v9365.toNat, 0]

def k0_chk747 (v9222 : BitVec 32) (v9358 : BitVec 32) : Prop :=
  (∀ a, (k0_off1096 v9222 v9358) a + S1x48x512.size a ≤ S64x64x512.size a)
theorem k0_off1096_inb : ∀ (v9222 : BitVec 32) (v9358 : BitVec 32) (k0_hw747 : k0_chk747 v9222 v9358), ∀ a, (k0_off1096 v9222 v9358) a + S1x48x512.size a ≤ S64x64x512.size a := fun v9222 v9358 k0_hw747 => k0_hw747

def k0_off1097 (v9222 : BitVec 32) (v9360 : BitVec 32) : Fin 3 → Nat :=
  let v9368 : Index := Scalar.indexCast v9360
  let v9223 : BitVec 32 := v9222
  let v9369 : Index := Scalar.indexCast v9223
  let c0_3984 : Index := 0#32
  ![v9368.toNat, v9369.toNat, 0]

def k0_chk748 (v9222 : BitVec 32) (v9360 : BitVec 32) : Prop :=
  (∀ a, (k0_off1097 v9222 v9360) a + S1x48x512.size a ≤ S64x64x512.size a)
theorem k0_off1097_inb : ∀ (v9222 : BitVec 32) (v9360 : BitVec 32) (k0_hw748 : k0_chk748 v9222 v9360), ∀ a, (k0_off1097 v9222 v9360) a + S1x48x512.size a ≤ S64x64x512.size a := fun v9222 v9360 k0_hw748 => k0_hw748

def k0_off1098 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c49_i32_3991 : BitVec 32 := 49#32
  let v9380 : BitVec 32 := Scalar.addi v5 c49_i32_3991
  let c7_i32_3992 : BitVec 32 := 7#32
  let v9381 : BitVec 32 := Scalar.muli v9380 c7_i32_3992
  let c6_i32_3993 : BitVec 32 := 6#32
  let v9382 : BitVec 32 := Scalar.addi v9381 c6_i32_3993
  let v9383 : Index := Scalar.indexCast v9382
  ![v9383.toNat]
def k0_off1099 (v9222 : BitVec 32) (v9384 : BitVec 32) : Fin 3 → Nat :=
  let v9390 : Index := Scalar.indexCast v9384
  let v9223 : BitVec 32 := v9222
  let v9391 : Index := Scalar.indexCast v9223
  let c0_3994 : Index := 0#32
  ![v9390.toNat, v9391.toNat, 0]

def k0_chk749 (v9222 : BitVec 32) (v9384 : BitVec 32) : Prop :=
  (∀ a, (k0_off1099 v9222 v9384) a + S1x48x512.size a ≤ S64x64x512.size a)
theorem k0_off1099_inb : ∀ (v9222 : BitVec 32) (v9384 : BitVec 32) (k0_hw749 : k0_chk749 v9222 v9384), ∀ a, (k0_off1099 v9222 v9384) a + S1x48x512.size a ≤ S64x64x512.size a := fun v9222 v9384 k0_hw749 => k0_hw749

def k0_off1100 (v9222 : BitVec 32) (v9386 : BitVec 32) : Fin 3 → Nat :=
  let v9394 : Index := Scalar.indexCast v9386
  let v9223 : BitVec 32 := v9222
  let v9395 : Index := Scalar.indexCast v9223
  let c0_3995 : Index := 0#32
  ![v9394.toNat, v9395.toNat, 0]

def k0_chk750 (v9222 : BitVec 32) (v9386 : BitVec 32) : Prop :=
  (∀ a, (k0_off1100 v9222 v9386) a + S1x48x512.size a ≤ S64x64x512.size a)
theorem k0_off1100_inb : ∀ (v9222 : BitVec 32) (v9386 : BitVec 32) (k0_hw750 : k0_chk750 v9222 v9386), ∀ a, (k0_off1100 v9222 v9386) a + S1x48x512.size a ≤ S64x64x512.size a := fun v9222 v9386 k0_hw750 => k0_hw750

def k0_off1101 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32 : BitVec 32 := 50#32
  let v9408 : BitVec 32 := Scalar.addi v5 c50_i32
  let v9409 : Index := Scalar.indexCast v9408
  ![v9409.toNat]
def k0_mult51 (v9410 : BitVec 32) : BitVec 32 :=
  v9410

def k0_chk751 (v9410 : BitVec 32) : Prop :=
  (16 ∣ (k0_mult51 v9410).toNat)
theorem k0_mult51_dvd : ∀ (v9410 : BitVec 32) (k0_hw751 : k0_chk751 v9410), 16 ∣ (k0_mult51 v9410).toNat := fun v9410 k0_hw751 => k0_hw751

def k0_off1102 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4005 : BitVec 32 := 50#32
  let v9412 : BitVec 32 := Scalar.addi v5 c50_i32_4005
  let c7_i32_4006 : BitVec 32 := 7#32
  let v9413 : BitVec 32 := Scalar.muli v9412 c7_i32_4006
  let c0_i32_4007 : BitVec 32 := 0#32
  let v9414 : BitVec 32 := Scalar.addi v9413 c0_i32_4007
  let v9415 : Index := Scalar.indexCast v9414
  ![v9415.toNat]
def k0_off1103 (v9410 : BitVec 32) (v9416 : BitVec 32) : Fin 3 → Nat :=
  let v9422 : Index := Scalar.indexCast v9416
  let v9411 : BitVec 32 := v9410
  let v9423 : Index := Scalar.indexCast v9411
  let c0_4008 : Index := 0#32
  ![v9422.toNat, v9423.toNat, 0]

def k0_chk752 (v9410 : BitVec 32) (v9416 : BitVec 32) : Prop :=
  (∀ a, (k0_off1103 v9410 v9416) a + S1x48x512.size a ≤ S64x64x512.size a)
theorem k0_off1103_inb : ∀ (v9410 : BitVec 32) (v9416 : BitVec 32) (k0_hw752 : k0_chk752 v9410 v9416), ∀ a, (k0_off1103 v9410 v9416) a + S1x48x512.size a ≤ S64x64x512.size a := fun v9410 v9416 k0_hw752 => k0_hw752

def k0_off1104 (v9410 : BitVec 32) (v9418 : BitVec 32) : Fin 3 → Nat :=
  let v9426 : Index := Scalar.indexCast v9418
  let v9411 : BitVec 32 := v9410
  let v9427 : Index := Scalar.indexCast v9411
  let c0_4009 : Index := 0#32
  ![v9426.toNat, v9427.toNat, 0]

def k0_chk753 (v9410 : BitVec 32) (v9418 : BitVec 32) : Prop :=
  (∀ a, (k0_off1104 v9410 v9418) a + S1x48x512.size a ≤ S64x64x512.size a)
theorem k0_off1104_inb : ∀ (v9410 : BitVec 32) (v9418 : BitVec 32) (k0_hw753 : k0_chk753 v9410 v9418), ∀ a, (k0_off1104 v9410 v9418) a + S1x48x512.size a ≤ S64x64x512.size a := fun v9410 v9418 k0_hw753 => k0_hw753

def k0_off1105 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4016 : BitVec 32 := 50#32
  let v9438 : BitVec 32 := Scalar.addi v5 c50_i32_4016
  let c7_i32_4017 : BitVec 32 := 7#32
  let v9439 : BitVec 32 := Scalar.muli v9438 c7_i32_4017
  let c1_i32_4018 : BitVec 32 := 1#32
  let v9440 : BitVec 32 := Scalar.addi v9439 c1_i32_4018
  let v9441 : Index := Scalar.indexCast v9440
  ![v9441.toNat]
def k0_off1106 (v9410 : BitVec 32) (v9442 : BitVec 32) : Fin 3 → Nat :=
  let v9448 : Index := Scalar.indexCast v9442
  let v9411 : BitVec 32 := v9410
  let v9449 : Index := Scalar.indexCast v9411
  let c0_4019 : Index := 0#32
  ![v9448.toNat, v9449.toNat, 0]

def k0_chk754 (v9410 : BitVec 32) (v9442 : BitVec 32) : Prop :=
  (∀ a, (k0_off1106 v9410 v9442) a + S1x48x512.size a ≤ S64x64x512.size a)
theorem k0_off1106_inb : ∀ (v9410 : BitVec 32) (v9442 : BitVec 32) (k0_hw754 : k0_chk754 v9410 v9442), ∀ a, (k0_off1106 v9410 v9442) a + S1x48x512.size a ≤ S64x64x512.size a := fun v9410 v9442 k0_hw754 => k0_hw754

def k0_off1107 (v9410 : BitVec 32) (v9444 : BitVec 32) : Fin 3 → Nat :=
  let v9452 : Index := Scalar.indexCast v9444
  let v9411 : BitVec 32 := v9410
  let v9453 : Index := Scalar.indexCast v9411
  let c0_4020 : Index := 0#32
  ![v9452.toNat, v9453.toNat, 0]

def k0_chk755 (v9410 : BitVec 32) (v9444 : BitVec 32) : Prop :=
  (∀ a, (k0_off1107 v9410 v9444) a + S1x48x512.size a ≤ S64x64x512.size a)
theorem k0_off1107_inb : ∀ (v9410 : BitVec 32) (v9444 : BitVec 32) (k0_hw755 : k0_chk755 v9410 v9444), ∀ a, (k0_off1107 v9410 v9444) a + S1x48x512.size a ≤ S64x64x512.size a := fun v9410 v9444 k0_hw755 => k0_hw755

def k0_off1108 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4027 : BitVec 32 := 50#32
  let v9464 : BitVec 32 := Scalar.addi v5 c50_i32_4027
  let c7_i32_4028 : BitVec 32 := 7#32
  let v9465 : BitVec 32 := Scalar.muli v9464 c7_i32_4028
  let c2_i32_4029 : BitVec 32 := 2#32
  let v9466 : BitVec 32 := Scalar.addi v9465 c2_i32_4029
  let v9467 : Index := Scalar.indexCast v9466
  ![v9467.toNat]
def k0_off1109 (v9410 : BitVec 32) (v9468 : BitVec 32) : Fin 3 → Nat :=
  let v9474 : Index := Scalar.indexCast v9468
  let v9411 : BitVec 32 := v9410
  let v9475 : Index := Scalar.indexCast v9411
  let c0_4030 : Index := 0#32
  ![v9474.toNat, v9475.toNat, 0]

def k0_chk756 (v9410 : BitVec 32) (v9468 : BitVec 32) : Prop :=
  (∀ a, (k0_off1109 v9410 v9468) a + S1x48x512.size a ≤ S64x64x512.size a)
theorem k0_off1109_inb : ∀ (v9410 : BitVec 32) (v9468 : BitVec 32) (k0_hw756 : k0_chk756 v9410 v9468), ∀ a, (k0_off1109 v9410 v9468) a + S1x48x512.size a ≤ S64x64x512.size a := fun v9410 v9468 k0_hw756 => k0_hw756

def k0_off1110 (v9410 : BitVec 32) (v9470 : BitVec 32) : Fin 3 → Nat :=
  let v9478 : Index := Scalar.indexCast v9470
  let v9411 : BitVec 32 := v9410
  let v9479 : Index := Scalar.indexCast v9411
  let c0_4031 : Index := 0#32
  ![v9478.toNat, v9479.toNat, 0]

def k0_chk757 (v9410 : BitVec 32) (v9470 : BitVec 32) : Prop :=
  (∀ a, (k0_off1110 v9410 v9470) a + S1x48x512.size a ≤ S64x64x512.size a)
theorem k0_off1110_inb : ∀ (v9410 : BitVec 32) (v9470 : BitVec 32) (k0_hw757 : k0_chk757 v9410 v9470), ∀ a, (k0_off1110 v9410 v9470) a + S1x48x512.size a ≤ S64x64x512.size a := fun v9410 v9470 k0_hw757 => k0_hw757

def k0_off1111 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4038 : BitVec 32 := 50#32
  let v9490 : BitVec 32 := Scalar.addi v5 c50_i32_4038
  let c7_i32_4039 : BitVec 32 := 7#32
  let v9491 : BitVec 32 := Scalar.muli v9490 c7_i32_4039
  let c3_i32_4040 : BitVec 32 := 3#32
  let v9492 : BitVec 32 := Scalar.addi v9491 c3_i32_4040
  let v9493 : Index := Scalar.indexCast v9492
  ![v9493.toNat]
def k0_off1112 (v9410 : BitVec 32) (v9494 : BitVec 32) : Fin 3 → Nat :=
  let v9500 : Index := Scalar.indexCast v9494
  let v9411 : BitVec 32 := v9410
  let v9501 : Index := Scalar.indexCast v9411
  let c0_4041 : Index := 0#32
  ![v9500.toNat, v9501.toNat, 0]

def k0_chk758 (v9410 : BitVec 32) (v9494 : BitVec 32) : Prop :=
  (∀ a, (k0_off1112 v9410 v9494) a + S1x48x512.size a ≤ S64x64x512.size a)
theorem k0_off1112_inb : ∀ (v9410 : BitVec 32) (v9494 : BitVec 32) (k0_hw758 : k0_chk758 v9410 v9494), ∀ a, (k0_off1112 v9410 v9494) a + S1x48x512.size a ≤ S64x64x512.size a := fun v9410 v9494 k0_hw758 => k0_hw758

def k0_off1113 (v9410 : BitVec 32) (v9496 : BitVec 32) : Fin 3 → Nat :=
  let v9504 : Index := Scalar.indexCast v9496
  let v9411 : BitVec 32 := v9410
  let v9505 : Index := Scalar.indexCast v9411
  let c0_4042 : Index := 0#32
  ![v9504.toNat, v9505.toNat, 0]

def k0_chk759 (v9410 : BitVec 32) (v9496 : BitVec 32) : Prop :=
  (∀ a, (k0_off1113 v9410 v9496) a + S1x48x512.size a ≤ S64x64x512.size a)
theorem k0_off1113_inb : ∀ (v9410 : BitVec 32) (v9496 : BitVec 32) (k0_hw759 : k0_chk759 v9410 v9496), ∀ a, (k0_off1113 v9410 v9496) a + S1x48x512.size a ≤ S64x64x512.size a := fun v9410 v9496 k0_hw759 => k0_hw759

def k0_off1114 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4049 : BitVec 32 := 50#32
  let v9516 : BitVec 32 := Scalar.addi v5 c50_i32_4049
  let c7_i32_4050 : BitVec 32 := 7#32
  let v9517 : BitVec 32 := Scalar.muli v9516 c7_i32_4050
  let c4_i32_4051 : BitVec 32 := 4#32
  let v9518 : BitVec 32 := Scalar.addi v9517 c4_i32_4051
  let v9519 : Index := Scalar.indexCast v9518
  ![v9519.toNat]
def k0_off1115 (v9410 : BitVec 32) (v9520 : BitVec 32) : Fin 3 → Nat :=
  let v9526 : Index := Scalar.indexCast v9520
  let v9411 : BitVec 32 := v9410
  let v9527 : Index := Scalar.indexCast v9411
  let c0_4052 : Index := 0#32
  ![v9526.toNat, v9527.toNat, 0]

def k0_chk760 (v9410 : BitVec 32) (v9520 : BitVec 32) : Prop :=
  (∀ a, (k0_off1115 v9410 v9520) a + S1x48x512.size a ≤ S64x64x512.size a)
theorem k0_off1115_inb : ∀ (v9410 : BitVec 32) (v9520 : BitVec 32) (k0_hw760 : k0_chk760 v9410 v9520), ∀ a, (k0_off1115 v9410 v9520) a + S1x48x512.size a ≤ S64x64x512.size a := fun v9410 v9520 k0_hw760 => k0_hw760

def k0_off1116 (v9410 : BitVec 32) (v9522 : BitVec 32) : Fin 3 → Nat :=
  let v9530 : Index := Scalar.indexCast v9522
  let v9411 : BitVec 32 := v9410
  let v9531 : Index := Scalar.indexCast v9411
  let c0_4053 : Index := 0#32
  ![v9530.toNat, v9531.toNat, 0]

def k0_chk761 (v9410 : BitVec 32) (v9522 : BitVec 32) : Prop :=
  (∀ a, (k0_off1116 v9410 v9522) a + S1x48x512.size a ≤ S64x64x512.size a)
theorem k0_off1116_inb : ∀ (v9410 : BitVec 32) (v9522 : BitVec 32) (k0_hw761 : k0_chk761 v9410 v9522), ∀ a, (k0_off1116 v9410 v9522) a + S1x48x512.size a ≤ S64x64x512.size a := fun v9410 v9522 k0_hw761 => k0_hw761

def k0_off1117 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4060 : BitVec 32 := 50#32
  let v9542 : BitVec 32 := Scalar.addi v5 c50_i32_4060
  let c7_i32_4061 : BitVec 32 := 7#32
  let v9543 : BitVec 32 := Scalar.muli v9542 c7_i32_4061
  let c5_i32_4062 : BitVec 32 := 5#32
  let v9544 : BitVec 32 := Scalar.addi v9543 c5_i32_4062
  let v9545 : Index := Scalar.indexCast v9544
  ![v9545.toNat]
def k0_off1118 (v9410 : BitVec 32) (v9546 : BitVec 32) : Fin 3 → Nat :=
  let v9552 : Index := Scalar.indexCast v9546
  let v9411 : BitVec 32 := v9410
  let v9553 : Index := Scalar.indexCast v9411
  let c0_4063 : Index := 0#32
  ![v9552.toNat, v9553.toNat, 0]

def k0_chk762 (v9410 : BitVec 32) (v9546 : BitVec 32) : Prop :=
  (∀ a, (k0_off1118 v9410 v9546) a + S1x48x512.size a ≤ S64x64x512.size a)
theorem k0_off1118_inb : ∀ (v9410 : BitVec 32) (v9546 : BitVec 32) (k0_hw762 : k0_chk762 v9410 v9546), ∀ a, (k0_off1118 v9410 v9546) a + S1x48x512.size a ≤ S64x64x512.size a := fun v9410 v9546 k0_hw762 => k0_hw762

def k0_off1119 (v9410 : BitVec 32) (v9548 : BitVec 32) : Fin 3 → Nat :=
  let v9556 : Index := Scalar.indexCast v9548
  let v9411 : BitVec 32 := v9410
  let v9557 : Index := Scalar.indexCast v9411
  let c0_4064 : Index := 0#32
  ![v9556.toNat, v9557.toNat, 0]

def k0_chk763 (v9410 : BitVec 32) (v9548 : BitVec 32) : Prop :=
  (∀ a, (k0_off1119 v9410 v9548) a + S1x48x512.size a ≤ S64x64x512.size a)
theorem k0_off1119_inb : ∀ (v9410 : BitVec 32) (v9548 : BitVec 32) (k0_hw763 : k0_chk763 v9410 v9548), ∀ a, (k0_off1119 v9410 v9548) a + S1x48x512.size a ≤ S64x64x512.size a := fun v9410 v9548 k0_hw763 => k0_hw763

def k0_off1120 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c50_i32_4071 : BitVec 32 := 50#32
  let v9568 : BitVec 32 := Scalar.addi v5 c50_i32_4071
  let c7_i32_4072 : BitVec 32 := 7#32
  let v9569 : BitVec 32 := Scalar.muli v9568 c7_i32_4072
  let c6_i32_4073 : BitVec 32 := 6#32
  let v9570 : BitVec 32 := Scalar.addi v9569 c6_i32_4073
  let v9571 : Index := Scalar.indexCast v9570
  ![v9571.toNat]
def k0_off1121 (v9410 : BitVec 32) (v9572 : BitVec 32) : Fin 3 → Nat :=
  let v9578 : Index := Scalar.indexCast v9572
  let v9411 : BitVec 32 := v9410
  let v9579 : Index := Scalar.indexCast v9411
  let c0_4074 : Index := 0#32
  ![v9578.toNat, v9579.toNat, 0]

def k0_chk764 (v9410 : BitVec 32) (v9572 : BitVec 32) : Prop :=
  (∀ a, (k0_off1121 v9410 v9572) a + S1x48x512.size a ≤ S64x64x512.size a)
theorem k0_off1121_inb : ∀ (v9410 : BitVec 32) (v9572 : BitVec 32) (k0_hw764 : k0_chk764 v9410 v9572), ∀ a, (k0_off1121 v9410 v9572) a + S1x48x512.size a ≤ S64x64x512.size a := fun v9410 v9572 k0_hw764 => k0_hw764

def k0_off1122 (v9410 : BitVec 32) (v9574 : BitVec 32) : Fin 3 → Nat :=
  let v9582 : Index := Scalar.indexCast v9574
  let v9411 : BitVec 32 := v9410
  let v9583 : Index := Scalar.indexCast v9411
  let c0_4075 : Index := 0#32
  ![v9582.toNat, v9583.toNat, 0]

def k0_chk765 (v9410 : BitVec 32) (v9574 : BitVec 32) : Prop :=
  (∀ a, (k0_off1122 v9410 v9574) a + S1x48x512.size a ≤ S64x64x512.size a)
theorem k0_off1122_inb : ∀ (v9410 : BitVec 32) (v9574 : BitVec 32) (k0_hw765 : k0_chk765 v9410 v9574), ∀ a, (k0_off1122 v9410 v9574) a + S1x48x512.size a ≤ S64x64x512.size a := fun v9410 v9574 k0_hw765 => k0_hw765

def k0_off1123 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32 : BitVec 32 := 51#32
  let v9596 : BitVec 32 := Scalar.addi v5 c51_i32
  let v9597 : Index := Scalar.indexCast v9596
  ![v9597.toNat]
def k0_mult52 (v9598 : BitVec 32) : BitVec 32 :=
  v9598

def k0_chk766 (v9598 : BitVec 32) : Prop :=
  (16 ∣ (k0_mult52 v9598).toNat)
theorem k0_mult52_dvd : ∀ (v9598 : BitVec 32) (k0_hw766 : k0_chk766 v9598), 16 ∣ (k0_mult52 v9598).toNat := fun v9598 k0_hw766 => k0_hw766

def k0_off1124 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4085 : BitVec 32 := 51#32
  let v9600 : BitVec 32 := Scalar.addi v5 c51_i32_4085
  let c7_i32_4086 : BitVec 32 := 7#32
  let v9601 : BitVec 32 := Scalar.muli v9600 c7_i32_4086
  let c0_i32_4087 : BitVec 32 := 0#32
  let v9602 : BitVec 32 := Scalar.addi v9601 c0_i32_4087
  let v9603 : Index := Scalar.indexCast v9602
  ![v9603.toNat]
def k0_off1125 (v9598 : BitVec 32) (v9604 : BitVec 32) : Fin 3 → Nat :=
  let v9610 : Index := Scalar.indexCast v9604
  let v9599 : BitVec 32 := v9598
  let v9611 : Index := Scalar.indexCast v9599
  let c0_4088 : Index := 0#32
  ![v9610.toNat, v9611.toNat, 0]

def k0_chk767 (v9598 : BitVec 32) (v9604 : BitVec 32) : Prop :=
  (∀ a, (k0_off1125 v9598 v9604) a + S1x48x512.size a ≤ S64x64x512.size a)
theorem k0_off1125_inb : ∀ (v9598 : BitVec 32) (v9604 : BitVec 32) (k0_hw767 : k0_chk767 v9598 v9604), ∀ a, (k0_off1125 v9598 v9604) a + S1x48x512.size a ≤ S64x64x512.size a := fun v9598 v9604 k0_hw767 => k0_hw767

def k0_off1126 (v9598 : BitVec 32) (v9606 : BitVec 32) : Fin 3 → Nat :=
  let v9614 : Index := Scalar.indexCast v9606
  let v9599 : BitVec 32 := v9598
  let v9615 : Index := Scalar.indexCast v9599
  let c0_4089 : Index := 0#32
  ![v9614.toNat, v9615.toNat, 0]

def k0_chk768 (v9598 : BitVec 32) (v9606 : BitVec 32) : Prop :=
  (∀ a, (k0_off1126 v9598 v9606) a + S1x48x512.size a ≤ S64x64x512.size a)
theorem k0_off1126_inb : ∀ (v9598 : BitVec 32) (v9606 : BitVec 32) (k0_hw768 : k0_chk768 v9598 v9606), ∀ a, (k0_off1126 v9598 v9606) a + S1x48x512.size a ≤ S64x64x512.size a := fun v9598 v9606 k0_hw768 => k0_hw768

def k0_off1127 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4096 : BitVec 32 := 51#32
  let v9626 : BitVec 32 := Scalar.addi v5 c51_i32_4096
  let c7_i32_4097 : BitVec 32 := 7#32
  let v9627 : BitVec 32 := Scalar.muli v9626 c7_i32_4097
  let c1_i32_4098 : BitVec 32 := 1#32
  let v9628 : BitVec 32 := Scalar.addi v9627 c1_i32_4098
  let v9629 : Index := Scalar.indexCast v9628
  ![v9629.toNat]
def k0_off1128 (v9598 : BitVec 32) (v9630 : BitVec 32) : Fin 3 → Nat :=
  let v9636 : Index := Scalar.indexCast v9630
  let v9599 : BitVec 32 := v9598
  let v9637 : Index := Scalar.indexCast v9599
  let c0_4099 : Index := 0#32
  ![v9636.toNat, v9637.toNat, 0]

def k0_chk769 (v9598 : BitVec 32) (v9630 : BitVec 32) : Prop :=
  (∀ a, (k0_off1128 v9598 v9630) a + S1x48x512.size a ≤ S64x64x512.size a)
theorem k0_off1128_inb : ∀ (v9598 : BitVec 32) (v9630 : BitVec 32) (k0_hw769 : k0_chk769 v9598 v9630), ∀ a, (k0_off1128 v9598 v9630) a + S1x48x512.size a ≤ S64x64x512.size a := fun v9598 v9630 k0_hw769 => k0_hw769

def k0_off1129 (v9598 : BitVec 32) (v9632 : BitVec 32) : Fin 3 → Nat :=
  let v9640 : Index := Scalar.indexCast v9632
  let v9599 : BitVec 32 := v9598
  let v9641 : Index := Scalar.indexCast v9599
  let c0_4100 : Index := 0#32
  ![v9640.toNat, v9641.toNat, 0]

def k0_chk770 (v9598 : BitVec 32) (v9632 : BitVec 32) : Prop :=
  (∀ a, (k0_off1129 v9598 v9632) a + S1x48x512.size a ≤ S64x64x512.size a)
theorem k0_off1129_inb : ∀ (v9598 : BitVec 32) (v9632 : BitVec 32) (k0_hw770 : k0_chk770 v9598 v9632), ∀ a, (k0_off1129 v9598 v9632) a + S1x48x512.size a ≤ S64x64x512.size a := fun v9598 v9632 k0_hw770 => k0_hw770

def k0_off1130 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4107 : BitVec 32 := 51#32
  let v9652 : BitVec 32 := Scalar.addi v5 c51_i32_4107
  let c7_i32_4108 : BitVec 32 := 7#32
  let v9653 : BitVec 32 := Scalar.muli v9652 c7_i32_4108
  let c2_i32_4109 : BitVec 32 := 2#32
  let v9654 : BitVec 32 := Scalar.addi v9653 c2_i32_4109
  let v9655 : Index := Scalar.indexCast v9654
  ![v9655.toNat]
def k0_off1131 (v9598 : BitVec 32) (v9656 : BitVec 32) : Fin 3 → Nat :=
  let v9662 : Index := Scalar.indexCast v9656
  let v9599 : BitVec 32 := v9598
  let v9663 : Index := Scalar.indexCast v9599
  let c0_4110 : Index := 0#32
  ![v9662.toNat, v9663.toNat, 0]

def k0_chk771 (v9598 : BitVec 32) (v9656 : BitVec 32) : Prop :=
  (∀ a, (k0_off1131 v9598 v9656) a + S1x48x512.size a ≤ S64x64x512.size a)
theorem k0_off1131_inb : ∀ (v9598 : BitVec 32) (v9656 : BitVec 32) (k0_hw771 : k0_chk771 v9598 v9656), ∀ a, (k0_off1131 v9598 v9656) a + S1x48x512.size a ≤ S64x64x512.size a := fun v9598 v9656 k0_hw771 => k0_hw771

def k0_off1132 (v9598 : BitVec 32) (v9658 : BitVec 32) : Fin 3 → Nat :=
  let v9666 : Index := Scalar.indexCast v9658
  let v9599 : BitVec 32 := v9598
  let v9667 : Index := Scalar.indexCast v9599
  let c0_4111 : Index := 0#32
  ![v9666.toNat, v9667.toNat, 0]

def k0_chk772 (v9598 : BitVec 32) (v9658 : BitVec 32) : Prop :=
  (∀ a, (k0_off1132 v9598 v9658) a + S1x48x512.size a ≤ S64x64x512.size a)
theorem k0_off1132_inb : ∀ (v9598 : BitVec 32) (v9658 : BitVec 32) (k0_hw772 : k0_chk772 v9598 v9658), ∀ a, (k0_off1132 v9598 v9658) a + S1x48x512.size a ≤ S64x64x512.size a := fun v9598 v9658 k0_hw772 => k0_hw772

def k0_off1133 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4118 : BitVec 32 := 51#32
  let v9678 : BitVec 32 := Scalar.addi v5 c51_i32_4118
  let c7_i32_4119 : BitVec 32 := 7#32
  let v9679 : BitVec 32 := Scalar.muli v9678 c7_i32_4119
  let c3_i32_4120 : BitVec 32 := 3#32
  let v9680 : BitVec 32 := Scalar.addi v9679 c3_i32_4120
  let v9681 : Index := Scalar.indexCast v9680
  ![v9681.toNat]
def k0_off1134 (v9598 : BitVec 32) (v9682 : BitVec 32) : Fin 3 → Nat :=
  let v9688 : Index := Scalar.indexCast v9682
  let v9599 : BitVec 32 := v9598
  let v9689 : Index := Scalar.indexCast v9599
  let c0_4121 : Index := 0#32
  ![v9688.toNat, v9689.toNat, 0]

def k0_chk773 (v9598 : BitVec 32) (v9682 : BitVec 32) : Prop :=
  (∀ a, (k0_off1134 v9598 v9682) a + S1x48x512.size a ≤ S64x64x512.size a)
theorem k0_off1134_inb : ∀ (v9598 : BitVec 32) (v9682 : BitVec 32) (k0_hw773 : k0_chk773 v9598 v9682), ∀ a, (k0_off1134 v9598 v9682) a + S1x48x512.size a ≤ S64x64x512.size a := fun v9598 v9682 k0_hw773 => k0_hw773

def k0_off1135 (v9598 : BitVec 32) (v9684 : BitVec 32) : Fin 3 → Nat :=
  let v9692 : Index := Scalar.indexCast v9684
  let v9599 : BitVec 32 := v9598
  let v9693 : Index := Scalar.indexCast v9599
  let c0_4122 : Index := 0#32
  ![v9692.toNat, v9693.toNat, 0]

def k0_chk774 (v9598 : BitVec 32) (v9684 : BitVec 32) : Prop :=
  (∀ a, (k0_off1135 v9598 v9684) a + S1x48x512.size a ≤ S64x64x512.size a)
theorem k0_off1135_inb : ∀ (v9598 : BitVec 32) (v9684 : BitVec 32) (k0_hw774 : k0_chk774 v9598 v9684), ∀ a, (k0_off1135 v9598 v9684) a + S1x48x512.size a ≤ S64x64x512.size a := fun v9598 v9684 k0_hw774 => k0_hw774

def k0_off1136 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4129 : BitVec 32 := 51#32
  let v9704 : BitVec 32 := Scalar.addi v5 c51_i32_4129
  let c7_i32_4130 : BitVec 32 := 7#32
  let v9705 : BitVec 32 := Scalar.muli v9704 c7_i32_4130
  let c4_i32_4131 : BitVec 32 := 4#32
  let v9706 : BitVec 32 := Scalar.addi v9705 c4_i32_4131
  let v9707 : Index := Scalar.indexCast v9706
  ![v9707.toNat]
def k0_off1137 (v9598 : BitVec 32) (v9708 : BitVec 32) : Fin 3 → Nat :=
  let v9714 : Index := Scalar.indexCast v9708
  let v9599 : BitVec 32 := v9598
  let v9715 : Index := Scalar.indexCast v9599
  let c0_4132 : Index := 0#32
  ![v9714.toNat, v9715.toNat, 0]

def k0_chk775 (v9598 : BitVec 32) (v9708 : BitVec 32) : Prop :=
  (∀ a, (k0_off1137 v9598 v9708) a + S1x48x512.size a ≤ S64x64x512.size a)
theorem k0_off1137_inb : ∀ (v9598 : BitVec 32) (v9708 : BitVec 32) (k0_hw775 : k0_chk775 v9598 v9708), ∀ a, (k0_off1137 v9598 v9708) a + S1x48x512.size a ≤ S64x64x512.size a := fun v9598 v9708 k0_hw775 => k0_hw775

def k0_off1138 (v9598 : BitVec 32) (v9710 : BitVec 32) : Fin 3 → Nat :=
  let v9718 : Index := Scalar.indexCast v9710
  let v9599 : BitVec 32 := v9598
  let v9719 : Index := Scalar.indexCast v9599
  let c0_4133 : Index := 0#32
  ![v9718.toNat, v9719.toNat, 0]

def k0_chk776 (v9598 : BitVec 32) (v9710 : BitVec 32) : Prop :=
  (∀ a, (k0_off1138 v9598 v9710) a + S1x48x512.size a ≤ S64x64x512.size a)
theorem k0_off1138_inb : ∀ (v9598 : BitVec 32) (v9710 : BitVec 32) (k0_hw776 : k0_chk776 v9598 v9710), ∀ a, (k0_off1138 v9598 v9710) a + S1x48x512.size a ≤ S64x64x512.size a := fun v9598 v9710 k0_hw776 => k0_hw776

def k0_off1139 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4140 : BitVec 32 := 51#32
  let v9730 : BitVec 32 := Scalar.addi v5 c51_i32_4140
  let c7_i32_4141 : BitVec 32 := 7#32
  let v9731 : BitVec 32 := Scalar.muli v9730 c7_i32_4141
  let c5_i32_4142 : BitVec 32 := 5#32
  let v9732 : BitVec 32 := Scalar.addi v9731 c5_i32_4142
  let v9733 : Index := Scalar.indexCast v9732
  ![v9733.toNat]
def k0_off1140 (v9598 : BitVec 32) (v9734 : BitVec 32) : Fin 3 → Nat :=
  let v9740 : Index := Scalar.indexCast v9734
  let v9599 : BitVec 32 := v9598
  let v9741 : Index := Scalar.indexCast v9599
  let c0_4143 : Index := 0#32
  ![v9740.toNat, v9741.toNat, 0]

def k0_chk777 (v9598 : BitVec 32) (v9734 : BitVec 32) : Prop :=
  (∀ a, (k0_off1140 v9598 v9734) a + S1x48x512.size a ≤ S64x64x512.size a)
theorem k0_off1140_inb : ∀ (v9598 : BitVec 32) (v9734 : BitVec 32) (k0_hw777 : k0_chk777 v9598 v9734), ∀ a, (k0_off1140 v9598 v9734) a + S1x48x512.size a ≤ S64x64x512.size a := fun v9598 v9734 k0_hw777 => k0_hw777

def k0_off1141 (v9598 : BitVec 32) (v9736 : BitVec 32) : Fin 3 → Nat :=
  let v9744 : Index := Scalar.indexCast v9736
  let v9599 : BitVec 32 := v9598
  let v9745 : Index := Scalar.indexCast v9599
  let c0_4144 : Index := 0#32
  ![v9744.toNat, v9745.toNat, 0]

def k0_chk778 (v9598 : BitVec 32) (v9736 : BitVec 32) : Prop :=
  (∀ a, (k0_off1141 v9598 v9736) a + S1x48x512.size a ≤ S64x64x512.size a)
theorem k0_off1141_inb : ∀ (v9598 : BitVec 32) (v9736 : BitVec 32) (k0_hw778 : k0_chk778 v9598 v9736), ∀ a, (k0_off1141 v9598 v9736) a + S1x48x512.size a ≤ S64x64x512.size a := fun v9598 v9736 k0_hw778 => k0_hw778

def k0_off1142 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c51_i32_4151 : BitVec 32 := 51#32
  let v9756 : BitVec 32 := Scalar.addi v5 c51_i32_4151
  let c7_i32_4152 : BitVec 32 := 7#32
  let v9757 : BitVec 32 := Scalar.muli v9756 c7_i32_4152
  let c6_i32_4153 : BitVec 32 := 6#32
  let v9758 : BitVec 32 := Scalar.addi v9757 c6_i32_4153
  let v9759 : Index := Scalar.indexCast v9758
  ![v9759.toNat]
def k0_off1143 (v9598 : BitVec 32) (v9760 : BitVec 32) : Fin 3 → Nat :=
  let v9766 : Index := Scalar.indexCast v9760
  let v9599 : BitVec 32 := v9598
  let v9767 : Index := Scalar.indexCast v9599
  let c0_4154 : Index := 0#32
  ![v9766.toNat, v9767.toNat, 0]

def k0_chk779 (v9598 : BitVec 32) (v9760 : BitVec 32) : Prop :=
  (∀ a, (k0_off1143 v9598 v9760) a + S1x48x512.size a ≤ S64x64x512.size a)
theorem k0_off1143_inb : ∀ (v9598 : BitVec 32) (v9760 : BitVec 32) (k0_hw779 : k0_chk779 v9598 v9760), ∀ a, (k0_off1143 v9598 v9760) a + S1x48x512.size a ≤ S64x64x512.size a := fun v9598 v9760 k0_hw779 => k0_hw779

def k0_off1144 (v9598 : BitVec 32) (v9762 : BitVec 32) : Fin 3 → Nat :=
  let v9770 : Index := Scalar.indexCast v9762
  let v9599 : BitVec 32 := v9598
  let v9771 : Index := Scalar.indexCast v9599
  let c0_4155 : Index := 0#32
  ![v9770.toNat, v9771.toNat, 0]

def k0_chk780 (v9598 : BitVec 32) (v9762 : BitVec 32) : Prop :=
  (∀ a, (k0_off1144 v9598 v9762) a + S1x48x512.size a ≤ S64x64x512.size a)
theorem k0_off1144_inb : ∀ (v9598 : BitVec 32) (v9762 : BitVec 32) (k0_hw780 : k0_chk780 v9598 v9762), ∀ a, (k0_off1144 v9598 v9762) a + S1x48x512.size a ≤ S64x64x512.size a := fun v9598 v9762 k0_hw780 => k0_hw780

def k0_off1145 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32 : BitVec 32 := 52#32
  let v9784 : BitVec 32 := Scalar.addi v5 c52_i32
  let v9785 : Index := Scalar.indexCast v9784
  ![v9785.toNat]
def k0_mult53 (v9786 : BitVec 32) : BitVec 32 :=
  v9786

def k0_chk781 (v9786 : BitVec 32) : Prop :=
  (16 ∣ (k0_mult53 v9786).toNat)
theorem k0_mult53_dvd : ∀ (v9786 : BitVec 32) (k0_hw781 : k0_chk781 v9786), 16 ∣ (k0_mult53 v9786).toNat := fun v9786 k0_hw781 => k0_hw781

def k0_off1146 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4165 : BitVec 32 := 52#32
  let v9788 : BitVec 32 := Scalar.addi v5 c52_i32_4165
  let c7_i32_4166 : BitVec 32 := 7#32
  let v9789 : BitVec 32 := Scalar.muli v9788 c7_i32_4166
  let c0_i32_4167 : BitVec 32 := 0#32
  let v9790 : BitVec 32 := Scalar.addi v9789 c0_i32_4167
  let v9791 : Index := Scalar.indexCast v9790
  ![v9791.toNat]
def k0_off1147 (v9786 : BitVec 32) (v9792 : BitVec 32) : Fin 3 → Nat :=
  let v9798 : Index := Scalar.indexCast v9792
  let v9787 : BitVec 32 := v9786
  let v9799 : Index := Scalar.indexCast v9787
  let c0_4168 : Index := 0#32
  ![v9798.toNat, v9799.toNat, 0]

def k0_chk782 (v9786 : BitVec 32) (v9792 : BitVec 32) : Prop :=
  (∀ a, (k0_off1147 v9786 v9792) a + S1x48x512.size a ≤ S64x64x512.size a)
theorem k0_off1147_inb : ∀ (v9786 : BitVec 32) (v9792 : BitVec 32) (k0_hw782 : k0_chk782 v9786 v9792), ∀ a, (k0_off1147 v9786 v9792) a + S1x48x512.size a ≤ S64x64x512.size a := fun v9786 v9792 k0_hw782 => k0_hw782

def k0_off1148 (v9786 : BitVec 32) (v9794 : BitVec 32) : Fin 3 → Nat :=
  let v9802 : Index := Scalar.indexCast v9794
  let v9787 : BitVec 32 := v9786
  let v9803 : Index := Scalar.indexCast v9787
  let c0_4169 : Index := 0#32
  ![v9802.toNat, v9803.toNat, 0]

def k0_chk783 (v9786 : BitVec 32) (v9794 : BitVec 32) : Prop :=
  (∀ a, (k0_off1148 v9786 v9794) a + S1x48x512.size a ≤ S64x64x512.size a)
theorem k0_off1148_inb : ∀ (v9786 : BitVec 32) (v9794 : BitVec 32) (k0_hw783 : k0_chk783 v9786 v9794), ∀ a, (k0_off1148 v9786 v9794) a + S1x48x512.size a ≤ S64x64x512.size a := fun v9786 v9794 k0_hw783 => k0_hw783

def k0_off1149 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4176 : BitVec 32 := 52#32
  let v9814 : BitVec 32 := Scalar.addi v5 c52_i32_4176
  let c7_i32_4177 : BitVec 32 := 7#32
  let v9815 : BitVec 32 := Scalar.muli v9814 c7_i32_4177
  let c1_i32_4178 : BitVec 32 := 1#32
  let v9816 : BitVec 32 := Scalar.addi v9815 c1_i32_4178
  let v9817 : Index := Scalar.indexCast v9816
  ![v9817.toNat]
def k0_off1150 (v9786 : BitVec 32) (v9818 : BitVec 32) : Fin 3 → Nat :=
  let v9824 : Index := Scalar.indexCast v9818
  let v9787 : BitVec 32 := v9786
  let v9825 : Index := Scalar.indexCast v9787
  let c0_4179 : Index := 0#32
  ![v9824.toNat, v9825.toNat, 0]

def k0_chk784 (v9786 : BitVec 32) (v9818 : BitVec 32) : Prop :=
  (∀ a, (k0_off1150 v9786 v9818) a + S1x48x512.size a ≤ S64x64x512.size a)
theorem k0_off1150_inb : ∀ (v9786 : BitVec 32) (v9818 : BitVec 32) (k0_hw784 : k0_chk784 v9786 v9818), ∀ a, (k0_off1150 v9786 v9818) a + S1x48x512.size a ≤ S64x64x512.size a := fun v9786 v9818 k0_hw784 => k0_hw784

def k0_off1151 (v9786 : BitVec 32) (v9820 : BitVec 32) : Fin 3 → Nat :=
  let v9828 : Index := Scalar.indexCast v9820
  let v9787 : BitVec 32 := v9786
  let v9829 : Index := Scalar.indexCast v9787
  let c0_4180 : Index := 0#32
  ![v9828.toNat, v9829.toNat, 0]

def k0_chk785 (v9786 : BitVec 32) (v9820 : BitVec 32) : Prop :=
  (∀ a, (k0_off1151 v9786 v9820) a + S1x48x512.size a ≤ S64x64x512.size a)
theorem k0_off1151_inb : ∀ (v9786 : BitVec 32) (v9820 : BitVec 32) (k0_hw785 : k0_chk785 v9786 v9820), ∀ a, (k0_off1151 v9786 v9820) a + S1x48x512.size a ≤ S64x64x512.size a := fun v9786 v9820 k0_hw785 => k0_hw785

def k0_off1152 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4187 : BitVec 32 := 52#32
  let v9840 : BitVec 32 := Scalar.addi v5 c52_i32_4187
  let c7_i32_4188 : BitVec 32 := 7#32
  let v9841 : BitVec 32 := Scalar.muli v9840 c7_i32_4188
  let c2_i32_4189 : BitVec 32 := 2#32
  let v9842 : BitVec 32 := Scalar.addi v9841 c2_i32_4189
  let v9843 : Index := Scalar.indexCast v9842
  ![v9843.toNat]
def k0_off1153 (v9786 : BitVec 32) (v9844 : BitVec 32) : Fin 3 → Nat :=
  let v9850 : Index := Scalar.indexCast v9844
  let v9787 : BitVec 32 := v9786
  let v9851 : Index := Scalar.indexCast v9787
  let c0_4190 : Index := 0#32
  ![v9850.toNat, v9851.toNat, 0]

def k0_chk786 (v9786 : BitVec 32) (v9844 : BitVec 32) : Prop :=
  (∀ a, (k0_off1153 v9786 v9844) a + S1x48x512.size a ≤ S64x64x512.size a)
theorem k0_off1153_inb : ∀ (v9786 : BitVec 32) (v9844 : BitVec 32) (k0_hw786 : k0_chk786 v9786 v9844), ∀ a, (k0_off1153 v9786 v9844) a + S1x48x512.size a ≤ S64x64x512.size a := fun v9786 v9844 k0_hw786 => k0_hw786

def k0_off1154 (v9786 : BitVec 32) (v9846 : BitVec 32) : Fin 3 → Nat :=
  let v9854 : Index := Scalar.indexCast v9846
  let v9787 : BitVec 32 := v9786
  let v9855 : Index := Scalar.indexCast v9787
  let c0_4191 : Index := 0#32
  ![v9854.toNat, v9855.toNat, 0]

def k0_chk787 (v9786 : BitVec 32) (v9846 : BitVec 32) : Prop :=
  (∀ a, (k0_off1154 v9786 v9846) a + S1x48x512.size a ≤ S64x64x512.size a)
theorem k0_off1154_inb : ∀ (v9786 : BitVec 32) (v9846 : BitVec 32) (k0_hw787 : k0_chk787 v9786 v9846), ∀ a, (k0_off1154 v9786 v9846) a + S1x48x512.size a ≤ S64x64x512.size a := fun v9786 v9846 k0_hw787 => k0_hw787

def k0_off1155 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4198 : BitVec 32 := 52#32
  let v9866 : BitVec 32 := Scalar.addi v5 c52_i32_4198
  let c7_i32_4199 : BitVec 32 := 7#32
  let v9867 : BitVec 32 := Scalar.muli v9866 c7_i32_4199
  let c3_i32_4200 : BitVec 32 := 3#32
  let v9868 : BitVec 32 := Scalar.addi v9867 c3_i32_4200
  let v9869 : Index := Scalar.indexCast v9868
  ![v9869.toNat]
def k0_off1156 (v9786 : BitVec 32) (v9870 : BitVec 32) : Fin 3 → Nat :=
  let v9876 : Index := Scalar.indexCast v9870
  let v9787 : BitVec 32 := v9786
  let v9877 : Index := Scalar.indexCast v9787
  let c0_4201 : Index := 0#32
  ![v9876.toNat, v9877.toNat, 0]

def k0_chk788 (v9786 : BitVec 32) (v9870 : BitVec 32) : Prop :=
  (∀ a, (k0_off1156 v9786 v9870) a + S1x48x512.size a ≤ S64x64x512.size a)
theorem k0_off1156_inb : ∀ (v9786 : BitVec 32) (v9870 : BitVec 32) (k0_hw788 : k0_chk788 v9786 v9870), ∀ a, (k0_off1156 v9786 v9870) a + S1x48x512.size a ≤ S64x64x512.size a := fun v9786 v9870 k0_hw788 => k0_hw788

def k0_off1157 (v9786 : BitVec 32) (v9872 : BitVec 32) : Fin 3 → Nat :=
  let v9880 : Index := Scalar.indexCast v9872
  let v9787 : BitVec 32 := v9786
  let v9881 : Index := Scalar.indexCast v9787
  let c0_4202 : Index := 0#32
  ![v9880.toNat, v9881.toNat, 0]

def k0_chk789 (v9786 : BitVec 32) (v9872 : BitVec 32) : Prop :=
  (∀ a, (k0_off1157 v9786 v9872) a + S1x48x512.size a ≤ S64x64x512.size a)
theorem k0_off1157_inb : ∀ (v9786 : BitVec 32) (v9872 : BitVec 32) (k0_hw789 : k0_chk789 v9786 v9872), ∀ a, (k0_off1157 v9786 v9872) a + S1x48x512.size a ≤ S64x64x512.size a := fun v9786 v9872 k0_hw789 => k0_hw789

def k0_off1158 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4209 : BitVec 32 := 52#32
  let v9892 : BitVec 32 := Scalar.addi v5 c52_i32_4209
  let c7_i32_4210 : BitVec 32 := 7#32
  let v9893 : BitVec 32 := Scalar.muli v9892 c7_i32_4210
  let c4_i32_4211 : BitVec 32 := 4#32
  let v9894 : BitVec 32 := Scalar.addi v9893 c4_i32_4211
  let v9895 : Index := Scalar.indexCast v9894
  ![v9895.toNat]
def k0_off1159 (v9786 : BitVec 32) (v9896 : BitVec 32) : Fin 3 → Nat :=
  let v9902 : Index := Scalar.indexCast v9896
  let v9787 : BitVec 32 := v9786
  let v9903 : Index := Scalar.indexCast v9787
  let c0_4212 : Index := 0#32
  ![v9902.toNat, v9903.toNat, 0]

def k0_chk790 (v9786 : BitVec 32) (v9896 : BitVec 32) : Prop :=
  (∀ a, (k0_off1159 v9786 v9896) a + S1x48x512.size a ≤ S64x64x512.size a)
theorem k0_off1159_inb : ∀ (v9786 : BitVec 32) (v9896 : BitVec 32) (k0_hw790 : k0_chk790 v9786 v9896), ∀ a, (k0_off1159 v9786 v9896) a + S1x48x512.size a ≤ S64x64x512.size a := fun v9786 v9896 k0_hw790 => k0_hw790

def k0_off1160 (v9786 : BitVec 32) (v9898 : BitVec 32) : Fin 3 → Nat :=
  let v9906 : Index := Scalar.indexCast v9898
  let v9787 : BitVec 32 := v9786
  let v9907 : Index := Scalar.indexCast v9787
  let c0_4213 : Index := 0#32
  ![v9906.toNat, v9907.toNat, 0]

def k0_chk791 (v9786 : BitVec 32) (v9898 : BitVec 32) : Prop :=
  (∀ a, (k0_off1160 v9786 v9898) a + S1x48x512.size a ≤ S64x64x512.size a)
theorem k0_off1160_inb : ∀ (v9786 : BitVec 32) (v9898 : BitVec 32) (k0_hw791 : k0_chk791 v9786 v9898), ∀ a, (k0_off1160 v9786 v9898) a + S1x48x512.size a ≤ S64x64x512.size a := fun v9786 v9898 k0_hw791 => k0_hw791

def k0_off1161 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4220 : BitVec 32 := 52#32
  let v9918 : BitVec 32 := Scalar.addi v5 c52_i32_4220
  let c7_i32_4221 : BitVec 32 := 7#32
  let v9919 : BitVec 32 := Scalar.muli v9918 c7_i32_4221
  let c5_i32_4222 : BitVec 32 := 5#32
  let v9920 : BitVec 32 := Scalar.addi v9919 c5_i32_4222
  let v9921 : Index := Scalar.indexCast v9920
  ![v9921.toNat]
def k0_off1162 (v9786 : BitVec 32) (v9922 : BitVec 32) : Fin 3 → Nat :=
  let v9928 : Index := Scalar.indexCast v9922
  let v9787 : BitVec 32 := v9786
  let v9929 : Index := Scalar.indexCast v9787
  let c0_4223 : Index := 0#32
  ![v9928.toNat, v9929.toNat, 0]

def k0_chk792 (v9786 : BitVec 32) (v9922 : BitVec 32) : Prop :=
  (∀ a, (k0_off1162 v9786 v9922) a + S1x48x512.size a ≤ S64x64x512.size a)
theorem k0_off1162_inb : ∀ (v9786 : BitVec 32) (v9922 : BitVec 32) (k0_hw792 : k0_chk792 v9786 v9922), ∀ a, (k0_off1162 v9786 v9922) a + S1x48x512.size a ≤ S64x64x512.size a := fun v9786 v9922 k0_hw792 => k0_hw792

def k0_off1163 (v9786 : BitVec 32) (v9924 : BitVec 32) : Fin 3 → Nat :=
  let v9932 : Index := Scalar.indexCast v9924
  let v9787 : BitVec 32 := v9786
  let v9933 : Index := Scalar.indexCast v9787
  let c0_4224 : Index := 0#32
  ![v9932.toNat, v9933.toNat, 0]

def k0_chk793 (v9786 : BitVec 32) (v9924 : BitVec 32) : Prop :=
  (∀ a, (k0_off1163 v9786 v9924) a + S1x48x512.size a ≤ S64x64x512.size a)
theorem k0_off1163_inb : ∀ (v9786 : BitVec 32) (v9924 : BitVec 32) (k0_hw793 : k0_chk793 v9786 v9924), ∀ a, (k0_off1163 v9786 v9924) a + S1x48x512.size a ≤ S64x64x512.size a := fun v9786 v9924 k0_hw793 => k0_hw793

def k0_off1164 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c52_i32_4231 : BitVec 32 := 52#32
  let v9944 : BitVec 32 := Scalar.addi v5 c52_i32_4231
  let c7_i32_4232 : BitVec 32 := 7#32
  let v9945 : BitVec 32 := Scalar.muli v9944 c7_i32_4232
  let c6_i32_4233 : BitVec 32 := 6#32
  let v9946 : BitVec 32 := Scalar.addi v9945 c6_i32_4233
  let v9947 : Index := Scalar.indexCast v9946
  ![v9947.toNat]
def k0_off1165 (v9786 : BitVec 32) (v9948 : BitVec 32) : Fin 3 → Nat :=
  let v9954 : Index := Scalar.indexCast v9948
  let v9787 : BitVec 32 := v9786
  let v9955 : Index := Scalar.indexCast v9787
  let c0_4234 : Index := 0#32
  ![v9954.toNat, v9955.toNat, 0]

def k0_chk794 (v9786 : BitVec 32) (v9948 : BitVec 32) : Prop :=
  (∀ a, (k0_off1165 v9786 v9948) a + S1x48x512.size a ≤ S64x64x512.size a)
theorem k0_off1165_inb : ∀ (v9786 : BitVec 32) (v9948 : BitVec 32) (k0_hw794 : k0_chk794 v9786 v9948), ∀ a, (k0_off1165 v9786 v9948) a + S1x48x512.size a ≤ S64x64x512.size a := fun v9786 v9948 k0_hw794 => k0_hw794

def k0_off1166 (v9786 : BitVec 32) (v9950 : BitVec 32) : Fin 3 → Nat :=
  let v9958 : Index := Scalar.indexCast v9950
  let v9787 : BitVec 32 := v9786
  let v9959 : Index := Scalar.indexCast v9787
  let c0_4235 : Index := 0#32
  ![v9958.toNat, v9959.toNat, 0]

def k0_chk795 (v9786 : BitVec 32) (v9950 : BitVec 32) : Prop :=
  (∀ a, (k0_off1166 v9786 v9950) a + S1x48x512.size a ≤ S64x64x512.size a)
theorem k0_off1166_inb : ∀ (v9786 : BitVec 32) (v9950 : BitVec 32) (k0_hw795 : k0_chk795 v9786 v9950), ∀ a, (k0_off1166 v9786 v9950) a + S1x48x512.size a ≤ S64x64x512.size a := fun v9786 v9950 k0_hw795 => k0_hw795

def k0_off1167 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32 : BitVec 32 := 53#32
  let v9972 : BitVec 32 := Scalar.addi v5 c53_i32
  let v9973 : Index := Scalar.indexCast v9972
  ![v9973.toNat]
def k0_mult54 (v9974 : BitVec 32) : BitVec 32 :=
  v9974

def k0_chk796 (v9974 : BitVec 32) : Prop :=
  (16 ∣ (k0_mult54 v9974).toNat)
theorem k0_mult54_dvd : ∀ (v9974 : BitVec 32) (k0_hw796 : k0_chk796 v9974), 16 ∣ (k0_mult54 v9974).toNat := fun v9974 k0_hw796 => k0_hw796

def k0_off1168 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4245 : BitVec 32 := 53#32
  let v9976 : BitVec 32 := Scalar.addi v5 c53_i32_4245
  let c7_i32_4246 : BitVec 32 := 7#32
  let v9977 : BitVec 32 := Scalar.muli v9976 c7_i32_4246
  let c0_i32_4247 : BitVec 32 := 0#32
  let v9978 : BitVec 32 := Scalar.addi v9977 c0_i32_4247
  let v9979 : Index := Scalar.indexCast v9978
  ![v9979.toNat]
def k0_off1169 (v9974 : BitVec 32) (v9980 : BitVec 32) : Fin 3 → Nat :=
  let v9986 : Index := Scalar.indexCast v9980
  let v9975 : BitVec 32 := v9974
  let v9987 : Index := Scalar.indexCast v9975
  let c0_4248 : Index := 0#32
  ![v9986.toNat, v9987.toNat, 0]

def k0_chk797 (v9974 : BitVec 32) (v9980 : BitVec 32) : Prop :=
  (∀ a, (k0_off1169 v9974 v9980) a + S1x48x512.size a ≤ S64x64x512.size a)
theorem k0_off1169_inb : ∀ (v9974 : BitVec 32) (v9980 : BitVec 32) (k0_hw797 : k0_chk797 v9974 v9980), ∀ a, (k0_off1169 v9974 v9980) a + S1x48x512.size a ≤ S64x64x512.size a := fun v9974 v9980 k0_hw797 => k0_hw797

def k0_off1170 (v9974 : BitVec 32) (v9982 : BitVec 32) : Fin 3 → Nat :=
  let v9990 : Index := Scalar.indexCast v9982
  let v9975 : BitVec 32 := v9974
  let v9991 : Index := Scalar.indexCast v9975
  let c0_4249 : Index := 0#32
  ![v9990.toNat, v9991.toNat, 0]

def k0_chk798 (v9974 : BitVec 32) (v9982 : BitVec 32) : Prop :=
  (∀ a, (k0_off1170 v9974 v9982) a + S1x48x512.size a ≤ S64x64x512.size a)
theorem k0_off1170_inb : ∀ (v9974 : BitVec 32) (v9982 : BitVec 32) (k0_hw798 : k0_chk798 v9974 v9982), ∀ a, (k0_off1170 v9974 v9982) a + S1x48x512.size a ≤ S64x64x512.size a := fun v9974 v9982 k0_hw798 => k0_hw798

def k0_off1171 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4256 : BitVec 32 := 53#32
  let v10002 : BitVec 32 := Scalar.addi v5 c53_i32_4256
  let c7_i32_4257 : BitVec 32 := 7#32
  let v10003 : BitVec 32 := Scalar.muli v10002 c7_i32_4257
  let c1_i32_4258 : BitVec 32 := 1#32
  let v10004 : BitVec 32 := Scalar.addi v10003 c1_i32_4258
  let v10005 : Index := Scalar.indexCast v10004
  ![v10005.toNat]
def k0_off1172 (v9974 : BitVec 32) (v10006 : BitVec 32) : Fin 3 → Nat :=
  let v10012 : Index := Scalar.indexCast v10006
  let v9975 : BitVec 32 := v9974
  let v10013 : Index := Scalar.indexCast v9975
  let c0_4259 : Index := 0#32
  ![v10012.toNat, v10013.toNat, 0]

def k0_chk799 (v9974 : BitVec 32) (v10006 : BitVec 32) : Prop :=
  (∀ a, (k0_off1172 v9974 v10006) a + S1x48x512.size a ≤ S64x64x512.size a)
theorem k0_off1172_inb : ∀ (v9974 : BitVec 32) (v10006 : BitVec 32) (k0_hw799 : k0_chk799 v9974 v10006), ∀ a, (k0_off1172 v9974 v10006) a + S1x48x512.size a ≤ S64x64x512.size a := fun v9974 v10006 k0_hw799 => k0_hw799

def k0_off1173 (v9974 : BitVec 32) (v10008 : BitVec 32) : Fin 3 → Nat :=
  let v10016 : Index := Scalar.indexCast v10008
  let v9975 : BitVec 32 := v9974
  let v10017 : Index := Scalar.indexCast v9975
  let c0_4260 : Index := 0#32
  ![v10016.toNat, v10017.toNat, 0]

def k0_chk800 (v9974 : BitVec 32) (v10008 : BitVec 32) : Prop :=
  (∀ a, (k0_off1173 v9974 v10008) a + S1x48x512.size a ≤ S64x64x512.size a)
theorem k0_off1173_inb : ∀ (v9974 : BitVec 32) (v10008 : BitVec 32) (k0_hw800 : k0_chk800 v9974 v10008), ∀ a, (k0_off1173 v9974 v10008) a + S1x48x512.size a ≤ S64x64x512.size a := fun v9974 v10008 k0_hw800 => k0_hw800

def k0_off1174 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4267 : BitVec 32 := 53#32
  let v10028 : BitVec 32 := Scalar.addi v5 c53_i32_4267
  let c7_i32_4268 : BitVec 32 := 7#32
  let v10029 : BitVec 32 := Scalar.muli v10028 c7_i32_4268
  let c2_i32_4269 : BitVec 32 := 2#32
  let v10030 : BitVec 32 := Scalar.addi v10029 c2_i32_4269
  let v10031 : Index := Scalar.indexCast v10030
  ![v10031.toNat]
def k0_off1175 (v9974 : BitVec 32) (v10032 : BitVec 32) : Fin 3 → Nat :=
  let v10038 : Index := Scalar.indexCast v10032
  let v9975 : BitVec 32 := v9974
  let v10039 : Index := Scalar.indexCast v9975
  let c0_4270 : Index := 0#32
  ![v10038.toNat, v10039.toNat, 0]

def k0_chk801 (v9974 : BitVec 32) (v10032 : BitVec 32) : Prop :=
  (∀ a, (k0_off1175 v9974 v10032) a + S1x48x512.size a ≤ S64x64x512.size a)
theorem k0_off1175_inb : ∀ (v9974 : BitVec 32) (v10032 : BitVec 32) (k0_hw801 : k0_chk801 v9974 v10032), ∀ a, (k0_off1175 v9974 v10032) a + S1x48x512.size a ≤ S64x64x512.size a := fun v9974 v10032 k0_hw801 => k0_hw801

def k0_off1176 (v9974 : BitVec 32) (v10034 : BitVec 32) : Fin 3 → Nat :=
  let v10042 : Index := Scalar.indexCast v10034
  let v9975 : BitVec 32 := v9974
  let v10043 : Index := Scalar.indexCast v9975
  let c0_4271 : Index := 0#32
  ![v10042.toNat, v10043.toNat, 0]

def k0_chk802 (v9974 : BitVec 32) (v10034 : BitVec 32) : Prop :=
  (∀ a, (k0_off1176 v9974 v10034) a + S1x48x512.size a ≤ S64x64x512.size a)
theorem k0_off1176_inb : ∀ (v9974 : BitVec 32) (v10034 : BitVec 32) (k0_hw802 : k0_chk802 v9974 v10034), ∀ a, (k0_off1176 v9974 v10034) a + S1x48x512.size a ≤ S64x64x512.size a := fun v9974 v10034 k0_hw802 => k0_hw802

def k0_off1177 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4278 : BitVec 32 := 53#32
  let v10054 : BitVec 32 := Scalar.addi v5 c53_i32_4278
  let c7_i32_4279 : BitVec 32 := 7#32
  let v10055 : BitVec 32 := Scalar.muli v10054 c7_i32_4279
  let c3_i32_4280 : BitVec 32 := 3#32
  let v10056 : BitVec 32 := Scalar.addi v10055 c3_i32_4280
  let v10057 : Index := Scalar.indexCast v10056
  ![v10057.toNat]
def k0_off1178 (v9974 : BitVec 32) (v10058 : BitVec 32) : Fin 3 → Nat :=
  let v10064 : Index := Scalar.indexCast v10058
  let v9975 : BitVec 32 := v9974
  let v10065 : Index := Scalar.indexCast v9975
  let c0_4281 : Index := 0#32
  ![v10064.toNat, v10065.toNat, 0]

def k0_chk803 (v9974 : BitVec 32) (v10058 : BitVec 32) : Prop :=
  (∀ a, (k0_off1178 v9974 v10058) a + S1x48x512.size a ≤ S64x64x512.size a)
theorem k0_off1178_inb : ∀ (v9974 : BitVec 32) (v10058 : BitVec 32) (k0_hw803 : k0_chk803 v9974 v10058), ∀ a, (k0_off1178 v9974 v10058) a + S1x48x512.size a ≤ S64x64x512.size a := fun v9974 v10058 k0_hw803 => k0_hw803

def k0_off1179 (v9974 : BitVec 32) (v10060 : BitVec 32) : Fin 3 → Nat :=
  let v10068 : Index := Scalar.indexCast v10060
  let v9975 : BitVec 32 := v9974
  let v10069 : Index := Scalar.indexCast v9975
  let c0_4282 : Index := 0#32
  ![v10068.toNat, v10069.toNat, 0]

def k0_chk804 (v9974 : BitVec 32) (v10060 : BitVec 32) : Prop :=
  (∀ a, (k0_off1179 v9974 v10060) a + S1x48x512.size a ≤ S64x64x512.size a)
theorem k0_off1179_inb : ∀ (v9974 : BitVec 32) (v10060 : BitVec 32) (k0_hw804 : k0_chk804 v9974 v10060), ∀ a, (k0_off1179 v9974 v10060) a + S1x48x512.size a ≤ S64x64x512.size a := fun v9974 v10060 k0_hw804 => k0_hw804

def k0_off1180 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4289 : BitVec 32 := 53#32
  let v10080 : BitVec 32 := Scalar.addi v5 c53_i32_4289
  let c7_i32_4290 : BitVec 32 := 7#32
  let v10081 : BitVec 32 := Scalar.muli v10080 c7_i32_4290
  let c4_i32_4291 : BitVec 32 := 4#32
  let v10082 : BitVec 32 := Scalar.addi v10081 c4_i32_4291
  let v10083 : Index := Scalar.indexCast v10082
  ![v10083.toNat]
def k0_off1181 (v9974 : BitVec 32) (v10084 : BitVec 32) : Fin 3 → Nat :=
  let v10090 : Index := Scalar.indexCast v10084
  let v9975 : BitVec 32 := v9974
  let v10091 : Index := Scalar.indexCast v9975
  let c0_4292 : Index := 0#32
  ![v10090.toNat, v10091.toNat, 0]

def k0_chk805 (v9974 : BitVec 32) (v10084 : BitVec 32) : Prop :=
  (∀ a, (k0_off1181 v9974 v10084) a + S1x48x512.size a ≤ S64x64x512.size a)
theorem k0_off1181_inb : ∀ (v9974 : BitVec 32) (v10084 : BitVec 32) (k0_hw805 : k0_chk805 v9974 v10084), ∀ a, (k0_off1181 v9974 v10084) a + S1x48x512.size a ≤ S64x64x512.size a := fun v9974 v10084 k0_hw805 => k0_hw805

def k0_off1182 (v9974 : BitVec 32) (v10086 : BitVec 32) : Fin 3 → Nat :=
  let v10094 : Index := Scalar.indexCast v10086
  let v9975 : BitVec 32 := v9974
  let v10095 : Index := Scalar.indexCast v9975
  let c0_4293 : Index := 0#32
  ![v10094.toNat, v10095.toNat, 0]

def k0_chk806 (v9974 : BitVec 32) (v10086 : BitVec 32) : Prop :=
  (∀ a, (k0_off1182 v9974 v10086) a + S1x48x512.size a ≤ S64x64x512.size a)
theorem k0_off1182_inb : ∀ (v9974 : BitVec 32) (v10086 : BitVec 32) (k0_hw806 : k0_chk806 v9974 v10086), ∀ a, (k0_off1182 v9974 v10086) a + S1x48x512.size a ≤ S64x64x512.size a := fun v9974 v10086 k0_hw806 => k0_hw806

def k0_off1183 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4300 : BitVec 32 := 53#32
  let v10106 : BitVec 32 := Scalar.addi v5 c53_i32_4300
  let c7_i32_4301 : BitVec 32 := 7#32
  let v10107 : BitVec 32 := Scalar.muli v10106 c7_i32_4301
  let c5_i32_4302 : BitVec 32 := 5#32
  let v10108 : BitVec 32 := Scalar.addi v10107 c5_i32_4302
  let v10109 : Index := Scalar.indexCast v10108
  ![v10109.toNat]
def k0_off1184 (v9974 : BitVec 32) (v10110 : BitVec 32) : Fin 3 → Nat :=
  let v10116 : Index := Scalar.indexCast v10110
  let v9975 : BitVec 32 := v9974
  let v10117 : Index := Scalar.indexCast v9975
  let c0_4303 : Index := 0#32
  ![v10116.toNat, v10117.toNat, 0]

def k0_chk807 (v9974 : BitVec 32) (v10110 : BitVec 32) : Prop :=
  (∀ a, (k0_off1184 v9974 v10110) a + S1x48x512.size a ≤ S64x64x512.size a)
theorem k0_off1184_inb : ∀ (v9974 : BitVec 32) (v10110 : BitVec 32) (k0_hw807 : k0_chk807 v9974 v10110), ∀ a, (k0_off1184 v9974 v10110) a + S1x48x512.size a ≤ S64x64x512.size a := fun v9974 v10110 k0_hw807 => k0_hw807

def k0_off1185 (v9974 : BitVec 32) (v10112 : BitVec 32) : Fin 3 → Nat :=
  let v10120 : Index := Scalar.indexCast v10112
  let v9975 : BitVec 32 := v9974
  let v10121 : Index := Scalar.indexCast v9975
  let c0_4304 : Index := 0#32
  ![v10120.toNat, v10121.toNat, 0]

def k0_chk808 (v9974 : BitVec 32) (v10112 : BitVec 32) : Prop :=
  (∀ a, (k0_off1185 v9974 v10112) a + S1x48x512.size a ≤ S64x64x512.size a)
theorem k0_off1185_inb : ∀ (v9974 : BitVec 32) (v10112 : BitVec 32) (k0_hw808 : k0_chk808 v9974 v10112), ∀ a, (k0_off1185 v9974 v10112) a + S1x48x512.size a ≤ S64x64x512.size a := fun v9974 v10112 k0_hw808 => k0_hw808

def k0_off1186 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c53_i32_4311 : BitVec 32 := 53#32
  let v10132 : BitVec 32 := Scalar.addi v5 c53_i32_4311
  let c7_i32_4312 : BitVec 32 := 7#32
  let v10133 : BitVec 32 := Scalar.muli v10132 c7_i32_4312
  let c6_i32_4313 : BitVec 32 := 6#32
  let v10134 : BitVec 32 := Scalar.addi v10133 c6_i32_4313
  let v10135 : Index := Scalar.indexCast v10134
  ![v10135.toNat]
def k0_off1187 (v9974 : BitVec 32) (v10136 : BitVec 32) : Fin 3 → Nat :=
  let v10142 : Index := Scalar.indexCast v10136
  let v9975 : BitVec 32 := v9974
  let v10143 : Index := Scalar.indexCast v9975
  let c0_4314 : Index := 0#32
  ![v10142.toNat, v10143.toNat, 0]

def k0_chk809 (v9974 : BitVec 32) (v10136 : BitVec 32) : Prop :=
  (∀ a, (k0_off1187 v9974 v10136) a + S1x48x512.size a ≤ S64x64x512.size a)
theorem k0_off1187_inb : ∀ (v9974 : BitVec 32) (v10136 : BitVec 32) (k0_hw809 : k0_chk809 v9974 v10136), ∀ a, (k0_off1187 v9974 v10136) a + S1x48x512.size a ≤ S64x64x512.size a := fun v9974 v10136 k0_hw809 => k0_hw809

def k0_off1188 (v9974 : BitVec 32) (v10138 : BitVec 32) : Fin 3 → Nat :=
  let v10146 : Index := Scalar.indexCast v10138
  let v9975 : BitVec 32 := v9974
  let v10147 : Index := Scalar.indexCast v9975
  let c0_4315 : Index := 0#32
  ![v10146.toNat, v10147.toNat, 0]

def k0_chk810 (v9974 : BitVec 32) (v10138 : BitVec 32) : Prop :=
  (∀ a, (k0_off1188 v9974 v10138) a + S1x48x512.size a ≤ S64x64x512.size a)
theorem k0_off1188_inb : ∀ (v9974 : BitVec 32) (v10138 : BitVec 32) (k0_hw810 : k0_chk810 v9974 v10138), ∀ a, (k0_off1188 v9974 v10138) a + S1x48x512.size a ≤ S64x64x512.size a := fun v9974 v10138 k0_hw810 => k0_hw810

def k0_off1189 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32 : BitVec 32 := 54#32
  let v10160 : BitVec 32 := Scalar.addi v5 c54_i32
  let v10161 : Index := Scalar.indexCast v10160
  ![v10161.toNat]
def k0_mult55 (v10162 : BitVec 32) : BitVec 32 :=
  v10162

def k0_chk811 (v10162 : BitVec 32) : Prop :=
  (16 ∣ (k0_mult55 v10162).toNat)
theorem k0_mult55_dvd : ∀ (v10162 : BitVec 32) (k0_hw811 : k0_chk811 v10162), 16 ∣ (k0_mult55 v10162).toNat := fun v10162 k0_hw811 => k0_hw811

def k0_off1190 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4325 : BitVec 32 := 54#32
  let v10164 : BitVec 32 := Scalar.addi v5 c54_i32_4325
  let c7_i32_4326 : BitVec 32 := 7#32
  let v10165 : BitVec 32 := Scalar.muli v10164 c7_i32_4326
  let c0_i32_4327 : BitVec 32 := 0#32
  let v10166 : BitVec 32 := Scalar.addi v10165 c0_i32_4327
  let v10167 : Index := Scalar.indexCast v10166
  ![v10167.toNat]
def k0_off1191 (v10162 : BitVec 32) (v10168 : BitVec 32) : Fin 3 → Nat :=
  let v10174 : Index := Scalar.indexCast v10168
  let v10163 : BitVec 32 := v10162
  let v10175 : Index := Scalar.indexCast v10163
  let c0_4328 : Index := 0#32
  ![v10174.toNat, v10175.toNat, 0]

def k0_chk812 (v10162 : BitVec 32) (v10168 : BitVec 32) : Prop :=
  (∀ a, (k0_off1191 v10162 v10168) a + S1x48x512.size a ≤ S64x64x512.size a)
theorem k0_off1191_inb : ∀ (v10162 : BitVec 32) (v10168 : BitVec 32) (k0_hw812 : k0_chk812 v10162 v10168), ∀ a, (k0_off1191 v10162 v10168) a + S1x48x512.size a ≤ S64x64x512.size a := fun v10162 v10168 k0_hw812 => k0_hw812

def k0_off1192 (v10162 : BitVec 32) (v10170 : BitVec 32) : Fin 3 → Nat :=
  let v10178 : Index := Scalar.indexCast v10170
  let v10163 : BitVec 32 := v10162
  let v10179 : Index := Scalar.indexCast v10163
  let c0_4329 : Index := 0#32
  ![v10178.toNat, v10179.toNat, 0]

def k0_chk813 (v10162 : BitVec 32) (v10170 : BitVec 32) : Prop :=
  (∀ a, (k0_off1192 v10162 v10170) a + S1x48x512.size a ≤ S64x64x512.size a)
theorem k0_off1192_inb : ∀ (v10162 : BitVec 32) (v10170 : BitVec 32) (k0_hw813 : k0_chk813 v10162 v10170), ∀ a, (k0_off1192 v10162 v10170) a + S1x48x512.size a ≤ S64x64x512.size a := fun v10162 v10170 k0_hw813 => k0_hw813

def k0_off1193 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4336 : BitVec 32 := 54#32
  let v10190 : BitVec 32 := Scalar.addi v5 c54_i32_4336
  let c7_i32_4337 : BitVec 32 := 7#32
  let v10191 : BitVec 32 := Scalar.muli v10190 c7_i32_4337
  let c1_i32_4338 : BitVec 32 := 1#32
  let v10192 : BitVec 32 := Scalar.addi v10191 c1_i32_4338
  let v10193 : Index := Scalar.indexCast v10192
  ![v10193.toNat]
def k0_off1194 (v10162 : BitVec 32) (v10194 : BitVec 32) : Fin 3 → Nat :=
  let v10200 : Index := Scalar.indexCast v10194
  let v10163 : BitVec 32 := v10162
  let v10201 : Index := Scalar.indexCast v10163
  let c0_4339 : Index := 0#32
  ![v10200.toNat, v10201.toNat, 0]

def k0_chk814 (v10162 : BitVec 32) (v10194 : BitVec 32) : Prop :=
  (∀ a, (k0_off1194 v10162 v10194) a + S1x48x512.size a ≤ S64x64x512.size a)
theorem k0_off1194_inb : ∀ (v10162 : BitVec 32) (v10194 : BitVec 32) (k0_hw814 : k0_chk814 v10162 v10194), ∀ a, (k0_off1194 v10162 v10194) a + S1x48x512.size a ≤ S64x64x512.size a := fun v10162 v10194 k0_hw814 => k0_hw814

def k0_off1195 (v10162 : BitVec 32) (v10196 : BitVec 32) : Fin 3 → Nat :=
  let v10204 : Index := Scalar.indexCast v10196
  let v10163 : BitVec 32 := v10162
  let v10205 : Index := Scalar.indexCast v10163
  let c0_4340 : Index := 0#32
  ![v10204.toNat, v10205.toNat, 0]

def k0_chk815 (v10162 : BitVec 32) (v10196 : BitVec 32) : Prop :=
  (∀ a, (k0_off1195 v10162 v10196) a + S1x48x512.size a ≤ S64x64x512.size a)
theorem k0_off1195_inb : ∀ (v10162 : BitVec 32) (v10196 : BitVec 32) (k0_hw815 : k0_chk815 v10162 v10196), ∀ a, (k0_off1195 v10162 v10196) a + S1x48x512.size a ≤ S64x64x512.size a := fun v10162 v10196 k0_hw815 => k0_hw815

def k0_off1196 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4347 : BitVec 32 := 54#32
  let v10216 : BitVec 32 := Scalar.addi v5 c54_i32_4347
  let c7_i32_4348 : BitVec 32 := 7#32
  let v10217 : BitVec 32 := Scalar.muli v10216 c7_i32_4348
  let c2_i32_4349 : BitVec 32 := 2#32
  let v10218 : BitVec 32 := Scalar.addi v10217 c2_i32_4349
  let v10219 : Index := Scalar.indexCast v10218
  ![v10219.toNat]
def k0_off1197 (v10162 : BitVec 32) (v10220 : BitVec 32) : Fin 3 → Nat :=
  let v10226 : Index := Scalar.indexCast v10220
  let v10163 : BitVec 32 := v10162
  let v10227 : Index := Scalar.indexCast v10163
  let c0_4350 : Index := 0#32
  ![v10226.toNat, v10227.toNat, 0]

def k0_chk816 (v10162 : BitVec 32) (v10220 : BitVec 32) : Prop :=
  (∀ a, (k0_off1197 v10162 v10220) a + S1x48x512.size a ≤ S64x64x512.size a)
theorem k0_off1197_inb : ∀ (v10162 : BitVec 32) (v10220 : BitVec 32) (k0_hw816 : k0_chk816 v10162 v10220), ∀ a, (k0_off1197 v10162 v10220) a + S1x48x512.size a ≤ S64x64x512.size a := fun v10162 v10220 k0_hw816 => k0_hw816

def k0_off1198 (v10162 : BitVec 32) (v10222 : BitVec 32) : Fin 3 → Nat :=
  let v10230 : Index := Scalar.indexCast v10222
  let v10163 : BitVec 32 := v10162
  let v10231 : Index := Scalar.indexCast v10163
  let c0_4351 : Index := 0#32
  ![v10230.toNat, v10231.toNat, 0]

def k0_chk817 (v10162 : BitVec 32) (v10222 : BitVec 32) : Prop :=
  (∀ a, (k0_off1198 v10162 v10222) a + S1x48x512.size a ≤ S64x64x512.size a)
theorem k0_off1198_inb : ∀ (v10162 : BitVec 32) (v10222 : BitVec 32) (k0_hw817 : k0_chk817 v10162 v10222), ∀ a, (k0_off1198 v10162 v10222) a + S1x48x512.size a ≤ S64x64x512.size a := fun v10162 v10222 k0_hw817 => k0_hw817

def k0_off1199 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4358 : BitVec 32 := 54#32
  let v10242 : BitVec 32 := Scalar.addi v5 c54_i32_4358
  let c7_i32_4359 : BitVec 32 := 7#32
  let v10243 : BitVec 32 := Scalar.muli v10242 c7_i32_4359
  let c3_i32_4360 : BitVec 32 := 3#32
  let v10244 : BitVec 32 := Scalar.addi v10243 c3_i32_4360
  let v10245 : Index := Scalar.indexCast v10244
  ![v10245.toNat]
def k0_off1200 (v10162 : BitVec 32) (v10246 : BitVec 32) : Fin 3 → Nat :=
  let v10252 : Index := Scalar.indexCast v10246
  let v10163 : BitVec 32 := v10162
  let v10253 : Index := Scalar.indexCast v10163
  let c0_4361 : Index := 0#32
  ![v10252.toNat, v10253.toNat, 0]

def k0_chk818 (v10162 : BitVec 32) (v10246 : BitVec 32) : Prop :=
  (∀ a, (k0_off1200 v10162 v10246) a + S1x48x512.size a ≤ S64x64x512.size a)
theorem k0_off1200_inb : ∀ (v10162 : BitVec 32) (v10246 : BitVec 32) (k0_hw818 : k0_chk818 v10162 v10246), ∀ a, (k0_off1200 v10162 v10246) a + S1x48x512.size a ≤ S64x64x512.size a := fun v10162 v10246 k0_hw818 => k0_hw818

def k0_off1201 (v10162 : BitVec 32) (v10248 : BitVec 32) : Fin 3 → Nat :=
  let v10256 : Index := Scalar.indexCast v10248
  let v10163 : BitVec 32 := v10162
  let v10257 : Index := Scalar.indexCast v10163
  let c0_4362 : Index := 0#32
  ![v10256.toNat, v10257.toNat, 0]

def k0_chk819 (v10162 : BitVec 32) (v10248 : BitVec 32) : Prop :=
  (∀ a, (k0_off1201 v10162 v10248) a + S1x48x512.size a ≤ S64x64x512.size a)
theorem k0_off1201_inb : ∀ (v10162 : BitVec 32) (v10248 : BitVec 32) (k0_hw819 : k0_chk819 v10162 v10248), ∀ a, (k0_off1201 v10162 v10248) a + S1x48x512.size a ≤ S64x64x512.size a := fun v10162 v10248 k0_hw819 => k0_hw819

def k0_off1202 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4369 : BitVec 32 := 54#32
  let v10268 : BitVec 32 := Scalar.addi v5 c54_i32_4369
  let c7_i32_4370 : BitVec 32 := 7#32
  let v10269 : BitVec 32 := Scalar.muli v10268 c7_i32_4370
  let c4_i32_4371 : BitVec 32 := 4#32
  let v10270 : BitVec 32 := Scalar.addi v10269 c4_i32_4371
  let v10271 : Index := Scalar.indexCast v10270
  ![v10271.toNat]
def k0_off1203 (v10162 : BitVec 32) (v10272 : BitVec 32) : Fin 3 → Nat :=
  let v10278 : Index := Scalar.indexCast v10272
  let v10163 : BitVec 32 := v10162
  let v10279 : Index := Scalar.indexCast v10163
  let c0_4372 : Index := 0#32
  ![v10278.toNat, v10279.toNat, 0]

def k0_chk820 (v10162 : BitVec 32) (v10272 : BitVec 32) : Prop :=
  (∀ a, (k0_off1203 v10162 v10272) a + S1x48x512.size a ≤ S64x64x512.size a)
theorem k0_off1203_inb : ∀ (v10162 : BitVec 32) (v10272 : BitVec 32) (k0_hw820 : k0_chk820 v10162 v10272), ∀ a, (k0_off1203 v10162 v10272) a + S1x48x512.size a ≤ S64x64x512.size a := fun v10162 v10272 k0_hw820 => k0_hw820

def k0_off1204 (v10162 : BitVec 32) (v10274 : BitVec 32) : Fin 3 → Nat :=
  let v10282 : Index := Scalar.indexCast v10274
  let v10163 : BitVec 32 := v10162
  let v10283 : Index := Scalar.indexCast v10163
  let c0_4373 : Index := 0#32
  ![v10282.toNat, v10283.toNat, 0]

def k0_chk821 (v10162 : BitVec 32) (v10274 : BitVec 32) : Prop :=
  (∀ a, (k0_off1204 v10162 v10274) a + S1x48x512.size a ≤ S64x64x512.size a)
theorem k0_off1204_inb : ∀ (v10162 : BitVec 32) (v10274 : BitVec 32) (k0_hw821 : k0_chk821 v10162 v10274), ∀ a, (k0_off1204 v10162 v10274) a + S1x48x512.size a ≤ S64x64x512.size a := fun v10162 v10274 k0_hw821 => k0_hw821

def k0_off1205 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4380 : BitVec 32 := 54#32
  let v10294 : BitVec 32 := Scalar.addi v5 c54_i32_4380
  let c7_i32_4381 : BitVec 32 := 7#32
  let v10295 : BitVec 32 := Scalar.muli v10294 c7_i32_4381
  let c5_i32_4382 : BitVec 32 := 5#32
  let v10296 : BitVec 32 := Scalar.addi v10295 c5_i32_4382
  let v10297 : Index := Scalar.indexCast v10296
  ![v10297.toNat]
def k0_off1206 (v10162 : BitVec 32) (v10298 : BitVec 32) : Fin 3 → Nat :=
  let v10304 : Index := Scalar.indexCast v10298
  let v10163 : BitVec 32 := v10162
  let v10305 : Index := Scalar.indexCast v10163
  let c0_4383 : Index := 0#32
  ![v10304.toNat, v10305.toNat, 0]

def k0_chk822 (v10162 : BitVec 32) (v10298 : BitVec 32) : Prop :=
  (∀ a, (k0_off1206 v10162 v10298) a + S1x48x512.size a ≤ S64x64x512.size a)
theorem k0_off1206_inb : ∀ (v10162 : BitVec 32) (v10298 : BitVec 32) (k0_hw822 : k0_chk822 v10162 v10298), ∀ a, (k0_off1206 v10162 v10298) a + S1x48x512.size a ≤ S64x64x512.size a := fun v10162 v10298 k0_hw822 => k0_hw822

def k0_off1207 (v10162 : BitVec 32) (v10300 : BitVec 32) : Fin 3 → Nat :=
  let v10308 : Index := Scalar.indexCast v10300
  let v10163 : BitVec 32 := v10162
  let v10309 : Index := Scalar.indexCast v10163
  let c0_4384 : Index := 0#32
  ![v10308.toNat, v10309.toNat, 0]

def k0_chk823 (v10162 : BitVec 32) (v10300 : BitVec 32) : Prop :=
  (∀ a, (k0_off1207 v10162 v10300) a + S1x48x512.size a ≤ S64x64x512.size a)
theorem k0_off1207_inb : ∀ (v10162 : BitVec 32) (v10300 : BitVec 32) (k0_hw823 : k0_chk823 v10162 v10300), ∀ a, (k0_off1207 v10162 v10300) a + S1x48x512.size a ≤ S64x64x512.size a := fun v10162 v10300 k0_hw823 => k0_hw823

def k0_off1208 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c54_i32_4391 : BitVec 32 := 54#32
  let v10320 : BitVec 32 := Scalar.addi v5 c54_i32_4391
  let c7_i32_4392 : BitVec 32 := 7#32
  let v10321 : BitVec 32 := Scalar.muli v10320 c7_i32_4392
  let c6_i32_4393 : BitVec 32 := 6#32
  let v10322 : BitVec 32 := Scalar.addi v10321 c6_i32_4393
  let v10323 : Index := Scalar.indexCast v10322
  ![v10323.toNat]
def k0_off1209 (v10162 : BitVec 32) (v10324 : BitVec 32) : Fin 3 → Nat :=
  let v10330 : Index := Scalar.indexCast v10324
  let v10163 : BitVec 32 := v10162
  let v10331 : Index := Scalar.indexCast v10163
  let c0_4394 : Index := 0#32
  ![v10330.toNat, v10331.toNat, 0]

def k0_chk824 (v10162 : BitVec 32) (v10324 : BitVec 32) : Prop :=
  (∀ a, (k0_off1209 v10162 v10324) a + S1x48x512.size a ≤ S64x64x512.size a)
theorem k0_off1209_inb : ∀ (v10162 : BitVec 32) (v10324 : BitVec 32) (k0_hw824 : k0_chk824 v10162 v10324), ∀ a, (k0_off1209 v10162 v10324) a + S1x48x512.size a ≤ S64x64x512.size a := fun v10162 v10324 k0_hw824 => k0_hw824

def k0_off1210 (v10162 : BitVec 32) (v10326 : BitVec 32) : Fin 3 → Nat :=
  let v10334 : Index := Scalar.indexCast v10326
  let v10163 : BitVec 32 := v10162
  let v10335 : Index := Scalar.indexCast v10163
  let c0_4395 : Index := 0#32
  ![v10334.toNat, v10335.toNat, 0]

def k0_chk825 (v10162 : BitVec 32) (v10326 : BitVec 32) : Prop :=
  (∀ a, (k0_off1210 v10162 v10326) a + S1x48x512.size a ≤ S64x64x512.size a)
theorem k0_off1210_inb : ∀ (v10162 : BitVec 32) (v10326 : BitVec 32) (k0_hw825 : k0_chk825 v10162 v10326), ∀ a, (k0_off1210 v10162 v10326) a + S1x48x512.size a ≤ S64x64x512.size a := fun v10162 v10326 k0_hw825 => k0_hw825

def k0_off1211 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32 : BitVec 32 := 55#32
  let v10348 : BitVec 32 := Scalar.addi v5 c55_i32
  let v10349 : Index := Scalar.indexCast v10348
  ![v10349.toNat]
def k0_mult56 (v10350 : BitVec 32) : BitVec 32 :=
  v10350

def k0_chk826 (v10350 : BitVec 32) : Prop :=
  (16 ∣ (k0_mult56 v10350).toNat)
theorem k0_mult56_dvd : ∀ (v10350 : BitVec 32) (k0_hw826 : k0_chk826 v10350), 16 ∣ (k0_mult56 v10350).toNat := fun v10350 k0_hw826 => k0_hw826

def k0_off1212 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4405 : BitVec 32 := 55#32
  let v10352 : BitVec 32 := Scalar.addi v5 c55_i32_4405
  let c7_i32_4406 : BitVec 32 := 7#32
  let v10353 : BitVec 32 := Scalar.muli v10352 c7_i32_4406
  let c0_i32_4407 : BitVec 32 := 0#32
  let v10354 : BitVec 32 := Scalar.addi v10353 c0_i32_4407
  let v10355 : Index := Scalar.indexCast v10354
  ![v10355.toNat]
def k0_off1213 (v10350 : BitVec 32) (v10356 : BitVec 32) : Fin 3 → Nat :=
  let v10362 : Index := Scalar.indexCast v10356
  let v10351 : BitVec 32 := v10350
  let v10363 : Index := Scalar.indexCast v10351
  let c0_4408 : Index := 0#32
  ![v10362.toNat, v10363.toNat, 0]

def k0_chk827 (v10350 : BitVec 32) (v10356 : BitVec 32) : Prop :=
  (∀ a, (k0_off1213 v10350 v10356) a + S1x48x512.size a ≤ S64x64x512.size a)
theorem k0_off1213_inb : ∀ (v10350 : BitVec 32) (v10356 : BitVec 32) (k0_hw827 : k0_chk827 v10350 v10356), ∀ a, (k0_off1213 v10350 v10356) a + S1x48x512.size a ≤ S64x64x512.size a := fun v10350 v10356 k0_hw827 => k0_hw827

def k0_off1214 (v10350 : BitVec 32) (v10358 : BitVec 32) : Fin 3 → Nat :=
  let v10366 : Index := Scalar.indexCast v10358
  let v10351 : BitVec 32 := v10350
  let v10367 : Index := Scalar.indexCast v10351
  let c0_4409 : Index := 0#32
  ![v10366.toNat, v10367.toNat, 0]

def k0_chk828 (v10350 : BitVec 32) (v10358 : BitVec 32) : Prop :=
  (∀ a, (k0_off1214 v10350 v10358) a + S1x48x512.size a ≤ S64x64x512.size a)
theorem k0_off1214_inb : ∀ (v10350 : BitVec 32) (v10358 : BitVec 32) (k0_hw828 : k0_chk828 v10350 v10358), ∀ a, (k0_off1214 v10350 v10358) a + S1x48x512.size a ≤ S64x64x512.size a := fun v10350 v10358 k0_hw828 => k0_hw828

def k0_off1215 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4416 : BitVec 32 := 55#32
  let v10378 : BitVec 32 := Scalar.addi v5 c55_i32_4416
  let c7_i32_4417 : BitVec 32 := 7#32
  let v10379 : BitVec 32 := Scalar.muli v10378 c7_i32_4417
  let c1_i32_4418 : BitVec 32 := 1#32
  let v10380 : BitVec 32 := Scalar.addi v10379 c1_i32_4418
  let v10381 : Index := Scalar.indexCast v10380
  ![v10381.toNat]
def k0_off1216 (v10350 : BitVec 32) (v10382 : BitVec 32) : Fin 3 → Nat :=
  let v10388 : Index := Scalar.indexCast v10382
  let v10351 : BitVec 32 := v10350
  let v10389 : Index := Scalar.indexCast v10351
  let c0_4419 : Index := 0#32
  ![v10388.toNat, v10389.toNat, 0]

def k0_chk829 (v10350 : BitVec 32) (v10382 : BitVec 32) : Prop :=
  (∀ a, (k0_off1216 v10350 v10382) a + S1x48x512.size a ≤ S64x64x512.size a)
theorem k0_off1216_inb : ∀ (v10350 : BitVec 32) (v10382 : BitVec 32) (k0_hw829 : k0_chk829 v10350 v10382), ∀ a, (k0_off1216 v10350 v10382) a + S1x48x512.size a ≤ S64x64x512.size a := fun v10350 v10382 k0_hw829 => k0_hw829

def k0_off1217 (v10350 : BitVec 32) (v10384 : BitVec 32) : Fin 3 → Nat :=
  let v10392 : Index := Scalar.indexCast v10384
  let v10351 : BitVec 32 := v10350
  let v10393 : Index := Scalar.indexCast v10351
  let c0_4420 : Index := 0#32
  ![v10392.toNat, v10393.toNat, 0]

def k0_chk830 (v10350 : BitVec 32) (v10384 : BitVec 32) : Prop :=
  (∀ a, (k0_off1217 v10350 v10384) a + S1x48x512.size a ≤ S64x64x512.size a)
theorem k0_off1217_inb : ∀ (v10350 : BitVec 32) (v10384 : BitVec 32) (k0_hw830 : k0_chk830 v10350 v10384), ∀ a, (k0_off1217 v10350 v10384) a + S1x48x512.size a ≤ S64x64x512.size a := fun v10350 v10384 k0_hw830 => k0_hw830

def k0_off1218 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4427 : BitVec 32 := 55#32
  let v10404 : BitVec 32 := Scalar.addi v5 c55_i32_4427
  let c7_i32_4428 : BitVec 32 := 7#32
  let v10405 : BitVec 32 := Scalar.muli v10404 c7_i32_4428
  let c2_i32_4429 : BitVec 32 := 2#32
  let v10406 : BitVec 32 := Scalar.addi v10405 c2_i32_4429
  let v10407 : Index := Scalar.indexCast v10406
  ![v10407.toNat]
def k0_off1219 (v10350 : BitVec 32) (v10408 : BitVec 32) : Fin 3 → Nat :=
  let v10414 : Index := Scalar.indexCast v10408
  let v10351 : BitVec 32 := v10350
  let v10415 : Index := Scalar.indexCast v10351
  let c0_4430 : Index := 0#32
  ![v10414.toNat, v10415.toNat, 0]

def k0_chk831 (v10350 : BitVec 32) (v10408 : BitVec 32) : Prop :=
  (∀ a, (k0_off1219 v10350 v10408) a + S1x48x512.size a ≤ S64x64x512.size a)
theorem k0_off1219_inb : ∀ (v10350 : BitVec 32) (v10408 : BitVec 32) (k0_hw831 : k0_chk831 v10350 v10408), ∀ a, (k0_off1219 v10350 v10408) a + S1x48x512.size a ≤ S64x64x512.size a := fun v10350 v10408 k0_hw831 => k0_hw831

def k0_off1220 (v10350 : BitVec 32) (v10410 : BitVec 32) : Fin 3 → Nat :=
  let v10418 : Index := Scalar.indexCast v10410
  let v10351 : BitVec 32 := v10350
  let v10419 : Index := Scalar.indexCast v10351
  let c0_4431 : Index := 0#32
  ![v10418.toNat, v10419.toNat, 0]

def k0_chk832 (v10350 : BitVec 32) (v10410 : BitVec 32) : Prop :=
  (∀ a, (k0_off1220 v10350 v10410) a + S1x48x512.size a ≤ S64x64x512.size a)
theorem k0_off1220_inb : ∀ (v10350 : BitVec 32) (v10410 : BitVec 32) (k0_hw832 : k0_chk832 v10350 v10410), ∀ a, (k0_off1220 v10350 v10410) a + S1x48x512.size a ≤ S64x64x512.size a := fun v10350 v10410 k0_hw832 => k0_hw832

def k0_off1221 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4438 : BitVec 32 := 55#32
  let v10430 : BitVec 32 := Scalar.addi v5 c55_i32_4438
  let c7_i32_4439 : BitVec 32 := 7#32
  let v10431 : BitVec 32 := Scalar.muli v10430 c7_i32_4439
  let c3_i32_4440 : BitVec 32 := 3#32
  let v10432 : BitVec 32 := Scalar.addi v10431 c3_i32_4440
  let v10433 : Index := Scalar.indexCast v10432
  ![v10433.toNat]
def k0_off1222 (v10350 : BitVec 32) (v10434 : BitVec 32) : Fin 3 → Nat :=
  let v10440 : Index := Scalar.indexCast v10434
  let v10351 : BitVec 32 := v10350
  let v10441 : Index := Scalar.indexCast v10351
  let c0_4441 : Index := 0#32
  ![v10440.toNat, v10441.toNat, 0]

def k0_chk833 (v10350 : BitVec 32) (v10434 : BitVec 32) : Prop :=
  (∀ a, (k0_off1222 v10350 v10434) a + S1x48x512.size a ≤ S64x64x512.size a)
theorem k0_off1222_inb : ∀ (v10350 : BitVec 32) (v10434 : BitVec 32) (k0_hw833 : k0_chk833 v10350 v10434), ∀ a, (k0_off1222 v10350 v10434) a + S1x48x512.size a ≤ S64x64x512.size a := fun v10350 v10434 k0_hw833 => k0_hw833

def k0_off1223 (v10350 : BitVec 32) (v10436 : BitVec 32) : Fin 3 → Nat :=
  let v10444 : Index := Scalar.indexCast v10436
  let v10351 : BitVec 32 := v10350
  let v10445 : Index := Scalar.indexCast v10351
  let c0_4442 : Index := 0#32
  ![v10444.toNat, v10445.toNat, 0]

def k0_chk834 (v10350 : BitVec 32) (v10436 : BitVec 32) : Prop :=
  (∀ a, (k0_off1223 v10350 v10436) a + S1x48x512.size a ≤ S64x64x512.size a)
theorem k0_off1223_inb : ∀ (v10350 : BitVec 32) (v10436 : BitVec 32) (k0_hw834 : k0_chk834 v10350 v10436), ∀ a, (k0_off1223 v10350 v10436) a + S1x48x512.size a ≤ S64x64x512.size a := fun v10350 v10436 k0_hw834 => k0_hw834

def k0_off1224 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4449 : BitVec 32 := 55#32
  let v10456 : BitVec 32 := Scalar.addi v5 c55_i32_4449
  let c7_i32_4450 : BitVec 32 := 7#32
  let v10457 : BitVec 32 := Scalar.muli v10456 c7_i32_4450
  let c4_i32_4451 : BitVec 32 := 4#32
  let v10458 : BitVec 32 := Scalar.addi v10457 c4_i32_4451
  let v10459 : Index := Scalar.indexCast v10458
  ![v10459.toNat]
def k0_off1225 (v10350 : BitVec 32) (v10460 : BitVec 32) : Fin 3 → Nat :=
  let v10466 : Index := Scalar.indexCast v10460
  let v10351 : BitVec 32 := v10350
  let v10467 : Index := Scalar.indexCast v10351
  let c0_4452 : Index := 0#32
  ![v10466.toNat, v10467.toNat, 0]

def k0_chk835 (v10350 : BitVec 32) (v10460 : BitVec 32) : Prop :=
  (∀ a, (k0_off1225 v10350 v10460) a + S1x48x512.size a ≤ S64x64x512.size a)
theorem k0_off1225_inb : ∀ (v10350 : BitVec 32) (v10460 : BitVec 32) (k0_hw835 : k0_chk835 v10350 v10460), ∀ a, (k0_off1225 v10350 v10460) a + S1x48x512.size a ≤ S64x64x512.size a := fun v10350 v10460 k0_hw835 => k0_hw835

def k0_off1226 (v10350 : BitVec 32) (v10462 : BitVec 32) : Fin 3 → Nat :=
  let v10470 : Index := Scalar.indexCast v10462
  let v10351 : BitVec 32 := v10350
  let v10471 : Index := Scalar.indexCast v10351
  let c0_4453 : Index := 0#32
  ![v10470.toNat, v10471.toNat, 0]

def k0_chk836 (v10350 : BitVec 32) (v10462 : BitVec 32) : Prop :=
  (∀ a, (k0_off1226 v10350 v10462) a + S1x48x512.size a ≤ S64x64x512.size a)
theorem k0_off1226_inb : ∀ (v10350 : BitVec 32) (v10462 : BitVec 32) (k0_hw836 : k0_chk836 v10350 v10462), ∀ a, (k0_off1226 v10350 v10462) a + S1x48x512.size a ≤ S64x64x512.size a := fun v10350 v10462 k0_hw836 => k0_hw836

def k0_off1227 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4460 : BitVec 32 := 55#32
  let v10482 : BitVec 32 := Scalar.addi v5 c55_i32_4460
  let c7_i32_4461 : BitVec 32 := 7#32
  let v10483 : BitVec 32 := Scalar.muli v10482 c7_i32_4461
  let c5_i32_4462 : BitVec 32 := 5#32
  let v10484 : BitVec 32 := Scalar.addi v10483 c5_i32_4462
  let v10485 : Index := Scalar.indexCast v10484
  ![v10485.toNat]
def k0_off1228 (v10350 : BitVec 32) (v10486 : BitVec 32) : Fin 3 → Nat :=
  let v10492 : Index := Scalar.indexCast v10486
  let v10351 : BitVec 32 := v10350
  let v10493 : Index := Scalar.indexCast v10351
  let c0_4463 : Index := 0#32
  ![v10492.toNat, v10493.toNat, 0]

def k0_chk837 (v10350 : BitVec 32) (v10486 : BitVec 32) : Prop :=
  (∀ a, (k0_off1228 v10350 v10486) a + S1x48x512.size a ≤ S64x64x512.size a)
theorem k0_off1228_inb : ∀ (v10350 : BitVec 32) (v10486 : BitVec 32) (k0_hw837 : k0_chk837 v10350 v10486), ∀ a, (k0_off1228 v10350 v10486) a + S1x48x512.size a ≤ S64x64x512.size a := fun v10350 v10486 k0_hw837 => k0_hw837

def k0_off1229 (v10350 : BitVec 32) (v10488 : BitVec 32) : Fin 3 → Nat :=
  let v10496 : Index := Scalar.indexCast v10488
  let v10351 : BitVec 32 := v10350
  let v10497 : Index := Scalar.indexCast v10351
  let c0_4464 : Index := 0#32
  ![v10496.toNat, v10497.toNat, 0]

def k0_chk838 (v10350 : BitVec 32) (v10488 : BitVec 32) : Prop :=
  (∀ a, (k0_off1229 v10350 v10488) a + S1x48x512.size a ≤ S64x64x512.size a)
theorem k0_off1229_inb : ∀ (v10350 : BitVec 32) (v10488 : BitVec 32) (k0_hw838 : k0_chk838 v10350 v10488), ∀ a, (k0_off1229 v10350 v10488) a + S1x48x512.size a ≤ S64x64x512.size a := fun v10350 v10488 k0_hw838 => k0_hw838

def k0_off1230 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c55_i32_4471 : BitVec 32 := 55#32
  let v10508 : BitVec 32 := Scalar.addi v5 c55_i32_4471
  let c7_i32_4472 : BitVec 32 := 7#32
  let v10509 : BitVec 32 := Scalar.muli v10508 c7_i32_4472
  let c6_i32_4473 : BitVec 32 := 6#32
  let v10510 : BitVec 32 := Scalar.addi v10509 c6_i32_4473
  let v10511 : Index := Scalar.indexCast v10510
  ![v10511.toNat]
def k0_off1231 (v10350 : BitVec 32) (v10512 : BitVec 32) : Fin 3 → Nat :=
  let v10518 : Index := Scalar.indexCast v10512
  let v10351 : BitVec 32 := v10350
  let v10519 : Index := Scalar.indexCast v10351
  let c0_4474 : Index := 0#32
  ![v10518.toNat, v10519.toNat, 0]

def k0_chk839 (v10350 : BitVec 32) (v10512 : BitVec 32) : Prop :=
  (∀ a, (k0_off1231 v10350 v10512) a + S1x48x512.size a ≤ S64x64x512.size a)
theorem k0_off1231_inb : ∀ (v10350 : BitVec 32) (v10512 : BitVec 32) (k0_hw839 : k0_chk839 v10350 v10512), ∀ a, (k0_off1231 v10350 v10512) a + S1x48x512.size a ≤ S64x64x512.size a := fun v10350 v10512 k0_hw839 => k0_hw839

def k0_off1232 (v10350 : BitVec 32) (v10514 : BitVec 32) : Fin 3 → Nat :=
  let v10522 : Index := Scalar.indexCast v10514
  let v10351 : BitVec 32 := v10350
  let v10523 : Index := Scalar.indexCast v10351
  let c0_4475 : Index := 0#32
  ![v10522.toNat, v10523.toNat, 0]

def k0_chk840 (v10350 : BitVec 32) (v10514 : BitVec 32) : Prop :=
  (∀ a, (k0_off1232 v10350 v10514) a + S1x48x512.size a ≤ S64x64x512.size a)
theorem k0_off1232_inb : ∀ (v10350 : BitVec 32) (v10514 : BitVec 32) (k0_hw840 : k0_chk840 v10350 v10514), ∀ a, (k0_off1232 v10350 v10514) a + S1x48x512.size a ≤ S64x64x512.size a := fun v10350 v10514 k0_hw840 => k0_hw840

def k0_off1233 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32 : BitVec 32 := 56#32
  let v10536 : BitVec 32 := Scalar.addi v5 c56_i32
  let v10537 : Index := Scalar.indexCast v10536
  ![v10537.toNat]
def k0_mult57 (v10538 : BitVec 32) : BitVec 32 :=
  v10538

def k0_chk841 (v10538 : BitVec 32) : Prop :=
  (16 ∣ (k0_mult57 v10538).toNat)
theorem k0_mult57_dvd : ∀ (v10538 : BitVec 32) (k0_hw841 : k0_chk841 v10538), 16 ∣ (k0_mult57 v10538).toNat := fun v10538 k0_hw841 => k0_hw841

def k0_off1234 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4485 : BitVec 32 := 56#32
  let v10540 : BitVec 32 := Scalar.addi v5 c56_i32_4485
  let c7_i32_4486 : BitVec 32 := 7#32
  let v10541 : BitVec 32 := Scalar.muli v10540 c7_i32_4486
  let c0_i32_4487 : BitVec 32 := 0#32
  let v10542 : BitVec 32 := Scalar.addi v10541 c0_i32_4487
  let v10543 : Index := Scalar.indexCast v10542
  ![v10543.toNat]
def k0_off1235 (v10538 : BitVec 32) (v10544 : BitVec 32) : Fin 3 → Nat :=
  let v10550 : Index := Scalar.indexCast v10544
  let v10539 : BitVec 32 := v10538
  let v10551 : Index := Scalar.indexCast v10539
  let c0_4488 : Index := 0#32
  ![v10550.toNat, v10551.toNat, 0]

def k0_chk842 (v10538 : BitVec 32) (v10544 : BitVec 32) : Prop :=
  (∀ a, (k0_off1235 v10538 v10544) a + S1x48x512.size a ≤ S64x64x512.size a)
theorem k0_off1235_inb : ∀ (v10538 : BitVec 32) (v10544 : BitVec 32) (k0_hw842 : k0_chk842 v10538 v10544), ∀ a, (k0_off1235 v10538 v10544) a + S1x48x512.size a ≤ S64x64x512.size a := fun v10538 v10544 k0_hw842 => k0_hw842

def k0_off1236 (v10538 : BitVec 32) (v10546 : BitVec 32) : Fin 3 → Nat :=
  let v10554 : Index := Scalar.indexCast v10546
  let v10539 : BitVec 32 := v10538
  let v10555 : Index := Scalar.indexCast v10539
  let c0_4489 : Index := 0#32
  ![v10554.toNat, v10555.toNat, 0]

def k0_chk843 (v10538 : BitVec 32) (v10546 : BitVec 32) : Prop :=
  (∀ a, (k0_off1236 v10538 v10546) a + S1x48x512.size a ≤ S64x64x512.size a)
theorem k0_off1236_inb : ∀ (v10538 : BitVec 32) (v10546 : BitVec 32) (k0_hw843 : k0_chk843 v10538 v10546), ∀ a, (k0_off1236 v10538 v10546) a + S1x48x512.size a ≤ S64x64x512.size a := fun v10538 v10546 k0_hw843 => k0_hw843

def k0_off1237 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4496 : BitVec 32 := 56#32
  let v10566 : BitVec 32 := Scalar.addi v5 c56_i32_4496
  let c7_i32_4497 : BitVec 32 := 7#32
  let v10567 : BitVec 32 := Scalar.muli v10566 c7_i32_4497
  let c1_i32_4498 : BitVec 32 := 1#32
  let v10568 : BitVec 32 := Scalar.addi v10567 c1_i32_4498
  let v10569 : Index := Scalar.indexCast v10568
  ![v10569.toNat]
def k0_off1238 (v10538 : BitVec 32) (v10570 : BitVec 32) : Fin 3 → Nat :=
  let v10576 : Index := Scalar.indexCast v10570
  let v10539 : BitVec 32 := v10538
  let v10577 : Index := Scalar.indexCast v10539
  let c0_4499 : Index := 0#32
  ![v10576.toNat, v10577.toNat, 0]

def k0_chk844 (v10538 : BitVec 32) (v10570 : BitVec 32) : Prop :=
  (∀ a, (k0_off1238 v10538 v10570) a + S1x48x512.size a ≤ S64x64x512.size a)
theorem k0_off1238_inb : ∀ (v10538 : BitVec 32) (v10570 : BitVec 32) (k0_hw844 : k0_chk844 v10538 v10570), ∀ a, (k0_off1238 v10538 v10570) a + S1x48x512.size a ≤ S64x64x512.size a := fun v10538 v10570 k0_hw844 => k0_hw844

def k0_off1239 (v10538 : BitVec 32) (v10572 : BitVec 32) : Fin 3 → Nat :=
  let v10580 : Index := Scalar.indexCast v10572
  let v10539 : BitVec 32 := v10538
  let v10581 : Index := Scalar.indexCast v10539
  let c0_4500 : Index := 0#32
  ![v10580.toNat, v10581.toNat, 0]

def k0_chk845 (v10538 : BitVec 32) (v10572 : BitVec 32) : Prop :=
  (∀ a, (k0_off1239 v10538 v10572) a + S1x48x512.size a ≤ S64x64x512.size a)
theorem k0_off1239_inb : ∀ (v10538 : BitVec 32) (v10572 : BitVec 32) (k0_hw845 : k0_chk845 v10538 v10572), ∀ a, (k0_off1239 v10538 v10572) a + S1x48x512.size a ≤ S64x64x512.size a := fun v10538 v10572 k0_hw845 => k0_hw845

def k0_off1240 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4507 : BitVec 32 := 56#32
  let v10592 : BitVec 32 := Scalar.addi v5 c56_i32_4507
  let c7_i32_4508 : BitVec 32 := 7#32
  let v10593 : BitVec 32 := Scalar.muli v10592 c7_i32_4508
  let c2_i32_4509 : BitVec 32 := 2#32
  let v10594 : BitVec 32 := Scalar.addi v10593 c2_i32_4509
  let v10595 : Index := Scalar.indexCast v10594
  ![v10595.toNat]
def k0_off1241 (v10538 : BitVec 32) (v10596 : BitVec 32) : Fin 3 → Nat :=
  let v10602 : Index := Scalar.indexCast v10596
  let v10539 : BitVec 32 := v10538
  let v10603 : Index := Scalar.indexCast v10539
  let c0_4510 : Index := 0#32
  ![v10602.toNat, v10603.toNat, 0]

def k0_chk846 (v10538 : BitVec 32) (v10596 : BitVec 32) : Prop :=
  (∀ a, (k0_off1241 v10538 v10596) a + S1x48x512.size a ≤ S64x64x512.size a)
theorem k0_off1241_inb : ∀ (v10538 : BitVec 32) (v10596 : BitVec 32) (k0_hw846 : k0_chk846 v10538 v10596), ∀ a, (k0_off1241 v10538 v10596) a + S1x48x512.size a ≤ S64x64x512.size a := fun v10538 v10596 k0_hw846 => k0_hw846

def k0_off1242 (v10538 : BitVec 32) (v10598 : BitVec 32) : Fin 3 → Nat :=
  let v10606 : Index := Scalar.indexCast v10598
  let v10539 : BitVec 32 := v10538
  let v10607 : Index := Scalar.indexCast v10539
  let c0_4511 : Index := 0#32
  ![v10606.toNat, v10607.toNat, 0]

def k0_chk847 (v10538 : BitVec 32) (v10598 : BitVec 32) : Prop :=
  (∀ a, (k0_off1242 v10538 v10598) a + S1x48x512.size a ≤ S64x64x512.size a)
theorem k0_off1242_inb : ∀ (v10538 : BitVec 32) (v10598 : BitVec 32) (k0_hw847 : k0_chk847 v10538 v10598), ∀ a, (k0_off1242 v10538 v10598) a + S1x48x512.size a ≤ S64x64x512.size a := fun v10538 v10598 k0_hw847 => k0_hw847

def k0_off1243 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4518 : BitVec 32 := 56#32
  let v10618 : BitVec 32 := Scalar.addi v5 c56_i32_4518
  let c7_i32_4519 : BitVec 32 := 7#32
  let v10619 : BitVec 32 := Scalar.muli v10618 c7_i32_4519
  let c3_i32_4520 : BitVec 32 := 3#32
  let v10620 : BitVec 32 := Scalar.addi v10619 c3_i32_4520
  let v10621 : Index := Scalar.indexCast v10620
  ![v10621.toNat]
def k0_off1244 (v10538 : BitVec 32) (v10622 : BitVec 32) : Fin 3 → Nat :=
  let v10628 : Index := Scalar.indexCast v10622
  let v10539 : BitVec 32 := v10538
  let v10629 : Index := Scalar.indexCast v10539
  let c0_4521 : Index := 0#32
  ![v10628.toNat, v10629.toNat, 0]

def k0_chk848 (v10538 : BitVec 32) (v10622 : BitVec 32) : Prop :=
  (∀ a, (k0_off1244 v10538 v10622) a + S1x48x512.size a ≤ S64x64x512.size a)
theorem k0_off1244_inb : ∀ (v10538 : BitVec 32) (v10622 : BitVec 32) (k0_hw848 : k0_chk848 v10538 v10622), ∀ a, (k0_off1244 v10538 v10622) a + S1x48x512.size a ≤ S64x64x512.size a := fun v10538 v10622 k0_hw848 => k0_hw848

def k0_off1245 (v10538 : BitVec 32) (v10624 : BitVec 32) : Fin 3 → Nat :=
  let v10632 : Index := Scalar.indexCast v10624
  let v10539 : BitVec 32 := v10538
  let v10633 : Index := Scalar.indexCast v10539
  let c0_4522 : Index := 0#32
  ![v10632.toNat, v10633.toNat, 0]

def k0_chk849 (v10538 : BitVec 32) (v10624 : BitVec 32) : Prop :=
  (∀ a, (k0_off1245 v10538 v10624) a + S1x48x512.size a ≤ S64x64x512.size a)
theorem k0_off1245_inb : ∀ (v10538 : BitVec 32) (v10624 : BitVec 32) (k0_hw849 : k0_chk849 v10538 v10624), ∀ a, (k0_off1245 v10538 v10624) a + S1x48x512.size a ≤ S64x64x512.size a := fun v10538 v10624 k0_hw849 => k0_hw849

def k0_off1246 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4529 : BitVec 32 := 56#32
  let v10644 : BitVec 32 := Scalar.addi v5 c56_i32_4529
  let c7_i32_4530 : BitVec 32 := 7#32
  let v10645 : BitVec 32 := Scalar.muli v10644 c7_i32_4530
  let c4_i32_4531 : BitVec 32 := 4#32
  let v10646 : BitVec 32 := Scalar.addi v10645 c4_i32_4531
  let v10647 : Index := Scalar.indexCast v10646
  ![v10647.toNat]
def k0_off1247 (v10538 : BitVec 32) (v10648 : BitVec 32) : Fin 3 → Nat :=
  let v10654 : Index := Scalar.indexCast v10648
  let v10539 : BitVec 32 := v10538
  let v10655 : Index := Scalar.indexCast v10539
  let c0_4532 : Index := 0#32
  ![v10654.toNat, v10655.toNat, 0]

def k0_chk850 (v10538 : BitVec 32) (v10648 : BitVec 32) : Prop :=
  (∀ a, (k0_off1247 v10538 v10648) a + S1x48x512.size a ≤ S64x64x512.size a)
theorem k0_off1247_inb : ∀ (v10538 : BitVec 32) (v10648 : BitVec 32) (k0_hw850 : k0_chk850 v10538 v10648), ∀ a, (k0_off1247 v10538 v10648) a + S1x48x512.size a ≤ S64x64x512.size a := fun v10538 v10648 k0_hw850 => k0_hw850

def k0_off1248 (v10538 : BitVec 32) (v10650 : BitVec 32) : Fin 3 → Nat :=
  let v10658 : Index := Scalar.indexCast v10650
  let v10539 : BitVec 32 := v10538
  let v10659 : Index := Scalar.indexCast v10539
  let c0_4533 : Index := 0#32
  ![v10658.toNat, v10659.toNat, 0]

def k0_chk851 (v10538 : BitVec 32) (v10650 : BitVec 32) : Prop :=
  (∀ a, (k0_off1248 v10538 v10650) a + S1x48x512.size a ≤ S64x64x512.size a)
theorem k0_off1248_inb : ∀ (v10538 : BitVec 32) (v10650 : BitVec 32) (k0_hw851 : k0_chk851 v10538 v10650), ∀ a, (k0_off1248 v10538 v10650) a + S1x48x512.size a ≤ S64x64x512.size a := fun v10538 v10650 k0_hw851 => k0_hw851

def k0_off1249 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4540 : BitVec 32 := 56#32
  let v10670 : BitVec 32 := Scalar.addi v5 c56_i32_4540
  let c7_i32_4541 : BitVec 32 := 7#32
  let v10671 : BitVec 32 := Scalar.muli v10670 c7_i32_4541
  let c5_i32_4542 : BitVec 32 := 5#32
  let v10672 : BitVec 32 := Scalar.addi v10671 c5_i32_4542
  let v10673 : Index := Scalar.indexCast v10672
  ![v10673.toNat]
def k0_off1250 (v10538 : BitVec 32) (v10674 : BitVec 32) : Fin 3 → Nat :=
  let v10680 : Index := Scalar.indexCast v10674
  let v10539 : BitVec 32 := v10538
  let v10681 : Index := Scalar.indexCast v10539
  let c0_4543 : Index := 0#32
  ![v10680.toNat, v10681.toNat, 0]

def k0_chk852 (v10538 : BitVec 32) (v10674 : BitVec 32) : Prop :=
  (∀ a, (k0_off1250 v10538 v10674) a + S1x48x512.size a ≤ S64x64x512.size a)
theorem k0_off1250_inb : ∀ (v10538 : BitVec 32) (v10674 : BitVec 32) (k0_hw852 : k0_chk852 v10538 v10674), ∀ a, (k0_off1250 v10538 v10674) a + S1x48x512.size a ≤ S64x64x512.size a := fun v10538 v10674 k0_hw852 => k0_hw852

def k0_off1251 (v10538 : BitVec 32) (v10676 : BitVec 32) : Fin 3 → Nat :=
  let v10684 : Index := Scalar.indexCast v10676
  let v10539 : BitVec 32 := v10538
  let v10685 : Index := Scalar.indexCast v10539
  let c0_4544 : Index := 0#32
  ![v10684.toNat, v10685.toNat, 0]

def k0_chk853 (v10538 : BitVec 32) (v10676 : BitVec 32) : Prop :=
  (∀ a, (k0_off1251 v10538 v10676) a + S1x48x512.size a ≤ S64x64x512.size a)
theorem k0_off1251_inb : ∀ (v10538 : BitVec 32) (v10676 : BitVec 32) (k0_hw853 : k0_chk853 v10538 v10676), ∀ a, (k0_off1251 v10538 v10676) a + S1x48x512.size a ≤ S64x64x512.size a := fun v10538 v10676 k0_hw853 => k0_hw853

def k0_off1252 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c56_i32_4551 : BitVec 32 := 56#32
  let v10696 : BitVec 32 := Scalar.addi v5 c56_i32_4551
  let c7_i32_4552 : BitVec 32 := 7#32
  let v10697 : BitVec 32 := Scalar.muli v10696 c7_i32_4552
  let c6_i32_4553 : BitVec 32 := 6#32
  let v10698 : BitVec 32 := Scalar.addi v10697 c6_i32_4553
  let v10699 : Index := Scalar.indexCast v10698
  ![v10699.toNat]
def k0_off1253 (v10538 : BitVec 32) (v10700 : BitVec 32) : Fin 3 → Nat :=
  let v10706 : Index := Scalar.indexCast v10700
  let v10539 : BitVec 32 := v10538
  let v10707 : Index := Scalar.indexCast v10539
  let c0_4554 : Index := 0#32
  ![v10706.toNat, v10707.toNat, 0]

def k0_chk854 (v10538 : BitVec 32) (v10700 : BitVec 32) : Prop :=
  (∀ a, (k0_off1253 v10538 v10700) a + S1x48x512.size a ≤ S64x64x512.size a)
theorem k0_off1253_inb : ∀ (v10538 : BitVec 32) (v10700 : BitVec 32) (k0_hw854 : k0_chk854 v10538 v10700), ∀ a, (k0_off1253 v10538 v10700) a + S1x48x512.size a ≤ S64x64x512.size a := fun v10538 v10700 k0_hw854 => k0_hw854

def k0_off1254 (v10538 : BitVec 32) (v10702 : BitVec 32) : Fin 3 → Nat :=
  let v10710 : Index := Scalar.indexCast v10702
  let v10539 : BitVec 32 := v10538
  let v10711 : Index := Scalar.indexCast v10539
  let c0_4555 : Index := 0#32
  ![v10710.toNat, v10711.toNat, 0]

def k0_chk855 (v10538 : BitVec 32) (v10702 : BitVec 32) : Prop :=
  (∀ a, (k0_off1254 v10538 v10702) a + S1x48x512.size a ≤ S64x64x512.size a)
theorem k0_off1254_inb : ∀ (v10538 : BitVec 32) (v10702 : BitVec 32) (k0_hw855 : k0_chk855 v10538 v10702), ∀ a, (k0_off1254 v10538 v10702) a + S1x48x512.size a ≤ S64x64x512.size a := fun v10538 v10702 k0_hw855 => k0_hw855

def k0_off1255 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32 : BitVec 32 := 57#32
  let v10724 : BitVec 32 := Scalar.addi v5 c57_i32
  let v10725 : Index := Scalar.indexCast v10724
  ![v10725.toNat]
def k0_mult58 (v10726 : BitVec 32) : BitVec 32 :=
  v10726

def k0_chk856 (v10726 : BitVec 32) : Prop :=
  (16 ∣ (k0_mult58 v10726).toNat)
theorem k0_mult58_dvd : ∀ (v10726 : BitVec 32) (k0_hw856 : k0_chk856 v10726), 16 ∣ (k0_mult58 v10726).toNat := fun v10726 k0_hw856 => k0_hw856

def k0_off1256 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4565 : BitVec 32 := 57#32
  let v10728 : BitVec 32 := Scalar.addi v5 c57_i32_4565
  let c7_i32_4566 : BitVec 32 := 7#32
  let v10729 : BitVec 32 := Scalar.muli v10728 c7_i32_4566
  let c0_i32_4567 : BitVec 32 := 0#32
  let v10730 : BitVec 32 := Scalar.addi v10729 c0_i32_4567
  let v10731 : Index := Scalar.indexCast v10730
  ![v10731.toNat]
def k0_off1257 (v10726 : BitVec 32) (v10732 : BitVec 32) : Fin 3 → Nat :=
  let v10738 : Index := Scalar.indexCast v10732
  let v10727 : BitVec 32 := v10726
  let v10739 : Index := Scalar.indexCast v10727
  let c0_4568 : Index := 0#32
  ![v10738.toNat, v10739.toNat, 0]

def k0_chk857 (v10726 : BitVec 32) (v10732 : BitVec 32) : Prop :=
  (∀ a, (k0_off1257 v10726 v10732) a + S1x48x512.size a ≤ S64x64x512.size a)
theorem k0_off1257_inb : ∀ (v10726 : BitVec 32) (v10732 : BitVec 32) (k0_hw857 : k0_chk857 v10726 v10732), ∀ a, (k0_off1257 v10726 v10732) a + S1x48x512.size a ≤ S64x64x512.size a := fun v10726 v10732 k0_hw857 => k0_hw857

def k0_off1258 (v10726 : BitVec 32) (v10734 : BitVec 32) : Fin 3 → Nat :=
  let v10742 : Index := Scalar.indexCast v10734
  let v10727 : BitVec 32 := v10726
  let v10743 : Index := Scalar.indexCast v10727
  let c0_4569 : Index := 0#32
  ![v10742.toNat, v10743.toNat, 0]

def k0_chk858 (v10726 : BitVec 32) (v10734 : BitVec 32) : Prop :=
  (∀ a, (k0_off1258 v10726 v10734) a + S1x48x512.size a ≤ S64x64x512.size a)
theorem k0_off1258_inb : ∀ (v10726 : BitVec 32) (v10734 : BitVec 32) (k0_hw858 : k0_chk858 v10726 v10734), ∀ a, (k0_off1258 v10726 v10734) a + S1x48x512.size a ≤ S64x64x512.size a := fun v10726 v10734 k0_hw858 => k0_hw858

def k0_off1259 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4576 : BitVec 32 := 57#32
  let v10754 : BitVec 32 := Scalar.addi v5 c57_i32_4576
  let c7_i32_4577 : BitVec 32 := 7#32
  let v10755 : BitVec 32 := Scalar.muli v10754 c7_i32_4577
  let c1_i32_4578 : BitVec 32 := 1#32
  let v10756 : BitVec 32 := Scalar.addi v10755 c1_i32_4578
  let v10757 : Index := Scalar.indexCast v10756
  ![v10757.toNat]
def k0_off1260 (v10726 : BitVec 32) (v10758 : BitVec 32) : Fin 3 → Nat :=
  let v10764 : Index := Scalar.indexCast v10758
  let v10727 : BitVec 32 := v10726
  let v10765 : Index := Scalar.indexCast v10727
  let c0_4579 : Index := 0#32
  ![v10764.toNat, v10765.toNat, 0]

def k0_chk859 (v10726 : BitVec 32) (v10758 : BitVec 32) : Prop :=
  (∀ a, (k0_off1260 v10726 v10758) a + S1x48x512.size a ≤ S64x64x512.size a)
theorem k0_off1260_inb : ∀ (v10726 : BitVec 32) (v10758 : BitVec 32) (k0_hw859 : k0_chk859 v10726 v10758), ∀ a, (k0_off1260 v10726 v10758) a + S1x48x512.size a ≤ S64x64x512.size a := fun v10726 v10758 k0_hw859 => k0_hw859

def k0_off1261 (v10726 : BitVec 32) (v10760 : BitVec 32) : Fin 3 → Nat :=
  let v10768 : Index := Scalar.indexCast v10760
  let v10727 : BitVec 32 := v10726
  let v10769 : Index := Scalar.indexCast v10727
  let c0_4580 : Index := 0#32
  ![v10768.toNat, v10769.toNat, 0]

def k0_chk860 (v10726 : BitVec 32) (v10760 : BitVec 32) : Prop :=
  (∀ a, (k0_off1261 v10726 v10760) a + S1x48x512.size a ≤ S64x64x512.size a)
theorem k0_off1261_inb : ∀ (v10726 : BitVec 32) (v10760 : BitVec 32) (k0_hw860 : k0_chk860 v10726 v10760), ∀ a, (k0_off1261 v10726 v10760) a + S1x48x512.size a ≤ S64x64x512.size a := fun v10726 v10760 k0_hw860 => k0_hw860

def k0_off1262 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4587 : BitVec 32 := 57#32
  let v10780 : BitVec 32 := Scalar.addi v5 c57_i32_4587
  let c7_i32_4588 : BitVec 32 := 7#32
  let v10781 : BitVec 32 := Scalar.muli v10780 c7_i32_4588
  let c2_i32_4589 : BitVec 32 := 2#32
  let v10782 : BitVec 32 := Scalar.addi v10781 c2_i32_4589
  let v10783 : Index := Scalar.indexCast v10782
  ![v10783.toNat]
def k0_off1263 (v10726 : BitVec 32) (v10784 : BitVec 32) : Fin 3 → Nat :=
  let v10790 : Index := Scalar.indexCast v10784
  let v10727 : BitVec 32 := v10726
  let v10791 : Index := Scalar.indexCast v10727
  let c0_4590 : Index := 0#32
  ![v10790.toNat, v10791.toNat, 0]

def k0_chk861 (v10726 : BitVec 32) (v10784 : BitVec 32) : Prop :=
  (∀ a, (k0_off1263 v10726 v10784) a + S1x48x512.size a ≤ S64x64x512.size a)
theorem k0_off1263_inb : ∀ (v10726 : BitVec 32) (v10784 : BitVec 32) (k0_hw861 : k0_chk861 v10726 v10784), ∀ a, (k0_off1263 v10726 v10784) a + S1x48x512.size a ≤ S64x64x512.size a := fun v10726 v10784 k0_hw861 => k0_hw861

def k0_off1264 (v10726 : BitVec 32) (v10786 : BitVec 32) : Fin 3 → Nat :=
  let v10794 : Index := Scalar.indexCast v10786
  let v10727 : BitVec 32 := v10726
  let v10795 : Index := Scalar.indexCast v10727
  let c0_4591 : Index := 0#32
  ![v10794.toNat, v10795.toNat, 0]

def k0_chk862 (v10726 : BitVec 32) (v10786 : BitVec 32) : Prop :=
  (∀ a, (k0_off1264 v10726 v10786) a + S1x48x512.size a ≤ S64x64x512.size a)
theorem k0_off1264_inb : ∀ (v10726 : BitVec 32) (v10786 : BitVec 32) (k0_hw862 : k0_chk862 v10726 v10786), ∀ a, (k0_off1264 v10726 v10786) a + S1x48x512.size a ≤ S64x64x512.size a := fun v10726 v10786 k0_hw862 => k0_hw862

def k0_off1265 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4598 : BitVec 32 := 57#32
  let v10806 : BitVec 32 := Scalar.addi v5 c57_i32_4598
  let c7_i32_4599 : BitVec 32 := 7#32
  let v10807 : BitVec 32 := Scalar.muli v10806 c7_i32_4599
  let c3_i32_4600 : BitVec 32 := 3#32
  let v10808 : BitVec 32 := Scalar.addi v10807 c3_i32_4600
  let v10809 : Index := Scalar.indexCast v10808
  ![v10809.toNat]
def k0_off1266 (v10726 : BitVec 32) (v10810 : BitVec 32) : Fin 3 → Nat :=
  let v10816 : Index := Scalar.indexCast v10810
  let v10727 : BitVec 32 := v10726
  let v10817 : Index := Scalar.indexCast v10727
  let c0_4601 : Index := 0#32
  ![v10816.toNat, v10817.toNat, 0]

def k0_chk863 (v10726 : BitVec 32) (v10810 : BitVec 32) : Prop :=
  (∀ a, (k0_off1266 v10726 v10810) a + S1x48x512.size a ≤ S64x64x512.size a)
theorem k0_off1266_inb : ∀ (v10726 : BitVec 32) (v10810 : BitVec 32) (k0_hw863 : k0_chk863 v10726 v10810), ∀ a, (k0_off1266 v10726 v10810) a + S1x48x512.size a ≤ S64x64x512.size a := fun v10726 v10810 k0_hw863 => k0_hw863

def k0_off1267 (v10726 : BitVec 32) (v10812 : BitVec 32) : Fin 3 → Nat :=
  let v10820 : Index := Scalar.indexCast v10812
  let v10727 : BitVec 32 := v10726
  let v10821 : Index := Scalar.indexCast v10727
  let c0_4602 : Index := 0#32
  ![v10820.toNat, v10821.toNat, 0]

def k0_chk864 (v10726 : BitVec 32) (v10812 : BitVec 32) : Prop :=
  (∀ a, (k0_off1267 v10726 v10812) a + S1x48x512.size a ≤ S64x64x512.size a)
theorem k0_off1267_inb : ∀ (v10726 : BitVec 32) (v10812 : BitVec 32) (k0_hw864 : k0_chk864 v10726 v10812), ∀ a, (k0_off1267 v10726 v10812) a + S1x48x512.size a ≤ S64x64x512.size a := fun v10726 v10812 k0_hw864 => k0_hw864

def k0_off1268 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4609 : BitVec 32 := 57#32
  let v10832 : BitVec 32 := Scalar.addi v5 c57_i32_4609
  let c7_i32_4610 : BitVec 32 := 7#32
  let v10833 : BitVec 32 := Scalar.muli v10832 c7_i32_4610
  let c4_i32_4611 : BitVec 32 := 4#32
  let v10834 : BitVec 32 := Scalar.addi v10833 c4_i32_4611
  let v10835 : Index := Scalar.indexCast v10834
  ![v10835.toNat]
def k0_off1269 (v10726 : BitVec 32) (v10836 : BitVec 32) : Fin 3 → Nat :=
  let v10842 : Index := Scalar.indexCast v10836
  let v10727 : BitVec 32 := v10726
  let v10843 : Index := Scalar.indexCast v10727
  let c0_4612 : Index := 0#32
  ![v10842.toNat, v10843.toNat, 0]

def k0_chk865 (v10726 : BitVec 32) (v10836 : BitVec 32) : Prop :=
  (∀ a, (k0_off1269 v10726 v10836) a + S1x48x512.size a ≤ S64x64x512.size a)
theorem k0_off1269_inb : ∀ (v10726 : BitVec 32) (v10836 : BitVec 32) (k0_hw865 : k0_chk865 v10726 v10836), ∀ a, (k0_off1269 v10726 v10836) a + S1x48x512.size a ≤ S64x64x512.size a := fun v10726 v10836 k0_hw865 => k0_hw865

def k0_off1270 (v10726 : BitVec 32) (v10838 : BitVec 32) : Fin 3 → Nat :=
  let v10846 : Index := Scalar.indexCast v10838
  let v10727 : BitVec 32 := v10726
  let v10847 : Index := Scalar.indexCast v10727
  let c0_4613 : Index := 0#32
  ![v10846.toNat, v10847.toNat, 0]

def k0_chk866 (v10726 : BitVec 32) (v10838 : BitVec 32) : Prop :=
  (∀ a, (k0_off1270 v10726 v10838) a + S1x48x512.size a ≤ S64x64x512.size a)
theorem k0_off1270_inb : ∀ (v10726 : BitVec 32) (v10838 : BitVec 32) (k0_hw866 : k0_chk866 v10726 v10838), ∀ a, (k0_off1270 v10726 v10838) a + S1x48x512.size a ≤ S64x64x512.size a := fun v10726 v10838 k0_hw866 => k0_hw866

def k0_off1271 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4620 : BitVec 32 := 57#32
  let v10858 : BitVec 32 := Scalar.addi v5 c57_i32_4620
  let c7_i32_4621 : BitVec 32 := 7#32
  let v10859 : BitVec 32 := Scalar.muli v10858 c7_i32_4621
  let c5_i32_4622 : BitVec 32 := 5#32
  let v10860 : BitVec 32 := Scalar.addi v10859 c5_i32_4622
  let v10861 : Index := Scalar.indexCast v10860
  ![v10861.toNat]
def k0_off1272 (v10726 : BitVec 32) (v10862 : BitVec 32) : Fin 3 → Nat :=
  let v10868 : Index := Scalar.indexCast v10862
  let v10727 : BitVec 32 := v10726
  let v10869 : Index := Scalar.indexCast v10727
  let c0_4623 : Index := 0#32
  ![v10868.toNat, v10869.toNat, 0]

def k0_chk867 (v10726 : BitVec 32) (v10862 : BitVec 32) : Prop :=
  (∀ a, (k0_off1272 v10726 v10862) a + S1x48x512.size a ≤ S64x64x512.size a)
theorem k0_off1272_inb : ∀ (v10726 : BitVec 32) (v10862 : BitVec 32) (k0_hw867 : k0_chk867 v10726 v10862), ∀ a, (k0_off1272 v10726 v10862) a + S1x48x512.size a ≤ S64x64x512.size a := fun v10726 v10862 k0_hw867 => k0_hw867

def k0_off1273 (v10726 : BitVec 32) (v10864 : BitVec 32) : Fin 3 → Nat :=
  let v10872 : Index := Scalar.indexCast v10864
  let v10727 : BitVec 32 := v10726
  let v10873 : Index := Scalar.indexCast v10727
  let c0_4624 : Index := 0#32
  ![v10872.toNat, v10873.toNat, 0]

def k0_chk868 (v10726 : BitVec 32) (v10864 : BitVec 32) : Prop :=
  (∀ a, (k0_off1273 v10726 v10864) a + S1x48x512.size a ≤ S64x64x512.size a)
theorem k0_off1273_inb : ∀ (v10726 : BitVec 32) (v10864 : BitVec 32) (k0_hw868 : k0_chk868 v10726 v10864), ∀ a, (k0_off1273 v10726 v10864) a + S1x48x512.size a ≤ S64x64x512.size a := fun v10726 v10864 k0_hw868 => k0_hw868

def k0_off1274 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c57_i32_4631 : BitVec 32 := 57#32
  let v10884 : BitVec 32 := Scalar.addi v5 c57_i32_4631
  let c7_i32_4632 : BitVec 32 := 7#32
  let v10885 : BitVec 32 := Scalar.muli v10884 c7_i32_4632
  let c6_i32_4633 : BitVec 32 := 6#32
  let v10886 : BitVec 32 := Scalar.addi v10885 c6_i32_4633
  let v10887 : Index := Scalar.indexCast v10886
  ![v10887.toNat]
def k0_off1275 (v10726 : BitVec 32) (v10888 : BitVec 32) : Fin 3 → Nat :=
  let v10894 : Index := Scalar.indexCast v10888
  let v10727 : BitVec 32 := v10726
  let v10895 : Index := Scalar.indexCast v10727
  let c0_4634 : Index := 0#32
  ![v10894.toNat, v10895.toNat, 0]

def k0_chk869 (v10726 : BitVec 32) (v10888 : BitVec 32) : Prop :=
  (∀ a, (k0_off1275 v10726 v10888) a + S1x48x512.size a ≤ S64x64x512.size a)
theorem k0_off1275_inb : ∀ (v10726 : BitVec 32) (v10888 : BitVec 32) (k0_hw869 : k0_chk869 v10726 v10888), ∀ a, (k0_off1275 v10726 v10888) a + S1x48x512.size a ≤ S64x64x512.size a := fun v10726 v10888 k0_hw869 => k0_hw869

def k0_off1276 (v10726 : BitVec 32) (v10890 : BitVec 32) : Fin 3 → Nat :=
  let v10898 : Index := Scalar.indexCast v10890
  let v10727 : BitVec 32 := v10726
  let v10899 : Index := Scalar.indexCast v10727
  let c0_4635 : Index := 0#32
  ![v10898.toNat, v10899.toNat, 0]

def k0_chk870 (v10726 : BitVec 32) (v10890 : BitVec 32) : Prop :=
  (∀ a, (k0_off1276 v10726 v10890) a + S1x48x512.size a ≤ S64x64x512.size a)
theorem k0_off1276_inb : ∀ (v10726 : BitVec 32) (v10890 : BitVec 32) (k0_hw870 : k0_chk870 v10726 v10890), ∀ a, (k0_off1276 v10726 v10890) a + S1x48x512.size a ≤ S64x64x512.size a := fun v10726 v10890 k0_hw870 => k0_hw870

def k0_off1277 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32 : BitVec 32 := 58#32
  let v10912 : BitVec 32 := Scalar.addi v5 c58_i32
  let v10913 : Index := Scalar.indexCast v10912
  ![v10913.toNat]
def k0_mult59 (v10914 : BitVec 32) : BitVec 32 :=
  v10914

def k0_chk871 (v10914 : BitVec 32) : Prop :=
  (16 ∣ (k0_mult59 v10914).toNat)
theorem k0_mult59_dvd : ∀ (v10914 : BitVec 32) (k0_hw871 : k0_chk871 v10914), 16 ∣ (k0_mult59 v10914).toNat := fun v10914 k0_hw871 => k0_hw871

def k0_off1278 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4645 : BitVec 32 := 58#32
  let v10916 : BitVec 32 := Scalar.addi v5 c58_i32_4645
  let c7_i32_4646 : BitVec 32 := 7#32
  let v10917 : BitVec 32 := Scalar.muli v10916 c7_i32_4646
  let c0_i32_4647 : BitVec 32 := 0#32
  let v10918 : BitVec 32 := Scalar.addi v10917 c0_i32_4647
  let v10919 : Index := Scalar.indexCast v10918
  ![v10919.toNat]
def k0_off1279 (v10914 : BitVec 32) (v10920 : BitVec 32) : Fin 3 → Nat :=
  let v10926 : Index := Scalar.indexCast v10920
  let v10915 : BitVec 32 := v10914
  let v10927 : Index := Scalar.indexCast v10915
  let c0_4648 : Index := 0#32
  ![v10926.toNat, v10927.toNat, 0]

def k0_chk872 (v10914 : BitVec 32) (v10920 : BitVec 32) : Prop :=
  (∀ a, (k0_off1279 v10914 v10920) a + S1x48x512.size a ≤ S64x64x512.size a)
theorem k0_off1279_inb : ∀ (v10914 : BitVec 32) (v10920 : BitVec 32) (k0_hw872 : k0_chk872 v10914 v10920), ∀ a, (k0_off1279 v10914 v10920) a + S1x48x512.size a ≤ S64x64x512.size a := fun v10914 v10920 k0_hw872 => k0_hw872

def k0_off1280 (v10914 : BitVec 32) (v10922 : BitVec 32) : Fin 3 → Nat :=
  let v10930 : Index := Scalar.indexCast v10922
  let v10915 : BitVec 32 := v10914
  let v10931 : Index := Scalar.indexCast v10915
  let c0_4649 : Index := 0#32
  ![v10930.toNat, v10931.toNat, 0]

def k0_chk873 (v10914 : BitVec 32) (v10922 : BitVec 32) : Prop :=
  (∀ a, (k0_off1280 v10914 v10922) a + S1x48x512.size a ≤ S64x64x512.size a)
theorem k0_off1280_inb : ∀ (v10914 : BitVec 32) (v10922 : BitVec 32) (k0_hw873 : k0_chk873 v10914 v10922), ∀ a, (k0_off1280 v10914 v10922) a + S1x48x512.size a ≤ S64x64x512.size a := fun v10914 v10922 k0_hw873 => k0_hw873

def k0_off1281 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4656 : BitVec 32 := 58#32
  let v10942 : BitVec 32 := Scalar.addi v5 c58_i32_4656
  let c7_i32_4657 : BitVec 32 := 7#32
  let v10943 : BitVec 32 := Scalar.muli v10942 c7_i32_4657
  let c1_i32_4658 : BitVec 32 := 1#32
  let v10944 : BitVec 32 := Scalar.addi v10943 c1_i32_4658
  let v10945 : Index := Scalar.indexCast v10944
  ![v10945.toNat]
def k0_off1282 (v10914 : BitVec 32) (v10946 : BitVec 32) : Fin 3 → Nat :=
  let v10952 : Index := Scalar.indexCast v10946
  let v10915 : BitVec 32 := v10914
  let v10953 : Index := Scalar.indexCast v10915
  let c0_4659 : Index := 0#32
  ![v10952.toNat, v10953.toNat, 0]

def k0_chk874 (v10914 : BitVec 32) (v10946 : BitVec 32) : Prop :=
  (∀ a, (k0_off1282 v10914 v10946) a + S1x48x512.size a ≤ S64x64x512.size a)
theorem k0_off1282_inb : ∀ (v10914 : BitVec 32) (v10946 : BitVec 32) (k0_hw874 : k0_chk874 v10914 v10946), ∀ a, (k0_off1282 v10914 v10946) a + S1x48x512.size a ≤ S64x64x512.size a := fun v10914 v10946 k0_hw874 => k0_hw874

def k0_off1283 (v10914 : BitVec 32) (v10948 : BitVec 32) : Fin 3 → Nat :=
  let v10956 : Index := Scalar.indexCast v10948
  let v10915 : BitVec 32 := v10914
  let v10957 : Index := Scalar.indexCast v10915
  let c0_4660 : Index := 0#32
  ![v10956.toNat, v10957.toNat, 0]

def k0_chk875 (v10914 : BitVec 32) (v10948 : BitVec 32) : Prop :=
  (∀ a, (k0_off1283 v10914 v10948) a + S1x48x512.size a ≤ S64x64x512.size a)
theorem k0_off1283_inb : ∀ (v10914 : BitVec 32) (v10948 : BitVec 32) (k0_hw875 : k0_chk875 v10914 v10948), ∀ a, (k0_off1283 v10914 v10948) a + S1x48x512.size a ≤ S64x64x512.size a := fun v10914 v10948 k0_hw875 => k0_hw875

def k0_off1284 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4667 : BitVec 32 := 58#32
  let v10968 : BitVec 32 := Scalar.addi v5 c58_i32_4667
  let c7_i32_4668 : BitVec 32 := 7#32
  let v10969 : BitVec 32 := Scalar.muli v10968 c7_i32_4668
  let c2_i32_4669 : BitVec 32 := 2#32
  let v10970 : BitVec 32 := Scalar.addi v10969 c2_i32_4669
  let v10971 : Index := Scalar.indexCast v10970
  ![v10971.toNat]
def k0_off1285 (v10914 : BitVec 32) (v10972 : BitVec 32) : Fin 3 → Nat :=
  let v10978 : Index := Scalar.indexCast v10972
  let v10915 : BitVec 32 := v10914
  let v10979 : Index := Scalar.indexCast v10915
  let c0_4670 : Index := 0#32
  ![v10978.toNat, v10979.toNat, 0]

def k0_chk876 (v10914 : BitVec 32) (v10972 : BitVec 32) : Prop :=
  (∀ a, (k0_off1285 v10914 v10972) a + S1x48x512.size a ≤ S64x64x512.size a)
theorem k0_off1285_inb : ∀ (v10914 : BitVec 32) (v10972 : BitVec 32) (k0_hw876 : k0_chk876 v10914 v10972), ∀ a, (k0_off1285 v10914 v10972) a + S1x48x512.size a ≤ S64x64x512.size a := fun v10914 v10972 k0_hw876 => k0_hw876

def k0_off1286 (v10914 : BitVec 32) (v10974 : BitVec 32) : Fin 3 → Nat :=
  let v10982 : Index := Scalar.indexCast v10974
  let v10915 : BitVec 32 := v10914
  let v10983 : Index := Scalar.indexCast v10915
  let c0_4671 : Index := 0#32
  ![v10982.toNat, v10983.toNat, 0]

def k0_chk877 (v10914 : BitVec 32) (v10974 : BitVec 32) : Prop :=
  (∀ a, (k0_off1286 v10914 v10974) a + S1x48x512.size a ≤ S64x64x512.size a)
theorem k0_off1286_inb : ∀ (v10914 : BitVec 32) (v10974 : BitVec 32) (k0_hw877 : k0_chk877 v10914 v10974), ∀ a, (k0_off1286 v10914 v10974) a + S1x48x512.size a ≤ S64x64x512.size a := fun v10914 v10974 k0_hw877 => k0_hw877

def k0_off1287 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4678 : BitVec 32 := 58#32
  let v10994 : BitVec 32 := Scalar.addi v5 c58_i32_4678
  let c7_i32_4679 : BitVec 32 := 7#32
  let v10995 : BitVec 32 := Scalar.muli v10994 c7_i32_4679
  let c3_i32_4680 : BitVec 32 := 3#32
  let v10996 : BitVec 32 := Scalar.addi v10995 c3_i32_4680
  let v10997 : Index := Scalar.indexCast v10996
  ![v10997.toNat]
def k0_off1288 (v10914 : BitVec 32) (v10998 : BitVec 32) : Fin 3 → Nat :=
  let v11004 : Index := Scalar.indexCast v10998
  let v10915 : BitVec 32 := v10914
  let v11005 : Index := Scalar.indexCast v10915
  let c0_4681 : Index := 0#32
  ![v11004.toNat, v11005.toNat, 0]

def k0_chk878 (v10914 : BitVec 32) (v10998 : BitVec 32) : Prop :=
  (∀ a, (k0_off1288 v10914 v10998) a + S1x48x512.size a ≤ S64x64x512.size a)
theorem k0_off1288_inb : ∀ (v10914 : BitVec 32) (v10998 : BitVec 32) (k0_hw878 : k0_chk878 v10914 v10998), ∀ a, (k0_off1288 v10914 v10998) a + S1x48x512.size a ≤ S64x64x512.size a := fun v10914 v10998 k0_hw878 => k0_hw878

def k0_off1289 (v10914 : BitVec 32) (v11000 : BitVec 32) : Fin 3 → Nat :=
  let v11008 : Index := Scalar.indexCast v11000
  let v10915 : BitVec 32 := v10914
  let v11009 : Index := Scalar.indexCast v10915
  let c0_4682 : Index := 0#32
  ![v11008.toNat, v11009.toNat, 0]

def k0_chk879 (v10914 : BitVec 32) (v11000 : BitVec 32) : Prop :=
  (∀ a, (k0_off1289 v10914 v11000) a + S1x48x512.size a ≤ S64x64x512.size a)
theorem k0_off1289_inb : ∀ (v10914 : BitVec 32) (v11000 : BitVec 32) (k0_hw879 : k0_chk879 v10914 v11000), ∀ a, (k0_off1289 v10914 v11000) a + S1x48x512.size a ≤ S64x64x512.size a := fun v10914 v11000 k0_hw879 => k0_hw879

def k0_off1290 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4689 : BitVec 32 := 58#32
  let v11020 : BitVec 32 := Scalar.addi v5 c58_i32_4689
  let c7_i32_4690 : BitVec 32 := 7#32
  let v11021 : BitVec 32 := Scalar.muli v11020 c7_i32_4690
  let c4_i32_4691 : BitVec 32 := 4#32
  let v11022 : BitVec 32 := Scalar.addi v11021 c4_i32_4691
  let v11023 : Index := Scalar.indexCast v11022
  ![v11023.toNat]
def k0_off1291 (v10914 : BitVec 32) (v11024 : BitVec 32) : Fin 3 → Nat :=
  let v11030 : Index := Scalar.indexCast v11024
  let v10915 : BitVec 32 := v10914
  let v11031 : Index := Scalar.indexCast v10915
  let c0_4692 : Index := 0#32
  ![v11030.toNat, v11031.toNat, 0]

def k0_chk880 (v10914 : BitVec 32) (v11024 : BitVec 32) : Prop :=
  (∀ a, (k0_off1291 v10914 v11024) a + S1x48x512.size a ≤ S64x64x512.size a)
theorem k0_off1291_inb : ∀ (v10914 : BitVec 32) (v11024 : BitVec 32) (k0_hw880 : k0_chk880 v10914 v11024), ∀ a, (k0_off1291 v10914 v11024) a + S1x48x512.size a ≤ S64x64x512.size a := fun v10914 v11024 k0_hw880 => k0_hw880

def k0_off1292 (v10914 : BitVec 32) (v11026 : BitVec 32) : Fin 3 → Nat :=
  let v11034 : Index := Scalar.indexCast v11026
  let v10915 : BitVec 32 := v10914
  let v11035 : Index := Scalar.indexCast v10915
  let c0_4693 : Index := 0#32
  ![v11034.toNat, v11035.toNat, 0]

def k0_chk881 (v10914 : BitVec 32) (v11026 : BitVec 32) : Prop :=
  (∀ a, (k0_off1292 v10914 v11026) a + S1x48x512.size a ≤ S64x64x512.size a)
theorem k0_off1292_inb : ∀ (v10914 : BitVec 32) (v11026 : BitVec 32) (k0_hw881 : k0_chk881 v10914 v11026), ∀ a, (k0_off1292 v10914 v11026) a + S1x48x512.size a ≤ S64x64x512.size a := fun v10914 v11026 k0_hw881 => k0_hw881

def k0_off1293 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4700 : BitVec 32 := 58#32
  let v11046 : BitVec 32 := Scalar.addi v5 c58_i32_4700
  let c7_i32_4701 : BitVec 32 := 7#32
  let v11047 : BitVec 32 := Scalar.muli v11046 c7_i32_4701
  let c5_i32_4702 : BitVec 32 := 5#32
  let v11048 : BitVec 32 := Scalar.addi v11047 c5_i32_4702
  let v11049 : Index := Scalar.indexCast v11048
  ![v11049.toNat]
def k0_off1294 (v10914 : BitVec 32) (v11050 : BitVec 32) : Fin 3 → Nat :=
  let v11056 : Index := Scalar.indexCast v11050
  let v10915 : BitVec 32 := v10914
  let v11057 : Index := Scalar.indexCast v10915
  let c0_4703 : Index := 0#32
  ![v11056.toNat, v11057.toNat, 0]

def k0_chk882 (v10914 : BitVec 32) (v11050 : BitVec 32) : Prop :=
  (∀ a, (k0_off1294 v10914 v11050) a + S1x48x512.size a ≤ S64x64x512.size a)
theorem k0_off1294_inb : ∀ (v10914 : BitVec 32) (v11050 : BitVec 32) (k0_hw882 : k0_chk882 v10914 v11050), ∀ a, (k0_off1294 v10914 v11050) a + S1x48x512.size a ≤ S64x64x512.size a := fun v10914 v11050 k0_hw882 => k0_hw882

def k0_off1295 (v10914 : BitVec 32) (v11052 : BitVec 32) : Fin 3 → Nat :=
  let v11060 : Index := Scalar.indexCast v11052
  let v10915 : BitVec 32 := v10914
  let v11061 : Index := Scalar.indexCast v10915
  let c0_4704 : Index := 0#32
  ![v11060.toNat, v11061.toNat, 0]

def k0_chk883 (v10914 : BitVec 32) (v11052 : BitVec 32) : Prop :=
  (∀ a, (k0_off1295 v10914 v11052) a + S1x48x512.size a ≤ S64x64x512.size a)
theorem k0_off1295_inb : ∀ (v10914 : BitVec 32) (v11052 : BitVec 32) (k0_hw883 : k0_chk883 v10914 v11052), ∀ a, (k0_off1295 v10914 v11052) a + S1x48x512.size a ≤ S64x64x512.size a := fun v10914 v11052 k0_hw883 => k0_hw883

def k0_off1296 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c58_i32_4711 : BitVec 32 := 58#32
  let v11072 : BitVec 32 := Scalar.addi v5 c58_i32_4711
  let c7_i32_4712 : BitVec 32 := 7#32
  let v11073 : BitVec 32 := Scalar.muli v11072 c7_i32_4712
  let c6_i32_4713 : BitVec 32 := 6#32
  let v11074 : BitVec 32 := Scalar.addi v11073 c6_i32_4713
  let v11075 : Index := Scalar.indexCast v11074
  ![v11075.toNat]
def k0_off1297 (v10914 : BitVec 32) (v11076 : BitVec 32) : Fin 3 → Nat :=
  let v11082 : Index := Scalar.indexCast v11076
  let v10915 : BitVec 32 := v10914
  let v11083 : Index := Scalar.indexCast v10915
  let c0_4714 : Index := 0#32
  ![v11082.toNat, v11083.toNat, 0]

def k0_chk884 (v10914 : BitVec 32) (v11076 : BitVec 32) : Prop :=
  (∀ a, (k0_off1297 v10914 v11076) a + S1x48x512.size a ≤ S64x64x512.size a)
theorem k0_off1297_inb : ∀ (v10914 : BitVec 32) (v11076 : BitVec 32) (k0_hw884 : k0_chk884 v10914 v11076), ∀ a, (k0_off1297 v10914 v11076) a + S1x48x512.size a ≤ S64x64x512.size a := fun v10914 v11076 k0_hw884 => k0_hw884

def k0_off1298 (v10914 : BitVec 32) (v11078 : BitVec 32) : Fin 3 → Nat :=
  let v11086 : Index := Scalar.indexCast v11078
  let v10915 : BitVec 32 := v10914
  let v11087 : Index := Scalar.indexCast v10915
  let c0_4715 : Index := 0#32
  ![v11086.toNat, v11087.toNat, 0]

def k0_chk885 (v10914 : BitVec 32) (v11078 : BitVec 32) : Prop :=
  (∀ a, (k0_off1298 v10914 v11078) a + S1x48x512.size a ≤ S64x64x512.size a)
theorem k0_off1298_inb : ∀ (v10914 : BitVec 32) (v11078 : BitVec 32) (k0_hw885 : k0_chk885 v10914 v11078), ∀ a, (k0_off1298 v10914 v11078) a + S1x48x512.size a ≤ S64x64x512.size a := fun v10914 v11078 k0_hw885 => k0_hw885

def k0_off1299 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32 : BitVec 32 := 59#32
  let v11100 : BitVec 32 := Scalar.addi v5 c59_i32
  let v11101 : Index := Scalar.indexCast v11100
  ![v11101.toNat]
def k0_mult60 (v11102 : BitVec 32) : BitVec 32 :=
  v11102

def k0_chk886 (v11102 : BitVec 32) : Prop :=
  (16 ∣ (k0_mult60 v11102).toNat)
theorem k0_mult60_dvd : ∀ (v11102 : BitVec 32) (k0_hw886 : k0_chk886 v11102), 16 ∣ (k0_mult60 v11102).toNat := fun v11102 k0_hw886 => k0_hw886

def k0_off1300 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4725 : BitVec 32 := 59#32
  let v11104 : BitVec 32 := Scalar.addi v5 c59_i32_4725
  let c7_i32_4726 : BitVec 32 := 7#32
  let v11105 : BitVec 32 := Scalar.muli v11104 c7_i32_4726
  let c0_i32_4727 : BitVec 32 := 0#32
  let v11106 : BitVec 32 := Scalar.addi v11105 c0_i32_4727
  let v11107 : Index := Scalar.indexCast v11106
  ![v11107.toNat]
def k0_off1301 (v11102 : BitVec 32) (v11108 : BitVec 32) : Fin 3 → Nat :=
  let v11114 : Index := Scalar.indexCast v11108
  let v11103 : BitVec 32 := v11102
  let v11115 : Index := Scalar.indexCast v11103
  let c0_4728 : Index := 0#32
  ![v11114.toNat, v11115.toNat, 0]

def k0_chk887 (v11102 : BitVec 32) (v11108 : BitVec 32) : Prop :=
  (∀ a, (k0_off1301 v11102 v11108) a + S1x48x512.size a ≤ S64x64x512.size a)
theorem k0_off1301_inb : ∀ (v11102 : BitVec 32) (v11108 : BitVec 32) (k0_hw887 : k0_chk887 v11102 v11108), ∀ a, (k0_off1301 v11102 v11108) a + S1x48x512.size a ≤ S64x64x512.size a := fun v11102 v11108 k0_hw887 => k0_hw887

def k0_off1302 (v11102 : BitVec 32) (v11110 : BitVec 32) : Fin 3 → Nat :=
  let v11118 : Index := Scalar.indexCast v11110
  let v11103 : BitVec 32 := v11102
  let v11119 : Index := Scalar.indexCast v11103
  let c0_4729 : Index := 0#32
  ![v11118.toNat, v11119.toNat, 0]

def k0_chk888 (v11102 : BitVec 32) (v11110 : BitVec 32) : Prop :=
  (∀ a, (k0_off1302 v11102 v11110) a + S1x48x512.size a ≤ S64x64x512.size a)
theorem k0_off1302_inb : ∀ (v11102 : BitVec 32) (v11110 : BitVec 32) (k0_hw888 : k0_chk888 v11102 v11110), ∀ a, (k0_off1302 v11102 v11110) a + S1x48x512.size a ≤ S64x64x512.size a := fun v11102 v11110 k0_hw888 => k0_hw888

def k0_off1303 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4736 : BitVec 32 := 59#32
  let v11130 : BitVec 32 := Scalar.addi v5 c59_i32_4736
  let c7_i32_4737 : BitVec 32 := 7#32
  let v11131 : BitVec 32 := Scalar.muli v11130 c7_i32_4737
  let c1_i32_4738 : BitVec 32 := 1#32
  let v11132 : BitVec 32 := Scalar.addi v11131 c1_i32_4738
  let v11133 : Index := Scalar.indexCast v11132
  ![v11133.toNat]
def k0_off1304 (v11102 : BitVec 32) (v11134 : BitVec 32) : Fin 3 → Nat :=
  let v11140 : Index := Scalar.indexCast v11134
  let v11103 : BitVec 32 := v11102
  let v11141 : Index := Scalar.indexCast v11103
  let c0_4739 : Index := 0#32
  ![v11140.toNat, v11141.toNat, 0]

def k0_chk889 (v11102 : BitVec 32) (v11134 : BitVec 32) : Prop :=
  (∀ a, (k0_off1304 v11102 v11134) a + S1x48x512.size a ≤ S64x64x512.size a)
theorem k0_off1304_inb : ∀ (v11102 : BitVec 32) (v11134 : BitVec 32) (k0_hw889 : k0_chk889 v11102 v11134), ∀ a, (k0_off1304 v11102 v11134) a + S1x48x512.size a ≤ S64x64x512.size a := fun v11102 v11134 k0_hw889 => k0_hw889

def k0_off1305 (v11102 : BitVec 32) (v11136 : BitVec 32) : Fin 3 → Nat :=
  let v11144 : Index := Scalar.indexCast v11136
  let v11103 : BitVec 32 := v11102
  let v11145 : Index := Scalar.indexCast v11103
  let c0_4740 : Index := 0#32
  ![v11144.toNat, v11145.toNat, 0]

def k0_chk890 (v11102 : BitVec 32) (v11136 : BitVec 32) : Prop :=
  (∀ a, (k0_off1305 v11102 v11136) a + S1x48x512.size a ≤ S64x64x512.size a)
theorem k0_off1305_inb : ∀ (v11102 : BitVec 32) (v11136 : BitVec 32) (k0_hw890 : k0_chk890 v11102 v11136), ∀ a, (k0_off1305 v11102 v11136) a + S1x48x512.size a ≤ S64x64x512.size a := fun v11102 v11136 k0_hw890 => k0_hw890

def k0_off1306 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4747 : BitVec 32 := 59#32
  let v11156 : BitVec 32 := Scalar.addi v5 c59_i32_4747
  let c7_i32_4748 : BitVec 32 := 7#32
  let v11157 : BitVec 32 := Scalar.muli v11156 c7_i32_4748
  let c2_i32_4749 : BitVec 32 := 2#32
  let v11158 : BitVec 32 := Scalar.addi v11157 c2_i32_4749
  let v11159 : Index := Scalar.indexCast v11158
  ![v11159.toNat]
def k0_off1307 (v11102 : BitVec 32) (v11160 : BitVec 32) : Fin 3 → Nat :=
  let v11166 : Index := Scalar.indexCast v11160
  let v11103 : BitVec 32 := v11102
  let v11167 : Index := Scalar.indexCast v11103
  let c0_4750 : Index := 0#32
  ![v11166.toNat, v11167.toNat, 0]

def k0_chk891 (v11102 : BitVec 32) (v11160 : BitVec 32) : Prop :=
  (∀ a, (k0_off1307 v11102 v11160) a + S1x48x512.size a ≤ S64x64x512.size a)
theorem k0_off1307_inb : ∀ (v11102 : BitVec 32) (v11160 : BitVec 32) (k0_hw891 : k0_chk891 v11102 v11160), ∀ a, (k0_off1307 v11102 v11160) a + S1x48x512.size a ≤ S64x64x512.size a := fun v11102 v11160 k0_hw891 => k0_hw891

def k0_off1308 (v11102 : BitVec 32) (v11162 : BitVec 32) : Fin 3 → Nat :=
  let v11170 : Index := Scalar.indexCast v11162
  let v11103 : BitVec 32 := v11102
  let v11171 : Index := Scalar.indexCast v11103
  let c0_4751 : Index := 0#32
  ![v11170.toNat, v11171.toNat, 0]

def k0_chk892 (v11102 : BitVec 32) (v11162 : BitVec 32) : Prop :=
  (∀ a, (k0_off1308 v11102 v11162) a + S1x48x512.size a ≤ S64x64x512.size a)
theorem k0_off1308_inb : ∀ (v11102 : BitVec 32) (v11162 : BitVec 32) (k0_hw892 : k0_chk892 v11102 v11162), ∀ a, (k0_off1308 v11102 v11162) a + S1x48x512.size a ≤ S64x64x512.size a := fun v11102 v11162 k0_hw892 => k0_hw892

def k0_off1309 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4758 : BitVec 32 := 59#32
  let v11182 : BitVec 32 := Scalar.addi v5 c59_i32_4758
  let c7_i32_4759 : BitVec 32 := 7#32
  let v11183 : BitVec 32 := Scalar.muli v11182 c7_i32_4759
  let c3_i32_4760 : BitVec 32 := 3#32
  let v11184 : BitVec 32 := Scalar.addi v11183 c3_i32_4760
  let v11185 : Index := Scalar.indexCast v11184
  ![v11185.toNat]
def k0_off1310 (v11102 : BitVec 32) (v11186 : BitVec 32) : Fin 3 → Nat :=
  let v11192 : Index := Scalar.indexCast v11186
  let v11103 : BitVec 32 := v11102
  let v11193 : Index := Scalar.indexCast v11103
  let c0_4761 : Index := 0#32
  ![v11192.toNat, v11193.toNat, 0]

def k0_chk893 (v11102 : BitVec 32) (v11186 : BitVec 32) : Prop :=
  (∀ a, (k0_off1310 v11102 v11186) a + S1x48x512.size a ≤ S64x64x512.size a)
theorem k0_off1310_inb : ∀ (v11102 : BitVec 32) (v11186 : BitVec 32) (k0_hw893 : k0_chk893 v11102 v11186), ∀ a, (k0_off1310 v11102 v11186) a + S1x48x512.size a ≤ S64x64x512.size a := fun v11102 v11186 k0_hw893 => k0_hw893

def k0_off1311 (v11102 : BitVec 32) (v11188 : BitVec 32) : Fin 3 → Nat :=
  let v11196 : Index := Scalar.indexCast v11188
  let v11103 : BitVec 32 := v11102
  let v11197 : Index := Scalar.indexCast v11103
  let c0_4762 : Index := 0#32
  ![v11196.toNat, v11197.toNat, 0]

def k0_chk894 (v11102 : BitVec 32) (v11188 : BitVec 32) : Prop :=
  (∀ a, (k0_off1311 v11102 v11188) a + S1x48x512.size a ≤ S64x64x512.size a)
theorem k0_off1311_inb : ∀ (v11102 : BitVec 32) (v11188 : BitVec 32) (k0_hw894 : k0_chk894 v11102 v11188), ∀ a, (k0_off1311 v11102 v11188) a + S1x48x512.size a ≤ S64x64x512.size a := fun v11102 v11188 k0_hw894 => k0_hw894

def k0_off1312 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4769 : BitVec 32 := 59#32
  let v11208 : BitVec 32 := Scalar.addi v5 c59_i32_4769
  let c7_i32_4770 : BitVec 32 := 7#32
  let v11209 : BitVec 32 := Scalar.muli v11208 c7_i32_4770
  let c4_i32_4771 : BitVec 32 := 4#32
  let v11210 : BitVec 32 := Scalar.addi v11209 c4_i32_4771
  let v11211 : Index := Scalar.indexCast v11210
  ![v11211.toNat]
def k0_off1313 (v11102 : BitVec 32) (v11212 : BitVec 32) : Fin 3 → Nat :=
  let v11218 : Index := Scalar.indexCast v11212
  let v11103 : BitVec 32 := v11102
  let v11219 : Index := Scalar.indexCast v11103
  let c0_4772 : Index := 0#32
  ![v11218.toNat, v11219.toNat, 0]

def k0_chk895 (v11102 : BitVec 32) (v11212 : BitVec 32) : Prop :=
  (∀ a, (k0_off1313 v11102 v11212) a + S1x48x512.size a ≤ S64x64x512.size a)
theorem k0_off1313_inb : ∀ (v11102 : BitVec 32) (v11212 : BitVec 32) (k0_hw895 : k0_chk895 v11102 v11212), ∀ a, (k0_off1313 v11102 v11212) a + S1x48x512.size a ≤ S64x64x512.size a := fun v11102 v11212 k0_hw895 => k0_hw895

def k0_off1314 (v11102 : BitVec 32) (v11214 : BitVec 32) : Fin 3 → Nat :=
  let v11222 : Index := Scalar.indexCast v11214
  let v11103 : BitVec 32 := v11102
  let v11223 : Index := Scalar.indexCast v11103
  let c0_4773 : Index := 0#32
  ![v11222.toNat, v11223.toNat, 0]

def k0_chk896 (v11102 : BitVec 32) (v11214 : BitVec 32) : Prop :=
  (∀ a, (k0_off1314 v11102 v11214) a + S1x48x512.size a ≤ S64x64x512.size a)
theorem k0_off1314_inb : ∀ (v11102 : BitVec 32) (v11214 : BitVec 32) (k0_hw896 : k0_chk896 v11102 v11214), ∀ a, (k0_off1314 v11102 v11214) a + S1x48x512.size a ≤ S64x64x512.size a := fun v11102 v11214 k0_hw896 => k0_hw896

def k0_off1315 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4780 : BitVec 32 := 59#32
  let v11234 : BitVec 32 := Scalar.addi v5 c59_i32_4780
  let c7_i32_4781 : BitVec 32 := 7#32
  let v11235 : BitVec 32 := Scalar.muli v11234 c7_i32_4781
  let c5_i32_4782 : BitVec 32 := 5#32
  let v11236 : BitVec 32 := Scalar.addi v11235 c5_i32_4782
  let v11237 : Index := Scalar.indexCast v11236
  ![v11237.toNat]
def k0_off1316 (v11102 : BitVec 32) (v11238 : BitVec 32) : Fin 3 → Nat :=
  let v11244 : Index := Scalar.indexCast v11238
  let v11103 : BitVec 32 := v11102
  let v11245 : Index := Scalar.indexCast v11103
  let c0_4783 : Index := 0#32
  ![v11244.toNat, v11245.toNat, 0]

def k0_chk897 (v11102 : BitVec 32) (v11238 : BitVec 32) : Prop :=
  (∀ a, (k0_off1316 v11102 v11238) a + S1x48x512.size a ≤ S64x64x512.size a)
theorem k0_off1316_inb : ∀ (v11102 : BitVec 32) (v11238 : BitVec 32) (k0_hw897 : k0_chk897 v11102 v11238), ∀ a, (k0_off1316 v11102 v11238) a + S1x48x512.size a ≤ S64x64x512.size a := fun v11102 v11238 k0_hw897 => k0_hw897

def k0_off1317 (v11102 : BitVec 32) (v11240 : BitVec 32) : Fin 3 → Nat :=
  let v11248 : Index := Scalar.indexCast v11240
  let v11103 : BitVec 32 := v11102
  let v11249 : Index := Scalar.indexCast v11103
  let c0_4784 : Index := 0#32
  ![v11248.toNat, v11249.toNat, 0]

def k0_chk898 (v11102 : BitVec 32) (v11240 : BitVec 32) : Prop :=
  (∀ a, (k0_off1317 v11102 v11240) a + S1x48x512.size a ≤ S64x64x512.size a)
theorem k0_off1317_inb : ∀ (v11102 : BitVec 32) (v11240 : BitVec 32) (k0_hw898 : k0_chk898 v11102 v11240), ∀ a, (k0_off1317 v11102 v11240) a + S1x48x512.size a ≤ S64x64x512.size a := fun v11102 v11240 k0_hw898 => k0_hw898

def k0_off1318 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c59_i32_4791 : BitVec 32 := 59#32
  let v11260 : BitVec 32 := Scalar.addi v5 c59_i32_4791
  let c7_i32_4792 : BitVec 32 := 7#32
  let v11261 : BitVec 32 := Scalar.muli v11260 c7_i32_4792
  let c6_i32_4793 : BitVec 32 := 6#32
  let v11262 : BitVec 32 := Scalar.addi v11261 c6_i32_4793
  let v11263 : Index := Scalar.indexCast v11262
  ![v11263.toNat]
def k0_off1319 (v11102 : BitVec 32) (v11264 : BitVec 32) : Fin 3 → Nat :=
  let v11270 : Index := Scalar.indexCast v11264
  let v11103 : BitVec 32 := v11102
  let v11271 : Index := Scalar.indexCast v11103
  let c0_4794 : Index := 0#32
  ![v11270.toNat, v11271.toNat, 0]

def k0_chk899 (v11102 : BitVec 32) (v11264 : BitVec 32) : Prop :=
  (∀ a, (k0_off1319 v11102 v11264) a + S1x48x512.size a ≤ S64x64x512.size a)
theorem k0_off1319_inb : ∀ (v11102 : BitVec 32) (v11264 : BitVec 32) (k0_hw899 : k0_chk899 v11102 v11264), ∀ a, (k0_off1319 v11102 v11264) a + S1x48x512.size a ≤ S64x64x512.size a := fun v11102 v11264 k0_hw899 => k0_hw899

def k0_off1320 (v11102 : BitVec 32) (v11266 : BitVec 32) : Fin 3 → Nat :=
  let v11274 : Index := Scalar.indexCast v11266
  let v11103 : BitVec 32 := v11102
  let v11275 : Index := Scalar.indexCast v11103
  let c0_4795 : Index := 0#32
  ![v11274.toNat, v11275.toNat, 0]

def k0_chk900 (v11102 : BitVec 32) (v11266 : BitVec 32) : Prop :=
  (∀ a, (k0_off1320 v11102 v11266) a + S1x48x512.size a ≤ S64x64x512.size a)
theorem k0_off1320_inb : ∀ (v11102 : BitVec 32) (v11266 : BitVec 32) (k0_hw900 : k0_chk900 v11102 v11266), ∀ a, (k0_off1320 v11102 v11266) a + S1x48x512.size a ≤ S64x64x512.size a := fun v11102 v11266 k0_hw900 => k0_hw900

def k0_off1321 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32 : BitVec 32 := 60#32
  let v11288 : BitVec 32 := Scalar.addi v5 c60_i32
  let v11289 : Index := Scalar.indexCast v11288
  ![v11289.toNat]
def k0_mult61 (v11290 : BitVec 32) : BitVec 32 :=
  v11290

def k0_chk901 (v11290 : BitVec 32) : Prop :=
  (16 ∣ (k0_mult61 v11290).toNat)
theorem k0_mult61_dvd : ∀ (v11290 : BitVec 32) (k0_hw901 : k0_chk901 v11290), 16 ∣ (k0_mult61 v11290).toNat := fun v11290 k0_hw901 => k0_hw901

def k0_off1322 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4805 : BitVec 32 := 60#32
  let v11292 : BitVec 32 := Scalar.addi v5 c60_i32_4805
  let c7_i32_4806 : BitVec 32 := 7#32
  let v11293 : BitVec 32 := Scalar.muli v11292 c7_i32_4806
  let c0_i32_4807 : BitVec 32 := 0#32
  let v11294 : BitVec 32 := Scalar.addi v11293 c0_i32_4807
  let v11295 : Index := Scalar.indexCast v11294
  ![v11295.toNat]
def k0_off1323 (v11290 : BitVec 32) (v11296 : BitVec 32) : Fin 3 → Nat :=
  let v11302 : Index := Scalar.indexCast v11296
  let v11291 : BitVec 32 := v11290
  let v11303 : Index := Scalar.indexCast v11291
  let c0_4808 : Index := 0#32
  ![v11302.toNat, v11303.toNat, 0]

def k0_chk902 (v11290 : BitVec 32) (v11296 : BitVec 32) : Prop :=
  (∀ a, (k0_off1323 v11290 v11296) a + S1x48x512.size a ≤ S64x64x512.size a)
theorem k0_off1323_inb : ∀ (v11290 : BitVec 32) (v11296 : BitVec 32) (k0_hw902 : k0_chk902 v11290 v11296), ∀ a, (k0_off1323 v11290 v11296) a + S1x48x512.size a ≤ S64x64x512.size a := fun v11290 v11296 k0_hw902 => k0_hw902

def k0_off1324 (v11290 : BitVec 32) (v11298 : BitVec 32) : Fin 3 → Nat :=
  let v11306 : Index := Scalar.indexCast v11298
  let v11291 : BitVec 32 := v11290
  let v11307 : Index := Scalar.indexCast v11291
  let c0_4809 : Index := 0#32
  ![v11306.toNat, v11307.toNat, 0]

def k0_chk903 (v11290 : BitVec 32) (v11298 : BitVec 32) : Prop :=
  (∀ a, (k0_off1324 v11290 v11298) a + S1x48x512.size a ≤ S64x64x512.size a)
theorem k0_off1324_inb : ∀ (v11290 : BitVec 32) (v11298 : BitVec 32) (k0_hw903 : k0_chk903 v11290 v11298), ∀ a, (k0_off1324 v11290 v11298) a + S1x48x512.size a ≤ S64x64x512.size a := fun v11290 v11298 k0_hw903 => k0_hw903

def k0_off1325 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4816 : BitVec 32 := 60#32
  let v11318 : BitVec 32 := Scalar.addi v5 c60_i32_4816
  let c7_i32_4817 : BitVec 32 := 7#32
  let v11319 : BitVec 32 := Scalar.muli v11318 c7_i32_4817
  let c1_i32_4818 : BitVec 32 := 1#32
  let v11320 : BitVec 32 := Scalar.addi v11319 c1_i32_4818
  let v11321 : Index := Scalar.indexCast v11320
  ![v11321.toNat]
def k0_off1326 (v11290 : BitVec 32) (v11322 : BitVec 32) : Fin 3 → Nat :=
  let v11328 : Index := Scalar.indexCast v11322
  let v11291 : BitVec 32 := v11290
  let v11329 : Index := Scalar.indexCast v11291
  let c0_4819 : Index := 0#32
  ![v11328.toNat, v11329.toNat, 0]

def k0_chk904 (v11290 : BitVec 32) (v11322 : BitVec 32) : Prop :=
  (∀ a, (k0_off1326 v11290 v11322) a + S1x48x512.size a ≤ S64x64x512.size a)
theorem k0_off1326_inb : ∀ (v11290 : BitVec 32) (v11322 : BitVec 32) (k0_hw904 : k0_chk904 v11290 v11322), ∀ a, (k0_off1326 v11290 v11322) a + S1x48x512.size a ≤ S64x64x512.size a := fun v11290 v11322 k0_hw904 => k0_hw904

def k0_off1327 (v11290 : BitVec 32) (v11324 : BitVec 32) : Fin 3 → Nat :=
  let v11332 : Index := Scalar.indexCast v11324
  let v11291 : BitVec 32 := v11290
  let v11333 : Index := Scalar.indexCast v11291
  let c0_4820 : Index := 0#32
  ![v11332.toNat, v11333.toNat, 0]

def k0_chk905 (v11290 : BitVec 32) (v11324 : BitVec 32) : Prop :=
  (∀ a, (k0_off1327 v11290 v11324) a + S1x48x512.size a ≤ S64x64x512.size a)
theorem k0_off1327_inb : ∀ (v11290 : BitVec 32) (v11324 : BitVec 32) (k0_hw905 : k0_chk905 v11290 v11324), ∀ a, (k0_off1327 v11290 v11324) a + S1x48x512.size a ≤ S64x64x512.size a := fun v11290 v11324 k0_hw905 => k0_hw905

def k0_off1328 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4827 : BitVec 32 := 60#32
  let v11344 : BitVec 32 := Scalar.addi v5 c60_i32_4827
  let c7_i32_4828 : BitVec 32 := 7#32
  let v11345 : BitVec 32 := Scalar.muli v11344 c7_i32_4828
  let c2_i32_4829 : BitVec 32 := 2#32
  let v11346 : BitVec 32 := Scalar.addi v11345 c2_i32_4829
  let v11347 : Index := Scalar.indexCast v11346
  ![v11347.toNat]
def k0_off1329 (v11290 : BitVec 32) (v11348 : BitVec 32) : Fin 3 → Nat :=
  let v11354 : Index := Scalar.indexCast v11348
  let v11291 : BitVec 32 := v11290
  let v11355 : Index := Scalar.indexCast v11291
  let c0_4830 : Index := 0#32
  ![v11354.toNat, v11355.toNat, 0]

def k0_chk906 (v11290 : BitVec 32) (v11348 : BitVec 32) : Prop :=
  (∀ a, (k0_off1329 v11290 v11348) a + S1x48x512.size a ≤ S64x64x512.size a)
theorem k0_off1329_inb : ∀ (v11290 : BitVec 32) (v11348 : BitVec 32) (k0_hw906 : k0_chk906 v11290 v11348), ∀ a, (k0_off1329 v11290 v11348) a + S1x48x512.size a ≤ S64x64x512.size a := fun v11290 v11348 k0_hw906 => k0_hw906

def k0_off1330 (v11290 : BitVec 32) (v11350 : BitVec 32) : Fin 3 → Nat :=
  let v11358 : Index := Scalar.indexCast v11350
  let v11291 : BitVec 32 := v11290
  let v11359 : Index := Scalar.indexCast v11291
  let c0_4831 : Index := 0#32
  ![v11358.toNat, v11359.toNat, 0]

def k0_chk907 (v11290 : BitVec 32) (v11350 : BitVec 32) : Prop :=
  (∀ a, (k0_off1330 v11290 v11350) a + S1x48x512.size a ≤ S64x64x512.size a)
theorem k0_off1330_inb : ∀ (v11290 : BitVec 32) (v11350 : BitVec 32) (k0_hw907 : k0_chk907 v11290 v11350), ∀ a, (k0_off1330 v11290 v11350) a + S1x48x512.size a ≤ S64x64x512.size a := fun v11290 v11350 k0_hw907 => k0_hw907

def k0_off1331 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4838 : BitVec 32 := 60#32
  let v11370 : BitVec 32 := Scalar.addi v5 c60_i32_4838
  let c7_i32_4839 : BitVec 32 := 7#32
  let v11371 : BitVec 32 := Scalar.muli v11370 c7_i32_4839
  let c3_i32_4840 : BitVec 32 := 3#32
  let v11372 : BitVec 32 := Scalar.addi v11371 c3_i32_4840
  let v11373 : Index := Scalar.indexCast v11372
  ![v11373.toNat]
def k0_off1332 (v11290 : BitVec 32) (v11374 : BitVec 32) : Fin 3 → Nat :=
  let v11380 : Index := Scalar.indexCast v11374
  let v11291 : BitVec 32 := v11290
  let v11381 : Index := Scalar.indexCast v11291
  let c0_4841 : Index := 0#32
  ![v11380.toNat, v11381.toNat, 0]

def k0_chk908 (v11290 : BitVec 32) (v11374 : BitVec 32) : Prop :=
  (∀ a, (k0_off1332 v11290 v11374) a + S1x48x512.size a ≤ S64x64x512.size a)
theorem k0_off1332_inb : ∀ (v11290 : BitVec 32) (v11374 : BitVec 32) (k0_hw908 : k0_chk908 v11290 v11374), ∀ a, (k0_off1332 v11290 v11374) a + S1x48x512.size a ≤ S64x64x512.size a := fun v11290 v11374 k0_hw908 => k0_hw908

def k0_off1333 (v11290 : BitVec 32) (v11376 : BitVec 32) : Fin 3 → Nat :=
  let v11384 : Index := Scalar.indexCast v11376
  let v11291 : BitVec 32 := v11290
  let v11385 : Index := Scalar.indexCast v11291
  let c0_4842 : Index := 0#32
  ![v11384.toNat, v11385.toNat, 0]

def k0_chk909 (v11290 : BitVec 32) (v11376 : BitVec 32) : Prop :=
  (∀ a, (k0_off1333 v11290 v11376) a + S1x48x512.size a ≤ S64x64x512.size a)
theorem k0_off1333_inb : ∀ (v11290 : BitVec 32) (v11376 : BitVec 32) (k0_hw909 : k0_chk909 v11290 v11376), ∀ a, (k0_off1333 v11290 v11376) a + S1x48x512.size a ≤ S64x64x512.size a := fun v11290 v11376 k0_hw909 => k0_hw909

def k0_off1334 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4849 : BitVec 32 := 60#32
  let v11396 : BitVec 32 := Scalar.addi v5 c60_i32_4849
  let c7_i32_4850 : BitVec 32 := 7#32
  let v11397 : BitVec 32 := Scalar.muli v11396 c7_i32_4850
  let c4_i32_4851 : BitVec 32 := 4#32
  let v11398 : BitVec 32 := Scalar.addi v11397 c4_i32_4851
  let v11399 : Index := Scalar.indexCast v11398
  ![v11399.toNat]
def k0_off1335 (v11290 : BitVec 32) (v11400 : BitVec 32) : Fin 3 → Nat :=
  let v11406 : Index := Scalar.indexCast v11400
  let v11291 : BitVec 32 := v11290
  let v11407 : Index := Scalar.indexCast v11291
  let c0_4852 : Index := 0#32
  ![v11406.toNat, v11407.toNat, 0]

def k0_chk910 (v11290 : BitVec 32) (v11400 : BitVec 32) : Prop :=
  (∀ a, (k0_off1335 v11290 v11400) a + S1x48x512.size a ≤ S64x64x512.size a)
theorem k0_off1335_inb : ∀ (v11290 : BitVec 32) (v11400 : BitVec 32) (k0_hw910 : k0_chk910 v11290 v11400), ∀ a, (k0_off1335 v11290 v11400) a + S1x48x512.size a ≤ S64x64x512.size a := fun v11290 v11400 k0_hw910 => k0_hw910

def k0_off1336 (v11290 : BitVec 32) (v11402 : BitVec 32) : Fin 3 → Nat :=
  let v11410 : Index := Scalar.indexCast v11402
  let v11291 : BitVec 32 := v11290
  let v11411 : Index := Scalar.indexCast v11291
  let c0_4853 : Index := 0#32
  ![v11410.toNat, v11411.toNat, 0]

def k0_chk911 (v11290 : BitVec 32) (v11402 : BitVec 32) : Prop :=
  (∀ a, (k0_off1336 v11290 v11402) a + S1x48x512.size a ≤ S64x64x512.size a)
theorem k0_off1336_inb : ∀ (v11290 : BitVec 32) (v11402 : BitVec 32) (k0_hw911 : k0_chk911 v11290 v11402), ∀ a, (k0_off1336 v11290 v11402) a + S1x48x512.size a ≤ S64x64x512.size a := fun v11290 v11402 k0_hw911 => k0_hw911

def k0_off1337 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4860 : BitVec 32 := 60#32
  let v11422 : BitVec 32 := Scalar.addi v5 c60_i32_4860
  let c7_i32_4861 : BitVec 32 := 7#32
  let v11423 : BitVec 32 := Scalar.muli v11422 c7_i32_4861
  let c5_i32_4862 : BitVec 32 := 5#32
  let v11424 : BitVec 32 := Scalar.addi v11423 c5_i32_4862
  let v11425 : Index := Scalar.indexCast v11424
  ![v11425.toNat]
def k0_off1338 (v11290 : BitVec 32) (v11426 : BitVec 32) : Fin 3 → Nat :=
  let v11432 : Index := Scalar.indexCast v11426
  let v11291 : BitVec 32 := v11290
  let v11433 : Index := Scalar.indexCast v11291
  let c0_4863 : Index := 0#32
  ![v11432.toNat, v11433.toNat, 0]

def k0_chk912 (v11290 : BitVec 32) (v11426 : BitVec 32) : Prop :=
  (∀ a, (k0_off1338 v11290 v11426) a + S1x48x512.size a ≤ S64x64x512.size a)
theorem k0_off1338_inb : ∀ (v11290 : BitVec 32) (v11426 : BitVec 32) (k0_hw912 : k0_chk912 v11290 v11426), ∀ a, (k0_off1338 v11290 v11426) a + S1x48x512.size a ≤ S64x64x512.size a := fun v11290 v11426 k0_hw912 => k0_hw912

def k0_off1339 (v11290 : BitVec 32) (v11428 : BitVec 32) : Fin 3 → Nat :=
  let v11436 : Index := Scalar.indexCast v11428
  let v11291 : BitVec 32 := v11290
  let v11437 : Index := Scalar.indexCast v11291
  let c0_4864 : Index := 0#32
  ![v11436.toNat, v11437.toNat, 0]

def k0_chk913 (v11290 : BitVec 32) (v11428 : BitVec 32) : Prop :=
  (∀ a, (k0_off1339 v11290 v11428) a + S1x48x512.size a ≤ S64x64x512.size a)
theorem k0_off1339_inb : ∀ (v11290 : BitVec 32) (v11428 : BitVec 32) (k0_hw913 : k0_chk913 v11290 v11428), ∀ a, (k0_off1339 v11290 v11428) a + S1x48x512.size a ≤ S64x64x512.size a := fun v11290 v11428 k0_hw913 => k0_hw913

def k0_off1340 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c60_i32_4871 : BitVec 32 := 60#32
  let v11448 : BitVec 32 := Scalar.addi v5 c60_i32_4871
  let c7_i32_4872 : BitVec 32 := 7#32
  let v11449 : BitVec 32 := Scalar.muli v11448 c7_i32_4872
  let c6_i32_4873 : BitVec 32 := 6#32
  let v11450 : BitVec 32 := Scalar.addi v11449 c6_i32_4873
  let v11451 : Index := Scalar.indexCast v11450
  ![v11451.toNat]
def k0_off1341 (v11290 : BitVec 32) (v11452 : BitVec 32) : Fin 3 → Nat :=
  let v11458 : Index := Scalar.indexCast v11452
  let v11291 : BitVec 32 := v11290
  let v11459 : Index := Scalar.indexCast v11291
  let c0_4874 : Index := 0#32
  ![v11458.toNat, v11459.toNat, 0]

def k0_chk914 (v11290 : BitVec 32) (v11452 : BitVec 32) : Prop :=
  (∀ a, (k0_off1341 v11290 v11452) a + S1x48x512.size a ≤ S64x64x512.size a)
theorem k0_off1341_inb : ∀ (v11290 : BitVec 32) (v11452 : BitVec 32) (k0_hw914 : k0_chk914 v11290 v11452), ∀ a, (k0_off1341 v11290 v11452) a + S1x48x512.size a ≤ S64x64x512.size a := fun v11290 v11452 k0_hw914 => k0_hw914

def k0_off1342 (v11290 : BitVec 32) (v11454 : BitVec 32) : Fin 3 → Nat :=
  let v11462 : Index := Scalar.indexCast v11454
  let v11291 : BitVec 32 := v11290
  let v11463 : Index := Scalar.indexCast v11291
  let c0_4875 : Index := 0#32
  ![v11462.toNat, v11463.toNat, 0]

def k0_chk915 (v11290 : BitVec 32) (v11454 : BitVec 32) : Prop :=
  (∀ a, (k0_off1342 v11290 v11454) a + S1x48x512.size a ≤ S64x64x512.size a)
theorem k0_off1342_inb : ∀ (v11290 : BitVec 32) (v11454 : BitVec 32) (k0_hw915 : k0_chk915 v11290 v11454), ∀ a, (k0_off1342 v11290 v11454) a + S1x48x512.size a ≤ S64x64x512.size a := fun v11290 v11454 k0_hw915 => k0_hw915

def k0_off1343 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32 : BitVec 32 := 61#32
  let v11476 : BitVec 32 := Scalar.addi v5 c61_i32
  let v11477 : Index := Scalar.indexCast v11476
  ![v11477.toNat]
def k0_mult62 (v11478 : BitVec 32) : BitVec 32 :=
  v11478

def k0_chk916 (v11478 : BitVec 32) : Prop :=
  (16 ∣ (k0_mult62 v11478).toNat)
theorem k0_mult62_dvd : ∀ (v11478 : BitVec 32) (k0_hw916 : k0_chk916 v11478), 16 ∣ (k0_mult62 v11478).toNat := fun v11478 k0_hw916 => k0_hw916

def k0_off1344 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4885 : BitVec 32 := 61#32
  let v11480 : BitVec 32 := Scalar.addi v5 c61_i32_4885
  let c7_i32_4886 : BitVec 32 := 7#32
  let v11481 : BitVec 32 := Scalar.muli v11480 c7_i32_4886
  let c0_i32_4887 : BitVec 32 := 0#32
  let v11482 : BitVec 32 := Scalar.addi v11481 c0_i32_4887
  let v11483 : Index := Scalar.indexCast v11482
  ![v11483.toNat]
def k0_off1345 (v11478 : BitVec 32) (v11484 : BitVec 32) : Fin 3 → Nat :=
  let v11490 : Index := Scalar.indexCast v11484
  let v11479 : BitVec 32 := v11478
  let v11491 : Index := Scalar.indexCast v11479
  let c0_4888 : Index := 0#32
  ![v11490.toNat, v11491.toNat, 0]

def k0_chk917 (v11478 : BitVec 32) (v11484 : BitVec 32) : Prop :=
  (∀ a, (k0_off1345 v11478 v11484) a + S1x48x512.size a ≤ S64x64x512.size a)
theorem k0_off1345_inb : ∀ (v11478 : BitVec 32) (v11484 : BitVec 32) (k0_hw917 : k0_chk917 v11478 v11484), ∀ a, (k0_off1345 v11478 v11484) a + S1x48x512.size a ≤ S64x64x512.size a := fun v11478 v11484 k0_hw917 => k0_hw917

def k0_off1346 (v11478 : BitVec 32) (v11486 : BitVec 32) : Fin 3 → Nat :=
  let v11494 : Index := Scalar.indexCast v11486
  let v11479 : BitVec 32 := v11478
  let v11495 : Index := Scalar.indexCast v11479
  let c0_4889 : Index := 0#32
  ![v11494.toNat, v11495.toNat, 0]

def k0_chk918 (v11478 : BitVec 32) (v11486 : BitVec 32) : Prop :=
  (∀ a, (k0_off1346 v11478 v11486) a + S1x48x512.size a ≤ S64x64x512.size a)
theorem k0_off1346_inb : ∀ (v11478 : BitVec 32) (v11486 : BitVec 32) (k0_hw918 : k0_chk918 v11478 v11486), ∀ a, (k0_off1346 v11478 v11486) a + S1x48x512.size a ≤ S64x64x512.size a := fun v11478 v11486 k0_hw918 => k0_hw918

def k0_off1347 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4896 : BitVec 32 := 61#32
  let v11506 : BitVec 32 := Scalar.addi v5 c61_i32_4896
  let c7_i32_4897 : BitVec 32 := 7#32
  let v11507 : BitVec 32 := Scalar.muli v11506 c7_i32_4897
  let c1_i32_4898 : BitVec 32 := 1#32
  let v11508 : BitVec 32 := Scalar.addi v11507 c1_i32_4898
  let v11509 : Index := Scalar.indexCast v11508
  ![v11509.toNat]
def k0_off1348 (v11478 : BitVec 32) (v11510 : BitVec 32) : Fin 3 → Nat :=
  let v11516 : Index := Scalar.indexCast v11510
  let v11479 : BitVec 32 := v11478
  let v11517 : Index := Scalar.indexCast v11479
  let c0_4899 : Index := 0#32
  ![v11516.toNat, v11517.toNat, 0]

def k0_chk919 (v11478 : BitVec 32) (v11510 : BitVec 32) : Prop :=
  (∀ a, (k0_off1348 v11478 v11510) a + S1x48x512.size a ≤ S64x64x512.size a)
theorem k0_off1348_inb : ∀ (v11478 : BitVec 32) (v11510 : BitVec 32) (k0_hw919 : k0_chk919 v11478 v11510), ∀ a, (k0_off1348 v11478 v11510) a + S1x48x512.size a ≤ S64x64x512.size a := fun v11478 v11510 k0_hw919 => k0_hw919

def k0_off1349 (v11478 : BitVec 32) (v11512 : BitVec 32) : Fin 3 → Nat :=
  let v11520 : Index := Scalar.indexCast v11512
  let v11479 : BitVec 32 := v11478
  let v11521 : Index := Scalar.indexCast v11479
  let c0_4900 : Index := 0#32
  ![v11520.toNat, v11521.toNat, 0]

def k0_chk920 (v11478 : BitVec 32) (v11512 : BitVec 32) : Prop :=
  (∀ a, (k0_off1349 v11478 v11512) a + S1x48x512.size a ≤ S64x64x512.size a)
theorem k0_off1349_inb : ∀ (v11478 : BitVec 32) (v11512 : BitVec 32) (k0_hw920 : k0_chk920 v11478 v11512), ∀ a, (k0_off1349 v11478 v11512) a + S1x48x512.size a ≤ S64x64x512.size a := fun v11478 v11512 k0_hw920 => k0_hw920

def k0_off1350 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4907 : BitVec 32 := 61#32
  let v11532 : BitVec 32 := Scalar.addi v5 c61_i32_4907
  let c7_i32_4908 : BitVec 32 := 7#32
  let v11533 : BitVec 32 := Scalar.muli v11532 c7_i32_4908
  let c2_i32_4909 : BitVec 32 := 2#32
  let v11534 : BitVec 32 := Scalar.addi v11533 c2_i32_4909
  let v11535 : Index := Scalar.indexCast v11534
  ![v11535.toNat]
def k0_off1351 (v11478 : BitVec 32) (v11536 : BitVec 32) : Fin 3 → Nat :=
  let v11542 : Index := Scalar.indexCast v11536
  let v11479 : BitVec 32 := v11478
  let v11543 : Index := Scalar.indexCast v11479
  let c0_4910 : Index := 0#32
  ![v11542.toNat, v11543.toNat, 0]

def k0_chk921 (v11478 : BitVec 32) (v11536 : BitVec 32) : Prop :=
  (∀ a, (k0_off1351 v11478 v11536) a + S1x48x512.size a ≤ S64x64x512.size a)
theorem k0_off1351_inb : ∀ (v11478 : BitVec 32) (v11536 : BitVec 32) (k0_hw921 : k0_chk921 v11478 v11536), ∀ a, (k0_off1351 v11478 v11536) a + S1x48x512.size a ≤ S64x64x512.size a := fun v11478 v11536 k0_hw921 => k0_hw921

def k0_off1352 (v11478 : BitVec 32) (v11538 : BitVec 32) : Fin 3 → Nat :=
  let v11546 : Index := Scalar.indexCast v11538
  let v11479 : BitVec 32 := v11478
  let v11547 : Index := Scalar.indexCast v11479
  let c0_4911 : Index := 0#32
  ![v11546.toNat, v11547.toNat, 0]

def k0_chk922 (v11478 : BitVec 32) (v11538 : BitVec 32) : Prop :=
  (∀ a, (k0_off1352 v11478 v11538) a + S1x48x512.size a ≤ S64x64x512.size a)
theorem k0_off1352_inb : ∀ (v11478 : BitVec 32) (v11538 : BitVec 32) (k0_hw922 : k0_chk922 v11478 v11538), ∀ a, (k0_off1352 v11478 v11538) a + S1x48x512.size a ≤ S64x64x512.size a := fun v11478 v11538 k0_hw922 => k0_hw922

def k0_off1353 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4918 : BitVec 32 := 61#32
  let v11558 : BitVec 32 := Scalar.addi v5 c61_i32_4918
  let c7_i32_4919 : BitVec 32 := 7#32
  let v11559 : BitVec 32 := Scalar.muli v11558 c7_i32_4919
  let c3_i32_4920 : BitVec 32 := 3#32
  let v11560 : BitVec 32 := Scalar.addi v11559 c3_i32_4920
  let v11561 : Index := Scalar.indexCast v11560
  ![v11561.toNat]
def k0_off1354 (v11478 : BitVec 32) (v11562 : BitVec 32) : Fin 3 → Nat :=
  let v11568 : Index := Scalar.indexCast v11562
  let v11479 : BitVec 32 := v11478
  let v11569 : Index := Scalar.indexCast v11479
  let c0_4921 : Index := 0#32
  ![v11568.toNat, v11569.toNat, 0]

def k0_chk923 (v11478 : BitVec 32) (v11562 : BitVec 32) : Prop :=
  (∀ a, (k0_off1354 v11478 v11562) a + S1x48x512.size a ≤ S64x64x512.size a)
theorem k0_off1354_inb : ∀ (v11478 : BitVec 32) (v11562 : BitVec 32) (k0_hw923 : k0_chk923 v11478 v11562), ∀ a, (k0_off1354 v11478 v11562) a + S1x48x512.size a ≤ S64x64x512.size a := fun v11478 v11562 k0_hw923 => k0_hw923

def k0_off1355 (v11478 : BitVec 32) (v11564 : BitVec 32) : Fin 3 → Nat :=
  let v11572 : Index := Scalar.indexCast v11564
  let v11479 : BitVec 32 := v11478
  let v11573 : Index := Scalar.indexCast v11479
  let c0_4922 : Index := 0#32
  ![v11572.toNat, v11573.toNat, 0]

def k0_chk924 (v11478 : BitVec 32) (v11564 : BitVec 32) : Prop :=
  (∀ a, (k0_off1355 v11478 v11564) a + S1x48x512.size a ≤ S64x64x512.size a)
theorem k0_off1355_inb : ∀ (v11478 : BitVec 32) (v11564 : BitVec 32) (k0_hw924 : k0_chk924 v11478 v11564), ∀ a, (k0_off1355 v11478 v11564) a + S1x48x512.size a ≤ S64x64x512.size a := fun v11478 v11564 k0_hw924 => k0_hw924

def k0_off1356 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4929 : BitVec 32 := 61#32
  let v11584 : BitVec 32 := Scalar.addi v5 c61_i32_4929
  let c7_i32_4930 : BitVec 32 := 7#32
  let v11585 : BitVec 32 := Scalar.muli v11584 c7_i32_4930
  let c4_i32_4931 : BitVec 32 := 4#32
  let v11586 : BitVec 32 := Scalar.addi v11585 c4_i32_4931
  let v11587 : Index := Scalar.indexCast v11586
  ![v11587.toNat]
def k0_off1357 (v11478 : BitVec 32) (v11588 : BitVec 32) : Fin 3 → Nat :=
  let v11594 : Index := Scalar.indexCast v11588
  let v11479 : BitVec 32 := v11478
  let v11595 : Index := Scalar.indexCast v11479
  let c0_4932 : Index := 0#32
  ![v11594.toNat, v11595.toNat, 0]

def k0_chk925 (v11478 : BitVec 32) (v11588 : BitVec 32) : Prop :=
  (∀ a, (k0_off1357 v11478 v11588) a + S1x48x512.size a ≤ S64x64x512.size a)
theorem k0_off1357_inb : ∀ (v11478 : BitVec 32) (v11588 : BitVec 32) (k0_hw925 : k0_chk925 v11478 v11588), ∀ a, (k0_off1357 v11478 v11588) a + S1x48x512.size a ≤ S64x64x512.size a := fun v11478 v11588 k0_hw925 => k0_hw925

def k0_off1358 (v11478 : BitVec 32) (v11590 : BitVec 32) : Fin 3 → Nat :=
  let v11598 : Index := Scalar.indexCast v11590
  let v11479 : BitVec 32 := v11478
  let v11599 : Index := Scalar.indexCast v11479
  let c0_4933 : Index := 0#32
  ![v11598.toNat, v11599.toNat, 0]

def k0_chk926 (v11478 : BitVec 32) (v11590 : BitVec 32) : Prop :=
  (∀ a, (k0_off1358 v11478 v11590) a + S1x48x512.size a ≤ S64x64x512.size a)
theorem k0_off1358_inb : ∀ (v11478 : BitVec 32) (v11590 : BitVec 32) (k0_hw926 : k0_chk926 v11478 v11590), ∀ a, (k0_off1358 v11478 v11590) a + S1x48x512.size a ≤ S64x64x512.size a := fun v11478 v11590 k0_hw926 => k0_hw926

def k0_off1359 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4940 : BitVec 32 := 61#32
  let v11610 : BitVec 32 := Scalar.addi v5 c61_i32_4940
  let c7_i32_4941 : BitVec 32 := 7#32
  let v11611 : BitVec 32 := Scalar.muli v11610 c7_i32_4941
  let c5_i32_4942 : BitVec 32 := 5#32
  let v11612 : BitVec 32 := Scalar.addi v11611 c5_i32_4942
  let v11613 : Index := Scalar.indexCast v11612
  ![v11613.toNat]
def k0_off1360 (v11478 : BitVec 32) (v11614 : BitVec 32) : Fin 3 → Nat :=
  let v11620 : Index := Scalar.indexCast v11614
  let v11479 : BitVec 32 := v11478
  let v11621 : Index := Scalar.indexCast v11479
  let c0_4943 : Index := 0#32
  ![v11620.toNat, v11621.toNat, 0]

def k0_chk927 (v11478 : BitVec 32) (v11614 : BitVec 32) : Prop :=
  (∀ a, (k0_off1360 v11478 v11614) a + S1x48x512.size a ≤ S64x64x512.size a)
theorem k0_off1360_inb : ∀ (v11478 : BitVec 32) (v11614 : BitVec 32) (k0_hw927 : k0_chk927 v11478 v11614), ∀ a, (k0_off1360 v11478 v11614) a + S1x48x512.size a ≤ S64x64x512.size a := fun v11478 v11614 k0_hw927 => k0_hw927

def k0_off1361 (v11478 : BitVec 32) (v11616 : BitVec 32) : Fin 3 → Nat :=
  let v11624 : Index := Scalar.indexCast v11616
  let v11479 : BitVec 32 := v11478
  let v11625 : Index := Scalar.indexCast v11479
  let c0_4944 : Index := 0#32
  ![v11624.toNat, v11625.toNat, 0]

def k0_chk928 (v11478 : BitVec 32) (v11616 : BitVec 32) : Prop :=
  (∀ a, (k0_off1361 v11478 v11616) a + S1x48x512.size a ≤ S64x64x512.size a)
theorem k0_off1361_inb : ∀ (v11478 : BitVec 32) (v11616 : BitVec 32) (k0_hw928 : k0_chk928 v11478 v11616), ∀ a, (k0_off1361 v11478 v11616) a + S1x48x512.size a ≤ S64x64x512.size a := fun v11478 v11616 k0_hw928 => k0_hw928

def k0_off1362 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c61_i32_4951 : BitVec 32 := 61#32
  let v11636 : BitVec 32 := Scalar.addi v5 c61_i32_4951
  let c7_i32_4952 : BitVec 32 := 7#32
  let v11637 : BitVec 32 := Scalar.muli v11636 c7_i32_4952
  let c6_i32_4953 : BitVec 32 := 6#32
  let v11638 : BitVec 32 := Scalar.addi v11637 c6_i32_4953
  let v11639 : Index := Scalar.indexCast v11638
  ![v11639.toNat]
def k0_off1363 (v11478 : BitVec 32) (v11640 : BitVec 32) : Fin 3 → Nat :=
  let v11646 : Index := Scalar.indexCast v11640
  let v11479 : BitVec 32 := v11478
  let v11647 : Index := Scalar.indexCast v11479
  let c0_4954 : Index := 0#32
  ![v11646.toNat, v11647.toNat, 0]

def k0_chk929 (v11478 : BitVec 32) (v11640 : BitVec 32) : Prop :=
  (∀ a, (k0_off1363 v11478 v11640) a + S1x48x512.size a ≤ S64x64x512.size a)
theorem k0_off1363_inb : ∀ (v11478 : BitVec 32) (v11640 : BitVec 32) (k0_hw929 : k0_chk929 v11478 v11640), ∀ a, (k0_off1363 v11478 v11640) a + S1x48x512.size a ≤ S64x64x512.size a := fun v11478 v11640 k0_hw929 => k0_hw929

def k0_off1364 (v11478 : BitVec 32) (v11642 : BitVec 32) : Fin 3 → Nat :=
  let v11650 : Index := Scalar.indexCast v11642
  let v11479 : BitVec 32 := v11478
  let v11651 : Index := Scalar.indexCast v11479
  let c0_4955 : Index := 0#32
  ![v11650.toNat, v11651.toNat, 0]

def k0_chk930 (v11478 : BitVec 32) (v11642 : BitVec 32) : Prop :=
  (∀ a, (k0_off1364 v11478 v11642) a + S1x48x512.size a ≤ S64x64x512.size a)
theorem k0_off1364_inb : ∀ (v11478 : BitVec 32) (v11642 : BitVec 32) (k0_hw930 : k0_chk930 v11478 v11642), ∀ a, (k0_off1364 v11478 v11642) a + S1x48x512.size a ≤ S64x64x512.size a := fun v11478 v11642 k0_hw930 => k0_hw930

def k0_off1365 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32 : BitVec 32 := 62#32
  let v11664 : BitVec 32 := Scalar.addi v5 c62_i32
  let v11665 : Index := Scalar.indexCast v11664
  ![v11665.toNat]
def k0_mult63 (v11666 : BitVec 32) : BitVec 32 :=
  v11666

def k0_chk931 (v11666 : BitVec 32) : Prop :=
  (16 ∣ (k0_mult63 v11666).toNat)
theorem k0_mult63_dvd : ∀ (v11666 : BitVec 32) (k0_hw931 : k0_chk931 v11666), 16 ∣ (k0_mult63 v11666).toNat := fun v11666 k0_hw931 => k0_hw931

def k0_off1366 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_4965 : BitVec 32 := 62#32
  let v11668 : BitVec 32 := Scalar.addi v5 c62_i32_4965
  let c7_i32_4966 : BitVec 32 := 7#32
  let v11669 : BitVec 32 := Scalar.muli v11668 c7_i32_4966
  let c0_i32_4967 : BitVec 32 := 0#32
  let v11670 : BitVec 32 := Scalar.addi v11669 c0_i32_4967
  let v11671 : Index := Scalar.indexCast v11670
  ![v11671.toNat]
def k0_off1367 (v11666 : BitVec 32) (v11672 : BitVec 32) : Fin 3 → Nat :=
  let v11678 : Index := Scalar.indexCast v11672
  let v11667 : BitVec 32 := v11666
  let v11679 : Index := Scalar.indexCast v11667
  let c0_4968 : Index := 0#32
  ![v11678.toNat, v11679.toNat, 0]

def k0_chk932 (v11666 : BitVec 32) (v11672 : BitVec 32) : Prop :=
  (∀ a, (k0_off1367 v11666 v11672) a + S1x48x512.size a ≤ S64x64x512.size a)
theorem k0_off1367_inb : ∀ (v11666 : BitVec 32) (v11672 : BitVec 32) (k0_hw932 : k0_chk932 v11666 v11672), ∀ a, (k0_off1367 v11666 v11672) a + S1x48x512.size a ≤ S64x64x512.size a := fun v11666 v11672 k0_hw932 => k0_hw932

def k0_off1368 (v11666 : BitVec 32) (v11674 : BitVec 32) : Fin 3 → Nat :=
  let v11682 : Index := Scalar.indexCast v11674
  let v11667 : BitVec 32 := v11666
  let v11683 : Index := Scalar.indexCast v11667
  let c0_4969 : Index := 0#32
  ![v11682.toNat, v11683.toNat, 0]

def k0_chk933 (v11666 : BitVec 32) (v11674 : BitVec 32) : Prop :=
  (∀ a, (k0_off1368 v11666 v11674) a + S1x48x512.size a ≤ S64x64x512.size a)
theorem k0_off1368_inb : ∀ (v11666 : BitVec 32) (v11674 : BitVec 32) (k0_hw933 : k0_chk933 v11666 v11674), ∀ a, (k0_off1368 v11666 v11674) a + S1x48x512.size a ≤ S64x64x512.size a := fun v11666 v11674 k0_hw933 => k0_hw933

def k0_off1369 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_4976 : BitVec 32 := 62#32
  let v11694 : BitVec 32 := Scalar.addi v5 c62_i32_4976
  let c7_i32_4977 : BitVec 32 := 7#32
  let v11695 : BitVec 32 := Scalar.muli v11694 c7_i32_4977
  let c1_i32_4978 : BitVec 32 := 1#32
  let v11696 : BitVec 32 := Scalar.addi v11695 c1_i32_4978
  let v11697 : Index := Scalar.indexCast v11696
  ![v11697.toNat]
def k0_off1370 (v11666 : BitVec 32) (v11698 : BitVec 32) : Fin 3 → Nat :=
  let v11704 : Index := Scalar.indexCast v11698
  let v11667 : BitVec 32 := v11666
  let v11705 : Index := Scalar.indexCast v11667
  let c0_4979 : Index := 0#32
  ![v11704.toNat, v11705.toNat, 0]

def k0_chk934 (v11666 : BitVec 32) (v11698 : BitVec 32) : Prop :=
  (∀ a, (k0_off1370 v11666 v11698) a + S1x48x512.size a ≤ S64x64x512.size a)
theorem k0_off1370_inb : ∀ (v11666 : BitVec 32) (v11698 : BitVec 32) (k0_hw934 : k0_chk934 v11666 v11698), ∀ a, (k0_off1370 v11666 v11698) a + S1x48x512.size a ≤ S64x64x512.size a := fun v11666 v11698 k0_hw934 => k0_hw934

def k0_off1371 (v11666 : BitVec 32) (v11700 : BitVec 32) : Fin 3 → Nat :=
  let v11708 : Index := Scalar.indexCast v11700
  let v11667 : BitVec 32 := v11666
  let v11709 : Index := Scalar.indexCast v11667
  let c0_4980 : Index := 0#32
  ![v11708.toNat, v11709.toNat, 0]

def k0_chk935 (v11666 : BitVec 32) (v11700 : BitVec 32) : Prop :=
  (∀ a, (k0_off1371 v11666 v11700) a + S1x48x512.size a ≤ S64x64x512.size a)
theorem k0_off1371_inb : ∀ (v11666 : BitVec 32) (v11700 : BitVec 32) (k0_hw935 : k0_chk935 v11666 v11700), ∀ a, (k0_off1371 v11666 v11700) a + S1x48x512.size a ≤ S64x64x512.size a := fun v11666 v11700 k0_hw935 => k0_hw935

def k0_off1372 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_4987 : BitVec 32 := 62#32
  let v11720 : BitVec 32 := Scalar.addi v5 c62_i32_4987
  let c7_i32_4988 : BitVec 32 := 7#32
  let v11721 : BitVec 32 := Scalar.muli v11720 c7_i32_4988
  let c2_i32_4989 : BitVec 32 := 2#32
  let v11722 : BitVec 32 := Scalar.addi v11721 c2_i32_4989
  let v11723 : Index := Scalar.indexCast v11722
  ![v11723.toNat]
def k0_off1373 (v11666 : BitVec 32) (v11724 : BitVec 32) : Fin 3 → Nat :=
  let v11730 : Index := Scalar.indexCast v11724
  let v11667 : BitVec 32 := v11666
  let v11731 : Index := Scalar.indexCast v11667
  let c0_4990 : Index := 0#32
  ![v11730.toNat, v11731.toNat, 0]

def k0_chk936 (v11666 : BitVec 32) (v11724 : BitVec 32) : Prop :=
  (∀ a, (k0_off1373 v11666 v11724) a + S1x48x512.size a ≤ S64x64x512.size a)
theorem k0_off1373_inb : ∀ (v11666 : BitVec 32) (v11724 : BitVec 32) (k0_hw936 : k0_chk936 v11666 v11724), ∀ a, (k0_off1373 v11666 v11724) a + S1x48x512.size a ≤ S64x64x512.size a := fun v11666 v11724 k0_hw936 => k0_hw936

def k0_off1374 (v11666 : BitVec 32) (v11726 : BitVec 32) : Fin 3 → Nat :=
  let v11734 : Index := Scalar.indexCast v11726
  let v11667 : BitVec 32 := v11666
  let v11735 : Index := Scalar.indexCast v11667
  let c0_4991 : Index := 0#32
  ![v11734.toNat, v11735.toNat, 0]

def k0_chk937 (v11666 : BitVec 32) (v11726 : BitVec 32) : Prop :=
  (∀ a, (k0_off1374 v11666 v11726) a + S1x48x512.size a ≤ S64x64x512.size a)
theorem k0_off1374_inb : ∀ (v11666 : BitVec 32) (v11726 : BitVec 32) (k0_hw937 : k0_chk937 v11666 v11726), ∀ a, (k0_off1374 v11666 v11726) a + S1x48x512.size a ≤ S64x64x512.size a := fun v11666 v11726 k0_hw937 => k0_hw937

def k0_off1375 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_4998 : BitVec 32 := 62#32
  let v11746 : BitVec 32 := Scalar.addi v5 c62_i32_4998
  let c7_i32_4999 : BitVec 32 := 7#32
  let v11747 : BitVec 32 := Scalar.muli v11746 c7_i32_4999
  let c3_i32_5000 : BitVec 32 := 3#32
  let v11748 : BitVec 32 := Scalar.addi v11747 c3_i32_5000
  let v11749 : Index := Scalar.indexCast v11748
  ![v11749.toNat]
def k0_off1376 (v11666 : BitVec 32) (v11750 : BitVec 32) : Fin 3 → Nat :=
  let v11756 : Index := Scalar.indexCast v11750
  let v11667 : BitVec 32 := v11666
  let v11757 : Index := Scalar.indexCast v11667
  let c0_5001 : Index := 0#32
  ![v11756.toNat, v11757.toNat, 0]

def k0_chk938 (v11666 : BitVec 32) (v11750 : BitVec 32) : Prop :=
  (∀ a, (k0_off1376 v11666 v11750) a + S1x48x512.size a ≤ S64x64x512.size a)
theorem k0_off1376_inb : ∀ (v11666 : BitVec 32) (v11750 : BitVec 32) (k0_hw938 : k0_chk938 v11666 v11750), ∀ a, (k0_off1376 v11666 v11750) a + S1x48x512.size a ≤ S64x64x512.size a := fun v11666 v11750 k0_hw938 => k0_hw938

def k0_off1377 (v11666 : BitVec 32) (v11752 : BitVec 32) : Fin 3 → Nat :=
  let v11760 : Index := Scalar.indexCast v11752
  let v11667 : BitVec 32 := v11666
  let v11761 : Index := Scalar.indexCast v11667
  let c0_5002 : Index := 0#32
  ![v11760.toNat, v11761.toNat, 0]

def k0_chk939 (v11666 : BitVec 32) (v11752 : BitVec 32) : Prop :=
  (∀ a, (k0_off1377 v11666 v11752) a + S1x48x512.size a ≤ S64x64x512.size a)
theorem k0_off1377_inb : ∀ (v11666 : BitVec 32) (v11752 : BitVec 32) (k0_hw939 : k0_chk939 v11666 v11752), ∀ a, (k0_off1377 v11666 v11752) a + S1x48x512.size a ≤ S64x64x512.size a := fun v11666 v11752 k0_hw939 => k0_hw939

def k0_off1378 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_5009 : BitVec 32 := 62#32
  let v11772 : BitVec 32 := Scalar.addi v5 c62_i32_5009
  let c7_i32_5010 : BitVec 32 := 7#32
  let v11773 : BitVec 32 := Scalar.muli v11772 c7_i32_5010
  let c4_i32_5011 : BitVec 32 := 4#32
  let v11774 : BitVec 32 := Scalar.addi v11773 c4_i32_5011
  let v11775 : Index := Scalar.indexCast v11774
  ![v11775.toNat]
def k0_off1379 (v11666 : BitVec 32) (v11776 : BitVec 32) : Fin 3 → Nat :=
  let v11782 : Index := Scalar.indexCast v11776
  let v11667 : BitVec 32 := v11666
  let v11783 : Index := Scalar.indexCast v11667
  let c0_5012 : Index := 0#32
  ![v11782.toNat, v11783.toNat, 0]

def k0_chk940 (v11666 : BitVec 32) (v11776 : BitVec 32) : Prop :=
  (∀ a, (k0_off1379 v11666 v11776) a + S1x48x512.size a ≤ S64x64x512.size a)
theorem k0_off1379_inb : ∀ (v11666 : BitVec 32) (v11776 : BitVec 32) (k0_hw940 : k0_chk940 v11666 v11776), ∀ a, (k0_off1379 v11666 v11776) a + S1x48x512.size a ≤ S64x64x512.size a := fun v11666 v11776 k0_hw940 => k0_hw940

def k0_off1380 (v11666 : BitVec 32) (v11778 : BitVec 32) : Fin 3 → Nat :=
  let v11786 : Index := Scalar.indexCast v11778
  let v11667 : BitVec 32 := v11666
  let v11787 : Index := Scalar.indexCast v11667
  let c0_5013 : Index := 0#32
  ![v11786.toNat, v11787.toNat, 0]

def k0_chk941 (v11666 : BitVec 32) (v11778 : BitVec 32) : Prop :=
  (∀ a, (k0_off1380 v11666 v11778) a + S1x48x512.size a ≤ S64x64x512.size a)
theorem k0_off1380_inb : ∀ (v11666 : BitVec 32) (v11778 : BitVec 32) (k0_hw941 : k0_chk941 v11666 v11778), ∀ a, (k0_off1380 v11666 v11778) a + S1x48x512.size a ≤ S64x64x512.size a := fun v11666 v11778 k0_hw941 => k0_hw941

def k0_off1381 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_5020 : BitVec 32 := 62#32
  let v11798 : BitVec 32 := Scalar.addi v5 c62_i32_5020
  let c7_i32_5021 : BitVec 32 := 7#32
  let v11799 : BitVec 32 := Scalar.muli v11798 c7_i32_5021
  let c5_i32_5022 : BitVec 32 := 5#32
  let v11800 : BitVec 32 := Scalar.addi v11799 c5_i32_5022
  let v11801 : Index := Scalar.indexCast v11800
  ![v11801.toNat]
def k0_off1382 (v11666 : BitVec 32) (v11802 : BitVec 32) : Fin 3 → Nat :=
  let v11808 : Index := Scalar.indexCast v11802
  let v11667 : BitVec 32 := v11666
  let v11809 : Index := Scalar.indexCast v11667
  let c0_5023 : Index := 0#32
  ![v11808.toNat, v11809.toNat, 0]

def k0_chk942 (v11666 : BitVec 32) (v11802 : BitVec 32) : Prop :=
  (∀ a, (k0_off1382 v11666 v11802) a + S1x48x512.size a ≤ S64x64x512.size a)
theorem k0_off1382_inb : ∀ (v11666 : BitVec 32) (v11802 : BitVec 32) (k0_hw942 : k0_chk942 v11666 v11802), ∀ a, (k0_off1382 v11666 v11802) a + S1x48x512.size a ≤ S64x64x512.size a := fun v11666 v11802 k0_hw942 => k0_hw942

def k0_off1383 (v11666 : BitVec 32) (v11804 : BitVec 32) : Fin 3 → Nat :=
  let v11812 : Index := Scalar.indexCast v11804
  let v11667 : BitVec 32 := v11666
  let v11813 : Index := Scalar.indexCast v11667
  let c0_5024 : Index := 0#32
  ![v11812.toNat, v11813.toNat, 0]

def k0_chk943 (v11666 : BitVec 32) (v11804 : BitVec 32) : Prop :=
  (∀ a, (k0_off1383 v11666 v11804) a + S1x48x512.size a ≤ S64x64x512.size a)
theorem k0_off1383_inb : ∀ (v11666 : BitVec 32) (v11804 : BitVec 32) (k0_hw943 : k0_chk943 v11666 v11804), ∀ a, (k0_off1383 v11666 v11804) a + S1x48x512.size a ≤ S64x64x512.size a := fun v11666 v11804 k0_hw943 => k0_hw943

def k0_off1384 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c62_i32_5031 : BitVec 32 := 62#32
  let v11824 : BitVec 32 := Scalar.addi v5 c62_i32_5031
  let c7_i32_5032 : BitVec 32 := 7#32
  let v11825 : BitVec 32 := Scalar.muli v11824 c7_i32_5032
  let c6_i32_5033 : BitVec 32 := 6#32
  let v11826 : BitVec 32 := Scalar.addi v11825 c6_i32_5033
  let v11827 : Index := Scalar.indexCast v11826
  ![v11827.toNat]
def k0_off1385 (v11666 : BitVec 32) (v11828 : BitVec 32) : Fin 3 → Nat :=
  let v11834 : Index := Scalar.indexCast v11828
  let v11667 : BitVec 32 := v11666
  let v11835 : Index := Scalar.indexCast v11667
  let c0_5034 : Index := 0#32
  ![v11834.toNat, v11835.toNat, 0]

def k0_chk944 (v11666 : BitVec 32) (v11828 : BitVec 32) : Prop :=
  (∀ a, (k0_off1385 v11666 v11828) a + S1x48x512.size a ≤ S64x64x512.size a)
theorem k0_off1385_inb : ∀ (v11666 : BitVec 32) (v11828 : BitVec 32) (k0_hw944 : k0_chk944 v11666 v11828), ∀ a, (k0_off1385 v11666 v11828) a + S1x48x512.size a ≤ S64x64x512.size a := fun v11666 v11828 k0_hw944 => k0_hw944

def k0_off1386 (v11666 : BitVec 32) (v11830 : BitVec 32) : Fin 3 → Nat :=
  let v11838 : Index := Scalar.indexCast v11830
  let v11667 : BitVec 32 := v11666
  let v11839 : Index := Scalar.indexCast v11667
  let c0_5035 : Index := 0#32
  ![v11838.toNat, v11839.toNat, 0]

def k0_chk945 (v11666 : BitVec 32) (v11830 : BitVec 32) : Prop :=
  (∀ a, (k0_off1386 v11666 v11830) a + S1x48x512.size a ≤ S64x64x512.size a)
theorem k0_off1386_inb : ∀ (v11666 : BitVec 32) (v11830 : BitVec 32) (k0_hw945 : k0_chk945 v11666 v11830), ∀ a, (k0_off1386 v11666 v11830) a + S1x48x512.size a ≤ S64x64x512.size a := fun v11666 v11830 k0_hw945 => k0_hw945

def k0_off1387 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32 : BitVec 32 := 63#32
  let v11852 : BitVec 32 := Scalar.addi v5 c63_i32
  let v11853 : Index := Scalar.indexCast v11852
  ![v11853.toNat]
def k0_mult64 (v11854 : BitVec 32) : BitVec 32 :=
  v11854

def k0_chk946 (v11854 : BitVec 32) : Prop :=
  (16 ∣ (k0_mult64 v11854).toNat)
theorem k0_mult64_dvd : ∀ (v11854 : BitVec 32) (k0_hw946 : k0_chk946 v11854), 16 ∣ (k0_mult64 v11854).toNat := fun v11854 k0_hw946 => k0_hw946

def k0_off1388 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5045 : BitVec 32 := 63#32
  let v11856 : BitVec 32 := Scalar.addi v5 c63_i32_5045
  let c7_i32_5046 : BitVec 32 := 7#32
  let v11857 : BitVec 32 := Scalar.muli v11856 c7_i32_5046
  let c0_i32_5047 : BitVec 32 := 0#32
  let v11858 : BitVec 32 := Scalar.addi v11857 c0_i32_5047
  let v11859 : Index := Scalar.indexCast v11858
  ![v11859.toNat]
def k0_off1389 (v11854 : BitVec 32) (v11860 : BitVec 32) : Fin 3 → Nat :=
  let v11866 : Index := Scalar.indexCast v11860
  let v11855 : BitVec 32 := v11854
  let v11867 : Index := Scalar.indexCast v11855
  let c0_5048 : Index := 0#32
  ![v11866.toNat, v11867.toNat, 0]

def k0_chk947 (v11854 : BitVec 32) (v11860 : BitVec 32) : Prop :=
  (∀ a, (k0_off1389 v11854 v11860) a + S1x48x512.size a ≤ S64x64x512.size a)
theorem k0_off1389_inb : ∀ (v11854 : BitVec 32) (v11860 : BitVec 32) (k0_hw947 : k0_chk947 v11854 v11860), ∀ a, (k0_off1389 v11854 v11860) a + S1x48x512.size a ≤ S64x64x512.size a := fun v11854 v11860 k0_hw947 => k0_hw947

def k0_off1390 (v11854 : BitVec 32) (v11862 : BitVec 32) : Fin 3 → Nat :=
  let v11870 : Index := Scalar.indexCast v11862
  let v11855 : BitVec 32 := v11854
  let v11871 : Index := Scalar.indexCast v11855
  let c0_5049 : Index := 0#32
  ![v11870.toNat, v11871.toNat, 0]

def k0_chk948 (v11854 : BitVec 32) (v11862 : BitVec 32) : Prop :=
  (∀ a, (k0_off1390 v11854 v11862) a + S1x48x512.size a ≤ S64x64x512.size a)
theorem k0_off1390_inb : ∀ (v11854 : BitVec 32) (v11862 : BitVec 32) (k0_hw948 : k0_chk948 v11854 v11862), ∀ a, (k0_off1390 v11854 v11862) a + S1x48x512.size a ≤ S64x64x512.size a := fun v11854 v11862 k0_hw948 => k0_hw948

def k0_off1391 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5056 : BitVec 32 := 63#32
  let v11882 : BitVec 32 := Scalar.addi v5 c63_i32_5056
  let c7_i32_5057 : BitVec 32 := 7#32
  let v11883 : BitVec 32 := Scalar.muli v11882 c7_i32_5057
  let c1_i32_5058 : BitVec 32 := 1#32
  let v11884 : BitVec 32 := Scalar.addi v11883 c1_i32_5058
  let v11885 : Index := Scalar.indexCast v11884
  ![v11885.toNat]
def k0_off1392 (v11854 : BitVec 32) (v11886 : BitVec 32) : Fin 3 → Nat :=
  let v11892 : Index := Scalar.indexCast v11886
  let v11855 : BitVec 32 := v11854
  let v11893 : Index := Scalar.indexCast v11855
  let c0_5059 : Index := 0#32
  ![v11892.toNat, v11893.toNat, 0]

def k0_chk949 (v11854 : BitVec 32) (v11886 : BitVec 32) : Prop :=
  (∀ a, (k0_off1392 v11854 v11886) a + S1x48x512.size a ≤ S64x64x512.size a)
theorem k0_off1392_inb : ∀ (v11854 : BitVec 32) (v11886 : BitVec 32) (k0_hw949 : k0_chk949 v11854 v11886), ∀ a, (k0_off1392 v11854 v11886) a + S1x48x512.size a ≤ S64x64x512.size a := fun v11854 v11886 k0_hw949 => k0_hw949

def k0_off1393 (v11854 : BitVec 32) (v11888 : BitVec 32) : Fin 3 → Nat :=
  let v11896 : Index := Scalar.indexCast v11888
  let v11855 : BitVec 32 := v11854
  let v11897 : Index := Scalar.indexCast v11855
  let c0_5060 : Index := 0#32
  ![v11896.toNat, v11897.toNat, 0]

def k0_chk950 (v11854 : BitVec 32) (v11888 : BitVec 32) : Prop :=
  (∀ a, (k0_off1393 v11854 v11888) a + S1x48x512.size a ≤ S64x64x512.size a)
theorem k0_off1393_inb : ∀ (v11854 : BitVec 32) (v11888 : BitVec 32) (k0_hw950 : k0_chk950 v11854 v11888), ∀ a, (k0_off1393 v11854 v11888) a + S1x48x512.size a ≤ S64x64x512.size a := fun v11854 v11888 k0_hw950 => k0_hw950

def k0_off1394 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5067 : BitVec 32 := 63#32
  let v11908 : BitVec 32 := Scalar.addi v5 c63_i32_5067
  let c7_i32_5068 : BitVec 32 := 7#32
  let v11909 : BitVec 32 := Scalar.muli v11908 c7_i32_5068
  let c2_i32_5069 : BitVec 32 := 2#32
  let v11910 : BitVec 32 := Scalar.addi v11909 c2_i32_5069
  let v11911 : Index := Scalar.indexCast v11910
  ![v11911.toNat]
def k0_off1395 (v11854 : BitVec 32) (v11912 : BitVec 32) : Fin 3 → Nat :=
  let v11918 : Index := Scalar.indexCast v11912
  let v11855 : BitVec 32 := v11854
  let v11919 : Index := Scalar.indexCast v11855
  let c0_5070 : Index := 0#32
  ![v11918.toNat, v11919.toNat, 0]

def k0_chk951 (v11854 : BitVec 32) (v11912 : BitVec 32) : Prop :=
  (∀ a, (k0_off1395 v11854 v11912) a + S1x48x512.size a ≤ S64x64x512.size a)
theorem k0_off1395_inb : ∀ (v11854 : BitVec 32) (v11912 : BitVec 32) (k0_hw951 : k0_chk951 v11854 v11912), ∀ a, (k0_off1395 v11854 v11912) a + S1x48x512.size a ≤ S64x64x512.size a := fun v11854 v11912 k0_hw951 => k0_hw951

def k0_off1396 (v11854 : BitVec 32) (v11914 : BitVec 32) : Fin 3 → Nat :=
  let v11922 : Index := Scalar.indexCast v11914
  let v11855 : BitVec 32 := v11854
  let v11923 : Index := Scalar.indexCast v11855
  let c0_5071 : Index := 0#32
  ![v11922.toNat, v11923.toNat, 0]

def k0_chk952 (v11854 : BitVec 32) (v11914 : BitVec 32) : Prop :=
  (∀ a, (k0_off1396 v11854 v11914) a + S1x48x512.size a ≤ S64x64x512.size a)
theorem k0_off1396_inb : ∀ (v11854 : BitVec 32) (v11914 : BitVec 32) (k0_hw952 : k0_chk952 v11854 v11914), ∀ a, (k0_off1396 v11854 v11914) a + S1x48x512.size a ≤ S64x64x512.size a := fun v11854 v11914 k0_hw952 => k0_hw952

def k0_off1397 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5078 : BitVec 32 := 63#32
  let v11934 : BitVec 32 := Scalar.addi v5 c63_i32_5078
  let c7_i32_5079 : BitVec 32 := 7#32
  let v11935 : BitVec 32 := Scalar.muli v11934 c7_i32_5079
  let c3_i32_5080 : BitVec 32 := 3#32
  let v11936 : BitVec 32 := Scalar.addi v11935 c3_i32_5080
  let v11937 : Index := Scalar.indexCast v11936
  ![v11937.toNat]
def k0_off1398 (v11854 : BitVec 32) (v11938 : BitVec 32) : Fin 3 → Nat :=
  let v11944 : Index := Scalar.indexCast v11938
  let v11855 : BitVec 32 := v11854
  let v11945 : Index := Scalar.indexCast v11855
  let c0_5081 : Index := 0#32
  ![v11944.toNat, v11945.toNat, 0]

def k0_chk953 (v11854 : BitVec 32) (v11938 : BitVec 32) : Prop :=
  (∀ a, (k0_off1398 v11854 v11938) a + S1x48x512.size a ≤ S64x64x512.size a)
theorem k0_off1398_inb : ∀ (v11854 : BitVec 32) (v11938 : BitVec 32) (k0_hw953 : k0_chk953 v11854 v11938), ∀ a, (k0_off1398 v11854 v11938) a + S1x48x512.size a ≤ S64x64x512.size a := fun v11854 v11938 k0_hw953 => k0_hw953

def k0_off1399 (v11854 : BitVec 32) (v11940 : BitVec 32) : Fin 3 → Nat :=
  let v11948 : Index := Scalar.indexCast v11940
  let v11855 : BitVec 32 := v11854
  let v11949 : Index := Scalar.indexCast v11855
  let c0_5082 : Index := 0#32
  ![v11948.toNat, v11949.toNat, 0]

def k0_chk954 (v11854 : BitVec 32) (v11940 : BitVec 32) : Prop :=
  (∀ a, (k0_off1399 v11854 v11940) a + S1x48x512.size a ≤ S64x64x512.size a)
theorem k0_off1399_inb : ∀ (v11854 : BitVec 32) (v11940 : BitVec 32) (k0_hw954 : k0_chk954 v11854 v11940), ∀ a, (k0_off1399 v11854 v11940) a + S1x48x512.size a ≤ S64x64x512.size a := fun v11854 v11940 k0_hw954 => k0_hw954

def k0_off1400 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5089 : BitVec 32 := 63#32
  let v11960 : BitVec 32 := Scalar.addi v5 c63_i32_5089
  let c7_i32_5090 : BitVec 32 := 7#32
  let v11961 : BitVec 32 := Scalar.muli v11960 c7_i32_5090
  let c4_i32_5091 : BitVec 32 := 4#32
  let v11962 : BitVec 32 := Scalar.addi v11961 c4_i32_5091
  let v11963 : Index := Scalar.indexCast v11962
  ![v11963.toNat]
def k0_off1401 (v11854 : BitVec 32) (v11964 : BitVec 32) : Fin 3 → Nat :=
  let v11970 : Index := Scalar.indexCast v11964
  let v11855 : BitVec 32 := v11854
  let v11971 : Index := Scalar.indexCast v11855
  let c0_5092 : Index := 0#32
  ![v11970.toNat, v11971.toNat, 0]

def k0_chk955 (v11854 : BitVec 32) (v11964 : BitVec 32) : Prop :=
  (∀ a, (k0_off1401 v11854 v11964) a + S1x48x512.size a ≤ S64x64x512.size a)
theorem k0_off1401_inb : ∀ (v11854 : BitVec 32) (v11964 : BitVec 32) (k0_hw955 : k0_chk955 v11854 v11964), ∀ a, (k0_off1401 v11854 v11964) a + S1x48x512.size a ≤ S64x64x512.size a := fun v11854 v11964 k0_hw955 => k0_hw955

def k0_off1402 (v11854 : BitVec 32) (v11966 : BitVec 32) : Fin 3 → Nat :=
  let v11974 : Index := Scalar.indexCast v11966
  let v11855 : BitVec 32 := v11854
  let v11975 : Index := Scalar.indexCast v11855
  let c0_5093 : Index := 0#32
  ![v11974.toNat, v11975.toNat, 0]

def k0_chk956 (v11854 : BitVec 32) (v11966 : BitVec 32) : Prop :=
  (∀ a, (k0_off1402 v11854 v11966) a + S1x48x512.size a ≤ S64x64x512.size a)
theorem k0_off1402_inb : ∀ (v11854 : BitVec 32) (v11966 : BitVec 32) (k0_hw956 : k0_chk956 v11854 v11966), ∀ a, (k0_off1402 v11854 v11966) a + S1x48x512.size a ≤ S64x64x512.size a := fun v11854 v11966 k0_hw956 => k0_hw956

def k0_off1403 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5100 : BitVec 32 := 63#32
  let v11986 : BitVec 32 := Scalar.addi v5 c63_i32_5100
  let c7_i32_5101 : BitVec 32 := 7#32
  let v11987 : BitVec 32 := Scalar.muli v11986 c7_i32_5101
  let c5_i32_5102 : BitVec 32 := 5#32
  let v11988 : BitVec 32 := Scalar.addi v11987 c5_i32_5102
  let v11989 : Index := Scalar.indexCast v11988
  ![v11989.toNat]
def k0_off1404 (v11854 : BitVec 32) (v11990 : BitVec 32) : Fin 3 → Nat :=
  let v11996 : Index := Scalar.indexCast v11990
  let v11855 : BitVec 32 := v11854
  let v11997 : Index := Scalar.indexCast v11855
  let c0_5103 : Index := 0#32
  ![v11996.toNat, v11997.toNat, 0]

def k0_chk957 (v11854 : BitVec 32) (v11990 : BitVec 32) : Prop :=
  (∀ a, (k0_off1404 v11854 v11990) a + S1x48x512.size a ≤ S64x64x512.size a)
theorem k0_off1404_inb : ∀ (v11854 : BitVec 32) (v11990 : BitVec 32) (k0_hw957 : k0_chk957 v11854 v11990), ∀ a, (k0_off1404 v11854 v11990) a + S1x48x512.size a ≤ S64x64x512.size a := fun v11854 v11990 k0_hw957 => k0_hw957

def k0_off1405 (v11854 : BitVec 32) (v11992 : BitVec 32) : Fin 3 → Nat :=
  let v12000 : Index := Scalar.indexCast v11992
  let v11855 : BitVec 32 := v11854
  let v12001 : Index := Scalar.indexCast v11855
  let c0_5104 : Index := 0#32
  ![v12000.toNat, v12001.toNat, 0]

def k0_chk958 (v11854 : BitVec 32) (v11992 : BitVec 32) : Prop :=
  (∀ a, (k0_off1405 v11854 v11992) a + S1x48x512.size a ≤ S64x64x512.size a)
theorem k0_off1405_inb : ∀ (v11854 : BitVec 32) (v11992 : BitVec 32) (k0_hw958 : k0_chk958 v11854 v11992), ∀ a, (k0_off1405 v11854 v11992) a + S1x48x512.size a ≤ S64x64x512.size a := fun v11854 v11992 k0_hw958 => k0_hw958

def k0_off1406 (i : grid0.Coords) : Fin 1 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c64_i32 : BitVec 32 := 64#32
  let v5 : BitVec 32 := Scalar.muli v4 c64_i32
  let c63_i32_5111 : BitVec 32 := 63#32
  let v12012 : BitVec 32 := Scalar.addi v5 c63_i32_5111
  let c7_i32_5112 : BitVec 32 := 7#32
  let v12013 : BitVec 32 := Scalar.muli v12012 c7_i32_5112
  let c6_i32_5113 : BitVec 32 := 6#32
  let v12014 : BitVec 32 := Scalar.addi v12013 c6_i32_5113
  let v12015 : Index := Scalar.indexCast v12014
  ![v12015.toNat]
def k0_off1407 (v11854 : BitVec 32) (v12016 : BitVec 32) : Fin 3 → Nat :=
  let v12022 : Index := Scalar.indexCast v12016
  let v11855 : BitVec 32 := v11854
  let v12023 : Index := Scalar.indexCast v11855
  let c0_5114 : Index := 0#32
  ![v12022.toNat, v12023.toNat, 0]

def k0_chk959 (v11854 : BitVec 32) (v12016 : BitVec 32) : Prop :=
  (∀ a, (k0_off1407 v11854 v12016) a + S1x48x512.size a ≤ S64x64x512.size a)
theorem k0_off1407_inb : ∀ (v11854 : BitVec 32) (v12016 : BitVec 32) (k0_hw959 : k0_chk959 v11854 v12016), ∀ a, (k0_off1407 v11854 v12016) a + S1x48x512.size a ≤ S64x64x512.size a := fun v11854 v12016 k0_hw959 => k0_hw959

def k0_off1408 (v11854 : BitVec 32) (v12018 : BitVec 32) : Fin 3 → Nat :=
  let v12026 : Index := Scalar.indexCast v12018
  let v11855 : BitVec 32 := v11854
  let v12027 : Index := Scalar.indexCast v11855
  let c0_5115 : Index := 0#32
  ![v12026.toNat, v12027.toNat, 0]

def k0_chk960 (v11854 : BitVec 32) (v12018 : BitVec 32) : Prop :=
  (∀ a, (k0_off1408 v11854 v12018) a + S1x48x512.size a ≤ S64x64x512.size a)
theorem k0_off1408_inb : ∀ (v11854 : BitVec 32) (v12018 : BitVec 32) (k0_hw960 : k0_chk960 v11854 v12018), ∀ a, (k0_off1408 v11854 v12018) a + S1x48x512.size a ≤ S64x64x512.size a := fun v11854 v12018 k0_hw960 => k0_hw960

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 1 → Memref sig .tc .smem S7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x7x48 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x7x7x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x64x64x512 : Shape := ⟨4, ![8, 64, 64, 512]⟩
abbrev S8x128x4 : Shape := ⟨3, ![8, 128, 4]⟩
abbrev S8x128x1 : Shape := ⟨3, ![8, 128, 1]⟩
abbrev S8x128 : Shape := ⟨2, ![8, 128]⟩
abbrev S_ : Shape := ⟨0, ![]⟩
abbrev S7 : Shape := ⟨1, ![7]⟩
abbrev S1x7 : Shape := ⟨2, ![1, 7]⟩
abbrev S1x1x7 : Shape := ⟨3, ![1, 1, 7]⟩
abbrev S8x128x7 : Shape := ⟨3, ![8, 128, 7]⟩
abbrev S8x128x7x1 : Shape := ⟨4, ![8, 128, 7, 1]⟩
abbrev S1 : Shape := ⟨1, ![1]⟩
abbrev S1x1x1x1 : Shape := ⟨4, ![1, 1, 1, 1]⟩
abbrev S8x128x7x64x512 : Shape := ⟨5, ![8, 128, 7, 64, 512]⟩
abbrev S8x128x7x7x512 : Shape := ⟨5, ![8, 128, 7, 7, 512]⟩
abbrev S8x128x7x1x1 : Shape := ⟨5, ![8, 128, 7, 1, 1]⟩
abbrev S8x128x1x7x1 : Shape := ⟨5, ![8, 128, 1, 7, 1]⟩

abbrev nBuf : Space → Nat
  | .hbm => 384
  | .vmem => 0
  | .smem => 0
  | _ => 0

abbrev hbmTy0_0 (i : Nat) : BufTy := match i % 128 with
  | 0 => ⟨S8x64x64x512, .f32⟩
  | 1 => ⟨S8x128x4, .f32⟩
  | 2 => ⟨S8x128x1, .f32⟩
  | 3 => ⟨S8x128, .f32⟩
  | 4 => ⟨S_, .f32⟩
  | 5 => ⟨S8x128, .f32⟩
  | 6 => ⟨S8x128, .f32⟩
  | 7 => ⟨S8x128, .i32⟩
  | 8 => ⟨S_, .i32⟩
  | 9 => ⟨S_, .i32⟩
  | 10 => ⟨S_, .i32⟩
  | 11 => ⟨S8x128, .i32⟩
  | 12 => ⟨S8x128, .i32⟩
  | 13 => ⟨S_, .i32⟩
  | 14 => ⟨S8x128, .i32⟩
  | 15 => ⟨S8x128, .i32⟩
  | 16 => ⟨S8x128x1, .f32⟩
  | 17 => ⟨S8x128, .f32⟩
  | 18 => ⟨S_, .f32⟩
  | 19 => ⟨S8x128, .f32⟩
  | 20 => ⟨S8x128, .f32⟩
  | 21 => ⟨S8x128, .i32⟩
  | 22 => ⟨S_, .i32⟩
  | 23 => ⟨S_, .i32⟩
  | 24 => ⟨S_, .i32⟩
  | 25 => ⟨S8x128, .i32⟩
  | 26 => ⟨S8x128, .i32⟩
  | 27 => ⟨S_, .i32⟩
  | 28 => ⟨S8x128, .i32⟩
  | 29 => ⟨S8x128, .i32⟩
  | 30 => ⟨S8x128x1, .f32⟩
  | 31 => ⟨S8x128, .f32⟩
  | 32 => ⟨S_, .f32⟩
  | 33 => ⟨S8x128, .f32⟩
  | 34 => ⟨S8x128, .f32⟩
  | 35 => ⟨S8x128, .i32⟩
  | 36 => ⟨S_, .i32⟩
  | 37 => ⟨S_, .i32⟩
  | 38 => ⟨S_, .i32⟩
  | 39 => ⟨S8x128, .i32⟩
  | 40 => ⟨S8x128, .i32⟩
  | 41 => ⟨S_, .i32⟩
  | 42 => ⟨S8x128, .i32⟩
  | 43 => ⟨S8x128, .i32⟩
  | 44 => ⟨S8x128x1, .f32⟩
  | 45 => ⟨S8x128, .f32⟩
  | 46 => ⟨S_, .f32⟩
  | 47 => ⟨S8x128, .f32⟩
  | 48 => ⟨S8x128, .f32⟩
  | 49 => ⟨S8x128, .i32⟩
  | 50 => ⟨S_, .i32⟩
  | 51 => ⟨S_, .i32⟩
  | 52 => ⟨S_, .i32⟩
  | 53 => ⟨S8x128, .i32⟩
  | 54 => ⟨S8x128, .i32⟩
  | 55 => ⟨S_, .i32⟩
  | 56 => ⟨S8x128, .i32⟩
  | 57 => ⟨S8x128, .i32⟩
  | 58 => ⟨S8x128, .i32⟩
  | 59 => ⟨S_, .i32⟩
  | 60 => ⟨S8x128, .i32⟩
  | 61 => ⟨S8x128, .i32⟩
  | 62 => ⟨S8x128, .i32⟩
  | 63 => ⟨S_, .i32⟩
  | 64 => ⟨S8x128, .i32⟩
  | 65 => ⟨S8x128, .i32⟩
  | 66 => ⟨S7, .f32⟩
  | 67 => ⟨S_, .f32⟩
  | 68 => ⟨S7, .f32⟩
  | 69 => ⟨S7, .f32⟩
  | 70 => ⟨S8x128, .f32⟩
  | 71 => ⟨S_, .f32⟩
  | 72 => ⟨S8x128, .f32⟩
  | 73 => ⟨S8x128, .f32⟩
  | 74 => ⟨S1x7, .f32⟩
  | 75 => ⟨S8x128x1, .f32⟩
  | 76 => ⟨S1x1x7, .f32⟩
  | 77 => ⟨S8x128x7, .f32⟩
  | 78 => ⟨S8x128x7, .f32⟩
  | 79 => ⟨S8x128x7, .f32⟩
  | 80 => ⟨S_, .f32⟩
  | 81 => ⟨S8x128x7, .f32⟩
  | 82 => ⟨S8x128x7, .f32⟩
  | 83 => ⟨S8x128, .f32⟩
  | 84 => ⟨S_, .f32⟩
  | 85 => ⟨S8x128, .f32⟩
  | 86 => ⟨S8x128, .f32⟩
  | 87 => ⟨S_, .f32⟩
  | 88 => ⟨S_, .f32⟩
  | 89 => ⟨S8x128x7, .f32⟩
  | 90 => ⟨S8x128x7, .f32⟩
  | 91 => ⟨S8x128x1, .f32⟩
  | 92 => ⟨S8x128x7, .f32⟩
  | 93 => ⟨S8x128x7, .f32⟩
  | 94 => ⟨S8x128x7, .f32⟩
  | 95 => ⟨S8x128x7, .i32⟩
  | 96 => ⟨S8x128x7, .f32⟩
  | 97 => ⟨S8x128x7, .f32⟩
  | 98 => ⟨S_, .i32⟩
  | 99 => ⟨S8x128, .i32⟩
  | 100 => ⟨S8x128, .i32⟩
  | 101 => ⟨S_, .i32⟩
  | 102 => ⟨S_, .i32⟩
  | 103 => ⟨S8x128x7, .i32⟩
  | 104 => ⟨S8x128x7, .i32⟩
  | 105 => ⟨S8x128x1, .i32⟩
  | 106 => ⟨S8x128x7, .i32⟩
  | 107 => ⟨S8x128x7, .i32⟩
  | 108 => ⟨S8x128x1, .i32⟩
  | 109 => ⟨S8x128x7, .i32⟩
  | 110 => ⟨S8x128x7, .i32⟩
  | 111 => ⟨S_, .i32⟩
  | 112 => ⟨S_, .i32⟩
  | 113 => ⟨S_, .i32⟩
  | 114 => ⟨S8x128x7, .i32⟩
  | 115 => ⟨S8x128x7, .i32⟩
  | 116 => ⟨S_, .i32⟩
  | 117 => ⟨S8x128x7, .i32⟩
  | 118 => ⟨S8x128x7, .i32⟩
  | 119 => ⟨S_, .i32⟩
  | 120 => ⟨S8x128x7, .i32⟩
  | 121 => ⟨S8x128x7, .i32⟩
  | 122 => ⟨S_, .i32⟩
  | 123 => ⟨S8x128, .i32⟩
  | 124 => ⟨S8x128, .i32⟩
  | 125 => ⟨S_, .i32⟩
  | 126 => ⟨S_, .i32⟩
  | 127 => ⟨S8x128x7, .i32⟩
  | _ => ⟨S8x64x64x512, .f32⟩

abbrev hbmTy0_1 (i : Nat) : BufTy := match i % 128 with
  | 0 => ⟨S8x128x7, .i32⟩
  | 1 => ⟨S8x128x1, .i32⟩
  | 2 => ⟨S8x128x7, .i32⟩
  | 3 => ⟨S8x128x7, .i32⟩
  | 4 => ⟨S8x128x1, .i32⟩
  | 5 => ⟨S8x128x7, .i32⟩
  | 6 => ⟨S8x128x7, .i32⟩
  | 7 => ⟨S_, .i32⟩
  | 8 => ⟨S_, .i32⟩
  | 9 => ⟨S_, .i32⟩
  | 10 => ⟨S8x128x7, .i32⟩
  | 11 => ⟨S8x128x7, .i32⟩
  | 12 => ⟨S_, .i32⟩
  | 13 => ⟨S8x128x7, .i32⟩
  | 14 => ⟨S8x128x7, .i32⟩
  | 15 => ⟨S7, .f32⟩
  | 16 => ⟨S_, .f32⟩
  | 17 => ⟨S7, .f32⟩
  | 18 => ⟨S7, .f32⟩
  | 19 => ⟨S8x128, .f32⟩
  | 20 => ⟨S_, .f32⟩
  | 21 => ⟨S8x128, .f32⟩
  | 22 => ⟨S8x128, .f32⟩
  | 23 => ⟨S1x7, .f32⟩
  | 24 => ⟨S8x128x1, .f32⟩
  | 25 => ⟨S1x1x7, .f32⟩
  | 26 => ⟨S8x128x7, .f32⟩
  | 27 => ⟨S8x128x7, .f32⟩
  | 28 => ⟨S8x128x7, .f32⟩
  | 29 => ⟨S_, .f32⟩
  | 30 => ⟨S8x128x7, .f32⟩
  | 31 => ⟨S8x128x7, .f32⟩
  | 32 => ⟨S8x128, .f32⟩
  | 33 => ⟨S_, .f32⟩
  | 34 => ⟨S8x128, .f32⟩
  | 35 => ⟨S8x128, .f32⟩
  | 36 => ⟨S_, .f32⟩
  | 37 => ⟨S_, .f32⟩
  | 38 => ⟨S8x128x7, .f32⟩
  | 39 => ⟨S8x128x7, .f32⟩
  | 40 => ⟨S8x128x1, .f32⟩
  | 41 => ⟨S8x128x7, .f32⟩
  | 42 => ⟨S8x128x7, .f32⟩
  | 43 => ⟨S8x128x7, .f32⟩
  | 44 => ⟨S8x128x7, .i32⟩
  | 45 => ⟨S8x128x7, .f32⟩
  | 46 => ⟨S8x128x7, .f32⟩
  | 47 => ⟨S_, .i32⟩
  | 48 => ⟨S8x128, .i32⟩
  | 49 => ⟨S8x128, .i32⟩
  | 50 => ⟨S_, .i32⟩
  | 51 => ⟨S_, .i32⟩
  | 52 => ⟨S8x128x7, .i32⟩
  | 53 => ⟨S8x128x7, .i32⟩
  | 54 => ⟨S8x128x1, .i32⟩
  | 55 => ⟨S8x128x7, .i32⟩
  | 56 => ⟨S8x128x7, .i32⟩
  | 57 => ⟨S8x128x1, .i32⟩
  | 58 => ⟨S8x128x7, .i32⟩
  | 59 => ⟨S8x128x7, .i32⟩
  | 60 => ⟨S_, .i32⟩
  | 61 => ⟨S_, .i32⟩
  | 62 => ⟨S_, .i32⟩
  | 63 => ⟨S8x128x7, .i32⟩
  | 64 => ⟨S8x128x7, .i32⟩
  | 65 => ⟨S_, .i32⟩
  | 66 => ⟨S8x128x7, .i32⟩
  | 67 => ⟨S8x128x7, .i32⟩
  | 68 => ⟨S_, .i32⟩
  | 69 => ⟨S8x128x7, .i32⟩
  | 70 => ⟨S8x128x7, .i32⟩
  | 71 => ⟨S_, .i32⟩
  | 72 => ⟨S8x128, .i32⟩
  | 73 => ⟨S8x128, .i32⟩
  | 74 => ⟨S_, .i32⟩
  | 75 => ⟨S_, .i32⟩
  | 76 => ⟨S8x128x7, .i32⟩
  | 77 => ⟨S8x128x7, .i32⟩
  | 78 => ⟨S8x128x1, .i32⟩
  | 79 => ⟨S8x128x7, .i32⟩
  | 80 => ⟨S8x128x7, .i32⟩
  | 81 => ⟨S8x128x1, .i32⟩
  | 82 => ⟨S8x128x7, .i32⟩
  | 83 => ⟨S8x128x7, .i32⟩
  | 84 => ⟨S_, .i32⟩
  | 85 => ⟨S_, .i32⟩
  | 86 => ⟨S_, .i32⟩
  | 87 => ⟨S8x128x7, .i32⟩
  | 88 => ⟨S8x128x7, .i32⟩
  | 89 => ⟨S_, .i32⟩
  | 90 => ⟨S8x128x7, .i32⟩
  | 91 => ⟨S8x128x7, .i32⟩
  | 92 => ⟨S_, .i32⟩
  | 93 => ⟨S8x128x7, .i32⟩
  | 94 => ⟨S8x128x7, .i1⟩
  | 95 => ⟨S_, .i32⟩
  | 96 => ⟨S8x128x7, .i32⟩
  | 97 => ⟨S8x128x7, .i32⟩
  | 98 => ⟨S8x128x7, .i32⟩
  | 99 => ⟨S8x128x7x1, .i32⟩
  | 100 => ⟨S1, .i32⟩
  | 101 => ⟨S_, .i32⟩
  | 102 => ⟨S8x128x7x1, .i32⟩
  | 103 => ⟨S8x128x7x1, .i1⟩
  | 104 => ⟨S1x1x1x1, .i32⟩
  | 105 => ⟨S8x128x7x1, .i32⟩
  | 106 => ⟨S8x128x7x1, .i1⟩
  | 107 => ⟨S8x128x7x1, .i1⟩
  | 108 => ⟨S_, .i1⟩
  | 109 => ⟨S8x128x7, .i1⟩
  | 110 => ⟨S8x128x7x64x512, .f32⟩
  | 111 => ⟨S8x128x7x64x512, .i1⟩
  | 112 => ⟨S_, .f32⟩
  | 113 => ⟨S8x128x7x64x512, .f32⟩
  | 114 => ⟨S8x128x7x64x512, .f32⟩
  | 115 => ⟨S_, .i32⟩
  | 116 => ⟨S8x128x7, .i32⟩
  | 117 => ⟨S8x128x7, .i1⟩
  | 118 => ⟨S_, .i32⟩
  | 119 => ⟨S8x128x7, .i32⟩
  | 120 => ⟨S8x128x7, .i32⟩
  | 121 => ⟨S8x128x7, .i32⟩
  | 122 => ⟨S8x128x7x1, .i32⟩
  | 123 => ⟨S1, .i32⟩
  | 124 => ⟨S_, .i32⟩
  | 125 => ⟨S8x128x7x1, .i32⟩
  | 126 => ⟨S8x128x7x1, .i1⟩
  | 127 => ⟨S1x1x1x1, .i32⟩
  | _ => ⟨S8x64x64x512, .f32⟩

abbrev hbmTy0_2 (i : Nat) : BufTy := match i % 128 with
  | 0 => ⟨S8x128x7x1, .i32⟩
  | 1 => ⟨S8x128x7x1, .i1⟩
  | 2 => ⟨S8x128x7x1, .i1⟩
  | 3 => ⟨S_, .i1⟩
  | 4 => ⟨S8x128x7, .i1⟩
  | 5 => ⟨S8x128x7x64x512, .f32⟩
  | 6 => ⟨S8x128x7x64x512, .i1⟩
  | 7 => ⟨S_, .f32⟩
  | 8 => ⟨S8x128x7x64x512, .f32⟩
  | 9 => ⟨S8x128x7x64x512, .f32⟩
  | 10 => ⟨S_, .i32⟩
  | 11 => ⟨S8x128x7, .i32⟩
  | 12 => ⟨S8x128x7, .i1⟩
  | 13 => ⟨S_, .i32⟩
  | 14 => ⟨S8x128x7, .i32⟩
  | 15 => ⟨S8x128x7, .i32⟩
  | 16 => ⟨S8x128x7, .i32⟩
  | 17 => ⟨S8x128x7x1, .i32⟩
  | 18 => ⟨S1, .i32⟩
  | 19 => ⟨S_, .i32⟩
  | 20 => ⟨S8x128x7x1, .i32⟩
  | 21 => ⟨S8x128x7x1, .i1⟩
  | 22 => ⟨S1x1x1x1, .i32⟩
  | 23 => ⟨S8x128x7x1, .i32⟩
  | 24 => ⟨S8x128x7x1, .i1⟩
  | 25 => ⟨S8x128x7x1, .i1⟩
  | 26 => ⟨S_, .i1⟩
  | 27 => ⟨S8x128x7, .i1⟩
  | 28 => ⟨S8x128x7x7x512, .f32⟩
  | 29 => ⟨S8x128x7x7x512, .i1⟩
  | 30 => ⟨S_, .f32⟩
  | 31 => ⟨S8x128x7x7x512, .f32⟩
  | 32 => ⟨S8x128x7x7x512, .f32⟩
  | 33 => ⟨S_, .i32⟩
  | 34 => ⟨S8x128x7, .i32⟩
  | 35 => ⟨S8x128x7, .i1⟩
  | 36 => ⟨S_, .i32⟩
  | 37 => ⟨S8x128x7, .i32⟩
  | 38 => ⟨S8x128x7, .i32⟩
  | 39 => ⟨S8x128x7, .i32⟩
  | 40 => ⟨S8x128x7x1, .i32⟩
  | 41 => ⟨S1, .i32⟩
  | 42 => ⟨S_, .i32⟩
  | 43 => ⟨S8x128x7x1, .i32⟩
  | 44 => ⟨S8x128x7x1, .i1⟩
  | 45 => ⟨S1x1x1x1, .i32⟩
  | 46 => ⟨S8x128x7x1, .i32⟩
  | 47 => ⟨S8x128x7x1, .i1⟩
  | 48 => ⟨S8x128x7x1, .i1⟩
  | 49 => ⟨S_, .i1⟩
  | 50 => ⟨S8x128x7, .i1⟩
  | 51 => ⟨S8x128x7x7x512, .f32⟩
  | 52 => ⟨S8x128x7x7x512, .i1⟩
  | 53 => ⟨S_, .f32⟩
  | 54 => ⟨S8x128x7x7x512, .f32⟩
  | 55 => ⟨S8x128x7x7x512, .f32⟩
  | 56 => ⟨S_, .i32⟩
  | 57 => ⟨S8x128x7, .i32⟩
  | 58 => ⟨S8x128x7, .i1⟩
  | 59 => ⟨S_, .i32⟩
  | 60 => ⟨S8x128x7, .i32⟩
  | 61 => ⟨S8x128x7, .i32⟩
  | 62 => ⟨S8x128x7, .i32⟩
  | 63 => ⟨S8x128x7x1, .i32⟩
  | 64 => ⟨S1, .i32⟩
  | 65 => ⟨S_, .i32⟩
  | 66 => ⟨S8x128x7x1, .i32⟩
  | 67 => ⟨S8x128x7x1, .i1⟩
  | 68 => ⟨S1x1x1x1, .i32⟩
  | 69 => ⟨S8x128x7x1, .i32⟩
  | 70 => ⟨S8x128x7x1, .i1⟩
  | 71 => ⟨S8x128x7x1, .i1⟩
  | 72 => ⟨S_, .i1⟩
  | 73 => ⟨S8x128x7, .i1⟩
  | 74 => ⟨S8x128x7x7x512, .f32⟩
  | 75 => ⟨S8x128x7x7x512, .i1⟩
  | 76 => ⟨S_, .f32⟩
  | 77 => ⟨S8x128x7x7x512, .f32⟩
  | 78 => ⟨S8x128x7x7x512, .f32⟩
  | 79 => ⟨S_, .i32⟩
  | 80 => ⟨S8x128x7, .i32⟩
  | 81 => ⟨S8x128x7, .i1⟩
  | 82 => ⟨S_, .i32⟩
  | 83 => ⟨S8x128x7, .i32⟩
  | 84 => ⟨S8x128x7, .i32⟩
  | 85 => ⟨S8x128x7, .i32⟩
  | 86 => ⟨S8x128x7x1, .i32⟩
  | 87 => ⟨S1, .i32⟩
  | 88 => ⟨S_, .i32⟩
  | 89 => ⟨S8x128x7x1, .i32⟩
  | 90 => ⟨S8x128x7x1, .i1⟩
  | 91 => ⟨S1x1x1x1, .i32⟩
  | 92 => ⟨S8x128x7x1, .i32⟩
  | 93 => ⟨S8x128x7x1, .i1⟩
  | 94 => ⟨S8x128x7x1, .i1⟩
  | 95 => ⟨S_, .i1⟩
  | 96 => ⟨S8x128x7, .i1⟩
  | 97 => ⟨S8x128x7x7x512, .f32⟩
  | 98 => ⟨S8x128x7x7x512, .i1⟩
  | 99 => ⟨S_, .f32⟩
  | 100 => ⟨S8x128x7x7x512, .f32⟩
  | 101 => ⟨S8x128x7x7x512, .f32⟩
  | 102 => ⟨S8x128x7x1x1, .f32⟩
  | 103 => ⟨S8x128x1x7x1, .f32⟩
  | 104 => ⟨S_, .f32⟩
  | 105 => ⟨S8x128x1x7x1, .f32⟩
  | 106 => ⟨S8x128x1x7x1, .f32⟩
  | 107 => ⟨S8x128x7x7x512, .f32⟩
  | 108 => ⟨S8x128x7x7x512, .f32⟩
  | 109 => ⟨S8x128x7x7x512, .f32⟩
  | 110 => ⟨S8x128x7x7x512, .f32⟩
  | 111 => ⟨S8x128x7x7x512, .f32⟩
  | 112 => ⟨S_, .f32⟩
  | 113 => ⟨S8x128x1x7x1, .f32⟩
  | 114 => ⟨S8x128x1x7x1, .f32⟩
  | 115 => ⟨S8x128x7x7x512, .f32⟩
  | 116 => ⟨S8x128x7x7x512, .f32⟩
  | 117 => ⟨S8x128x7x7x512, .f32⟩
  | 118 => ⟨S8x128x7x7x512, .f32⟩
  | 119 => ⟨S8x128x7x7x512, .f32⟩
  | 120 => ⟨S_, .f32⟩
  | 121 => ⟨S8x128x7x1x1, .f32⟩
  | 122 => ⟨S8x128x7x1x1, .f32⟩
  | 123 => ⟨S8x128x7x7x512, .f32⟩
  | 124 => ⟨S8x128x7x7x512, .f32⟩
  | 125 => ⟨S8x128x7x7x512, .f32⟩
  | 126 => ⟨S8x128x7x7x512, .f32⟩
  | 127 => ⟨S8x128x7x7x512, .f32⟩
  | _ => ⟨S8x64x64x512, .f32⟩

abbrev hbmTy (i : Nat) : BufTy := match i / 128 with
  | 0 => hbmTy0_0 i
  | 1 => hbmTy0_1 i
  | 2 => hbmTy0_2 i
  | _ => ⟨S8x64x64x512, .f32⟩

abbrev bufTy : (tb : Table) → Fin (tcTables nBuf tb) → BufTy
  | .hbm, ⟨i, _⟩ => hbmTy i
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_8 : Ref sig .tc := ⟨.hbm, 50, rfl⟩
abbrev main_c_9 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v23 : Ref sig .tc := ⟨.hbm, 57, rfl⟩
abbrev main_v24 : Ref sig .tc := ⟨.hbm, 58, rfl⟩
abbrev main_c_10 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_11 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_12 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_13 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_14 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_15 : Ref sig .tc := ⟨.hbm, 84, rfl⟩
abbrev main_v45 : Ref sig .tc := ⟨.hbm, 85, rfl⟩
abbrev main_v46 : Ref sig .tc := ⟨.hbm, 86, rfl⟩
abbrev main_cst_16 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_17 : Ref sig .tc := ⟨.hbm, 98, rfl⟩
abbrev main_v52 : Ref sig .tc := ⟨.hbm, 99, rfl⟩
abbrev main_v53 : Ref sig .tc := ⟨.hbm, 100, rfl⟩
abbrev main_c_18 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_19 : Ref sig .tc := ⟨.hbm, 111, rfl⟩
abbrev main_c_20 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v58 : Ref sig .tc := ⟨.hbm, 118, rfl⟩
abbrev main_c_21 : Ref sig .tc := ⟨.hbm, 119, rfl⟩
abbrev main_v59 : Ref sig .tc := ⟨.hbm, 120, rfl⟩
abbrev main_v60 : Ref sig .tc := ⟨.hbm, 121, rfl⟩
abbrev main_c_22 : Ref sig .tc := ⟨.hbm, 122, rfl⟩
abbrev main_v61 : Ref sig .tc := ⟨.hbm, 123, rfl⟩
abbrev main_v62 : Ref sig .tc := ⟨.hbm, 124, rfl⟩
abbrev main_c_23 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_c_24 : Ref sig .tc := ⟨.hbm, 135, rfl⟩
abbrev main_c_25 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_v67 : Ref sig .tc := ⟨.hbm, 142, rfl⟩
abbrev main_v68 : Ref sig .tc := ⟨.hbm, 143, rfl⟩
abbrev main_cst_26 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_27 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_28 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_29 : Ref sig .tc := ⟨.hbm, 161, rfl⟩
abbrev main_v83 : Ref sig .tc := ⟨.hbm, 162, rfl⟩
abbrev main_v84 : Ref sig .tc := ⟨.hbm, 163, rfl⟩
abbrev main_cst_30 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_c_31 : Ref sig .tc := ⟨.hbm, 175, rfl⟩
abbrev main_v90 : Ref sig .tc := ⟨.hbm, 176, rfl⟩
abbrev main_v91 : Ref sig .tc := ⟨.hbm, 177, rfl⟩
abbrev main_c_32 : Ref sig .tc := ⟨.hbm, 178, rfl⟩
abbrev main_call10_v0 : Ref sig .tc := ⟨.hbm, 179, rfl⟩
abbrev main_call10_v1 : Ref sig .tc := ⟨.hbm, 180, rfl⟩
abbrev main_call10_v2 : Ref sig .tc := ⟨.hbm, 181, rfl⟩
abbrev main_call10_v3 : Ref sig .tc := ⟨.hbm, 182, rfl⟩
abbrev main_call10_v4 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_c_33 : Ref sig .tc := ⟨.hbm, 188, rfl⟩
abbrev main_c_34 : Ref sig .tc := ⟨.hbm, 189, rfl⟩
abbrev main_call11_v0 : Ref sig .tc := ⟨.hbm, 190, rfl⟩
abbrev main_call11_v1 : Ref sig .tc := ⟨.hbm, 191, rfl⟩
abbrev main_call11_v2 : Ref sig .tc := ⟨.hbm, 192, rfl⟩
abbrev main_call11_v3 : Ref sig .tc := ⟨.hbm, 193, rfl⟩
abbrev main_call11_v4 : Ref sig .tc := ⟨.hbm, 194, rfl⟩
abbrev main_v96 : Ref sig .tc := ⟨.hbm, 195, rfl⟩
abbrev main_c_35 : Ref sig .tc := ⟨.hbm, 196, rfl⟩
abbrev main_v97 : Ref sig .tc := ⟨.hbm, 197, rfl⟩
abbrev main_v98 : Ref sig .tc := ⟨.hbm, 198, rfl⟩
abbrev main_c_36 : Ref sig .tc := ⟨.hbm, 199, rfl⟩
abbrev main_v99 : Ref sig .tc := ⟨.hbm, 200, rfl⟩
abbrev main_v100 : Ref sig .tc := ⟨.hbm, 201, rfl⟩
abbrev main_c_37 : Ref sig .tc := ⟨.hbm, 202, rfl⟩
abbrev main_call12_v0 : Ref sig .tc := ⟨.hbm, 203, rfl⟩
abbrev main_call12_v1 : Ref sig .tc := ⟨.hbm, 204, rfl⟩
abbrev main_call12_v2 : Ref sig .tc := ⟨.hbm, 205, rfl⟩
abbrev main_call12_v3 : Ref sig .tc := ⟨.hbm, 206, rfl⟩
abbrev main_call12_v4 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_c_38 : Ref sig .tc := ⟨.hbm, 212, rfl⟩
abbrev main_c_39 : Ref sig .tc := ⟨.hbm, 213, rfl⟩
abbrev main_call13_v0 : Ref sig .tc := ⟨.hbm, 214, rfl⟩
abbrev main_call13_v1 : Ref sig .tc := ⟨.hbm, 215, rfl⟩
abbrev main_call13_v2 : Ref sig .tc := ⟨.hbm, 216, rfl⟩
abbrev main_call13_v3 : Ref sig .tc := ⟨.hbm, 217, rfl⟩
abbrev main_call13_v4 : Ref sig .tc := ⟨.hbm, 218, rfl⟩
abbrev main_v105 : Ref sig .tc := ⟨.hbm, 219, rfl⟩
abbrev main_call14_c : Ref sig .tc := ⟨.hbm, 220, rfl⟩
abbrev main_call14_v0 : Ref sig .tc := ⟨.hbm, 221, rfl⟩
abbrev main_call14_v1 : Ref sig .tc := ⟨.hbm, 222, rfl⟩
abbrev main_call14_c_0 : Ref sig .tc := ⟨.hbm, 223, rfl⟩
abbrev main_call14_v2 : Ref sig .tc := ⟨.hbm, 224, rfl⟩
abbrev main_call14_v3 : Ref sig .tc := ⟨.hbm, 225, rfl⟩
abbrev main_call14_v4 : Ref sig .tc := ⟨.hbm, 226, rfl⟩
abbrev main_call14_v5 : Ref sig .tc := ⟨.hbm, 227, rfl⟩
abbrev main_call14_c_1 : Ref sig .tc := ⟨.hbm, 228, rfl⟩
abbrev main_call14_c_2 : Ref sig .tc := ⟨.hbm, 229, rfl⟩
abbrev main_call14_v6 : Ref sig .tc := ⟨.hbm, 230, rfl⟩
abbrev main_call14_v7 : Ref sig .tc := ⟨.hbm, 231, rfl⟩
abbrev main_call14_v8 : Ref sig .tc := ⟨.hbm, 232, rfl⟩
abbrev main_call14_v9 : Ref sig .tc := ⟨.hbm, 233, rfl⟩
abbrev main_call14_v10 : Ref sig .tc := ⟨.hbm, 234, rfl⟩
abbrev main_call14_v11 : Ref sig .tc := ⟨.hbm, 235, rfl⟩
abbrev main_call14_c_3 : Ref sig .tc := ⟨.hbm, 236, rfl⟩
abbrev main_call14_v12 : Ref sig .tc := ⟨.hbm, 237, rfl⟩
abbrev main_call14_v13 : Ref sig .tc := ⟨.hbm, 238, rfl⟩
abbrev main_call14_v14 : Ref sig .tc := ⟨.hbm, 239, rfl⟩
abbrev main_call14_cst : Ref sig .tc := ⟨.hbm, 240, rfl⟩
abbrev main_call14_v15 : Ref sig .tc := ⟨.hbm, 241, rfl⟩
abbrev main_v106 : Ref sig .tc := ⟨.hbm, 242, rfl⟩
abbrev main_call15_c : Ref sig .tc := ⟨.hbm, 243, rfl⟩
abbrev main_call15_v0 : Ref sig .tc := ⟨.hbm, 244, rfl⟩
abbrev main_call15_v1 : Ref sig .tc := ⟨.hbm, 245, rfl⟩
abbrev main_call15_c_0 : Ref sig .tc := ⟨.hbm, 246, rfl⟩
abbrev main_call15_v2 : Ref sig .tc := ⟨.hbm, 247, rfl⟩
abbrev main_call15_v3 : Ref sig .tc := ⟨.hbm, 248, rfl⟩
abbrev main_call15_v4 : Ref sig .tc := ⟨.hbm, 249, rfl⟩
abbrev main_call15_v5 : Ref sig .tc := ⟨.hbm, 250, rfl⟩
abbrev main_call15_c_1 : Ref sig .tc := ⟨.hbm, 251, rfl⟩
abbrev main_call15_c_2 : Ref sig .tc := ⟨.hbm, 252, rfl⟩
abbrev main_call15_v6 : Ref sig .tc := ⟨.hbm, 253, rfl⟩
abbrev main_call15_v7 : Ref sig .tc := ⟨.hbm, 254, rfl⟩
abbrev main_call15_v8 : Ref sig .tc := ⟨.hbm, 255, rfl⟩
abbrev main_call15_v9 : Ref sig .tc := ⟨.hbm, 256, rfl⟩
abbrev main_call15_v10 : Ref sig .tc := ⟨.hbm, 257, rfl⟩
abbrev main_call15_v11 : Ref sig .tc := ⟨.hbm, 258, rfl⟩
abbrev main_call15_c_3 : Ref sig .tc := ⟨.hbm, 259, rfl⟩
abbrev main_call15_v12 : Ref sig .tc := ⟨.hbm, 260, rfl⟩
abbrev main_call15_v13 : Ref sig .tc := ⟨.hbm, 261, rfl⟩
abbrev main_call15_v14 : Ref sig .tc := ⟨.hbm, 262, rfl⟩
abbrev main_call15_cst : Ref sig .tc := ⟨.hbm, 263, rfl⟩
abbrev main_call15_v15 : Ref sig .tc := ⟨.hbm, 264, rfl⟩
abbrev main_v107 : Ref sig .tc := ⟨.hbm, 265, rfl⟩
abbrev main_call16_c : Ref sig .tc := ⟨.hbm, 266, rfl⟩
abbrev main_call16_v0 : Ref sig .tc := ⟨.hbm, 267, rfl⟩
abbrev main_call16_v1 : Ref sig .tc := ⟨.hbm, 268, rfl⟩
abbrev main_call16_c_0 : Ref sig .tc := ⟨.hbm, 269, rfl⟩
abbrev main_call16_v2 : Ref sig .tc := ⟨.hbm, 270, rfl⟩
abbrev main_call16_v3 : Ref sig .tc := ⟨.hbm, 271, rfl⟩
abbrev main_call16_v4 : Ref sig .tc := ⟨.hbm, 272, rfl⟩
abbrev main_call16_v5 : Ref sig .tc := ⟨.hbm, 273, rfl⟩
abbrev main_call16_c_1 : Ref sig .tc := ⟨.hbm, 274, rfl⟩
abbrev main_call16_c_2 : Ref sig .tc := ⟨.hbm, 275, rfl⟩
abbrev main_call16_v6 : Ref sig .tc := ⟨.hbm, 276, rfl⟩
abbrev main_call16_v7 : Ref sig .tc := ⟨.hbm, 277, rfl⟩
abbrev main_call16_v8 : Ref sig .tc := ⟨.hbm, 278, rfl⟩
abbrev main_call16_v9 : Ref sig .tc := ⟨.hbm, 279, rfl⟩
abbrev main_call16_v10 : Ref sig .tc := ⟨.hbm, 280, rfl⟩
abbrev main_call16_v11 : Ref sig .tc := ⟨.hbm, 281, rfl⟩
abbrev main_call16_c_3 : Ref sig .tc := ⟨.hbm, 282, rfl⟩
abbrev main_call16_v12 : Ref sig .tc := ⟨.hbm, 283, rfl⟩
abbrev main_call16_v13 : Ref sig .tc := ⟨.hbm, 284, rfl⟩
abbrev main_call16_v14 : Ref sig .tc := ⟨.hbm, 285, rfl⟩
abbrev main_call16_cst : Ref sig .tc := ⟨.hbm, 286, rfl⟩
abbrev main_call16_v15 : Ref sig .tc := ⟨.hbm, 287, rfl⟩
abbrev main_v108 : Ref sig .tc := ⟨.hbm, 288, rfl⟩
abbrev main_call17_c : Ref sig .tc := ⟨.hbm, 289, rfl⟩
abbrev main_call17_v0 : Ref sig .tc := ⟨.hbm, 290, rfl⟩
abbrev main_call17_v1 : Ref sig .tc := ⟨.hbm, 291, rfl⟩
abbrev main_call17_c_0 : Ref sig .tc := ⟨.hbm, 292, rfl⟩
abbrev main_call17_v2 : Ref sig .tc := ⟨.hbm, 293, rfl⟩
abbrev main_call17_v3 : Ref sig .tc := ⟨.hbm, 294, rfl⟩
abbrev main_call17_v4 : Ref sig .tc := ⟨.hbm, 295, rfl⟩
abbrev main_call17_v5 : Ref sig .tc := ⟨.hbm, 296, rfl⟩
abbrev main_call17_c_1 : Ref sig .tc := ⟨.hbm, 297, rfl⟩
abbrev main_call17_c_2 : Ref sig .tc := ⟨.hbm, 298, rfl⟩
abbrev main_call17_v6 : Ref sig .tc := ⟨.hbm, 299, rfl⟩
abbrev main_call17_v7 : Ref sig .tc := ⟨.hbm, 300, rfl⟩
abbrev main_call17_v8 : Ref sig .tc := ⟨.hbm, 301, rfl⟩
abbrev main_call17_v9 : Ref sig .tc := ⟨.hbm, 302, rfl⟩
abbrev main_call17_v10 : Ref sig .tc := ⟨.hbm, 303, rfl⟩
abbrev main_call17_v11 : Ref sig .tc := ⟨.hbm, 304, rfl⟩
abbrev main_call17_c_3 : Ref sig .tc := ⟨.hbm, 305, rfl⟩
abbrev main_call17_v12 : Ref sig .tc := ⟨.hbm, 306, rfl⟩
abbrev main_call17_v13 : Ref sig .tc := ⟨.hbm, 307, rfl⟩
abbrev main_call17_v14 : Ref sig .tc := ⟨.hbm, 308, rfl⟩
abbrev main_call17_cst : Ref sig .tc := ⟨.hbm, 309, rfl⟩
abbrev main_call17_v15 : Ref sig .tc := ⟨.hbm, 310, rfl⟩
abbrev main_v109 : Ref sig .tc := ⟨.hbm, 311, rfl⟩
abbrev main_call18_c : Ref sig .tc := ⟨.hbm, 312, rfl⟩
abbrev main_call18_v0 : Ref sig .tc := ⟨.hbm, 313, rfl⟩
abbrev main_call18_v1 : Ref sig .tc := ⟨.hbm, 314, rfl⟩
abbrev main_call18_c_0 : Ref sig .tc := ⟨.hbm, 315, rfl⟩
abbrev main_call18_v2 : Ref sig .tc := ⟨.hbm, 316, rfl⟩
abbrev main_call18_v3 : Ref sig .tc := ⟨.hbm, 317, rfl⟩
abbrev main_call18_v4 : Ref sig .tc := ⟨.hbm, 318, rfl⟩
abbrev main_call18_v5 : Ref sig .tc := ⟨.hbm, 319, rfl⟩
abbrev main_call18_c_1 : Ref sig .tc := ⟨.hbm, 320, rfl⟩
abbrev main_call18_c_2 : Ref sig .tc := ⟨.hbm, 321, rfl⟩
abbrev main_call18_v6 : Ref sig .tc := ⟨.hbm, 322, rfl⟩
abbrev main_call18_v7 : Ref sig .tc := ⟨.hbm, 323, rfl⟩
abbrev main_call18_v8 : Ref sig .tc := ⟨.hbm, 324, rfl⟩
abbrev main_call18_v9 : Ref sig .tc := ⟨.hbm, 325, rfl⟩
abbrev main_call18_v10 : Ref sig .tc := ⟨.hbm, 326, rfl⟩
abbrev main_call18_v11 : Ref sig .tc := ⟨.hbm, 327, rfl⟩
abbrev main_call18_c_3 : Ref sig .tc := ⟨.hbm, 328, rfl⟩
abbrev main_call18_v12 : Ref sig .tc := ⟨.hbm, 329, rfl⟩
abbrev main_call18_v13 : Ref sig .tc := ⟨.hbm, 330, rfl⟩
abbrev main_call18_v14 : Ref sig .tc := ⟨.hbm, 331, rfl⟩
abbrev main_call18_cst : Ref sig .tc := ⟨.hbm, 332, rfl⟩
abbrev main_call18_v15 : Ref sig .tc := ⟨.hbm, 333, rfl⟩
abbrev main_v110 : Ref sig .tc := ⟨.hbm, 334, rfl⟩
abbrev main_call19_c : Ref sig .tc := ⟨.hbm, 335, rfl⟩
abbrev main_call19_v0 : Ref sig .tc := ⟨.hbm, 336, rfl⟩
abbrev main_call19_v1 : Ref sig .tc := ⟨.hbm, 337, rfl⟩
abbrev main_call19_c_0 : Ref sig .tc := ⟨.hbm, 338, rfl⟩
abbrev main_call19_v2 : Ref sig .tc := ⟨.hbm, 339, rfl⟩
abbrev main_call19_v3 : Ref sig .tc := ⟨.hbm, 340, rfl⟩
abbrev main_call19_v4 : Ref sig .tc := ⟨.hbm, 341, rfl⟩
abbrev main_call19_v5 : Ref sig .tc := ⟨.hbm, 342, rfl⟩
abbrev main_call19_c_1 : Ref sig .tc := ⟨.hbm, 343, rfl⟩
abbrev main_call19_c_2 : Ref sig .tc := ⟨.hbm, 344, rfl⟩
abbrev main_call19_v6 : Ref sig .tc := ⟨.hbm, 345, rfl⟩
abbrev main_call19_v7 : Ref sig .tc := ⟨.hbm, 346, rfl⟩
abbrev main_call19_v8 : Ref sig .tc := ⟨.hbm, 347, rfl⟩
abbrev main_call19_v9 : Ref sig .tc := ⟨.hbm, 348, rfl⟩
abbrev main_call19_v10 : Ref sig .tc := ⟨.hbm, 349, rfl⟩
abbrev main_call19_v11 : Ref sig .tc := ⟨.hbm, 350, rfl⟩
abbrev main_call19_c_3 : Ref sig .tc := ⟨.hbm, 351, rfl⟩
abbrev main_call19_v12 : Ref sig .tc := ⟨.hbm, 352, rfl⟩
abbrev main_call19_v13 : Ref sig .tc := ⟨.hbm, 353, rfl⟩
abbrev main_call19_v14 : Ref sig .tc := ⟨.hbm, 354, rfl⟩
abbrev main_call19_cst : Ref sig .tc := ⟨.hbm, 355, rfl⟩
abbrev main_call19_v15 : Ref sig .tc := ⟨.hbm, 356, rfl⟩
abbrev main_v111 : Ref sig .tc := ⟨.hbm, 357, rfl⟩
abbrev main_v112 : Ref sig .tc := ⟨.hbm, 358, rfl⟩
abbrev main_v113 : Ref sig .tc := ⟨.hbm, 359, rfl⟩
abbrev main_cst_40 : Ref sig .tc := ⟨.hbm, 360, rfl⟩
abbrev main_v114 : Ref sig .tc := ⟨.hbm, 361, rfl⟩
abbrev main_v115 : Ref sig .tc := ⟨.hbm, 362, rfl⟩
abbrev main_v116 : Ref sig .tc := ⟨.hbm, 363, rfl⟩
abbrev main_v117 : Ref sig .tc := ⟨.hbm, 364, rfl⟩
abbrev main_v118 : Ref sig .tc := ⟨.hbm, 365, rfl⟩
abbrev main_v119 : Ref sig .tc := ⟨.hbm, 366, rfl⟩
abbrev main_v120 : Ref sig .tc := ⟨.hbm, 367, rfl⟩
abbrev main_cst_41 : Ref sig .tc := ⟨.hbm, 368, rfl⟩
abbrev main_v121 : Ref sig .tc := ⟨.hbm, 369, rfl⟩
abbrev main_v122 : Ref sig .tc := ⟨.hbm, 370, rfl⟩
abbrev main_v123 : Ref sig .tc := ⟨.hbm, 371, rfl⟩
abbrev main_v124 : Ref sig .tc := ⟨.hbm, 372, rfl⟩
abbrev main_v125 : Ref sig .tc := ⟨.hbm, 373, rfl⟩
abbrev main_v126 : Ref sig .tc := ⟨.hbm, 374, rfl⟩
abbrev main_v127 : Ref sig .tc := ⟨.hbm, 375, rfl⟩
abbrev main_cst_42 : Ref sig .tc := ⟨.hbm, 376, rfl⟩
abbrev main_v128 : Ref sig .tc := ⟨.hbm, 377, rfl⟩
abbrev main_v129 : Ref sig .tc := ⟨.hbm, 378, rfl⟩
abbrev main_v130 : Ref sig .tc := ⟨.hbm, 379, rfl⟩
abbrev main_v131 : Ref sig .tc := ⟨.hbm, 380, rfl⟩
abbrev main_v132 : Ref sig .tc := ⟨.hbm, 381, rfl⟩
abbrev main_v133 : Ref sig .tc := ⟨.hbm, 382, rfl⟩
abbrev main_v134 : Ref sig .tc := ⟨.hbm, 383, rfl⟩

abbrev nD : Nat := 1
abbrev τ : Topo := Topo.v7x

variable {F : FTy → Type} [FloatOps F]
-- ==== Proof.Steps.lean ====
/-
  RUNNING A STRAIGHT-LINE BODY ONE STEP AT A TIME. A body that only reads some buffers and writes one other is described by
  what it reads (`Reads`: a resource that lends the buffer at contents fixed throughout) and by what is known of the written
  buffer so far (`Run`: from any contents of the written buffer with the property `G`, the program runs). One lemma per
  kind of step; nothing here knows which program runs.
-/
module

public import Idealize.ShloMosaic.Lib.WholeRead
public import Idealize.ShloMosaic.Lib.WritesUnit
public import Idealize.ShloMosaic.Rules.Step
public import Idealize.ShloMosaic.PureOps

@[expose] public section

noncomputable section

namespace Cert.Pool

open Idealize.ShloMosaic Idealize.SL Idealize.SL.RA Idealize.SL.Sem Idealize.SL.ProofMode
open Idealize.SL.BI (sProp)
open Idealize.SL.BI.BIBase Idealize.SL.BI.Laws
open scoped Idealize.SL.BI

variable {nD : Nat} {τ : Topo} {sig : RefSig} {Ix : Type} [DecidableEq Ix]
variable {Val : EltTy → Type} {Name : Type} [DecidableEq Name] {U : Type} [URA U] {Lvl : Type} [Preorder Lvl] {Λ : Labels}
variable [∀ e, Nonempty (Val e)]
local notation "𝕄" => MT nD τ sig Ix Val Name U Lvl

/-- `R` lends the whole memref `m`, at the contents reading `T`, and takes it back. -/
def Reads (c : Dev nD) (R : sProp 𝕄) {cs : CoreSpace} {s : Shape} {e : EltTy} (m : Memref sig .tc cs s e) (h : m.IsWhole)
    (T : s.Idx → Val e) : Prop :=
  ∃ q : PosShare TreeShare,
    R ⊢ iprop((m.view.loc (c.tc : Thread nD τ) ↦{q} h.unread T) ∗ ((m.view.loc (c.tc : Thread nD τ) ↦{q} h.unread T) -∗ R))

/-- From `R` and any contents of `m` that `G` holds of, `p` runs to `Φ`. -/
def Run (defs : Defs nD τ sig Val Λ) (𝒱 : Variants) (c : Dev nD) (R : sProp 𝕄) {cs : CoreSpace} {s : Shape} {e : EltTy}
    (m : Memref sig .tc cs s e) (h : m.IsWhole) (G : (s.Idx → Val e) → Prop) {α : Type}
    (p : Prog (TpuEff nD τ sig Val Λ .tc) α) (Φ : α → sProp 𝕄) : Prop :=
  ∀ X, G X → iprop(R ∗ (m.view.loc (c.tc : Thread nD τ) ↦{fullShare} h.unread X))
    ⊢ wp (M := 𝕄) frame (wpE defs 𝒱 (c.tc : Thread nD τ) none) Set.univ p Φ

section
variable {defs : Defs nD τ sig Val Λ} {𝒱 : Variants} {c : Dev nD} {cs : CoreSpace} {s : Shape} {e : EltTy}
variable {m : Memref sig .tc cs s e} {h : m.IsWhole} {G : (s.Idx → Val e) → Prop} {α : Type}

/-- A program that has returned. -/
theorem Run.ret {R : sProp 𝕄} {Φ : α → sProp 𝕄} {a : α}
    (hp : ∀ X, G X → (iprop(R ∗ (m.view.loc (c.tc : Thread nD τ) ↦{fullShare} h.unread X)) : sProp 𝕄) ⊢ Φ a) :
    Run (Ix := Ix) (Name := Name) (U := U) (Lvl := Lvl) defs 𝒱 c R m h G (.ret a) Φ := fun X hX => by
  refine (hp X hX).trans ?_
  rw [wp_ret]
  exact BI.fupd_intro (PROP := sProp 𝕄)

/-- One part of a program, then the rest: the part runs to what it returns, whatever comes after it. -/
theorem Run.bind {R R' : sProp 𝕄} {Φ : α → sProp 𝕄} {β : Type} {p : Prog (TpuEff nD τ sig Val Λ .tc) β}
    {k : β → Prog (TpuEff nD τ sig Val Λ .tc) α} {G' : (s.Idx → Val e) → Prop} {r : β}
    (hp : ∀ Ψ : β → sProp 𝕄, Run (Ix := Ix) (Name := Name) (U := U) (Lvl := Lvl) defs 𝒱 c R' m h G' (.ret r) Ψ → Run (Ix := Ix) (Name := Name) (U := U) (Lvl := Lvl) defs 𝒱 c R m h G p Ψ)
    (hk : Run (Ix := Ix) (Name := Name) (U := U) (Lvl := Lvl) defs 𝒱 c R' m h G' (k r) Φ) : Run (Ix := Ix) (Name := Name) (U := U) (Lvl := Lvl) defs 𝒱 c R m h G (p >>= k) Φ := fun X hX => by
  rw [wp_bind]
  refine hp _ (fun Y hY => (hk Y hY).trans ?_) X hX
  rw [wp_ret]
  exact BI.fupd_intro (PROP := sProp 𝕄)

/-- A load from a buffer the program only reads. -/
theorem Run.load {R : sProp 𝕄} {Φ : α → sProp 𝕄} {cs' : CoreSpace} {s' : Shape} {e' : EltTy}
    {m' : Memref sig .tc cs' s' e'} {h' : m'.IsWhole} {T : s'.Idx → Val e'}
    (hr : Reads (Ix := Ix) (Name := Name) (U := U) (Lvl := Lvl) c R m' h' T) {off size : Fin s'.rank → ℕ} {inb : ∀ a, off a + size a ≤ s'.size a}
    {hl : m'.view.LoadsAt (Rect.unit off size inb).toLoadRect}
    {k : ((Rect.unit off size inb).toLoadRect.shape.Idx → Val e') → Prog (TpuEff nD τ sig Val Λ .tc) α}
    (hk : Run (Ix := Ix) (Name := Name) (U := U) (Lvl := Lvl) defs 𝒱 c R m h G (k fun x => T ((Rect.unit off size inb).toLoadRect.idx x)) Φ) :
    Run (Ix := Ix) (Name := Name) (U := U) (Lvl := Lvl) defs 𝒱 c R m h G (Prog.lift (.load m' (Rect.unit off size inb).toLoadRect hl) >>= k) Φ := fun X hX => by
  obtain ⟨q, hq⟩ := hr
  have e : m'.view.readAt Val (Rect.unit off size inb).toLoadRect (h'.unread T)
      = fun x => T ((Rect.unit off size inb).toLoadRect.idx x) := funext fun x => h'.readAt_unread T _ x
  refine (sep_mono hq .rfl).trans ?_
  show _ ⊢ wp (M := 𝕄) frame _ _ (.op (.load m' (Rect.unit off size inb).toLoadRect hl) k) Φ
  iintro ⟨⟨Hm, Hw⟩, HX⟩
  iapply (wp_load 𝒱 (c.tc : Thread nD τ) none Set.univ (Finset.subset_univ _)) $$ Hm
  iintro Hm
  rw [e]
  iapply (hk X hX)
  isplitr [HX]
  · iapply Hw
    iexact Hm
  · iexact HX

/-- A load from the buffer the program writes: whatever it reads. -/
theorem Run.loadSelf {R : sProp 𝕄} {Φ : α → sProp 𝕄} {r : LoadRect s} {hl : m.view.LoadsAt r}
    {k : (r.shape.Idx → Val e) → Prog (TpuEff nD τ sig Val Λ .tc) α}
    (hk : ∀ v, Run (Ix := Ix) (Name := Name) (U := U) (Lvl := Lvl) defs 𝒱 c R m h G (k v) Φ) :
    Run (Ix := Ix) (Name := Name) (U := U) (Lvl := Lvl) defs 𝒱 c R m h G (Prog.lift (.load m r hl) >>= k) Φ := fun X hX => by
  show _ ⊢ wp (M := 𝕄) frame _ _ (.op (.load m r hl) k) Φ
  iintro ⟨HR, HX⟩
  iapply (wp_load 𝒱 (c.tc : Thread nD τ) none Set.univ (Finset.subset_univ _)) $$ HX
  iintro HX
  iapply (hk _ X hX)
  isplitl [HR]
  · iexact HR
  · iexact HX

/-- A word of scalar memory the program only reads. -/
theorem Run.word {R : sProp 𝕄} {Φ : α → sProp 𝕄} {s' : Shape} {e' : EltTy}
    {m' : Memref sig .tc .smem s' e'} {h' : m'.IsWhole} {T : s'.Idx → Val e'}
    (hr : Reads (Ix := Ix) (Name := Name) (U := U) (Lvl := Lvl) c R m' h' T) {off size : Fin s'.rank → ℕ} {inb : ∀ a, off a + size a ≤ s'.size a}
    {h1 : (Rect.unit off size inb).shape.numel = 1} {hp : e'.packing = 1}
    {k : Val e' → Prog (TpuEff nD τ sig Val Λ .tc) α}
    (hk : Run (Ix := Ix) (Name := Name) (U := U) (Lvl := Lvl) defs 𝒱 c R m h G (k (T ((Rect.unit off size inb).toLoadRect.idx (Shape.Idx.first (h1.symm ▸ Nat.one_pos))))) Φ) :
    Run (Ix := Ix) (Name := Name) (U := U) (Lvl := Lvl) defs 𝒱 c R m h G (smemLoad m' (Rect.unit off size inb) h1 hp >>= k) Φ :=
  Run.load (hl := View.loadsAt_rect (View.loads_smem_one hp h1))
    (k := fun f => k (f (Shape.Idx.first (h1.symm ▸ Nat.one_pos)))) hr hk

/-- An assumption that holds. -/
theorem Run.assume {R : sProp 𝕄} {Φ : α → sProp 𝕄} {P : Prop} {d : Decidable P}
    {k : PLift P → Prog (TpuEff nD τ sig Val Λ .tc) α} (hP : P)
    (hk : Run (Ix := Ix) (Name := Name) (U := U) (Lvl := Lvl) defs 𝒱 c R m h G (k ⟨hP⟩) Φ) :
    Run (Ix := Ix) (Name := Name) (U := U) (Lvl := Lvl) defs 𝒱 c R m h G (Prog.lift (.assume P d) >>= k) Φ := fun X hX =>
  (hk X hX).trans (wp_assume 𝒱 (c.tc : Thread nD τ) none Set.univ hP)

/-- A store through a unit-stride rectangle: `G'` is what `G` becomes when the rectangle is given the stored value. -/
theorem Run.store {R : sProp 𝕄} {Φ : α → sProp 𝕄} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ .tc) α} {G' : (s.Idx → Val e) → Prop}
    (hG : ∀ X Y : s.Idx → Val e, G X →
      (∀ y, (∃ a, (y a).val < off a ∨ off a + size a ≤ (y a).val) → Y y = X y) →
      (∀ (y : s.Idx) (x : (Rect.unit off size inb).shape.Idx), (∀ a, (y a).val = off a + (x a).val) → Y y = w x) → G' Y)
    (hk : Run (Ix := Ix) (Name := Name) (U := U) (Lvl := Lvl) defs 𝒱 c R m h G' (k ⟨⟩) Φ) :
    Run (Ix := Ix) (Name := Name) (U := U) (Lvl := Lvl) defs 𝒱 c R m h G (Prog.lift (.store m (Rect.unit off size inb) w Finset.univ hx hm) >>= k) Φ := fun X hX => by
  show iprop(R ∗ ((m.access (Rect.unit off size inb)).loc (c.tc : Thread nD τ) ↦{fullShare} h.unread X))
    ⊢ wp (M := 𝕄) frame _ _ (.op (.store m (Rect.unit off size inb) w Finset.univ hx hm) k) Φ
  have e : (m.access (Rect.unit off size inb)).write Val (h.unread X) w Finset.univ
      = h.unread (m.view.read Val (m.view.writes Val (h.unread X) [⟨Rect.unit off size inb, w⟩])) :=
    (h.unread_read _).symm
  iintro ⟨HR, HX⟩
  iapply (wp_store 𝒱 (c.tc : Thread nD τ) none Set.univ (Finset.subset_univ _)) $$ HX
  iintro HX
  rw [e]
  iapply (hk _ (hG X _ hX (fun y ⟨a, ha⟩ => ?_) fun y x hxy => ?_))
  · exact (View.read_writes_cons_unit_of_not_mem _ _ inb w [] y rfl a ha).trans (congrFun (h.read_unread X) y)
  · exact View.read_writes_cons_unit_of_mem _ _ inb w [] y x rfl hxy
  isplitl [HR]
  · iexact HR
  · iexact HX

/-- The buffer written so far is set aside among what is held, and another one of those held is written next. -/
theorem Run.turn {R : sProp 𝕄} {Φ : α → sProp 𝕄} {cs' : CoreSpace} {s' : Shape} {e' : EltTy} {m' : Memref sig .tc cs' s' e'} {h' : m'.IsWhole}
    {G' : (s'.Idx → Val e') → Prop} {p : Prog (TpuEff nD τ sig Val Λ .tc) α} {Y : s'.Idx → Val e'} (hY : G' Y)
    (hk : ∀ X, G X → Run (Ix := Ix) (Name := Name) (U := U) (Lvl := Lvl) defs 𝒱 c iprop(R ∗ (m.view.loc (c.tc : Thread nD τ) ↦{fullShare} h.unread X)) m' h' G' p Φ) :
    Run (Ix := Ix) (Name := Name) (U := U) (Lvl := Lvl) defs 𝒱 c iprop(R ∗ (m'.view.loc (c.tc : Thread nD τ) ↦{fullShare} h'.unread Y)) m h G p Φ := fun X hX => by
  have e : (iprop((R ∗ (m'.view.loc (c.tc : Thread nD τ) ↦{fullShare} h'.unread Y)) ∗ (m.view.loc (c.tc : Thread nD τ) ↦{fullShare} h.unread X)) : sProp 𝕄)
      ⊢ iprop((R ∗ (m.view.loc (c.tc : Thread nD τ) ↦{fullShare} h.unread X)) ∗ (m'.view.loc (c.tc : Thread nD τ) ↦{fullShare} h'.unread Y)) := by
    iintro ⟨⟨HR, HY⟩, HX⟩
    isplitr [HY]
    · isplitl [HR]
      · iexact HR
      · iexact HX
    · iexact HY
  exact e.trans (hk X hX Y hY)

/-- What is lent by a part is lent by the whole. -/
theorem Reads.left {R P : sProp 𝕄} {cs' : CoreSpace} {s' : Shape} {e' : EltTy} {m' : Memref sig .tc cs' s' e'} {h' : m'.IsWhole}
    {T : s'.Idx → Val e'} (hr : Reads (Ix := Ix) (Name := Name) (U := U) (Lvl := Lvl) c R m' h' T) :
    Reads (Ix := Ix) (Name := Name) (U := U) (Lvl := Lvl) c iprop(R ∗ P) m' h' T := by
  obtain ⟨q, hq⟩ := hr
  refine ⟨q, (sep_mono hq .rfl).trans ?_⟩
  iintro ⟨⟨Hm, Hw⟩, HP⟩
  isplitl [Hm]
  · iexact Hm
  iintro Hm
  isplitr [HP]
  · iapply Hw
    iexact Hm
  · iexact HP

/-- The buffer set aside is lent. -/
theorem Reads.right {R : sProp 𝕄} {cs' : CoreSpace} {s' : Shape} {e' : EltTy} {m' : Memref sig .tc cs' s' e'} {h' : m'.IsWhole}
    {T : s'.Idx → Val e'} :
    Reads (Ix := Ix) (Name := Name) (U := U) (Lvl := Lvl) c iprop(R ∗ (m'.view.loc (c.tc : Thread nD τ) ↦{fullShare} h'.unread T)) m' h' T := by
  refine ⟨fullShare, ?_⟩
  iintro ⟨HR, Hm⟩
  isplitl [Hm]
  · iexact Hm
  iintro Hm
  isplitl [HR]
  · iexact HR
  · iexact Hm

/-- What is known of the written buffer may be forgotten, or said otherwise. -/
theorem Run.mono {R : sProp 𝕄} {Φ : α → sProp 𝕄} {p : Prog (TpuEff nD τ sig Val Λ .tc) α} {G' : (s.Idx → Val e) → Prop}
    (hG : ∀ X, G X → G' X) (hk : Run (Ix := Ix) (Name := Name) (U := U) (Lvl := Lvl) defs 𝒱 c R m h G' p Φ) : Run (Ix := Ix) (Name := Name) (U := U) (Lvl := Lvl) defs 𝒱 c R m h G p Φ := fun X hX => hk X (hG X hX)

end

end Cert.Pool

end
-- ==== Proof.Pool.lean ====
/-
  WHAT ONE GRID POINT COMPUTES, said once for both element readings. A point holds 64 boxes. For box `rr` and pooled row `p`
  the body reads two rows of the scratch image and a weight from the tables, blends the rows, and multiplies the blend of a
  window of 48 columns by the box's 7×48 matrix of column weights (`pay`). `Good n`: the block of results holds the first `n`
  of these products, in the order the body makes them. `fill`: the scratch image, the feature block rounded.
-/
module

public import proofs.«01_k».proof.Proof.Steps
public import Idealize.ShloMosaic.Lib.Pipeline.Value

@[expose] public section

noncomputable section

namespace Cert.Pool

open Idealize.ShloMosaic

abbrev Rows : Shape := ⟨1, ![7168]⟩
abbrev Boxes : Shape := ⟨1, ![1024]⟩
abbrev Image : Shape := ⟨4, ![1, 64, 64, 512]⟩
abbrev ImageRows : Shape := ⟨4, ![1, 8, 64, 512]⟩
abbrev Scratch : Shape := ⟨3, ![64, 64, 512]⟩
abbrev ScratchRows : Shape := ⟨3, ![8, 64, 512]⟩
abbrev Weights : Shape := ⟨4, ![1, 64, 7, 48]⟩
abbrev BoxWeights : Shape := ⟨4, ![1, 1, 7, 48]⟩
abbrev Left : Shape := ⟨2, ![7, 48]⟩
abbrev Strip : Shape := ⟨3, ![1, 48, 512]⟩
abbrev Right : Shape := ⟨2, ![48, 512]⟩
abbrev Prod : Shape := ⟨2, ![7, 512]⟩
abbrev Out : Shape := ⟨5, ![1, 7, 7, 64, 512]⟩
abbrev OutRow : Shape := ⟨5, ![1, 1, 7, 1, 512]⟩

/-- The product of the column weights and a blended window. -/
def dims : DotDims Left Right Prod where
  lhsContracting := [1]
  rhsContracting := [0]
  lhsNonContracting := [0]
  rhsNonContracting := [1]
  lhsBatch := []
  rhsBatch := []
  wf := by decide

/-- The first box of the point, as the body computes it: `(i₀ · 2 + i₁) · 64`. -/
abbrev first (i0 i1 : ℕ) : BitVec 32 :=
  Scalar.muli (Scalar.addi (Scalar.muli (BitVec.ofNat 32 i0) 2#32) (BitVec.ofNat 32 i1)) 64#32

/-- Where box `rr`'s window start is in its table. -/
abbrev boxAt (i0 i1 rr : ℕ) : ℕ := (Scalar.indexCast (Scalar.addi (first i0 i1) (BitVec.ofNat 32 rr))).toNat

/-- Where pooled row `p` of box `rr` is in the row tables. -/
abbrev rowAt (i0 i1 rr p : ℕ) : ℕ :=
  (Scalar.indexCast (Scalar.addi (Scalar.muli (Scalar.addi (first i0 i1) (BitVec.ofNat 32 rr)) 7#32) (BitVec.ofNat 32 p))).toNat

/-- 48 columns of a row of the image, from column `x`. -/
abbrev strip {α : Type} (B : ℕ → ℕ → ℕ → α) (y x : BitVec 32) : Strip.Idx → α :=
  fun j => B ((Scalar.indexCast y).toNat + (j 0).val) ((Scalar.indexCast x).toNat + (j 1).val) (0 + (j 2).val)

variable {F : FTy → Type} [FloatOps F]

section
variable (t0 t1 t2 : ℕ → Elt F .i32) (w : ℕ → Elt F .f32) (K : ℕ → ℕ → ℕ → ℕ → Elt F .bf16) (B : ℕ → ℕ → ℕ → Elt F .bf16) (i0 i1 : ℕ)

/-- The blend of two rows of the image: `r₀ + (r₁ − r₀) · w`. -/
def blend (rr p : ℕ) : FVec F Right .bf16 :=
  addf (shapeCast Right (strip B (t0 (rowAt i0 i1 rr p)) (t2 (boxAt i0 i1 rr))))
    (mulf (subf (shapeCast Right (strip B (t1 (rowAt i0 i1 rr p)) (t2 (boxAt i0 i1 rr))))
        (shapeCast Right (strip B (t0 (rowAt i0 i1 rr p)) (t2 (boxAt i0 i1 rr)))))
      (broadcast Right (Scalar.truncf .bf16 (by decide) (w (rowAt i0 i1 rr p)))))

/-- What the body stores for pooled row `p` of box `rr`. -/
def pay (rr p : ℕ) : OutRow.Idx → Elt F .f32 :=
  shapeCast OutRow (matmul dims none
    (shapeCast Left (fun j : BoxWeights.Idx => K (0 + (j 0).val) (rr + (j 1).val) (0 + (j 2).val) (0 + (j 3).val)))
    (blend t0 t1 t2 w B i0 i1 rr p) (constant Prod .f32 0x00000000#32))

end

/-- The scratch image: the feature block, rounded. -/
def rounded (M : ℕ → ℕ → ℕ → ℕ → Elt F .f32) (y x ch : ℕ) : Elt F .bf16 := FloatOps.truncf .bf16 (by decide) (M 0 y x ch)

/-- Eight rows of the feature block, rounded, are eight rows of the scratch image. -/
theorem round_rows (M : ℕ → ℕ → ℕ → ℕ → Elt F .f32) (r : ℕ) {h : ImageRows.ShapeCasts ScratchRows} {h' : ScratchRows.ShapeCasts ScratchRows}
    {hb : FTy.bits .bf16 < FTy.bits .f32} (x : ScratchRows.Idx) :
    shapeCast ScratchRows (truncf (F := F) .bf16 (shapeCast ScratchRows
        (fun j : ImageRows.Idx => M (0 + (j 0).val) (r + (j 1).val) (0 + (j 2).val) (0 + (j 3).val)) h) hb) h' x
      = rounded M (r + (x 0).val) (x 1).val (x 2).val := by
  rw [shapeCast_self]
  show FloatOps.truncf .bf16 _ (shapeCast _ _ h x) = FloatOps.truncf .bf16 _ _
  rw [shapeCast_dropUnit_apply ![8, 64, 512]]
  show FloatOps.truncf .bf16 _ (M (0 + 0) (r + (x 0).val) (0 + (x 1).val) (0 + (x 2).val)) = _
  simp only [Nat.zero_add]

/-- The first `n` products are in the block of results. -/
def Good {α : Type} (f : ℕ → ℕ → OutRow.Idx → α) (n : ℕ) (X : Out.Idx → α) : Prop :=
  ∀ (y : Out.Idx) (x : OutRow.Idx), (y 3).val * 7 + (y 1).val < n → (x 2).val = (y 2).val → (x 4).val = (y 4).val →
    X y = f (y 3).val (y 1).val x

/-- The first `n` rows of the scratch image hold `B`. -/
def Filled {α : Type} (B : ℕ → ℕ → ℕ → α) (n : ℕ) (X : Scratch.Idx → α) : Prop :=
  ∀ y : Scratch.Idx, (y 0).val < n → X y = B (y 0).val (y 1).val (y 2).val

/-- A window of 48 columns from a column at most 16, of a row below 64, lies in the scratch image. -/
theorem strip_inb {x y : BitVec 32} (hx : x.toNat ≤ 16) (hy : y.toNat ≤ 63) :
    ∀ a, (![(Scalar.indexCast y).toNat, (Scalar.indexCast x).toNat, 0] : Fin 3 → ℕ) a + Strip.size a ≤ Scratch.size a := by
  intro a
  have ey : (Scalar.indexCast y).toNat = y.toNat := rfl
  have ex : (Scalar.indexCast x).toNat = x.toNat := rfl
  fin_cases a
  · show (Scalar.indexCast y).toNat + 1 ≤ 64
    omega
  · show (Scalar.indexCast x).toNat + 48 ≤ 64
    omega
  · show 0 + 512 ≤ 512
    omega

section Steps
open Idealize.SL Idealize.SL.RA Idealize.SL.Sem
open Idealize.SL.BI (sProp)

variable {nD : Nat} {τ : Topo} {sig : RefSig} {Ix : Type} [DecidableEq Ix]
variable {Name : Type} [DecidableEq Name] {U : Type} [URA U] {Lvl : Type} [Preorder Lvl] {Λ : Labels}
local notation "𝕄" => MT nD τ sig Ix (Elt F) Name U Lvl

variable {defs : Defs nD τ sig (Elt F) Λ} {𝒱 : Variants} {c : Dev nD} {cs : CoreSpace} {s : Shape} {e : EltTy}
variable {m : Memref sig .tc cs s e} {h : m.IsWhole} {G : (s.Idx → Elt F e) → Prop} {α : Type}

/-- A word of a table of words. -/
theorem Run.tableWord {R : sProp 𝕄} {Φ : α → sProp 𝕄} {n : ℕ} {e' : EltTy} {m' : Memref sig .tc .smem ⟨1, ![n]⟩ e'} {h' : m'.IsWhole}
    {t : ℕ → Elt F e'}
    (hr : Reads (Ix := Ix) (Name := Name) (U := U) (Lvl := Lvl) c R m' h' (fun j => t (j 0).val))
    {off : Fin 1 → ℕ} {inb : ∀ a, off a + ![1] a ≤ (⟨1, ![n]⟩ : Shape).size a}
    {h1 : (Rect.unit (s := ⟨1, ![n]⟩) off ![1] inb).shape.numel = 1} {hp : e'.packing = 1}
    {k : Elt F e' → Prog (TpuEff nD τ sig (Elt F) Λ .tc) α}
    (hk : Run (Ix := Ix) (Name := Name) (U := U) (Lvl := Lvl) defs 𝒱 c R m h G (k (t (off 0))) Φ) :
    Run (Ix := Ix) (Name := Name) (U := U) (Lvl := Lvl) defs 𝒱 c R m h G
      (smemLoad m' (Rect.unit (s := ⟨1, ![n]⟩) off ![1] inb) h1 hp >>= k) Φ := by
  refine Run.word hr ?_
  have e : ((Rect.unit (s := ⟨1, ![n]⟩) off ![1] inb).toLoadRect.idx (Shape.Idx.first (h1.symm ▸ Nat.one_pos)) 0).val = off 0 := by
    have hlt : ((Shape.Idx.first (s := (Rect.unit (s := ⟨1, ![n]⟩) off ![1] inb).shape) (h1.symm ▸ Nat.one_pos)) 0).val < 1 :=
      ((Shape.Idx.first (s := (Rect.unit (s := ⟨1, ![n]⟩) off ![1] inb).shape) (h1.symm ▸ Nat.one_pos)) 0).isLt
    show off 0 + 1 * _ = off 0
    omega
  simpa only [e] using hk

/-- A word of a table of integers. -/
theorem Run.intWord {R : sProp 𝕄} {Φ : α → sProp 𝕄} {n : ℕ} {m' : Memref sig .tc .smem ⟨1, ![n]⟩ .i32} {h' : m'.IsWhole}
    {t : ℕ → Elt F .i32}
    (hr : Reads (Ix := Ix) (Name := Name) (U := U) (Lvl := Lvl) c R m' h' (fun j => t (j 0).val))
    {off : Fin 1 → ℕ} {inb : ∀ a, off a + ![1] a ≤ (⟨1, ![n]⟩ : Shape).size a}
    {h1 : (Rect.unit (s := ⟨1, ![n]⟩) off ![1] inb).shape.numel = 1} {hp : EltTy.packing .i32 = EltTy.packing .i32}
    {k : Elt F .i32 → Prog (TpuEff nD τ sig (Elt F) Λ .tc) α}
    (hk : Run (Ix := Ix) (Name := Name) (U := U) (Lvl := Lvl) defs 𝒱 c R m h G (k (t (off 0))) Φ) :
    Run (Ix := Ix) (Name := Name) (U := U) (Lvl := Lvl) defs 𝒱 c R m h G
      (smemLoad m' (Rect.unit (s := ⟨1, ![n]⟩) off ![1] inb) h1 hp >>= k) Φ := Run.tableWord hr hk

/-- A word of a table of floats. -/
theorem Run.floatWord {R : sProp 𝕄} {Φ : α → sProp 𝕄} {n : ℕ} {m' : Memref sig .tc .smem ⟨1, ![n]⟩ .f32} {h' : m'.IsWhole}
    {t : ℕ → Elt F .f32}
    (hr : Reads (Ix := Ix) (Name := Name) (U := U) (Lvl := Lvl) c R m' h' (fun j => t (j 0).val))
    {off : Fin 1 → ℕ} {inb : ∀ a, off a + ![1] a ≤ (⟨1, ![n]⟩ : Shape).size a}
    {h1 : (Rect.unit (s := ⟨1, ![n]⟩) off ![1] inb).shape.numel = 1} {hp : EltTy.packing .f32 = EltTy.packing .f32}
    {k : Elt F .f32 → Prog (TpuEff nD τ sig (Elt F) Λ .tc) α}
    (hk : Run (Ix := Ix) (Name := Name) (U := U) (Lvl := Lvl) defs 𝒱 c R m h G (k (t (off 0))) Φ) :
    Run (Ix := Ix) (Name := Name) (U := U) (Lvl := Lvl) defs 𝒱 c R m h G
      (smemLoad m' (Rect.unit (s := ⟨1, ![n]⟩) off ![1] inb) h1 hp >>= k) Φ := Run.tableWord hr hk

/-- A load of a block of a rank-three buffer. -/
theorem Run.load3 {R : sProp 𝕄} {Φ : α → sProp 𝕄} {cs' : CoreSpace} {d : Fin 3 → ℕ} {e' : EltTy}
    {m' : Memref sig .tc cs' ⟨3, d⟩ e'} {h' : m'.IsWhole} {B : ℕ → ℕ → ℕ → Elt F e'}
    (hr : Reads (Ix := Ix) (Name := Name) (U := U) (Lvl := Lvl) c R m' h' (fun j => B (j 0).val (j 1).val (j 2).val))
    {off size : Fin 3 → ℕ} {inb : ∀ a, off a + size a ≤ (⟨3, d⟩ : Shape).size a}
    {hl : m'.view.LoadsAt (Rect.unit (s := ⟨3, d⟩) off size inb).toLoadRect}
    {k : ((Rect.unit (s := ⟨3, d⟩) off size inb).toLoadRect.shape.Idx → Elt F e') → Prog (TpuEff nD τ sig (Elt F) Λ .tc) α}
    (hk : Run (Ix := Ix) (Name := Name) (U := U) (Lvl := Lvl) defs 𝒱 c R m h G
      (k fun x => B (off 0 + (x 0).val) (off 1 + (x 1).val) (off 2 + (x 2).val)) Φ) :
    Run (Ix := Ix) (Name := Name) (U := U) (Lvl := Lvl) defs 𝒱 c R m h G
      (Prog.lift (.load m' (Rect.unit (s := ⟨3, d⟩) off size inb).toLoadRect hl) >>= k) Φ := by
  refine Run.load hr ?_
  have e : ∀ x a, ((Rect.unit (s := ⟨3, d⟩) off size inb).toLoadRect.idx x a).val = off a + (x a).val := fun x a => by
    show off a + 1 * (x a).val = _
    rw [Nat.one_mul]
  simpa only [e] using hk

/-- A load of a block of a rank-four buffer. -/
theorem Run.load4 {R : sProp 𝕄} {Φ : α → sProp 𝕄} {cs' : CoreSpace} {d : Fin 4 → ℕ} {e' : EltTy}
    {m' : Memref sig .tc cs' ⟨4, d⟩ e'} {h' : m'.IsWhole} {K : ℕ → ℕ → ℕ → ℕ → Elt F e'}
    (hr : Reads (Ix := Ix) (Name := Name) (U := U) (Lvl := Lvl) c R m' h' (fun j => K (j 0).val (j 1).val (j 2).val (j 3).val))
    {off size : Fin 4 → ℕ} {inb : ∀ a, off a + size a ≤ (⟨4, d⟩ : Shape).size a}
    {hl : m'.view.LoadsAt (Rect.unit (s := ⟨4, d⟩) off size inb).toLoadRect}
    {k : ((Rect.unit (s := ⟨4, d⟩) off size inb).toLoadRect.shape.Idx → Elt F e') → Prog (TpuEff nD τ sig (Elt F) Λ .tc) α}
    (hk : Run (Ix := Ix) (Name := Name) (U := U) (Lvl := Lvl) defs 𝒱 c R m h G
      (k fun x => K (off 0 + (x 0).val) (off 1 + (x 1).val) (off 2 + (x 2).val) (off 3 + (x 3).val)) Φ) :
    Run (Ix := Ix) (Name := Name) (U := U) (Lvl := Lvl) defs 𝒱 c R m h G
      (Prog.lift (.load m' (Rect.unit (s := ⟨4, d⟩) off size inb).toLoadRect hl) >>= k) Φ := by
  refine Run.load hr ?_
  have e : ∀ x a, ((Rect.unit (s := ⟨4, d⟩) off size inb).toLoadRect.idx x a).val = off a + (x a).val := fun x a => by
    show off a + 1 * (x a).val = _
    rw [Nat.one_mul]
  simpa only [e] using hk

variable {mo : Memref sig .tc cs Out .f32} {ho : mo.IsWhole}

/-- The store of one product, the next of them. -/
theorem Run.put {R : sProp 𝕄} {Φ : α → sProp 𝕄} {f : ℕ → ℕ → OutRow.Idx → Elt F .f32} {n rr p : ℕ}
    {inb : ∀ a, (![0, p, 0, rr, 0] : Fin 5 → ℕ) a + (![1, 1, 7, 1, 512] : Fin 5 → ℕ) a ≤ Out.size a}
    {w : (Rect.unit (s := Out) ![0, p, 0, rr, 0] ![1, 1, 7, 1, 512] inb).shape.Idx → Elt F .f32}
    {hx : (mo.access (Rect.unit (s := Out) ![0, p, 0, rr, 0] ![1, 1, 7, 1, 512] inb)).Stores Finset.univ}
    {hm : (Finset.univ : Finset (Rect.unit (s := Out) ![0, p, 0, rr, 0] ![1, 1, 7, 1, 512] inb).shape.Idx) = Finset.univ
      ∨ ∀ a, (Rect.unit (s := Out) ![0, p, 0, rr, 0] ![1, 1, 7, 1, 512] inb).stride a = 1}
    {k : PUnit → Prog (TpuEff nD τ sig (Elt F) Λ .tc) α} (hw : w = f rr p) (hn : n = rr * 7 + p)
    (hk : Run (Ix := Ix) (Name := Name) (U := U) (Lvl := Lvl) defs 𝒱 c R mo ho (Good f (rr * 7 + p + 1)) (k ⟨⟩) Φ) :
    Run (Ix := Ix) (Name := Name) (U := U) (Lvl := Lvl) defs 𝒱 c R mo ho (Good f n)
      (Prog.lift (.store mo (Rect.unit (s := Out) ![0, p, 0, rr, 0] ![1, 1, 7, 1, 512] inb) w Finset.univ hx hm) >>= k) Φ := by
  have hp7 : p + 1 ≤ 7 := inb 1
  refine Run.store (fun X Y hX hout hin => ?_) hk
  intro y x hlt h2 h4
  have hy1 : (y 1).val < 7 := (y 1).isLt
  have hy0 : (y 0).val < 1 := (y 0).isLt
  by_cases hy : (y 3).val = rr ∧ (y 1).val = p
  · have e := hin y x fun a => by
      have hx0 : (x 0).val < 1 := (x 0).isLt
      have hx1 : (x 1).val < 1 := (x 1).isLt
      have hx3 : (x 3).val < 1 := (x 3).isLt
      fin_cases a
      · show (y 0).val = 0 + (x 0).val
        omega
      · show (y 1).val = p + (x 1).val
        omega
      · show (y 2).val = 0 + (x 2).val
        omega
      · show (y 3).val = rr + (x 3).val
        omega
      · show (y 4).val = 0 + (x 4).val
        omega
    rw [e, hw, hy.1, hy.2]
  · rw [hout y (by
      by_cases h3 : (y 3).val = rr
      · refine ⟨1, ?_⟩
        show (y 1).val < p ∨ p + 1 ≤ (y 1).val
        omega
      · refine ⟨3, ?_⟩
        show (y 3).val < rr ∨ rr + 1 ≤ (y 3).val
        omega)]
    exact hX y x (by omega) h2 h4

variable {ms : Memref sig .tc cs Scratch .bf16} {hs : ms.IsWhole}

/-- The store of eight rows of the scratch image, the next of them. -/
theorem Run.fillRows {R : sProp 𝕄} {Φ : α → sProp 𝕄} {B : ℕ → ℕ → ℕ → Elt F .bf16} {n r : ℕ}
    {inb : ∀ a, (![r, 0, 0] : Fin 3 → ℕ) a + (![8, 64, 512] : Fin 3 → ℕ) a ≤ Scratch.size a}
    {w : (Rect.unit (s := Scratch) ![r, 0, 0] ![8, 64, 512] inb).shape.Idx → Elt F .bf16}
    {hx : (ms.access (Rect.unit (s := Scratch) ![r, 0, 0] ![8, 64, 512] inb)).Stores Finset.univ}
    {hm : (Finset.univ : Finset (Rect.unit (s := Scratch) ![r, 0, 0] ![8, 64, 512] inb).shape.Idx) = Finset.univ
      ∨ ∀ a, (Rect.unit (s := Scratch) ![r, 0, 0] ![8, 64, 512] inb).stride a = 1}
    {k : PUnit → Prog (TpuEff nD τ sig (Elt F) Λ .tc) α}
    (hw : ∀ x : ScratchRows.Idx, w x = B (r + (x 0).val) (x 1).val (x 2).val) (hn : n = r)
    (hk : Run (Ix := Ix) (Name := Name) (U := U) (Lvl := Lvl) defs 𝒱 c R ms hs (Filled B (r + 8)) (k ⟨⟩) Φ) :
    Run (Ix := Ix) (Name := Name) (U := U) (Lvl := Lvl) defs 𝒱 c R ms hs (Filled B n)
      (Prog.lift (.store ms (Rect.unit (s := Scratch) ![r, 0, 0] ![8, 64, 512] inb) w Finset.univ hx hm) >>= k) Φ := by
  refine Run.store (fun X Y hX hout hin => ?_) hk
  intro y hlt
  have h1 : (y 1).val < 64 := (y 1).isLt
  have h2 : (y 2).val < 512 := (y 2).isLt
  by_cases hy : r ≤ (y 0).val
  · let x : ScratchRows.Idx := fun
      | 0 => (⟨(y 0).val - r, by omega⟩ : Fin 8)
      | 1 => (⟨(y 1).val, h1⟩ : Fin 64)
      | 2 => (⟨(y 2).val, h2⟩ : Fin 512)
    have e := hin y x fun a => by
      fin_cases a
      · show (y 0).val = r + ((y 0).val - r)
        omega
      · show (y 1).val = 0 + (y 1).val
        omega
      · show (y 2).val = 0 + (y 2).val
        omega
    rw [e, hw x]
    show B (r + ((y 0).val - r)) (y 1).val (y 2).val = _
    rw [show r + ((y 0).val - r) = (y 0).val by omega]
  · rw [hout y ⟨0, by
      show (y 0).val < r ∨ r + 8 ≤ (y 0).val
      omega⟩]
    exact hX y (by omega)

end Steps

end Cert.Pool

end
-- ==== Proof.Hold.lean ====
/-
  WHAT A GRID POINT HOLDS. Finite arrays as functions of natural numbers (`at'`), a whole buffer owned as a plain points-to
  (`owns_plain`), and the block of results when all its products are in it (`full`).
-/
module

public import proofs.«01_k».proof.Proof.Pool
public import Idealize.ShloMosaic.Lib.Pipeline.FrameSuffix

@[expose] public section

noncomputable section

namespace Cert.Pool

open Idealize.ShloMosaic Idealize.SL Idealize.SL.RA Idealize.SL.Sem Idealize.SL.ProofMode
open Idealize.SL.BI (sProp)
open Idealize.SL.BI.BIBase Idealize.SL.BI.Laws
open scoped Idealize.SL.BI

/-- A list read at a natural number, counted round past its end. -/
def at1 {α : Type} {n : ℕ} (hn : 0 < n) (T : (⟨1, ![n]⟩ : Shape).Idx → α) (k : ℕ) : α :=
  T fun | 0 => (⟨k % n, Nat.mod_lt _ hn⟩ : Fin n)

theorem at1_val {α : Type} {n : ℕ} (hn : 0 < n) (T : (⟨1, ![n]⟩ : Shape).Idx → α) (j : (⟨1, ![n]⟩ : Shape).Idx) : at1 hn T (j 0).val = T j := by
  refine congrArg T (funext fun a => ?_)
  obtain rfl : a = 0 := Subsingleton.elim _ _
  exact Fin.ext (Nat.mod_eq_of_lt (show (j 0).val < n from (j 0).isLt))

/-- An array of rank four read at natural numbers. -/
def at4 {α : Type} {p q r s : ℕ} (hp : 0 < p) (hq : 0 < q) (hr : 0 < r) (hs : 0 < s) (T : (⟨4, ![p, q, r, s]⟩ : Shape).Idx → α) (a b c d : ℕ) : α :=
  T fun
    | 0 => (⟨a % p, Nat.mod_lt _ hp⟩ : Fin p)
    | 1 => (⟨b % q, Nat.mod_lt _ hq⟩ : Fin q)
    | 2 => (⟨c % r, Nat.mod_lt _ hr⟩ : Fin r)
    | 3 => (⟨d % s, Nat.mod_lt _ hs⟩ : Fin s)

theorem at4_val {α : Type} {p q r s : ℕ} (hp : 0 < p) (hq : 0 < q) (hr : 0 < r) (hs : 0 < s) (T : (⟨4, ![p, q, r, s]⟩ : Shape).Idx → α)
    (j : (⟨4, ![p, q, r, s]⟩ : Shape).Idx) : at4 hp hq hr hs T (j 0).val (j 1).val (j 2).val (j 3).val = T j := by
  refine congrArg T (funext fun a => ?_)
  fin_cases a
  · exact Fin.ext (Nat.mod_eq_of_lt (show (j 0).val < p from (j 0).isLt))
  · exact Fin.ext (Nat.mod_eq_of_lt (show (j 1).val < q from (j 1).isLt))
  · exact Fin.ext (Nat.mod_eq_of_lt (show (j 2).val < r from (j 2).isLt))
  · exact Fin.ext (Nat.mod_eq_of_lt (show (j 3).val < s from (j 3).isLt))

/-- The position of an element of the block of results in the product it belongs to. -/
def inRow (y : Out.Idx) : OutRow.Idx := fun
  | 0 => (0 : Fin 1)
  | 1 => (0 : Fin 1)
  | 2 => (y 2 : Fin 7)
  | 3 => (0 : Fin 1)
  | 4 => (y 4 : Fin 512)

/-- The block of results with all its products. -/
def full {α : Type} (f : ℕ → ℕ → OutRow.Idx → α) (y : Out.Idx) : α := f (y 3).val (y 1).val (inRow y)

theorem Good.full {α : Type} {f : ℕ → ℕ → OutRow.Idx → α} {X : Out.Idx → α} (h : Good f 448 X) : X = full f := funext fun y => by
  have h3 : (y 3).val < 64 := (y 3).isLt
  have h1 : (y 1).val < 7 := (y 1).isLt
  exact h y (inRow y) (by omega) rfl rfl

section Held
variable {nD : Nat} {τ : Topo} {sig : RefSig} {Ix : Type} [DecidableEq Ix]
variable {Val : EltTy → Type} {Name : Type} [DecidableEq Name] {U : Type} [URA U] {Lvl : Type} [Preorder Lvl]
local notation "𝕄" => MT nD τ sig Ix Val Name U Lvl

/-- The whole view's elements are all the buffer's. -/
theorem set_whole {κ : Kind} {sp : Space} {s : Shape} {e : EltTy} {m : Memref sig κ sp s e} (h : m.IsWhole) : m.view.set = Finset.univ := by
  obtain ⟨b, rfl, rfl, rfl, hm⟩ := h
  cases hm
  simp only [Memref.view_whole, View.set_whole]

/-- Owning a whole buffer at what it reads is holding all of it. -/
theorem owns_plain (c : Dev nD) {sp : CoreSpace} {s : Shape} {e : EltTy} {m : Memref sig .tc sp s e} (h : m.IsWhole) (X : s.Idx → Val e) :
    (owns (c.tc : Thread nD τ) m fullShare X : sProp 𝕄) = (m.view.loc (c.tc : Thread nD τ) ↦{fullShare} h.unread X) := by
  have e1 : (owns (c.tc : Thread nD τ) m fullShare X : sProp 𝕄) ⊢ (m.view.loc (c.tc : Thread nD τ) ↦{fullShare} h.unread X) := by
    unfold owns
    iintro ⟨%f, %hf, H⟩
    obtain rfl := h.eq_unread hf
    rw [set_whole h]
    iexact H
  have e2 : (m.view.loc (c.tc : Thread nD τ) ↦{fullShare} h.unread X : sProp 𝕄) ⊢ owns (c.tc : Thread nD τ) m fullShare X := by
    unfold owns
    iintro H
    iexists h.unread X
    isplitr
    · ipureintro
      exact h.read_unread X
    rw [set_whole h]
    iexact H
  exact BI.equiv_iff.mp ⟨e1, e2⟩

/-- What is held beside the rest is lent. -/
theorem Reads.held (c : Dev nD) {R : sProp 𝕄} {q : PosShare TreeShare} {cs' : CoreSpace} {s' : Shape} {e' : EltTy} {m' : Memref sig .tc cs' s' e'}
    {h' : m'.IsWhole} {T : s'.Idx → Val e'} :
    Reads (Ix := Ix) (Name := Name) (U := U) (Lvl := Lvl) c iprop(R ∗ (m'.view.loc (c.tc : Thread nD τ) ↦{q} h'.unread T)) m' h' T := by
  refine ⟨q, ?_⟩
  iintro ⟨HR, Hm⟩
  isplitl [Hm]
  · iexact Hm
  iintro Hm
  isplitl [HR]
  · iexact HR
  · iexact Hm

/-- The contents of a named buffer are what it reads. -/
theorem unread_whole {κ : Kind} (b : Ref sig κ) (X : b.ty.Contents Val) : (Memref.isWhole_whole b).unread X = X :=
  ((Memref.isWhole_whole b).eq_unread (by simp only [Memref.view_whole, View.read_whole])).symm

end Held

end Cert.Pool

end
-- ==== Proof.Axis.lean ====
/-
  THE SAMPLING OF ONE AXIS of a box, element by element, as both programs' host arithmetic spells it: the edges of the box in pixels,
  its extent, the seven sample positions, the two neighbouring cells of each and the share of the second, and the kernel's window of
  columns. The ranges of the integers among them hold whatever the box is.
-/
module

public import Idealize.ShloMosaic.PureOps.Vector

@[expose] public section

noncomputable section

namespace Cert.Pool

open Idealize.ShloMosaic

section Generic
variable {F : FTy → Type} [FloatOps F]

/-- An edge of a box in pixels, kept inside the image. -/
def edge (x : F .f32) : BitVec 32 :=
  IntOp.minsi 64#32 (IntOp.maxsi 0#32 (FloatOps.fptosi 32 (FloatOps.mulf x (FloatOps.ofBits .f32 1115684864#32))))

/-- The number of pixels between two edges, at least one. -/
def extent (lo hi : F .f32) : BitVec 32 := IntOp.maxsi (IntOp.subi (edge hi) (edge lo)) 1#32

/-- The position of a sample, in pixels from the first edge. -/
def spot (lo hi : F .f32) (p : ℕ) : F .f32 :=
  FloatOps.minimumf (FloatOps.subf (FloatOps.sitofp .f32 (extent lo hi)) (FloatOps.ofBits .f32 1065353216#32))
    (FloatOps.maximumf (FloatOps.ofBits .f32 0#32)
      (FloatOps.subf (FloatOps.mulf (FloatOps.addf (FloatOps.sitofp .f32 (BitVec.ofNat 32 p)) (FloatOps.ofBits .f32 1056964608#32))
        (FloatOps.hostDivf (FloatOps.sitofp .f32 (extent lo hi)) (FloatOps.ofBits .f32 1088421888#32))) (FloatOps.ofBits .f32 1056964608#32)))

/-- The cell of a sample. -/
def cell (lo hi : F .f32) (p : ℕ) : BitVec 32 := FloatOps.fptosi 32 (FloatOps.hostUnary .floor (spot lo hi p))

/-- The share of the second cell. -/
def part (lo hi : F .f32) (p : ℕ) : F .f32 := FloatOps.subf (spot lo hi p) (FloatOps.sitofp .f32 (cell lo hi p))

/-- A cell of the box as a pixel of the image, kept inside both. -/
def pixel (lo hi : F .f32) (i : BitVec 32) : BitVec 32 :=
  IntOp.minsi 63#32 (IntOp.maxsi 0#32 (IntOp.addi (edge lo) (IntOp.minsi (IntOp.subi (extent lo hi) 1#32) (IntOp.maxsi 0#32 i))))

/-- The two pixels of a sample. -/
def fst (lo hi : F .f32) (p : ℕ) : BitVec 32 := pixel lo hi (cell lo hi p)
@[inherit_doc fst] def snd (lo hi : F .f32) (p : ℕ) : BitVec 32 := pixel lo hi (IntOp.addi (cell lo hi p) 1#32)

/-- Where the window of columns of a box starts. -/
def start (lo : F .f32) : BitVec 32 := IntOp.minsi (IntOp.andi (edge lo) 4294967280#32) 16#32

/-- The weight of a column of the window in a sample. -/
def share (lo hi : F .f32) (p k : ℕ) : F .bf16 :=
  FloatOps.truncf .bf16 (by decide : FTy.bf16.bits < FTy.f32.bits) (FloatOps.addf
    (FloatOps.mulf (FloatOps.subf (FloatOps.ofBits .f32 1065353216#32) (part lo hi p))
      (FloatOps.uitofp .f32 (IntOp.cmpi .eq (BitVec.ofNat 32 k) (IntOp.subi (fst lo hi p) (start lo)))))
    (FloatOps.mulf (part lo hi p) (FloatOps.uitofp .f32 (IntOp.cmpi .eq (BitVec.ofNat 32 k) (IntOp.subi (snd lo hi p) (start lo))))))

end Generic

/-- A word kept between zero and a bound. -/
theorem clip_toNat (n : ℕ) (hn : n < 2 ^ 31) (x : BitVec 32) : (IntOp.minsi (BitVec.ofNat 32 n) (IntOp.maxsi 0#32 x)).toNat = min n x.toInt.toNat := by
  have h0 : (0#32).toInt = 0 := by decide
  have hN : (BitVec.ofNat 32 n).toNat = n := by rw [BitVec.toNat_ofNat]; omega
  have hI : (BitVec.ofNat 32 n).toInt = n := by rw [BitVec.toInt_eq_toNat_of_lt (by rw [hN]; omega), hN]
  have hx := x.isLt
  have hxI := BitVec.toInt_eq_toNat_cond x
  unfold IntOp.minsi IntOp.maxsi
  simp only [BitVec.slt, decide_eq_true_eq, h0]
  split_ifs at hxI ⊢ <;> simp_all <;> omega

theorem pixel_le {F : FTy → Type} [FloatOps F] (lo hi : F .f32) (i : BitVec 32) : (pixel lo hi i).toNat ≤ 63 := by
  unfold pixel
  rw [clip_toNat 63 (by decide)]
  exact Nat.min_le_left _ _

theorem edge_le {F : FTy → Type} [FloatOps F] (x : F .f32) : (edge x).toNat ≤ 64 := by
  unfold edge
  rw [clip_toNat 64 (by decide)]
  exact Nat.min_le_left _ _

/-- The window's start, by the first edge. -/
theorem start_toNat {F : FTy → Type} [FloatOps F] (lo : F .f32) : (start lo).toNat = if (edge lo).toNat < 16 then 0 else 16 := by
  have h := edge_le lo
  unfold start
  generalize edge lo = e at h ⊢
  have : ∀ e : Fin 65, (IntOp.minsi (IntOp.andi (BitVec.ofNat 32 e.val) 4294967280#32) 16#32).toNat = if e.val < 16 then 0 else 16 := by decide +kernel
  have := this ⟨e.toNat, by omega⟩
  rwa [show BitVec.ofNat 32 (⟨e.toNat, by omega⟩ : Fin 65).val = e from by simp] at this

theorem start_le {F : FTy → Type} [FloatOps F] (lo : F .f32) : (start lo).toNat ≤ 16 := by
  rw [start_toNat]; split_ifs <;> omega

theorem start_dvd {F : FTy → Type} [FloatOps F] (lo : F .f32) : 16 ∣ (start lo).toNat := by
  rw [start_toNat]; split_ifs <;> decide

end Cert.Pool

end
-- ==== Proof.WalkIdeal.lean ====
/-
  THE BODY OF ONE GRID POINT of the program `KernelIdeal`, followed from its first line to its last. On the first of the two points
  of a batch entry it rounds the feature block into the scratch image; on the second it finds it there. Then it makes its 448
  products. `body`: from any block of results, it leaves all 448 products in it.
-/
module

public import proofs.«01_k».proof.KernelIdeal
public import proofs.«01_k».proof.Proof.Pool

@[expose] public section

noncomputable section

namespace Cert.KernelIdeal

open Idealize.ShloMosaic Idealize.SL Idealize.SL.RA Idealize.SL.Sem Idealize.SL.ProofMode
open Idealize.SL.BI (sProp)
open Idealize.SL.BI.BIBase
open scoped Idealize.SL.BI
open Cert.Pool (Run Reads Good Filled pay rounded round_rows strip_inb)

variable {F : FTy → Type} [FloatOps F] [Facts]
variable {Ix : Type} [DecidableEq Ix] {Name : Type} [DecidableEq Name] {U : Type} [URA U] {Lvl : Type} [Preorder Lvl]
local notation "𝕄" => MT nD τ sig Ix (Elt F) Name U Lvl

variable {defs : Defs nD τ sig (Elt F) Λ₀} {𝒱 : Variants} {c : Dev nD}
variable (i : grid0.Coords) (arg2 : Memref sig .tc .smem S7168 .i32) (harg2 : arg2.IsWhole) (arg3 : Memref sig .tc .smem S7168 .i32) (harg3 : arg3.IsWhole)
  (arg4 : Memref sig .tc .smem S1024 .i32) (harg4 : arg4.IsWhole) (arg5 : Memref sig .tc .smem S7168 .f32) (harg5 : arg5.IsWhole)
  (arg6 : Memref sig .tc .vmem S1x64x64x512 .f32) (harg6 : arg6.IsWhole) (arg7 : Memref sig .tc .vmem S1x64x7x48 .bf16) (harg7 : arg7.IsWhole)
  (arg8 : Memref sig .tc .vmem S1x7x7x64x512 .f32) (harg8 : arg8.IsWhole) (arg9 : Memref sig .tc .vmem S64x64x512 .bf16) (harg9 : arg9.IsWhole)
variable (t0 t1 t2 : ℕ → Elt F .i32) (w : ℕ → Elt F .f32) (K : ℕ → ℕ → ℕ → ℕ → Elt F .bf16) (M : ℕ → ℕ → ℕ → ℕ → Elt F .f32)

/-- The body's test whether this is the first point of a batch entry. -/
abbrev isFirst (i : grid0.Coords) : Prop :=
  Scalar.cmpi .ne (Scalar.extui (Scalar.cmpi .eq (BitVec.ofNat 32 (i 1).val) 0#32) : BitVec 32) 0#32 = 1#1

set_option maxHeartbeats 0 in
set_option maxRecDepth 16384 in
/-- The first lines: the scratch image is filled if it has to be, and the first product is made. -/
theorem start {R : sProp 𝕄} (h0 : ∀ n, BitVec.toNat (t0 n) ≤ 63) (h1 : ∀ n, BitVec.toNat (t1 n) ≤ 63) (h2 : ∀ n, BitVec.toNat (t2 n) ≤ 16) (h2' : ∀ n, 16 ∣ BitVec.toNat (t2 n))
    (L2 : Reads (Val := Elt F) (Ix := Ix) (Name := Name) (U := U) (Lvl := Lvl) c R arg2 harg2 (fun j => t0 (j 0).val))
    (L3 : Reads (Val := Elt F) (Ix := Ix) (Name := Name) (U := U) (Lvl := Lvl) c R arg3 harg3 (fun j => t1 (j 0).val))
    (L4 : Reads (Val := Elt F) (Ix := Ix) (Name := Name) (U := U) (Lvl := Lvl) c R arg4 harg4 (fun j => t2 (j 0).val))
    (L5 : Reads (Val := Elt F) (Ix := Ix) (Name := Name) (U := U) (Lvl := Lvl) c R arg5 harg5 (fun j => w (j 0).val))
    (L6 : Reads (Val := Elt F) (Ix := Ix) (Name := Name) (U := U) (Lvl := Lvl) c R arg6 harg6 (fun j => M (j 0).val (j 1).val (j 2).val (j 3).val))
    (L7 : Reads (Val := Elt F) (Ix := Ix) (Name := Name) (U := U) (Lvl := Lvl) c R arg7 harg7 (fun j => K (j 0).val (j 1).val (j 2).val (j 3).val))
    (Y : S64x64x512.Idx → Elt F .bf16) (hY : ¬ isFirst i → Y = (fun j => rounded M (j 0).val (j 1).val (j 2).val))
    (Ψ : (Σ' (_ : BitVec 32) (_ : FVec F S7x48 .bf16) (_ : Elt F .i32) (_ : BitVec 32), FVec F S7x512 .f32) → sProp 𝕄)
    (hk : Run (Ix := Ix) (Name := Name) (U := U) (Lvl := Lvl) defs 𝒱 c iprop(R ∗ (arg9.view.loc (c.tc : Thread nD τ) ↦{fullShare} harg9.unread (fun j => rounded M (j 0).val (j 1).val (j 2).val))) arg8 harg8 (Good (pay t0 t1 t2 w K (rounded M) (i 0).val (i 1).val) 0)
      (.ret ⟨Cert.Pool.first (i 0).val (i 1).val, (shapeCast Cert.Pool.Left (fun j : Cert.Pool.BoxWeights.Idx => K (0 + (j 0).val) (0 + (j 1).val) (0 + (j 2).val) (0 + (j 3).val))), t2 (Cert.Pool.boxAt (i 0).val (i 1).val 0), t2 (Cert.Pool.boxAt (i 0).val (i 1).val 0),
        matmul Cert.Pool.dims none (shapeCast Cert.Pool.Left (fun j : Cert.Pool.BoxWeights.Idx => K (0 + (j 0).val) (0 + (j 1).val) (0 + (j 2).val) (0 + (j 3).val))) (Cert.Pool.blend t0 t1 t2 w (rounded M) (i 0).val (i 1).val 0 0) (constant Cert.Pool.Prod .f32 0x00000000#32)⟩) Ψ) :
    Run (Ix := Ix) (Name := Name) (U := U) (Lvl := Lvl) defs 𝒱 c iprop(R ∗ (arg9.view.loc (c.tc : Thread nD τ) ↦{fullShare} harg9.unread Y)) arg8 harg8 (Good (pay t0 t1 t2 w K (rounded M) (i 0).val (i 1).val) 0)
      (k0_part2 (F := F) i arg2 harg2 arg3 harg3 arg4 harg4 arg5 harg5 arg6 harg6 arg7 harg7 arg8 harg8 arg9 harg9) Ψ := by
  have L9 := Reads.right (Val := Elt F) (Ix := Ix) (Name := Name) (U := U) (Lvl := Lvl) (c := c) (R := R) (h' := harg9) (T := (fun j => rounded M (j 0).val (j 1).val (j 2).val))
  have filled : ∀ Y : S64x64x512.Idx → Elt F .bf16, Filled (rounded M) 64 Y → Y = (fun j => rounded M (j 0).val (j 1).val (j 2).val) :=
    fun Y h => funext fun y => h y (y 0).isLt
  replace L2 := Reads.left (P := iprop((arg9.view.loc (c.tc : Thread nD τ) ↦{fullShare} harg9.unread (fun j => rounded M (j 0).val (j 1).val (j 2).val)))) L2
  replace L3 := Reads.left (P := iprop((arg9.view.loc (c.tc : Thread nD τ) ↦{fullShare} harg9.unread (fun j => rounded M (j 0).val (j 1).val (j 2).val)))) L3
  replace L4 := Reads.left (P := iprop((arg9.view.loc (c.tc : Thread nD τ) ↦{fullShare} harg9.unread (fun j => rounded M (j 0).val (j 1).val (j 2).val)))) L4
  replace L5 := Reads.left (P := iprop((arg9.view.loc (c.tc : Thread nD τ) ↦{fullShare} harg9.unread (fun j => rounded M (j 0).val (j 1).val (j 2).val)))) L5
  replace L7 := Reads.left (P := iprop((arg9.view.loc (c.tc : Thread nD τ) ↦{fullShare} harg9.unread (fun j => rounded M (j 0).val (j 1).val (j 2).val)))) L7
  dsimp only [k0_part2]
  split
  · refine Run.turn (G' := Filled (rounded M) 0) (fun y h => absurd h (Nat.not_lt_zero _)) fun X hX => ?_
    apply Run.bind
    · intro Ψ hk
      dsimp only [k0_part1]
      repeat first
        | with_reducible refine Run.loadSelf fun _ => ?_
        | with_reducible refine Run.load4 (Reads.left L6) ?_
        | (with_reducible refine Run.fillRows ?_ ?_ ?_) <;> [exact fun x => round_rows M _ x; exact rfl; skip]
      exact hk
    try dsimp only
    repeat first
      | with_reducible refine Run.loadSelf fun _ => ?_
      | with_reducible refine Run.load4 (Reads.left L6) ?_
      | (with_reducible refine Run.fillRows ?_ ?_ ?_) <;> [exact fun x => round_rows M _ x; exact rfl; skip]
    refine Run.turn hX fun Y hY => ?_
    obtain rfl := filled Y hY
    repeat first
      | with_reducible refine Run.loadSelf fun _ => ?_
      | with_reducible refine Run.intWord L2 ?_
      | with_reducible refine Run.intWord L3 ?_
      | with_reducible refine Run.intWord L4 ?_
      | with_reducible refine Run.floatWord L5 ?_
      | with_reducible refine Run.load3 L9 ?_
      | with_reducible refine Run.load4 L7 ?_
      | (with_reducible refine Run.put ?_ ?_ ?_) <;> [exact rfl; exact rfl; skip]
      | (with_reducible refine Run.assume ?_ ?_) <;>
          [(first | exact h2' _ | exact strip_inb (h2 _) (h0 _) | exact strip_inb (h2 _) (h1 _)); skip]
    exact hk
  · rename_i hi
    obtain rfl := hY hi
    repeat first
      | with_reducible refine Run.loadSelf fun _ => ?_
      | with_reducible refine Run.intWord L2 ?_
      | with_reducible refine Run.intWord L3 ?_
      | with_reducible refine Run.intWord L4 ?_
      | with_reducible refine Run.floatWord L5 ?_
      | with_reducible refine Run.load3 L9 ?_
      | with_reducible refine Run.load4 L7 ?_
      | (with_reducible refine Run.put ?_ ?_ ?_) <;> [exact rfl; exact rfl; skip]
      | (with_reducible refine Run.assume ?_ ?_) <;>
          [(first | exact h2' _ | exact strip_inb (h2 _) (h0 _) | exact strip_inb (h2 _) (h1 _)); skip]
    exact hk

set_option maxHeartbeats 0 in
set_option maxRecDepth 16384 in
/-- The whole body. -/
theorem body {R : sProp 𝕄} (h0 : ∀ n, BitVec.toNat (t0 n) ≤ 63) (h1 : ∀ n, BitVec.toNat (t1 n) ≤ 63) (h2 : ∀ n, BitVec.toNat (t2 n) ≤ 16) (h2' : ∀ n, 16 ∣ BitVec.toNat (t2 n))
    (L2 : Reads (Val := Elt F) (Ix := Ix) (Name := Name) (U := U) (Lvl := Lvl) c R arg2 harg2 (fun j => t0 (j 0).val))
    (L3 : Reads (Val := Elt F) (Ix := Ix) (Name := Name) (U := U) (Lvl := Lvl) c R arg3 harg3 (fun j => t1 (j 0).val))
    (L4 : Reads (Val := Elt F) (Ix := Ix) (Name := Name) (U := U) (Lvl := Lvl) c R arg4 harg4 (fun j => t2 (j 0).val))
    (L5 : Reads (Val := Elt F) (Ix := Ix) (Name := Name) (U := U) (Lvl := Lvl) c R arg5 harg5 (fun j => w (j 0).val))
    (L6 : Reads (Val := Elt F) (Ix := Ix) (Name := Name) (U := U) (Lvl := Lvl) c R arg6 harg6 (fun j => M (j 0).val (j 1).val (j 2).val (j 3).val))
    (L7 : Reads (Val := Elt F) (Ix := Ix) (Name := Name) (U := U) (Lvl := Lvl) c R arg7 harg7 (fun j => K (j 0).val (j 1).val (j 2).val (j 3).val))
    (Y : S64x64x512.Idx → Elt F .bf16) (hY : ¬ isFirst i → Y = (fun j => rounded M (j 0).val (j 1).val (j 2).val))
    (Φ : PUnit → sProp 𝕄)
    (hΦ : ∀ X, (Good (pay t0 t1 t2 w K (rounded M) (i 0).val (i 1).val) 448 X) → (iprop((R ∗ (arg9.view.loc (c.tc : Thread nD τ) ↦{fullShare} harg9.unread (fun j => rounded M (j 0).val (j 1).val (j 2).val))) ∗ (arg8.view.loc (c.tc : Thread nD τ) ↦{fullShare} harg8.unread X)) : sProp 𝕄) ⊢ Φ ⟨⟩) :
    Run (Ix := Ix) (Name := Name) (U := U) (Lvl := Lvl) defs 𝒱 c iprop(R ∗ (arg9.view.loc (c.tc : Thread nD τ) ↦{fullShare} harg9.unread Y)) arg8 harg8 (Good (pay t0 t1 t2 w K (rounded M) (i 0).val (i 1).val) 0)
      (cc0_roi_pool_bilinear (F := F) i arg2 harg2 arg3 harg3 arg4 harg4 arg5 harg5 arg6 harg6 arg7 harg7 arg8 harg8 arg9 harg9) Φ := by
  have hstart := start i arg2 harg2 arg3 harg3 arg4 harg4 arg5 harg5 arg6 harg6 arg7 harg7 arg8 harg8 arg9 harg9 t0 t1 t2 w K M (defs := defs) (𝒱 := 𝒱) (c := c) (R := R) h0 h1 h2 h2' L2 L3 L4 L5 L6 L7 Y hY
  have L9 := Reads.right (Val := Elt F) (Ix := Ix) (Name := Name) (U := U) (Lvl := Lvl) (c := c) (R := R) (h' := harg9) (T := (fun j => rounded M (j 0).val (j 1).val (j 2).val))
  replace L2 := Reads.left (P := iprop((arg9.view.loc (c.tc : Thread nD τ) ↦{fullShare} harg9.unread (fun j => rounded M (j 0).val (j 1).val (j 2).val)))) L2
  replace L3 := Reads.left (P := iprop((arg9.view.loc (c.tc : Thread nD τ) ↦{fullShare} harg9.unread (fun j => rounded M (j 0).val (j 1).val (j 2).val)))) L3
  replace L4 := Reads.left (P := iprop((arg9.view.loc (c.tc : Thread nD τ) ↦{fullShare} harg9.unread (fun j => rounded M (j 0).val (j 1).val (j 2).val)))) L4
  replace L5 := Reads.left (P := iprop((arg9.view.loc (c.tc : Thread nD τ) ↦{fullShare} harg9.unread (fun j => rounded M (j 0).val (j 1).val (j 2).val)))) L5
  replace L7 := Reads.left (P := iprop((arg9.view.loc (c.tc : Thread nD τ) ↦{fullShare} harg9.unread (fun j => rounded M (j 0).val (j 1).val (j 2).val)))) L7
  dsimp only [cc0_roi_pool_bilinear]
  apply Run.bind
  · intro Ψ hk
    dsimp only [k0_part313]
    apply Run.bind
    · exact hstart
    try dsimp only
    repeat
      apply Run.bind
      · intro Ψ hk
        dsimp only [k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61]
        repeat first
          | with_reducible refine Run.loadSelf fun _ => ?_
          | with_reducible refine Run.intWord L2 ?_
          | with_reducible refine Run.intWord L3 ?_
          | with_reducible refine Run.intWord L4 ?_
          | with_reducible refine Run.floatWord L5 ?_
          | with_reducible refine Run.load3 L9 ?_
          | with_reducible refine Run.load4 L7 ?_
          | (with_reducible refine Run.put ?_ ?_ ?_) <;> [exact rfl; exact rfl; skip]
          | (with_reducible refine Run.assume ?_ ?_) <;>
              [(first | exact h2' _ | exact strip_inb (h2 _) (h0 _) | exact strip_inb (h2 _) (h1 _)); skip]
        exact hk
      try dsimp only
    exact hk
  try dsimp only
  apply Run.bind
  · intro Ψ hk
    dsimp only [k0_part314]
    repeat
      apply Run.bind
      · intro Ψ hk
        dsimp only [k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97, k0_part98, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121]
        repeat first
          | with_reducible refine Run.loadSelf fun _ => ?_
          | with_reducible refine Run.intWord L2 ?_
          | with_reducible refine Run.intWord L3 ?_
          | with_reducible refine Run.intWord L4 ?_
          | with_reducible refine Run.floatWord L5 ?_
          | with_reducible refine Run.load3 L9 ?_
          | with_reducible refine Run.load4 L7 ?_
          | (with_reducible refine Run.put ?_ ?_ ?_) <;> [exact rfl; exact rfl; skip]
          | (with_reducible refine Run.assume ?_ ?_) <;>
              [(first | exact h2' _ | exact strip_inb (h2 _) (h0 _) | exact strip_inb (h2 _) (h1 _)); skip]
        exact hk
      try dsimp only
    exact hk
  try dsimp only
  apply Run.bind
  · intro Ψ hk
    dsimp only [k0_part315]
    repeat
      apply Run.bind
      · intro Ψ hk
        dsimp only [k0_part122, k0_part123, k0_part124, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146, k0_part147, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181]
        repeat first
          | with_reducible refine Run.loadSelf fun _ => ?_
          | with_reducible refine Run.intWord L2 ?_
          | with_reducible refine Run.intWord L3 ?_
          | with_reducible refine Run.intWord L4 ?_
          | with_reducible refine Run.floatWord L5 ?_
          | with_reducible refine Run.load3 L9 ?_
          | with_reducible refine Run.load4 L7 ?_
          | (with_reducible refine Run.put ?_ ?_ ?_) <;> [exact rfl; exact rfl; skip]
          | (with_reducible refine Run.assume ?_ ?_) <;>
              [(first | exact h2' _ | exact strip_inb (h2 _) (h0 _) | exact strip_inb (h2 _) (h1 _)); skip]
        exact hk
      try dsimp only
    exact hk
  try dsimp only
  apply Run.bind
  · intro Ψ hk
    dsimp only [k0_part316]
    repeat
      apply Run.bind
      · intro Ψ hk
        dsimp only [k0_part182, k0_part183, k0_part184, k0_part185, k0_part186, k0_part187, k0_part188, k0_part189, k0_part190, k0_part191, k0_part192, k0_part193, k0_part194, k0_part195, k0_part196, k0_part197, k0_part198, k0_part199, k0_part200, k0_part201, k0_part202, k0_part203, k0_part204, k0_part205, k0_part206, k0_part207, k0_part208, k0_part209, k0_part210, k0_part211, k0_part212, k0_part213, k0_part214, k0_part215, k0_part216, k0_part217, k0_part218, k0_part219, k0_part220, k0_part221, k0_part222, k0_part223, k0_part224, k0_part225, k0_part226, k0_part227, k0_part228, k0_part229, k0_part230, k0_part231, k0_part232, k0_part233, k0_part234, k0_part235, k0_part236, k0_part237, k0_part238, k0_part239, k0_part240, k0_part241]
        repeat first
          | with_reducible refine Run.loadSelf fun _ => ?_
          | with_reducible refine Run.intWord L2 ?_
          | with_reducible refine Run.intWord L3 ?_
          | with_reducible refine Run.intWord L4 ?_
          | with_reducible refine Run.floatWord L5 ?_
          | with_reducible refine Run.load3 L9 ?_
          | with_reducible refine Run.load4 L7 ?_
          | (with_reducible refine Run.put ?_ ?_ ?_) <;> [exact rfl; exact rfl; skip]
          | (with_reducible refine Run.assume ?_ ?_) <;>
              [(first | exact h2' _ | exact strip_inb (h2 _) (h0 _) | exact strip_inb (h2 _) (h1 _)); skip]
        exact hk
      try dsimp only
    exact hk
  try dsimp only
  apply Run.bind
  · intro Ψ hk
    dsimp only [k0_part317]
    repeat
      apply Run.bind
      · intro Ψ hk
        dsimp only [k0_part242, k0_part243, k0_part244, k0_part245, k0_part246, k0_part247, k0_part248, k0_part249, k0_part250, k0_part251, k0_part252, k0_part253, k0_part254, k0_part255, k0_part256, k0_part257, k0_part258, k0_part259, k0_part260, k0_part261, k0_part262, k0_part263, k0_part264, k0_part265, k0_part266, k0_part267, k0_part268, k0_part269, k0_part270, k0_part271, k0_part272, k0_part273, k0_part274, k0_part275, k0_part276, k0_part277, k0_part278, k0_part279, k0_part280, k0_part281, k0_part282, k0_part283, k0_part284, k0_part285, k0_part286, k0_part287, k0_part288, k0_part289, k0_part290, k0_part291, k0_part292, k0_part293, k0_part294, k0_part295, k0_part296, k0_part297, k0_part298, k0_part299, k0_part300, k0_part301]
        repeat first
          | with_reducible refine Run.loadSelf fun _ => ?_
          | with_reducible refine Run.intWord L2 ?_
          | with_reducible refine Run.intWord L3 ?_
          | with_reducible refine Run.intWord L4 ?_
          | with_reducible refine Run.floatWord L5 ?_
          | with_reducible refine Run.load3 L9 ?_
          | with_reducible refine Run.load4 L7 ?_
          | (with_reducible refine Run.put ?_ ?_ ?_) <;> [exact rfl; exact rfl; skip]
          | (with_reducible refine Run.assume ?_ ?_) <;>
              [(first | exact h2' _ | exact strip_inb (h2 _) (h0 _) | exact strip_inb (h2 _) (h1 _)); skip]
        exact hk
      try dsimp only
    exact hk
  try dsimp only
  repeat
    apply Run.bind
    · intro Ψ hk
      dsimp only [k0_part302, k0_part303, k0_part304, k0_part305, k0_part306, k0_part307, k0_part308, k0_part309, k0_part310, k0_part311, k0_part312]
      repeat first
        | with_reducible refine Run.loadSelf fun _ => ?_
        | with_reducible refine Run.intWord L2 ?_
        | with_reducible refine Run.intWord L3 ?_
        | with_reducible refine Run.intWord L4 ?_
        | with_reducible refine Run.floatWord L5 ?_
        | with_reducible refine Run.load3 L9 ?_
        | with_reducible refine Run.load4 L7 ?_
        | (with_reducible refine Run.put ?_ ?_ ?_) <;> [exact rfl; exact rfl; skip]
        | (with_reducible refine Run.assume ?_ ?_) <;>
            [(first | exact h2' _ | exact strip_inb (h2 _) (h0 _) | exact strip_inb (h2 _) (h1 _)); skip]
      exact hk
    try dsimp only
  repeat first
    | with_reducible refine Run.loadSelf fun _ => ?_
    | with_reducible refine Run.intWord L2 ?_
    | with_reducible refine Run.intWord L3 ?_
    | with_reducible refine Run.intWord L4 ?_
    | with_reducible refine Run.floatWord L5 ?_
    | with_reducible refine Run.load3 L9 ?_
    | with_reducible refine Run.load4 L7 ?_
    | (with_reducible refine Run.put ?_ ?_ ?_) <;> [exact rfl; exact rfl; skip]
    | (with_reducible refine Run.assume ?_ ?_) <;>
        [(first | exact h2' _ | exact strip_inb (h2 _) (h0 _) | exact strip_inb (h2 _) (h1 _)); skip]
  exact Run.ret hΦ

end Cert.KernelIdeal

end
-- ==== Proof.EntryIdeal.lean ====
/-
  WHAT THE HOST OPERATIONS BEFORE THE PIPELINE of the program `KernelIdeal` leave: the three tables, the weights of the second rows and the
  weights of the columns, element by element, as the samplings of the boxes' two axes.
-/
module

public import proofs.«01_k».proof.Proof.Axis
public import proofs.«01_k».proof.Proof.Gen.KernelIdeal.Launch
public import Idealize.ShloMosaic.Lib.StableHlo.ReadAt
@[expose] public section
noncomputable section
namespace Cert.KernelIdeal.Entry
open Idealize.ShloMosaic Cert.KernelIdeal.Gen
open StableHlo (after)
open Cert.Pool (start pixel fst snd share part)
variable {F : FTy → Type} [FloatOps F]
set_option maxHeartbeats 4000000
set_option maxRecDepth 10000
variable (V : Valuation τ sig (Elt F))

/-- A coordinate of a box. -/
def roi (V : Valuation τ sig (Elt F)) (k : Fin 4) (b : Fin 8) (r : Fin 128) : F .f32 := V (Proc.devRef .tc main_arg1) (ix3 b r k)

/-- The first rows. -/
theorem ups (j : S7168.Idx) : after hostOps0 V (Proc.devRef .tc main_call0_v137) j
    = fst (roi V 0 ⟨(j 0).val / 896, by have : (j 0).val < 7168 := (j 0).isLt; omega⟩ ⟨(j 0).val / 7 % 128, Nat.mod_lt _ (by decide)⟩)
        (roi V 2 ⟨(j 0).val / 896, by have : (j 0).val < 7168 := (j 0).isLt; omega⟩ ⟨(j 0).val / 7 % 128, Nat.mod_lt _ (by decide)⟩) ((j 0).val % 7) := by
  after_reads_at
  rfl
/-- The second rows. -/
theorem downs (j : S7168.Idx) : after hostOps0 V (Proc.devRef .tc main_call0_v138) j
    = snd (roi V 0 ⟨(j 0).val / 896, by have : (j 0).val < 7168 := (j 0).isLt; omega⟩ ⟨(j 0).val / 7 % 128, Nat.mod_lt _ (by decide)⟩)
        (roi V 2 ⟨(j 0).val / 896, by have : (j 0).val < 7168 := (j 0).isLt; omega⟩ ⟨(j 0).val / 7 % 128, Nat.mod_lt _ (by decide)⟩) ((j 0).val % 7) := by
  after_reads_at
  rfl
/-- The shares of the second rows. -/
theorem weights (j : S7168.Idx) : after hostOps0 V (Proc.devRef .tc main_call0_v139) j
    = part (roi V 0 ⟨(j 0).val / 896, by have : (j 0).val < 7168 := (j 0).isLt; omega⟩ ⟨(j 0).val / 7 % 128, Nat.mod_lt _ (by decide)⟩)
        (roi V 2 ⟨(j 0).val / 896, by have : (j 0).val < 7168 := (j 0).isLt; omega⟩ ⟨(j 0).val / 7 % 128, Nat.mod_lt _ (by decide)⟩) ((j 0).val % 7) := by
  after_reads_at
  rfl
/-- The windows' starts. -/
theorem starts (j : S1024.Idx) : after hostOps0 V (Proc.devRef .tc main_call0_v140) j
    = start (roi V 1 ⟨(j 0).val / 128, by have : (j 0).val < 1024 := (j 0).isLt; omega⟩ ⟨(j 0).val % 128, Nat.mod_lt _ (by decide)⟩) := by
  after_reads_at
  rfl
/-- The weights of the columns. -/
theorem shares (j : S8x128x7x48.Idx) : after hostOps0 V (Proc.devRef .tc main_call0_v136) j
    = share (roi V 1 (j 0) (j 1)) (roi V 3 (j 0) (j 1)) (j 2).val (j 3).val := by
  after_reads_at
  rfl
/-- The arguments stay. -/
theorem first : after hostOps0 V (Proc.devRef .tc main_arg0) = V (Proc.devRef .tc main_arg0) := by
  after_reads_simp

@[inherit_doc first] theorem second : after hostOps0 V (Proc.devRef .tc main_arg1) = V (Proc.devRef .tc main_arg1) := by
  after_reads_simp

end Cert.KernelIdeal.Entry
end
-- ==== Proof.LaunchIdeal.lean ====
/-
  THE LAUNCH of the program `KernelIdeal`: what the three tables and the four windows hold at each grid point, the invariant between points
  (on the second point of a batch entry the scratch image is the entry's rounded feature block), the body's obligation from
  `body`, and the run of @main whatever the arguments are.
-/
module

public import proofs.«01_k».proof.Proof.WalkIdeal
public import proofs.«01_k».proof.Proof.Hold
public import proofs.«01_k».proof.Proof.EntryIdeal
public import proofs.«01_k».proof.Proof.Gen.KernelIdeal.Launch
public import Idealize.ShloMosaic.Lib.Pipeline.ValueKit

@[expose] public section

set_option maxRecDepth 16384

noncomputable section

namespace Cert.KernelIdeal.Launch

open Cert.KernelIdeal Cert.KernelIdeal.Gen
open Idealize.ShloMosaic Idealize.ShloMosaic.TcCoe Idealize.SL Idealize.SL.RA Idealize.SL.Sem Idealize.SL.ProofMode
open Idealize.SL.BI (sProp bigSep)
open Idealize.SL.BI.BIBase Idealize.SL.BI.Laws
open scoped Idealize.SL.BI
open Idealize.ShloMosaic.Pipeline (Dat)
open Cert.Pool (Run Reads Good pay rounded at1 at4 at1_val at4_val full owns_plain unread_whole)

variable {F : FTy → Type} [FloatOps F]
local notation "𝕄" => MT nD τ sig Unit (Elt F) ℕ (UR sig nD τ) ℕ

variable (m : (ℓ : Loc nD τ sig) → Buf (Elt F) ℓ)

/-- The contents of every buffer when the pipeline starts: the launch contents after the host operations before it. -/
@[irreducible] def entry (c : Dev nD) : Valuation τ sig (Elt F) := StableHlo.after ([hostOps0 (F := F)].flatten) fun b => m (c, b)

/-- The three tables' contents then. -/
def tabs : pre0.Contents (Elt F) := fun k => entry m 0 (Proc.devRef .tc (pre0.ref k))

/-- Any contents of the tables are admissible: no index map reads them. -/
def adm : (pcfg0 (F := F)).Adm := ⟨tabs m, trivial⟩

/-- The arrays of the windows then. -/
def arr (c : Dev nD) (w : Fin 4) : Buf (Elt F) (((cfg0 (adm m)).win w).arr.view.loc (c.tc : Thread nD τ)) :=
  entry m c (Proc.devRef .tc (Pipeline.arrRef spec0 w))

/-- What the buffer of an input window holds at a point. -/
def held (c : Dev nD) (w : Fin 4) (t : Fin (cfg0 (adm m)).N) : ((cfg0 (adm m)).win w).block.Idx → Elt F ((cfg0 (adm m)).win w).elt :=
  Pipeline.heldIn (cfg0 (adm m)) (arr m c) w t.val t.isLt

/-- The first row of each blend. -/
def up (k : ℕ) : Elt F .i32 := at1 (n := 7168) (by decide) (tabs m 0) k
/-- The second row of each blend. -/
def down (k : ℕ) : Elt F .i32 := at1 (n := 7168) (by decide) (tabs m 1) k
/-- Where each box's window of columns starts. -/
def left (k : ℕ) : Elt F .i32 := at1 (n := 1024) (by decide) (tabs m 2) k
/-- The weight of the second row of each blend. -/
def weight (c : Dev nD) (t : Fin (cfg0 (adm m)).N) (k : ℕ) : Elt F .f32 := at1 (n := 7168) (by decide) (held m c 0 t) k
/-- The feature block of the point's batch entry. -/
def image (c : Dev nD) (t : Fin (cfg0 (adm m)).N) (p y x ch : ℕ) : Elt F .f32 :=
  at4 (p := 1) (q := 64) (r := 64) (s := 512) (by decide) (by decide) (by decide) (by decide) (held m c 1 t) p y x ch
/-- The column weights of the point's boxes. -/
def columns (c : Dev nD) (t : Fin (cfg0 (adm m)).N) (p r q k : ℕ) : Elt F .bf16 :=
  at4 (p := 1) (q := 64) (r := 7) (s := 48) (by decide) (by decide) (by decide) (by decide) (held m c 2 t) p r q k

/-- The results of a point. -/
def result (c : Dev nD) (t : Fin (cfg0 (adm m)).N) : S1x7x7x64x512.Idx → Elt F .f32 :=
  full (pay (up m) (down m) (left m) (weight m c t) (columns m c t) (rounded (image m c t)) (grid0.coords t 0).val (grid0.coords t 1).val)

/-- The scratch image at a point, once filled. -/
def filled (c : Dev nD) (t : Fin (cfg0 (adm m)).N) : S64x64x512.Idx → Elt F .bf16 := fun j => rounded (image m c t) (j 0).val (j 1).val (j 2).val

/-- The grid has 16 points, at any tables. -/
theorem count : (cfg0 (adm m)).N = 16 := N_0

/-- The scratch image before a point: on the second point of a batch entry, what the point before filled it with. -/
def scratch (c : Dev nD) (n : ℕ) : sProp 𝕄 :=
  iprop(∃ f : Buf (Elt F) ((c.tc : Thread nD τ).loc cc0_scratch0),
    ⌜∀ (k : ℕ) (hk : k < 16), n = k + 1 → n % 2 = 1 → f = filled m c ⟨k, (count m).symm ▸ hk⟩⌝ ∗ ((c.tc : Thread nD τ).loc cc0_scratch0) ↦{fullShare} f)

/-- What is held between points. -/
def between (c : Dev nD) (n : ℕ) : sProp 𝕄 :=
  iprop((scratch m c n ∗ ∃ r, prngReg c r) ∗ Pipeline.ΦT pre0 (tabs m) c)

/-- The proof data of the pipeline. -/
def dats (_p : Fin 1) (c : Dev nD) : Dat τ (Elt F) Unit ℕ (UR sig nD τ) ℕ (Pipeline.pin (pcfgs (F := F)) (fun _ => adm m) _p) c where
  A := arr m c
  after := fun
    | 0 => held m c 0
    | 1 => held m c 1
    | 2 => held m c 2
    | 3 => result m c
    | ⟨_ + 4, h⟩ => absurd h (Nat.not_lt.2 (Nat.le_add_left _ _))
  Φ := fun t => between m c t.val
  q := fun _ => fullShare
  owed := fun _ => 0

/-- Within a batch entry the feature block is not fetched again. -/
theorem stays (c : Dev nD) (n : ℕ) (h : n + 1 < (cfg0 (adm m)).N) (ho : (n + 1) % 2 = 1) :
    held m c 1 ⟨n + 1, h⟩ = held m c 1 ⟨n, Nat.lt_of_succ_lt h⟩ := by
  have hf : ∀ t : Fin grid0.N, t.val % 2 = 1 → Pipeline.Window.fetchOf grid0 false cc0_transform_1 t = false := by decide +kernel
  exact Pipeline.heldIn_of_not_fetch (arr m c) 1 n h (hf ⟨n + 1, h⟩ ho)

theorem first_even : ∀ t : Fin grid0.N, t.val % 2 = 0 → isFirst (grid0.coords t) := by decide +kernel

/-- Three equal assertions make equal triples. -/
theorem three {P P' Q Q' R R' : sProp 𝕄} (p : P = P') (q : Q = Q') (r : R = R') : iprop(P ∗ Q ∗ R) = iprop(P' ∗ Q' ∗ R') := by
  rw [p, q, r]

/-- The body's obligation, given the tables' ranges. -/
theorem obligation (h0 : ∀ j, BitVec.toNat (tabs m 0 j) ≤ 63) (h1 : ∀ j, BitVec.toNat (tabs m 1 j) ≤ 63)
    (h2 : ∀ j, BitVec.toNat (tabs m 2 j) ≤ 16) (h2' : ∀ j, 16 ∣ BitVec.toNat (tabs m 2 j)) (c : Dev nD) (𝒱 : Variants) :
    Pipeline.BodyObligation (dats m 0 c) (defs₀ (F := F)) 𝒱 () Set.univ := fun t => by
  have hw : ∀ w : Fin 4, w ≠ 3 → ∀ d, (dats m 0 c).before w t d = held m c w t := by
    intro w hw d
    fin_cases w
    · exact (dats m 0 c).before_eq_heldIn 0 rfl (fun _ => rfl) (fun _ _ => rfl) (fun _ => rfl) t d
    · exact (dats m 0 c).before_eq_heldIn 1 rfl (fun _ => rfl) (fun _ _ => rfl) (fun _ => rfl) t d
    · exact (dats m 0 c).before_eq_heldIn 2 rfl (fun _ => rfl) (fun _ _ => rfl) (fun _ => rfl) t d
    · exact absurd rfl hw
  obtain ⟨e0, e1, e2⟩ : (∀ d, (dats m 0 c).before 0 t d = held m c 0 t) ∧ (∀ d, (dats m 0 c).before 1 t d = held m c 1 t)
      ∧ (∀ d, (dats m 0 c).before 2 t d = held m c 2 t) := ⟨hw 0 (by decide), hw 1 (by decide), hw 2 (by decide)⟩
  have run := body (F := F) (Ix := Unit) (Name := ℕ) (U := UR sig nD τ) (Lvl := ℕ) (defs := defs₀ (F := F)) (𝒱 := 𝒱) (c := c) (grid0.coords t)
    (Memref.whole main_call0_v137) (Memref.isWhole_whole _) (Memref.whole main_call0_v138) (Memref.isWhole_whole _)
    (Memref.whole main_call0_v140) (Memref.isWhole_whole _)
    (spec0_0.stage ((cfg0 (adm m)).slots t 0)) (hstage0_0 (((cfg0 (adm m)).slots t 0).cast nbuf0_0))
    (spec0_1.stage ((cfg0 (adm m)).slots t 1)) (hstage0_1 (((cfg0 (adm m)).slots t 1).cast nbuf0_1))
    (spec0_2.stage ((cfg0 (adm m)).slots t 2)) (hstage0_2 (((cfg0 (adm m)).slots t 2).cast nbuf0_2))
    (spec0_3.stage ((cfg0 (adm m)).slots t 3)) (hstage0_3 (((cfg0 (adm m)).slots t 3).cast nbuf0_3))
    (Memref.whole cc0_scratch0) (Memref.isWhole_whole _)
    (up m) (down m) (left m) (weight m c t) (columns m c t) (image m c t)
    (R := iprop(((((((((∃ r, prngReg c r) ∗ (dats m 0 c).owesAt () t.castSucc)
        ∗ ((Memref.whole main_call0_v137).view.loc (c.tc : Thread nD τ) ↦{fullShare.right} (Memref.isWhole_whole main_call0_v137).unread (tabs m 0)))
        ∗ ((Memref.whole main_call0_v138).view.loc (c.tc : Thread nD τ) ↦{fullShare.right} (Memref.isWhole_whole main_call0_v138).unread (tabs m 1)))
        ∗ ((Memref.whole main_call0_v140).view.loc (c.tc : Thread nD τ) ↦{fullShare.right} (Memref.isWhole_whole main_call0_v140).unread (tabs m 2)))
        ∗ ((spec0_0.stage ((cfg0 (adm m)).slots t 0)).view.loc (c.tc : Thread nD τ) ↦{fullShare} (hstage0_0 (((cfg0 (adm m)).slots t 0).cast nbuf0_0)).unread (held m c 0 t)))
        ∗ ((spec0_1.stage ((cfg0 (adm m)).slots t 1)).view.loc (c.tc : Thread nD τ) ↦{fullShare} (hstage0_1 (((cfg0 (adm m)).slots t 1).cast nbuf0_1)).unread (held m c 1 t)))
        ∗ ((spec0_2.stage ((cfg0 (adm m)).slots t 2)).view.loc (c.tc : Thread nD τ) ↦{fullShare} (hstage0_2 (((cfg0 (adm m)).slots t 2).cast nbuf0_2)).unread (held m c 2 t)))))
    (fun n => h0 _) (fun n => h1 _) (fun n => h2 _) (fun n => h2' _)
    (by
      rw [show (fun j : S7168.Idx => up m (j 0).val) = tabs m 0 from funext fun j => at1_val (n := 7168) (by decide) (tabs m 0) j]
      exact (((((Reads.held c).left).left).left).left).left)
    (by
      rw [show (fun j : S7168.Idx => down m (j 0).val) = tabs m 1 from funext fun j => at1_val (n := 7168) (by decide) (tabs m 1) j]
      exact ((((Reads.held c).left).left).left).left)
    (by
      rw [show (fun j : S1024.Idx => left m (j 0).val) = tabs m 2 from funext fun j => at1_val (n := 1024) (by decide) (tabs m 2) j]
      exact (((Reads.held c).left).left).left)
    (by
      rw [show (fun j : S7168.Idx => weight m c t (j 0).val) = held m c 0 t from funext fun j => at1_val (n := 7168) (by decide) (held m c 0 t) j]
      exact ((Reads.held c).left).left)
    (by
      rw [show (fun j : S1x64x64x512.Idx => image m c t (j 0).val (j 1).val (j 2).val (j 3).val) = held m c 1 t from
        funext fun j => at4_val (p := 1) (q := 64) (r := 64) (s := 512) (by decide) (by decide) (by decide) (by decide) (held m c 1 t) j]
      exact (Reads.held c).left)
    (by
      rw [show (fun j : S1x64x7x48.Idx => columns m c t (j 0).val (j 1).val (j 2).val (j 3).val) = held m c 2 t from
        funext fun j => at4_val (p := 1) (q := 64) (r := 7) (s := 48) (by decide) (by decide) (by decide) (by decide) (held m c 2 t) j]
      exact Reads.held c)
  show iprop(between m c t.val ∗ (dats m 0 c).owesAt () t.castSucc ∗ bigSep Finset.univ fun w : Fin 4 =>
      iprop(∃ d, owns (c.tc : Thread nD τ) ((spec0 w).stage ((cfg0 (adm m)).slots t w)) fullShare ((dats m 0 c).before w t d)))
    ⊢ wp (M := 𝕄) frame (wpE (defs₀ (F := F)) 𝒱 (c.tc : Thread nD τ) none) Set.univ
      (cc0_roi_pool_bilinear (F := F) (grid0.coords t)
    (Memref.whole main_call0_v137) (Memref.isWhole_whole _) (Memref.whole main_call0_v138) (Memref.isWhole_whole _)
    (Memref.whole main_call0_v140) (Memref.isWhole_whole _)
    (spec0_0.stage ((cfg0 (adm m)).slots t 0)) (hstage0_0 (((cfg0 (adm m)).slots t 0).cast nbuf0_0))
    (spec0_1.stage ((cfg0 (adm m)).slots t 1)) (hstage0_1 (((cfg0 (adm m)).slots t 1).cast nbuf0_1))
    (spec0_2.stage ((cfg0 (adm m)).slots t 2)) (hstage0_2 (((cfg0 (adm m)).slots t 2).cast nbuf0_2))
    (spec0_3.stage ((cfg0 (adm m)).slots t 3)) (hstage0_3 (((cfg0 (adm m)).slots t 3).cast nbuf0_3))
    (Memref.whole cc0_scratch0) (Memref.isWhole_whole _)) fun _ =>
      iprop(between m c (t.val + 1) ∗ (dats m 0 c).owesAt () t.castSucc ∗ bigSep Finset.univ fun w : Fin 4 =>
        owns (c.tc : Thread nD τ) ((spec0 w).stage ((cfg0 (adm m)).slots t w)) fullShare ((dats m 0 c).after w t))
  have o0 : (owns (c.tc : Thread nD τ) ((spec0 0).stage ((cfg0 (adm m)).slots t 0)) fullShare (held m c 0 t) : sProp 𝕄) = _ :=
    owns_plain c (hstage0_0 (((cfg0 (adm m)).slots t 0).cast nbuf0_0)) (held m c 0 t)
  have o1 : (owns (c.tc : Thread nD τ) ((spec0 1).stage ((cfg0 (adm m)).slots t 1)) fullShare (held m c 1 t) : sProp 𝕄) = _ :=
    owns_plain c (hstage0_1 (((cfg0 (adm m)).slots t 1).cast nbuf0_1)) (held m c 1 t)
  have o2 : (owns (c.tc : Thread nD τ) ((spec0 2).stage ((cfg0 (adm m)).slots t 2)) fullShare (held m c 2 t) : sProp 𝕄) = _ :=
    owns_plain c (hstage0_2 (((cfg0 (adm m)).slots t 2).cast nbuf0_2)) (held m c 2 t)
  have o3 : ∀ X, (owns (c.tc : Thread nD τ) ((spec0 3).stage ((cfg0 (adm m)).slots t 3)) fullShare X : sProp 𝕄) = _ := fun X =>
    owns_plain c (hstage0_3 (((cfg0 (adm m)).slots t 3).cast nbuf0_3)) X
  have ht : (Pipeline.ΦT pre0 (tabs m) c : sProp 𝕄) = iprop(
      ((Memref.whole main_call0_v137).view.loc (c.tc : Thread nD τ) ↦{fullShare.right} (Memref.isWhole_whole main_call0_v137).unread (tabs m 0))
      ∗ ((Memref.whole main_call0_v138).view.loc (c.tc : Thread nD τ) ↦{fullShare.right} (Memref.isWhole_whole main_call0_v138).unread (tabs m 1))
      ∗ ((Memref.whole main_call0_v140).view.loc (c.tc : Thread nD τ) ↦{fullShare.right} (Memref.isWhole_whole main_call0_v140).unread (tabs m 2))) := by
    refine (BI.bigSep_univ_eq_bigSepL [(0 : Fin 3), (1 : Fin 3), (2 : Fin 3)] (by decide) (by decide) _).trans ?_
    refine three ?_ ?_ ?_
    · exact congrArg (fun x => ((Memref.whole main_call0_v137).view.loc (c.tc : Thread nD τ) ↦{fullShare.right} x)) (unread_whole main_call0_v137 (tabs m 0)).symm
    · exact congrArg (fun x => ((Memref.whole main_call0_v138).view.loc (c.tc : Thread nD τ) ↦{fullShare.right} x)) (unread_whole main_call0_v138 (tabs m 1)).symm
    · exact congrArg (fun x => ((Memref.whole main_call0_v140).view.loc (c.tc : Thread nD τ) ↦{fullShare.right} x)) (unread_whole main_call0_v140 (tabs m 2)).symm
  have a0 : (dats m 0 c).after 0 t = held m c 0 t := rfl
  have a1 : (dats m 0 c).after 1 t = held m c 1 t := rfl
  have a2 : (dats m 0 c).after 2 t = held m c 2 t := rfl
  have a3 : (dats m 0 c).after 3 t = result m c t := rfl
  rw [bigSep_W0, bigSep_W0, a0, a1, a2, a3]
  refine (sep_mono .rfl (sep_mono .rfl (sep_mono
    (exists_elim fun d => Entails.of_eq ((congrArg (owns (c.tc : Thread nD τ) ((spec0 0).stage ((cfg0 (adm m)).slots t 0)) fullShare) (e0 d)).trans o0)) (sep_mono
    (exists_elim fun d => Entails.of_eq ((congrArg (owns (c.tc : Thread nD τ) ((spec0 1).stage ((cfg0 (adm m)).slots t 1)) fullShare) (e1 d)).trans o1)) (sep_mono
    (exists_elim fun d => Entails.of_eq ((congrArg (owns (c.tc : Thread nD τ) ((spec0 2).stage ((cfg0 (adm m)).slots t 2)) fullShare) (e2 d)).trans o2)) .rfl))))).trans ?_
  generalize hP : (fun _ : PUnit => iprop(between m c (t.val + 1) ∗ (dats m 0 c).owesAt () t.castSucc
    ∗ owns (c.tc : Thread nD τ) ((spec0 0).stage ((cfg0 (adm m)).slots t 0)) fullShare (held m c 0 t)
    ∗ owns (c.tc : Thread nD τ) ((spec0 1).stage ((cfg0 (adm m)).slots t 1)) fullShare (held m c 1 t)
    ∗ owns (c.tc : Thread nD τ) ((spec0 2).stage ((cfg0 (adm m)).slots t 2)) fullShare (held m c 2 t)
    ∗ owns (c.tc : Thread nD τ) ((spec0 3).stage ((cfg0 (adm m)).slots t 3)) fullShare (result m c t))) = Post
  unfold between scratch
  rw [ht]
  iintro ⟨⟨⟨⟨%f, %hf, Hs⟩, Hr⟩, T0, T1, T2⟩, Ho, H0, H1, H2, ⟨%d3, H3⟩⟩
  have hY : ¬ isFirst (grid0.coords t) → f = filled m c t := by
    intro hn
    have hodd : t.val % 2 = 1 := (Nat.mod_two_eq_zero_or_one t.val).resolve_left fun h => hn (first_even t h)
    obtain ⟨k, hk⟩ : ∃ k, t.val = k + 1 := ⟨t.val - 1, by omega⟩
    have hN : t.val < 16 := lt_of_lt_of_eq t.isLt (count m)
    rw [hf k (by omega) hk hodd]
    obtain ⟨tv, htv⟩ := t
    obtain rfl : tv = k + 1 := hk
    funext j
    unfold filled image
    rw [stays m c k htv hodd]
  have go := run (Y := f) hY (Φ := Post) (by
      intro X hX
      obtain rfl : X = result m c t := hX.full
      subst hP
      beta_reduce
      unfold between scratch
      rw [ht, o0, o1, o2, o3]
      rw [unread_whole cc0_scratch0]
      iintro ⟨⟨⟨⟨⟨⟨⟨⟨⟨Hr, Ho⟩, T0⟩, T1⟩, T2⟩, W0⟩, W1⟩, W2⟩, Hs⟩, W3⟩
      isplitl [Hs Hr T0 T1 T2]
      · isplitl [Hs Hr]
        · isplitl [Hs]
          · iexists filled m c t
            isplitr
            · ipureintro
              intro k hk e _
              obtain ⟨tv, htv⟩ := t
              obtain rfl : tv = k := Nat.succ.inj e
              rfl
            · iexact Hs
          · iexact Hr
        · isplitl [T0]
          · iexact T0
          isplitl [T1]
          · iexact T1
          · iexact T2
      isplitl [Ho]
      · iexact Ho
      isplitl [W0]
      · iexact W0
      isplitl [W1]
      · iexact W1
      isplitl [W2]
      · iexact W2
      · iexact W3) ((dats m 0 c).before 3 t d3) (fun _ _ h => absurd h (Nat.not_lt_zero _))
  rw [unread_whole cc0_scratch0] at go
  iapply go
  isplitr [H3]
  · isplitr [Hs]
    · isplitr [H2]
      · isplitr [H1]
        · isplitr [H0]
          · isplitr [T2]
            · isplitr [T1]
              · isplitr [T0]
                · isplitr [Ho]
                  · iexact Hr
                  · iexact Ho
                · iexact T0
              · iexact T1
            · iexact T2
          · iexact H0
        · iexact H1
      · iexact H2
    · iexact Hs
  · iapply Entails.of_eq (o3 ((dats m 0 c).before 3 t d3))
    iexact H3

/-- The tables' ranges. -/
theorem tabs_fst (j) : BitVec.toNat (tabs m 0 j) ≤ 63 := by
  have e : tabs m 0 j = StableHlo.after hostOps0 (fun b => m (0, b)) (Proc.devRef .tc main_call0_v137) j := by
    unfold tabs entry
    rw [List.flatten_singleton]
    rfl
  exact le_of_eq_of_le (congrArg BitVec.toNat (e.trans (Entry.ups _ j))) (Pool.pixel_le _ _ _)

@[inherit_doc tabs_fst] theorem tabs_snd (j) : BitVec.toNat (tabs m 1 j) ≤ 63 := by
  have e : tabs m 1 j = StableHlo.after hostOps0 (fun b => m (0, b)) (Proc.devRef .tc main_call0_v138) j := by
    unfold tabs entry
    rw [List.flatten_singleton]
    rfl
  exact le_of_eq_of_le (congrArg BitVec.toNat (e.trans (Entry.downs _ j))) (Pool.pixel_le _ _ _)

@[inherit_doc tabs_fst] theorem tabs_start (j) : ∃ x : Elt F .f32, tabs m 2 j = Pool.start x := by
  have e : tabs m 2 j = StableHlo.after hostOps0 (fun b => m (0, b)) (Proc.devRef .tc main_call0_v140) j := by
    unfold tabs entry
    rw [List.flatten_singleton]
    rfl
  exact ⟨_, e.trans (Entry.starts _ j)⟩

/-- What the operations before the pipeline leave alone. -/
theorem entry_first (c : Dev nD) : entry m c (Proc.devRef .tc main_arg0) = m (c, Proc.devRef .tc main_arg0) := by
  unfold entry
  rw [List.flatten_singleton, Entry.first]

@[inherit_doc entry_first] theorem entry_second (c : Dev nD) : entry m c (Proc.devRef .tc main_arg1) = m (c, Proc.devRef .tc main_arg1) := by
  unfold entry
  rw [List.flatten_singleton, Entry.second]

/-- The result of the program: the transposed array of the last window. -/
def outcome (c : Dev nD) : Buf (Elt F) ((c.tc : Thread nD τ).loc main_v0) :=
  transpose (s := S8x7x7x128x512) S8x128x7x7x512 [0, 3, 1, 2, 4] ((dats m 0 c).arrAt 3 (cfg0 (adm m)).N) transposes_S8x7x7x128x512_S8x128x7x7x512_0_3_1_2_4

theorem fresh0 : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The run of @main from any memory. -/
theorem run (g : Dev nD → PrngReg) :
    θ_run (defs (F := F)) (onTc (τ := τ) (main (F := F))) ⟨m, fun _ => 0, g⟩ (fun r => (∀ c : Dev nD,
      r.2.mem ((c.tc : Thread nD τ).loc main_v0) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have hstart := tabs_start m
  refine Pipeline.θ_run_frameP_around_track (pcfgs (F := F)) (fun _ => adm m) (dats m) 0 launch0 (defs₀ (F := F)) Variants.none m g (main (F := F))
    (fun c => (obligation m (tabs_fst m) (tabs_snd m) (fun j => by obtain ⟨x, e⟩ := hstart j; rw [e]; exact Pool.start_le x)
      (fun j => by obtain ⟨x, e⟩ := hstart j; rw [e]; exact Pool.start_dvd x) c _).loose)
    (fun c w => by fin_cases w <;> rfl) (fun _ _ => rfl) (entry m) [hostOps1] ?_ ?_ ?_ ?_ (fun _ _ => rfl) ?_ ?_ ?_ _ ?_
  · intro ops h op hop
    simp only [List.mem_singleton] at h
    subst h
    simp only [List.mem_singleton] at hop
    subst hop
    refine Pipeline.sub_tailRefs _ _ _ hostOps1_sub ?_
    show ∀ k : Fin 3, Proc.devRef .tc (pre0.ref k) ∉ ({Proc.devRef .tc main_call0_v141, Proc.devRef .tc main_v0} : Finset (DevRef τ sig))
    decide
  · intro ops h op hop
    simp only [List.mem_singleton] at h
    subst h
    simp only [List.mem_singleton] at hop
    subst hop
    rfl
  · intro ops h op hop w
    simp only [List.mem_singleton] at h
    subst h
    simp only [List.mem_singleton] at hop
    subst hop
    revert w
    show ∀ w : Fin 4, Proc.devRef .tc (Pipeline.arrRef spec0 w) ∉ ({Proc.devRef .tc main_v0} : Finset (DevRef τ sig))
    decide
  · have h := Pipeline.hmainP_around (Ix := Unit) (Name := ℕ) (U := UR sig nD τ) (Lvl := ℕ) (pcfgs (F := F)) 0 (defs₀ (F := F)) Variants.none m (main (F := F)) [hostOps0] [hostOps1]
      (hostOps0_sub) (fresh0) main_chain
    unfold entry
    exact h
  · intro c k
    obtain rfl : c = 0 := Subsingleton.elim _ _
    rfl
  · intro c
    show iprop(Pipeline.ΦA spec0 c ∗ Pipeline.ΦT pre0 (tabs m) c) ⊢ between m c 0
    unfold Pipeline.ΦA between scratch
    rw [scopedRest0_eq]
    iintro ⟨⟨⟨%f, Hs⟩, Hr⟩, Ht⟩
    isplitl [Hs Hr]
    · isplitl [Hs]
      · iexists f
        isplitr
        · ipureintro
          intro k _ h
          exact absurd h (Nat.succ_ne_zero k).symm
        · iexact Hs
      · iexact Hr
    · iexact Ht
  · intro c
    show between m c _ ⊢ Pipeline.ΦA spec0 c
    unfold Pipeline.ΦA between scratch
    rw [scopedRest0_eq]
    iintro ⟨⟨⟨%f, -, Hs⟩, Hr⟩, -⟩
    isplitl [Hs]
    · iexists f
      iexact Hs
    · iexact Hr
  · rintro r ⟨h, hz⟩
    refine ⟨fun c => ⟨?_, ?_, ?_⟩, hz⟩
    · rw [(h c).2 main_v0 (Pipeline.mem_restRefs_of _ (by decide) (by show ∀ w, (spec0 w).arr.view.ref ≠ main_v0; decide))]
      have e := Pipeline.withArrays_arr spec0 (launch0 (F := F)).win.arr_inj c (entry m c) (fun w => (dats m 0 c).arrAt w (cfg0 (adm m)).N) 3
      unfold Pipeline.afterTail outcome
      rw [List.flatten_singleton]
      after_reads_simp
      exact congrArg (fun x => transpose (s := S8x7x7x128x512) S8x128x7x7x512 [0, 3, 1, 2, 4] x transposes_S8x7x7x128x512_S8x128x7x7x512_0_3_1_2_4) e
    · exact ((h c).1 1).trans (((dats m 0 c).arrAt_in 1 rfl _).trans (entry_first m c))
    · rw [(h c).2 main_arg1 (Pipeline.mem_restRefs_of _ (by decide) (by show ∀ w, (spec0 w).arr.view.ref ≠ main_arg1; decide))]
      unfold Pipeline.afterTail
      rw [List.flatten_singleton]
      refine Eq.trans ?_ (entry_second m c)
      refine (StableHlo.after_of_forall_not_mem _ _ ?_).trans (Pipeline.withArrays_of_ne spec0 c _ _ main_arg1 (by decide))
      intro op hop
      simp only [List.mem_singleton] at hop
      subst hop
      show Proc.devRef .tc main_arg1 ∉ ({Proc.devRef .tc main_v0} : Finset (DevRef τ sig))
      decide

end Cert.KernelIdeal.Launch

end
-- ==== Proof.Outcome.lean ====
/-
  WHAT THE KERNEL'S IDEAL FORM LEAVES IN ITS RESULT, element by element: over the 48 columns of the box's window, the sum of the
  column's weight times the blend of the two rows of features. The windows' blocks are read back to the arrays the host operations
  leave, and those to the boxes' samplings.
-/
module

public import proofs.«01_k».proof.Proof.LaunchIdeal
public import Idealize.ShloMosaic.PureOps.Ideal
public import Idealize.ShloMosaic.PureOps.Ideal.Laws
public import Idealize.ShloMosaic.Lib.MatmulPlain

@[expose] public section

set_option maxRecDepth 16384

noncomputable section

namespace Cert.KernelIdeal.Outcome

open Cert.KernelIdeal Cert.KernelIdeal.Gen Cert.KernelIdeal.Launch
open Idealize.ShloMosaic Idealize.ShloMosaic.TcCoe Idealize.SL.Sem
open Cert.Pool (pay blend rounded at1 at4 full inRow rowAt boxAt dims fst snd share part)
open Cert.KernelIdeal.Entry (roi)

section Tables
variable {F : FTy → Type} [FloatOps F]
variable (m : (ℓ : Loc nD τ sig) → Buf (Elt F) ℓ)

/-- The contents a device starts with. -/
abbrev launched (c : Dev nD) : Valuation τ sig (Elt F) := fun b => m (c, b)

theorem entry_eq (c : Dev nD) : entry m c = StableHlo.after hostOps0 (launched m c) := by
  unfold entry
  rw [List.flatten_singleton]

/-- The box of row `k` of the tables. -/
theorem row_box {b i rr p : ℕ} (hi : i < 2) (hr : rr < 64) (hp : p < 7) :
    (((b * 2 + i) * 64 + rr) * 7 + p) / 896 = b ∧ (((b * 2 + i) * 64 + rr) * 7 + p) / 7 % 128 = i * 64 + rr
      ∧ (((b * 2 + i) * 64 + rr) * 7 + p) % 7 = p := by omega

theorem rowAt_eq {b i rr p : ℕ} (hb : b < 8) (hi : i < 2) (hr : rr < 64) (hp : p < 7) : rowAt b i rr p = ((b * 2 + i) * 64 + rr) * 7 + p := by
  show (((BitVec.ofNat 32 b * 2#32 + BitVec.ofNat 32 i) * 64#32 + BitVec.ofNat 32 rr) * 7#32 + BitVec.ofNat 32 p).toNat = _
  simp only [BitVec.toNat_add, BitVec.toNat_mul, BitVec.toNat_ofNat]
  omega

theorem boxAt_eq {b i rr : ℕ} (hb : b < 8) (hi : i < 2) (hr : rr < 64) : boxAt b i rr = (b * 2 + i) * 64 + rr := by
  show ((BitVec.ofNat 32 b * 2#32 + BitVec.ofNat 32 i) * 64#32 + BitVec.ofNat 32 rr).toNat = _
  simp only [BitVec.toNat_add, BitVec.toNat_mul, BitVec.toNat_ofNat]
  omega

variable (V : Valuation τ sig (Elt F))

/-- A sampling of a box read in a table laid out row by row. -/
theorem table {α : Type} (T : S7168.Idx → α) (f : F .f32 → F .f32 → ℕ → α)
    (hT : ∀ j : S7168.Idx, T j = f (roi V 0 ⟨(j 0).val / 896, by have : (j 0).val < 7168 := (j 0).isLt; omega⟩ ⟨(j 0).val / 7 % 128, Nat.mod_lt _ (by decide)⟩)
        (roi V 2 ⟨(j 0).val / 896, by have : (j 0).val < 7168 := (j 0).isLt; omega⟩ ⟨(j 0).val / 7 % 128, Nat.mod_lt _ (by decide)⟩) ((j 0).val % 7))
    {b i rr p : ℕ} (hb : b < 8) (hi : i < 2) (hr : rr < 64) (hp : p < 7) :
    at1 (n := 7168) (by decide) T (rowAt b i rr p) = f (roi V 0 ⟨b, hb⟩ ⟨i * 64 + rr, by omega⟩) (roi V 2 ⟨b, hb⟩ ⟨i * 64 + rr, by omega⟩) p := by
  obtain ⟨e1, e2, e3⟩ := row_box (b := b) hi hr hp
  have hlt : ((b * 2 + i) * 64 + rr) * 7 + p < 7168 := by omega
  rw [rowAt_eq hb hi hr hp]
  refine (hT _).trans ?_
  have e0 : (((b * 2 + i) * 64 + rr) * 7 + p) % 7168 = ((b * 2 + i) * 64 + rr) * 7 + p := Nat.mod_eq_of_lt hlt
  have a : ∀ h h', (⟨(((b * 2 + i) * 64 + rr) * 7 + p) % 7168 / 896, h⟩ : Fin 8) = ⟨b, h'⟩ := fun _ _ => Fin.ext (by show _ / 896 = b; rw [e0, e1])
  have a' : ∀ h h', (⟨(((b * 2 + i) * 64 + rr) * 7 + p) % 7168 / 7 % 128, h⟩ : Fin 128) = ⟨i * 64 + rr, h'⟩ := fun _ _ => Fin.ext (by show _ / 7 % 128 = _; rw [e0, e2])
  show f (roi V 0 ⟨(((b * 2 + i) * 64 + rr) * 7 + p) % 7168 / 896, _⟩ ⟨(((b * 2 + i) * 64 + rr) * 7 + p) % 7168 / 7 % 128, _⟩)
    (roi V 2 ⟨(((b * 2 + i) * 64 + rr) * 7 + p) % 7168 / 896, _⟩ ⟨(((b * 2 + i) * 64 + rr) * 7 + p) % 7168 / 7 % 128, _⟩) ((((b * 2 + i) * 64 + rr) * 7 + p) % 7168 % 7) = _
  rw [a, a', e0, e3]

/-- The starts of the windows. -/
theorem starts_at (T : S1024.Idx → Elt F .i32)
    (hT : ∀ j : S1024.Idx, T j = Pool.start (roi V 1 ⟨(j 0).val / 128, by have : (j 0).val < 1024 := (j 0).isLt; omega⟩ ⟨(j 0).val % 128, Nat.mod_lt _ (by decide)⟩))
    {b i rr : ℕ} (hb : b < 8) (hi : i < 2) (hr : rr < 64) :
    at1 (n := 1024) (by decide) T (boxAt b i rr) = Pool.start (roi V 1 ⟨b, hb⟩ ⟨i * 64 + rr, by omega⟩) := by
  rw [boxAt_eq hb hi hr]
  refine (hT _).trans ?_
  have e0 : ((b * 2 + i) * 64 + rr) % 1024 = (b * 2 + i) * 64 + rr := Nat.mod_eq_of_lt (by omega)
  have a : ∀ h h', (⟨((b * 2 + i) * 64 + rr) % 1024 / 128, h⟩ : Fin 8) = ⟨b, h'⟩ := fun _ _ => Fin.ext (by show _ / 128 = b; rw [e0]; omega)
  have a' : ∀ h h', (⟨((b * 2 + i) * 64 + rr) % 1024 % 128, h⟩ : Fin 128) = ⟨i * 64 + rr, h'⟩ := fun _ _ => Fin.ext (by show ((b * 2 + i) * 64 + rr) % 1024 % 128 = i * 64 + rr; rw [e0]; omega)
  show Pool.start (roi V 1 ⟨((b * 2 + i) * 64 + rr) % 1024 / 128, _⟩ ⟨((b * 2 + i) * 64 + rr) % 1024 % 128, _⟩) = _
  rw [a, a']

/-- What an input window holds: the array under the point's block, fetched there or not. -/
theorem held_eq (c : Dev nD) (w : Fin 4) (P : Fin (cfg0 (adm m)).N → ((cfg0 (adm m)).win w).block.Idx → Elt F ((cfg0 (adm m)).win w).elt)
    (hf : ∀ t, ((cfg0 (adm m)).win w).fill ((cfg0 (adm m)).grid.coords t) (fun _ => Classical.arbitrary _)
      ((((cfg0 (adm m)).win w).blk t).view.read (Elt F) (arr m c w)) = P t)
    (hs : ∀ (n : ℕ) (h : n + 1 < (cfg0 (adm m)).N), ((cfg0 (adm m)).win w).fetch ⟨n + 1, h⟩ = false → P ⟨n + 1, h⟩ = P ⟨n, Nat.lt_of_succ_lt h⟩)
    (t : Fin (cfg0 (adm m)).N) : held m c w t = P t := by
  obtain ⟨n, hn⟩ := t
  show Pipeline.heldIn (cfg0 (adm m)) (arr m c) w n hn = P ⟨n, hn⟩
  induction n with
  | zero => exact hf ⟨0, hn⟩
  | succ n ih =>
    by_cases h : ((cfg0 (adm m)).win w).fetch ⟨n + 1, hn⟩ = true
    · exact (Pipeline.heldIn_of_fetch (arr m c) w ⟨n + 1, hn⟩ h).trans (hf _)
    · have h' := Bool.eq_false_iff.mpr h
      exact (Pipeline.heldIn_of_not_fetch (arr m c) w n hn h').trans ((ih _).trans (hs n hn h').symm)

/-- The weights' window is the whole array. -/
theorem held_weights (c : Dev nD) (t : Fin (cfg0 (adm m)).N) (j : S7168.Idx) : held m c 0 t j = entry m c (Proc.devRef .tc main_call0_v139) j := by
  refine congrFun (held_eq m c 0 (fun _ (j : S7168.Idx) => entry m c (Proc.devRef .tc main_call0_v139) j) ?_ (fun _ _ _ => rfl) t) j
  intro t
  funext j
  unfold Pipeline.Window.fill
  rw [dif_pos ((Pipeline.Window.moved_iff _ _ _).mpr fun a => (j a).isLt)]
  refine congrArg (entry m c (Proc.devRef .tc main_call0_v139)) (funext fun a => Fin.ext ?_)
  fin_cases a
  show 0 * 7168 + 1 * (j 0).val = (j 0).val
  omega

theorem coords_lt (t : Fin grid0.N) : (grid0.coords t 0).val < 8 ∧ (grid0.coords t 1).val < 2 := ⟨(grid0.coords t 0).isLt, (grid0.coords t 1).isLt⟩

/-- Within a batch entry the first coordinate stays. -/
theorem coords_stay : ∀ (t : Fin grid0.N) (s : Fin grid0.N), s.val + 1 = t.val → Pipeline.Window.fetchOf grid0 false cc0_transform_1 t = false →
    grid0.coords t 0 = grid0.coords s 0 := by decide +kernel

/-- The feature window is the batch entry's features. -/
theorem held_features (c : Dev nD) (t : Fin (cfg0 (adm m)).N) (j : S1x64x64x512.Idx) :
    held m c 1 t j = entry m c (Proc.devRef .tc main_arg0) (ix4 (⟨(grid0.coords t 0).val, (coords_lt t).1⟩ : Fin 8) (j 1) (j 2) (j 3)) := by
  refine congrFun (held_eq m c 1 (fun t (j : S1x64x64x512.Idx) => entry m c (Proc.devRef .tc main_arg0) (ix4 (⟨(grid0.coords t 0).val, (coords_lt t).1⟩ : Fin 8) (j 1) (j 2) (j 3))) ?_ ?_ t) j
  · intro t
    funext j
    unfold Pipeline.Window.fill
    rw [dif_pos ((Pipeline.Window.moved_iff _ _ _).mpr fun a => (j a).isLt)]
    refine congrArg (entry m c (Proc.devRef .tc main_arg0)) (funext fun a => Fin.ext ?_)
    have h0 : (j 0).val < 1 := (j 0).isLt
    have hc := (coords_lt t).1
    fin_cases a
    · show (BitVec.ofNat 32 (grid0.coords t 0).val).toNat * 1 + 1 * (j 0).val = (grid0.coords t 0).val
      rw [BitVec.toNat_ofNat]
      omega
    · show 0 * 64 + 1 * (j 1).val = (j 1).val
      omega
    · show 0 * 64 + 1 * (j 2).val = (j 2).val
      omega
    · show 0 * 512 + 1 * (j 3).val = (j 3).val
      omega
  · intro n h hf
    have e := coords_stay ⟨n + 1, h⟩ ⟨n, Nat.lt_of_succ_lt h⟩ rfl hf
    funext j
    have e' : (⟨(grid0.coords ⟨n + 1, h⟩ 0).val, (coords_lt _).1⟩ : Fin 8) = ⟨(grid0.coords ⟨n, Nat.lt_of_succ_lt h⟩ 0).val, (coords_lt _).1⟩ :=
      Fin.ext (congrArg Fin.val e)
    exact congrArg (fun b : Fin 8 => entry m c (Proc.devRef .tc main_arg0) (ix4 b (j 1) (j 2) (j 3))) e'

theorem fetch_columns : ∀ t : Fin grid0.N, Pipeline.Window.fetchOf grid0 false cc0_transform_2 t = true := by decide +kernel

/-- The column weights' window is those of the point's 64 boxes. -/
theorem held_columns (c : Dev nD) (t : Fin (cfg0 (adm m)).N) (j : S1x64x7x48.Idx) :
    held m c 2 t j = entry m c (Proc.devRef .tc main_call0_v136) (ix4 (⟨(grid0.coords t 0).val, (coords_lt t).1⟩ : Fin 8)
      (⟨(grid0.coords t 1).val * 64 + (j 1).val, by have := (coords_lt t).2; have : (j 1).val < 64 := (j 1).isLt; omega⟩ : Fin 128) (j 2) (j 3)) := by
  refine congrFun (held_eq m c 2 (fun t (j : S1x64x7x48.Idx) => entry m c (Proc.devRef .tc main_call0_v136) (ix4 (⟨(grid0.coords t 0).val, (coords_lt t).1⟩ : Fin 8)
      (⟨(grid0.coords t 1).val * 64 + (j 1).val, by have := (coords_lt t).2; have : (j 1).val < 64 := (j 1).isLt; omega⟩ : Fin 128) (j 2) (j 3))) ?_ ?_ t) j
  · intro t
    funext j
    unfold Pipeline.Window.fill
    rw [dif_pos ((Pipeline.Window.moved_iff _ _ _).mpr fun a => (j a).isLt)]
    refine congrArg (entry m c (Proc.devRef .tc main_call0_v136)) (funext fun a => Fin.ext ?_)
    have h0 : (j 0).val < 1 := (j 0).isLt
    have hc := coords_lt t
    fin_cases a
    · show (BitVec.ofNat 32 (grid0.coords t 0).val).toNat * 1 + 1 * (j 0).val = (grid0.coords t 0).val
      rw [BitVec.toNat_ofNat]
      omega
    · show (BitVec.ofNat 32 (grid0.coords t 1).val).toNat * 64 + 1 * (j 1).val = (grid0.coords t 1).val * 64 + (j 1).val
      rw [BitVec.toNat_ofNat]
      omega
    · show 0 * 7 + 1 * (j 2).val = (j 2).val
      omega
    · show 0 * 48 + 1 * (j 3).val = (j 3).val
      omega
  · intro n h hf
    exact absurd (hf.symm.trans (fetch_columns ⟨n + 1, h⟩)) Bool.false_ne_true

end Tables

section Point
variable (t0 t1 t2 : ℕ → BitVec 32) (w : ℕ → Ideal .f32) (K : ℕ → ℕ → ℕ → ℕ → Ideal .bf16) (B : ℕ → ℕ → ℕ → Ideal .bf16) (i0 i1 : ℕ)

/-- The blend of two rows at a column and a channel. -/
theorem blend_apply (rr p : ℕ) (k : Fin 48) (ch : Fin 512) : blend (F := Ideal) t0 t1 t2 w B i0 i1 rr p (ix2 k ch)
    = B (t0 (rowAt i0 i1 rr p)).toNat ((t2 (boxAt i0 i1 rr)).toNat + k.val) ch.val
      + (B (t1 (rowAt i0 i1 rr p)).toNat ((t2 (boxAt i0 i1 rr)).toNat + k.val) ch.val
          - B (t0 (rowAt i0 i1 rr p)).toNat ((t2 (boxAt i0 i1 rr)).toNat + k.val) ch.val) * w (rowAt i0 i1 rr p) := by
  have hs : ∀ (y x : BitVec 32) (h : Pool.Strip.ShapeCasts Pool.Right), shapeCast Pool.Right (Pool.strip B y x) h (ix2 k ch) = B y.toNat (x.toNat + k.val) ch.val := by
    intro y x h
    refine (shapeCast_dropUnit_apply ![48, 512] _ h _).trans ?_
    show B (y.toNat + 0) (x.toNat + k.val) (0 + ch.val) = _
    rw [Nat.add_zero, Nat.zero_add]
  unfold blend
  show shapeCast _ _ _ _ + (shapeCast _ _ _ _ - shapeCast _ _ _ _) * _ = _
  rw [hs, hs]
  rfl

/-- A product at its place in the block of results. -/
theorem pay_apply (rr p : ℕ) (y : Pool.OutRow.Idx) : pay (F := Ideal) t0 t1 t2 w K B i0 i1 rr p y
    = ∑ k : Fin 48, K 0 rr (y 2).val k.val * (B (t0 (rowAt i0 i1 rr p)).toNat ((t2 (boxAt i0 i1 rr)).toNat + k.val) (y 4).val
      + (B (t1 (rowAt i0 i1 rr p)).toNat ((t2 (boxAt i0 i1 rr)).toNat + k.val) (y 4).val
          - B (t0 (rowAt i0 i1 rr p)).toNat ((t2 (boxAt i0 i1 rr)).toNat + k.val) (y 4).val) * w (rowAt i0 i1 rr p)) := by
  have hd : dims = DotDims.plain 7 48 512 := rfl
  unfold Pool.pay
  refine (shapeCast_apply _ _ _ (ix2 (y 2 : Fin 7) (y 4 : Fin 512)) ?_).trans ?_
  · rw [Shape.rowMajor_val_two, Shape.rowMajor_val_five]
    have h0 : (y 0).val < 1 := (y 0).isLt
    have h1 : (y 1).val < 1 := (y 1).isLt
    have h3 : (y 3).val < 1 := (y 3).isLt
    show (y 2).val * 512 + (y 4).val = ((((y 0).val * 1 + (y 1).val) * 7 + (y 2).val) * 1 + (y 3).val) * 512 + (y 4).val
    omega
  rw [hd]
  refine (Ideal.matmul_plain_apply none _ _ _ (y 2 : Fin 7) (y 4 : Fin 512)).trans ?_
  show Ideal.ofBits .f32 0x00000000#32 + _ = _
  rw [Ideal.ofBits_zero_f32, zero_add]
  refine Finset.sum_congr rfl fun k _ => ?_
  refine congrArg₂ (· * ·) ?_ (blend_apply t0 t1 t2 w B i0 i1 rr p k (y 4 : Fin 512))
  refine (shapeCast_apply _ _ _ (ix4 (0 : Fin 1) (0 : Fin 1) (y 2 : Fin 7) k) ?_).trans ?_
  · refine ((Shape.rowMajor_val_four (d := ![1, 1, 7, 48]) _).trans ?_).trans (Shape.rowMajor_val_two (d := ![7, 48]) _).symm
    show ((0 * 1 + 0) * 7 + (y 2).val) * 48 + k.val = (y 2).val * 48 + k.val
    omega
  show K (0 + 0) (rr + 0) (0 + (y 2).val) (0 + k.val) = _
  simp only [Nat.zero_add, Nat.add_zero]

end Point

section Whole
variable (m : (ℓ : Loc nD τ sig) → Buf (Elt Ideal) ℓ)

/-- A feature at a pixel. -/
def pix (V : Valuation τ sig (Elt Ideal)) (b : Fin 8) (y x : ℕ) (ch : Fin 512) : EReal :=
  V (Proc.devRef .tc main_arg0) (ix4 b (⟨y % 64, Nat.mod_lt _ (by decide)⟩ : Fin 64) (⟨x % 64, Nat.mod_lt _ (by decide)⟩ : Fin 64) ch)

/-- The blend of two features of a column. -/
def mix (V : Valuation τ sig (Elt Ideal)) (b : Fin 8) (r : Fin 128) (p x : ℕ) (ch : Fin 512) : EReal :=
  pix V b (fst (roi V 0 b r) (roi V 2 b r) p).toNat x ch
    + (pix V b (snd (roi V 0 b r) (roi V 2 b r) p).toNat x ch - pix V b (fst (roi V 0 b r) (roi V 2 b r) p).toNat x ch) * part (roi V 0 b r) (roi V 2 b r) p

/-- One result: the weighted sum over the box's window of columns. -/
def pooled (V : Valuation τ sig (Elt Ideal)) (b : Fin 8) (r : Fin 128) (p q : ℕ) (ch : Fin 512) : EReal :=
  ∑ k : Fin 48, (share (roi V 1 b r) (roi V 3 b r) q k.val : EReal) * mix V b r p ((Pool.start (roi V 1 b r)).toNat + k.val) ch

/-- The feature block of a point, at a pixel. -/
theorem image_at (c : Dev nD) (t : Fin (cfg0 (adm m)).N) (y x : ℕ) (ch : Fin 512) :
    rounded (image m c t) y x ch.val = pix (launched m c) ⟨(grid0.coords t 0).val, (coords_lt t).1⟩ y x ch := by
  show image m c t 0 y x ch.val = _
  refine (held_features m c t _).trans ?_
  rw [entry_first]
  refine congrArg (m (c, Proc.devRef .tc main_arg0)) (funext fun a => ?_)
  fin_cases a
  · rfl
  · rfl
  · rfl
  · exact Fin.ext (Nat.mod_eq_of_lt ch.isLt)

/-- The column weights of a point, at a box. -/
theorem columns_at (c : Dev nD) (t : Fin (cfg0 (adm m)).N) (rr : Fin 64) (q : Fin 7) (k : Fin 48) :
    columns m c t 0 rr.val q.val k.val = share (roi (launched m c) 1 ⟨(grid0.coords t 0).val, (coords_lt t).1⟩
      ⟨(grid0.coords t 1).val * 64 + rr.val, by have := (coords_lt t).2; have := rr.isLt; omega⟩)
      (roi (launched m c) 3 ⟨(grid0.coords t 0).val, (coords_lt t).1⟩
      ⟨(grid0.coords t 1).val * 64 + rr.val, by have := (coords_lt t).2; have := rr.isLt; omega⟩) q.val k.val := by
  refine (Pool.at4_val (p := 1) (q := 64) (r := 7) (s := 48) (by decide) (by decide) (by decide) (by decide) (held m c 2 t) (ix4 (0 : Fin 1) rr q k)).trans ?_
  refine (held_columns m c t _).trans ?_
  rw [entry_eq]
  exact Entry.shares _ _

/-- What a point leaves. -/
theorem result_at (c : Dev nD) (t : Fin (cfg0 (adm m)).N) (y : S1x7x7x64x512.Idx) :
    result m c t y = pooled (launched m c) ⟨(grid0.coords t 0).val, (coords_lt t).1⟩
      ⟨(grid0.coords t 1).val * 64 + (y 3).val, by have := (coords_lt t).2; have : (y 3).val < 64 := (y 3).isLt; omega⟩ (y 1).val (y 2).val (y 4) := by
  obtain rfl : c = 0 := Subsingleton.elim _ _
  have h1 : (y 1).val < 7 := (y 1).isLt
  have h3 : (y 3).val < 64 := (y 3).isLt
  obtain ⟨hb, hi⟩ := coords_lt t
  have eu : up m (rowAt (grid0.coords t 0).val (grid0.coords t 1).val (y 3).val (y 1).val) = _ :=
    table (launched m 0) (tabs m 0) fst (fun j => (congrFun (congrFun (entry_eq m 0) (Proc.devRef .tc main_call0_v137)) j).trans (Entry.ups _ j)) hb hi h3 h1
  have ed : down m (rowAt (grid0.coords t 0).val (grid0.coords t 1).val (y 3).val (y 1).val) = _ :=
    table (launched m 0) (tabs m 1) snd (fun j => (congrFun (congrFun (entry_eq m 0) (Proc.devRef .tc main_call0_v138)) j).trans (Entry.downs _ j)) hb hi h3 h1
  have el : left m (boxAt (grid0.coords t 0).val (grid0.coords t 1).val (y 3).val) = _ :=
    starts_at (launched m 0) (tabs m 2) (fun j => (congrFun (congrFun (entry_eq m 0) (Proc.devRef .tc main_call0_v140)) j).trans (Entry.starts _ j)) hb hi h3
  have ew : weight m 0 t (rowAt (grid0.coords t 0).val (grid0.coords t 1).val (y 3).val (y 1).val) = _ :=
    table (launched m 0) (held m 0 0 t) part (fun j => (held_weights m 0 t j).trans
      ((congrFun (congrFun (entry_eq m 0) (Proc.devRef .tc main_call0_v139)) j).trans (Entry.weights _ j))) hb hi h3 h1
  refine (pay_apply _ _ _ _ _ _ _ _ _ _ (inRow y)).trans ?_
  unfold pooled mix
  refine Finset.sum_congr rfl fun k _ => ?_
  rw [eu, ed, el, ew]
  refine congrArg₂ (· * ·) (columns_at m 0 t (y 3 : Fin 64) (y 2 : Fin 7) k) ?_
  have ei : ∀ a b, rounded (image m 0 t) a b (inRow y 4).val = _ := fun a b => image_at m 0 t a b (y 4 : Fin 512)
  rw [ei, ei]

/-- Every pair of coordinates is a point's, and every point writes its block back. -/
theorem point : ∀ (b : Fin 8) (i : Fin 2), ∃ t : Fin grid0.N, (grid0.coords t 0).val = b.val ∧ (grid0.coords t 1).val = i.val := by decide +kernel

@[inherit_doc point] theorem flushes : ∀ t : Fin grid0.N, Pipeline.Window.flushOf grid0 true cc0_transform_3 t = true := by decide +kernel

/-- What the array of results ends holding. -/
theorem array_at (c : Dev nD) : (dats m 0 c).arrAt 3 (cfg0 (adm m)).N
    = fun i : S8x7x7x128x512.Idx => (pooled (launched m c) (i 0 : Fin 8) (i 3 : Fin 128) (i 1).val (i 2).val (i 4 : Fin 512) : EReal) := by
  refine (dats m 0 c).arrAt_eq_of_emb 3 _ (fun t _ (y : S1x7x7x64x512.Idx) => ?_) ?_
  · refine (result_at m c t y).trans ?_
    have hc := coords_lt t
    have h0 : (y 0).val < 1 := (y 0).isLt
    have h3 : (y 3).val < 64 := (y 3).isLt
    have e0 : (⟨(grid0.coords t 0).val, (coords_lt t).1⟩ : Fin 8)
        = (⟨(BitVec.ofNat 32 (grid0.coords t 0).val).toNat * 1 + 1 * (y 0).val, by rw [BitVec.toNat_ofNat]; omega⟩ : Fin 8) :=
      Fin.ext (by show (grid0.coords t 0).val = (BitVec.ofNat 32 (grid0.coords t 0).val).toNat * 1 + 1 * (y 0).val; rw [BitVec.toNat_ofNat]; omega)
    have e3 : (⟨(grid0.coords t 1).val * 64 + (y 3).val, by omega⟩ : Fin 128)
        = (⟨(BitVec.ofNat 32 (grid0.coords t 1).val).toNat * 64 + 1 * (y 3).val, by rw [BitVec.toNat_ofNat]; omega⟩ : Fin 128) :=
      Fin.ext (by show (grid0.coords t 1).val * 64 + (y 3).val = (BitVec.ofNat 32 (grid0.coords t 1).val).toNat * 64 + 1 * (y 3).val; rw [BitVec.toNat_ofNat]; omega)
    have e1 : (y 1).val = 0 * 7 + 1 * (y 1).val := by omega
    have e2 : (y 2).val = 0 * 7 + 1 * (y 2).val := by omega
    have e4 : (y 4 : Fin 512) = (⟨0 * 512 + 1 * (y 4).val, by have : (y 4).val < 512 := (y 4).isLt; omega⟩ : Fin 512) :=
      Fin.ext (by show (y 4).val = 0 * 512 + 1 * (y 4).val; omega)
    exact (congr (congr (congr (congr (congrArg (pooled (launched m c)) e0) e3) e1) e2) e4)
  · intro (i : S8x7x7x128x512.Idx)
    have h0 : (i 0).val < 8 := (i 0).isLt
    have h1 : (i 1).val < 7 := (i 1).isLt
    have h2 : (i 2).val < 7 := (i 2).isLt
    have h3 : (i 3).val < 128 := (i 3).isLt
    have h4 : (i 4).val < 512 := (i 4).isLt
    obtain ⟨t, et, et'⟩ := point ⟨(i 0).val, h0⟩ ⟨(i 3).val / 64, by omega⟩
    refine ⟨t, flushes t, (Pipeline.Window.emb_mem_blk_iff ((cfg0 (adm m)).win 3) t i rfl).mpr fun a => ?_⟩
    fin_cases a
    · show (BitVec.ofNat 32 (grid0.coords t 0).val).toNat * 1 ≤ (i 0).val ∧ (i 0).val < (BitVec.ofNat 32 (grid0.coords t 0).val).toNat * 1 + 1
      rw [et, BitVec.toNat_ofNat]
      show (i 0).val % 4294967296 * 1 ≤ _ ∧ _ < (i 0).val % 4294967296 * 1 + 1
      omega
    · show 0 * 7 ≤ (i 1).val ∧ (i 1).val < 0 * 7 + 7
      omega
    · show 0 * 7 ≤ (i 2).val ∧ (i 2).val < 0 * 7 + 7
      omega
    · show (BitVec.ofNat 32 (grid0.coords t 1).val).toNat * 64 ≤ (i 3).val ∧ (i 3).val < (BitVec.ofNat 32 (grid0.coords t 1).val).toNat * 64 + 64
      rw [et', BitVec.toNat_ofNat]
      show (i 3).val / 64 % 4294967296 * 64 ≤ _ ∧ _ < (i 3).val / 64 % 4294967296 * 64 + 64
      omega
    · show 0 * 512 ≤ (i 4).val ∧ (i 4).val < 0 * 512 + 512
      omega

/-- The result of the program at an element. -/
theorem outcome_at (c : Dev nD) (j : S8x128x7x7x512.Idx) :
    outcome m c j = pooled (launched m c) (j 0 : Fin 8) (j 1 : Fin 128) (j 2).val (j 3).val (j 4 : Fin 512) := by
  unfold outcome
  rw [array_at]
  refine (transpose_apply (s := S8x7x7x128x512) _ _ _ j (ix5 (j 0 : Fin 8) (j 2 : Fin 7) (j 3 : Fin 7) (j 1 : Fin 128) (j 4 : Fin 512)) ?_).trans ?_
  · intro b
    fin_cases b <;> rfl
  · rfl

end Whole

end Cert.KernelIdeal.Outcome

end
-- ==== Proof.Plain.lean ====
/-
  WHAT THE REFERENCE COMPUTES, element by element: the samplings of the boxes' two axes, the two gathers of rows and the four of
  columns, and the blend of four features with the shares of the second row and column.
-/
module

public import proofs.«01_k».proof.Proof.Axis
public import proofs.«01_k».proof.Proof.Gen.ReferenceIdeal.Run
public import Idealize.ShloMosaic.Lib.StableHlo.ReadAt
public import Idealize.ShloMosaic.Lib.ReduceAll

@[expose] public section

noncomputable section

namespace Cert.ReferenceIdeal.Plain

open Idealize.ShloMosaic Cert.ReferenceIdeal Cert.ReferenceIdeal.Gen Cert.ReferenceIdeal.Value
open Cert.Pool (edge extent spot cell part pixel fst snd pixel_le)

variable {F : FTy → Type} [FloatOps F]

set_option maxHeartbeats 1000000
set_option maxRecDepth 10000

variable (V : Valuation τ sig (Elt F))

/-- A coordinate of a box. -/
def roi (V : Valuation τ sig (Elt F)) (k : Fin 4) (b : Fin 8) (r : Fin 128) : F .f32 := V (Proc.devRef .tc main_arg1) (ix3 b r k)

/-- The first edges, the extents, the positions, the cells and the pixels of every box, axis by axis. -/
theorem top_edge (j : S8x128.Idx) : res_main_v5 V j = edge (roi V 0 (j 0) (j 1)) := by
  unfold res_main_v5
  pointwise
  rfl

@[inherit_doc top_edge] theorem left_edge (j : S8x128.Idx) : res_main_v11 V j = edge (roi V 1 (j 0) (j 1)) := by
  unfold res_main_v11
  pointwise
  rfl

@[inherit_doc top_edge] theorem height (j : S8x128.Idx) : res_main_v26 V j = extent (roi V 0 (j 0) (j 1)) (roi V 2 (j 0) (j 1)) := by
  unfold res_main_v26 res_main_v5
  pointwise
  rfl

@[inherit_doc top_edge] theorem width (j : S8x128.Idx) : res_main_v29 V j = extent (roi V 1 (j 0) (j 1)) (roi V 3 (j 0) (j 1)) := by
  unfold res_main_v29 res_main_v11
  pointwise
  rfl

@[inherit_doc top_edge] theorem row_spot (j : S8x128x7.Idx) : res_main_v47 V j = spot (roi V 0 (j 0) (j 1)) (roi V 2 (j 0) (j 1)) (j 2).val := by
  unfold res_main_v47
  pointwise
  rw [height]
  rfl

@[inherit_doc top_edge] theorem column_spot (j : S8x128x7.Idx) : res_main_v85 V j = spot (roi V 1 (j 0) (j 1)) (roi V 3 (j 0) (j 1)) (j 2).val := by
  unfold res_main_v85
  pointwise
  rw [width]
  rfl

@[inherit_doc top_edge] theorem row_cell (j : S8x128x7.Idx) : res_main_v49 V j = cell (roi V 0 (j 0) (j 1)) (roi V 2 (j 0) (j 1)) (j 2).val := by
  unfold res_main_v49
  pointwise
  rw [row_spot]
  rfl

@[inherit_doc top_edge] theorem column_cell (j : S8x128x7.Idx) : res_main_v87 V j = cell (roi V 1 (j 0) (j 1)) (roi V 3 (j 0) (j 1)) (j 2).val := by
  unfold res_main_v87
  pointwise
  rw [column_spot]
  rfl

@[inherit_doc top_edge] theorem row_fst (j : S8x128x7.Idx) : res_main_v58 V j = fst (roi V 0 (j 0) (j 1)) (roi V 2 (j 0) (j 1)) (j 2).val := by
  unfold res_main_v58
  pointwise
  rw [row_cell, height, top_edge]
  rfl

@[inherit_doc top_edge] theorem row_snd (j : S8x128x7.Idx) : res_main_v67 V j = snd (roi V 0 (j 0) (j 1)) (roi V 2 (j 0) (j 1)) (j 2).val := by
  unfold res_main_v67
  pointwise
  rw [row_cell, height, top_edge]
  rfl

@[inherit_doc top_edge] theorem column_fst (j : S8x128x7.Idx) : res_main_v96 V j = fst (roi V 1 (j 0) (j 1)) (roi V 3 (j 0) (j 1)) (j 2).val := by
  unfold res_main_v96
  pointwise
  rw [column_cell, width, left_edge]
  rfl

@[inherit_doc top_edge] theorem column_snd (j : S8x128x7.Idx) : res_main_v105 V j = snd (roi V 1 (j 0) (j 1)) (roi V 3 (j 0) (j 1)) (j 2).val := by
  unfold res_main_v105
  pointwise
  rw [column_cell, width, left_edge]
  rfl

/-- A gather of rows, element by element. -/
theorem take_row {α : Type} (x : S8x64x64x512.Idx → α) (idx : IVec S8x128x7x1 32) (j : S8x128x7x64x512.Idx) :
    Host.gather gather_S8x64x64x512_S8x128x7x1_S8x128x7x64x512_34_1_0_0_1_3_1164512 x idx j
      = x (ix4 (j 0) (⟨min (idx (ix4 (j 0) (j 1) (j 2) (0 : Fin 1))).toInt.toNat 63, by omega⟩ : Fin 64) (j 3) (j 4)) := by
  unfold Host.gather
  have hs : ∀ h, (gather_S8x64x64x512_S8x128x7x1_S8x128x7x64x512_34_1_0_0_1_3_1164512).siIdx j ⟨0, h⟩ = ix4 (j 0) (j 1) (j 2) (0 : Fin 1) := fun h => by
    funext b
    fin_cases b <;> rfl
  refine congrArg x (funext fun a => Fin.ext ?_)
  fin_cases a
  · exact Nat.zero_add _
  · exact congrArg (fun i => min (idx i).toInt.toNat 63) (hs _)
  · exact Nat.zero_add _
  · exact Nat.zero_add _

/-- A gather of columns, element by element. -/
theorem take_column {α : Type} (x : S8x128x7x64x512.Idx → α) (idx : IVec S8x128x7x1 32) (j : S8x128x7x7x512.Idx) :
    Host.gather gather_S8x128x7x64x512_S8x128x7x1_S8x128x7x7x512_24_3_01_01_3_3_1171512 x idx j
      = x (ix5 (j 0) (j 1) (j 2) (⟨min (idx (ix4 (j 0) (j 1) (j 3) (0 : Fin 1))).toInt.toNat 63, by omega⟩ : Fin 64) (j 4)) := by
  unfold Host.gather
  have hs : ∀ h, (gather_S8x128x7x64x512_S8x128x7x1_S8x128x7x7x512_24_3_01_01_3_3_1171512).siIdx j ⟨0, h⟩ = ix4 (j 0) (j 1) (j 3) (0 : Fin 1) := fun h => by
    funext b
    fin_cases b <;> rfl
  refine congrArg x (funext fun a => Fin.ext ?_)
  fin_cases a
  · exact Nat.zero_add _
  · exact Nat.zero_add _
  · exact Nat.zero_add _
  · exact congrArg (fun i => min (idx i).toInt.toNat 63) (hs _)
  · exact Nat.zero_add _

/-- A pixel is not negative: its index is itself, -/
theorem wrap (x : BitVec 32) (h : x.toNat ≤ 63) : Scalar.select (IntOp.cmpi .slt x 0#32) (IntOp.addi x 64#32) x = x := by
  have : ∀ e : Fin 64, Scalar.select (IntOp.cmpi .slt (BitVec.ofNat 32 e.val) 0#32) (IntOp.addi (BitVec.ofNat 32 e.val) 64#32) (BitVec.ofNat 32 e.val)
      = BitVec.ofNat 32 e.val := by decide +kernel
  have := this ⟨x.toNat, by omega⟩
  rwa [show BitVec.ofNat 32 (⟨x.toNat, by omega⟩ : Fin 64).val = x from by simp] at this

/-- and in range, -/
theorem inside (x : BitVec 32) (h : x.toNat ≤ 63) : IntOp.andi (IntOp.cmpi .sge x 0#32) (IntOp.cmpi .sle x 63#32) = 1#1 := by
  have : ∀ e : Fin 64, IntOp.andi (IntOp.cmpi .sge (BitVec.ofNat 32 e.val) 0#32) (IntOp.cmpi .sle (BitVec.ofNat 32 e.val) 63#32) = 1#1 := by decide +kernel
  have := this ⟨x.toNat, by omega⟩
  rwa [show BitVec.ofNat 32 (⟨x.toNat, by omega⟩ : Fin 64).val = x from by simp] at this

/-- and it is clamped to itself. -/
theorem clamp (x : BitVec 32) (h : x.toNat ≤ 63) : min x.toInt.toNat 63 = x.toNat := by
  have : x.toInt = x.toNat := BitVec.toInt_eq_toNat_of_lt (by omega)
  omega

@[inherit_doc top_edge] theorem row_fst_index (j : S8x128x7x1.Idx) : res_main_call14_v5 V j = fst (roi V 0 (j 0) (j 1)) (roi V 2 (j 0) (j 1)) (j 2).val := by
  unfold res_main_call14_v5
  pointwise
  rw [row_fst]
  exact wrap _ (pixel_le _ _ _)

@[inherit_doc top_edge] theorem row_snd_index (j : S8x128x7x1.Idx) : res_main_call15_v5 V j = snd (roi V 0 (j 0) (j 1)) (roi V 2 (j 0) (j 1)) (j 2).val := by
  unfold res_main_call15_v5
  pointwise
  rw [row_snd]
  exact wrap _ (pixel_le _ _ _)

@[inherit_doc top_edge] theorem column_fst_index (j : S8x128x7x1.Idx) : res_main_call16_v5 V j = fst (roi V 1 (j 0) (j 1)) (roi V 3 (j 0) (j 1)) (j 2).val := by
  unfold res_main_call16_v5
  pointwise
  rw [column_fst]
  exact wrap _ (pixel_le _ _ _)

@[inherit_doc top_edge] theorem column_snd_index (j : S8x128x7x1.Idx) : res_main_call17_v5 V j = snd (roi V 1 (j 0) (j 1)) (roi V 3 (j 0) (j 1)) (j 2).val := by
  unfold res_main_call17_v5
  pointwise
  rw [column_snd]
  exact wrap _ (pixel_le _ _ _)

/-- The test of a take's indices, where they are all in range. -/
theorem all_inside (idx : IVec S8x128x7x1 32) (h : ∀ j, (idx j).toNat ≤ 63) (j : S8x128x7.Idx) :
    Host.reduce IntOp.andi (andi (cmpi .sge idx (broadcastInDim S8x128x7x1 ![] bcast_S_S8x128x7x1 (constantI S_ 32 0#32)))
      (cmpi .sle idx (broadcastInDim S8x128x7x1 ![0, 1, 2, 3] bcast_S1x1x1x1_S8x128x7x1_0_1_2_3 (broadcastInDim S1x1x1x1 ![3] bcast_S1_S1x1x1x1_3 (constantI S1 32 63#32)))))
      (constantI S_ 1 1#1) reducesTo_S8x128x7x1_S8x128x7_d3 h_S_ j = 1#1 :=
  Host.reduce_andi_one _ _ _ _ _ rfl fun i => inside _ (h i)

/-- Equal words are equal coordinates. -/
theorem same {x y : BitVec 32} (e : x = y) (hx : x.toNat < 64) (hy : y.toNat < 64) : (⟨x.toNat, hx⟩ : Fin 64) = ⟨y.toNat, hy⟩ := by
  subst e
  rfl

/-- A take of rows. -/
theorem taken_row (idx : IVec S8x128x7x1 32) (h : ∀ j, (idx j).toNat ≤ 63) (x : S8x64x64x512.Idx → F .f32) (o : S8x128x7x64x512.Idx → F .f32) (j : S8x128x7x64x512.Idx) :
    select (broadcastInDim S8x128x7x64x512 ![0, 1, 2] bcast_S8x128x7_S8x128x7x64x512_0_1_2 (Host.reduce IntOp.andi (andi (cmpi .sge idx (broadcastInDim S8x128x7x1 ![] bcast_S_S8x128x7x1 (constantI S_ 32 0#32)))
      (cmpi .sle idx (broadcastInDim S8x128x7x1 ![0, 1, 2, 3] bcast_S1x1x1x1_S8x128x7x1_0_1_2_3 (broadcastInDim S1x1x1x1 ![3] bcast_S1_S1x1x1x1_3 (constantI S1 32 63#32)))))
      (constantI S_ 1 1#1) reducesTo_S8x128x7x1_S8x128x7_d3 h_S_)) (Host.gather gather_S8x64x64x512_S8x128x7x1_S8x128x7x64x512_34_1_0_0_1_3_1164512 x idx) o j
      = x (ix4 (j 0) (⟨(idx (ix4 (j 0) (j 1) (j 2) (0 : Fin 1))).toNat, by have := h (ix4 (j 0) (j 1) (j 2) (0 : Fin 1)); omega⟩ : Fin 64) (j 3) (j 4)) := by
  refine (if_pos (all_inside idx h _)).trans ((take_row x idx j).trans ?_)
  congr 2
  exact Fin.ext (clamp _ (h _))

/-- A take of columns. -/
theorem taken_column (idx : IVec S8x128x7x1 32) (h : ∀ j, (idx j).toNat ≤ 63) (x : S8x128x7x64x512.Idx → F .f32) (o : S8x128x7x7x512.Idx → F .f32) (j : S8x128x7x7x512.Idx) :
    select (broadcastInDim S8x128x7x7x512 ![0, 1, 3] bcast_S8x128x7_S8x128x7x7x512_0_1_3 (Host.reduce IntOp.andi (andi (cmpi .sge idx (broadcastInDim S8x128x7x1 ![] bcast_S_S8x128x7x1 (constantI S_ 32 0#32)))
      (cmpi .sle idx (broadcastInDim S8x128x7x1 ![0, 1, 2, 3] bcast_S1x1x1x1_S8x128x7x1_0_1_2_3 (broadcastInDim S1x1x1x1 ![3] bcast_S1_S1x1x1x1_3 (constantI S1 32 63#32)))))
      (constantI S_ 1 1#1) reducesTo_S8x128x7x1_S8x128x7_d3 h_S_)) (Host.gather gather_S8x128x7x64x512_S8x128x7x1_S8x128x7x7x512_24_3_01_01_3_3_1171512 x idx) o j
      = x (ix5 (j 0) (j 1) (j 2) (⟨(idx (ix4 (j 0) (j 1) (j 3) (0 : Fin 1))).toNat, by have := h (ix4 (j 0) (j 1) (j 3) (0 : Fin 1)); omega⟩ : Fin 64) (j 4)) := by
  refine (if_pos (all_inside idx h _)).trans ((take_column x idx j).trans ?_)
  congr 2
  exact Fin.ext (clamp _ (h _))

/-- The first rows taken. -/
theorem upper (j : S8x128x7x64x512.Idx) : res_main_v106 V j = V (Proc.devRef .tc main_arg0) (ix4 (j 0)
    (⟨(fst (roi V 0 (j 0) (j 1)) (roi V 2 (j 0) (j 1)) (j 2).val).toNat, Nat.lt_succ_of_le (pixel_le _ _ _)⟩ : Fin 64) (j 3) (j 4)) := by
  unfold res_main_v106
  refine (taken_row (res_main_call14_v5 V) (fun j => le_of_eq_of_le (congrArg BitVec.toNat (row_fst_index V j)) (pixel_le _ _ _)) _ _ j).trans ?_
  exact congrArg (fun k : Fin 64 => V (Proc.devRef .tc main_arg0) (ix4 (j 0) k (j 3) (j 4))) (same (row_fst_index V (ix4 (j 0) (j 1) (j 2) (0 : Fin 1))) _ _)

/-- The second rows taken. -/
theorem lower (j : S8x128x7x64x512.Idx) : res_main_v107 V j = V (Proc.devRef .tc main_arg0) (ix4 (j 0)
    (⟨(snd (roi V 0 (j 0) (j 1)) (roi V 2 (j 0) (j 1)) (j 2).val).toNat, Nat.lt_succ_of_le (pixel_le _ _ _)⟩ : Fin 64) (j 3) (j 4)) := by
  unfold res_main_v107
  refine (taken_row (res_main_call15_v5 V) (fun j => le_of_eq_of_le (congrArg BitVec.toNat (row_snd_index V j)) (pixel_le _ _ _)) _ _ j).trans ?_
  exact congrArg (fun k : Fin 64 => V (Proc.devRef .tc main_arg0) (ix4 (j 0) k (j 3) (j 4))) (same (row_snd_index V (ix4 (j 0) (j 1) (j 2) (0 : Fin 1))) _ _)

/-- The first columns taken, of rows. -/
theorem nearer (x : S8x128x7x64x512.Idx → F .f32) (o : S8x128x7x7x512.Idx → F .f32) (j : S8x128x7x7x512.Idx) :
    select (broadcastInDim S8x128x7x7x512 ![0, 1, 3] bcast_S8x128x7_S8x128x7x7x512_0_1_3 (Host.reduce IntOp.andi (andi (cmpi .sge (res_main_call16_v5 V) (broadcastInDim S8x128x7x1 ![] bcast_S_S8x128x7x1 (constantI S_ 32 0#32)))
      (cmpi .sle (res_main_call16_v5 V) (broadcastInDim S8x128x7x1 ![0, 1, 2, 3] bcast_S1x1x1x1_S8x128x7x1_0_1_2_3 (broadcastInDim S1x1x1x1 ![3] bcast_S1_S1x1x1x1_3 (constantI S1 32 63#32)))))
      (constantI S_ 1 1#1) reducesTo_S8x128x7x1_S8x128x7_d3 h_S_)) (Host.gather gather_S8x128x7x64x512_S8x128x7x1_S8x128x7x7x512_24_3_01_01_3_3_1171512 x (res_main_call16_v5 V)) o j
      = x (ix5 (j 0) (j 1) (j 2) (⟨(fst (roi V 1 (j 0) (j 1)) (roi V 3 (j 0) (j 1)) (j 3).val).toNat, Nat.lt_succ_of_le (pixel_le _ _ _)⟩ : Fin 64) (j 4)) := by
  refine (taken_column (res_main_call16_v5 V) (fun j => le_of_eq_of_le (congrArg BitVec.toNat (column_fst_index V j)) (pixel_le _ _ _)) x o j).trans ?_
  exact congrArg (fun k : Fin 64 => x (ix5 (j 0) (j 1) (j 2) k (j 4))) (same (column_fst_index V (ix4 (j 0) (j 1) (j 3) (0 : Fin 1))) _ _)

/-- The second columns taken, of rows. -/
theorem farther (x : S8x128x7x64x512.Idx → F .f32) (o : S8x128x7x7x512.Idx → F .f32) (j : S8x128x7x7x512.Idx) :
    select (broadcastInDim S8x128x7x7x512 ![0, 1, 3] bcast_S8x128x7_S8x128x7x7x512_0_1_3 (Host.reduce IntOp.andi (andi (cmpi .sge (res_main_call17_v5 V) (broadcastInDim S8x128x7x1 ![] bcast_S_S8x128x7x1 (constantI S_ 32 0#32)))
      (cmpi .sle (res_main_call17_v5 V) (broadcastInDim S8x128x7x1 ![0, 1, 2, 3] bcast_S1x1x1x1_S8x128x7x1_0_1_2_3 (broadcastInDim S1x1x1x1 ![3] bcast_S1_S1x1x1x1_3 (constantI S1 32 63#32)))))
      (constantI S_ 1 1#1) reducesTo_S8x128x7x1_S8x128x7_d3 h_S_)) (Host.gather gather_S8x128x7x64x512_S8x128x7x1_S8x128x7x7x512_24_3_01_01_3_3_1171512 x (res_main_call17_v5 V)) o j
      = x (ix5 (j 0) (j 1) (j 2) (⟨(snd (roi V 1 (j 0) (j 1)) (roi V 3 (j 0) (j 1)) (j 3).val).toNat, Nat.lt_succ_of_le (pixel_le _ _ _)⟩ : Fin 64) (j 4)) := by
  refine (taken_column (res_main_call17_v5 V) (fun j => le_of_eq_of_le (congrArg BitVec.toNat (column_snd_index V j)) (pixel_le _ _ _)) x o j).trans ?_
  exact congrArg (fun k : Fin 64 => x (ix5 (j 0) (j 1) (j 2) k (j 4))) (same (column_snd_index V (ix4 (j 0) (j 1) (j 3) (0 : Fin 1))) _ _)

/-- A blend of four features by two shares. -/
def four (a b c d u w : F .f32) : F .f32 :=
  FloatOps.addf
    (FloatOps.mulf (FloatOps.addf (FloatOps.mulf a (FloatOps.subf (FloatOps.ofBits .f32 1065353216#32) u)) (FloatOps.mulf b u)) (FloatOps.subf (FloatOps.ofBits .f32 1065353216#32) w))
    (FloatOps.mulf (FloatOps.addf (FloatOps.mulf c (FloatOps.subf (FloatOps.ofBits .f32 1065353216#32) u)) (FloatOps.mulf d u)) w)

/-- A feature at two pixels. -/
def feature (V : Valuation τ sig (Elt F)) (b : Fin 8) (y x : BitVec 32) (hy : y.toNat ≤ 63) (hx : x.toNat ≤ 63) (c : Fin 512) : F .f32 :=
  V (Proc.devRef .tc main_arg0) (ix4 b (⟨y.toNat, Nat.lt_succ_of_le hy⟩ : Fin 64) (⟨x.toNat, Nat.lt_succ_of_le hx⟩ : Fin 64) c)

@[inherit_doc top_edge] theorem row_share (j : S8x128x7x1x1.Idx) : res_main_v112 V j = part (roi V 0 (j 0) (j 1)) (roi V 2 (j 0) (j 1)) (j 2).val := by
  unfold res_main_v112
  pointwise
  rw [row_spot, row_cell]
  rfl

@[inherit_doc top_edge] theorem column_share (j : S8x128x1x7x1.Idx) : res_main_v113 V j = part (roi V 1 (j 0) (j 1)) (roi V 3 (j 0) (j 1)) (j 3).val := by
  unfold res_main_v113
  pointwise
  rw [column_spot, column_cell]
  rfl

/-- The blend of four arrays, element by element. -/
theorem blended (A B C D : S8x128x7x7x512.Idx → F .f32) (u : S8x128x1x7x1.Idx → F .f32) (w : S8x128x7x1x1.Idx → F .f32) (j : S8x128x7x7x512.Idx) :
    addf (mulf (addf (mulf A (broadcastInDim S8x128x7x7x512 ![0, 1, 2, 3, 4] bcast_S8x128x1x7x1_S8x128x7x7x512_0_1_2_3_4
          (subf (broadcastInDim S8x128x1x7x1 ![] bcast_S_S8x128x1x7x1 (constant S_ .f32 0x3F800000#32)) u)))
        (mulf B (broadcastInDim S8x128x7x7x512 ![0, 1, 2, 3, 4] bcast_S8x128x1x7x1_S8x128x7x7x512_0_1_2_3_4 u)))
        (broadcastInDim S8x128x7x7x512 ![0, 1, 2, 3, 4] bcast_S8x128x7x1x1_S8x128x7x7x512_0_1_2_3_4
          (subf (broadcastInDim S8x128x7x1x1 ![] bcast_S_S8x128x7x1x1 (constant S_ .f32 0x3F800000#32)) w)))
      (mulf (addf (mulf C (broadcastInDim S8x128x7x7x512 ![0, 1, 2, 3, 4] bcast_S8x128x1x7x1_S8x128x7x7x512_0_1_2_3_4
          (subf (broadcastInDim S8x128x1x7x1 ![] bcast_S_S8x128x1x7x1 (constant S_ .f32 0x3F800000#32)) u)))
        (mulf D (broadcastInDim S8x128x7x7x512 ![0, 1, 2, 3, 4] bcast_S8x128x1x7x1_S8x128x7x7x512_0_1_2_3_4 u)))
        (broadcastInDim S8x128x7x7x512 ![0, 1, 2, 3, 4] bcast_S8x128x7x1x1_S8x128x7x7x512_0_1_2_3_4 w)) j
      = four (A j) (B j) (C j) (D j) (u (ix5 (j 0) (j 1) (0 : Fin 1) (j 3) (0 : Fin 1))) (w (ix5 (j 0) (j 1) (j 2) (0 : Fin 1) (0 : Fin 1))) := by
  pointwise
  rfl

/-- The result. -/
theorem value (j : S8x128x7x7x512.Idx) : val4 V (Proc.devRef .tc main_v134) j
    = four
      (feature V (j 0) (fst (roi V 0 (j 0) (j 1)) (roi V 2 (j 0) (j 1)) (j 2).val) (fst (roi V 1 (j 0) (j 1)) (roi V 3 (j 0) (j 1)) (j 3).val) (pixel_le _ _ _) (pixel_le _ _ _) (j 4))
      (feature V (j 0) (fst (roi V 0 (j 0) (j 1)) (roi V 2 (j 0) (j 1)) (j 2).val) (snd (roi V 1 (j 0) (j 1)) (roi V 3 (j 0) (j 1)) (j 3).val) (pixel_le _ _ _) (pixel_le _ _ _) (j 4))
      (feature V (j 0) (snd (roi V 0 (j 0) (j 1)) (roi V 2 (j 0) (j 1)) (j 2).val) (fst (roi V 1 (j 0) (j 1)) (roi V 3 (j 0) (j 1)) (j 3).val) (pixel_le _ _ _) (pixel_le _ _ _) (j 4))
      (feature V (j 0) (snd (roi V 0 (j 0) (j 1)) (roi V 2 (j 0) (j 1)) (j 2).val) (snd (roi V 1 (j 0) (j 1)) (roi V 3 (j 0) (j 1)) (j 3).val) (pixel_le _ _ _) (pixel_le _ _ _) (j 4))
      (part (roi V 1 (j 0) (j 1)) (roi V 3 (j 0) (j 1)) (j 3).val) (part (roi V 0 (j 0) (j 1)) (roi V 2 (j 0) (j 1)) (j 2).val) := by
  have e18 : res_main_call18_v5 V = res_main_call16_v5 V := rfl
  have e19 : res_main_call19_v5 V = res_main_call17_v5 V := rfl
  rw [val4_main_v134, e18, e19]
  refine (blended _ _ _ _ _ _ j).trans ?_
  rw [nearer, farther, nearer, farther, upper, upper, lower, lower, row_share, column_share]
  rfl

end Cert.ReferenceIdeal.Plain

end
-- ==== Proof.Window.lean ====
/-
  THE TWO READINGS OF ONE AXIS AGREE, on the extended reals: a sample's share is a real number, the two pixels of a sample lie in the
  box's window of 48 columns when the box starts at a quarter of the image or later or ends before 49/64 of it, and then the weighted
  sum over the window is the blend of the two pixels.
-/
module

public import proofs.«01_k».proof.Proof.Axis
public import Idealize.ShloMosaic.PureOps.Ideal
public import Idealize.ShloMosaic.PureOps.Ideal.Laws
public import Idealize.ShloMosaic.Lib.StableHlo.Predicate

@[expose] public section

noncomputable section

namespace Cert.Window

open Idealize.ShloMosaic
open Cert.Pool (edge extent spot cell part pixel fst snd start share clip_toNat edge_le start_toNat pixel_le)

theorem one_eq : Ideal.ofBits .f32 1065353216#32 = ((1 : ℝ) : EReal) := by
  simp [Ideal.ofBits, Ideal.ieee, -EReal.coe_mul]
  norm_num

theorem zero_eq : Ideal.ofBits .f32 0#32 = ((0 : ℝ) : EReal) := by
  simp [Ideal.ofBits, Ideal.ieee]

theorem half_eq : Ideal.ofBits .f32 1056964608#32 = ((1 / 2 : ℝ) : EReal) := by
  simp [Ideal.ofBits, Ideal.ieee, -EReal.coe_mul]
  norm_num

theorem seven_eq : Ideal.ofBits .f32 1088421888#32 = ((7 : ℝ) : EReal) := by
  simp [Ideal.ofBits, Ideal.ieee, -EReal.coe_mul]
  norm_num

theorem pixels_eq : Ideal.ofBits .f32 1115684864#32 = ((64 : ℝ) : EReal) := by
  simp [Ideal.ofBits, Ideal.ieee, -EReal.coe_mul]
  norm_num

theorem quarter_eq : Ideal.ofBits .f32 0x3E800000#32 = ((1 / 4 : ℝ) : EReal) := by
  simp [Ideal.ofBits, Ideal.ieee, -EReal.coe_mul]
  norm_num

theorem bound_eq : Ideal.ofBits .f32 0x3F440000#32 = ((49 / 64 : ℝ) : EReal) := by
  simp [Ideal.ofBits, Ideal.ieee, -EReal.coe_mul]
  norm_num

theorem top_eq : Ideal.ofBits .f32 0x7F800000#32 = ⊤ := by
  simp [Ideal.ofBits, Ideal.ieee]

variable (lo hi : Ideal .f32)

/-- A sample's position is a real number, whatever the box is. -/
theorem spot_real (p : ℕ) : ∃ s : ℝ, spot lo hi p = (s : EReal) := by
  unfold spot
  show ∃ s : ℝ, min ((((extent lo hi).toInt : ℝ) : EReal) - Ideal.ofBits .f32 1065353216#32)
    (max (Ideal.ofBits .f32 0#32) (((((BitVec.ofNat 32 p).toInt : ℝ) : EReal) + Ideal.ofBits .f32 1056964608#32)
      * Ideal.div (((extent lo hi).toInt : ℝ) : EReal) (Ideal.ofBits .f32 1088421888#32) - Ideal.ofBits .f32 1056964608#32)) = (s : EReal)
  rw [one_eq, zero_eq, half_eq, seven_eq, Ideal.div_coe (by norm_num)]
  simp only [← EReal.coe_mul, ← EReal.coe_add, ← EReal.coe_sub]
  rw [← EReal.coe_strictMono.monotone.map_max, ← EReal.coe_strictMono.monotone.map_min]
  exact ⟨_, rfl⟩

/-- So is the share of its second pixel. -/
theorem part_real (p : ℕ) : ∃ s : ℝ, part lo hi p = (s : EReal) := by
  obtain ⟨s, e⟩ := spot_real lo hi p
  refine ⟨s - ((cell lo hi p).toInt : ℝ), ?_⟩
  show spot lo hi p - (((cell lo hi p).toInt : ℝ) : EReal) = _
  rw [e, EReal.coe_sub]

/-- The conversion to integers stays in its range. -/
theorem clamped_range (x : EReal) : -2147483648 ≤ Ideal.toIntClamped (-2147483648) 2147483647 x ∧ Ideal.toIntClamped (-2147483648) 2147483647 x ≤ 2147483647 := by
  induction x with
  | bot => simp
  | top => simp
  | coe r =>
    rw [Ideal.toIntClamped_coe]
    omega

theorem edge_eq (x : Ideal .f32) : (edge x).toNat = min 64 (Ideal.toIntClamped (-2147483648) 2147483647 ((x : EReal) * ((64 : ℝ) : EReal))).toNat := by
  unfold edge
  rw [clip_toNat 64 (by decide)]
  refine congrArg (fun z : ℤ => min 64 z.toNat) ?_
  show (BitVec.ofInt 32 (Ideal.toIntClamped (-2147483648) 2147483647 ((x : EReal) * Ideal.ofBits .f32 1115684864#32))).toInt = _
  rw [pixels_eq]
  obtain ⟨h1, h2⟩ := clamped_range ((x : EReal) * ((64 : ℝ) : EReal))
  rw [BitVec.toInt_ofInt]
  exact Int.bmod_eq_of_le (by norm_num; omega) (by norm_num; omega)

/-- A box that starts at a quarter of the image starts at the sixteenth pixel or later. -/
theorem edge_ge (h : ((1 / 4 : ℝ) : EReal) ≤ (lo : EReal)) : 16 ≤ (edge lo).toNat := by
  rw [edge_eq]
  change EReal at lo
  induction lo with
  | bot => exact absurd h (by simp)
  | top =>
    rw [EReal.top_mul_coe_of_pos (by norm_num)]
    simp
  | coe r =>
    have hr : (1 / 4 : ℝ) ≤ r := EReal.coe_le_coe_iff.mp h
    rw [← EReal.coe_mul, Ideal.toIntClamped_coe, if_pos (by linarith)]
    have : (16 : ℤ) ≤ ⌊r * 64⌋ := Int.le_floor.mpr (by push_cast; linarith)
    omega

/-- A box that ends before 49/64 of the image ends at the forty-eighth pixel or before. -/
theorem edge_lt (h : (hi : EReal) < ((49 / 64 : ℝ) : EReal)) : (edge hi).toNat ≤ 48 := by
  rw [edge_eq]
  change EReal at hi
  induction hi with
  | bot =>
    rw [EReal.bot_mul_coe_of_pos (by norm_num)]
    simp
  | top => exact absurd h (by simp)
  | coe r =>
    have hr : r < (49 / 64 : ℝ) := EReal.coe_lt_coe_iff.mp h
    rw [← EReal.coe_mul, Ideal.toIntClamped_coe]
    split_ifs with h0
    · have : ⌊r * 64⌋ < (49 : ℤ) := Int.floor_lt.mpr (by push_cast; linarith)
      omega
    · have : ⌈r * 64⌉ ≤ (0 : ℤ) := Int.ceil_le.mpr (by push_cast; linarith)
      omega

section Integers
variable {F : FTy → Type} [FloatOps F] (lo hi : F .f32)

/-- The extent of a box, as a natural number. -/
theorem extent_eq : (extent lo hi).toNat = max ((edge hi).toNat - (edge lo).toNat) 1 := by
  have h := edge_le lo
  have h' := edge_le hi
  unfold extent
  generalize edge lo = a at h ⊢
  generalize edge hi = b at h' ⊢
  have key : ∀ a b : Fin 65, (IntOp.maxsi (IntOp.subi (BitVec.ofNat 32 b.val) (BitVec.ofNat 32 a.val)) 1#32).toNat = max (b.val - a.val) 1 := by decide +kernel
  have := key ⟨a.toNat, by omega⟩ ⟨b.toNat, by omega⟩
  simpa using this

/-- A pixel of a box lies between its edges. -/
theorem pixel_bounds (i : BitVec 32) : min 63 (edge lo).toNat ≤ (pixel lo hi i).toNat
    ∧ (pixel lo hi i).toNat ≤ (edge lo).toNat + (max ((edge hi).toNat - (edge lo).toNat) 1 - 1) := by
  have h := edge_le lo
  have h' := edge_le hi
  have e := extent_eq lo hi
  unfold pixel
  rw [clip_toNat 63 (by decide)]
  have e1 : IntOp.subi (extent lo hi) 1#32 = BitVec.ofNat 32 ((extent lo hi).toNat - 1) := by
    apply BitVec.eq_of_toNat_eq
    show (extent lo hi - 1#32).toNat = _
    rw [BitVec.toNat_sub, BitVec.toNat_ofNat, BitVec.toNat_ofNat]
    omega
  have hz : (IntOp.minsi (IntOp.subi (extent lo hi) 1#32) (IntOp.maxsi 0#32 i)).toNat ≤ (extent lo hi).toNat - 1 := by
    rw [e1, clip_toNat _ (by omega)]
    exact Nat.min_le_left _ _
  generalize IntOp.minsi (IntOp.subi (extent lo hi) 1#32) (IntOp.maxsi 0#32 i) = z at hz ⊢
  have hs : (IntOp.addi (edge lo) z).toNat = (edge lo).toNat + z.toNat := by
    show (edge lo + z).toNat = _
    rw [BitVec.toNat_add]
    omega
  rw [BitVec.toInt_eq_toNat_of_lt (by rw [hs]; omega), hs]
  omega

end Integers

/-- The pixels of a box are in its window. -/
theorem pixel_window (h : ((1 / 4 : ℝ) : EReal) ≤ (lo : EReal) ∨ (hi : EReal) < ((49 / 64 : ℝ) : EReal)) (i : BitVec 32) :
    (start lo).toNat ≤ (pixel lo hi i).toNat ∧ (pixel lo hi i).toNat < (start lo).toNat + 48 := by
  obtain ⟨h1, h2⟩ := pixel_bounds lo hi i
  have h3 := pixel_le lo hi i
  rw [start_toNat]
  split_ifs with hs
  · rcases h with h | h
    · have := edge_ge lo h
      omega
    · have := edge_lt hi h
      omega
  · omega

/-- The weight of a column, as a real number. -/
theorem share_real (h : ((1 / 4 : ℝ) : EReal) ≤ (lo : EReal) ∨ (hi : EReal) < ((49 / 64 : ℝ) : EReal)) (p : ℕ) (u : ℝ) (hu : part lo hi p = (u : EReal)) (k : Fin 48) :
    (share lo hi p k.val : EReal) = (((1 - u) * (if (start lo).toNat + k.val = (fst lo hi p).toNat then 1 else 0)
      + u * (if (start lo).toNat + k.val = (snd lo hi p).toNat then 1 else 0) : ℝ) : EReal) := by
  have hw : ∀ x : BitVec 32, (start lo).toNat ≤ x.toNat → x.toNat ≤ 63 →
      (((IntOp.cmpi .eq (BitVec.ofNat 32 k.val) (IntOp.subi x (start lo))).toNat : ℝ) : EReal) = (((if (start lo).toNat + k.val = x.toNat then 1 else 0 : ℝ)) : EReal) := by
    intro x hx hx'
    have hk := k.isLt
    have hsub : (IntOp.subi x (start lo)).toNat = x.toNat - (start lo).toNat := by
      show (x - start lo).toNat = _
      rw [BitVec.toNat_sub]
      omega
    have hiff : IntOp.cmpi .eq (BitVec.ofNat 32 k.val) (IntOp.subi x (start lo)) = 1#1 ↔ (start lo).toNat + k.val = x.toNat := by
      rw [StableHlo.Predicate.cmpi_eq_iff, ← BitVec.toNat_inj, hsub, BitVec.toNat_ofNat]
      omega
    by_cases hc : (start lo).toNat + k.val = x.toNat
    · rw [if_pos hc, hiff.mpr hc]
      norm_num
    · rw [if_neg hc]
      have hne : IntOp.cmpi .eq (BitVec.ofNat 32 k.val) (IntOp.subi x (start lo)) ≠ 1#1 := fun hh => hc (hiff.mp hh)
      generalize IntOp.cmpi .eq (BitVec.ofNat 32 k.val) (IntOp.subi x (start lo)) = b at hne
      have : b = 0#1 := by revert hne; revert b; decide
      rw [this]
      norm_num
  have hf := hw (fst lo hi p) (pixel_window lo hi h _).1 (pixel_le _ _ _)
  have hs := hw (snd lo hi p) (pixel_window lo hi h _).1 (pixel_le _ _ _)
  unfold share
  show (Ideal.ofBits .f32 1065353216#32 - part lo hi p) * (((IntOp.cmpi .eq (BitVec.ofNat 32 k.val) (IntOp.subi (fst lo hi p) (start lo))).toNat : ℝ) : EReal)
    + part lo hi p * (((IntOp.cmpi .eq (BitVec.ofNat 32 k.val) (IntOp.subi (snd lo hi p) (start lo))).toNat : ℝ) : EReal) = _
  rw [hf, hs, hu, one_eq, EReal.coe_add, EReal.coe_mul, EReal.coe_mul, EReal.coe_sub]

/-- A sum of real numbers is the same among the extended ones. -/
theorem coe_total {ι : Type} (S : Finset ι) (f : ι → ℝ) : ((∑ k ∈ S, f k : ℝ) : EReal) = ∑ k ∈ S, (f k : EReal) := by
  classical
  induction S using Finset.induction_on with
  | empty => simp
  | insert a s ha ih => rw [Finset.sum_insert ha, Finset.sum_insert ha, EReal.coe_add, ih]

/-- Over a window, a weight that is one at a single column picks that column. -/
theorem pick (M : ℕ → ℝ) (s x : ℕ) (h1 : s ≤ x) (h2 : x < s + 48) : ∑ k : Fin 48, (if s + k.val = x then (1 : ℝ) else 0) * M (s + k.val) = M x := by
  rw [Finset.sum_eq_single (⟨x - s, by omega⟩ : Fin 48)]
  · rw [if_pos (by show s + (x - s) = x; omega), one_mul]
    exact congrArg M (by show s + (x - s) = x; omega)
  · intro b _ hb
    rw [if_neg, zero_mul]
    intro hh
    exact hb (Fin.ext (by show b.val = x - s; omega))
  · intro hh
    exact absurd (Finset.mem_univ _) hh

/-- THE WEIGHTED SUM OVER THE WINDOW is the blend of the two pixels. -/
theorem window_sum (h : ((1 / 4 : ℝ) : EReal) ≤ (lo : EReal) ∨ (hi : EReal) < ((49 / 64 : ℝ) : EReal)) (p : ℕ) (u : ℝ) (hu : part lo hi p = (u : EReal)) (M : ℕ → ℝ) :
    ∑ k : Fin 48, (share lo hi p k.val : EReal) * ((M ((start lo).toNat + k.val) : ℝ) : EReal)
      = (((1 - u) * M (fst lo hi p).toNat + u * M (snd lo hi p).toNat : ℝ) : EReal) := by
  obtain ⟨f1, f2⟩ := pixel_window lo hi h (cell lo hi p)
  obtain ⟨s1, s2⟩ := pixel_window lo hi h (IntOp.addi (cell lo hi p) 1#32)
  rw [← pick M _ _ (show (start lo).toNat ≤ (fst lo hi p).toNat from f1) f2, ← pick M _ _ (show (start lo).toNat ≤ (snd lo hi p).toNat from s1) s2,
    Finset.mul_sum, Finset.mul_sum, ← Finset.sum_add_distrib, coe_total]
  refine Finset.sum_congr rfl fun k _ => ?_
  rw [share_real lo hi h p u hu k, ← EReal.coe_mul]
  exact congrArg _ (by ring)

end Cert.Window

end
-- ==== Proof.Equal.lean ====
/-
  THE KERNEL'S RESULT IS THE REFERENCE'S, element by element, at finite features and boxes whose columns fit the kernel's window.
-/
module

public import proofs.«01_k».proof.Proof.Outcome
public import proofs.«01_k».proof.Proof.Plain
public import proofs.«01_k».proof.Proof.Window
public import proofs.«01_k».proof.Proof.Gen.Pre_tame
public import Idealize.ShloMosaic.Lib.Pointwise

@[expose] public section

noncomputable section

namespace Cert.Equal

open Idealize.ShloMosaic
open Cert.Pool (fst snd part pixel_le)
open Cert.KernelIdeal.Outcome (pix mix pooled)

/-- A blend of four real numbers is a real number. -/
theorem four_real (a b c d u w : ℝ) : (Cert.ReferenceIdeal.Plain.four (F := Ideal) (a : EReal) (b : EReal) (c : EReal) (d : EReal) (u : EReal) (w : EReal) : EReal)
    = (((a * (1 - u) + b * u) * (1 - w) + (c * (1 - u) + d * u) * w : ℝ) : EReal) := by
  show ((a : EReal) * (Ideal.ofBits .f32 1065353216#32 - u) + b * u) * (Ideal.ofBits .f32 1065353216#32 - w)
    + ((c : EReal) * (Ideal.ofBits .f32 1065353216#32 - u) + d * u) * w = _
  rw [Window.one_eq]
  simp only [← EReal.coe_mul, ← EReal.coe_add, ← EReal.coe_sub]

/-- The left neighbour is a pixel of the image. -/
theorem fst_le (lo hi : Ideal .f32) (p : ℕ) : (fst lo hi p).toNat ≤ 63 := pixel_le _ _ _

/-- The right neighbour is a pixel of the image. -/
theorem snd_le (lo hi : Ideal .f32) (p : ℕ) : (snd lo hi p).toNat ≤ 63 := pixel_le _ _ _

section Equation
variable (V : Valuation Cert.KernelIdeal.τ Cert.KernelIdeal.sig (Elt Ideal)) (V' : Valuation Cert.ReferenceIdeal.τ Cert.ReferenceIdeal.sig (Elt Ideal))

/-- The sum over the window's columns of the rows' blend is the blend of the four neighbours, from equal arguments. -/
theorem equal (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (hf : ∀ i : Cert.KernelIdeal.S8x64x64x512.Idx, ∃ x : ℝ, V (Proc.devRef .tc Cert.KernelIdeal.main_arg0) i = (x : EReal))
    (hb : ∀ b r, ((1 / 4 : ℝ) : EReal) ≤ (Cert.KernelIdeal.Entry.roi V 1 b r : EReal) ∨ (Cert.KernelIdeal.Entry.roi V 3 b r : EReal) < ((49 / 64 : ℝ) : EReal))
    (b : Fin 8) (r : Fin 128) (p q : Fin 7) (ch : Fin 512) :
    pooled V b r p.val q.val ch = Cert.ReferenceIdeal.Plain.four
      (Cert.ReferenceIdeal.Plain.feature V' b (fst (Cert.ReferenceIdeal.Plain.roi V' 0 b r) (Cert.ReferenceIdeal.Plain.roi V' 2 b r) p.val)
        (fst (Cert.ReferenceIdeal.Plain.roi V' 1 b r) (Cert.ReferenceIdeal.Plain.roi V' 3 b r) q.val) (fst_le _ _ _) (fst_le _ _ _) ch)
      (Cert.ReferenceIdeal.Plain.feature V' b (fst (Cert.ReferenceIdeal.Plain.roi V' 0 b r) (Cert.ReferenceIdeal.Plain.roi V' 2 b r) p.val)
        (snd (Cert.ReferenceIdeal.Plain.roi V' 1 b r) (Cert.ReferenceIdeal.Plain.roi V' 3 b r) q.val) (fst_le _ _ _) (snd_le _ _ _) ch)
      (Cert.ReferenceIdeal.Plain.feature V' b (snd (Cert.ReferenceIdeal.Plain.roi V' 0 b r) (Cert.ReferenceIdeal.Plain.roi V' 2 b r) p.val)
        (fst (Cert.ReferenceIdeal.Plain.roi V' 1 b r) (Cert.ReferenceIdeal.Plain.roi V' 3 b r) q.val) (snd_le _ _ _) (fst_le _ _ _) ch)
      (Cert.ReferenceIdeal.Plain.feature V' b (snd (Cert.ReferenceIdeal.Plain.roi V' 0 b r) (Cert.ReferenceIdeal.Plain.roi V' 2 b r) p.val)
        (snd (Cert.ReferenceIdeal.Plain.roi V' 1 b r) (Cert.ReferenceIdeal.Plain.roi V' 3 b r) q.val) (snd_le _ _ _) (snd_le _ _ _) ch)
      (part (Cert.ReferenceIdeal.Plain.roi V' 1 b r) (Cert.ReferenceIdeal.Plain.roi V' 3 b r) q.val)
      (part (Cert.ReferenceIdeal.Plain.roi V' 0 b r) (Cert.ReferenceIdeal.Plain.roi V' 2 b r) p.val) := by
  have hroi : ∀ k b r, Cert.ReferenceIdeal.Plain.roi V' k b r = Cert.KernelIdeal.Entry.roi V k b r := fun k b r => congrFun h1 (ix3 b r k)
  choose M hM using hf
  have hpix : ∀ b y x ch, pix V b y x ch = ((M (ix4 b (⟨y % 64, Nat.mod_lt _ (by decide)⟩ : Fin 64) (⟨x % 64, Nat.mod_lt _ (by decide)⟩ : Fin 64) ch) : ℝ) : EReal) :=
    fun b y x ch => hM _
  have hfeat : ∀ b y x hy hx ch, Cert.ReferenceIdeal.Plain.feature V' b y x hy hx ch
      = ((M (ix4 b (⟨y.toNat % 64, Nat.mod_lt _ (by decide)⟩ : Fin 64) (⟨x.toNat % 64, Nat.mod_lt _ (by decide)⟩ : Fin 64) ch) : ℝ) : EReal) := by
    intro b y x hy hx ch
    refine (congrFun h0 _).trans ((hM _).trans ?_)
    have ey : (⟨y.toNat, Nat.lt_succ_of_le hy⟩ : Fin 64) = ⟨y.toNat % 64, Nat.mod_lt _ (by decide)⟩ := Fin.ext (Nat.mod_eq_of_lt (Nat.lt_succ_of_le hy)).symm
    have ex : (⟨x.toNat, Nat.lt_succ_of_le hx⟩ : Fin 64) = ⟨x.toNat % 64, Nat.mod_lt _ (by decide)⟩ := Fin.ext (Nat.mod_eq_of_lt (Nat.lt_succ_of_le hx)).symm
    show ((M (ix4 b (⟨y.toNat, Nat.lt_succ_of_le hy⟩ : Fin 64) (⟨x.toNat, Nat.lt_succ_of_le hx⟩ : Fin 64) ch) : ℝ) : EReal) = _
    rw [ey, ex]
  rw [hfeat, hfeat, hfeat, hfeat]
  simp only [hroi]
  obtain ⟨u, hu⟩ := Window.part_real (Cert.KernelIdeal.Entry.roi V 1 b r) (Cert.KernelIdeal.Entry.roi V 3 b r) q.val
  obtain ⟨w, hw⟩ := Window.part_real (Cert.KernelIdeal.Entry.roi V 0 b r) (Cert.KernelIdeal.Entry.roi V 2 b r) p.val
  rw [hu, hw, four_real]
  obtain ⟨N, hN⟩ : ∃ N : ℕ → ℕ → ℝ, ∀ y x, M (ix4 b (⟨y % 64, Nat.mod_lt _ (by decide)⟩ : Fin 64) (⟨x % 64, Nat.mod_lt _ (by decide)⟩ : Fin 64) ch) = N y x :=
    ⟨_, fun _ _ => rfl⟩
  have hmix : ∀ x, mix V b r p.val x ch = ((N (fst (Cert.KernelIdeal.Entry.roi V 0 b r) (Cert.KernelIdeal.Entry.roi V 2 b r) p.val).toNat x
      + (N (snd (Cert.KernelIdeal.Entry.roi V 0 b r) (Cert.KernelIdeal.Entry.roi V 2 b r) p.val).toNat x
        - N (fst (Cert.KernelIdeal.Entry.roi V 0 b r) (Cert.KernelIdeal.Entry.roi V 2 b r) p.val).toNat x) * w : ℝ) : EReal) := by
    intro x
    unfold mix
    rw [hpix, hpix, hw, hN, hN]
    rw [EReal.coe_add, EReal.coe_mul, EReal.coe_sub]
  unfold pooled
  simp only [hmix]
  refine (Window.window_sum (Cert.KernelIdeal.Entry.roi V 1 b r) (Cert.KernelIdeal.Entry.roi V 3 b r) (hb b r) q.val u hu
    (fun x => N (fst (Cert.KernelIdeal.Entry.roi V 0 b r) (Cert.KernelIdeal.Entry.roi V 2 b r) p.val).toNat x
      + (N (snd (Cert.KernelIdeal.Entry.roi V 0 b r) (Cert.KernelIdeal.Entry.roi V 2 b r) p.val).toNat x
        - N (fst (Cert.KernelIdeal.Entry.roi V 0 b r) (Cert.KernelIdeal.Entry.roi V 2 b r) p.val).toNat x) * w)).trans ?_
  rw [hN, hN, hN, hN]
  refine congrArg _ ?_
  ring

end Equation

/-- WHAT THE PRECONDITION SAYS of the features: each is a real number. -/
theorem features_real (x : FVec Ideal Cert.Pre_tame.S8x64x64x512 .f32) (y : FVec Ideal Cert.Pre_tame.S8x128x4 .f32)
    (h : (Cert.Pre_tame.fn (F := Ideal) x y).1 = fun _ => 1#1) (i : Cert.Pre_tame.S8x64x64x512.Idx) : ∃ r : ℝ, x i = (r : EReal) := by
  have e := congrFun h i
  have e' : Ideal.cmp .olt (max (x i) (-(x i))) (Ideal.ofBits .f32 0x7F800000#32) = 1#1 := e
  rw [Window.top_eq] at e'
  have hlt : max (x i : EReal) (-(x i : EReal)) < ⊤ := of_decide_eq_true ((StableHlo.Predicate.ofBool_eq_one_iff _).mp e')
  generalize hz : x i = z at hlt ⊢
  change EReal at z
  induction z with
  | bot => exact absurd hlt (by simp)
  | top => exact absurd hlt (by simp)
  | coe r => exact ⟨r, rfl⟩

/-- And of the boxes: each starts at a quarter of the image's width or later, or ends before 49/64 of it. -/
theorem boxes_fit (x : FVec Ideal Cert.Pre_tame.S8x64x64x512 .f32) (y : FVec Ideal Cert.Pre_tame.S8x128x4 .f32)
    (h : (Cert.Pre_tame.fn (F := Ideal) x y).2 = fun _ => 1#1) (b : Fin 8) (r : Fin 128) :
    ((1 / 4 : ℝ) : EReal) ≤ (y (ix3 b r (1 : Fin 4)) : EReal) ∨ (y (ix3 b r (3 : Fin 4)) : EReal) < ((49 / 64 : ℝ) : EReal) := by
  have e := congrFun h (ix2 b r)
  have e' : IntOp.ori (Ideal.cmp .oge (y (ix3 b r (1 : Fin 4))) (Ideal.ofBits .f32 0x3E800000#32))
      (Ideal.cmp .olt (y (ix3 b r (3 : Fin 4))) (Ideal.ofBits .f32 0x3F440000#32)) = 1#1 := by
    rw [← e]
    unfold Cert.Pre_tame.fn
    dsimp only
    pointwise
  rw [Window.quarter_eq, Window.bound_eq] at e'
  have key : ∀ p q : Bool, IntOp.ori (BitVec.ofBool p) (BitVec.ofBool q) = 1#1 → p = true ∨ q = true := by decide
  exact (key _ _ e').imp of_decide_eq_true of_decide_eq_true

end Cert.Equal

end
-- ==== Proof.lean ====
/-
  THE CERTIFICATE of ROI pooling. The kernel's run, at any float values, is `Launch.run` (Proof/Launch.lean for the program, the
  same text in Proof/LaunchIdeal.lean for its ideal form); the reference's run is the generated one. Proof/Outcome.lean says what the
  ideal form leaves in its result, Proof/Plain.lean what the reference does, and Proof/Equal.lean that the two are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Gen.Pre_tame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to its end and leaves its arguments and its counters as it must. -/
theorem frame_kernel : Cert.quiescent_Kernel := fun m g _ =>
  (θ_run Cert.Kernel.defs _ _).mono (fun _ h => ⟨fun c => (h.1 c).2, h.2⟩) (Cert.Kernel.Launch.run m g)

/-- So does its ideal form. -/
theorem frame_ideal : Cert.quiescent_KernelIdeal := fun m g _ =>
  (θ_run Cert.KernelIdeal.defs _ _).mono (fun _ h => ⟨fun c => (h.1 c).2, h.2⟩) (Cert.KernelIdeal.Launch.run m g)

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- At finite features and boxes whose columns fit the window, the kernel's ideal form and the reference end with equal results. -/
theorem equal_results : Cert.algebraic_KernelIdeal_ReferenceIdeal_pre_tame := by
  intro m g m' g' hpre hargs
  refine ⟨fun c => Cert.KernelIdeal.Launch.outcome m c, (θ_run Cert.KernelIdeal.defs _ _).mono (fun _ h => h.1) (Cert.KernelIdeal.Launch.run m g), ?_⟩
  refine (θ_run Cert.ReferenceIdeal.defs _ _).mono (fun _ h c => ⟨(h c).1.trans ?_, (h c).2⟩) (Cert.ReferenceIdeal.Value.run (F := Ideal) m' g')
  refine (Cert.ReferenceIdeal.Value.val4_main_v134 (StableHlo.launchContents m' c)).symm.trans (funext fun j => ?_)
  refine (Cert.ReferenceIdeal.Plain.value _ j).trans ?_
  refine ((Cert.KernelIdeal.Outcome.outcome_at m c j).trans ?_).symm
  exact Cert.Equal.equal (Cert.KernelIdeal.Outcome.launched m c) (StableHlo.launchContents m' c) (hargs c).1 (hargs c).2
    (Cert.Equal.features_real _ _ (hpre c).1) (Cert.Equal.boxes_fit _ _ (hpre c).2) (j 0) (j 1) (j 2) (j 3) (j 4)

/-- Everything that is claimed. -/
theorem claim : Cert.Claim := ⟨Cert.Kernel.Gen.facts, Cert.KernelIdeal.Gen.facts, Cert.ReferenceIdeal.Gen.facts, Cert.Pre_tame.Gen.facts,
  frame_kernel, frame_ideal, fun m g _ => frame_ideal m g trivial, frame_reference, fun m g _ => frame_reference m g trivial,
  trivial, equal_results⟩

end Cert.Proof

end
